-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v390) = v0 c
          ∧ r.2.mem ((c.tc : Thread Cert.ReferenceIdeal.nD Cert.ReferenceIdeal.τ).loc Cert.ReferenceIdeal.main_v383) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S20x3072x48x64 : Shape := ⟨4, ![20, 3072, 48, 64]⟩
abbrev S20x3072x24x32 : Shape := ⟨4, ![20, 3072, 24, 32]⟩
abbrev S20x3072x12x16 : Shape := ⟨4, ![20, 3072, 12, 16]⟩
abbrev S20x3072x6x8 : Shape := ⟨4, ![20, 3072, 6, 8]⟩
abbrev S20x3072x4 : Shape := ⟨3, ![20, 3072, 4]⟩
abbrev S20x3072x2 : Shape := ⟨3, ![20, 3072, 2]⟩
abbrev S_ : Shape := ⟨0, ![]⟩

class Facts : Prop where
  bcast_S_S20x3072x4 : S_.BroadcastsInDim S20x3072x4 (![] : Fin 0 → Fin S20x3072x4.rank)
  reducesTo_S20x3072x4_S_d0_1_2 : S20x3072x4.ReducesTo [0, 1, 2] S_
  h_S_ : 0 < S_.numel

variable [Facts]

def fn {F : FTy → Type} [FloatOps F] (main_arg0 : IVec S20x3072x48x64 8) (main_arg1 : IVec S20x3072x24x32 8) (main_arg2 : IVec S20x3072x12x16 8) (main_arg3 : IVec S20x3072x6x8 8) (main_arg4 : FVec F S20x3072x4 .f32) (main_arg5 : FVec F S20x3072x2 .f32) : IVec S_ 1 :=
  let main_v0 : FVec F S20x3072x4 .f32 := Host.absf main_arg4
  let main_cst : FVec F S_ .f32 := constant S_ .f32 0x7F800000#32
  let main_v1 : FVec F S20x3072x4 .f32 := broadcastInDim S20x3072x4 ![] bcast_S_S20x3072x4 main_cst
  let main_v2 : IVec S20x3072x4 1 := cmpf .olt main_v0 main_v1
  let main_c : IVec S_ 1 := constantI S_ 1 1#1
  let main_v3 : IVec S_ 1 := (fun x v => Host.reduce IntOp.andi x v reducesTo_S20x3072x4_S_d0_1_2 h_S_) main_v2 main_c
  main_v3
-- ==== Kernel.lean ====
abbrev S20x3072x48x64 : Shape := ⟨4, ![20, 3072, 48, 64]⟩
abbrev S20x3072x24x32 : Shape := ⟨4, ![20, 3072, 24, 32]⟩
abbrev S20x3072x12x16 : Shape := ⟨4, ![20, 3072, 12, 16]⟩
abbrev S20x3072x6x8 : Shape := ⟨4, ![20, 3072, 6, 8]⟩
abbrev S20x3072x4 : Shape := ⟨3, ![20, 3072, 4]⟩
abbrev S20x3072x2 : Shape := ⟨3, ![20, 3072, 2]⟩
abbrev S20x48x64x3072 : Shape := ⟨4, ![20, 48, 64, 3072]⟩
abbrev S20x24x32x3072 : Shape := ⟨4, ![20, 24, 32, 3072]⟩
abbrev S20x12x16x3072 : Shape := ⟨4, ![20, 12, 16, 3072]⟩
abbrev S20x6x8x3072 : Shape := ⟨4, ![20, 6, 8, 3072]⟩
abbrev S20x4x3072 : Shape := ⟨3, ![20, 4, 3072]⟩
abbrev S20x2x3072 : Shape := ⟨3, ![20, 2, 3072]⟩
abbrev S20x324x3072 : Shape := ⟨3, ![20, 324, 3072]⟩
abbrev S20x3072 : Shape := ⟨2, ![20, 3072]⟩
abbrev S1x48x64x1024 : Shape := ⟨4, ![1, 48, 64, 1024]⟩
abbrev S1x24x32x1024 : Shape := ⟨4, ![1, 24, 32, 1024]⟩
abbrev S1x12x16x1024 : Shape := ⟨4, ![1, 12, 16, 1024]⟩
abbrev S1x6x8x1024 : Shape := ⟨4, ![1, 6, 8, 1024]⟩
abbrev S1x4x1024 : Shape := ⟨3, ![1, 4, 1024]⟩
abbrev S1x2x1024 : Shape := ⟨3, ![1, 2, 1024]⟩
abbrev S1x324x1024 : Shape := ⟨3, ![1, 324, 1024]⟩
abbrev S8x3072 : Shape := ⟨2, ![8, 3072]⟩
abbrev S1152x128 : Shape := ⟨2, ![1152, 128]⟩
abbrev S40x8x128 : Shape := ⟨3, ![40, 8, 128]⟩
abbrev S960x128 : Shape := ⟨2, ![960, 128]⟩
abbrev S648x128 : Shape := ⟨2, ![648, 128]⟩
abbrev S8x128 : Shape := ⟨2, ![8, 128]⟩
abbrev S1x1x128 : Shape := ⟨3, ![1, 1, 128]⟩
abbrev S1x128 : Shape := ⟨2, ![1, 128]⟩
abbrev S1x4x128 : Shape := ⟨3, ![1, 4, 128]⟩
abbrev S4x128 : Shape := ⟨2, ![4, 128]⟩
abbrev S1x1x32x128 : Shape := ⟨4, ![1, 1, 32, 128]⟩
abbrev S32x128 : Shape := ⟨2, ![32, 128]⟩
abbrev S1x1x16x128 : Shape := ⟨4, ![1, 1, 16, 128]⟩
abbrev S16x128 : Shape := ⟨2, ![16, 128]⟩
abbrev S1x1x8x128 : Shape := ⟨4, ![1, 1, 8, 128]⟩
abbrev S2x128 : Shape := ⟨2, ![2, 128]⟩
abbrev S1x8x128 : Shape := ⟨3, ![1, 8, 128]⟩
abbrev S128 : Shape := ⟨1, ![128]⟩
abbrev S1x32x128 : Shape := ⟨3, ![1, 32, 128]⟩
abbrev S20x3072x324 : Shape := ⟨3, ![20, 3072, 324]⟩

abbrev nBuf : Space → Nat
  | .hbm => 15
  | .vmem => 20
  | .smem => 0
  | _ => 0

abbrev bufTy : (tb : Table) → Fin (tcTables nBuf tb) → BufTy
  | .hbm, ⟨0, _⟩ => ⟨S20x3072x48x64, .i8⟩
  | .hbm, ⟨1, _⟩ => ⟨S20x3072x24x32, .i8⟩
  | .hbm, ⟨2, _⟩ => ⟨S20x3072x12x16, .i8⟩
  | .hbm, ⟨3, _⟩ => ⟨S20x3072x6x8, .i8⟩
  | .hbm, ⟨4, _⟩ => ⟨S20x3072x4, .f32⟩
  | .hbm, ⟨5, _⟩ => ⟨S20x3072x2, .f32⟩
  | .hbm, ⟨6, _⟩ => ⟨S20x48x64x3072, .i8⟩
  | .hbm, ⟨7, _⟩ => ⟨S20x24x32x3072, .i8⟩
  | .hbm, ⟨8, _⟩ => ⟨S20x12x16x3072, .i8⟩
  | .hbm, ⟨9, _⟩ => ⟨S20x6x8x3072, .i8⟩
  | .hbm, ⟨10, _⟩ => ⟨S20x4x3072, .f32⟩
  | .hbm, ⟨11, _⟩ => ⟨S20x2x3072, .f32⟩
  | .hbm, ⟨12, _⟩ => ⟨S20x324x3072, .i8⟩
  | .hbm, ⟨13, _⟩ => ⟨S20x3072, .f32⟩
  | .hbm, ⟨14, _⟩ => ⟨S20x3072x324, .i8⟩
  | .local _ .vmem, ⟨0, _⟩ => ⟨S1x48x64x1024, .i8⟩
  | .local _ .vmem, ⟨1, _⟩ => ⟨S1x48x64x1024, .i8⟩
  | .local _ .vmem, ⟨2, _⟩ => ⟨S1x24x32x1024, .i8⟩
  | .local _ .vmem, ⟨3, _⟩ => ⟨S1x24x32x1024, .i8⟩
  | .local _ .vmem, ⟨4, _⟩ => ⟨S1x12x16x1024, .i8⟩
  | .local _ .vmem, ⟨5, _⟩ => ⟨S1x12x16x1024, .i8⟩
  | .local _ .vmem, ⟨6, _⟩ => ⟨S1x6x8x1024, .i8⟩
  | .local _ .vmem, ⟨7, _⟩ => ⟨S1x6x8x1024, .i8⟩
  | .local _ .vmem, ⟨8, _⟩ => ⟨S1x4x1024, .f32⟩
  | .local _ .vmem, ⟨9, _⟩ => ⟨S1x4x1024, .f32⟩
  | .local _ .vmem, ⟨10, _⟩ => ⟨S1x2x1024, .f32⟩
  | .local _ .vmem, ⟨11, _⟩ => ⟨S1x2x1024, .f32⟩
  | .local _ .vmem, ⟨12, _⟩ => ⟨S1x324x1024, .i8⟩
  | .local _ .vmem, ⟨13, _⟩ => ⟨S1x324x1024, .i8⟩
  | .local _ .vmem, ⟨14, _⟩ => ⟨S8x3072, .f32⟩
  | .local _ .vmem, ⟨15, _⟩ => ⟨S8x3072, .f32⟩
  | .local _ .vmem, ⟨16, _⟩ => ⟨S1152x128, .i32⟩
  | .local _ .vmem, ⟨17, _⟩ => ⟨S40x8x128, .i32⟩
  | .local _ .vmem, ⟨18, _⟩ => ⟨S960x128, .f32⟩
  | .local _ .vmem, ⟨19, _⟩ => ⟨S648x128, .f32⟩
  | _, _ => ⟨S20x3072x48x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![20, 3], ![false, false]⟩

@[reducible] def k0_t1_loop : Scf.Loop 32 :=
  let c0_i32_5 : BitVec 32 := 0#32
  let c4_i32_6 : BitVec 32 := 4#32
  let v26 : BitVec 32 := Scalar.addi c0_i32_5 c4_i32_6
  let c1_i32 : BitVec 32 := 1#32
  ⟨c0_i32_5, v26, c1_i32⟩
def k0_mult1 (k0_t1 : Fin k0_t1_loop.trips) : BitVec 32 :=
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  v27
def k0_off1 (k0_t1 : Fin k0_t1_loop.trips) (c0_i32_8 : BitVec 32) : Fin 3 → Nat :=
  let c0 : Index := 0#32
  let c0_11 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v42 : Index := Scalar.indexCast v29
  ![0, 0, v42.toNat]
def k0_off2 (k0_t1 : Fin k0_t1_loop.trips) (c0_i32_8 : BitVec 32) : Fin 3 → Nat :=
  let c0_14 : Index := 0#32
  let c1 : Index := 1#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v57 : Index := Scalar.indexCast v29
  ![0, 1, v57.toNat]
def k0_off3 (k0_t1 : Fin k0_t1_loop.trips) (c0_i32_8 : BitVec 32) : Fin 3 → Nat :=
  let c0_17 : Index := 0#32
  let c0_18 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v69 : Index := Scalar.indexCast v29
  ![0, 0, v69.toNat]
def k0_off4 (k0_t1 : Fin k0_t1_loop.trips) (c0_i32_8 : BitVec 32) : Fin 4 → Nat :=
  let c0_26 : Index := 0#32
  let c0_27 : Index := 0#32
  let c32 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v107 : Index := Scalar.indexCast v29
  ![0, 0, 32, v107.toNat]
def k0_off5 (k0_t1 : Fin k0_t1_loop.trips) (c0_i32_8 : BitVec 32) : Fin 4 → Nat :=
  let c0_28 : Index := 0#32
  let c0_29 : Index := 0#32
  let c0_30 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v111 : Index := Scalar.indexCast v29
  ![0, 0, 0, v111.toNat]
def k0_off6 (k0_t1 : Fin k0_t1_loop.trips) (c0_i32_8 : BitVec 32) : Fin 4 → Nat :=
  let c0_31 : Index := 0#32
  let c16 : Index := 16#32
  let c32_32 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v116 : Index := Scalar.indexCast v29
  ![0, 16, 32, v116.toNat]
def k0_off7 (k0_t1 : Fin k0_t1_loop.trips) (c0_i32_8 : BitVec 32) : Fin 4 → Nat :=
  let c0_33 : Index := 0#32
  let c16_34 : Index := 16#32
  let c0_35 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v120 : Index := Scalar.indexCast v29
  ![0, 16, 0, v120.toNat]
def k0_off8 (k0_t1 : Fin k0_t1_loop.trips) (c0_i32_8 : BitVec 32) : Fin 4 → Nat :=
  let c0_37 : Index := 0#32
  let c32_38 : Index := 32#32
  let c32_39 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v128 : Index := Scalar.indexCast v29
  ![0, 32, 32, v128.toNat]
def k0_off9 (k0_t1 : Fin k0_t1_loop.trips) (c0_i32_8 : BitVec 32) : Fin 4 → Nat :=
  let c0_40 : Index := 0#32
  let c32_41 : Index := 32#32
  let c0_42 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v132 : Index := Scalar.indexCast v29
  ![0, 32, 0, v132.toNat]
def k0_off10 (k0_t1 : Fin k0_t1_loop.trips) (c0_i32_8 : BitVec 32) : Fin 4 → Nat :=
  let c0_46 : Index := 0#32
  let c1_47 : Index := 1#32
  let c32_48 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v143 : Index := Scalar.indexCast v29
  ![0, 1, 32, v143.toNat]
def k0_off11 (k0_t1 : Fin k0_t1_loop.trips) (c0_i32_8 : BitVec 32) : Fin 4 → Nat :=
  let c0_49 : Index := 0#32
  let c1_50 : Index := 1#32
  let c0_51 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v147 : Index := Scalar.indexCast v29
  ![0, 1, 0, v147.toNat]
def k0_off12 (k0_t1 : Fin k0_t1_loop.trips) (c0_i32_8 : BitVec 32) : Fin 4 → Nat :=
  let c0_52 : Index := 0#32
  let c17 : Index := 17#32
  let c32_53 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v152 : Index := Scalar.indexCast v29
  ![0, 17, 32, v152.toNat]
def k0_off13 (k0_t1 : Fin k0_t1_loop.trips) (c0_i32_8 : BitVec 32) : Fin 4 → Nat :=
  let c0_54 : Index := 0#32
  let c17_55 : Index := 17#32
  let c0_56 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v156 : Index := Scalar.indexCast v29
  ![0, 17, 0, v156.toNat]
def k0_off14 (k0_t1 : Fin k0_t1_loop.trips) (c0_i32_8 : BitVec 32) : Fin 4 → Nat :=
  let c0_57 : Index := 0#32
  let c33 : Index := 33#32
  let c32_58 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v164 : Index := Scalar.indexCast v29
  ![0, 33, 32, v164.toNat]
def k0_off15 (k0_t1 : Fin k0_t1_loop.trips) (c0_i32_8 : BitVec 32) : Fin 4 → Nat :=
  let c0_59 : Index := 0#32
  let c33_60 : Index := 33#32
  let c0_61 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v168 : Index := Scalar.indexCast v29
  ![0, 33, 0, v168.toNat]
def k0_off16 (k0_t1 : Fin k0_t1_loop.trips) (c0_i32_8 : BitVec 32) : Fin 4 → Nat :=
  let c0_63 : Index := 0#32
  let c2 : Index := 2#32
  let c32_64 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v179 : Index := Scalar.indexCast v29
  ![0, 2, 32, v179.toNat]
def k0_off17 (k0_t1 : Fin k0_t1_loop.trips) (c0_i32_8 : BitVec 32) : Fin 4 → Nat :=
  let c0_65 : Index := 0#32
  let c2_66 : Index := 2#32
  let c0_67 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v183 : Index := Scalar.indexCast v29
  ![0, 2, 0, v183.toNat]
def k0_off18 (k0_t1 : Fin k0_t1_loop.trips) (c0_i32_8 : BitVec 32) : Fin 4 → Nat :=
  let c0_68 : Index := 0#32
  let c18 : Index := 18#32
  let c32_69 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v188 : Index := Scalar.indexCast v29
  ![0, 18, 32, v188.toNat]
def k0_off19 (k0_t1 : Fin k0_t1_loop.trips) (c0_i32_8 : BitVec 32) : Fin 4 → Nat :=
  let c0_70 : Index := 0#32
  let c18_71 : Index := 18#32
  let c0_72 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v192 : Index := Scalar.indexCast v29
  ![0, 18, 0, v192.toNat]
def k0_off20 (k0_t1 : Fin k0_t1_loop.trips) (c0_i32_8 : BitVec 32) : Fin 4 → Nat :=
  let c0_73 : Index := 0#32
  let c34 : Index := 34#32
  let c32_74 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v200 : Index := Scalar.indexCast v29
  ![0, 34, 32, v200.toNat]
def k0_off21 (k0_t1 : Fin k0_t1_loop.trips) (c0_i32_8 : BitVec 32) : Fin 4 → Nat :=
  let c0_75 : Index := 0#32
  let c34_76 : Index := 34#32
  let c0_77 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v204 : Index := Scalar.indexCast v29
  ![0, 34, 0, v204.toNat]
def k0_off22 (k0_t1 : Fin k0_t1_loop.trips) (c0_i32_8 : BitVec 32) : Fin 4 → Nat :=
  let c0_79 : Index := 0#32
  let c3 : Index := 3#32
  let c32_80 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v215 : Index := Scalar.indexCast v29
  ![0, 3, 32, v215.toNat]
def k0_off23 (k0_t1 : Fin k0_t1_loop.trips) (c0_i32_8 : BitVec 32) : Fin 4 → Nat :=
  let c0_81 : Index := 0#32
  let c3_82 : Index := 3#32
  let c0_83 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v219 : Index := Scalar.indexCast v29
  ![0, 3, 0, v219.toNat]
def k0_off24 (k0_t1 : Fin k0_t1_loop.trips) (c0_i32_8 : BitVec 32) : Fin 4 → Nat :=
  let c0_84 : Index := 0#32
  let c19 : Index := 19#32
  let c32_85 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v224 : Index := Scalar.indexCast v29
  ![0, 19, 32, v224.toNat]
def k0_off25 (k0_t1 : Fin k0_t1_loop.trips) (c0_i32_8 : BitVec 32) : Fin 4 → Nat :=
  let c0_86 : Index := 0#32
  let c19_87 : Index := 19#32
  let c0_88 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v228 : Index := Scalar.indexCast v29
  ![0, 19, 0, v228.toNat]
def k0_off26 (k0_t1 : Fin k0_t1_loop.trips) (c0_i32_8 : BitVec 32) : Fin 4 → Nat :=
  let c0_89 : Index := 0#32
  let c35 : Index := 35#32
  let c32_90 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v236 : Index := Scalar.indexCast v29
  ![0, 35, 32, v236.toNat]
def k0_off27 (k0_t1 : Fin k0_t1_loop.trips) (c0_i32_8 : BitVec 32) : Fin 4 → Nat :=
  let c0_91 : Index := 0#32
  let c35_92 : Index := 35#32
  let c0_93 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v240 : Index := Scalar.indexCast v29
  ![0, 35, 0, v240.toNat]
def k0_off28 (k0_t1 : Fin k0_t1_loop.trips) (c0_i32_8 : BitVec 32) : Fin 4 → Nat :=
  let c0_95 : Index := 0#32
  let c4 : Index := 4#32
  let c32_96 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v251 : Index := Scalar.indexCast v29
  ![0, 4, 32, v251.toNat]
def k0_off29 (k0_t1 : Fin k0_t1_loop.trips) (c0_i32_8 : BitVec 32) : Fin 4 → Nat :=
  let c0_97 : Index := 0#32
  let c4_98 : Index := 4#32
  let c0_99 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v255 : Index := Scalar.indexCast v29
  ![0, 4, 0, v255.toNat]
def k0_off30 (k0_t1 : Fin k0_t1_loop.trips) (c0_i32_8 : BitVec 32) : Fin 4 → Nat :=
  let c0_100 : Index := 0#32
  let c20 : Index := 20#32
  let c32_101 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v260 : Index := Scalar.indexCast v29
  ![0, 20, 32, v260.toNat]
def k0_off31 (k0_t1 : Fin k0_t1_loop.trips) (c0_i32_8 : BitVec 32) : Fin 4 → Nat :=
  let c0_102 : Index := 0#32
  let c20_103 : Index := 20#32
  let c0_104 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v264 : Index := Scalar.indexCast v29
  ![0, 20, 0, v264.toNat]
def k0_off32 (k0_t1 : Fin k0_t1_loop.trips) (c0_i32_8 : BitVec 32) : Fin 4 → Nat :=
  let c0_105 : Index := 0#32
  let c36 : Index := 36#32
  let c32_106 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v272 : Index := Scalar.indexCast v29
  ![0, 36, 32, v272.toNat]
def k0_off33 (k0_t1 : Fin k0_t1_loop.trips) (c0_i32_8 : BitVec 32) : Fin 4 → Nat :=
  let c0_107 : Index := 0#32
  let c36_108 : Index := 36#32
  let c0_109 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v276 : Index := Scalar.indexCast v29
  ![0, 36, 0, v276.toNat]
def k0_off34 (k0_t1 : Fin k0_t1_loop.trips) (c0_i32_8 : BitVec 32) : Fin 4 → Nat :=
  let c0_111 : Index := 0#32
  let c5 : Index := 5#32
  let c32_112 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v287 : Index := Scalar.indexCast v29
  ![0, 5, 32, v287.toNat]
def k0_off35 (k0_t1 : Fin k0_t1_loop.trips) (c0_i32_8 : BitVec 32) : Fin 4 → Nat :=
  let c0_113 : Index := 0#32
  let c5_114 : Index := 5#32
  let c0_115 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v291 : Index := Scalar.indexCast v29
  ![0, 5, 0, v291.toNat]
def k0_off36 (k0_t1 : Fin k0_t1_loop.trips) (c0_i32_8 : BitVec 32) : Fin 4 → Nat :=
  let c0_116 : Index := 0#32
  let c21 : Index := 21#32
  let c32_117 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v296 : Index := Scalar.indexCast v29
  ![0, 21, 32, v296.toNat]
def k0_off37 (k0_t1 : Fin k0_t1_loop.trips) (c0_i32_8 : BitVec 32) : Fin 4 → Nat :=
  let c0_118 : Index := 0#32
  let c21_119 : Index := 21#32
  let c0_120 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v300 : Index := Scalar.indexCast v29
  ![0, 21, 0, v300.toNat]
def k0_off38 (k0_t1 : Fin k0_t1_loop.trips) (c0_i32_8 : BitVec 32) : Fin 4 → Nat :=
  let c0_121 : Index := 0#32
  let c37 : Index := 37#32
  let c32_122 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v308 : Index := Scalar.indexCast v29
  ![0, 37, 32, v308.toNat]
def k0_off39 (k0_t1 : Fin k0_t1_loop.trips) (c0_i32_8 : BitVec 32) : Fin 4 → Nat :=
  let c0_123 : Index := 0#32
  let c37_124 : Index := 37#32
  let c0_125 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v312 : Index := Scalar.indexCast v29
  ![0, 37, 0, v312.toNat]
def k0_off40 (k0_t1 : Fin k0_t1_loop.trips) (c0_i32_8 : BitVec 32) : Fin 4 → Nat :=
  let c0_127 : Index := 0#32
  let c6 : Index := 6#32
  let c32_128 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v323 : Index := Scalar.indexCast v29
  ![0, 6, 32, v323.toNat]
def k0_off41 (k0_t1 : Fin k0_t1_loop.trips) (c0_i32_8 : BitVec 32) : Fin 4 → Nat :=
  let c0_129 : Index := 0#32
  let c6_130 : Index := 6#32
  let c0_131 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v327 : Index := Scalar.indexCast v29
  ![0, 6, 0, v327.toNat]
def k0_off42 (k0_t1 : Fin k0_t1_loop.trips) (c0_i32_8 : BitVec 32) : Fin 4 → Nat :=
  let c0_132 : Index := 0#32
  let c22 : Index := 22#32
  let c32_133 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v332 : Index := Scalar.indexCast v29
  ![0, 22, 32, v332.toNat]
def k0_off43 (k0_t1 : Fin k0_t1_loop.trips) (c0_i32_8 : BitVec 32) : Fin 4 → Nat :=
  let c0_134 : Index := 0#32
  let c22_135 : Index := 22#32
  let c0_136 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v336 : Index := Scalar.indexCast v29
  ![0, 22, 0, v336.toNat]
def k0_off44 (k0_t1 : Fin k0_t1_loop.trips) (c0_i32_8 : BitVec 32) : Fin 4 → Nat :=
  let c0_137 : Index := 0#32
  let c38 : Index := 38#32
  let c32_138 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v344 : Index := Scalar.indexCast v29
  ![0, 38, 32, v344.toNat]
def k0_off45 (k0_t1 : Fin k0_t1_loop.trips) (c0_i32_8 : BitVec 32) : Fin 4 → Nat :=
  let c0_139 : Index := 0#32
  let c38_140 : Index := 38#32
  let c0_141 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v348 : Index := Scalar.indexCast v29
  ![0, 38, 0, v348.toNat]
def k0_off46 (k0_t1 : Fin k0_t1_loop.trips) (c0_i32_8 : BitVec 32) : Fin 4 → Nat :=
  let c0_143 : Index := 0#32
  let c7 : Index := 7#32
  let c32_144 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v359 : Index := Scalar.indexCast v29
  ![0, 7, 32, v359.toNat]
def k0_off47 (k0_t1 : Fin k0_t1_loop.trips) (c0_i32_8 : BitVec 32) : Fin 4 → Nat :=
  let c0_145 : Index := 0#32
  let c7_146 : Index := 7#32
  let c0_147 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v363 : Index := Scalar.indexCast v29
  ![0, 7, 0, v363.toNat]
def k0_off48 (k0_t1 : Fin k0_t1_loop.trips) (c0_i32_8 : BitVec 32) : Fin 4 → Nat :=
  let c0_148 : Index := 0#32
  let c23 : Index := 23#32
  let c32_149 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v368 : Index := Scalar.indexCast v29
  ![0, 23, 32, v368.toNat]
def k0_off49 (k0_t1 : Fin k0_t1_loop.trips) (c0_i32_8 : BitVec 32) : Fin 4 → Nat :=
  let c0_150 : Index := 0#32
  let c23_151 : Index := 23#32
  let c0_152 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v372 : Index := Scalar.indexCast v29
  ![0, 23, 0, v372.toNat]
def k0_off50 (k0_t1 : Fin k0_t1_loop.trips) (c0_i32_8 : BitVec 32) : Fin 4 → Nat :=
  let c0_153 : Index := 0#32
  let c39 : Index := 39#32
  let c32_154 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v380 : Index := Scalar.indexCast v29
  ![0, 39, 32, v380.toNat]
def k0_off51 (k0_t1 : Fin k0_t1_loop.trips) (c0_i32_8 : BitVec 32) : Fin 4 → Nat :=
  let c0_155 : Index := 0#32
  let c39_156 : Index := 39#32
  let c0_157 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v384 : Index := Scalar.indexCast v29
  ![0, 39, 0, v384.toNat]
def k0_off52 (k0_t1 : Fin k0_t1_loop.trips) (c0_i32_8 : BitVec 32) : Fin 4 → Nat :=
  let c0_159 : Index := 0#32
  let c8 : Index := 8#32
  let c32_160 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v395 : Index := Scalar.indexCast v29
  ![0, 8, 32, v395.toNat]
def k0_off53 (k0_t1 : Fin k0_t1_loop.trips) (c0_i32_8 : BitVec 32) : Fin 4 → Nat :=
  let c0_161 : Index := 0#32
  let c8_162 : Index := 8#32
  let c0_163 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v399 : Index := Scalar.indexCast v29
  ![0, 8, 0, v399.toNat]
def k0_off54 (k0_t1 : Fin k0_t1_loop.trips) (c0_i32_8 : BitVec 32) : Fin 4 → Nat :=
  let c0_164 : Index := 0#32
  let c24 : Index := 24#32
  let c32_165 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v404 : Index := Scalar.indexCast v29
  ![0, 24, 32, v404.toNat]
def k0_off55 (k0_t1 : Fin k0_t1_loop.trips) (c0_i32_8 : BitVec 32) : Fin 4 → Nat :=
  let c0_166 : Index := 0#32
  let c24_167 : Index := 24#32
  let c0_168 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v408 : Index := Scalar.indexCast v29
  ![0, 24, 0, v408.toNat]
def k0_off56 (k0_t1 : Fin k0_t1_loop.trips) (c0_i32_8 : BitVec 32) : Fin 4 → Nat :=
  let c0_169 : Index := 0#32
  let c40 : Index := 40#32
  let c32_170 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v416 : Index := Scalar.indexCast v29
  ![0, 40, 32, v416.toNat]
def k0_off57 (k0_t1 : Fin k0_t1_loop.trips) (c0_i32_8 : BitVec 32) : Fin 4 → Nat :=
  let c0_171 : Index := 0#32
  let c40_172 : Index := 40#32
  let c0_173 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v420 : Index := Scalar.indexCast v29
  ![0, 40, 0, v420.toNat]
def k0_off58 (k0_t1 : Fin k0_t1_loop.trips) (c0_i32_8 : BitVec 32) : Fin 4 → Nat :=
  let c0_175 : Index := 0#32
  let c9 : Index := 9#32
  let c32_176 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v431 : Index := Scalar.indexCast v29
  ![0, 9, 32, v431.toNat]
def k0_off59 (k0_t1 : Fin k0_t1_loop.trips) (c0_i32_8 : BitVec 32) : Fin 4 → Nat :=
  let c0_177 : Index := 0#32
  let c9_178 : Index := 9#32
  let c0_179 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v435 : Index := Scalar.indexCast v29
  ![0, 9, 0, v435.toNat]
def k0_off60 (k0_t1 : Fin k0_t1_loop.trips) (c0_i32_8 : BitVec 32) : Fin 4 → Nat :=
  let c0_180 : Index := 0#32
  let c25 : Index := 25#32
  let c32_181 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v440 : Index := Scalar.indexCast v29
  ![0, 25, 32, v440.toNat]
def k0_off61 (k0_t1 : Fin k0_t1_loop.trips) (c0_i32_8 : BitVec 32) : Fin 4 → Nat :=
  let c0_182 : Index := 0#32
  let c25_183 : Index := 25#32
  let c0_184 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v444 : Index := Scalar.indexCast v29
  ![0, 25, 0, v444.toNat]
def k0_off62 (k0_t1 : Fin k0_t1_loop.trips) (c0_i32_8 : BitVec 32) : Fin 4 → Nat :=
  let c0_185 : Index := 0#32
  let c41 : Index := 41#32
  let c32_186 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v452 : Index := Scalar.indexCast v29
  ![0, 41, 32, v452.toNat]
def k0_off63 (k0_t1 : Fin k0_t1_loop.trips) (c0_i32_8 : BitVec 32) : Fin 4 → Nat :=
  let c0_187 : Index := 0#32
  let c41_188 : Index := 41#32
  let c0_189 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v456 : Index := Scalar.indexCast v29
  ![0, 41, 0, v456.toNat]
def k0_off64 (k0_t1 : Fin k0_t1_loop.trips) (c0_i32_8 : BitVec 32) : Fin 4 → Nat :=
  let c0_191 : Index := 0#32
  let c10 : Index := 10#32
  let c32_192 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v467 : Index := Scalar.indexCast v29
  ![0, 10, 32, v467.toNat]
def k0_off65 (k0_t1 : Fin k0_t1_loop.trips) (c0_i32_8 : BitVec 32) : Fin 4 → Nat :=
  let c0_193 : Index := 0#32
  let c10_194 : Index := 10#32
  let c0_195 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v471 : Index := Scalar.indexCast v29
  ![0, 10, 0, v471.toNat]
def k0_off66 (k0_t1 : Fin k0_t1_loop.trips) (c0_i32_8 : BitVec 32) : Fin 4 → Nat :=
  let c0_196 : Index := 0#32
  let c26 : Index := 26#32
  let c32_197 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v476 : Index := Scalar.indexCast v29
  ![0, 26, 32, v476.toNat]
def k0_off67 (k0_t1 : Fin k0_t1_loop.trips) (c0_i32_8 : BitVec 32) : Fin 4 → Nat :=
  let c0_198 : Index := 0#32
  let c26_199 : Index := 26#32
  let c0_200 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v480 : Index := Scalar.indexCast v29
  ![0, 26, 0, v480.toNat]
def k0_off68 (k0_t1 : Fin k0_t1_loop.trips) (c0_i32_8 : BitVec 32) : Fin 4 → Nat :=
  let c0_201 : Index := 0#32
  let c42 : Index := 42#32
  let c32_202 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v488 : Index := Scalar.indexCast v29
  ![0, 42, 32, v488.toNat]
def k0_off69 (k0_t1 : Fin k0_t1_loop.trips) (c0_i32_8 : BitVec 32) : Fin 4 → Nat :=
  let c0_203 : Index := 0#32
  let c42_204 : Index := 42#32
  let c0_205 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v492 : Index := Scalar.indexCast v29
  ![0, 42, 0, v492.toNat]
def k0_off70 (k0_t1 : Fin k0_t1_loop.trips) (c0_i32_8 : BitVec 32) : Fin 4 → Nat :=
  let c0_207 : Index := 0#32
  let c11 : Index := 11#32
  let c32_208 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v503 : Index := Scalar.indexCast v29
  ![0, 11, 32, v503.toNat]
def k0_off71 (k0_t1 : Fin k0_t1_loop.trips) (c0_i32_8 : BitVec 32) : Fin 4 → Nat :=
  let c0_209 : Index := 0#32
  let c11_210 : Index := 11#32
  let c0_211 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v507 : Index := Scalar.indexCast v29
  ![0, 11, 0, v507.toNat]
def k0_off72 (k0_t1 : Fin k0_t1_loop.trips) (c0_i32_8 : BitVec 32) : Fin 4 → Nat :=
  let c0_212 : Index := 0#32
  let c27 : Index := 27#32
  let c32_213 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v512 : Index := Scalar.indexCast v29
  ![0, 27, 32, v512.toNat]
def k0_off73 (k0_t1 : Fin k0_t1_loop.trips) (c0_i32_8 : BitVec 32) : Fin 4 → Nat :=
  let c0_214 : Index := 0#32
  let c27_215 : Index := 27#32
  let c0_216 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v516 : Index := Scalar.indexCast v29
  ![0, 27, 0, v516.toNat]
def k0_off74 (k0_t1 : Fin k0_t1_loop.trips) (c0_i32_8 : BitVec 32) : Fin 4 → Nat :=
  let c0_217 : Index := 0#32
  let c43 : Index := 43#32
  let c32_218 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v524 : Index := Scalar.indexCast v29
  ![0, 43, 32, v524.toNat]
def k0_off75 (k0_t1 : Fin k0_t1_loop.trips) (c0_i32_8 : BitVec 32) : Fin 4 → Nat :=
  let c0_219 : Index := 0#32
  let c43_220 : Index := 43#32
  let c0_221 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v528 : Index := Scalar.indexCast v29
  ![0, 43, 0, v528.toNat]
def k0_off76 (k0_t1 : Fin k0_t1_loop.trips) (c0_i32_8 : BitVec 32) : Fin 4 → Nat :=
  let c0_223 : Index := 0#32
  let c12 : Index := 12#32
  let c32_224 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v539 : Index := Scalar.indexCast v29
  ![0, 12, 32, v539.toNat]
def k0_off77 (k0_t1 : Fin k0_t1_loop.trips) (c0_i32_8 : BitVec 32) : Fin 4 → Nat :=
  let c0_225 : Index := 0#32
  let c12_226 : Index := 12#32
  let c0_227 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v543 : Index := Scalar.indexCast v29
  ![0, 12, 0, v543.toNat]
def k0_off78 (k0_t1 : Fin k0_t1_loop.trips) (c0_i32_8 : BitVec 32) : Fin 4 → Nat :=
  let c0_228 : Index := 0#32
  let c28 : Index := 28#32
  let c32_229 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v548 : Index := Scalar.indexCast v29
  ![0, 28, 32, v548.toNat]
def k0_off79 (k0_t1 : Fin k0_t1_loop.trips) (c0_i32_8 : BitVec 32) : Fin 4 → Nat :=
  let c0_230 : Index := 0#32
  let c28_231 : Index := 28#32
  let c0_232 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v552 : Index := Scalar.indexCast v29
  ![0, 28, 0, v552.toNat]
def k0_off80 (k0_t1 : Fin k0_t1_loop.trips) (c0_i32_8 : BitVec 32) : Fin 4 → Nat :=
  let c0_233 : Index := 0#32
  let c44 : Index := 44#32
  let c32_234 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v560 : Index := Scalar.indexCast v29
  ![0, 44, 32, v560.toNat]
def k0_off81 (k0_t1 : Fin k0_t1_loop.trips) (c0_i32_8 : BitVec 32) : Fin 4 → Nat :=
  let c0_235 : Index := 0#32
  let c44_236 : Index := 44#32
  let c0_237 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v564 : Index := Scalar.indexCast v29
  ![0, 44, 0, v564.toNat]
def k0_off82 (k0_t1 : Fin k0_t1_loop.trips) (c0_i32_8 : BitVec 32) : Fin 4 → Nat :=
  let c0_239 : Index := 0#32
  let c13 : Index := 13#32
  let c32_240 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v575 : Index := Scalar.indexCast v29
  ![0, 13, 32, v575.toNat]
def k0_off83 (k0_t1 : Fin k0_t1_loop.trips) (c0_i32_8 : BitVec 32) : Fin 4 → Nat :=
  let c0_241 : Index := 0#32
  let c13_242 : Index := 13#32
  let c0_243 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v579 : Index := Scalar.indexCast v29
  ![0, 13, 0, v579.toNat]
def k0_off84 (k0_t1 : Fin k0_t1_loop.trips) (c0_i32_8 : BitVec 32) : Fin 4 → Nat :=
  let c0_244 : Index := 0#32
  let c29 : Index := 29#32
  let c32_245 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v584 : Index := Scalar.indexCast v29
  ![0, 29, 32, v584.toNat]
def k0_off85 (k0_t1 : Fin k0_t1_loop.trips) (c0_i32_8 : BitVec 32) : Fin 4 → Nat :=
  let c0_246 : Index := 0#32
  let c29_247 : Index := 29#32
  let c0_248 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v588 : Index := Scalar.indexCast v29
  ![0, 29, 0, v588.toNat]
def k0_off86 (k0_t1 : Fin k0_t1_loop.trips) (c0_i32_8 : BitVec 32) : Fin 4 → Nat :=
  let c0_249 : Index := 0#32
  let c45 : Index := 45#32
  let c32_250 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v596 : Index := Scalar.indexCast v29
  ![0, 45, 32, v596.toNat]
def k0_off87 (k0_t1 : Fin k0_t1_loop.trips) (c0_i32_8 : BitVec 32) : Fin 4 → Nat :=
  let c0_251 : Index := 0#32
  let c45_252 : Index := 45#32
  let c0_253 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v600 : Index := Scalar.indexCast v29
  ![0, 45, 0, v600.toNat]
def k0_off88 (k0_t1 : Fin k0_t1_loop.trips) (c0_i32_8 : BitVec 32) : Fin 4 → Nat :=
  let c0_255 : Index := 0#32
  let c14 : Index := 14#32
  let c32_256 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v611 : Index := Scalar.indexCast v29
  ![0, 14, 32, v611.toNat]
def k0_off89 (k0_t1 : Fin k0_t1_loop.trips) (c0_i32_8 : BitVec 32) : Fin 4 → Nat :=
  let c0_257 : Index := 0#32
  let c14_258 : Index := 14#32
  let c0_259 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v615 : Index := Scalar.indexCast v29
  ![0, 14, 0, v615.toNat]
def k0_off90 (k0_t1 : Fin k0_t1_loop.trips) (c0_i32_8 : BitVec 32) : Fin 4 → Nat :=
  let c0_260 : Index := 0#32
  let c30 : Index := 30#32
  let c32_261 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v620 : Index := Scalar.indexCast v29
  ![0, 30, 32, v620.toNat]
def k0_off91 (k0_t1 : Fin k0_t1_loop.trips) (c0_i32_8 : BitVec 32) : Fin 4 → Nat :=
  let c0_262 : Index := 0#32
  let c30_263 : Index := 30#32
  let c0_264 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v624 : Index := Scalar.indexCast v29
  ![0, 30, 0, v624.toNat]
def k0_off92 (k0_t1 : Fin k0_t1_loop.trips) (c0_i32_8 : BitVec 32) : Fin 4 → Nat :=
  let c0_265 : Index := 0#32
  let c46 : Index := 46#32
  let c32_266 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v632 : Index := Scalar.indexCast v29
  ![0, 46, 32, v632.toNat]
def k0_off93 (k0_t1 : Fin k0_t1_loop.trips) (c0_i32_8 : BitVec 32) : Fin 4 → Nat :=
  let c0_267 : Index := 0#32
  let c46_268 : Index := 46#32
  let c0_269 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v636 : Index := Scalar.indexCast v29
  ![0, 46, 0, v636.toNat]
def k0_off94 (k0_t1 : Fin k0_t1_loop.trips) (c0_i32_8 : BitVec 32) : Fin 4 → Nat :=
  let c0_271 : Index := 0#32
  let c15 : Index := 15#32
  let c32_272 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v647 : Index := Scalar.indexCast v29
  ![0, 15, 32, v647.toNat]
def k0_off95 (k0_t1 : Fin k0_t1_loop.trips) (c0_i32_8 : BitVec 32) : Fin 4 → Nat :=
  let c0_273 : Index := 0#32
  let c15_274 : Index := 15#32
  let c0_275 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v651 : Index := Scalar.indexCast v29
  ![0, 15, 0, v651.toNat]
def k0_off96 (k0_t1 : Fin k0_t1_loop.trips) (c0_i32_8 : BitVec 32) : Fin 4 → Nat :=
  let c0_276 : Index := 0#32
  let c31 : Index := 31#32
  let c32_277 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v656 : Index := Scalar.indexCast v29
  ![0, 31, 32, v656.toNat]
def k0_off97 (k0_t1 : Fin k0_t1_loop.trips) (c0_i32_8 : BitVec 32) : Fin 4 → Nat :=
  let c0_278 : Index := 0#32
  let c31_279 : Index := 31#32
  let c0_280 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v660 : Index := Scalar.indexCast v29
  ![0, 31, 0, v660.toNat]
def k0_off98 (k0_t1 : Fin k0_t1_loop.trips) (c0_i32_8 : BitVec 32) : Fin 4 → Nat :=
  let c0_281 : Index := 0#32
  let c47 : Index := 47#32
  let c32_282 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v668 : Index := Scalar.indexCast v29
  ![0, 47, 32, v668.toNat]
def k0_off99 (k0_t1 : Fin k0_t1_loop.trips) (c0_i32_8 : BitVec 32) : Fin 4 → Nat :=
  let c0_283 : Index := 0#32
  let c47_284 : Index := 47#32
  let c0_285 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v672 : Index := Scalar.indexCast v29
  ![0, 47, 0, v672.toNat]
def k0_off100 (k0_t1 : Fin k0_t1_loop.trips) (c0_i32_8 : BitVec 32) : Fin 4 → Nat :=
  let c0_287 : Index := 0#32
  let c0_288 : Index := 0#32
  let c0_289 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v686 : Index := Scalar.indexCast v29
  ![0, 0, 0, v686.toNat]
def k0_off101 (k0_t1 : Fin k0_t1_loop.trips) (c0_i32_8 : BitVec 32) : Fin 4 → Nat :=
  let c0_291 : Index := 0#32
  let c16_292 : Index := 16#32
  let c0_293 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v692 : Index := Scalar.indexCast v29
  ![0, 16, 0, v692.toNat]
def k0_off102 (k0_t1 : Fin k0_t1_loop.trips) (c0_i32_8 : BitVec 32) : Fin 4 → Nat :=
  let c0_296 : Index := 0#32
  let c1_297 : Index := 1#32
  let c0_298 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v700 : Index := Scalar.indexCast v29
  ![0, 1, 0, v700.toNat]
def k0_off103 (k0_t1 : Fin k0_t1_loop.trips) (c0_i32_8 : BitVec 32) : Fin 4 → Nat :=
  let c0_300 : Index := 0#32
  let c17_301 : Index := 17#32
  let c0_302 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v706 : Index := Scalar.indexCast v29
  ![0, 17, 0, v706.toNat]
def k0_off104 (k0_t1 : Fin k0_t1_loop.trips) (c0_i32_8 : BitVec 32) : Fin 4 → Nat :=
  let c0_304 : Index := 0#32
  let c2_305 : Index := 2#32
  let c0_306 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v714 : Index := Scalar.indexCast v29
  ![0, 2, 0, v714.toNat]
def k0_off105 (k0_t1 : Fin k0_t1_loop.trips) (c0_i32_8 : BitVec 32) : Fin 4 → Nat :=
  let c0_308 : Index := 0#32
  let c18_309 : Index := 18#32
  let c0_310 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v720 : Index := Scalar.indexCast v29
  ![0, 18, 0, v720.toNat]
def k0_off106 (k0_t1 : Fin k0_t1_loop.trips) (c0_i32_8 : BitVec 32) : Fin 4 → Nat :=
  let c0_312 : Index := 0#32
  let c3_313 : Index := 3#32
  let c0_314 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v728 : Index := Scalar.indexCast v29
  ![0, 3, 0, v728.toNat]
def k0_off107 (k0_t1 : Fin k0_t1_loop.trips) (c0_i32_8 : BitVec 32) : Fin 4 → Nat :=
  let c0_316 : Index := 0#32
  let c19_317 : Index := 19#32
  let c0_318 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v734 : Index := Scalar.indexCast v29
  ![0, 19, 0, v734.toNat]
def k0_off108 (k0_t1 : Fin k0_t1_loop.trips) (c0_i32_8 : BitVec 32) : Fin 4 → Nat :=
  let c0_320 : Index := 0#32
  let c4_321 : Index := 4#32
  let c0_322 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v742 : Index := Scalar.indexCast v29
  ![0, 4, 0, v742.toNat]
def k0_off109 (k0_t1 : Fin k0_t1_loop.trips) (c0_i32_8 : BitVec 32) : Fin 4 → Nat :=
  let c0_324 : Index := 0#32
  let c20_325 : Index := 20#32
  let c0_326 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v748 : Index := Scalar.indexCast v29
  ![0, 20, 0, v748.toNat]
def k0_off110 (k0_t1 : Fin k0_t1_loop.trips) (c0_i32_8 : BitVec 32) : Fin 4 → Nat :=
  let c0_328 : Index := 0#32
  let c5_329 : Index := 5#32
  let c0_330 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v756 : Index := Scalar.indexCast v29
  ![0, 5, 0, v756.toNat]
def k0_off111 (k0_t1 : Fin k0_t1_loop.trips) (c0_i32_8 : BitVec 32) : Fin 4 → Nat :=
  let c0_332 : Index := 0#32
  let c21_333 : Index := 21#32
  let c0_334 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v762 : Index := Scalar.indexCast v29
  ![0, 21, 0, v762.toNat]
def k0_off112 (k0_t1 : Fin k0_t1_loop.trips) (c0_i32_8 : BitVec 32) : Fin 4 → Nat :=
  let c0_336 : Index := 0#32
  let c6_337 : Index := 6#32
  let c0_338 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v770 : Index := Scalar.indexCast v29
  ![0, 6, 0, v770.toNat]
def k0_off113 (k0_t1 : Fin k0_t1_loop.trips) (c0_i32_8 : BitVec 32) : Fin 4 → Nat :=
  let c0_340 : Index := 0#32
  let c22_341 : Index := 22#32
  let c0_342 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v776 : Index := Scalar.indexCast v29
  ![0, 22, 0, v776.toNat]
def k0_off114 (k0_t1 : Fin k0_t1_loop.trips) (c0_i32_8 : BitVec 32) : Fin 4 → Nat :=
  let c0_344 : Index := 0#32
  let c7_345 : Index := 7#32
  let c0_346 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v784 : Index := Scalar.indexCast v29
  ![0, 7, 0, v784.toNat]
def k0_off115 (k0_t1 : Fin k0_t1_loop.trips) (c0_i32_8 : BitVec 32) : Fin 4 → Nat :=
  let c0_348 : Index := 0#32
  let c23_349 : Index := 23#32
  let c0_350 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v790 : Index := Scalar.indexCast v29
  ![0, 23, 0, v790.toNat]
def k0_off116 (k0_t1 : Fin k0_t1_loop.trips) (c0_i32_8 : BitVec 32) : Fin 4 → Nat :=
  let c0_352 : Index := 0#32
  let c8_353 : Index := 8#32
  let c0_354 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v798 : Index := Scalar.indexCast v29
  ![0, 8, 0, v798.toNat]
def k0_off117 (k0_t1 : Fin k0_t1_loop.trips) (c0_i32_8 : BitVec 32) : Fin 4 → Nat :=
  let c0_356 : Index := 0#32
  let c9_357 : Index := 9#32
  let c0_358 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v805 : Index := Scalar.indexCast v29
  ![0, 9, 0, v805.toNat]
def k0_off118 (k0_t1 : Fin k0_t1_loop.trips) (c0_i32_8 : BitVec 32) : Fin 4 → Nat :=
  let c0_360 : Index := 0#32
  let c10_361 : Index := 10#32
  let c0_362 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v812 : Index := Scalar.indexCast v29
  ![0, 10, 0, v812.toNat]
def k0_off119 (k0_t1 : Fin k0_t1_loop.trips) (c0_i32_8 : BitVec 32) : Fin 4 → Nat :=
  let c0_364 : Index := 0#32
  let c11_365 : Index := 11#32
  let c0_366 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v819 : Index := Scalar.indexCast v29
  ![0, 11, 0, v819.toNat]
def k0_off120 (k0_t1 : Fin k0_t1_loop.trips) (c0_i32_8 : BitVec 32) : Fin 4 → Nat :=
  let c0_368 : Index := 0#32
  let c12_369 : Index := 12#32
  let c0_370 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v826 : Index := Scalar.indexCast v29
  ![0, 12, 0, v826.toNat]
def k0_off121 (k0_t1 : Fin k0_t1_loop.trips) (c0_i32_8 : BitVec 32) : Fin 4 → Nat :=
  let c0_372 : Index := 0#32
  let c13_373 : Index := 13#32
  let c0_374 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v833 : Index := Scalar.indexCast v29
  ![0, 13, 0, v833.toNat]
def k0_off122 (k0_t1 : Fin k0_t1_loop.trips) (c0_i32_8 : BitVec 32) : Fin 4 → Nat :=
  let c0_376 : Index := 0#32
  let c14_377 : Index := 14#32
  let c0_378 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v840 : Index := Scalar.indexCast v29
  ![0, 14, 0, v840.toNat]
def k0_off123 (k0_t1 : Fin k0_t1_loop.trips) (c0_i32_8 : BitVec 32) : Fin 4 → Nat :=
  let c0_380 : Index := 0#32
  let c15_381 : Index := 15#32
  let c0_382 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v847 : Index := Scalar.indexCast v29
  ![0, 15, 0, v847.toNat]
def k0_off124 (k0_t1 : Fin k0_t1_loop.trips) (c0_i32_8 : BitVec 32) : Fin 4 → Nat :=
  let c0_384 : Index := 0#32
  let c0_385 : Index := 0#32
  let c0_386 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v854 : Index := Scalar.indexCast v29
  ![0, 0, 0, v854.toNat]
def k0_off125 (k0_t1 : Fin k0_t1_loop.trips) (c0_i32_8 : BitVec 32) : Fin 4 → Nat :=
  let c0_389 : Index := 0#32
  let c1_390 : Index := 1#32
  let c0_391 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v861 : Index := Scalar.indexCast v29
  ![0, 1, 0, v861.toNat]
def k0_off126 (k0_t1 : Fin k0_t1_loop.trips) (c0_i32_8 : BitVec 32) : Fin 4 → Nat :=
  let c0_393 : Index := 0#32
  let c2_394 : Index := 2#32
  let c0_395 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v868 : Index := Scalar.indexCast v29
  ![0, 2, 0, v868.toNat]
def k0_off127 (k0_t1 : Fin k0_t1_loop.trips) (c0_i32_8 : BitVec 32) : Fin 4 → Nat :=
  let c0_397 : Index := 0#32
  let c3_398 : Index := 3#32
  let c0_399 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v875 : Index := Scalar.indexCast v29
  ![0, 3, 0, v875.toNat]
def k0_off128 (k0_t1 : Fin k0_t1_loop.trips) (c0_i32_8 : BitVec 32) : Fin 4 → Nat :=
  let c0_401 : Index := 0#32
  let c4_402 : Index := 4#32
  let c0_403 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v882 : Index := Scalar.indexCast v29
  ![0, 4, 0, v882.toNat]
def k0_off129 (k0_t1 : Fin k0_t1_loop.trips) (c0_i32_8 : BitVec 32) : Fin 4 → Nat :=
  let c0_405 : Index := 0#32
  let c5_406 : Index := 5#32
  let c0_407 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v889 : Index := Scalar.indexCast v29
  ![0, 5, 0, v889.toNat]
def k0_off130 (k0_t1 : Fin k0_t1_loop.trips) (c0_i32_8 : BitVec 32) : Fin 4 → Nat :=
  let c0_409 : Index := 0#32
  let c6_410 : Index := 6#32
  let c0_411 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v896 : Index := Scalar.indexCast v29
  ![0, 6, 0, v896.toNat]
def k0_off131 (k0_t1 : Fin k0_t1_loop.trips) (c0_i32_8 : BitVec 32) : Fin 4 → Nat :=
  let c0_413 : Index := 0#32
  let c7_414 : Index := 7#32
  let c0_415 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v903 : Index := Scalar.indexCast v29
  ![0, 7, 0, v903.toNat]
def k0_off132 (k0_t1 : Fin k0_t1_loop.trips) (c0_i32_8 : BitVec 32) : Fin 4 → Nat :=
  let c0_417 : Index := 0#32
  let c8_418 : Index := 8#32
  let c0_419 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v910 : Index := Scalar.indexCast v29
  ![0, 8, 0, v910.toNat]
def k0_off133 (k0_t1 : Fin k0_t1_loop.trips) (c0_i32_8 : BitVec 32) : Fin 4 → Nat :=
  let c0_421 : Index := 0#32
  let c9_422 : Index := 9#32
  let c0_423 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v917 : Index := Scalar.indexCast v29
  ![0, 9, 0, v917.toNat]
def k0_off134 (k0_t1 : Fin k0_t1_loop.trips) (c0_i32_8 : BitVec 32) : Fin 4 → Nat :=
  let c0_425 : Index := 0#32
  let c10_426 : Index := 10#32
  let c0_427 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v924 : Index := Scalar.indexCast v29
  ![0, 10, 0, v924.toNat]
def k0_off135 (k0_t1 : Fin k0_t1_loop.trips) (c0_i32_8 : BitVec 32) : Fin 4 → Nat :=
  let c0_429 : Index := 0#32
  let c11_430 : Index := 11#32
  let c0_431 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v931 : Index := Scalar.indexCast v29
  ![0, 11, 0, v931.toNat]
def k0_off136 (k0_t1 : Fin k0_t1_loop.trips) (c0_i32_8 : BitVec 32) : Fin 4 → Nat :=
  let c0_433 : Index := 0#32
  let c0_434 : Index := 0#32
  let c0_435 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v938 : Index := Scalar.indexCast v29
  ![0, 0, 0, v938.toNat]
def k0_off137 (k0_t1 : Fin k0_t1_loop.trips) (c0_i32_8 : BitVec 32) : Fin 4 → Nat :=
  let c0_438 : Index := 0#32
  let c1_439 : Index := 1#32
  let c0_440 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v945 : Index := Scalar.indexCast v29
  ![0, 1, 0, v945.toNat]
def k0_off138 (k0_t1 : Fin k0_t1_loop.trips) (c0_i32_8 : BitVec 32) : Fin 4 → Nat :=
  let c0_442 : Index := 0#32
  let c2_443 : Index := 2#32
  let c0_444 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v952 : Index := Scalar.indexCast v29
  ![0, 2, 0, v952.toNat]
def k0_off139 (k0_t1 : Fin k0_t1_loop.trips) (c0_i32_8 : BitVec 32) : Fin 4 → Nat :=
  let c0_446 : Index := 0#32
  let c3_447 : Index := 3#32
  let c0_448 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v959 : Index := Scalar.indexCast v29
  ![0, 3, 0, v959.toNat]
def k0_off140 (k0_t1 : Fin k0_t1_loop.trips) (c0_i32_8 : BitVec 32) : Fin 4 → Nat :=
  let c0_450 : Index := 0#32
  let c4_451 : Index := 4#32
  let c0_452 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v966 : Index := Scalar.indexCast v29
  ![0, 4, 0, v966.toNat]
def k0_off141 (k0_t1 : Fin k0_t1_loop.trips) (c0_i32_8 : BitVec 32) : Fin 4 → Nat :=
  let c0_454 : Index := 0#32
  let c5_455 : Index := 5#32
  let c0_456 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v973 : Index := Scalar.indexCast v29
  ![0, 5, 0, v973.toNat]
def k0_mult2 (i : grid0.Coords) (k0_t1 : Fin k0_t1_loop.trips) : BitVec 32 :=
  let arg1 : BitVec 32 := BitVec.ofNat 32 (i 1).val
  let c1024_i32_1884 : BitVec 32 := 1024#32
  let v4288 : BitVec 32 := Scalar.muli arg1 c1024_i32_1884
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v4289 : BitVec 32 := Scalar.addi v4288 v28
  let c0_i32_1885 : BitVec 32 := 0#32
  let v4290 : BitVec 32 := Scalar.addi v4289 c0_i32_1885
  v4290
def k0_off142 (i : grid0.Coords) (k0_t1 : Fin k0_t1_loop.trips) (c0_i32_1885 : BitVec 32) : Fin 2 → Nat :=
  let c0_1887 : Index := 0#32
  let arg1 : BitVec 32 := BitVec.ofNat 32 (i 1).val
  let c1024_i32_1884 : BitVec 32 := 1024#32
  let v4288 : BitVec 32 := Scalar.muli arg1 c1024_i32_1884
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v4289 : BitVec 32 := Scalar.addi v4288 v28
  let v4290 : BitVec 32 := Scalar.addi v4289 c0_i32_1885
  let v4291 : BitVec 32 := v4290
  let v4295 : Index := Scalar.indexCast v4291
  ![0, v4295.toNat]
def k0_off143 (k0_t1 : Fin k0_t1_loop.trips) (c0_i32_8 : BitVec 32) : Fin 3 → Nat :=
  let c0_1894 : Index := 0#32
  let c0_1895 : Index := 0#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4317 : Index := Scalar.indexCast v29
  ![0, 0, v4317.toNat]
def k0_off144 (k0_t1 : Fin k0_t1_loop.trips) (c0_i32_8 : BitVec 32) : Fin 3 → Nat :=
  let c0_1900 : Index := 0#32
  let c32_1901 : Index := 32#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4331 : Index := Scalar.indexCast v29
  ![0, 32, v4331.toNat]
def k0_off145 (k0_t1 : Fin k0_t1_loop.trips) (c0_i32_8 : BitVec 32) : Fin 3 → Nat :=
  let c0_1906 : Index := 0#32
  let c64_1907 : Index := 64#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4345 : Index := Scalar.indexCast v29
  ![0, 64, v4345.toNat]
def k0_off146 (k0_t1 : Fin k0_t1_loop.trips) (c0_i32_8 : BitVec 32) : Fin 3 → Nat :=
  let c0_1912 : Index := 0#32
  let c96_1913 : Index := 96#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4359 : Index := Scalar.indexCast v29
  ![0, 96, v4359.toNat]
def k0_off147 (k0_t1 : Fin k0_t1_loop.trips) (c0_i32_8 : BitVec 32) : Fin 3 → Nat :=
  let c0_1918 : Index := 0#32
  let c128_1919 : Index := 128#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4373 : Index := Scalar.indexCast v29
  ![0, 128, v4373.toNat]
def k0_off148 (k0_t1 : Fin k0_t1_loop.trips) (c0_i32_8 : BitVec 32) : Fin 3 → Nat :=
  let c0_1924 : Index := 0#32
  let c160_1925 : Index := 160#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4387 : Index := Scalar.indexCast v29
  ![0, 160, v4387.toNat]
def k0_off149 (k0_t1 : Fin k0_t1_loop.trips) (c0_i32_8 : BitVec 32) : Fin 3 → Nat :=
  let c0_1930 : Index := 0#32
  let c192_1931 : Index := 192#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4401 : Index := Scalar.indexCast v29
  ![0, 192, v4401.toNat]
def k0_off150 (k0_t1 : Fin k0_t1_loop.trips) (c0_i32_8 : BitVec 32) : Fin 3 → Nat :=
  let c0_1936 : Index := 0#32
  let c224_1937 : Index := 224#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4415 : Index := Scalar.indexCast v29
  ![0, 224, v4415.toNat]
def k0_off151 (k0_t1 : Fin k0_t1_loop.trips) (c0_i32_8 : BitVec 32) : Fin 3 → Nat :=
  let c0_1942 : Index := 0#32
  let c256_1943 : Index := 256#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4429 : Index := Scalar.indexCast v29
  ![0, 256, v4429.toNat]
def k0_off152 (k0_t1 : Fin k0_t1_loop.trips) (c0_i32_8 : BitVec 32) : Fin 3 → Nat :=
  let c0_1948 : Index := 0#32
  let c288_1949 : Index := 288#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4443 : Index := Scalar.indexCast v29
  ![0, 288, v4443.toNat]
def k0_off153 (k0_t1 : Fin k0_t1_loop.trips) (c0_i32_8 : BitVec 32) : Fin 3 → Nat :=
  let c0_1954 : Index := 0#32
  let c320_1955 : Index := 320#32
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v29 : BitVec 32 := Scalar.addi v28 c0_i32_8
  let v4457 : Index := Scalar.indexCast v29
  ![0, 320, v4457.toNat]
def k0_mult3 (i : grid0.Coords) (k0_t1 : Fin k0_t1_loop.trips) : BitVec 32 :=
  let arg1 : BitVec 32 := BitVec.ofNat 32 (i 1).val
  let c1024_i32_1960 : BitVec 32 := 1024#32
  let v4470 : BitVec 32 := Scalar.muli arg1 c1024_i32_1960
  let c0_i32_5 : BitVec 32 := 0#32
  let c1_i32 : BitVec 32 := 1#32
  let arg14 : BitVec 32 := Scf.iv c0_i32_5 c1_i32 k0_t1
  let c256_i32 : BitVec 32 := 256#32
  let v27 : BitVec 32 := Scalar.muli arg14 c256_i32
  let v28 : BitVec 32 := v27
  let v4471 : BitVec 32 := Scalar.addi v4470 v28
  let c128_i32_1961 : BitVec 32 := 128#32
  let v4472 : BitVec 32 := Scalar.addi v4471 c128_i32_1961
  v4472
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S1x48x64x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x24x32x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x12x16x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x8x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x324x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S20x3072x48x64 : Shape := ⟨4, ![20, 3072, 48, 64]⟩
abbrev S20x3072x24x32 : Shape := ⟨4, ![20, 3072, 24, 32]⟩
abbrev S20x3072x12x16 : Shape := ⟨4, ![20, 3072, 12, 16]⟩
abbrev S20x3072x6x8 : Shape := ⟨4, ![20, 3072, 6, 8]⟩
abbrev S20x3072x4 : Shape := ⟨3, ![20, 3072, 4]⟩
abbrev S20x3072x2 : Shape := ⟨3, ![20, 3072, 2]⟩
abbrev S3072 : Shape := ⟨1, ![3072]⟩
abbrev S_ : Shape := ⟨0, ![]⟩
abbrev S1x3072 : Shape := ⟨2, ![1, 3072]⟩
abbrev S20x3072x1 : Shape := ⟨3, ![20, 3072, 1]⟩
abbrev S20x3072 : Shape := ⟨2, ![20, 3072]⟩
abbrev S10 : Shape := ⟨1, ![10]⟩
abbrev S1x1x10 : Shape := ⟨3, ![1, 1, 10]⟩
abbrev S20x3072x10 : Shape := ⟨3, ![20, 3072, 10]⟩
abbrev S20x3072x10x1 : Shape := ⟨4, ![20, 3072, 10, 1]⟩
abbrev S20x3072x1x10 : Shape := ⟨4, ![20, 3072, 1, 10]⟩
abbrev S20x3072x10x10 : Shape := ⟨4, ![20, 3072, 10, 10]⟩
abbrev S20x3072x100 : Shape := ⟨3, ![20, 3072, 100]⟩
abbrev S20x3072x3072 : Shape := ⟨3, ![20, 3072, 3072]⟩
abbrev S20x3072x100x1 : Shape := ⟨4, ![20, 3072, 100, 1]⟩
abbrev S1 : Shape := ⟨1, ![1]⟩
abbrev S1x1x1x1 : Shape := ⟨4, ![1, 1, 1, 1]⟩
abbrev S20x3072x1x1 : Shape := ⟨4, ![20, 3072, 1, 1]⟩
abbrev S20x3072x9x9 : Shape := ⟨4, ![20, 3072, 9, 9]⟩
abbrev S20x3072x81 : Shape := ⟨3, ![20, 3072, 81]⟩
abbrev S20x3072x768 : Shape := ⟨3, ![20, 3072, 768]⟩
abbrev S20x3072x192 : Shape := ⟨3, ![20, 3072, 192]⟩
abbrev S20x3072x48 : Shape := ⟨3, ![20, 3072, 48]⟩
abbrev S20x3072x324 : Shape := ⟨3, ![20, 3072, 324]⟩

abbrev nBuf : Space → Nat
  | .hbm => 669
  | .vmem => 0
  | .smem => 0
  | _ => 0

abbrev hbmTy0_0 (i : Nat) : BufTy := match i % 128 with
  | 0 => ⟨S20x3072x48x64, .i8⟩
  | 1 => ⟨S20x3072x24x32, .i8⟩
  | 2 => ⟨S20x3072x12x16, .i8⟩
  | 3 => ⟨S20x3072x6x8, .i8⟩
  | 4 => ⟨S20x3072x4, .f32⟩
  | 5 => ⟨S20x3072x2, .f32⟩
  | 6 => ⟨S3072, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S3072, .i32⟩
  | 14 => ⟨S3072, .i32⟩
  | 15 => ⟨S_, .i32⟩
  | 16 => ⟨S3072, .i32⟩
  | 17 => ⟨S3072, .i1⟩
  | 18 => ⟨S_, .i32⟩
  | 19 => ⟨S3072, .i32⟩
  | 20 => ⟨S3072, .i1⟩
  | 21 => ⟨S_, .i32⟩
  | 22 => ⟨S_, .i1⟩
  | 23 => ⟨S3072, .i1⟩
  | 24 => ⟨S3072, .i1⟩
  | 25 => ⟨S3072, .i1⟩
  | 26 => ⟨S3072, .i32⟩
  | 27 => ⟨S3072, .i32⟩
  | 28 => ⟨S3072, .i32⟩
  | 29 => ⟨S3072, .f32⟩
  | 30 => ⟨S_, .i32⟩
  | 31 => ⟨S_, .i32⟩
  | 32 => ⟨S3072, .i32⟩
  | 33 => ⟨S3072, .i32⟩
  | 34 => ⟨S3072, .i32⟩
  | 35 => ⟨S_, .i32⟩
  | 36 => ⟨S3072, .i32⟩
  | 37 => ⟨S3072, .i1⟩
  | 38 => ⟨S3072, .i32⟩
  | 39 => ⟨S3072, .i32⟩
  | 40 => ⟨S_, .i32⟩
  | 41 => ⟨S3072, .i32⟩
  | 42 => ⟨S3072, .i1⟩
  | 43 => ⟨S3072, .i1⟩
  | 44 => ⟨S_, .i32⟩
  | 45 => ⟨S3072, .i32⟩
  | 46 => ⟨S3072, .i32⟩
  | 47 => ⟨S3072, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S3072, .i32⟩
  | 55 => ⟨S3072, .i32⟩
  | 56 => ⟨S_, .i32⟩
  | 57 => ⟨S3072, .i32⟩
  | 58 => ⟨S3072, .i1⟩
  | 59 => ⟨S_, .i32⟩
  | 60 => ⟨S3072, .i32⟩
  | 61 => ⟨S3072, .i1⟩
  | 62 => ⟨S_, .i32⟩
  | 63 => ⟨S_, .i1⟩
  | 64 => ⟨S3072, .i1⟩
  | 65 => ⟨S3072, .i1⟩
  | 66 => ⟨S3072, .i1⟩
  | 67 => ⟨S3072, .i32⟩
  | 68 => ⟨S3072, .i32⟩
  | 69 => ⟨S3072, .i32⟩
  | 70 => ⟨S3072, .f32⟩
  | 71 => ⟨S1x3072, .f32⟩
  | 72 => ⟨S20x3072x1, .f32⟩
  | 73 => ⟨S20x3072, .f32⟩
  | 74 => ⟨S20x3072, .f32⟩
  | 75 => ⟨S20x3072, .f32⟩
  | 76 => ⟨S1x3072, .f32⟩
  | 77 => ⟨S20x3072x1, .f32⟩
  | 78 => ⟨S20x3072, .f32⟩
  | 79 => ⟨S20x3072, .f32⟩
  | 80 => ⟨S20x3072, .f32⟩
  | 81 => ⟨S20x3072x1, .f32⟩
  | 82 => ⟨S20x3072, .f32⟩
  | 83 => ⟨S_, .f32⟩
  | 84 => ⟨S20x3072, .f32⟩
  | 85 => ⟨S20x3072, .f32⟩
  | 86 => ⟨S_, .f32⟩
  | 87 => ⟨S20x3072, .f32⟩
  | 88 => ⟨S20x3072, .f32⟩
  | 89 => ⟨S20x3072, .f32⟩
  | 90 => ⟨S20x3072, .f32⟩
  | 91 => ⟨S20x3072, .f32⟩
  | 92 => ⟨S20x3072, .f32⟩
  | 93 => ⟨S20x3072, .i32⟩
  | 94 => ⟨S20x3072, .i32⟩
  | 95 => ⟨S10, .i32⟩
  | 96 => ⟨S_, .i32⟩
  | 97 => ⟨S10, .i32⟩
  | 98 => ⟨S10, .i32⟩
  | 99 => ⟨S20x3072x1, .i32⟩
  | 100 => ⟨S1x1x10, .i32⟩
  | 101 => ⟨S20x3072x10, .i32⟩
  | 102 => ⟨S20x3072x10, .i32⟩
  | 103 => ⟨S20x3072x10, .i32⟩
  | 104 => ⟨S20x3072x1, .i32⟩
  | 105 => ⟨S1x1x10, .i32⟩
  | 106 => ⟨S20x3072x10, .i32⟩
  | 107 => ⟨S20x3072x10, .i32⟩
  | 108 => ⟨S20x3072x10, .i32⟩
  | 109 => ⟨S_, .i32⟩
  | 110 => ⟨S20x3072x10, .i32⟩
  | 111 => ⟨S20x3072x10, .i1⟩
  | 112 => ⟨S_, .i32⟩
  | 113 => ⟨S20x3072x10, .i32⟩
  | 114 => ⟨S20x3072x10, .i1⟩
  | 115 => ⟨S20x3072x10, .i1⟩
  | 116 => ⟨S20x3072x10x1, .i1⟩
  | 117 => ⟨S_, .i32⟩
  | 118 => ⟨S20x3072x10, .i32⟩
  | 119 => ⟨S20x3072x10, .i1⟩
  | 120 => ⟨S_, .i32⟩
  | 121 => ⟨S20x3072x10, .i32⟩
  | 122 => ⟨S20x3072x10, .i1⟩
  | 123 => ⟨S20x3072x10, .i1⟩
  | 124 => ⟨S20x3072x1x10, .i1⟩
  | 125 => ⟨S20x3072x10x10, .i1⟩
  | 126 => ⟨S20x3072x10x10, .i1⟩
  | 127 => ⟨S20x3072x10x10, .i1⟩
  | _ => ⟨S20x3072x48x64, .i8⟩

abbrev hbmTy0_1 (i : Nat) : BufTy := match i % 128 with
  | 0 => ⟨S_, .i32⟩
  | 1 => ⟨S_, .i32⟩
  | 2 => ⟨S_, .i32⟩
  | 3 => ⟨S20x3072x10, .i32⟩
  | 4 => ⟨S20x3072x10, .i32⟩
  | 5 => ⟨S_, .i32⟩
  | 6 => ⟨S20x3072x10, .i32⟩
  | 7 => ⟨S20x3072x10, .i32⟩
  | 8 => ⟨S20x3072x10x1, .i32⟩
  | 9 => ⟨S_, .i32⟩
  | 10 => ⟨S20x3072x10x1, .i32⟩
  | 11 => ⟨S20x3072x10x1, .i32⟩
  | 12 => ⟨S_, .i32⟩
  | 13 => ⟨S_, .i32⟩
  | 14 => ⟨S_, .i32⟩
  | 15 => ⟨S20x3072x10, .i32⟩
  | 16 => ⟨S20x3072x10, .i32⟩
  | 17 => ⟨S_, .i32⟩
  | 18 => ⟨S20x3072x10, .i32⟩
  | 19 => ⟨S20x3072x10, .i32⟩
  | 20 => ⟨S20x3072x1x10, .i32⟩
  | 21 => ⟨S20x3072x10x10, .i32⟩
  | 22 => ⟨S20x3072x10x10, .i32⟩
  | 23 => ⟨S20x3072x10x10, .i32⟩
  | 24 => ⟨S20x3072x100, .i32⟩
  | 25 => ⟨S20x3072x3072, .i8⟩
  | 26 => ⟨S_, .i32⟩
  | 27 => ⟨S20x3072x100, .i32⟩
  | 28 => ⟨S20x3072x100, .i1⟩
  | 29 => ⟨S_, .i32⟩
  | 30 => ⟨S20x3072x100, .i32⟩
  | 31 => ⟨S20x3072x100, .i32⟩
  | 32 => ⟨S20x3072x100, .i32⟩
  | 33 => ⟨S20x3072x100x1, .i32⟩
  | 34 => ⟨S1, .i32⟩
  | 35 => ⟨S_, .i32⟩
  | 36 => ⟨S20x3072x100x1, .i32⟩
  | 37 => ⟨S20x3072x100x1, .i1⟩
  | 38 => ⟨S1x1x1x1, .i32⟩
  | 39 => ⟨S20x3072x100x1, .i32⟩
  | 40 => ⟨S20x3072x100x1, .i1⟩
  | 41 => ⟨S20x3072x100x1, .i1⟩
  | 42 => ⟨S_, .i1⟩
  | 43 => ⟨S20x3072x100, .i1⟩
  | 44 => ⟨S20x3072x100, .i8⟩
  | 45 => ⟨S_, .i8⟩
  | 46 => ⟨S20x3072x100, .i8⟩
  | 47 => ⟨S20x3072x100, .i8⟩
  | 48 => ⟨S20x3072x100, .i32⟩
  | 49 => ⟨S20x3072x100, .f32⟩
  | 50 => ⟨S20x3072x10x10, .f32⟩
  | 51 => ⟨S_, .f32⟩
  | 52 => ⟨S_, .f32⟩
  | 53 => ⟨S20x3072x10x10, .f32⟩
  | 54 => ⟨S20x3072x10x10, .f32⟩
  | 55 => ⟨S20x3072x1x1, .f32⟩
  | 56 => ⟨S20x3072x1x1, .f32⟩
  | 57 => ⟨S_, .f32⟩
  | 58 => ⟨S20x3072x1x1, .f32⟩
  | 59 => ⟨S20x3072x1x1, .f32⟩
  | 60 => ⟨S_, .f32⟩
  | 61 => ⟨S20x3072x1x1, .f32⟩
  | 62 => ⟨S20x3072x1x1, .f32⟩
  | 63 => ⟨S20x3072x1x1, .f32⟩
  | 64 => ⟨S20x3072x9x9, .f32⟩
  | 65 => ⟨S20x3072x9x9, .f32⟩
  | 66 => ⟨S20x3072x9x9, .f32⟩
  | 67 => ⟨S_, .f32⟩
  | 68 => ⟨S20x3072x1x1, .f32⟩
  | 69 => ⟨S20x3072x1x1, .f32⟩
  | 70 => ⟨S20x3072x1x1, .f32⟩
  | 71 => ⟨S20x3072x9x9, .f32⟩
  | 72 => ⟨S20x3072x9x9, .f32⟩
  | 73 => ⟨S20x3072x9x9, .f32⟩
  | 74 => ⟨S20x3072x9x9, .f32⟩
  | 75 => ⟨S_, .f32⟩
  | 76 => ⟨S20x3072x1x1, .f32⟩
  | 77 => ⟨S20x3072x1x1, .f32⟩
  | 78 => ⟨S20x3072x1x1, .f32⟩
  | 79 => ⟨S20x3072x9x9, .f32⟩
  | 80 => ⟨S20x3072x9x9, .f32⟩
  | 81 => ⟨S20x3072x9x9, .f32⟩
  | 82 => ⟨S20x3072x9x9, .f32⟩
  | 83 => ⟨S20x3072x1x1, .f32⟩
  | 84 => ⟨S20x3072x9x9, .f32⟩
  | 85 => ⟨S20x3072x9x9, .f32⟩
  | 86 => ⟨S20x3072x9x9, .f32⟩
  | 87 => ⟨S20x3072x9x9, .f32⟩
  | 88 => ⟨S20x3072x9x9, .f32⟩
  | 89 => ⟨S20x3072x81, .f32⟩
  | 90 => ⟨S20x3072x1, .f32⟩
  | 91 => ⟨S20x3072x81, .f32⟩
  | 92 => ⟨S20x3072x81, .f32⟩
  | 93 => ⟨S20x3072x1, .f32⟩
  | 94 => ⟨S20x3072, .f32⟩
  | 95 => ⟨S_, .f32⟩
  | 96 => ⟨S20x3072, .f32⟩
  | 97 => ⟨S20x3072, .f32⟩
  | 98 => ⟨S_, .f32⟩
  | 99 => ⟨S20x3072, .f32⟩
  | 100 => ⟨S20x3072, .f32⟩
  | 101 => ⟨S20x3072, .f32⟩
  | 102 => ⟨S20x3072, .f32⟩
  | 103 => ⟨S20x3072, .f32⟩
  | 104 => ⟨S20x3072, .f32⟩
  | 105 => ⟨S20x3072, .i32⟩
  | 106 => ⟨S20x3072, .i32⟩
  | 107 => ⟨S10, .i32⟩
  | 108 => ⟨S_, .i32⟩
  | 109 => ⟨S10, .i32⟩
  | 110 => ⟨S10, .i32⟩
  | 111 => ⟨S20x3072x1, .i32⟩
  | 112 => ⟨S1x1x10, .i32⟩
  | 113 => ⟨S20x3072x10, .i32⟩
  | 114 => ⟨S20x3072x10, .i32⟩
  | 115 => ⟨S20x3072x10, .i32⟩
  | 116 => ⟨S20x3072x1, .i32⟩
  | 117 => ⟨S1x1x10, .i32⟩
  | 118 => ⟨S20x3072x10, .i32⟩
  | 119 => ⟨S20x3072x10, .i32⟩
  | 120 => ⟨S20x3072x10, .i32⟩
  | 121 => ⟨S_, .i32⟩
  | 122 => ⟨S20x3072x10, .i32⟩
  | 123 => ⟨S20x3072x10, .i1⟩
  | 124 => ⟨S_, .i32⟩
  | 125 => ⟨S20x3072x10, .i32⟩
  | 126 => ⟨S20x3072x10, .i1⟩
  | 127 => ⟨S20x3072x10, .i1⟩
  | _ => ⟨S20x3072x48x64, .i8⟩

abbrev hbmTy0_2 (i : Nat) : BufTy := match i % 128 with
  | 0 => ⟨S20x3072x10x1, .i1⟩
  | 1 => ⟨S_, .i32⟩
  | 2 => ⟨S20x3072x10, .i32⟩
  | 3 => ⟨S20x3072x10, .i1⟩
  | 4 => ⟨S_, .i32⟩
  | 5 => ⟨S20x3072x10, .i32⟩
  | 6 => ⟨S20x3072x10, .i1⟩
  | 7 => ⟨S20x3072x10, .i1⟩
  | 8 => ⟨S20x3072x1x10, .i1⟩
  | 9 => ⟨S20x3072x10x10, .i1⟩
  | 10 => ⟨S20x3072x10x10, .i1⟩
  | 11 => ⟨S20x3072x10x10, .i1⟩
  | 12 => ⟨S_, .i32⟩
  | 13 => ⟨S_, .i32⟩
  | 14 => ⟨S_, .i32⟩
  | 15 => ⟨S20x3072x10, .i32⟩
  | 16 => ⟨S20x3072x10, .i32⟩
  | 17 => ⟨S_, .i32⟩
  | 18 => ⟨S20x3072x10, .i32⟩
  | 19 => ⟨S20x3072x10, .i32⟩
  | 20 => ⟨S20x3072x10x1, .i32⟩
  | 21 => ⟨S_, .i32⟩
  | 22 => ⟨S20x3072x10x1, .i32⟩
  | 23 => ⟨S20x3072x10x1, .i32⟩
  | 24 => ⟨S_, .i32⟩
  | 25 => ⟨S_, .i32⟩
  | 26 => ⟨S_, .i32⟩
  | 27 => ⟨S20x3072x10, .i32⟩
  | 28 => ⟨S20x3072x10, .i32⟩
  | 29 => ⟨S_, .i32⟩
  | 30 => ⟨S20x3072x10, .i32⟩
  | 31 => ⟨S20x3072x10, .i32⟩
  | 32 => ⟨S20x3072x1x10, .i32⟩
  | 33 => ⟨S20x3072x10x10, .i32⟩
  | 34 => ⟨S20x3072x10x10, .i32⟩
  | 35 => ⟨S20x3072x10x10, .i32⟩
  | 36 => ⟨S20x3072x100, .i32⟩
  | 37 => ⟨S20x3072x768, .i8⟩
  | 38 => ⟨S_, .i32⟩
  | 39 => ⟨S20x3072x100, .i32⟩
  | 40 => ⟨S20x3072x100, .i1⟩
  | 41 => ⟨S_, .i32⟩
  | 42 => ⟨S20x3072x100, .i32⟩
  | 43 => ⟨S20x3072x100, .i32⟩
  | 44 => ⟨S20x3072x100, .i32⟩
  | 45 => ⟨S20x3072x100x1, .i32⟩
  | 46 => ⟨S1, .i32⟩
  | 47 => ⟨S_, .i32⟩
  | 48 => ⟨S20x3072x100x1, .i32⟩
  | 49 => ⟨S20x3072x100x1, .i1⟩
  | 50 => ⟨S1x1x1x1, .i32⟩
  | 51 => ⟨S20x3072x100x1, .i32⟩
  | 52 => ⟨S20x3072x100x1, .i1⟩
  | 53 => ⟨S20x3072x100x1, .i1⟩
  | 54 => ⟨S_, .i1⟩
  | 55 => ⟨S20x3072x100, .i1⟩
  | 56 => ⟨S20x3072x100, .i8⟩
  | 57 => ⟨S_, .i8⟩
  | 58 => ⟨S20x3072x100, .i8⟩
  | 59 => ⟨S20x3072x100, .i8⟩
  | 60 => ⟨S20x3072x100, .i32⟩
  | 61 => ⟨S20x3072x100, .f32⟩
  | 62 => ⟨S20x3072x10x10, .f32⟩
  | 63 => ⟨S_, .f32⟩
  | 64 => ⟨S_, .f32⟩
  | 65 => ⟨S20x3072x10x10, .f32⟩
  | 66 => ⟨S20x3072x10x10, .f32⟩
  | 67 => ⟨S20x3072x1x1, .f32⟩
  | 68 => ⟨S20x3072x1x1, .f32⟩
  | 69 => ⟨S_, .f32⟩
  | 70 => ⟨S20x3072x1x1, .f32⟩
  | 71 => ⟨S20x3072x1x1, .f32⟩
  | 72 => ⟨S_, .f32⟩
  | 73 => ⟨S20x3072x1x1, .f32⟩
  | 74 => ⟨S20x3072x1x1, .f32⟩
  | 75 => ⟨S20x3072x1x1, .f32⟩
  | 76 => ⟨S20x3072x9x9, .f32⟩
  | 77 => ⟨S20x3072x9x9, .f32⟩
  | 78 => ⟨S20x3072x9x9, .f32⟩
  | 79 => ⟨S_, .f32⟩
  | 80 => ⟨S20x3072x1x1, .f32⟩
  | 81 => ⟨S20x3072x1x1, .f32⟩
  | 82 => ⟨S20x3072x1x1, .f32⟩
  | 83 => ⟨S20x3072x9x9, .f32⟩
  | 84 => ⟨S20x3072x9x9, .f32⟩
  | 85 => ⟨S20x3072x9x9, .f32⟩
  | 86 => ⟨S20x3072x9x9, .f32⟩
  | 87 => ⟨S_, .f32⟩
  | 88 => ⟨S20x3072x1x1, .f32⟩
  | 89 => ⟨S20x3072x1x1, .f32⟩
  | 90 => ⟨S20x3072x1x1, .f32⟩
  | 91 => ⟨S20x3072x9x9, .f32⟩
  | 92 => ⟨S20x3072x9x9, .f32⟩
  | 93 => ⟨S20x3072x9x9, .f32⟩
  | 94 => ⟨S20x3072x9x9, .f32⟩
  | 95 => ⟨S20x3072x1x1, .f32⟩
  | 96 => ⟨S20x3072x9x9, .f32⟩
  | 97 => ⟨S20x3072x9x9, .f32⟩
  | 98 => ⟨S20x3072x9x9, .f32⟩
  | 99 => ⟨S20x3072x9x9, .f32⟩
  | 100 => ⟨S20x3072x9x9, .f32⟩
  | 101 => ⟨S20x3072x81, .f32⟩
  | 102 => ⟨S20x3072x1, .f32⟩
  | 103 => ⟨S20x3072x81, .f32⟩
  | 104 => ⟨S20x3072x81, .f32⟩
  | 105 => ⟨S20x3072x1, .f32⟩
  | 106 => ⟨S20x3072, .f32⟩
  | 107 => ⟨S_, .f32⟩
  | 108 => ⟨S20x3072, .f32⟩
  | 109 => ⟨S20x3072, .f32⟩
  | 110 => ⟨S_, .f32⟩
  | 111 => ⟨S20x3072, .f32⟩
  | 112 => ⟨S20x3072, .f32⟩
  | 113 => ⟨S20x3072, .f32⟩
  | 114 => ⟨S20x3072, .f32⟩
  | 115 => ⟨S20x3072, .f32⟩
  | 116 => ⟨S20x3072, .f32⟩
  | 117 => ⟨S20x3072, .i32⟩
  | 118 => ⟨S20x3072, .i32⟩
  | 119 => ⟨S10, .i32⟩
  | 120 => ⟨S_, .i32⟩
  | 121 => ⟨S10, .i32⟩
  | 122 => ⟨S10, .i32⟩
  | 123 => ⟨S20x3072x1, .i32⟩
  | 124 => ⟨S1x1x10, .i32⟩
  | 125 => ⟨S20x3072x10, .i32⟩
  | 126 => ⟨S20x3072x10, .i32⟩
  | 127 => ⟨S20x3072x10, .i32⟩
  | _ => ⟨S20x3072x48x64, .i8⟩

abbrev hbmTy0_3 (i : Nat) : BufTy := match i % 128 with
  | 0 => ⟨S20x3072x1, .i32⟩
  | 1 => ⟨S1x1x10, .i32⟩
  | 2 => ⟨S20x3072x10, .i32⟩
  | 3 => ⟨S20x3072x10, .i32⟩
  | 4 => ⟨S20x3072x10, .i32⟩
  | 5 => ⟨S_, .i32⟩
  | 6 => ⟨S20x3072x10, .i32⟩
  | 7 => ⟨S20x3072x10, .i1⟩
  | 8 => ⟨S_, .i32⟩
  | 9 => ⟨S20x3072x10, .i32⟩
  | 10 => ⟨S20x3072x10, .i1⟩
  | 11 => ⟨S20x3072x10, .i1⟩
  | 12 => ⟨S20x3072x10x1, .i1⟩
  | 13 => ⟨S_, .i32⟩
  | 14 => ⟨S20x3072x10, .i32⟩
  | 15 => ⟨S20x3072x10, .i1⟩
  | 16 => ⟨S_, .i32⟩
  | 17 => ⟨S20x3072x10, .i32⟩
  | 18 => ⟨S20x3072x10, .i1⟩
  | 19 => ⟨S20x3072x10, .i1⟩
  | 20 => ⟨S20x3072x1x10, .i1⟩
  | 21 => ⟨S20x3072x10x10, .i1⟩
  | 22 => ⟨S20x3072x10x10, .i1⟩
  | 23 => ⟨S20x3072x10x10, .i1⟩
  | 24 => ⟨S_, .i32⟩
  | 25 => ⟨S_, .i32⟩
  | 26 => ⟨S_, .i32⟩
  | 27 => ⟨S20x3072x10, .i32⟩
  | 28 => ⟨S20x3072x10, .i32⟩
  | 29 => ⟨S_, .i32⟩
  | 30 => ⟨S20x3072x10, .i32⟩
  | 31 => ⟨S20x3072x10, .i32⟩
  | 32 => ⟨S20x3072x10x1, .i32⟩
  | 33 => ⟨S_, .i32⟩
  | 34 => ⟨S20x3072x10x1, .i32⟩
  | 35 => ⟨S20x3072x10x1, .i32⟩
  | 36 => ⟨S_, .i32⟩
  | 37 => ⟨S_, .i32⟩
  | 38 => ⟨S_, .i32⟩
  | 39 => ⟨S20x3072x10, .i32⟩
  | 40 => ⟨S20x3072x10, .i32⟩
  | 41 => ⟨S_, .i32⟩
  | 42 => ⟨S20x3072x10, .i32⟩
  | 43 => ⟨S20x3072x10, .i32⟩
  | 44 => ⟨S20x3072x1x10, .i32⟩
  | 45 => ⟨S20x3072x10x10, .i32⟩
  | 46 => ⟨S20x3072x10x10, .i32⟩
  | 47 => ⟨S20x3072x10x10, .i32⟩
  | 48 => ⟨S20x3072x100, .i32⟩
  | 49 => ⟨S20x3072x192, .i8⟩
  | 50 => ⟨S_, .i32⟩
  | 51 => ⟨S20x3072x100, .i32⟩
  | 52 => ⟨S20x3072x100, .i1⟩
  | 53 => ⟨S_, .i32⟩
  | 54 => ⟨S20x3072x100, .i32⟩
  | 55 => ⟨S20x3072x100, .i32⟩
  | 56 => ⟨S20x3072x100, .i32⟩
  | 57 => ⟨S20x3072x100x1, .i32⟩
  | 58 => ⟨S1, .i32⟩
  | 59 => ⟨S_, .i32⟩
  | 60 => ⟨S20x3072x100x1, .i32⟩
  | 61 => ⟨S20x3072x100x1, .i1⟩
  | 62 => ⟨S1x1x1x1, .i32⟩
  | 63 => ⟨S20x3072x100x1, .i32⟩
  | 64 => ⟨S20x3072x100x1, .i1⟩
  | 65 => ⟨S20x3072x100x1, .i1⟩
  | 66 => ⟨S_, .i1⟩
  | 67 => ⟨S20x3072x100, .i1⟩
  | 68 => ⟨S20x3072x100, .i8⟩
  | 69 => ⟨S_, .i8⟩
  | 70 => ⟨S20x3072x100, .i8⟩
  | 71 => ⟨S20x3072x100, .i8⟩
  | 72 => ⟨S20x3072x100, .i32⟩
  | 73 => ⟨S20x3072x100, .f32⟩
  | 74 => ⟨S20x3072x10x10, .f32⟩
  | 75 => ⟨S_, .f32⟩
  | 76 => ⟨S_, .f32⟩
  | 77 => ⟨S20x3072x10x10, .f32⟩
  | 78 => ⟨S20x3072x10x10, .f32⟩
  | 79 => ⟨S20x3072x1x1, .f32⟩
  | 80 => ⟨S20x3072x1x1, .f32⟩
  | 81 => ⟨S_, .f32⟩
  | 82 => ⟨S20x3072x1x1, .f32⟩
  | 83 => ⟨S20x3072x1x1, .f32⟩
  | 84 => ⟨S_, .f32⟩
  | 85 => ⟨S20x3072x1x1, .f32⟩
  | 86 => ⟨S20x3072x1x1, .f32⟩
  | 87 => ⟨S20x3072x1x1, .f32⟩
  | 88 => ⟨S20x3072x9x9, .f32⟩
  | 89 => ⟨S20x3072x9x9, .f32⟩
  | 90 => ⟨S20x3072x9x9, .f32⟩
  | 91 => ⟨S_, .f32⟩
  | 92 => ⟨S20x3072x1x1, .f32⟩
  | 93 => ⟨S20x3072x1x1, .f32⟩
  | 94 => ⟨S20x3072x1x1, .f32⟩
  | 95 => ⟨S20x3072x9x9, .f32⟩
  | 96 => ⟨S20x3072x9x9, .f32⟩
  | 97 => ⟨S20x3072x9x9, .f32⟩
  | 98 => ⟨S20x3072x9x9, .f32⟩
  | 99 => ⟨S_, .f32⟩
  | 100 => ⟨S20x3072x1x1, .f32⟩
  | 101 => ⟨S20x3072x1x1, .f32⟩
  | 102 => ⟨S20x3072x1x1, .f32⟩
  | 103 => ⟨S20x3072x9x9, .f32⟩
  | 104 => ⟨S20x3072x9x9, .f32⟩
  | 105 => ⟨S20x3072x9x9, .f32⟩
  | 106 => ⟨S20x3072x9x9, .f32⟩
  | 107 => ⟨S20x3072x1x1, .f32⟩
  | 108 => ⟨S20x3072x9x9, .f32⟩
  | 109 => ⟨S20x3072x9x9, .f32⟩
  | 110 => ⟨S20x3072x9x9, .f32⟩
  | 111 => ⟨S20x3072x9x9, .f32⟩
  | 112 => ⟨S20x3072x9x9, .f32⟩
  | 113 => ⟨S20x3072x81, .f32⟩
  | 114 => ⟨S20x3072x1, .f32⟩
  | 115 => ⟨S20x3072x81, .f32⟩
  | 116 => ⟨S20x3072x81, .f32⟩
  | 117 => ⟨S20x3072x1, .f32⟩
  | 118 => ⟨S20x3072, .f32⟩
  | 119 => ⟨S_, .f32⟩
  | 120 => ⟨S20x3072, .f32⟩
  | 121 => ⟨S20x3072, .f32⟩
  | 122 => ⟨S_, .f32⟩
  | 123 => ⟨S20x3072, .f32⟩
  | 124 => ⟨S20x3072, .f32⟩
  | 125 => ⟨S20x3072, .f32⟩
  | 126 => ⟨S20x3072, .f32⟩
  | 127 => ⟨S20x3072, .f32⟩
  | _ => ⟨S20x3072x48x64, .i8⟩

abbrev hbmTy0_4 (i : Nat) : BufTy := match i % 128 with
  | 0 => ⟨S20x3072, .f32⟩
  | 1 => ⟨S20x3072, .i32⟩
  | 2 => ⟨S20x3072, .i32⟩
  | 3 => ⟨S10, .i32⟩
  | 4 => ⟨S_, .i32⟩
  | 5 => ⟨S10, .i32⟩
  | 6 => ⟨S10, .i32⟩
  | 7 => ⟨S20x3072x1, .i32⟩
  | 8 => ⟨S1x1x10, .i32⟩
  | 9 => ⟨S20x3072x10, .i32⟩
  | 10 => ⟨S20x3072x10, .i32⟩
  | 11 => ⟨S20x3072x10, .i32⟩
  | 12 => ⟨S20x3072x1, .i32⟩
  | 13 => ⟨S1x1x10, .i32⟩
  | 14 => ⟨S20x3072x10, .i32⟩
  | 15 => ⟨S20x3072x10, .i32⟩
  | 16 => ⟨S20x3072x10, .i32⟩
  | 17 => ⟨S_, .i32⟩
  | 18 => ⟨S20x3072x10, .i32⟩
  | 19 => ⟨S20x3072x10, .i1⟩
  | 20 => ⟨S_, .i32⟩
  | 21 => ⟨S20x3072x10, .i32⟩
  | 22 => ⟨S20x3072x10, .i1⟩
  | 23 => ⟨S20x3072x10, .i1⟩
  | 24 => ⟨S20x3072x10x1, .i1⟩
  | 25 => ⟨S_, .i32⟩
  | 26 => ⟨S20x3072x10, .i32⟩
  | 27 => ⟨S20x3072x10, .i1⟩
  | 28 => ⟨S_, .i32⟩
  | 29 => ⟨S20x3072x10, .i32⟩
  | 30 => ⟨S20x3072x10, .i1⟩
  | 31 => ⟨S20x3072x10, .i1⟩
  | 32 => ⟨S20x3072x1x10, .i1⟩
  | 33 => ⟨S20x3072x10x10, .i1⟩
  | 34 => ⟨S20x3072x10x10, .i1⟩
  | 35 => ⟨S20x3072x10x10, .i1⟩
  | 36 => ⟨S_, .i32⟩
  | 37 => ⟨S_, .i32⟩
  | 38 => ⟨S_, .i32⟩
  | 39 => ⟨S20x3072x10, .i32⟩
  | 40 => ⟨S20x3072x10, .i32⟩
  | 41 => ⟨S_, .i32⟩
  | 42 => ⟨S20x3072x10, .i32⟩
  | 43 => ⟨S20x3072x10, .i32⟩
  | 44 => ⟨S20x3072x10x1, .i32⟩
  | 45 => ⟨S_, .i32⟩
  | 46 => ⟨S20x3072x10x1, .i32⟩
  | 47 => ⟨S20x3072x10x1, .i32⟩
  | 48 => ⟨S_, .i32⟩
  | 49 => ⟨S_, .i32⟩
  | 50 => ⟨S_, .i32⟩
  | 51 => ⟨S20x3072x10, .i32⟩
  | 52 => ⟨S20x3072x10, .i32⟩
  | 53 => ⟨S_, .i32⟩
  | 54 => ⟨S20x3072x10, .i32⟩
  | 55 => ⟨S20x3072x10, .i32⟩
  | 56 => ⟨S20x3072x1x10, .i32⟩
  | 57 => ⟨S20x3072x10x10, .i32⟩
  | 58 => ⟨S20x3072x10x10, .i32⟩
  | 59 => ⟨S20x3072x10x10, .i32⟩
  | 60 => ⟨S20x3072x100, .i32⟩
  | 61 => ⟨S20x3072x48, .i8⟩
  | 62 => ⟨S_, .i32⟩
  | 63 => ⟨S20x3072x100, .i32⟩
  | 64 => ⟨S20x3072x100, .i1⟩
  | 65 => ⟨S_, .i32⟩
  | 66 => ⟨S20x3072x100, .i32⟩
  | 67 => ⟨S20x3072x100, .i32⟩
  | 68 => ⟨S20x3072x100, .i32⟩
  | 69 => ⟨S20x3072x100x1, .i32⟩
  | 70 => ⟨S1, .i32⟩
  | 71 => ⟨S_, .i32⟩
  | 72 => ⟨S20x3072x100x1, .i32⟩
  | 73 => ⟨S20x3072x100x1, .i1⟩
  | 74 => ⟨S1x1x1x1, .i32⟩
  | 75 => ⟨S20x3072x100x1, .i32⟩
  | 76 => ⟨S20x3072x100x1, .i1⟩
  | 77 => ⟨S20x3072x100x1, .i1⟩
  | 78 => ⟨S_, .i1⟩
  | 79 => ⟨S20x3072x100, .i1⟩
  | 80 => ⟨S20x3072x100, .i8⟩
  | 81 => ⟨S_, .i8⟩
  | 82 => ⟨S20x3072x100, .i8⟩
  | 83 => ⟨S20x3072x100, .i8⟩
  | 84 => ⟨S20x3072x100, .i32⟩
  | 85 => ⟨S20x3072x100, .f32⟩
  | 86 => ⟨S20x3072x10x10, .f32⟩
  | 87 => ⟨S_, .f32⟩
  | 88 => ⟨S_, .f32⟩
  | 89 => ⟨S20x3072x10x10, .f32⟩
  | 90 => ⟨S20x3072x10x10, .f32⟩
  | 91 => ⟨S20x3072x1x1, .f32⟩
  | 92 => ⟨S20x3072x1x1, .f32⟩
  | 93 => ⟨S_, .f32⟩
  | 94 => ⟨S20x3072x1x1, .f32⟩
  | 95 => ⟨S20x3072x1x1, .f32⟩
  | 96 => ⟨S_, .f32⟩
  | 97 => ⟨S20x3072x1x1, .f32⟩
  | 98 => ⟨S20x3072x1x1, .f32⟩
  | 99 => ⟨S20x3072x1x1, .f32⟩
  | 100 => ⟨S20x3072x9x9, .f32⟩
  | 101 => ⟨S20x3072x9x9, .f32⟩
  | 102 => ⟨S20x3072x9x9, .f32⟩
  | 103 => ⟨S_, .f32⟩
  | 104 => ⟨S20x3072x1x1, .f32⟩
  | 105 => ⟨S20x3072x1x1, .f32⟩
  | 106 => ⟨S20x3072x1x1, .f32⟩
  | 107 => ⟨S20x3072x9x9, .f32⟩
  | 108 => ⟨S20x3072x9x9, .f32⟩
  | 109 => ⟨S20x3072x9x9, .f32⟩
  | 110 => ⟨S20x3072x9x9, .f32⟩
  | 111 => ⟨S_, .f32⟩
  | 112 => ⟨S20x3072x1x1, .f32⟩
  | 113 => ⟨S20x3072x1x1, .f32⟩
  | 114 => ⟨S20x3072x1x1, .f32⟩
  | 115 => ⟨S20x3072x9x9, .f32⟩
  | 116 => ⟨S20x3072x9x9, .f32⟩
  | 117 => ⟨S20x3072x9x9, .f32⟩
  | 118 => ⟨S20x3072x9x9, .f32⟩
  | 119 => ⟨S20x3072x1x1, .f32⟩
  | 120 => ⟨S20x3072x9x9, .f32⟩
  | 121 => ⟨S20x3072x9x9, .f32⟩
  | 122 => ⟨S20x3072x9x9, .f32⟩
  | 123 => ⟨S20x3072x9x9, .f32⟩
  | 124 => ⟨S20x3072x9x9, .f32⟩
  | 125 => ⟨S20x3072x81, .f32⟩
  | 126 => ⟨S20x3072x1, .f32⟩
  | 127 => ⟨S20x3072x81, .f32⟩
  | _ => ⟨S20x3072x48x64, .i8⟩

abbrev hbmTy0_5 (i : Nat) : BufTy := match i % 128 with
  | 0 => ⟨S20x3072x81, .f32⟩
  | 1 => ⟨S20x3072x324, .f32⟩
  | 2 => ⟨S20x3072x324, .f32⟩
  | 3 => ⟨S_, .f32⟩
  | 4 => ⟨S20x3072, .f32⟩
  | 5 => ⟨S_, .f32⟩
  | 6 => ⟨S20x3072, .f32⟩
  | 7 => ⟨S20x3072, .i1⟩
  | 8 => ⟨S_, .f32⟩
  | 9 => ⟨S20x3072, .f32⟩
  | 10 => ⟨S20x3072, .f32⟩
  | 11 => ⟨S_, .f32⟩
  | 12 => ⟨S_, .f32⟩
  | 13 => ⟨S20x3072, .f32⟩
  | 14 => ⟨S20x3072, .f32⟩
  | 15 => ⟨S20x3072x1, .f32⟩
  | 16 => ⟨S20x3072x324, .f32⟩
  | 17 => ⟨S20x3072x324, .f32⟩
  | 18 => ⟨S20x3072x324, .f32⟩
  | 19 => ⟨S_, .f32⟩
  | 20 => ⟨S_, .f32⟩
  | 21 => ⟨S_, .f32⟩
  | 22 => ⟨S20x3072x324, .f32⟩
  | 23 => ⟨S20x3072x324, .f32⟩
  | 24 => ⟨S_, .f32⟩
  | 25 => ⟨S20x3072x324, .f32⟩
  | 26 => ⟨S20x3072x324, .f32⟩
  | 27 => ⟨S20x3072x324, .i32⟩
  | 28 => ⟨S20x3072x324, .i8⟩
  | _ => ⟨S20x3072x48x64, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S20x3072x48x64, .i8⟩

abbrev bufTy : (tb : Table) → Fin (tcTables nBuf tb) → BufTy
  | .hbm, ⟨i, _⟩ => hbmTy i
  | _, _ => ⟨S20x3072x48x64, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v3 : Ref sig .tc := ⟨.hbm, 47, rfl⟩
abbrev main_c_1 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_1 : Ref sig .tc := ⟨.hbm, 56, rfl⟩
abbrev main_call2_v5 : Ref sig .tc := ⟨.hbm, 57, rfl⟩
abbrev main_call2_v6 : Ref sig .tc := ⟨.hbm, 58, rfl⟩
abbrev main_call2_c_2 : Ref sig .tc := ⟨.hbm, 59, rfl⟩
abbrev main_call2_v7 : Ref sig .tc := ⟨.hbm, 60, rfl⟩
abbrev main_call2_v8 : Ref sig .tc := ⟨.hbm, 61, rfl⟩
abbrev main_call2_c_3 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_v4 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_cst : Ref sig .tc := ⟨.hbm, 83, rfl⟩
abbrev main_v18 : Ref sig .tc := ⟨.hbm, 84, rfl⟩
abbrev main_v19 : Ref sig .tc := ⟨.hbm, 85, rfl⟩
abbrev main_cst_2 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_c_3 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_c_4 : Ref sig .tc := ⟨.hbm, 109, rfl⟩
abbrev main_v41 : Ref sig .tc := ⟨.hbm, 110, rfl⟩
abbrev main_v42 : Ref sig .tc := ⟨.hbm, 111, rfl⟩
abbrev main_c_5 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_c_6 : Ref sig .tc := ⟨.hbm, 117, rfl⟩
abbrev main_v47 : Ref sig .tc := ⟨.hbm, 118, rfl⟩
abbrev main_v48 : Ref sig .tc := ⟨.hbm, 119, rfl⟩
abbrev main_c_7 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_c_8 : Ref sig .tc := ⟨.hbm, 128, rfl⟩
abbrev main_c_9 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v56 : Ref sig .tc := ⟨.hbm, 135, rfl⟩
abbrev main_v57 : Ref sig .tc := ⟨.hbm, 136, rfl⟩
abbrev main_c_10 : Ref sig .tc := ⟨.hbm, 137, rfl⟩
abbrev main_v58 : Ref sig .tc := ⟨.hbm, 138, rfl⟩
abbrev main_v59 : Ref sig .tc := ⟨.hbm, 139, rfl⟩
abbrev main_c_11 : Ref sig .tc := ⟨.hbm, 140, rfl⟩
abbrev main_c_12 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_call5_c : Ref sig .tc := ⟨.hbm, 154, rfl⟩
abbrev main_call5_v0 : Ref sig .tc := ⟨.hbm, 155, rfl⟩
abbrev main_call5_v1 : Ref sig .tc := ⟨.hbm, 156, rfl⟩
abbrev main_call5_c_0 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_call5_v5 : Ref sig .tc := ⟨.hbm, 161, rfl⟩
abbrev main_call5_c_1 : Ref sig .tc := ⟨.hbm, 162, rfl⟩
abbrev main_call5_c_2 : Ref sig .tc := ⟨.hbm, 163, rfl⟩
abbrev main_call5_v6 : Ref sig .tc := ⟨.hbm, 164, rfl⟩
abbrev main_call5_v7 : Ref sig .tc := ⟨.hbm, 165, rfl⟩
abbrev main_call5_v8 : Ref sig .tc := ⟨.hbm, 166, rfl⟩
abbrev main_call5_v9 : Ref sig .tc := ⟨.hbm, 167, rfl⟩
abbrev main_call5_v10 : Ref sig .tc := ⟨.hbm, 168, rfl⟩
abbrev main_call5_v11 : Ref sig .tc := ⟨.hbm, 169, rfl⟩
abbrev main_call5_c_3 : Ref sig .tc := ⟨.hbm, 170, rfl⟩
abbrev main_call5_v12 : Ref sig .tc := ⟨.hbm, 171, rfl⟩
abbrev main_call5_v13 : Ref sig .tc := ⟨.hbm, 172, rfl⟩
abbrev main_call5_c_4 : Ref sig .tc := ⟨.hbm, 173, rfl⟩
abbrev main_call5_v14 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_cst_13 : Ref sig .tc := ⟨.hbm, 179, rfl⟩
abbrev main_call6_v0 : Ref sig .tc := ⟨.hbm, 180, rfl⟩
abbrev main_call6_v1 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_cst_14 : Ref sig .tc := ⟨.hbm, 185, rfl⟩
abbrev main_v74 : Ref sig .tc := ⟨.hbm, 186, rfl⟩
abbrev main_v75 : Ref sig .tc := ⟨.hbm, 187, rfl⟩
abbrev main_cst_15 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_cst_16 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_cst_17 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_cst_18 : Ref sig .tc := ⟨.hbm, 223, rfl⟩
abbrev main_v108 : Ref sig .tc := ⟨.hbm, 224, rfl⟩
abbrev main_v109 : Ref sig .tc := ⟨.hbm, 225, rfl⟩
abbrev main_cst_19 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_c_20 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_c_21 : Ref sig .tc := ⟨.hbm, 249, rfl⟩
abbrev main_v131 : Ref sig .tc := ⟨.hbm, 250, rfl⟩
abbrev main_v132 : Ref sig .tc := ⟨.hbm, 251, rfl⟩
abbrev main_c_22 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_c_23 : Ref sig .tc := ⟨.hbm, 257, rfl⟩
abbrev main_v137 : Ref sig .tc := ⟨.hbm, 258, rfl⟩
abbrev main_v138 : Ref sig .tc := ⟨.hbm, 259, rfl⟩
abbrev main_c_24 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev main_v144 : Ref sig .tc := ⟨.hbm, 266, rfl⟩
abbrev main_v145 : Ref sig .tc := ⟨.hbm, 267, rfl⟩
abbrev main_c_25 : Ref sig .tc := ⟨.hbm, 268, rfl⟩
abbrev main_c_26 : Ref sig .tc := ⟨.hbm, 269, rfl⟩
abbrev main_call7_v0 : Ref sig .tc := ⟨.hbm, 270, rfl⟩
abbrev main_call7_v1 : Ref sig .tc := ⟨.hbm, 271, rfl⟩
abbrev main_call7_v2 : Ref sig .tc := ⟨.hbm, 272, rfl⟩
abbrev main_call7_v3 : Ref sig .tc := ⟨.hbm, 273, rfl⟩
abbrev main_call7_v4 : Ref sig .tc := ⟨.hbm, 274, rfl⟩
abbrev main_v146 : Ref sig .tc := ⟨.hbm, 275, rfl⟩
abbrev main_v147 : Ref sig .tc := ⟨.hbm, 276, rfl⟩
abbrev main_c_27 : Ref sig .tc := ⟨.hbm, 277, rfl⟩
abbrev main_v148 : Ref sig .tc := ⟨.hbm, 278, rfl⟩
abbrev main_v149 : Ref sig .tc := ⟨.hbm, 279, rfl⟩
abbrev main_c_28 : Ref sig .tc := ⟨.hbm, 280, rfl⟩
abbrev main_c_29 : Ref sig .tc := ⟨.hbm, 281, rfl⟩
abbrev main_call8_v0 : Ref sig .tc := ⟨.hbm, 282, rfl⟩
abbrev main_call8_v1 : Ref sig .tc := ⟨.hbm, 283, rfl⟩
abbrev main_call8_v2 : Ref sig .tc := ⟨.hbm, 284, rfl⟩
abbrev main_call8_v3 : Ref sig .tc := ⟨.hbm, 285, rfl⟩
abbrev main_call8_v4 : Ref sig .tc := ⟨.hbm, 286, rfl⟩
abbrev main_v150 : Ref sig .tc := ⟨.hbm, 287, rfl⟩
abbrev main_v151 : Ref sig .tc := ⟨.hbm, 288, rfl⟩
abbrev main_v152 : Ref sig .tc := ⟨.hbm, 289, rfl⟩
abbrev main_v153 : Ref sig .tc := ⟨.hbm, 290, rfl⟩
abbrev main_v154 : Ref sig .tc := ⟨.hbm, 291, rfl⟩
abbrev main_v155 : Ref sig .tc := ⟨.hbm, 292, rfl⟩
abbrev main_v156 : Ref sig .tc := ⟨.hbm, 293, rfl⟩
abbrev main_call9_c : Ref sig .tc := ⟨.hbm, 294, rfl⟩
abbrev main_call9_v0 : Ref sig .tc := ⟨.hbm, 295, rfl⟩
abbrev main_call9_v1 : Ref sig .tc := ⟨.hbm, 296, rfl⟩
abbrev main_call9_c_0 : Ref sig .tc := ⟨.hbm, 297, rfl⟩
abbrev main_call9_v2 : Ref sig .tc := ⟨.hbm, 298, rfl⟩
abbrev main_call9_v3 : Ref sig .tc := ⟨.hbm, 299, rfl⟩
abbrev main_call9_v4 : Ref sig .tc := ⟨.hbm, 300, rfl⟩
abbrev main_call9_v5 : Ref sig .tc := ⟨.hbm, 301, rfl⟩
abbrev main_call9_c_1 : Ref sig .tc := ⟨.hbm, 302, rfl⟩
abbrev main_call9_c_2 : Ref sig .tc := ⟨.hbm, 303, rfl⟩
abbrev main_call9_v6 : Ref sig .tc := ⟨.hbm, 304, rfl⟩
abbrev main_call9_v7 : Ref sig .tc := ⟨.hbm, 305, rfl⟩
abbrev main_call9_v8 : Ref sig .tc := ⟨.hbm, 306, rfl⟩
abbrev main_call9_v9 : Ref sig .tc := ⟨.hbm, 307, rfl⟩
abbrev main_call9_v10 : Ref sig .tc := ⟨.hbm, 308, rfl⟩
abbrev main_call9_v11 : Ref sig .tc := ⟨.hbm, 309, rfl⟩
abbrev main_call9_c_3 : Ref sig .tc := ⟨.hbm, 310, rfl⟩
abbrev main_call9_v12 : Ref sig .tc := ⟨.hbm, 311, rfl⟩
abbrev main_call9_v13 : Ref sig .tc := ⟨.hbm, 312, rfl⟩
abbrev main_call9_c_4 : Ref sig .tc := ⟨.hbm, 313, rfl⟩
abbrev main_call9_v14 : Ref sig .tc := ⟨.hbm, 314, rfl⟩
abbrev main_v157 : Ref sig .tc := ⟨.hbm, 315, rfl⟩
abbrev main_v158 : Ref sig .tc := ⟨.hbm, 316, rfl⟩
abbrev main_v159 : Ref sig .tc := ⟨.hbm, 317, rfl⟩
abbrev main_v160 : Ref sig .tc := ⟨.hbm, 318, rfl⟩
abbrev main_cst_30 : Ref sig .tc := ⟨.hbm, 319, rfl⟩
abbrev main_call10_v0 : Ref sig .tc := ⟨.hbm, 320, rfl⟩
abbrev main_call10_v1 : Ref sig .tc := ⟨.hbm, 321, rfl⟩
abbrev main_v161 : Ref sig .tc := ⟨.hbm, 322, rfl⟩
abbrev main_v162 : Ref sig .tc := ⟨.hbm, 323, rfl⟩
abbrev main_v163 : Ref sig .tc := ⟨.hbm, 324, rfl⟩
abbrev main_cst_31 : Ref sig .tc := ⟨.hbm, 325, rfl⟩
abbrev main_v164 : Ref sig .tc := ⟨.hbm, 326, rfl⟩
abbrev main_v165 : Ref sig .tc := ⟨.hbm, 327, rfl⟩
abbrev main_cst_32 : Ref sig .tc := ⟨.hbm, 328, rfl⟩
abbrev main_v166 : Ref sig .tc := ⟨.hbm, 329, rfl⟩
abbrev main_v167 : Ref sig .tc := ⟨.hbm, 330, rfl⟩
abbrev main_v168 : Ref sig .tc := ⟨.hbm, 331, rfl⟩
abbrev main_v169 : Ref sig .tc := ⟨.hbm, 332, rfl⟩
abbrev main_v170 : Ref sig .tc := ⟨.hbm, 333, rfl⟩
abbrev main_v171 : Ref sig .tc := ⟨.hbm, 334, rfl⟩
abbrev main_cst_33 : Ref sig .tc := ⟨.hbm, 335, rfl⟩
abbrev main_v172 : Ref sig .tc := ⟨.hbm, 336, rfl⟩
abbrev main_v173 : Ref sig .tc := ⟨.hbm, 337, rfl⟩
abbrev main_v174 : Ref sig .tc := ⟨.hbm, 338, rfl⟩
abbrev main_v175 : Ref sig .tc := ⟨.hbm, 339, rfl⟩
abbrev main_v176 : Ref sig .tc := ⟨.hbm, 340, rfl⟩
abbrev main_v177 : Ref sig .tc := ⟨.hbm, 341, rfl⟩
abbrev main_v178 : Ref sig .tc := ⟨.hbm, 342, rfl⟩
abbrev main_cst_34 : Ref sig .tc := ⟨.hbm, 343, rfl⟩
abbrev main_v179 : Ref sig .tc := ⟨.hbm, 344, rfl⟩
abbrev main_v180 : Ref sig .tc := ⟨.hbm, 345, rfl⟩
abbrev main_v181 : Ref sig .tc := ⟨.hbm, 346, rfl⟩
abbrev main_v182 : Ref sig .tc := ⟨.hbm, 347, rfl⟩
abbrev main_v183 : Ref sig .tc := ⟨.hbm, 348, rfl⟩
abbrev main_v184 : Ref sig .tc := ⟨.hbm, 349, rfl⟩
abbrev main_v185 : Ref sig .tc := ⟨.hbm, 350, rfl⟩
abbrev main_v186 : Ref sig .tc := ⟨.hbm, 351, rfl⟩
abbrev main_v187 : Ref sig .tc := ⟨.hbm, 352, rfl⟩
abbrev main_v188 : Ref sig .tc := ⟨.hbm, 353, rfl⟩
abbrev main_v189 : Ref sig .tc := ⟨.hbm, 354, rfl⟩
abbrev main_v190 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_v195 : Ref sig .tc := ⟨.hbm, 360, rfl⟩
abbrev main_v196 : Ref sig .tc := ⟨.hbm, 361, rfl⟩
abbrev main_v197 : Ref sig .tc := ⟨.hbm, 362, rfl⟩
abbrev main_cst_35 : Ref sig .tc := ⟨.hbm, 363, rfl⟩
abbrev main_v198 : Ref sig .tc := ⟨.hbm, 364, rfl⟩
abbrev main_v199 : Ref sig .tc := ⟨.hbm, 365, rfl⟩
abbrev main_cst_36 : Ref sig .tc := ⟨.hbm, 366, rfl⟩
abbrev main_v200 : Ref sig .tc := ⟨.hbm, 367, rfl⟩
abbrev main_v201 : Ref sig .tc := ⟨.hbm, 368, rfl⟩
abbrev main_v202 : Ref sig .tc := ⟨.hbm, 369, rfl⟩
abbrev main_v203 : Ref sig .tc := ⟨.hbm, 370, rfl⟩
abbrev main_v204 : Ref sig .tc := ⟨.hbm, 371, rfl⟩
abbrev main_v205 : Ref sig .tc := ⟨.hbm, 372, rfl⟩
abbrev main_v206 : Ref sig .tc := ⟨.hbm, 373, rfl⟩
abbrev main_v207 : Ref sig .tc := ⟨.hbm, 374, rfl⟩
abbrev main_v208 : Ref sig .tc := ⟨.hbm, 375, rfl⟩
abbrev main_c_37 : Ref sig .tc := ⟨.hbm, 376, rfl⟩
abbrev main_v209 : Ref sig .tc := ⟨.hbm, 377, rfl⟩
abbrev main_v210 : Ref sig .tc := ⟨.hbm, 378, rfl⟩
abbrev main_v211 : Ref sig .tc := ⟨.hbm, 379, rfl⟩
abbrev main_v212 : Ref sig .tc := ⟨.hbm, 380, rfl⟩
abbrev main_v213 : Ref sig .tc := ⟨.hbm, 381, rfl⟩
abbrev main_v214 : Ref sig .tc := ⟨.hbm, 382, rfl⟩
abbrev main_v215 : Ref sig .tc := ⟨.hbm, 383, rfl⟩
abbrev main_v216 : Ref sig .tc := ⟨.hbm, 384, rfl⟩
abbrev main_v217 : Ref sig .tc := ⟨.hbm, 385, rfl⟩
abbrev main_v218 : Ref sig .tc := ⟨.hbm, 386, rfl⟩
abbrev main_v219 : Ref sig .tc := ⟨.hbm, 387, rfl⟩
abbrev main_v220 : Ref sig .tc := ⟨.hbm, 388, rfl⟩
abbrev main_c_38 : Ref sig .tc := ⟨.hbm, 389, rfl⟩
abbrev main_v221 : Ref sig .tc := ⟨.hbm, 390, rfl⟩
abbrev main_v222 : Ref sig .tc := ⟨.hbm, 391, rfl⟩
abbrev main_c_39 : Ref sig .tc := ⟨.hbm, 392, rfl⟩
abbrev main_v223 : Ref sig .tc := ⟨.hbm, 393, rfl⟩
abbrev main_v224 : Ref sig .tc := ⟨.hbm, 394, rfl⟩
abbrev main_v225 : Ref sig .tc := ⟨.hbm, 395, rfl⟩
abbrev main_v226 : Ref sig .tc := ⟨.hbm, 396, rfl⟩
abbrev main_c_40 : Ref sig .tc := ⟨.hbm, 397, rfl⟩
abbrev main_v227 : Ref sig .tc := ⟨.hbm, 398, rfl⟩
abbrev main_v228 : Ref sig .tc := ⟨.hbm, 399, rfl⟩
abbrev main_c_41 : Ref sig .tc := ⟨.hbm, 400, rfl⟩
abbrev main_v229 : Ref sig .tc := ⟨.hbm, 401, rfl⟩
abbrev main_v230 : Ref sig .tc := ⟨.hbm, 402, rfl⟩
abbrev main_v231 : Ref sig .tc := ⟨.hbm, 403, rfl⟩
abbrev main_v232 : Ref sig .tc := ⟨.hbm, 404, rfl⟩
abbrev main_v233 : Ref sig .tc := ⟨.hbm, 405, rfl⟩
abbrev main_v234 : Ref sig .tc := ⟨.hbm, 406, rfl⟩
abbrev main_v235 : Ref sig .tc := ⟨.hbm, 407, rfl⟩
abbrev main_c_42 : Ref sig .tc := ⟨.hbm, 408, rfl⟩
abbrev main_c_43 : Ref sig .tc := ⟨.hbm, 409, rfl⟩
abbrev main_call11_v0 : Ref sig .tc := ⟨.hbm, 410, rfl⟩
abbrev main_call11_v1 : Ref sig .tc := ⟨.hbm, 411, rfl⟩
abbrev main_call11_v2 : Ref sig .tc := ⟨.hbm, 412, rfl⟩
abbrev main_call11_v3 : Ref sig .tc := ⟨.hbm, 413, rfl⟩
abbrev main_call11_v4 : Ref sig .tc := ⟨.hbm, 414, rfl⟩
abbrev main_v236 : Ref sig .tc := ⟨.hbm, 415, rfl⟩
abbrev main_v237 : Ref sig .tc := ⟨.hbm, 416, rfl⟩
abbrev main_c_44 : Ref sig .tc := ⟨.hbm, 417, rfl⟩
abbrev main_v238 : Ref sig .tc := ⟨.hbm, 418, rfl⟩
abbrev main_v239 : Ref sig .tc := ⟨.hbm, 419, rfl⟩
abbrev main_c_45 : Ref sig .tc := ⟨.hbm, 420, rfl⟩
abbrev main_c_46 : Ref sig .tc := ⟨.hbm, 421, rfl⟩
abbrev main_call12_v0 : Ref sig .tc := ⟨.hbm, 422, rfl⟩
abbrev main_call12_v1 : Ref sig .tc := ⟨.hbm, 423, rfl⟩
abbrev main_call12_v2 : Ref sig .tc := ⟨.hbm, 424, rfl⟩
abbrev main_call12_v3 : Ref sig .tc := ⟨.hbm, 425, rfl⟩
abbrev main_call12_v4 : Ref sig .tc := ⟨.hbm, 426, rfl⟩
abbrev main_v240 : Ref sig .tc := ⟨.hbm, 427, rfl⟩
abbrev main_v241 : Ref sig .tc := ⟨.hbm, 428, rfl⟩
abbrev main_v242 : Ref sig .tc := ⟨.hbm, 429, rfl⟩
abbrev main_v243 : Ref sig .tc := ⟨.hbm, 430, rfl⟩
abbrev main_v244 : Ref sig .tc := ⟨.hbm, 431, rfl⟩
abbrev main_v245 : Ref sig .tc := ⟨.hbm, 432, rfl⟩
abbrev main_v246 : Ref sig .tc := ⟨.hbm, 433, rfl⟩
abbrev main_call13_c : Ref sig .tc := ⟨.hbm, 434, rfl⟩
abbrev main_call13_v0 : Ref sig .tc := ⟨.hbm, 435, rfl⟩
abbrev main_call13_v1 : Ref sig .tc := ⟨.hbm, 436, rfl⟩
abbrev main_call13_c_0 : Ref sig .tc := ⟨.hbm, 437, rfl⟩
abbrev main_call13_v2 : Ref sig .tc := ⟨.hbm, 438, rfl⟩
abbrev main_call13_v3 : Ref sig .tc := ⟨.hbm, 439, rfl⟩
abbrev main_call13_v4 : Ref sig .tc := ⟨.hbm, 440, rfl⟩
abbrev main_call13_v5 : Ref sig .tc := ⟨.hbm, 441, rfl⟩
abbrev main_call13_c_1 : Ref sig .tc := ⟨.hbm, 442, rfl⟩
abbrev main_call13_c_2 : Ref sig .tc := ⟨.hbm, 443, rfl⟩
abbrev main_call13_v6 : Ref sig .tc := ⟨.hbm, 444, rfl⟩
abbrev main_call13_v7 : Ref sig .tc := ⟨.hbm, 445, rfl⟩
abbrev main_call13_v8 : Ref sig .tc := ⟨.hbm, 446, rfl⟩
abbrev main_call13_v9 : Ref sig .tc := ⟨.hbm, 447, rfl⟩
abbrev main_call13_v10 : Ref sig .tc := ⟨.hbm, 448, rfl⟩
abbrev main_call13_v11 : Ref sig .tc := ⟨.hbm, 449, rfl⟩
abbrev main_call13_c_3 : Ref sig .tc := ⟨.hbm, 450, rfl⟩
abbrev main_call13_v12 : Ref sig .tc := ⟨.hbm, 451, rfl⟩
abbrev main_call13_v13 : Ref sig .tc := ⟨.hbm, 452, rfl⟩
abbrev main_call13_c_4 : Ref sig .tc := ⟨.hbm, 453, rfl⟩
abbrev main_call13_v14 : Ref sig .tc := ⟨.hbm, 454, rfl⟩
abbrev main_v247 : Ref sig .tc := ⟨.hbm, 455, rfl⟩
abbrev main_v248 : Ref sig .tc := ⟨.hbm, 456, rfl⟩
abbrev main_v249 : Ref sig .tc := ⟨.hbm, 457, rfl⟩
abbrev main_v250 : Ref sig .tc := ⟨.hbm, 458, rfl⟩
abbrev main_cst_47 : Ref sig .tc := ⟨.hbm, 459, rfl⟩
abbrev main_call14_v0 : Ref sig .tc := ⟨.hbm, 460, rfl⟩
abbrev main_call14_v1 : Ref sig .tc := ⟨.hbm, 461, rfl⟩
abbrev main_v251 : Ref sig .tc := ⟨.hbm, 462, rfl⟩
abbrev main_v252 : Ref sig .tc := ⟨.hbm, 463, rfl⟩
abbrev main_v253 : Ref sig .tc := ⟨.hbm, 464, rfl⟩
abbrev main_cst_48 : Ref sig .tc := ⟨.hbm, 465, rfl⟩
abbrev main_v254 : Ref sig .tc := ⟨.hbm, 466, rfl⟩
abbrev main_v255 : Ref sig .tc := ⟨.hbm, 467, rfl⟩
abbrev main_cst_49 : Ref sig .tc := ⟨.hbm, 468, rfl⟩
abbrev main_v256 : Ref sig .tc := ⟨.hbm, 469, rfl⟩
abbrev main_v257 : Ref sig .tc := ⟨.hbm, 470, rfl⟩
abbrev main_v258 : Ref sig .tc := ⟨.hbm, 471, rfl⟩
abbrev main_v259 : Ref sig .tc := ⟨.hbm, 472, rfl⟩
abbrev main_v260 : Ref sig .tc := ⟨.hbm, 473, rfl⟩
abbrev main_v261 : Ref sig .tc := ⟨.hbm, 474, rfl⟩
abbrev main_cst_50 : Ref sig .tc := ⟨.hbm, 475, rfl⟩
abbrev main_v262 : Ref sig .tc := ⟨.hbm, 476, rfl⟩
abbrev main_v263 : Ref sig .tc := ⟨.hbm, 477, rfl⟩
abbrev main_v264 : Ref sig .tc := ⟨.hbm, 478, rfl⟩
abbrev main_v265 : Ref sig .tc := ⟨.hbm, 479, rfl⟩
abbrev main_v266 : Ref sig .tc := ⟨.hbm, 480, rfl⟩
abbrev main_v267 : Ref sig .tc := ⟨.hbm, 481, rfl⟩
abbrev main_v268 : Ref sig .tc := ⟨.hbm, 482, rfl⟩
abbrev main_cst_51 : Ref sig .tc := ⟨.hbm, 483, rfl⟩
abbrev main_v269 : Ref sig .tc := ⟨.hbm, 484, rfl⟩
abbrev main_v270 : Ref sig .tc := ⟨.hbm, 485, rfl⟩
abbrev main_v271 : Ref sig .tc := ⟨.hbm, 486, rfl⟩
abbrev main_v272 : Ref sig .tc := ⟨.hbm, 487, rfl⟩
abbrev main_v273 : Ref sig .tc := ⟨.hbm, 488, rfl⟩
abbrev main_v274 : Ref sig .tc := ⟨.hbm, 489, rfl⟩
abbrev main_v275 : Ref sig .tc := ⟨.hbm, 490, rfl⟩
abbrev main_v276 : Ref sig .tc := ⟨.hbm, 491, rfl⟩
abbrev main_v277 : Ref sig .tc := ⟨.hbm, 492, rfl⟩
abbrev main_v278 : Ref sig .tc := ⟨.hbm, 493, rfl⟩
abbrev main_v279 : Ref sig .tc := ⟨.hbm, 494, rfl⟩
abbrev main_v280 : Ref sig .tc := ⟨.hbm, 495, rfl⟩
abbrev main_v281 : Ref sig .tc := ⟨.hbm, 496, rfl⟩
abbrev main_v282 : Ref sig .tc := ⟨.hbm, 497, rfl⟩
abbrev main_v283 : Ref sig .tc := ⟨.hbm, 498, rfl⟩
abbrev main_v284 : Ref sig .tc := ⟨.hbm, 499, rfl⟩
abbrev main_v285 : Ref sig .tc := ⟨.hbm, 500, rfl⟩
abbrev main_v286 : Ref sig .tc := ⟨.hbm, 501, rfl⟩
abbrev main_v287 : Ref sig .tc := ⟨.hbm, 502, rfl⟩
abbrev main_cst_52 : Ref sig .tc := ⟨.hbm, 503, rfl⟩
abbrev main_v288 : Ref sig .tc := ⟨.hbm, 504, rfl⟩
abbrev main_v289 : Ref sig .tc := ⟨.hbm, 505, rfl⟩
abbrev main_cst_53 : Ref sig .tc := ⟨.hbm, 506, rfl⟩
abbrev main_v290 : Ref sig .tc := ⟨.hbm, 507, rfl⟩
abbrev main_v291 : Ref sig .tc := ⟨.hbm, 508, rfl⟩
abbrev main_v292 : Ref sig .tc := ⟨.hbm, 509, rfl⟩
abbrev main_v293 : Ref sig .tc := ⟨.hbm, 510, rfl⟩
abbrev main_v294 : Ref sig .tc := ⟨.hbm, 511, rfl⟩
abbrev main_v295 : Ref sig .tc := ⟨.hbm, 512, rfl⟩
abbrev main_v296 : Ref sig .tc := ⟨.hbm, 513, rfl⟩
abbrev main_v297 : Ref sig .tc := ⟨.hbm, 514, rfl⟩
abbrev main_v298 : Ref sig .tc := ⟨.hbm, 515, rfl⟩
abbrev main_c_54 : Ref sig .tc := ⟨.hbm, 516, rfl⟩
abbrev main_v299 : Ref sig .tc := ⟨.hbm, 517, rfl⟩
abbrev main_v300 : Ref sig .tc := ⟨.hbm, 518, rfl⟩
abbrev main_v301 : Ref sig .tc := ⟨.hbm, 519, rfl⟩
abbrev main_v302 : Ref sig .tc := ⟨.hbm, 520, rfl⟩
abbrev main_v303 : Ref sig .tc := ⟨.hbm, 521, rfl⟩
abbrev main_v304 : Ref sig .tc := ⟨.hbm, 522, rfl⟩
abbrev main_v305 : Ref sig .tc := ⟨.hbm, 523, rfl⟩
abbrev main_v306 : Ref sig .tc := ⟨.hbm, 524, rfl⟩
abbrev main_v307 : Ref sig .tc := ⟨.hbm, 525, rfl⟩
abbrev main_v308 : Ref sig .tc := ⟨.hbm, 526, rfl⟩
abbrev main_v309 : Ref sig .tc := ⟨.hbm, 527, rfl⟩
abbrev main_v310 : Ref sig .tc := ⟨.hbm, 528, rfl⟩
abbrev main_c_55 : Ref sig .tc := ⟨.hbm, 529, rfl⟩
abbrev main_v311 : Ref sig .tc := ⟨.hbm, 530, rfl⟩
abbrev main_v312 : Ref sig .tc := ⟨.hbm, 531, rfl⟩
abbrev main_c_56 : Ref sig .tc := ⟨.hbm, 532, rfl⟩
abbrev main_v313 : Ref sig .tc := ⟨.hbm, 533, rfl⟩
abbrev main_v314 : Ref sig .tc := ⟨.hbm, 534, rfl⟩
abbrev main_v315 : Ref sig .tc := ⟨.hbm, 535, rfl⟩
abbrev main_v316 : Ref sig .tc := ⟨.hbm, 536, rfl⟩
abbrev main_c_57 : Ref sig .tc := ⟨.hbm, 537, rfl⟩
abbrev main_v317 : Ref sig .tc := ⟨.hbm, 538, rfl⟩
abbrev main_v318 : Ref sig .tc := ⟨.hbm, 539, rfl⟩
abbrev main_c_58 : Ref sig .tc := ⟨.hbm, 540, rfl⟩
abbrev main_v319 : Ref sig .tc := ⟨.hbm, 541, rfl⟩
abbrev main_v320 : Ref sig .tc := ⟨.hbm, 542, rfl⟩
abbrev main_v321 : Ref sig .tc := ⟨.hbm, 543, rfl⟩
abbrev main_v322 : Ref sig .tc := ⟨.hbm, 544, rfl⟩
abbrev main_v323 : Ref sig .tc := ⟨.hbm, 545, rfl⟩
abbrev main_v324 : Ref sig .tc := ⟨.hbm, 546, rfl⟩
abbrev main_v325 : Ref sig .tc := ⟨.hbm, 547, rfl⟩
abbrev main_c_59 : Ref sig .tc := ⟨.hbm, 548, rfl⟩
abbrev main_c_60 : Ref sig .tc := ⟨.hbm, 549, rfl⟩
abbrev main_call15_v0 : Ref sig .tc := ⟨.hbm, 550, rfl⟩
abbrev main_call15_v1 : Ref sig .tc := ⟨.hbm, 551, rfl⟩
abbrev main_call15_v2 : Ref sig .tc := ⟨.hbm, 552, rfl⟩
abbrev main_call15_v3 : Ref sig .tc := ⟨.hbm, 553, rfl⟩
abbrev main_call15_v4 : Ref sig .tc := ⟨.hbm, 554, rfl⟩
abbrev main_v326 : Ref sig .tc := ⟨.hbm, 555, rfl⟩
abbrev main_v327 : Ref sig .tc := ⟨.hbm, 556, rfl⟩
abbrev main_c_61 : Ref sig .tc := ⟨.hbm, 557, rfl⟩
abbrev main_v328 : Ref sig .tc := ⟨.hbm, 558, rfl⟩
abbrev main_v329 : Ref sig .tc := ⟨.hbm, 559, rfl⟩
abbrev main_c_62 : Ref sig .tc := ⟨.hbm, 560, rfl⟩
abbrev main_c_63 : Ref sig .tc := ⟨.hbm, 561, rfl⟩
abbrev main_call16_v0 : Ref sig .tc := ⟨.hbm, 562, rfl⟩
abbrev main_call16_v1 : Ref sig .tc := ⟨.hbm, 563, rfl⟩
abbrev main_call16_v2 : Ref sig .tc := ⟨.hbm, 564, rfl⟩
abbrev main_call16_v3 : Ref sig .tc := ⟨.hbm, 565, rfl⟩
abbrev main_call16_v4 : Ref sig .tc := ⟨.hbm, 566, rfl⟩
abbrev main_v330 : Ref sig .tc := ⟨.hbm, 567, rfl⟩
abbrev main_v331 : Ref sig .tc := ⟨.hbm, 568, rfl⟩
abbrev main_v332 : Ref sig .tc := ⟨.hbm, 569, rfl⟩
abbrev main_v333 : Ref sig .tc := ⟨.hbm, 570, rfl⟩
abbrev main_v334 : Ref sig .tc := ⟨.hbm, 571, rfl⟩
abbrev main_v335 : Ref sig .tc := ⟨.hbm, 572, rfl⟩
abbrev main_v336 : Ref sig .tc := ⟨.hbm, 573, rfl⟩
abbrev main_call17_c : Ref sig .tc := ⟨.hbm, 574, rfl⟩
abbrev main_call17_v0 : Ref sig .tc := ⟨.hbm, 575, rfl⟩
abbrev main_call17_v1 : Ref sig .tc := ⟨.hbm, 576, rfl⟩
abbrev main_call17_c_0 : Ref sig .tc := ⟨.hbm, 577, rfl⟩
abbrev main_call17_v2 : Ref sig .tc := ⟨.hbm, 578, rfl⟩
abbrev main_call17_v3 : Ref sig .tc := ⟨.hbm, 579, rfl⟩
abbrev main_call17_v4 : Ref sig .tc := ⟨.hbm, 580, rfl⟩
abbrev main_call17_v5 : Ref sig .tc := ⟨.hbm, 581, rfl⟩
abbrev main_call17_c_1 : Ref sig .tc := ⟨.hbm, 582, rfl⟩
abbrev main_call17_c_2 : Ref sig .tc := ⟨.hbm, 583, rfl⟩
abbrev main_call17_v6 : Ref sig .tc := ⟨.hbm, 584, rfl⟩
abbrev main_call17_v7 : Ref sig .tc := ⟨.hbm, 585, rfl⟩
abbrev main_call17_v8 : Ref sig .tc := ⟨.hbm, 586, rfl⟩
abbrev main_call17_v9 : Ref sig .tc := ⟨.hbm, 587, rfl⟩
abbrev main_call17_v10 : Ref sig .tc := ⟨.hbm, 588, rfl⟩
abbrev main_call17_v11 : Ref sig .tc := ⟨.hbm, 589, rfl⟩
abbrev main_call17_c_3 : Ref sig .tc := ⟨.hbm, 590, rfl⟩
abbrev main_call17_v12 : Ref sig .tc := ⟨.hbm, 591, rfl⟩
abbrev main_call17_v13 : Ref sig .tc := ⟨.hbm, 592, rfl⟩
abbrev main_call17_c_4 : Ref sig .tc := ⟨.hbm, 593, rfl⟩
abbrev main_call17_v14 : Ref sig .tc := ⟨.hbm, 594, rfl⟩
abbrev main_v337 : Ref sig .tc := ⟨.hbm, 595, rfl⟩
abbrev main_v338 : Ref sig .tc := ⟨.hbm, 596, rfl⟩
abbrev main_v339 : Ref sig .tc := ⟨.hbm, 597, rfl⟩
abbrev main_v340 : Ref sig .tc := ⟨.hbm, 598, rfl⟩
abbrev main_cst_64 : Ref sig .tc := ⟨.hbm, 599, rfl⟩
abbrev main_call18_v0 : Ref sig .tc := ⟨.hbm, 600, rfl⟩
abbrev main_call18_v1 : Ref sig .tc := ⟨.hbm, 601, rfl⟩
abbrev main_v341 : Ref sig .tc := ⟨.hbm, 602, rfl⟩
abbrev main_v342 : Ref sig .tc := ⟨.hbm, 603, rfl⟩
abbrev main_v343 : Ref sig .tc := ⟨.hbm, 604, rfl⟩
abbrev main_cst_65 : Ref sig .tc := ⟨.hbm, 605, rfl⟩
abbrev main_v344 : Ref sig .tc := ⟨.hbm, 606, rfl⟩
abbrev main_v345 : Ref sig .tc := ⟨.hbm, 607, rfl⟩
abbrev main_cst_66 : Ref sig .tc := ⟨.hbm, 608, rfl⟩
abbrev main_v346 : Ref sig .tc := ⟨.hbm, 609, rfl⟩
abbrev main_v347 : Ref sig .tc := ⟨.hbm, 610, rfl⟩
abbrev main_v348 : Ref sig .tc := ⟨.hbm, 611, rfl⟩
abbrev main_v349 : Ref sig .tc := ⟨.hbm, 612, rfl⟩
abbrev main_v350 : Ref sig .tc := ⟨.hbm, 613, rfl⟩
abbrev main_v351 : Ref sig .tc := ⟨.hbm, 614, rfl⟩
abbrev main_cst_67 : Ref sig .tc := ⟨.hbm, 615, rfl⟩
abbrev main_v352 : Ref sig .tc := ⟨.hbm, 616, rfl⟩
abbrev main_v353 : Ref sig .tc := ⟨.hbm, 617, rfl⟩
abbrev main_v354 : Ref sig .tc := ⟨.hbm, 618, rfl⟩
abbrev main_v355 : Ref sig .tc := ⟨.hbm, 619, rfl⟩
abbrev main_v356 : Ref sig .tc := ⟨.hbm, 620, rfl⟩
abbrev main_v357 : Ref sig .tc := ⟨.hbm, 621, rfl⟩
abbrev main_v358 : Ref sig .tc := ⟨.hbm, 622, rfl⟩
abbrev main_cst_68 : Ref sig .tc := ⟨.hbm, 623, rfl⟩
abbrev main_v359 : Ref sig .tc := ⟨.hbm, 624, rfl⟩
abbrev main_v360 : Ref sig .tc := ⟨.hbm, 625, rfl⟩
abbrev main_v361 : Ref sig .tc := ⟨.hbm, 626, rfl⟩
abbrev main_v362 : Ref sig .tc := ⟨.hbm, 627, rfl⟩
abbrev main_v363 : Ref sig .tc := ⟨.hbm, 628, rfl⟩
abbrev main_v364 : Ref sig .tc := ⟨.hbm, 629, rfl⟩
abbrev main_v365 : Ref sig .tc := ⟨.hbm, 630, rfl⟩
abbrev main_v366 : Ref sig .tc := ⟨.hbm, 631, rfl⟩
abbrev main_v367 : Ref sig .tc := ⟨.hbm, 632, rfl⟩
abbrev main_v368 : Ref sig .tc := ⟨.hbm, 633, rfl⟩
abbrev main_v369 : Ref sig .tc := ⟨.hbm, 634, rfl⟩
abbrev main_v370 : Ref sig .tc := ⟨.hbm, 635, rfl⟩
abbrev main_v371 : Ref sig .tc := ⟨.hbm, 636, rfl⟩
abbrev main_v372 : Ref sig .tc := ⟨.hbm, 637, rfl⟩
abbrev main_v373 : Ref sig .tc := ⟨.hbm, 638, rfl⟩
abbrev main_v374 : Ref sig .tc := ⟨.hbm, 639, rfl⟩
abbrev main_v375 : Ref sig .tc := ⟨.hbm, 640, rfl⟩
abbrev main_v376 : Ref sig .tc := ⟨.hbm, 641, rfl⟩
abbrev main_v377 : Ref sig .tc := ⟨.hbm, 642, rfl⟩
abbrev main_cst_69 : Ref sig .tc := ⟨.hbm, 643, rfl⟩
abbrev main_v378 : Ref sig .tc := ⟨.hbm, 644, rfl⟩
abbrev main_cst_70 : Ref sig .tc := ⟨.hbm, 645, rfl⟩
abbrev main_v379 : Ref sig .tc := ⟨.hbm, 646, rfl⟩
abbrev main_v380 : Ref sig .tc := ⟨.hbm, 647, rfl⟩
abbrev main_cst_71 : Ref sig .tc := ⟨.hbm, 648, rfl⟩
abbrev main_v381 : Ref sig .tc := ⟨.hbm, 649, rfl⟩
abbrev main_v382 : Ref sig .tc := ⟨.hbm, 650, rfl⟩
abbrev main_cst_72 : Ref sig .tc := ⟨.hbm, 651, rfl⟩
abbrev main_call19_v0 : Ref sig .tc := ⟨.hbm, 652, rfl⟩
abbrev main_call19_v1 : Ref sig .tc := ⟨.hbm, 653, rfl⟩
abbrev main_v383 : Ref sig .tc := ⟨.hbm, 654, rfl⟩
abbrev main_v384 : Ref sig .tc := ⟨.hbm, 655, rfl⟩
abbrev main_v385 : Ref sig .tc := ⟨.hbm, 656, rfl⟩
abbrev main_v386 : Ref sig .tc := ⟨.hbm, 657, rfl⟩
abbrev main_v387 : Ref sig .tc := ⟨.hbm, 658, rfl⟩
abbrev main_cst_73 : Ref sig .tc := ⟨.hbm, 659, rfl⟩
abbrev main_cst_74 : Ref sig .tc := ⟨.hbm, 660, rfl⟩
abbrev main_call21_v0 : Ref sig .tc := ⟨.hbm, 661, rfl⟩
abbrev main_call21_v1 : Ref sig .tc := ⟨.hbm, 662, rfl⟩
abbrev main_call21_v2 : Ref sig .tc := ⟨.hbm, 663, rfl⟩
abbrev main_call21_v3 : Ref sig .tc := ⟨.hbm, 664, rfl⟩
abbrev main_call21_v4 : Ref sig .tc := ⟨.hbm, 665, rfl⟩
abbrev main_v388 : Ref sig .tc := ⟨.hbm, 666, rfl⟩
abbrev main_v389 : Ref sig .tc := ⟨.hbm, 667, rfl⟩
abbrev main_v390 : Ref sig .tc := ⟨.hbm, 668, rfl⟩

abbrev nD : Nat := 1
abbrev τ : Topo := Topo.v7x

variable {F : FTy → Type} [FloatOps F]
-- ==== Proof.Triple.lean ====
/-
  Triples over the read contents of a family of whole buffers: a program that loads and stores through the memrefs of
  the family is followed as a function of what the memrefs read. `Own` holds the buffers at their read contents, `Tr`
  says that from given contents the program runs to a result and contents of which `Q` holds; one rule for a load, one
  for a store (its rectangle's part of the contents overlaid), and the structural ones.
-/
module

public import Idealize.ShloMosaic.Lib.Pipeline.FrameBody
public import Idealize.ShloMosaic.Lib.Pipeline.FrameSuffix
public import Idealize.ShloMosaic.Lib.Tactic
public import Idealize.ShloMosaic.Lib.Pipeline.Kit

@[expose] public section

noncomputable section

namespace Cert.Triple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

/-- The shape and element type of each memref of a family. -/
structure Fam (n : Nat) where
  sh : Fin n → Shape
  el : Fin n → EltTy

variable {n : Nat} {B : Fam n}

/-- What the memrefs of the family read. -/
abbrev St (Val : EltTy → Type) (B : Fam n) : Type := ∀ i, (B.sh i).Idx → Val (B.el i)

/-- The memrefs of a family, all in VMEM. -/
abbrev Mems (sig : RefSig) (B : Fam n) : Type := ∀ i, Memref sig .tc .vmem (B.sh i) (B.el i)

/-- The buffers of the family held at the read contents `s`. -/
def Own (c : Dev nD) (M : Mems sig B) (s : St Val B) : sProp 𝕄 :=
  bigSep Finset.univ fun i => owns (c : Thread nD τ) (M i) fullShare (s i)

/-- From contents `s` the program runs to a result `a` and contents `s'` with `Q a s'`. -/
def Tr (defs₀ : Defs nD τ sig Val Λ) (c : Dev nD) (M : Mems sig B) {α : Type} (s : St Val B)
    (p : Prog (TpuEff nD τ sig Val Λ .tc) α) (Q : α → St Val B → Prop) : Prop :=
  (Own c M s : sProp 𝕄) ⊢ wp frame (wpE defs₀ Variants.none (c : Thread nD τ) none) Set.univ p
    fun a => iprop(∃ s', ⌜Q a s'⌝ ∗ Own c M s')

variable {defs₀ : Defs nD τ sig Val Λ} {c : Dev nD} {M : Mems sig B} {α β : Type} {s : St Val B}

theorem Tr.out {p : Prog (TpuEff nD τ sig Val Λ .tc) α} {Q : α → St Val B → Prop} (h : Tr defs₀ c M s p Q) :
    (Own c M s : sProp 𝕄) ⊢ wp frame (wpE defs₀ Variants.none (c : Thread nD τ) none) Set.univ p
      fun a => iprop(∃ s', ⌜Q a s'⌝ ∗ Own c M s') := h

theorem Tr.ret {a : α} {Q : α → St Val B → Prop} (h : Q a s) : Tr defs₀ c M s (.ret a) Q := by
  unfold Tr; rw [wp_ret]
  iintro H
  imodintro
  iexists s
  isplitr
  · ipureintro; exact h
  · iexact H

theorem Tr.bind {p : Prog (TpuEff nD τ sig Val Λ .tc) α} {k : α → Prog (TpuEff nD τ sig Val Λ .tc) β}
    {R : α → St Val B → Prop} {Q : β → St Val B → Prop}
    (hp : Tr defs₀ c M s p R) (hk : ∀ a s', R a s' → Tr defs₀ c M s' (k a) Q) : Tr defs₀ c M s (p >>= k) Q := by
  unfold Tr at hp ⊢
  rw [wp_bind]
  refine hp.trans (wp_mono _ _ _ fun a => ?_)
  iintro ⟨%s', %hR, H⟩
  iapply (Tr.out (hk a s' hR))
  iexact H

theorem Tr.mono {p : Prog (TpuEff nD τ sig Val Λ .tc) α} {R Q : α → St Val B → Prop}
    (hp : Tr defs₀ c M s p R) (h : ∀ a s', R a s' → Q a s') : Tr defs₀ c M s p Q := by
  unfold Tr at hp ⊢
  refine hp.trans (wp_mono _ _ _ fun a => ?_)
  iintro ⟨%s', %hR, H⟩
  iexists s'
  isplitr
  · ipureintro; exact h a s' hR
  · iexact H

/-- The contents with memref `i`'s replaced. -/
def upd (s : St Val B) (i : Fin n) (X : (B.sh i).Idx → Val (B.el i)) : St Val B :=
  Function.update (β := fun i => (B.sh i).Idx → Val (B.el i)) s i X

@[simp] theorem upd_self (s : St Val B) (i : Fin n) (X : (B.sh i).Idx → Val (B.el i)) : upd s i X i = X :=
  Function.update_self (β := fun i => (B.sh i).Idx → Val (B.el i)) i X s

theorem upd_of_ne {s : St Val B} {i j : Fin n} (X : (B.sh i).Idx → Val (B.el i)) (h : j ≠ i) : upd s i X j = s j :=
  Function.update_of_ne (β := fun i => (B.sh i).Idx → Val (B.el i)) h X s

theorem Own_split (i : Fin n) : (Own c M s : sProp 𝕄) = iprop(owns (c : Thread nD τ) (M i) fullShare (s i)
    ∗ bigSep (Finset.univ.erase i) fun j => owns (c : Thread nD τ) (M j) fullShare (s j)) :=
  bigSep_univ_split i

theorem Own_set (i : Fin n) (X : (B.sh i).Idx → Val (B.el i)) : (Own c M (upd s i X) : sProp 𝕄)
    = iprop(owns (c : Thread nD τ) (M i) fullShare X
      ∗ bigSep (Finset.univ.erase i) fun j => owns (c : Thread nD τ) (M j) fullShare (s j)) := by
  rw [Own_split i, upd_self]
  congr 1
  refine bigSep_congr fun j hj => ?_
  rw [upd_of_ne _ (Finset.ne_of_mem_erase hj)]

/-- A load through the memref reads the contents at the rectangle's indices. -/
theorem Tr.load (i : Fin n) {r : LoadRect (B.sh i)} {hl : (M i).view.LoadsAt r}
    {k : (r.shape.Idx → Val (B.el i)) → Prog (TpuEff nD τ sig Val Λ .tc) α} {Q : α → St Val B → Prop}
    (h : Tr defs₀ c M s (k fun x => s i (r.idx x)) Q) : Tr defs₀ c M s (.op (.load (M i) r hl) k) Q := by
  unfold Tr at h ⊢
  rw [Own_split i] at h ⊢
  unfold owns at h ⊢
  iintro ⟨⟨%f, %hf, H⟩, HR⟩
  iapply (wp_load (c := (c : Thread nD τ)) Variants.none none Set.univ (defs := defs₀) (m := M i) (r := r) (hl := hl)
    (k := k) (q := fullShare) (f := f) ((M i).view.setOn_subset_set _)) $$ H
  iintro H
  rw [show (M i).view.readAt Val r f = fun x => s i (r.idx x) from funext fun x => by rw [View.readAt_apply, hf]]
  iapply h
  isplitl [H]
  · iexists f
    isplitr
    · ipureintro; exact hf
    · iexact H
  · iexact HR

/-- A store through a rectangle of the memref overlays the contents there. -/
theorem Tr.store (i : Fin n) {r : Rect (B.sh i)} {w : r.shape.Idx → Val (B.el i)} {hx : ((M i).access r).Stores Finset.univ}
    {hm : (Finset.univ : Finset r.shape.Idx) = Finset.univ ∨ ∀ a, r.stride a = 1}
    {k : PUnit → Prog (TpuEff nD τ sig Val Λ .tc) α} {Q : α → St Val B → Prop}
    (h : Tr defs₀ c M (upd s i (r.overlay (s i) w)) (k ⟨⟩) Q) :
    Tr defs₀ c M s (.op (.store (M i) r w Finset.univ hx hm) k) Q := by
  unfold Tr at h ⊢
  rw [Own_set i] at h
  rw [Own_split i]
  unfold owns at h ⊢
  iintro ⟨⟨%f, %hf, H⟩, HR⟩
  iapply (wp_store (c := (c : Thread nD τ)) Variants.none none Set.univ (defs := defs₀) (m := M i) (r := r) (w := w)
    (Mk := Finset.univ) (hx := hx) (hm := hm) (k := k) (f := f) (S := (M i).view.set) (View.set_slice_subset _ r)) $$ H
  iintro H
  iapply h
  isplitl [H]
  · iexists (((M i).view.slice r).write Val f w Finset.univ)
    isplitr
    · ipureintro
      funext y
      by_cases hy : y ∈ r.set
      · obtain ⟨x, rfl⟩ := r.exists_idx_of_mem hy
        exact (View.read_slice_write_emb r f w (Finset.mem_univ x)).trans (r.overlay_emb _ _ x).symm
      · rw [Rect.overlay_of_not_mem r _ _ hy, ← hf]
        exact View.read_slice_write_of_not_mem r f w _ (by rw [Rect.map_emb_univ]; exact hy)
    · iexact H
  · iexact HR

/-- A counted loop, by an invariant of the contents. -/
theorem Tr.loop {w : Nat} (l : Scf.Loop w) (hok : l.OK) {σ : Type} (init : σ)
    (body : Fin l.trips → σ → Prog (TpuEff nD τ sig Val Λ .tc) σ) (I : Nat → St Val B → Prop) (h0 : I 0 s)
    (hbody : ∀ (k : Fin l.trips) (acc : σ) (s' : St Val B), I k s' → Tr defs₀ c M s' (body k acc) fun _ s'' => I (k.val + 1) s'') :
    Tr defs₀ c M s (Scf.Loop.for l hok init body) fun _ s' => I l.trips s' := by
  have hb : ∀ (k : Fin l.trips) (acc : σ), (iprop(∃ s', ⌜I k s'⌝ ∗ Own c M s') : sProp 𝕄)
      ⊢ wp frame (wpE defs₀ Variants.none (c : Thread nD τ) none) Set.univ (body k acc) fun _ => iprop(∃ s', ⌜I (k.val + 1) s'⌝ ∗ Own c M s') := by
    intro k acc
    iintro ⟨%s', %hI, H⟩
    iapply (Tr.out (hbody k acc s' hI))
    iexact H
  unfold Tr
  iintro H
  iapply (Scf.wp_for frame (wpE defs₀ Variants.none (c : Thread nD τ) none) Set.univ l.lb l.ub l.st hok init body
    (fun k _ => iprop(∃ s', ⌜I k s'⌝ ∗ Own c M s')) hb)
  isplitl [H]
  · iexists s
    isplitr
    · ipureintro; exact h0
    · iexact H
  · iintro %acc H
    iexact H

end Cert.Triple

end
-- ==== Proof.BSafe.lean ====
/-
  The frame of `Kernel`: every load and store of the kernel's body goes through one of the twelve buffers it is called
  with, so the body runs from any contents to some contents (`Safe`), part by part as the program is printed.
-/
module

public import proofs.«01_k».proof.Proof.Gen.Kernel.Skeleton
public import proofs.«01_k».proof.Proof.Gen.Kernel.Frame
public import proofs.«01_k».proof.Proof.Triple

@[expose] public section

set_option maxRecDepth 16384

noncomputable section

namespace Cert.Kernel.Hand

open Cert.Kernel Cert.Kernel.Gen Cert.Triple
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

/-- The twelve buffers the body is called with: six input windows, two output windows, four scratch buffers. -/
abbrev fam : Fam 12 where
  sh := fun
      | 0 => S1x48x64x1024 | 1 => S1x24x32x1024 | 2 => S1x12x16x1024 | 3 => S1x6x8x1024 | 4 => S1x4x1024 | 5 => S1x2x1024
      | 6 => S1x324x1024 | 7 => S8x3072 | 8 => S1152x128 | 9 => S40x8x128 | 10 => S960x128 | 11 => S648x128
  el := fun
      | 0 => .i8 | 1 => .i8 | 2 => .i8 | 3 => .i8 | 4 => .f32 | 5 => .f32 | 6 => .i8 | 7 => .f32 | 8 => .i32 | 9 => .i32
      | 10 => .f32 | 11 => .f32

/-- They, as a family. -/
abbrev mems (arg2 : Memref sig .tc .vmem S1x48x64x1024 .i8) (arg3 : Memref sig .tc .vmem S1x24x32x1024 .i8) (arg4 : Memref sig .tc .vmem S1x12x16x1024 .i8) (arg5 : Memref sig .tc .vmem S1x6x8x1024 .i8) (arg6 : Memref sig .tc .vmem S1x4x1024 .f32) (arg7 : Memref sig .tc .vmem S1x2x1024 .f32) (arg8 : Memref sig .tc .vmem S1x324x1024 .i8) (arg9 : Memref sig .tc .vmem S8x3072 .f32) (arg10 : Memref sig .tc .vmem S1152x128 .i32) (arg11 : Memref sig .tc .vmem S40x8x128 .i32) (arg12 : Memref sig .tc .vmem S960x128 .f32) (arg13 : Memref sig .tc .vmem S648x128 .f32) : Mems sig fam :=
  fun
    | 0 => arg2 | 1 => arg3 | 2 => arg4 | 3 => arg5 | 4 => arg6 | 5 => arg7 | 6 => arg8 | 7 => arg9 | 8 => arg10 | 9 => arg11
    | 10 => arg12 | 11 => arg13

/-- The program runs from any contents of the buffers. -/
def Safe (c : Dev nD) (M : Mems sig fam) {α : Type} (p : Prog (TpuEff nD τ sig (Elt F) Λ₀ .tc) α) : Prop :=
  ∀ s, Tr (defs₀ (F := F)) c M s p fun _ _ => True

section Rules

variable {c : Dev nD} {M : Mems sig fam} {α β γ : Type}

theorem Safe.pure {a : α} : Safe (F := F) c M (Pure.pure a) := fun _ => Tr.ret trivial

theorem Safe.bind {p : Prog (TpuEff nD τ sig (Elt F) Λ₀ .tc) α} {k : α → Prog (TpuEff nD τ sig (Elt F) Λ₀ .tc) β}
    (hp : Safe c M p) (hk : ∀ a, Safe c M (k a)) : Safe c M (p >>= k) :=
  fun s => Tr.bind (hp s) fun a s' _ => hk a s'

theorem Safe.load (i : Fin 12) {r : LoadRect (fam.sh i)} {hl : (M i).view.LoadsAt r} :
    Safe (F := F) c M (Prog.lift (.load (M i) r hl)) := fun _ => Tr.load i (Tr.ret trivial)

theorem Safe.store (i : Fin 12) {r : Rect (fam.sh i)} {w : r.shape.Idx → Elt F (fam.el i)} {hx : ((M i).access r).Stores Finset.univ}
    {hm : (Finset.univ : Finset r.shape.Idx) = Finset.univ ∨ ∀ a, r.stride a = 1} :
    Safe (F := F) c M (Prog.lift (.store (M i) r w Finset.univ hx hm)) := fun _ => Tr.store i (Tr.ret trivial)

theorem L0 {r : LoadRect (fam.sh 0)} {k : (r.shape.Idx → Elt F (fam.el 0)) → Prog (TpuEff nD τ sig (Elt F) Λ₀ .tc) β} {hl : (M 0).view.LoadsAt r}
    (h : ∀ a, Safe c M (k a)) : Safe c M (Prog.lift (.load (M 0) r hl) >>= k) := .bind (.load 0) h

theorem L1 {r : LoadRect (fam.sh 1)} {k : (r.shape.Idx → Elt F (fam.el 1)) → Prog (TpuEff nD τ sig (Elt F) Λ₀ .tc) β} {hl : (M 1).view.LoadsAt r}
    (h : ∀ a, Safe c M (k a)) : Safe c M (Prog.lift (.load (M 1) r hl) >>= k) := .bind (.load 1) h

theorem L2 {r : LoadRect (fam.sh 2)} {k : (r.shape.Idx → Elt F (fam.el 2)) → Prog (TpuEff nD τ sig (Elt F) Λ₀ .tc) β} {hl : (M 2).view.LoadsAt r}
    (h : ∀ a, Safe c M (k a)) : Safe c M (Prog.lift (.load (M 2) r hl) >>= k) := .bind (.load 2) h

theorem L3 {r : LoadRect (fam.sh 3)} {k : (r.shape.Idx → Elt F (fam.el 3)) → Prog (TpuEff nD τ sig (Elt F) Λ₀ .tc) β} {hl : (M 3).view.LoadsAt r}
    (h : ∀ a, Safe c M (k a)) : Safe c M (Prog.lift (.load (M 3) r hl) >>= k) := .bind (.load 3) h

theorem L4 {r : LoadRect (fam.sh 4)} {k : (r.shape.Idx → Elt F (fam.el 4)) → Prog (TpuEff nD τ sig (Elt F) Λ₀ .tc) β} {hl : (M 4).view.LoadsAt r}
    (h : ∀ a, Safe c M (k a)) : Safe c M (Prog.lift (.load (M 4) r hl) >>= k) := .bind (.load 4) h

theorem L5 {r : LoadRect (fam.sh 5)} {k : (r.shape.Idx → Elt F (fam.el 5)) → Prog (TpuEff nD τ sig (Elt F) Λ₀ .tc) β} {hl : (M 5).view.LoadsAt r}
    (h : ∀ a, Safe c M (k a)) : Safe c M (Prog.lift (.load (M 5) r hl) >>= k) := .bind (.load 5) h

theorem L6 {r : LoadRect (fam.sh 6)} {k : (r.shape.Idx → Elt F (fam.el 6)) → Prog (TpuEff nD τ sig (Elt F) Λ₀ .tc) β} {hl : (M 6).view.LoadsAt r}
    (h : ∀ a, Safe c M (k a)) : Safe c M (Prog.lift (.load (M 6) r hl) >>= k) := .bind (.load 6) h

theorem S6 {k : PUnit → Prog (TpuEff nD τ sig (Elt F) Λ₀ .tc) β} {r : Rect (fam.sh 6)} {w : r.shape.Idx → Elt F (fam.el 6)}
    {hx : ((M 6).access r).Stores Finset.univ} {hm : (Finset.univ : Finset r.shape.Idx) = Finset.univ ∨ ∀ a, r.stride a = 1}
    (h : ∀ a, Safe c M (k a)) : Safe c M (Prog.lift (.store (M 6) r w Finset.univ hx hm) >>= k) := .bind (.store 6) h

theorem L7 {r : LoadRect (fam.sh 7)} {k : (r.shape.Idx → Elt F (fam.el 7)) → Prog (TpuEff nD τ sig (Elt F) Λ₀ .tc) β} {hl : (M 7).view.LoadsAt r}
    (h : ∀ a, Safe c M (k a)) : Safe c M (Prog.lift (.load (M 7) r hl) >>= k) := .bind (.load 7) h

theorem S7 {k : PUnit → Prog (TpuEff nD τ sig (Elt F) Λ₀ .tc) β} {r : Rect (fam.sh 7)} {w : r.shape.Idx → Elt F (fam.el 7)}
    {hx : ((M 7).access r).Stores Finset.univ} {hm : (Finset.univ : Finset r.shape.Idx) = Finset.univ ∨ ∀ a, r.stride a = 1}
    (h : ∀ a, Safe c M (k a)) : Safe c M (Prog.lift (.store (M 7) r w Finset.univ hx hm) >>= k) := .bind (.store 7) h

theorem L8 {r : LoadRect (fam.sh 8)} {k : (r.shape.Idx → Elt F (fam.el 8)) → Prog (TpuEff nD τ sig (Elt F) Λ₀ .tc) β} {hl : (M 8).view.LoadsAt r}
    (h : ∀ a, Safe c M (k a)) : Safe c M (Prog.lift (.load (M 8) r hl) >>= k) := .bind (.load 8) h

theorem S8 {k : PUnit → Prog (TpuEff nD τ sig (Elt F) Λ₀ .tc) β} {r : Rect (fam.sh 8)} {w : r.shape.Idx → Elt F (fam.el 8)}
    {hx : ((M 8).access r).Stores Finset.univ} {hm : (Finset.univ : Finset r.shape.Idx) = Finset.univ ∨ ∀ a, r.stride a = 1}
    (h : ∀ a, Safe c M (k a)) : Safe c M (Prog.lift (.store (M 8) r w Finset.univ hx hm) >>= k) := .bind (.store 8) h

theorem L9 {r : LoadRect (fam.sh 9)} {k : (r.shape.Idx → Elt F (fam.el 9)) → Prog (TpuEff nD τ sig (Elt F) Λ₀ .tc) β} {hl : (M 9).view.LoadsAt r}
    (h : ∀ a, Safe c M (k a)) : Safe c M (Prog.lift (.load (M 9) r hl) >>= k) := .bind (.load 9) h

theorem S9 {k : PUnit → Prog (TpuEff nD τ sig (Elt F) Λ₀ .tc) β} {r : Rect (fam.sh 9)} {w : r.shape.Idx → Elt F (fam.el 9)}
    {hx : ((M 9).access r).Stores Finset.univ} {hm : (Finset.univ : Finset r.shape.Idx) = Finset.univ ∨ ∀ a, r.stride a = 1}
    (h : ∀ a, Safe c M (k a)) : Safe c M (Prog.lift (.store (M 9) r w Finset.univ hx hm) >>= k) := .bind (.store 9) h

theorem L10 {r : LoadRect (fam.sh 10)} {k : (r.shape.Idx → Elt F (fam.el 10)) → Prog (TpuEff nD τ sig (Elt F) Λ₀ .tc) β} {hl : (M 10).view.LoadsAt r}
    (h : ∀ a, Safe c M (k a)) : Safe c M (Prog.lift (.load (M 10) r hl) >>= k) := .bind (.load 10) h

theorem S10 {k : PUnit → Prog (TpuEff nD τ sig (Elt F) Λ₀ .tc) β} {r : Rect (fam.sh 10)} {w : r.shape.Idx → Elt F (fam.el 10)}
    {hx : ((M 10).access r).Stores Finset.univ} {hm : (Finset.univ : Finset r.shape.Idx) = Finset.univ ∨ ∀ a, r.stride a = 1}
    (h : ∀ a, Safe c M (k a)) : Safe c M (Prog.lift (.store (M 10) r w Finset.univ hx hm) >>= k) := .bind (.store 10) h

theorem L11 {r : LoadRect (fam.sh 11)} {k : (r.shape.Idx → Elt F (fam.el 11)) → Prog (TpuEff nD τ sig (Elt F) Λ₀ .tc) β} {hl : (M 11).view.LoadsAt r}
    (h : ∀ a, Safe c M (k a)) : Safe c M (Prog.lift (.load (M 11) r hl) >>= k) := .bind (.load 11) h

theorem S11 {k : PUnit → Prog (TpuEff nD τ sig (Elt F) Λ₀ .tc) β} {r : Rect (fam.sh 11)} {w : r.shape.Idx → Elt F (fam.el 11)}
    {hx : ((M 11).access r).Stores Finset.univ} {hm : (Finset.univ : Finset r.shape.Idx) = Finset.univ ∨ ∀ a, r.stride a = 1}
    (h : ∀ a, Safe c M (k a)) : Safe c M (Prog.lift (.store (M 11) r w Finset.univ hx hm) >>= k) := .bind (.store 11) h

end Rules

variable (c : Dev nD) (i : grid0.Coords) (arg2 : Memref sig .tc .vmem S1x48x64x1024 .i8) (harg2 : arg2.IsWhole) (arg3 : Memref sig .tc .vmem S1x24x32x1024 .i8) (harg3 : arg3.IsWhole) (arg4 : Memref sig .tc .vmem S1x12x16x1024 .i8) (harg4 : arg4.IsWhole) (arg5 : Memref sig .tc .vmem S1x6x8x1024 .i8) (harg5 : arg5.IsWhole) (arg6 : Memref sig .tc .vmem S1x4x1024 .f32) (harg6 : arg6.IsWhole) (arg7 : Memref sig .tc .vmem S1x2x1024 .f32) (harg7 : arg7.IsWhole) (arg8 : Memref sig .tc .vmem S1x324x1024 .i8) (harg8 : arg8.IsWhole) (arg9 : Memref sig .tc .vmem S8x3072 .f32) (harg9 : arg9.IsWhole) (arg10 : Memref sig .tc .vmem S1152x128 .i32) (harg10 : arg10.IsWhole) (arg11 : Memref sig .tc .vmem S40x8x128 .i32) (harg11 : arg11.IsWhole) (arg12 : Memref sig .tc .vmem S960x128 .f32) (harg12 : arg12.IsWhole) (arg13 : Memref sig .tc .vmem S648x128 .f32) (harg13 : arg13.IsWhole)

theorem safe_k0_part1 (arg1 : BitVec 32) (v1 : IVec S8x128 32) (v5 : IVec S8x128 1) (c0_i32_5 : BitVec 32) (c1_i32 : BitVec 32) (k0_t1 : Fin k0_t1_loop.trips) :
    Safe (F := F) c (mems arg2 arg3 arg4 arg5 arg6 arg7 arg8 arg9 arg10 arg11 arg12 arg13) (k0_part1 (F := F) i arg2 harg2 arg3 harg3 arg4 harg4 arg5 harg5 arg6 harg6 arg7 harg7 arg8 harg8 arg9 harg9 arg10 harg10 arg11 harg11 arg12 harg12 arg13 harg13 arg1 v1 v5 c0_i32_5 c1_i32 k0_t1) := by
  rw [k0_part1_eq_skeleton]; unfold k0_part1_skel
  exact L5 fun _ => L5 fun _ => L5 fun _ => L5 fun _ => .pure

theorem safe_k0_part2 (v0 : IVec S8x128 32) (v14 : FVec F S8x128 .f32) (k0_t1 : Fin k0_t1_loop.trips) (v29 : BitVec 32) (v30 : BitVec 32) (v53 : FVec F S8x128 .f32) (v68 : FVec F S8x128 .f32) :
    Safe (F := F) c (mems arg2 arg3 arg4 arg5 arg6 arg7 arg8 arg9 arg10 arg11 arg12 arg13) (k0_part2 (F := F) i arg2 harg2 arg3 harg3 arg4 harg4 arg5 harg5 arg6 harg6 arg7 harg7 arg8 harg8 arg9 harg9 arg10 harg10 arg11 harg11 arg12 harg12 arg13 harg13 v0 v14 k0_t1 v29 v30 v53 v68) := by
  rw [k0_part2_eq_skeleton]; unfold k0_part2_skel
  exact L4 fun _ => L4 fun _ => L0 fun _ => .pure

theorem safe_k0_part3 (k0_t1 : Fin k0_t1_loop.trips) (v29 : BitVec 32) (v100 : IVec S8x128 32) (v106 : IVec S8x128 1) (v110 : IVec S8x128 32) :
    Safe (F := F) c (mems arg2 arg3 arg4 arg5 arg6 arg7 arg8 arg9 arg10 arg11 arg12 arg13) (k0_part3 (F := F) i arg2 harg2 arg3 harg3 arg4 harg4 arg5 harg5 arg6 harg6 arg7 harg7 arg8 harg8 arg9 harg9 arg10 harg10 arg11 harg11 arg12 harg12 arg13 harg13 k0_t1 v29 v100 v106 v110) := by
  rw [k0_part3_eq_skeleton]; unfold k0_part3_skel
  exact L0 fun _ => L0 fun _ => L0 fun _ => L0 fun _ => L0 fun _ => L8 fun _ => S8 fun _ => L0 fun _ => L0 fun _ => .pure

theorem safe_k0_part4 (k0_t1 : Fin k0_t1_loop.trips) (v29 : BitVec 32) (v100 : IVec S8x128 32) (v106 : IVec S8x128 1) (v146 : IVec S8x128 32) (v148 : Vec F S1x1x32x128 .i8) :
    Safe (F := F) c (mems arg2 arg3 arg4 arg5 arg6 arg7 arg8 arg9 arg10 arg11 arg12 arg13) (k0_part4 (F := F) i arg2 harg2 arg3 harg3 arg4 harg4 arg5 harg5 arg6 harg6 arg7 harg7 arg8 harg8 arg9 harg9 arg10 harg10 arg11 harg11 arg12 harg12 arg13 harg13 k0_t1 v29 v100 v106 v146 v148) := by
  rw [k0_part4_eq_skeleton]; unfold k0_part4_skel
  exact L0 fun _ => L0 fun _ => L0 fun _ => L0 fun _ => L8 fun _ => S8 fun _ => L0 fun _ => L0 fun _ => .pure

theorem safe_k0_part5 (k0_t1 : Fin k0_t1_loop.trips) (v29 : BitVec 32) (v100 : IVec S8x128 32) (v106 : IVec S8x128 1) (v182 : IVec S8x128 32) (v185 : IVec S32x128 8) :
    Safe (F := F) c (mems arg2 arg3 arg4 arg5 arg6 arg7 arg8 arg9 arg10 arg11 arg12 arg13) (k0_part5 (F := F) i arg2 harg2 arg3 harg3 arg4 harg4 arg5 harg5 arg6 harg6 arg7 harg7 arg8 harg8 arg9 harg9 arg10 harg10 arg11 harg11 arg12 harg12 arg13 harg13 k0_t1 v29 v100 v106 v182 v185) := by
  rw [k0_part5_eq_skeleton]; unfold k0_part5_skel
  exact L0 fun _ => L0 fun _ => L0 fun _ => L0 fun _ => L8 fun _ => S8 fun _ => L0 fun _ => L0 fun _ => .pure

theorem safe_k0_part6 (k0_t1 : Fin k0_t1_loop.trips) (v29 : BitVec 32) (v100 : IVec S8x128 32) (v106 : IVec S8x128 1) (v218 : IVec S8x128 32) (v222 : IVec S8x128 32) :
    Safe (F := F) c (mems arg2 arg3 arg4 arg5 arg6 arg7 arg8 arg9 arg10 arg11 arg12 arg13) (k0_part6 (F := F) i arg2 harg2 arg3 harg3 arg4 harg4 arg5 harg5 arg6 harg6 arg7 harg7 arg8 harg8 arg9 harg9 arg10 harg10 arg11 harg11 arg12 harg12 arg13 harg13 k0_t1 v29 v100 v106 v218 v222) := by
  rw [k0_part6_eq_skeleton]; unfold k0_part6_skel
  exact L0 fun _ => L0 fun _ => L0 fun _ => L0 fun _ => L8 fun _ => S8 fun _ => L0 fun _ => L0 fun _ => .pure

theorem safe_k0_part7 (k0_t1 : Fin k0_t1_loop.trips) (v29 : BitVec 32) (v100 : IVec S8x128 32) (v106 : IVec S8x128 1) (v259 : IVec S8x128 32) :
    Safe (F := F) c (mems arg2 arg3 arg4 arg5 arg6 arg7 arg8 arg9 arg10 arg11 arg12 arg13) (k0_part7 (F := F) i arg2 harg2 arg3 harg3 arg4 harg4 arg5 harg5 arg6 harg6 arg7 harg7 arg8 harg8 arg9 harg9 arg10 harg10 arg11 harg11 arg12 harg12 arg13 harg13 k0_t1 v29 v100 v106 v259) := by
  rw [k0_part7_eq_skeleton]; unfold k0_part7_skel
  exact L0 fun _ => L0 fun _ => L0 fun _ => L0 fun _ => L8 fun _ => S8 fun _ => L0 fun _ => L0 fun _ => .pure

theorem safe_k0_part8 (k0_t1 : Fin k0_t1_loop.trips) (v29 : BitVec 32) (v100 : IVec S8x128 32) (v106 : IVec S8x128 1) (v295 : IVec S8x128 32) :
    Safe (F := F) c (mems arg2 arg3 arg4 arg5 arg6 arg7 arg8 arg9 arg10 arg11 arg12 arg13) (k0_part8 (F := F) i arg2 harg2 arg3 harg3 arg4 harg4 arg5 harg5 arg6 harg6 arg7 harg7 arg8 harg8 arg9 harg9 arg10 harg10 arg11 harg11 arg12 harg12 arg13 harg13 k0_t1 v29 v100 v106 v295) := by
  rw [k0_part8_eq_skeleton]; unfold k0_part8_skel
  exact L0 fun _ => L0 fun _ => L0 fun _ => L0 fun _ => L8 fun _ => S8 fun _ => L0 fun _ => L0 fun _ => .pure

theorem safe_k0_part9 (k0_t1 : Fin k0_t1_loop.trips) (v29 : BitVec 32) (v100 : IVec S8x128 32) (v106 : IVec S8x128 1) (v331 : IVec S8x128 32) :
    Safe (F := F) c (mems arg2 arg3 arg4 arg5 arg6 arg7 arg8 arg9 arg10 arg11 arg12 arg13) (k0_part9 (F := F) i arg2 harg2 arg3 harg3 arg4 harg4 arg5 harg5 arg6 harg6 arg7 harg7 arg8 harg8 arg9 harg9 arg10 harg10 arg11 harg11 arg12 harg12 arg13 harg13 k0_t1 v29 v100 v106 v331) := by
  rw [k0_part9_eq_skeleton]; unfold k0_part9_skel
  exact L0 fun _ => L0 fun _ => L0 fun _ => L0 fun _ => L8 fun _ => S8 fun _ => L0 fun _ => L0 fun _ => .pure

theorem safe_k0_part10 (k0_t1 : Fin k0_t1_loop.trips) (v29 : BitVec 32) (v100 : IVec S8x128 32) (v106 : IVec S8x128 1) (v367 : IVec S8x128 32) :
    Safe (F := F) c (mems arg2 arg3 arg4 arg5 arg6 arg7 arg8 arg9 arg10 arg11 arg12 arg13) (k0_part10 (F := F) i arg2 harg2 arg3 harg3 arg4 harg4 arg5 harg5 arg6 harg6 arg7 harg7 arg8 harg8 arg9 harg9 arg10 harg10 arg11 harg11 arg12 harg12 arg13 harg13 k0_t1 v29 v100 v106 v367) := by
  rw [k0_part10_eq_skeleton]; unfold k0_part10_skel
  exact L0 fun _ => L0 fun _ => L0 fun _ => L0 fun _ => L8 fun _ => S8 fun _ => L0 fun _ => L0 fun _ => .pure

theorem safe_k0_part11 (k0_t1 : Fin k0_t1_loop.trips) (v29 : BitVec 32) (v100 : IVec S8x128 32) (v106 : IVec S8x128 1) (v403 : IVec S8x128 32) :
    Safe (F := F) c (mems arg2 arg3 arg4 arg5 arg6 arg7 arg8 arg9 arg10 arg11 arg12 arg13) (k0_part11 (F := F) i arg2 harg2 arg3 harg3 arg4 harg4 arg5 harg5 arg6 harg6 arg7 harg7 arg8 harg8 arg9 harg9 arg10 harg10 arg11 harg11 arg12 harg12 arg13 harg13 k0_t1 v29 v100 v106 v403) := by
  rw [k0_part11_eq_skeleton]; unfold k0_part11_skel
  exact L0 fun _ => L0 fun _ => L0 fun _ => L0 fun _ => L8 fun _ => S8 fun _ => L0 fun _ => L0 fun _ => L0 fun _ => .pure

theorem safe_k0_part12 (k0_t1 : Fin k0_t1_loop.trips) (v29 : BitVec 32) (v100 : IVec S8x128 32) (v106 : IVec S8x128 1) (v439 : IVec S8x128 32) (v441 : Vec F S1x1x32x128 .i8) :
    Safe (F := F) c (mems arg2 arg3 arg4 arg5 arg6 arg7 arg8 arg9 arg10 arg11 arg12 arg13) (k0_part12 (F := F) i arg2 harg2 arg3 harg3 arg4 harg4 arg5 harg5 arg6 harg6 arg7 harg7 arg8 harg8 arg9 harg9 arg10 harg10 arg11 harg11 arg12 harg12 arg13 harg13 k0_t1 v29 v100 v106 v439 v441) := by
  rw [k0_part12_eq_skeleton]; unfold k0_part12_skel
  exact L0 fun _ => L0 fun _ => L0 fun _ => L8 fun _ => S8 fun _ => L0 fun _ => L0 fun _ => L0 fun _ => .pure

theorem safe_k0_part13 (k0_t1 : Fin k0_t1_loop.trips) (v29 : BitVec 32) (v100 : IVec S8x128 32) (v106 : IVec S8x128 1) (v475 : IVec S8x128 32) (v478 : IVec S32x128 8) :
    Safe (F := F) c (mems arg2 arg3 arg4 arg5 arg6 arg7 arg8 arg9 arg10 arg11 arg12 arg13) (k0_part13 (F := F) i arg2 harg2 arg3 harg3 arg4 harg4 arg5 harg5 arg6 harg6 arg7 harg7 arg8 harg8 arg9 harg9 arg10 harg10 arg11 harg11 arg12 harg12 arg13 harg13 k0_t1 v29 v100 v106 v475 v478) := by
  rw [k0_part13_eq_skeleton]; unfold k0_part13_skel
  exact L0 fun _ => L0 fun _ => L0 fun _ => L8 fun _ => S8 fun _ => L0 fun _ => L0 fun _ => L0 fun _ => .pure

theorem safe_k0_part14 (k0_t1 : Fin k0_t1_loop.trips) (v29 : BitVec 32) (v100 : IVec S8x128 32) (v106 : IVec S8x128 1) (v511 : IVec S8x128 32) (v515 : IVec S8x128 32) :
    Safe (F := F) c (mems arg2 arg3 arg4 arg5 arg6 arg7 arg8 arg9 arg10 arg11 arg12 arg13) (k0_part14 (F := F) i arg2 harg2 arg3 harg3 arg4 harg4 arg5 harg5 arg6 harg6 arg7 harg7 arg8 harg8 arg9 harg9 arg10 harg10 arg11 harg11 arg12 harg12 arg13 harg13 k0_t1 v29 v100 v106 v511 v515) := by
  rw [k0_part14_eq_skeleton]; unfold k0_part14_skel
  exact L0 fun _ => L0 fun _ => L0 fun _ => L8 fun _ => S8 fun _ => L0 fun _ => L0 fun _ => L0 fun _ => .pure

theorem safe_k0_part15 (k0_t1 : Fin k0_t1_loop.trips) (v29 : BitVec 32) (v100 : IVec S8x128 32) (v106 : IVec S8x128 1) (v547 : IVec S8x128 32) (v551 : IVec S8x128 32) :
    Safe (F := F) c (mems arg2 arg3 arg4 arg5 arg6 arg7 arg8 arg9 arg10 arg11 arg12 arg13) (k0_part15 (F := F) i arg2 harg2 arg3 harg3 arg4 harg4 arg5 harg5 arg6 harg6 arg7 harg7 arg8 harg8 arg9 harg9 arg10 harg10 arg11 harg11 arg12 harg12 arg13 harg13 k0_t1 v29 v100 v106 v547 v551) := by
  rw [k0_part15_eq_skeleton]; unfold k0_part15_skel
  exact L0 fun _ => L0 fun _ => L0 fun _ => L8 fun _ => S8 fun _ => L0 fun _ => L0 fun _ => L0 fun _ => .pure

theorem safe_k0_part16 (k0_t1 : Fin k0_t1_loop.trips) (v29 : BitVec 32) (v100 : IVec S8x128 32) (v106 : IVec S8x128 1) (v583 : IVec S8x128 32) (v587 : IVec S8x128 32) :
    Safe (F := F) c (mems arg2 arg3 arg4 arg5 arg6 arg7 arg8 arg9 arg10 arg11 arg12 arg13) (k0_part16 (F := F) i arg2 harg2 arg3 harg3 arg4 harg4 arg5 harg5 arg6 harg6 arg7 harg7 arg8 harg8 arg9 harg9 arg10 harg10 arg11 harg11 arg12 harg12 arg13 harg13 k0_t1 v29 v100 v106 v583 v587) := by
  rw [k0_part16_eq_skeleton]; unfold k0_part16_skel
  exact L0 fun _ => L0 fun _ => L0 fun _ => L8 fun _ => S8 fun _ => L0 fun _ => L0 fun _ => L0 fun _ => .pure

theorem safe_k0_part17 (k0_t1 : Fin k0_t1_loop.trips) (v29 : BitVec 32) (v100 : IVec S8x128 32) (v106 : IVec S8x128 1) (v619 : IVec S8x128 32) (v623 : IVec S8x128 32) :
    Safe (F := F) c (mems arg2 arg3 arg4 arg5 arg6 arg7 arg8 arg9 arg10 arg11 arg12 arg13) (k0_part17 (F := F) i arg2 harg2 arg3 harg3 arg4 harg4 arg5 harg5 arg6 harg6 arg7 harg7 arg8 harg8 arg9 harg9 arg10 harg10 arg11 harg11 arg12 harg12 arg13 harg13 k0_t1 v29 v100 v106 v619 v623) := by
  rw [k0_part17_eq_skeleton]; unfold k0_part17_skel
  exact L0 fun _ => L0 fun _ => L0 fun _ => L8 fun _ => S8 fun _ => L0 fun _ => L0 fun _ => L0 fun _ => .pure

theorem safe_k0_part18 (k0_t1 : Fin k0_t1_loop.trips) (v29 : BitVec 32) (v95 : IVec S8x128 32) (v100 : IVec S8x128 32) (v106 : IVec S8x128 1) (v655 : IVec S8x128 32) (v659 : IVec S8x128 32) :
    Safe (F := F) c (mems arg2 arg3 arg4 arg5 arg6 arg7 arg8 arg9 arg10 arg11 arg12 arg13) (k0_part18 (F := F) i arg2 harg2 arg3 harg3 arg4 harg4 arg5 harg5 arg6 harg6 arg7 harg7 arg8 harg8 arg9 harg9 arg10 harg10 arg11 harg11 arg12 harg12 arg13 harg13 k0_t1 v29 v95 v100 v106 v655 v659) := by
  rw [k0_part18_eq_skeleton]; unfold k0_part18_skel
  exact L0 fun _ => L0 fun _ => L0 fun _ => L8 fun _ => S8 fun _ => L1 fun _ => L1 fun _ => L8 fun _ => S8 fun _ => .pure

theorem safe_k0_part19 (k0_t1 : Fin k0_t1_loop.trips) (v29 : BitVec 32) (v685 : IVec S8x128 32) :
    Safe (F := F) c (mems arg2 arg3 arg4 arg5 arg6 arg7 arg8 arg9 arg10 arg11 arg12 arg13) (k0_part19 (F := F) i arg2 harg2 arg3 harg3 arg4 harg4 arg5 harg5 arg6 harg6 arg7 harg7 arg8 harg8 arg9 harg9 arg10 harg10 arg11 harg11 arg12 harg12 arg13 harg13 k0_t1 v29 v685) := by
  rw [k0_part19_eq_skeleton]; unfold k0_part19_skel
  exact L1 fun _ => L1 fun _ => L8 fun _ => S8 fun _ => L1 fun _ => L1 fun _ => L8 fun _ => S8 fun _ => L1 fun _ => .pure

theorem safe_k0_part20 (k0_t1 : Fin k0_t1_loop.trips) (v29 : BitVec 32) (v685 : IVec S8x128 32) (v731 : IVec S8x128 32) (v733 : IVec S8x128 1) :
    Safe (F := F) c (mems arg2 arg3 arg4 arg5 arg6 arg7 arg8 arg9 arg10 arg11 arg12 arg13) (k0_part20 (F := F) i arg2 harg2 arg3 harg3 arg4 harg4 arg5 harg5 arg6 harg6 arg7 harg7 arg8 harg8 arg9 harg9 arg10 harg10 arg11 harg11 arg12 harg12 arg13 harg13 k0_t1 v29 v685 v731 v733) := by
  rw [k0_part20_eq_skeleton]; unfold k0_part20_skel
  exact L1 fun _ => L8 fun _ => S8 fun _ => L1 fun _ => L1 fun _ => L8 fun _ => S8 fun _ => L1 fun _ => L1 fun _ => L8 fun _ =>
    S8 fun _ => .pure

theorem safe_k0_part21 (k0_t1 : Fin k0_t1_loop.trips) (v29 : BitVec 32) (v685 : IVec S8x128 32) :
    Safe (F := F) c (mems arg2 arg3 arg4 arg5 arg6 arg7 arg8 arg9 arg10 arg11 arg12 arg13) (k0_part21 (F := F) i arg2 harg2 arg3 harg3 arg4 harg4 arg5 harg5 arg6 harg6 arg7 harg7 arg8 harg8 arg9 harg9 arg10 harg10 arg11 harg11 arg12 harg12 arg13 harg13 k0_t1 v29 v685) := by
  rw [k0_part21_eq_skeleton]; unfold k0_part21_skel
  exact L1 fun _ => L1 fun _ => L8 fun _ => S8 fun _ => L1 fun _ => L1 fun _ => L8 fun _ => S8 fun _ => L1 fun _ => L8 fun _ =>
    .pure

theorem safe_k0_part22 (k0_t1 : Fin k0_t1_loop.trips) (v29 : BitVec 32) (v804 : IVec S8x128 32) :
    Safe (F := F) c (mems arg2 arg3 arg4 arg5 arg6 arg7 arg8 arg9 arg10 arg11 arg12 arg13) (k0_part22 (F := F) i arg2 harg2 arg3 harg3 arg4 harg4 arg5 harg5 arg6 harg6 arg7 harg7 arg8 harg8 arg9 harg9 arg10 harg10 arg11 harg11 arg12 harg12 arg13 harg13 k0_t1 v29 v804) := by
  rw [k0_part22_eq_skeleton]; unfold k0_part22_skel
  exact S8 fun _ => L1 fun _ => L8 fun _ => S8 fun _ => L1 fun _ => L8 fun _ => S8 fun _ => L1 fun _ => L8 fun _ => S8 fun _ =>
    L1 fun _ => L8 fun _ => S8 fun _ => L1 fun _ => .pure

theorem safe_k0_part23 (k0_t1 : Fin k0_t1_loop.trips) (v29 : BitVec 32) (v836 : IVec S8x128 32) :
    Safe (F := F) c (mems arg2 arg3 arg4 arg5 arg6 arg7 arg8 arg9 arg10 arg11 arg12 arg13) (k0_part23 (F := F) i arg2 harg2 arg3 harg3 arg4 harg4 arg5 harg5 arg6 harg6 arg7 harg7 arg8 harg8 arg9 harg9 arg10 harg10 arg11 harg11 arg12 harg12 arg13 harg13 k0_t1 v29 v836) := by
  rw [k0_part23_eq_skeleton]; unfold k0_part23_skel
  exact L8 fun _ => S8 fun _ => L1 fun _ => L8 fun _ => S8 fun _ => L1 fun _ => L8 fun _ => S8 fun _ => L2 fun _ => L8 fun _ =>
    S8 fun _ => L2 fun _ => L8 fun _ => S8 fun _ => .pure

theorem safe_k0_part24 (k0_t1 : Fin k0_t1_loop.trips) (v29 : BitVec 32) :
    Safe (F := F) c (mems arg2 arg3 arg4 arg5 arg6 arg7 arg8 arg9 arg10 arg11 arg12 arg13) (k0_part24 (F := F) i arg2 harg2 arg3 harg3 arg4 harg4 arg5 harg5 arg6 harg6 arg7 harg7 arg8 harg8 arg9 harg9 arg10 harg10 arg11 harg11 arg12 harg12 arg13 harg13 k0_t1 v29) := by
  rw [k0_part24_eq_skeleton]; unfold k0_part24_skel
  exact L2 fun _ => L8 fun _ => S8 fun _ => L2 fun _ => L8 fun _ => S8 fun _ => L2 fun _ => L8 fun _ => S8 fun _ => L2 fun _ =>
    L8 fun _ => S8 fun _ => L2 fun _ => L8 fun _ => .pure

theorem safe_k0_part25 (k0_t1 : Fin k0_t1_loop.trips) (v29 : BitVec 32) (v899 : IVec S4x128 32) (v900 : Vec F S4x128 .i32) :
    Safe (F := F) c (mems arg2 arg3 arg4 arg5 arg6 arg7 arg8 arg9 arg10 arg11 arg12 arg13) (k0_part25 (F := F) i arg2 harg2 arg3 harg3 arg4 harg4 arg5 harg5 arg6 harg6 arg7 harg7 arg8 harg8 arg9 harg9 arg10 harg10 arg11 harg11 arg12 harg12 arg13 harg13 k0_t1 v29 v899 v900) := by
  rw [k0_part25_eq_skeleton]; unfold k0_part25_skel
  exact S8 fun _ => L2 fun _ => L8 fun _ => S8 fun _ => L2 fun _ => L8 fun _ => S8 fun _ => L2 fun _ => L8 fun _ => S8 fun _ =>
    L2 fun _ => L8 fun _ => S8 fun _ => L2 fun _ => .pure

theorem safe_k0_part26 (k0_t1 : Fin k0_t1_loop.trips) (v29 : BitVec 32) (v932 : Vec F S1x1x16x128 .i8) :
    Safe (F := F) c (mems arg2 arg3 arg4 arg5 arg6 arg7 arg8 arg9 arg10 arg11 arg12 arg13) (k0_part26 (F := F) i arg2 harg2 arg3 harg3 arg4 harg4 arg5 harg5 arg6 harg6 arg7 harg7 arg8 harg8 arg9 harg9 arg10 harg10 arg11 harg11 arg12 harg12 arg13 harg13 k0_t1 v29 v932) := by
  rw [k0_part26_eq_skeleton]; unfold k0_part26_skel
  exact L8 fun _ => S8 fun _ => L3 fun _ => L8 fun _ => S8 fun _ => L3 fun _ => L8 fun _ => S8 fun _ => L3 fun _ => L8 fun _ =>
    S8 fun _ => L3 fun _ => L8 fun _ => S8 fun _ => .pure

theorem safe_k0_part27 (v0 : IVec S8x128 32) (k0_t1 : Fin k0_t1_loop.trips) (v29 : BitVec 32) (v30 : BitVec 32) (v95 : IVec S8x128 32) (v97 : IVec S8x128 32) :
    Safe (F := F) c (mems arg2 arg3 arg4 arg5 arg6 arg7 arg8 arg9 arg10 arg11 arg12 arg13) (k0_part27 (F := F) i arg2 harg2 arg3 harg3 arg4 harg4 arg5 harg5 arg6 harg6 arg7 harg7 arg8 harg8 arg9 harg9 arg10 harg10 arg11 harg11 arg12 harg12 arg13 harg13 v0 k0_t1 v29 v30 v95 v97) := by
  rw [k0_part27_eq_skeleton]; unfold k0_part27_skel
  exact L3 fun _ => L8 fun _ => S8 fun _ => L3 fun _ => L8 fun _ => S8 fun _ => L0 fun _ => L0 fun _ => L0 fun _ => .pure

theorem safe_k0_part28 (k0_t1 : Fin k0_t1_loop.trips) (v30 : BitVec 32) (v982 : IVec S8x128 32) (v988 : IVec S8x128 1) (v997 : IVec S8x128 32) (v1001 : IVec S8x128 32) :
    Safe (F := F) c (mems arg2 arg3 arg4 arg5 arg6 arg7 arg8 arg9 arg10 arg11 arg12 arg13) (k0_part28 (F := F) i arg2 harg2 arg3 harg3 arg4 harg4 arg5 harg5 arg6 harg6 arg7 harg7 arg8 harg8 arg9 harg9 arg10 harg10 arg11 harg11 arg12 harg12 arg13 harg13 k0_t1 v30 v982 v988 v997 v1001) := by
  rw [k0_part28_eq_skeleton]; unfold k0_part28_skel
  exact L0 fun _ => L0 fun _ => L0 fun _ => L8 fun _ => S8 fun _ => L0 fun _ => L0 fun _ => L0 fun _ => .pure

theorem safe_k0_part29 (k0_t1 : Fin k0_t1_loop.trips) (v30 : BitVec 32) (v982 : IVec S8x128 32) (v988 : IVec S8x128 1) (v1033 : IVec S8x128 32) (v1037 : IVec S8x128 32) :
    Safe (F := F) c (mems arg2 arg3 arg4 arg5 arg6 arg7 arg8 arg9 arg10 arg11 arg12 arg13) (k0_part29 (F := F) i arg2 harg2 arg3 harg3 arg4 harg4 arg5 harg5 arg6 harg6 arg7 harg7 arg8 harg8 arg9 harg9 arg10 harg10 arg11 harg11 arg12 harg12 arg13 harg13 k0_t1 v30 v982 v988 v1033 v1037) := by
  rw [k0_part29_eq_skeleton]; unfold k0_part29_skel
  exact L0 fun _ => L0 fun _ => L0 fun _ => L8 fun _ => S8 fun _ => L0 fun _ => L0 fun _ => L0 fun _ => .pure

theorem safe_k0_part30 (k0_t1 : Fin k0_t1_loop.trips) (v30 : BitVec 32) (v982 : IVec S8x128 32) (v988 : IVec S8x128 1) (v1069 : IVec S8x128 32) (v1073 : IVec S8x128 32) :
    Safe (F := F) c (mems arg2 arg3 arg4 arg5 arg6 arg7 arg8 arg9 arg10 arg11 arg12 arg13) (k0_part30 (F := F) i arg2 harg2 arg3 harg3 arg4 harg4 arg5 harg5 arg6 harg6 arg7 harg7 arg8 harg8 arg9 harg9 arg10 harg10 arg11 harg11 arg12 harg12 arg13 harg13 k0_t1 v30 v982 v988 v1069 v1073) := by
  rw [k0_part30_eq_skeleton]; unfold k0_part30_skel
  exact L0 fun _ => L0 fun _ => L0 fun _ => L8 fun _ => S8 fun _ => L0 fun _ => L0 fun _ => L0 fun _ => L0 fun _ => .pure

theorem safe_k0_part31 (k0_t1 : Fin k0_t1_loop.trips) (v30 : BitVec 32) (v982 : IVec S8x128 32) (v988 : IVec S8x128 1) (v1105 : IVec S8x128 32) (v1109 : IVec S8x128 32) (v1111 : Vec F S1x1x32x128 .i8) :
    Safe (F := F) c (mems arg2 arg3 arg4 arg5 arg6 arg7 arg8 arg9 arg10 arg11 arg12 arg13) (k0_part31 (F := F) i arg2 harg2 arg3 harg3 arg4 harg4 arg5 harg5 arg6 harg6 arg7 harg7 arg8 harg8 arg9 harg9 arg10 harg10 arg11 harg11 arg12 harg12 arg13 harg13 k0_t1 v30 v982 v988 v1105 v1109 v1111) := by
  rw [k0_part31_eq_skeleton]; unfold k0_part31_skel
  exact L0 fun _ => L0 fun _ => L8 fun _ => S8 fun _ => L0 fun _ => L0 fun _ => L0 fun _ => L0 fun _ => .pure

theorem safe_k0_part32 (k0_t1 : Fin k0_t1_loop.trips) (v30 : BitVec 32) (v982 : IVec S8x128 32) (v988 : IVec S8x128 1) (v1141 : IVec S8x128 32) (v1145 : IVec S8x128 32) (v1148 : IVec S32x128 8) :
    Safe (F := F) c (mems arg2 arg3 arg4 arg5 arg6 arg7 arg8 arg9 arg10 arg11 arg12 arg13) (k0_part32 (F := F) i arg2 harg2 arg3 harg3 arg4 harg4 arg5 harg5 arg6 harg6 arg7 harg7 arg8 harg8 arg9 harg9 arg10 harg10 arg11 harg11 arg12 harg12 arg13 harg13 k0_t1 v30 v982 v988 v1141 v1145 v1148) := by
  rw [k0_part32_eq_skeleton]; unfold k0_part32_skel
  exact L0 fun _ => L0 fun _ => L8 fun _ => S8 fun _ => L0 fun _ => L0 fun _ => L0 fun _ => L0 fun _ => .pure

theorem safe_k0_part33 (k0_t1 : Fin k0_t1_loop.trips) (v30 : BitVec 32) (v982 : IVec S8x128 32) (v988 : IVec S8x128 1) (v1177 : IVec S8x128 32) (v1181 : IVec S8x128 32) (v1185 : IVec S8x128 32) :
    Safe (F := F) c (mems arg2 arg3 arg4 arg5 arg6 arg7 arg8 arg9 arg10 arg11 arg12 arg13) (k0_part33 (F := F) i arg2 harg2 arg3 harg3 arg4 harg4 arg5 harg5 arg6 harg6 arg7 harg7 arg8 harg8 arg9 harg9 arg10 harg10 arg11 harg11 arg12 harg12 arg13 harg13 k0_t1 v30 v982 v988 v1177 v1181 v1185) := by
  rw [k0_part33_eq_skeleton]; unfold k0_part33_skel
  exact L0 fun _ => L0 fun _ => L8 fun _ => S8 fun _ => L0 fun _ => L0 fun _ => L0 fun _ => L0 fun _ => .pure

theorem safe_k0_part34 (k0_t1 : Fin k0_t1_loop.trips) (v30 : BitVec 32) (v982 : IVec S8x128 32) (v988 : IVec S8x128 1) (v1213 : IVec S8x128 32) (v1222 : IVec S8x128 32) :
    Safe (F := F) c (mems arg2 arg3 arg4 arg5 arg6 arg7 arg8 arg9 arg10 arg11 arg12 arg13) (k0_part34 (F := F) i arg2 harg2 arg3 harg3 arg4 harg4 arg5 harg5 arg6 harg6 arg7 harg7 arg8 harg8 arg9 harg9 arg10 harg10 arg11 harg11 arg12 harg12 arg13 harg13 k0_t1 v30 v982 v988 v1213 v1222) := by
  rw [k0_part34_eq_skeleton]; unfold k0_part34_skel
  exact L0 fun _ => L0 fun _ => L8 fun _ => S8 fun _ => L0 fun _ => L0 fun _ => L0 fun _ => L0 fun _ => .pure

theorem safe_k0_part35 (k0_t1 : Fin k0_t1_loop.trips) (v30 : BitVec 32) (v982 : IVec S8x128 32) (v988 : IVec S8x128 1) (v1249 : IVec S8x128 32) (v1258 : IVec S8x128 32) (c14_i32_619 : BitVec 32) :
    Safe (F := F) c (mems arg2 arg3 arg4 arg5 arg6 arg7 arg8 arg9 arg10 arg11 arg12 arg13) (k0_part35 (F := F) i arg2 harg2 arg3 harg3 arg4 harg4 arg5 harg5 arg6 harg6 arg7 harg7 arg8 harg8 arg9 harg9 arg10 harg10 arg11 harg11 arg12 harg12 arg13 harg13 k0_t1 v30 v982 v988 v1249 v1258 c14_i32_619) := by
  rw [k0_part35_eq_skeleton]; unfold k0_part35_skel
  exact L0 fun _ => L0 fun _ => L8 fun _ => S8 fun _ => L0 fun _ => L0 fun _ => L0 fun _ => L0 fun _ => .pure

theorem safe_k0_part36 (k0_t1 : Fin k0_t1_loop.trips) (v30 : BitVec 32) (v982 : IVec S8x128 32) (v988 : IVec S8x128 1) (v1285 : IVec S8x128 32) (v1294 : IVec S8x128 32) (v1295 : IVec S8x128 32) :
    Safe (F := F) c (mems arg2 arg3 arg4 arg5 arg6 arg7 arg8 arg9 arg10 arg11 arg12 arg13) (k0_part36 (F := F) i arg2 harg2 arg3 harg3 arg4 harg4 arg5 harg5 arg6 harg6 arg7 harg7 arg8 harg8 arg9 harg9 arg10 harg10 arg11 harg11 arg12 harg12 arg13 harg13 k0_t1 v30 v982 v988 v1285 v1294 v1295) := by
  rw [k0_part36_eq_skeleton]; unfold k0_part36_skel
  exact L0 fun _ => L0 fun _ => L8 fun _ => S8 fun _ => L0 fun _ => L0 fun _ => L0 fun _ => L0 fun _ => .pure

theorem safe_k0_part37 (k0_t1 : Fin k0_t1_loop.trips) (v30 : BitVec 32) (v982 : IVec S8x128 32) (v988 : IVec S8x128 1) (v1321 : IVec S8x128 32) (v1330 : IVec S8x128 32) (v1332 : IVec S8x128 1) :
    Safe (F := F) c (mems arg2 arg3 arg4 arg5 arg6 arg7 arg8 arg9 arg10 arg11 arg12 arg13) (k0_part37 (F := F) i arg2 harg2 arg3 harg3 arg4 harg4 arg5 harg5 arg6 harg6 arg7 harg7 arg8 harg8 arg9 harg9 arg10 harg10 arg11 harg11 arg12 harg12 arg13 harg13 k0_t1 v30 v982 v988 v1321 v1330 v1332) := by
  rw [k0_part37_eq_skeleton]; unfold k0_part37_skel
  exact L0 fun _ => L0 fun _ => L8 fun _ => S8 fun _ => L0 fun _ => L0 fun _ => L0 fun _ => L0 fun _ => .pure

theorem safe_k0_part38 (k0_t1 : Fin k0_t1_loop.trips) (v30 : BitVec 32) (v982 : IVec S8x128 32) (v988 : IVec S8x128 1) (v1369 : IVec S8x128 32) :
    Safe (F := F) c (mems arg2 arg3 arg4 arg5 arg6 arg7 arg8 arg9 arg10 arg11 arg12 arg13) (k0_part38 (F := F) i arg2 harg2 arg3 harg3 arg4 harg4 arg5 harg5 arg6 harg6 arg7 harg7 arg8 harg8 arg9 harg9 arg10 harg10 arg11 harg11 arg12 harg12 arg13 harg13 k0_t1 v30 v982 v988 v1369) := by
  rw [k0_part38_eq_skeleton]; unfold k0_part38_skel
  exact L0 fun _ => L0 fun _ => L8 fun _ => S8 fun _ => L0 fun _ => L0 fun _ => L0 fun _ => L0 fun _ => .pure

theorem safe_k0_part39 (k0_t1 : Fin k0_t1_loop.trips) (v30 : BitVec 32) (v982 : IVec S8x128 32) (v988 : IVec S8x128 1) (v1405 : IVec S8x128 32) :
    Safe (F := F) c (mems arg2 arg3 arg4 arg5 arg6 arg7 arg8 arg9 arg10 arg11 arg12 arg13) (k0_part39 (F := F) i arg2 harg2 arg3 harg3 arg4 harg4 arg5 harg5 arg6 harg6 arg7 harg7 arg8 harg8 arg9 harg9 arg10 harg10 arg11 harg11 arg12 harg12 arg13 harg13 k0_t1 v30 v982 v988 v1405) := by
  rw [k0_part39_eq_skeleton]; unfold k0_part39_skel
  exact L0 fun _ => L0 fun _ => L8 fun _ => S8 fun _ => L0 fun _ => L0 fun _ => L0 fun _ => L0 fun _ => .pure

theorem safe_k0_part40 (k0_t1 : Fin k0_t1_loop.trips) (v30 : BitVec 32) (v982 : IVec S8x128 32) (v988 : IVec S8x128 1) (v1441 : IVec S8x128 32) :
    Safe (F := F) c (mems arg2 arg3 arg4 arg5 arg6 arg7 arg8 arg9 arg10 arg11 arg12 arg13) (k0_part40 (F := F) i arg2 harg2 arg3 harg3 arg4 harg4 arg5 harg5 arg6 harg6 arg7 harg7 arg8 harg8 arg9 harg9 arg10 harg10 arg11 harg11 arg12 harg12 arg13 harg13 k0_t1 v30 v982 v988 v1441) := by
  rw [k0_part40_eq_skeleton]; unfold k0_part40_skel
  exact L0 fun _ => L0 fun _ => L8 fun _ => S8 fun _ => L0 fun _ => L0 fun _ => L0 fun _ => L0 fun _ => .pure

theorem safe_k0_part41 (k0_t1 : Fin k0_t1_loop.trips) (v30 : BitVec 32) (v982 : IVec S8x128 32) (v988 : IVec S8x128 1) (v1477 : IVec S8x128 32) :
    Safe (F := F) c (mems arg2 arg3 arg4 arg5 arg6 arg7 arg8 arg9 arg10 arg11 arg12 arg13) (k0_part41 (F := F) i arg2 harg2 arg3 harg3 arg4 harg4 arg5 harg5 arg6 harg6 arg7 harg7 arg8 harg8 arg9 harg9 arg10 harg10 arg11 harg11 arg12 harg12 arg13 harg13 k0_t1 v30 v982 v988 v1477) := by
  rw [k0_part41_eq_skeleton]; unfold k0_part41_skel
  exact L0 fun _ => L0 fun _ => L8 fun _ => S8 fun _ => L0 fun _ => L0 fun _ => L0 fun _ => L0 fun _ => .pure

theorem safe_k0_part42 (k0_t1 : Fin k0_t1_loop.trips) (v30 : BitVec 32) (v982 : IVec S8x128 32) (v988 : IVec S8x128 1) (v1513 : IVec S8x128 32) :
    Safe (F := F) c (mems arg2 arg3 arg4 arg5 arg6 arg7 arg8 arg9 arg10 arg11 arg12 arg13) (k0_part42 (F := F) i arg2 harg2 arg3 harg3 arg4 harg4 arg5 harg5 arg6 harg6 arg7 harg7 arg8 harg8 arg9 harg9 arg10 harg10 arg11 harg11 arg12 harg12 arg13 harg13 k0_t1 v30 v982 v988 v1513) := by
  rw [k0_part42_eq_skeleton]; unfold k0_part42_skel
  exact L0 fun _ => L0 fun _ => L8 fun _ => S8 fun _ => L0 fun _ => L0 fun _ => L0 fun _ => L0 fun _ => L0 fun _ => .pure

theorem safe_k0_part43 (k0_t1 : Fin k0_t1_loop.trips) (v30 : BitVec 32) (v95 : IVec S8x128 32) (v982 : IVec S8x128 32) (v988 : IVec S8x128 1) (v1549 : IVec S8x128 32) (v1551 : Vec F S1x1x32x128 .i8) :
    Safe (F := F) c (mems arg2 arg3 arg4 arg5 arg6 arg7 arg8 arg9 arg10 arg11 arg12 arg13) (k0_part43 (F := F) i arg2 harg2 arg3 harg3 arg4 harg4 arg5 harg5 arg6 harg6 arg7 harg7 arg8 harg8 arg9 harg9 arg10 harg10 arg11 harg11 arg12 harg12 arg13 harg13 k0_t1 v30 v95 v982 v988 v1549 v1551) := by
  rw [k0_part43_eq_skeleton]; unfold k0_part43_skel
  exact L0 fun _ => L8 fun _ => S8 fun _ => L1 fun _ => L1 fun _ => L8 fun _ => S8 fun _ => L1 fun _ => .pure

theorem safe_k0_part44 (k0_t1 : Fin k0_t1_loop.trips) (v30 : BitVec 32) (v1567 : IVec S8x128 32) (v1585 : IVec S8x128 32) (v1587 : IVec S8x128 1) :
    Safe (F := F) c (mems arg2 arg3 arg4 arg5 arg6 arg7 arg8 arg9 arg10 arg11 arg12 arg13) (k0_part44 (F := F) i arg2 harg2 arg3 harg3 arg4 harg4 arg5 harg5 arg6 harg6 arg7 harg7 arg8 harg8 arg9 harg9 arg10 harg10 arg11 harg11 arg12 harg12 arg13 harg13 k0_t1 v30 v1567 v1585 v1587) := by
  rw [k0_part44_eq_skeleton]; unfold k0_part44_skel
  exact L1 fun _ => L8 fun _ => S8 fun _ => L1 fun _ => L1 fun _ => L8 fun _ => S8 fun _ => L1 fun _ => L1 fun _ => L8 fun _ =>
    S8 fun _ => .pure

theorem safe_k0_part45 (k0_t1 : Fin k0_t1_loop.trips) (v30 : BitVec 32) (v1567 : IVec S8x128 32) :
    Safe (F := F) c (mems arg2 arg3 arg4 arg5 arg6 arg7 arg8 arg9 arg10 arg11 arg12 arg13) (k0_part45 (F := F) i arg2 harg2 arg3 harg3 arg4 harg4 arg5 harg5 arg6 harg6 arg7 harg7 arg8 harg8 arg9 harg9 arg10 harg10 arg11 harg11 arg12 harg12 arg13 harg13 k0_t1 v30 v1567) := by
  rw [k0_part45_eq_skeleton]; unfold k0_part45_skel
  exact L1 fun _ => L1 fun _ => L8 fun _ => S8 fun _ => L1 fun _ => L1 fun _ => L8 fun _ => S8 fun _ => L1 fun _ => .pure

theorem safe_k0_part46 (k0_t1 : Fin k0_t1_loop.trips) (v30 : BitVec 32) (v1567 : IVec S8x128 32) (v1655 : IVec S8x128 32) (v1657 : IVec S8x128 1) :
    Safe (F := F) c (mems arg2 arg3 arg4 arg5 arg6 arg7 arg8 arg9 arg10 arg11 arg12 arg13) (k0_part46 (F := F) i arg2 harg2 arg3 harg3 arg4 harg4 arg5 harg5 arg6 harg6 arg7 harg7 arg8 harg8 arg9 harg9 arg10 harg10 arg11 harg11 arg12 harg12 arg13 harg13 k0_t1 v30 v1567 v1655 v1657) := by
  rw [k0_part46_eq_skeleton]; unfold k0_part46_skel
  exact L1 fun _ => L8 fun _ => S8 fun _ => L1 fun _ => L1 fun _ => L8 fun _ => S8 fun _ => L1 fun _ => L8 fun _ => S8 fun _ =>
    L1 fun _ => L8 fun _ => .pure

theorem safe_k0_part47 (k0_t1 : Fin k0_t1_loop.trips) (v30 : BitVec 32) (v1693 : IVec S8x128 32) :
    Safe (F := F) c (mems arg2 arg3 arg4 arg5 arg6 arg7 arg8 arg9 arg10 arg11 arg12 arg13) (k0_part47 (F := F) i arg2 harg2 arg3 harg3 arg4 harg4 arg5 harg5 arg6 harg6 arg7 harg7 arg8 harg8 arg9 harg9 arg10 harg10 arg11 harg11 arg12 harg12 arg13 harg13 k0_t1 v30 v1693) := by
  rw [k0_part47_eq_skeleton]; unfold k0_part47_skel
  exact S8 fun _ => L1 fun _ => L8 fun _ => S8 fun _ => L1 fun _ => L8 fun _ => S8 fun _ => L1 fun _ => L8 fun _ => S8 fun _ =>
    L1 fun _ => L8 fun _ => S8 fun _ => L1 fun _ => .pure

theorem safe_k0_part48 (k0_t1 : Fin k0_t1_loop.trips) (v30 : BitVec 32) (v1725 : IVec S8x128 32) :
    Safe (F := F) c (mems arg2 arg3 arg4 arg5 arg6 arg7 arg8 arg9 arg10 arg11 arg12 arg13) (k0_part48 (F := F) i arg2 harg2 arg3 harg3 arg4 harg4 arg5 harg5 arg6 harg6 arg7 harg7 arg8 harg8 arg9 harg9 arg10 harg10 arg11 harg11 arg12 harg12 arg13 harg13 k0_t1 v30 v1725) := by
  rw [k0_part48_eq_skeleton]; unfold k0_part48_skel
  exact L8 fun _ => S8 fun _ => L1 fun _ => L8 fun _ => S8 fun _ => L2 fun _ => L8 fun _ => S8 fun _ => L2 fun _ => L8 fun _ =>
    S8 fun _ => L2 fun _ => L8 fun _ => S8 fun _ => .pure

theorem safe_k0_part49 (k0_t1 : Fin k0_t1_loop.trips) (v30 : BitVec 32) :
    Safe (F := F) c (mems arg2 arg3 arg4 arg5 arg6 arg7 arg8 arg9 arg10 arg11 arg12 arg13) (k0_part49 (F := F) i arg2 harg2 arg3 harg3 arg4 harg4 arg5 harg5 arg6 harg6 arg7 harg7 arg8 harg8 arg9 harg9 arg10 harg10 arg11 harg11 arg12 harg12 arg13 harg13 k0_t1 v30) := by
  rw [k0_part49_eq_skeleton]; unfold k0_part49_skel
  exact L2 fun _ => L8 fun _ => S8 fun _ => L2 fun _ => L8 fun _ => S8 fun _ => L2 fun _ => L8 fun _ => S8 fun _ => L2 fun _ =>
    L8 fun _ => S8 fun _ => L2 fun _ => L8 fun _ => .pure

theorem safe_k0_part50 (k0_t1 : Fin k0_t1_loop.trips) (v30 : BitVec 32) (v1788 : IVec S4x128 32) (v1789 : Vec F S4x128 .i32) :
    Safe (F := F) c (mems arg2 arg3 arg4 arg5 arg6 arg7 arg8 arg9 arg10 arg11 arg12 arg13) (k0_part50 (F := F) i arg2 harg2 arg3 harg3 arg4 harg4 arg5 harg5 arg6 harg6 arg7 harg7 arg8 harg8 arg9 harg9 arg10 harg10 arg11 harg11 arg12 harg12 arg13 harg13 k0_t1 v30 v1788 v1789) := by
  rw [k0_part50_eq_skeleton]; unfold k0_part50_skel
  exact S8 fun _ => L2 fun _ => L8 fun _ => S8 fun _ => L2 fun _ => L8 fun _ => S8 fun _ => L2 fun _ => L8 fun _ => S8 fun _ =>
    L2 fun _ => L8 fun _ => S8 fun _ => L3 fun _ => .pure

theorem safe_k0_part51 (k0_t1 : Fin k0_t1_loop.trips) (v30 : BitVec 32) (v1821 : Vec F S1x1x8x128 .i8) :
    Safe (F := F) c (mems arg2 arg3 arg4 arg5 arg6 arg7 arg8 arg9 arg10 arg11 arg12 arg13) (k0_part51 (F := F) i arg2 harg2 arg3 harg3 arg4 harg4 arg5 harg5 arg6 harg6 arg7 harg7 arg8 harg8 arg9 harg9 arg10 harg10 arg11 harg11 arg12 harg12 arg13 harg13 k0_t1 v30 v1821) := by
  rw [k0_part51_eq_skeleton]; unfold k0_part51_skel
  exact L8 fun _ => S8 fun _ => L3 fun _ => L8 fun _ => S8 fun _ => L3 fun _ => L8 fun _ => S8 fun _ => L3 fun _ => L8 fun _ =>
    S8 fun _ => L3 fun _ => L8 fun _ => S8 fun _ => .pure

theorem safe_k0_part52 (k0_t1 : Fin k0_t1_loop.trips) (v30 : BitVec 32) (v95 : IVec S8x128 32) (v97 : IVec S8x128 32) :
    Safe (F := F) c (mems arg2 arg3 arg4 arg5 arg6 arg7 arg8 arg9 arg10 arg11 arg12 arg13) (k0_part52 (F := F) i arg2 harg2 arg3 harg3 arg4 harg4 arg5 harg5 arg6 harg6 arg7 harg7 arg8 harg8 arg9 harg9 arg10 harg10 arg11 harg11 arg12 harg12 arg13 harg13 k0_t1 v30 v95 v97) := by
  rw [k0_part52_eq_skeleton]; unfold k0_part52_skel
  exact L3 fun _ => L8 fun _ => S8 fun _ => L8 fun _ => L8 fun _ => L8 fun _ => L8 fun _ => .pure

theorem safe_k0_part53 (v1883 : IVec S8x128 1) :
    Safe (F := F) c (mems arg2 arg3 arg4 arg5 arg6 arg7 arg8 arg9 arg10 arg11 arg12 arg13) (k0_part53 (F := F) i arg2 harg2 arg3 harg3 arg4 harg4 arg5 harg5 arg6 harg6 arg7 harg7 arg8 harg8 arg9 harg9 arg10 harg10 arg11 harg11 arg12 harg12 arg13 harg13 v1883) := by
  rw [k0_part53_eq_skeleton]; unfold k0_part53_skel
  exact L8 fun _ => L8 fun _ => L8 fun _ => L8 fun _ => L8 fun _ => L8 fun _ => L8 fun _ => L8 fun _ => L8 fun _ => L8 fun _ =>
    L8 fun _ => L8 fun _ => L8 fun _ => L8 fun _ => L8 fun _ => L8 fun _ => L8 fun _ => .pure

theorem safe_k0_part54 (v1865 : IVec S8x128 1) (v1869 : IVec S8x128 1) (v1883 : IVec S8x128 1) (v1886 : Vec F S8x128 .i32) (v1889 : Vec F S8x128 .i32) (v1892 : Vec F S8x128 .i32) (v1895 : Vec F S8x128 .i32) (v1898 : Vec F S8x128 .i32) (v1901 : Vec F S8x128 .i32) (v1904 : Vec F S8x128 .i32) (v1907 : Vec F S8x128 .i32) (v1910 : Vec F S8x128 .i32) (v1913 : Vec F S8x128 .i32) (v1914 : Vec F S8x128 .i32) :
    Safe (F := F) c (mems arg2 arg3 arg4 arg5 arg6 arg7 arg8 arg9 arg10 arg11 arg12 arg13) (k0_part54 (F := F) i arg2 harg2 arg3 harg3 arg4 harg4 arg5 harg5 arg6 harg6 arg7 harg7 arg8 harg8 arg9 harg9 arg10 harg10 arg11 harg11 arg12 harg12 arg13 harg13 v1865 v1869 v1883 v1886 v1889 v1892 v1895 v1898 v1901 v1904 v1907 v1910 v1913 v1914) := by
  rw [k0_part54_eq_skeleton]; unfold k0_part54_skel
  exact L8 fun _ => L8 fun _ => L8 fun _ => L8 fun _ => L8 fun _ => L8 fun _ => L8 fun _ => L8 fun _ => L8 fun _ => L8 fun _ =>
    L8 fun _ => .pure

theorem safe_k0_part55 (v1869 : IVec S8x128 1) (v1873 : IVec S8x128 1) (v1877 : IVec S8x128 1) (v1932 : Vec F S8x128 .i32) (v1938 : Vec F S8x128 .i32) (v1939 : Vec F S8x128 .i32) (v1940 : Vec F S8x128 .i32) (v1941 : Vec F S8x128 .i32) (v1942 : Vec F S8x128 .i32) (v1943 : Vec F S8x128 .i32) (v1944 : Vec F S8x128 .i32) (v1945 : Vec F S8x128 .i32) (v1946 : Vec F S8x128 .i32) (v1947 : Vec F S8x128 .i32) (v1948 : Vec F S8x128 .i32) (v1949 : Vec F S8x128 .i32) (v1950 : Vec F S8x128 .i32) (v1951 : Vec F S8x128 .i32) (v1952 : Vec F S8x128 .i32) (v1953 : Vec F S8x128 .i32) :
    Safe (F := F) c (mems arg2 arg3 arg4 arg5 arg6 arg7 arg8 arg9 arg10 arg11 arg12 arg13) (k0_part55 (F := F) i arg2 harg2 arg3 harg3 arg4 harg4 arg5 harg5 arg6 harg6 arg7 harg7 arg8 harg8 arg9 harg9 arg10 harg10 arg11 harg11 arg12 harg12 arg13 harg13 v1869 v1873 v1877 v1932 v1938 v1939 v1940 v1941 v1942 v1943 v1944 v1945 v1946 v1947 v1948 v1949 v1950 v1951 v1952 v1953) := by
  rw [k0_part55_eq_skeleton]; unfold k0_part55_skel
  exact L9 fun _ => S9 fun _ => L9 fun _ => S9 fun _ => L9 fun _ => S9 fun _ => L9 fun _ => S9 fun _ => L9 fun _ => .pure

theorem safe_k0_part56 (v97 : IVec S8x128 32) (v1976 : Vec F S8x128 .i32) (v1977 : Vec F S8x128 .i32) (v1978 : Vec F S8x128 .i32) (v1979 : Vec F S8x128 .i32) (v1980 : Vec F S8x128 .i32) (v1981 : Vec F S8x128 .i32) (v1994 : Vec F S1x8x128 .i32) :
    Safe (F := F) c (mems arg2 arg3 arg4 arg5 arg6 arg7 arg8 arg9 arg10 arg11 arg12 arg13) (k0_part56 (F := F) i arg2 harg2 arg3 harg3 arg4 harg4 arg5 harg5 arg6 harg6 arg7 harg7 arg8 harg8 arg9 harg9 arg10 harg10 arg11 harg11 arg12 harg12 arg13 harg13 v97 v1976 v1977 v1978 v1979 v1980 v1981 v1994) := by
  rw [k0_part56_eq_skeleton]; unfold k0_part56_skel
  exact S9 fun _ => L9 fun _ => S9 fun _ => L9 fun _ => S9 fun _ => L9 fun _ => S9 fun _ => L9 fun _ => S9 fun _ => L9 fun _ =>
    S9 fun _ => L8 fun _ => L8 fun _ => L8 fun _ => L8 fun _ => .pure

theorem safe_k0_part57 (v2017 : IVec S8x128 1) (v2021 : Vec F S8x128 .i32) (v2022 : Vec F S8x128 .i32) :
    Safe (F := F) c (mems arg2 arg3 arg4 arg5 arg6 arg7 arg8 arg9 arg10 arg11 arg12 arg13) (k0_part57 (F := F) i arg2 harg2 arg3 harg3 arg4 harg4 arg5 harg5 arg6 harg6 arg7 harg7 arg8 harg8 arg9 harg9 arg10 harg10 arg11 harg11 arg12 harg12 arg13 harg13 v2017 v2021 v2022) := by
  rw [k0_part57_eq_skeleton]; unfold k0_part57_skel
  exact L8 fun _ => L8 fun _ => L8 fun _ => L8 fun _ => L8 fun _ => L8 fun _ => L8 fun _ => L8 fun _ => L8 fun _ => L8 fun _ =>
    L8 fun _ => L8 fun _ => L8 fun _ => L8 fun _ => L8 fun _ => L8 fun _ => L8 fun _ => .pure

theorem safe_k0_part58 (v1865 : IVec S8x128 1) (v1869 : IVec S8x128 1) (v2017 : IVec S8x128 1) (v2020 : Vec F S8x128 .i32) (v2023 : Vec F S8x128 .i32) (v2026 : Vec F S8x128 .i32) (v2029 : Vec F S8x128 .i32) (v2032 : Vec F S8x128 .i32) (v2035 : Vec F S8x128 .i32) (v2038 : Vec F S8x128 .i32) (v2041 : Vec F S8x128 .i32) (v2044 : Vec F S8x128 .i32) (v2047 : Vec F S8x128 .i32) (v2048 : Vec F S8x128 .i32) :
    Safe (F := F) c (mems arg2 arg3 arg4 arg5 arg6 arg7 arg8 arg9 arg10 arg11 arg12 arg13) (k0_part58 (F := F) i arg2 harg2 arg3 harg3 arg4 harg4 arg5 harg5 arg6 harg6 arg7 harg7 arg8 harg8 arg9 harg9 arg10 harg10 arg11 harg11 arg12 harg12 arg13 harg13 v1865 v1869 v2017 v2020 v2023 v2026 v2029 v2032 v2035 v2038 v2041 v2044 v2047 v2048) := by
  rw [k0_part58_eq_skeleton]; unfold k0_part58_skel
  exact L8 fun _ => L8 fun _ => L8 fun _ => L8 fun _ => L8 fun _ => L8 fun _ => L8 fun _ => L8 fun _ => L8 fun _ => L8 fun _ =>
    L8 fun _ => .pure

theorem safe_k0_part59 (v1869 : IVec S8x128 1) (v1873 : IVec S8x128 1) (v1877 : IVec S8x128 1) (v2066 : Vec F S8x128 .i32) (v2071 : Vec F S8x128 .i32) (v2072 : Vec F S8x128 .i32) (v2073 : Vec F S8x128 .i32) (v2074 : Vec F S8x128 .i32) (v2075 : Vec F S8x128 .i32) (v2076 : Vec F S8x128 .i32) (v2077 : Vec F S8x128 .i32) (v2078 : Vec F S8x128 .i32) (v2079 : Vec F S8x128 .i32) (v2080 : Vec F S8x128 .i32) (v2081 : Vec F S8x128 .i32) (v2082 : Vec F S8x128 .i32) (v2083 : Vec F S8x128 .i32) (v2084 : Vec F S8x128 .i32) (v2085 : Vec F S8x128 .i32) (v2086 : Vec F S8x128 .i32) :
    Safe (F := F) c (mems arg2 arg3 arg4 arg5 arg6 arg7 arg8 arg9 arg10 arg11 arg12 arg13) (k0_part59 (F := F) i arg2 harg2 arg3 harg3 arg4 harg4 arg5 harg5 arg6 harg6 arg7 harg7 arg8 harg8 arg9 harg9 arg10 harg10 arg11 harg11 arg12 harg12 arg13 harg13 v1869 v1873 v1877 v2066 v2071 v2072 v2073 v2074 v2075 v2076 v2077 v2078 v2079 v2080 v2081 v2082 v2083 v2084 v2085 v2086) := by
  rw [k0_part59_eq_skeleton]; unfold k0_part59_skel
  exact L9 fun _ => S9 fun _ => L9 fun _ => S9 fun _ => L9 fun _ => S9 fun _ => L9 fun _ => S9 fun _ => .pure

theorem safe_k0_part60 (v97 : IVec S8x128 32) (v2110 : Vec F S8x128 .i32) (v2111 : Vec F S8x128 .i32) (v2112 : Vec F S8x128 .i32) (v2113 : Vec F S8x128 .i32) (v2114 : Vec F S8x128 .i32) (v2115 : Vec F S8x128 .i32) :
    Safe (F := F) c (mems arg2 arg3 arg4 arg5 arg6 arg7 arg8 arg9 arg10 arg11 arg12 arg13) (k0_part60 (F := F) i arg2 harg2 arg3 harg3 arg4 harg4 arg5 harg5 arg6 harg6 arg7 harg7 arg8 harg8 arg9 harg9 arg10 harg10 arg11 harg11 arg12 harg12 arg13 harg13 v97 v2110 v2111 v2112 v2113 v2114 v2115) := by
  rw [k0_part60_eq_skeleton]; unfold k0_part60_skel
  exact L9 fun _ => S9 fun _ => L9 fun _ => S9 fun _ => L9 fun _ => S9 fun _ => L9 fun _ => S9 fun _ => L9 fun _ => S9 fun _ =>
    L9 fun _ => S9 fun _ => L8 fun _ => L8 fun _ => L8 fun _ => .pure

theorem safe_k0_part61 (v2151 : IVec S8x128 1) (v2155 : Vec F S8x128 .i32) :
    Safe (F := F) c (mems arg2 arg3 arg4 arg5 arg6 arg7 arg8 arg9 arg10 arg11 arg12 arg13) (k0_part61 (F := F) i arg2 harg2 arg3 harg3 arg4 harg4 arg5 harg5 arg6 harg6 arg7 harg7 arg8 harg8 arg9 harg9 arg10 harg10 arg11 harg11 arg12 harg12 arg13 harg13 v2151 v2155) := by
  rw [k0_part61_eq_skeleton]; unfold k0_part61_skel
  exact L8 fun _ => L8 fun _ => L8 fun _ => L8 fun _ => L8 fun _ => L8 fun _ => L8 fun _ => L8 fun _ => L8 fun _ => L8 fun _ =>
    L8 fun _ => L8 fun _ => L8 fun _ => L8 fun _ => L8 fun _ => L8 fun _ => L8 fun _ => .pure

theorem safe_k0_part62 (v1865 : IVec S8x128 1) (v1869 : IVec S8x128 1) (v2151 : IVec S8x128 1) (v2154 : Vec F S8x128 .i32) (v2157 : Vec F S8x128 .i32) (v2160 : Vec F S8x128 .i32) (v2163 : Vec F S8x128 .i32) (v2166 : Vec F S8x128 .i32) (v2169 : Vec F S8x128 .i32) (v2172 : Vec F S8x128 .i32) (v2175 : Vec F S8x128 .i32) (v2178 : Vec F S8x128 .i32) (v2181 : Vec F S8x128 .i32) :
    Safe (F := F) c (mems arg2 arg3 arg4 arg5 arg6 arg7 arg8 arg9 arg10 arg11 arg12 arg13) (k0_part62 (F := F) i arg2 harg2 arg3 harg3 arg4 harg4 arg5 harg5 arg6 harg6 arg7 harg7 arg8 harg8 arg9 harg9 arg10 harg10 arg11 harg11 arg12 harg12 arg13 harg13 v1865 v1869 v2151 v2154 v2157 v2160 v2163 v2166 v2169 v2172 v2175 v2178 v2181) := by
  rw [k0_part62_eq_skeleton]; unfold k0_part62_skel
  exact L8 fun _ => L8 fun _ => L8 fun _ => L8 fun _ => L8 fun _ => L8 fun _ => L8 fun _ => L8 fun _ => L8 fun _ => L8 fun _ =>
    L8 fun _ => L8 fun _ => .pure

theorem safe_k0_part63 (v1869 : IVec S8x128 1) (v1873 : IVec S8x128 1) (v1877 : IVec S8x128 1) (v2200 : Vec F S8x128 .i32) (v2204 : Vec F S8x128 .i32) (v2205 : Vec F S8x128 .i32) (v2206 : Vec F S8x128 .i32) (v2207 : Vec F S8x128 .i32) (v2208 : Vec F S8x128 .i32) (v2209 : Vec F S8x128 .i32) (v2210 : Vec F S8x128 .i32) (v2211 : Vec F S8x128 .i32) (v2212 : Vec F S8x128 .i32) (v2213 : Vec F S8x128 .i32) (v2214 : Vec F S8x128 .i32) (v2215 : Vec F S8x128 .i32) (v2216 : Vec F S8x128 .i32) (v2217 : Vec F S8x128 .i32) (v2218 : Vec F S8x128 .i32) (v2219 : Vec F S8x128 .i32) :
    Safe (F := F) c (mems arg2 arg3 arg4 arg5 arg6 arg7 arg8 arg9 arg10 arg11 arg12 arg13) (k0_part63 (F := F) i arg2 harg2 arg3 harg3 arg4 harg4 arg5 harg5 arg6 harg6 arg7 harg7 arg8 harg8 arg9 harg9 arg10 harg10 arg11 harg11 arg12 harg12 arg13 harg13 v1869 v1873 v1877 v2200 v2204 v2205 v2206 v2207 v2208 v2209 v2210 v2211 v2212 v2213 v2214 v2215 v2216 v2217 v2218 v2219) := by
  rw [k0_part63_eq_skeleton]; unfold k0_part63_skel
  exact L9 fun _ => S9 fun _ => L9 fun _ => S9 fun _ => L9 fun _ => S9 fun _ => L9 fun _ => S9 fun _ => .pure

theorem safe_k0_part64 (v97 : IVec S8x128 32) (v2244 : Vec F S8x128 .i32) (v2245 : Vec F S8x128 .i32) (v2246 : Vec F S8x128 .i32) (v2247 : Vec F S8x128 .i32) (v2248 : Vec F S8x128 .i32) (v2249 : Vec F S8x128 .i32) :
    Safe (F := F) c (mems arg2 arg3 arg4 arg5 arg6 arg7 arg8 arg9 arg10 arg11 arg12 arg13) (k0_part64 (F := F) i arg2 harg2 arg3 harg3 arg4 harg4 arg5 harg5 arg6 harg6 arg7 harg7 arg8 harg8 arg9 harg9 arg10 harg10 arg11 harg11 arg12 harg12 arg13 harg13 v97 v2244 v2245 v2246 v2247 v2248 v2249) := by
  rw [k0_part64_eq_skeleton]; unfold k0_part64_skel
  exact L9 fun _ => S9 fun _ => L9 fun _ => S9 fun _ => L9 fun _ => S9 fun _ => L9 fun _ => S9 fun _ => L9 fun _ => S9 fun _ =>
    L9 fun _ => S9 fun _ => L8 fun _ => L8 fun _ => L8 fun _ => .pure

theorem safe_k0_part65 (v2285 : IVec S8x128 1) (v2289 : Vec F S8x128 .i32) :
    Safe (F := F) c (mems arg2 arg3 arg4 arg5 arg6 arg7 arg8 arg9 arg10 arg11 arg12 arg13) (k0_part65 (F := F) i arg2 harg2 arg3 harg3 arg4 harg4 arg5 harg5 arg6 harg6 arg7 harg7 arg8 harg8 arg9 harg9 arg10 harg10 arg11 harg11 arg12 harg12 arg13 harg13 v2285 v2289) := by
  rw [k0_part65_eq_skeleton]; unfold k0_part65_skel
  exact L8 fun _ => L8 fun _ => L8 fun _ => L8 fun _ => L8 fun _ => L8 fun _ => L8 fun _ => L8 fun _ => L8 fun _ => L8 fun _ =>
    L8 fun _ => L8 fun _ => L8 fun _ => L8 fun _ => L8 fun _ => L8 fun _ => L8 fun _ => .pure

theorem safe_k0_part66 (v1865 : IVec S8x128 1) (v1869 : IVec S8x128 1) (v2285 : IVec S8x128 1) (v2288 : Vec F S8x128 .i32) (v2291 : Vec F S8x128 .i32) (v2294 : Vec F S8x128 .i32) (v2297 : Vec F S8x128 .i32) (v2300 : Vec F S8x128 .i32) (v2303 : Vec F S8x128 .i32) (v2306 : Vec F S8x128 .i32) (v2309 : Vec F S8x128 .i32) (v2312 : Vec F S8x128 .i32) (v2315 : Vec F S8x128 .i32) :
    Safe (F := F) c (mems arg2 arg3 arg4 arg5 arg6 arg7 arg8 arg9 arg10 arg11 arg12 arg13) (k0_part66 (F := F) i arg2 harg2 arg3 harg3 arg4 harg4 arg5 harg5 arg6 harg6 arg7 harg7 arg8 harg8 arg9 harg9 arg10 harg10 arg11 harg11 arg12 harg12 arg13 harg13 v1865 v1869 v2285 v2288 v2291 v2294 v2297 v2300 v2303 v2306 v2309 v2312 v2315) := by
  rw [k0_part66_eq_skeleton]; unfold k0_part66_skel
  exact L8 fun _ => L8 fun _ => L8 fun _ => L8 fun _ => L8 fun _ => L8 fun _ => L8 fun _ => L8 fun _ => L8 fun _ => L8 fun _ =>
    L8 fun _ => L8 fun _ => .pure

theorem safe_k0_part67 (v1869 : IVec S8x128 1) (v1873 : IVec S8x128 1) (v1877 : IVec S8x128 1) (v2334 : Vec F S8x128 .i32) (v2337 : Vec F S8x128 .i32) (v2338 : Vec F S8x128 .i32) (v2339 : Vec F S8x128 .i32) (v2340 : Vec F S8x128 .i32) (v2341 : Vec F S8x128 .i32) (v2342 : Vec F S8x128 .i32) (v2343 : Vec F S8x128 .i32) (v2344 : Vec F S8x128 .i32) (v2345 : Vec F S8x128 .i32) (v2346 : Vec F S8x128 .i32) (v2347 : Vec F S8x128 .i32) (v2348 : Vec F S8x128 .i32) (v2349 : Vec F S8x128 .i32) (v2350 : Vec F S8x128 .i32) (v2351 : Vec F S8x128 .i32) (v2352 : Vec F S8x128 .i32) :
    Safe (F := F) c (mems arg2 arg3 arg4 arg5 arg6 arg7 arg8 arg9 arg10 arg11 arg12 arg13) (k0_part67 (F := F) i arg2 harg2 arg3 harg3 arg4 harg4 arg5 harg5 arg6 harg6 arg7 harg7 arg8 harg8 arg9 harg9 arg10 harg10 arg11 harg11 arg12 harg12 arg13 harg13 v1869 v1873 v1877 v2334 v2337 v2338 v2339 v2340 v2341 v2342 v2343 v2344 v2345 v2346 v2347 v2348 v2349 v2350 v2351 v2352) := by
  rw [k0_part67_eq_skeleton]; unfold k0_part67_skel
  exact L9 fun _ => S9 fun _ => L9 fun _ => S9 fun _ => L9 fun _ => S9 fun _ => L9 fun _ => S9 fun _ => .pure

theorem safe_k0_part68 (v7 : IVec S8x128 32) (v88 : IVec S8x128 32) (v2378 : Vec F S8x128 .i32) (v2379 : Vec F S8x128 .i32) (v2380 : Vec F S8x128 .i32) (v2381 : Vec F S8x128 .i32) (v2382 : Vec F S8x128 .i32) (v2383 : Vec F S8x128 .i32) :
    Safe (F := F) c (mems arg2 arg3 arg4 arg5 arg6 arg7 arg8 arg9 arg10 arg11 arg12 arg13) (k0_part68 (F := F) i arg2 harg2 arg3 harg3 arg4 harg4 arg5 harg5 arg6 harg6 arg7 harg7 arg8 harg8 arg9 harg9 arg10 harg10 arg11 harg11 arg12 harg12 arg13 harg13 v7 v88 v2378 v2379 v2380 v2381 v2382 v2383) := by
  rw [k0_part68_eq_skeleton]; unfold k0_part68_skel
  exact L9 fun _ => S9 fun _ => L9 fun _ => S9 fun _ => L9 fun _ => S9 fun _ => L9 fun _ => S9 fun _ => L9 fun _ => S9 fun _ =>
    L9 fun _ => S9 fun _ => .pure

theorem safe_k0_part69 (v7 : IVec S8x128 32) (v88 : IVec S8x128 32) (v2425 : IVec S8x128 1) (v2426 : IVec S8x128 32) :
    Safe (F := F) c (mems arg2 arg3 arg4 arg5 arg6 arg7 arg8 arg9 arg10 arg11 arg12 arg13) (k0_part69 (F := F) i arg2 harg2 arg3 harg3 arg4 harg4 arg5 harg5 arg6 harg6 arg7 harg7 arg8 harg8 arg9 harg9 arg10 harg10 arg11 harg11 arg12 harg12 arg13 harg13 v7 v88 v2425 v2426) := by
  rw [k0_part69_eq_skeleton]; unfold k0_part69_skel
  exact .pure

theorem safe_k0_part70 (v7 : IVec S8x128 32) (v9 : IVec S8x128 32) (v88 : IVec S8x128 32) (v95 : IVec S8x128 32) (v2470 : IVec S8x128 32) :
    Safe (F := F) c (mems arg2 arg3 arg4 arg5 arg6 arg7 arg8 arg9 arg10 arg11 arg12 arg13) (k0_part70 (F := F) i arg2 harg2 arg3 harg3 arg4 harg4 arg5 harg5 arg6 harg6 arg7 harg7 arg8 harg8 arg9 harg9 arg10 harg10 arg11 harg11 arg12 harg12 arg13 harg13 v7 v9 v88 v95 v2470) := by
  rw [k0_part70_eq_skeleton]; unfold k0_part70_skel
  exact .pure

theorem safe_k0_part71 (v9 : IVec S8x128 32) (v95 : IVec S8x128 32) (v2513 : IVec S8x128 1) (c2_i32_1294 : BitVec 32) :
    Safe (F := F) c (mems arg2 arg3 arg4 arg5 arg6 arg7 arg8 arg9 arg10 arg11 arg12 arg13) (k0_part71 (F := F) i arg2 harg2 arg3 harg3 arg4 harg4 arg5 harg5 arg6 harg6 arg7 harg7 arg8 harg8 arg9 harg9 arg10 harg10 arg11 harg11 arg12 harg12 arg13 harg13 v9 v95 v2513 c2_i32_1294) := by
  rw [k0_part71_eq_skeleton]; unfold k0_part71_skel
  exact .pure

theorem safe_k0_part72 (v9 : IVec S8x128 32) (v80 : FVec F S8x128 .f32) (v95 : IVec S8x128 32) (v2421 : IVec S8x128 1) (v2429 : IVec S8x128 1) (v2437 : IVec S8x128 1) (v2445 : IVec S8x128 1) (v2453 : IVec S8x128 1) (v2461 : IVec S8x128 1) (c8_i32_1310 : BitVec 32) :
    Safe (F := F) c (mems arg2 arg3 arg4 arg5 arg6 arg7 arg8 arg9 arg10 arg11 arg12 arg13) (k0_part72 (F := F) i arg2 harg2 arg3 harg3 arg4 harg4 arg5 harg5 arg6 harg6 arg7 harg7 arg8 harg8 arg9 harg9 arg10 harg10 arg11 harg11 arg12 harg12 arg13 harg13 v9 v80 v95 v2421 v2429 v2437 v2445 v2453 v2461 c8_i32_1310) := by
  rw [k0_part72_eq_skeleton]; unfold k0_part72_skel
  exact .pure

theorem safe_k0_part73 (v75 : FVec F S8x128 .f32) (v80 : FVec F S8x128 .f32) (v81 : FVec F S8x128 .f32) (v2429 : IVec S8x128 1) (v2437 : IVec S8x128 1) (v2445 : IVec S8x128 1) (v2453 : IVec S8x128 1) (v2461 : IVec S8x128 1) (v2469 : IVec S8x128 1) (v2477 : IVec S8x128 1) (v2485 : IVec S8x128 1) (v2493 : IVec S8x128 1) (v2501 : IVec S8x128 1) (v2509 : IVec S8x128 1) (v2599 : FVec F S8x128 .f32) :
    Safe (F := F) c (mems arg2 arg3 arg4 arg5 arg6 arg7 arg8 arg9 arg10 arg11 arg12 arg13) (k0_part73 (F := F) i arg2 harg2 arg3 harg3 arg4 harg4 arg5 harg5 arg6 harg6 arg7 harg7 arg8 harg8 arg9 harg9 arg10 harg10 arg11 harg11 arg12 harg12 arg13 harg13 v75 v80 v81 v2429 v2437 v2445 v2453 v2461 v2469 v2477 v2485 v2493 v2501 v2509 v2599) := by
  rw [k0_part73_eq_skeleton]; unfold k0_part73_skel
  exact .pure

theorem safe_k0_part74 (v75 : FVec F S8x128 .f32) (v81 : FVec F S8x128 .f32) (v2509 : IVec S8x128 1) (v2517 : IVec S8x128 1) (v2525 : IVec S8x128 1) (v2533 : IVec S8x128 1) (v2541 : IVec S8x128 1) (v2549 : IVec S8x128 1) (v2557 : IVec S8x128 1) (v2565 : IVec S8x128 1) (v2640 : FVec F S8x128 .f32) :
    Safe (F := F) c (mems arg2 arg3 arg4 arg5 arg6 arg7 arg8 arg9 arg10 arg11 arg12 arg13) (k0_part74 (F := F) i arg2 harg2 arg3 harg3 arg4 harg4 arg5 harg5 arg6 harg6 arg7 harg7 arg8 harg8 arg9 harg9 arg10 harg10 arg11 harg11 arg12 harg12 arg13 harg13 v75 v81 v2509 v2517 v2525 v2533 v2541 v2549 v2557 v2565 v2640) := by
  rw [k0_part74_eq_skeleton]; unfold k0_part74_skel
  exact .pure

theorem safe_k0_part75 (v75 : FVec F S8x128 .f32) (v81 : FVec F S8x128 .f32) (v88 : IVec S8x128 32) (v97 : IVec S8x128 32) (v2533 : IVec S8x128 1) (v2541 : IVec S8x128 1) (v2549 : IVec S8x128 1) (v2557 : IVec S8x128 1) (v2565 : IVec S8x128 1) (v2573 : IVec S8x128 1) (v2682 : FVec F S8x128 .f32) (v2683 : FVec F S8x128 .f32) :
    Safe (F := F) c (mems arg2 arg3 arg4 arg5 arg6 arg7 arg8 arg9 arg10 arg11 arg12 arg13) (k0_part75 (F := F) i arg2 harg2 arg3 harg3 arg4 harg4 arg5 harg5 arg6 harg6 arg7 harg7 arg8 harg8 arg9 harg9 arg10 harg10 arg11 harg11 arg12 harg12 arg13 harg13 v75 v81 v88 v97 v2533 v2541 v2549 v2557 v2565 v2573 v2682 v2683) := by
  rw [k0_part75_eq_skeleton]; unfold k0_part75_skel
  exact L9 fun _ => L9 fun _ => L9 fun _ => L9 fun _ => .pure

theorem safe_k0_part76 (v2703 : IVec S8x128 1) (v2707 : IVec S8x128 1) (v2711 : IVec S8x128 32) (v2713 : IVec S8x128 32) (v2715 : IVec S8x128 32) (v2717 : IVec S8x128 32) (v2719 : IVec S8x128 32) (v2720 : IVec S8x128 32) :
    Safe (F := F) c (mems arg2 arg3 arg4 arg5 arg6 arg7 arg8 arg9 arg10 arg11 arg12 arg13) (k0_part76 (F := F) i arg2 harg2 arg3 harg3 arg4 harg4 arg5 harg5 arg6 harg6 arg7 harg7 arg8 harg8 arg9 harg9 arg10 harg10 arg11 harg11 arg12 harg12 arg13 harg13 v2703 v2707 v2711 v2713 v2715 v2717 v2719 v2720) := by
  rw [k0_part76_eq_skeleton]; unfold k0_part76_skel
  exact L10 fun _ => S10 fun _ => L10 fun _ => S10 fun _ => L10 fun _ => .pure

theorem safe_k0_part77 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2605 : FVec F S8x128 .f32) (v2609 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v2625 : FVec F S8x128 .f32) (v2627 : FVec F S8x128 .f32) (v2766 : FVec F S32x128 .f32) :
    Safe (F := F) c (mems arg2 arg3 arg4 arg5 arg6 arg7 arg8 arg9 arg10 arg11 arg12 arg13) (k0_part77 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2605 v2609 v2611 v2613 v2615 v2617 v2619 v2621 v2623 v2625 v2627 v2766) := by
  rw [k0_part77_eq_skeleton]; unfold k0_part77_skel
  exact S10 fun _ => L10 fun _ => L10 fun _ => L10 fun _ => L10 fun _ => L10 fun _ => L10 fun _ => L10 fun _ => L10 fun _ =>
    L10 fun _ => L10 fun _ => .pure

theorem safe_k0_part78 (v2703 : IVec S8x128 1) (v2707 : IVec S8x128 1) (v2711 : IVec S8x128 32) :
    Safe (F := F) c (mems arg2 arg3 arg4 arg5 arg6 arg7 arg8 arg9 arg10 arg11 arg12 arg13) (k0_part78 (F := F) i arg2 harg2 arg3 harg3 arg4 harg4 arg5 harg5 arg6 harg6 arg7 harg7 arg8 harg8 arg9 harg9 arg10 harg10 arg11 harg11 arg12 harg12 arg13 harg13 v2703 v2707 v2711) := by
  rw [k0_part78_eq_skeleton]; unfold k0_part78_skel
  exact L9 fun _ => L9 fun _ => L9 fun _ => L9 fun _ => L10 fun _ => S10 fun _ => L10 fun _ => .pure

theorem safe_k0_part79 (v2577 : FVec F S8x128 .f32) (v2581 : FVec F S8x128 .f32) (v2585 : FVec F S8x128 .f32) (v2589 : FVec F S8x128 .f32) (v2611 : FVec F S8x128 .f32) (v2613 : FVec F S8x128 .f32) (v2615 : FVec F S8x128 .f32) (v2711 : IVec S8x128 32) (v2818 : IVec S8x128 32) (v2819 : IVec S8x128 32) (v2842 : FVec F S32x128 .f32) :
    Safe (F := F) c (mems arg2 arg3 arg4 arg5 arg6 arg7 arg8 arg9 arg10 arg11 arg12 arg13) (k0_part79 (F := F) i arg2 harg2 arg3 harg3 arg4 harg4 arg5 harg5 arg6 harg6 arg7 harg7 arg8 harg8 arg9 harg9 arg10 harg10 arg11 harg11 arg12 harg12 arg13 harg13 v2577 v2581 v2585 v2589 v2611 v2613 v2615 v2711 v2818 v2819 v2842) := by
  rw [k0_part79_eq_skeleton]; unfold k0_part79_skel
  exact S10 fun _ => L10 fun _ => S10 fun _ => L10 fun _ => L10 fun _ => L10 fun _ => L10 fun _ => L10 fun _ => L10 fun _ =>
    L10 fun _ => L10 fun _ => L10 fun _ => L10 fun _ => .pure

theorem safe_k0_part80 (v2593 : FVec F S8x128 .f32) (v2597 : FVec F S8x128 .f32) (v2601 : FVec F S8x128 .f32) (v2605 : FVec F S8x128 .f32) (v2609 : FVec F S8x128 .f32) (v2617 : FVec F S8x128 .f32) (v2619 : FVec F S8x128 .f32) (v2621 : FVec F S8x128 .f32) (v2623 : FVec F S8x128 .f32) (v2625 : FVec F S8x128 .f32) (v2627 : FVec F S8x128 .f32) (v2632 : FVec F S8x128 .f32) (v2675 : FVec F S8x128 .f32) (v2779 : FVec F S8x128 .f32) (v2782 : FVec F S8x128 .f32) (v2785 : FVec F S8x128 .f32) (v2788 : FVec F S8x128 .f32) (v2863 : Vec F S8x128 .f32) (v2864 : Vec F S8x128 .f32) (v2865 : Vec F S8x128 .f32) (v2866 : Vec F S8x128 .f32) (v2867 : Vec F S8x128 .f32) (v2868 : Vec F S8x128 .f32) (v2871 : FVec F S8x128 .f32) (v2874 : FVec F S8x128 .f32) (v2877 : FVec F S8x128 .f32) (v2878 : FVec F S8x128 .f32) :
    Safe (F := F) c (mems arg2 arg3 arg4 arg5 arg6 arg7 arg8 arg9 arg10 arg11 arg12 arg13) (k0_part80 (F := F) i arg2 harg2 arg3 harg3 arg4 harg4 arg5 harg5 arg6 harg6 arg7 harg7 arg8 harg8 arg9 harg9 arg10 harg10 arg11 harg11 arg12 harg12 arg13 harg13 v2593 v2597 v2601 v2605 v2609 v2617 v2619 v2621 v2623 v2625 v2627 v2632 v2675 v2779 v2782 v2785 v2788 v2863 v2864 v2865 v2866 v2867 v2868 v2871 v2874 v2877 v2878) := by
  rw [k0_part80_eq_skeleton]; unfold k0_part80_skel
  exact L11 fun _ => S11 fun _ => L11 fun _ => S11 fun _ => L11 fun _ => S11 fun _ => L11 fun _ => S11 fun _ => .pure

theorem safe_k0_part81 (v2632 : FVec F S8x128 .f32) (v2675 : FVec F S8x128 .f32) (v2791 : FVec F S8x128 .f32) (v2794 : FVec F S8x128 .f32) (v2797 : FVec F S8x128 .f32) (v2800 : FVec F S8x128 .f32) (v2803 : FVec F S8x128 .f32) (v2883 : FVec F S8x128 .f32) (v2886 : FVec F S8x128 .f32) (v2889 : FVec F S8x128 .f32) (v2892 : FVec F S8x128 .f32) (v2895 : FVec F S8x128 .f32) (v2926 : FVec F S8x128 .f32) :
    Safe (F := F) c (mems arg2 arg3 arg4 arg5 arg6 arg7 arg8 arg9 arg10 arg11 arg12 arg13) (k0_part81 (F := F) i arg2 harg2 arg3 harg3 arg4 harg4 arg5 harg5 arg6 harg6 arg7 harg7 arg8 harg8 arg9 harg9 arg10 harg10 arg11 harg11 arg12 harg12 arg13 harg13 v2632 v2675 v2791 v2794 v2797 v2800 v2803 v2883 v2886 v2889 v2892 v2895 v2926) := by
  rw [k0_part81_eq_skeleton]; unfold k0_part81_skel
  exact L11 fun _ => S11 fun _ => L11 fun _ => S11 fun _ => L11 fun _ => S11 fun _ => L11 fun _ => S11 fun _ => L11 fun _ =>
    S11 fun _ => L9 fun _ => .pure

theorem safe_k0_part82 (v2703 : IVec S8x128 1) (v2707 : IVec S8x128 1) (v2711 : IVec S8x128 32) (v2968 : IVec S8x128 32) :
    Safe (F := F) c (mems arg2 arg3 arg4 arg5 arg6 arg7 arg8 arg9 arg10 arg11 arg12 arg13) (k0_part82 (F := F) i arg2 harg2 arg3 harg3 arg4 harg4 arg5 harg5 arg6 harg6 arg7 harg7 arg8 harg8 arg9 harg9 arg10 harg10 arg11 harg11 arg12 harg12 arg13 harg13 v2703 v2707 v2711 v2968) := by
  rw [k0_part82_eq_skeleton]; unfold k0_part82_skel
  exact L9 fun _ => L9 fun _ => L9 fun _ => L10 fun _ => S10 fun _ => L10 fun _ => S10 fun _ => .pure

theorem safe_k0_part83 (v2577 : FVec F S8x128 .f32) (v2581 : FVec F S8x128 .f32) (v2585 : FVec F S8x128 .f32) (v2589 : FVec F S8x128 .f32) (v2593 : FVec F S8x128 .f32) (v2611 : FVec F S8x128 .f32) (v2613 : FVec F S8x128 .f32) (v2615 : FVec F S8x128 .f32) (v2617 : FVec F S8x128 .f32) (v2711 : IVec S8x128 32) (v2982 : IVec S8x128 32) (v3009 : IVec S8x128 32) :
    Safe (F := F) c (mems arg2 arg3 arg4 arg5 arg6 arg7 arg8 arg9 arg10 arg11 arg12 arg13) (k0_part83 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2611 v2613 v2615 v2617 v2711 v2982 v3009) := by
  rw [k0_part83_eq_skeleton]; unfold k0_part83_skel
  exact L10 fun _ => S10 fun _ => L10 fun _ => L10 fun _ => L10 fun _ => L10 fun _ => L10 fun _ => L10 fun _ => L10 fun _ =>
    L10 fun _ => L10 fun _ => L10 fun _ => .pure

theorem safe_k0_part84 (v2597 : FVec F S8x128 .f32) (v2601 : FVec F S8x128 .f32) (v2605 : FVec F S8x128 .f32) (v2609 : FVec F S8x128 .f32) (v2619 : FVec F S8x128 .f32) (v2621 : FVec F S8x128 .f32) (v2623 : FVec F S8x128 .f32) (v2625 : FVec F S8x128 .f32) (v2627 : FVec F S8x128 .f32) (v2637 : FVec F S8x128 .f32) (v2678 : FVec F S8x128 .f32) (v2871 : FVec F S8x128 .f32) (v2874 : FVec F S8x128 .f32) (v2877 : FVec F S8x128 .f32) (v2880 : FVec F S8x128 .f32) (v2883 : FVec F S8x128 .f32) (v2966 : FVec F S8x128 .f32) (v3027 : Vec F S8x128 .f32) (v3028 : Vec F S8x128 .f32) (v3029 : Vec F S8x128 .f32) (v3030 : Vec F S8x128 .f32) (v3031 : Vec F S8x128 .f32) (v3034 : FVec F S8x128 .f32) (v3037 : FVec F S8x128 .f32) (v3040 : FVec F S8x128 .f32) (v3043 : FVec F S8x128 .f32) (v3044 : FVec F S8x128 .f32) :
    Safe (F := F) c (mems arg2 arg3 arg4 arg5 arg6 arg7 arg8 arg9 arg10 arg11 arg12 arg13) (k0_part84 (F := F) i arg2 harg2 arg3 harg3 arg4 harg4 arg5 harg5 arg6 harg6 arg7 harg7 arg8 harg8 arg9 harg9 arg10 harg10 arg11 harg11 arg12 harg12 arg13 harg13 v2597 v2601 v2605 v2609 v2619 v2621 v2623 v2625 v2627 v2637 v2678 v2871 v2874 v2877 v2880 v2883 v2966 v3027 v3028 v3029 v3030 v3031 v3034 v3037 v3040 v3043 v3044) := by
  rw [k0_part84_eq_skeleton]; unfold k0_part84_skel
  exact L11 fun _ => S11 fun _ => L11 fun _ => S11 fun _ => L11 fun _ => S11 fun _ => L11 fun _ => S11 fun _ => .pure

theorem safe_k0_part85 (v2637 : FVec F S8x128 .f32) (v2678 : FVec F S8x128 .f32) (v2886 : FVec F S8x128 .f32) (v2889 : FVec F S8x128 .f32) (v2892 : FVec F S8x128 .f32) (v2895 : FVec F S8x128 .f32) (v3049 : FVec F S8x128 .f32) (v3052 : FVec F S8x128 .f32) (v3055 : FVec F S8x128 .f32) (v3058 : FVec F S8x128 .f32) (v3090 : FVec F S8x128 .f32) (v3091 : FVec F S8x128 .f32) (v3092 : FVec F S8x128 .f32) :
    Safe (F := F) c (mems arg2 arg3 arg4 arg5 arg6 arg7 arg8 arg9 arg10 arg11 arg12 arg13) (k0_part85 (F := F) i arg2 harg2 arg3 harg3 arg4 harg4 arg5 harg5 arg6 harg6 arg7 harg7 arg8 harg8 arg9 harg9 arg10 harg10 arg11 harg11 arg12 harg12 arg13 harg13 v2637 v2678 v2886 v2889 v2892 v2895 v3049 v3052 v3055 v3058 v3090 v3091 v3092) := by
  rw [k0_part85_eq_skeleton]; unfold k0_part85_skel
  exact L11 fun _ => S11 fun _ => L11 fun _ => S11 fun _ => L11 fun _ => S11 fun _ => L11 fun _ => S11 fun _ => L11 fun _ =>
    S11 fun _ => L9 fun _ => .pure

theorem safe_k0_part86 (v2703 : IVec S8x128 1) (v2707 : IVec S8x128 1) (v2711 : IVec S8x128 32) (v3132 : IVec S8x128 32) :
    Safe (F := F) c (mems arg2 arg3 arg4 arg5 arg6 arg7 arg8 arg9 arg10 arg11 arg12 arg13) (k0_part86 (F := F) i arg2 harg2 arg3 harg3 arg4 harg4 arg5 harg5 arg6 harg6 arg7 harg7 arg8 harg8 arg9 harg9 arg10 harg10 arg11 harg11 arg12 harg12 arg13 harg13 v2703 v2707 v2711 v3132) := by
  rw [k0_part86_eq_skeleton]; unfold k0_part86_skel
  exact L9 fun _ => L9 fun _ => L9 fun _ => L10 fun _ => S10 fun _ => L10 fun _ => S10 fun _ => .pure

theorem safe_k0_part87 (v2577 : FVec F S8x128 .f32) (v2581 : FVec F S8x128 .f32) (v2585 : FVec F S8x128 .f32) (v2589 : FVec F S8x128 .f32) (v2593 : FVec F S8x128 .f32) (v2611 : FVec F S8x128 .f32) (v2613 : FVec F S8x128 .f32) (v2615 : FVec F S8x128 .f32) (v2617 : FVec F S8x128 .f32) (v2619 : FVec F S8x128 .f32) (v2711 : IVec S8x128 32) (v3146 : IVec S8x128 32) (v3173 : IVec S8x128 32) (v3174 : IVec S8x128 32) :
    Safe (F := F) c (mems arg2 arg3 arg4 arg5 arg6 arg7 arg8 arg9 arg10 arg11 arg12 arg13) (k0_part87 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2611 v2613 v2615 v2617 v2619 v2711 v3146 v3173 v3174) := by
  rw [k0_part87_eq_skeleton]; unfold k0_part87_skel
  exact L10 fun _ => S10 fun _ => L10 fun _ => L10 fun _ => L10 fun _ => L10 fun _ => L10 fun _ => L10 fun _ => L10 fun _ =>
    L10 fun _ => L10 fun _ => L10 fun _ => .pure

theorem safe_k0_part88 (v2597 : FVec F S8x128 .f32) (v2601 : FVec F S8x128 .f32) (v2605 : FVec F S8x128 .f32) (v2609 : FVec F S8x128 .f32) (v2621 : FVec F S8x128 .f32) (v2623 : FVec F S8x128 .f32) (v2625 : FVec F S8x128 .f32) (v2627 : FVec F S8x128 .f32) (v2642 : FVec F S8x128 .f32) (v2681 : FVec F S8x128 .f32) (v3034 : FVec F S8x128 .f32) (v3037 : FVec F S8x128 .f32) (v3040 : FVec F S8x128 .f32) (v3043 : FVec F S8x128 .f32) (v3046 : FVec F S8x128 .f32) (v3130 : FVec F S8x128 .f32) (v3191 : Vec F S8x128 .f32) (v3192 : Vec F S8x128 .f32) (v3193 : Vec F S8x128 .f32) (v3194 : Vec F S8x128 .f32) (v3195 : Vec F S8x128 .f32) (v3198 : FVec F S8x128 .f32) (v3201 : FVec F S8x128 .f32) (v3204 : FVec F S8x128 .f32) (v3207 : FVec F S8x128 .f32) (v3210 : FVec F S8x128 .f32) :
    Safe (F := F) c (mems arg2 arg3 arg4 arg5 arg6 arg7 arg8 arg9 arg10 arg11 arg12 arg13) (k0_part88 (F := F) i arg2 harg2 arg3 harg3 arg4 harg4 arg5 harg5 arg6 harg6 arg7 harg7 arg8 harg8 arg9 harg9 arg10 harg10 arg11 harg11 arg12 harg12 arg13 harg13 v2597 v2601 v2605 v2609 v2621 v2623 v2625 v2627 v2642 v2681 v3034 v3037 v3040 v3043 v3046 v3130 v3191 v3192 v3193 v3194 v3195 v3198 v3201 v3204 v3207 v3210) := by
  rw [k0_part88_eq_skeleton]; unfold k0_part88_skel
  exact L11 fun _ => S11 fun _ => L11 fun _ => S11 fun _ => L11 fun _ => S11 fun _ => L11 fun _ => S11 fun _ => .pure

theorem safe_k0_part89 (v2642 : FVec F S8x128 .f32) (v2681 : FVec F S8x128 .f32) (v3049 : FVec F S8x128 .f32) (v3052 : FVec F S8x128 .f32) (v3055 : FVec F S8x128 .f32) (v3058 : FVec F S8x128 .f32) (v3213 : FVec F S8x128 .f32) (v3216 : FVec F S8x128 .f32) (v3219 : FVec F S8x128 .f32) (v3222 : FVec F S8x128 .f32) (v3254 : FVec F S8x128 .f32) (v3257 : FVec F S8x128 .f32) :
    Safe (F := F) c (mems arg2 arg3 arg4 arg5 arg6 arg7 arg8 arg9 arg10 arg11 arg12 arg13) (k0_part89 (F := F) i arg2 harg2 arg3 harg3 arg4 harg4 arg5 harg5 arg6 harg6 arg7 harg7 arg8 harg8 arg9 harg9 arg10 harg10 arg11 harg11 arg12 harg12 arg13 harg13 v2642 v2681 v3049 v3052 v3055 v3058 v3213 v3216 v3219 v3222 v3254 v3257) := by
  rw [k0_part89_eq_skeleton]; unfold k0_part89_skel
  exact L11 fun _ => S11 fun _ => L11 fun _ => S11 fun _ => L11 fun _ => S11 fun _ => L11 fun _ => S11 fun _ => L11 fun _ =>
    S11 fun _ => L9 fun _ => L9 fun _ => .pure

theorem safe_k0_part90 (v2703 : IVec S8x128 1) (v2707 : IVec S8x128 1) (v2711 : IVec S8x128 32) (v3296 : IVec S8x128 32) (v3297 : Vec F S1x8x128 .i32) :
    Safe (F := F) c (mems arg2 arg3 arg4 arg5 arg6 arg7 arg8 arg9 arg10 arg11 arg12 arg13) (k0_part90 (F := F) i arg2 harg2 arg3 harg3 arg4 harg4 arg5 harg5 arg6 harg6 arg7 harg7 arg8 harg8 arg9 harg9 arg10 harg10 arg11 harg11 arg12 harg12 arg13 harg13 v2703 v2707 v2711 v3296 v3297) := by
  rw [k0_part90_eq_skeleton]; unfold k0_part90_skel
  exact L9 fun _ => L9 fun _ => L10 fun _ => S10 fun _ => L10 fun _ => S10 fun _ => .pure

theorem safe_k0_part91 (v2577 : FVec F S8x128 .f32) (v2581 : FVec F S8x128 .f32) (v2585 : FVec F S8x128 .f32) (v2589 : FVec F S8x128 .f32) (v2593 : FVec F S8x128 .f32) (v2597 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2711 : IVec S8x128 32) (v3337 : IVec S8x128 32) (v3339 : IVec S8x128 32) (c24_i32_1597 : BitVec 32) :
    Safe (F := F) c (mems arg2 arg3 arg4 arg5 arg6 arg7 arg8 arg9 arg10 arg11 arg12 arg13) (k0_part91 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2611 v2613 v2615 v2617 v2619 v2621 v2711 v3337 v3339 c24_i32_1597) := by
  rw [k0_part91_eq_skeleton]; unfold k0_part91_skel
  exact L10 fun _ => S10 fun _ => L10 fun _ => L10 fun _ => L10 fun _ => L10 fun _ => L10 fun _ => L10 fun _ => L10 fun _ =>
    L10 fun _ => L10 fun _ => L10 fun _ => .pure

theorem safe_k0_part92 (v2601 : FVec F S8x128 .f32) (v2605 : FVec F S8x128 .f32) (v2609 : FVec F S8x128 .f32) (v2623 : FVec F S8x128 .f32) (v2625 : FVec F S8x128 .f32) (v2627 : FVec F S8x128 .f32) (v2647 : FVec F S8x128 .f32) (v2684 : FVec F S8x128 .f32) (v3198 : FVec F S8x128 .f32) (v3201 : FVec F S8x128 .f32) (v3204 : FVec F S8x128 .f32) (v3207 : FVec F S8x128 .f32) (v3210 : FVec F S8x128 .f32) (v3294 : FVec F S8x128 .f32) (v3356 : Vec F S8x128 .f32) (v3357 : Vec F S8x128 .f32) (v3358 : Vec F S8x128 .f32) (v3359 : Vec F S8x128 .f32) (v3362 : FVec F S8x128 .f32) (v3365 : FVec F S8x128 .f32) (v3368 : FVec F S8x128 .f32) (v3371 : FVec F S8x128 .f32) (v3374 : FVec F S8x128 .f32) (v3375 : FVec F S8x128 .f32) (v3376 : FVec F S8x128 .f32) :
    Safe (F := F) c (mems arg2 arg3 arg4 arg5 arg6 arg7 arg8 arg9 arg10 arg11 arg12 arg13) (k0_part92 (F := F) i arg2 harg2 arg3 harg3 arg4 harg4 arg5 harg5 arg6 harg6 arg7 harg7 arg8 harg8 arg9 harg9 arg10 harg10 arg11 harg11 arg12 harg12 arg13 harg13 v2601 v2605 v2609 v2623 v2625 v2627 v2647 v2684 v3198 v3201 v3204 v3207 v3210 v3294 v3356 v3357 v3358 v3359 v3362 v3365 v3368 v3371 v3374 v3375 v3376) := by
  rw [k0_part92_eq_skeleton]; unfold k0_part92_skel
  exact L11 fun _ => S11 fun _ => L11 fun _ => S11 fun _ => L11 fun _ => S11 fun _ => L11 fun _ => S11 fun _ => L11 fun _ => .pure

theorem safe_k0_part93 (v2647 : FVec F S8x128 .f32) (v2684 : FVec F S8x128 .f32) (v3213 : FVec F S8x128 .f32) (v3216 : FVec F S8x128 .f32) (v3219 : FVec F S8x128 .f32) (v3222 : FVec F S8x128 .f32) (v3377 : FVec F S8x128 .f32) (v3380 : FVec F S8x128 .f32) (v3383 : FVec F S8x128 .f32) (v3386 : FVec F S8x128 .f32) (v3418 : FVec F S8x128 .f32) (v3421 : FVec F S8x128 .f32) (v3422 : Vec F S8x128 .f32) :
    Safe (F := F) c (mems arg2 arg3 arg4 arg5 arg6 arg7 arg8 arg9 arg10 arg11 arg12 arg13) (k0_part93 (F := F) i arg2 harg2 arg3 harg3 arg4 harg4 arg5 harg5 arg6 harg6 arg7 harg7 arg8 harg8 arg9 harg9 arg10 harg10 arg11 harg11 arg12 harg12 arg13 harg13 v2647 v2684 v3213 v3216 v3219 v3222 v3377 v3380 v3383 v3386 v3418 v3421 v3422) := by
  rw [k0_part93_eq_skeleton]; unfold k0_part93_skel
  exact S11 fun _ => L11 fun _ => S11 fun _ => L11 fun _ => S11 fun _ => L11 fun _ => S11 fun _ => L11 fun _ => S11 fun _ =>
    L9 fun _ => L9 fun _ => .pure

theorem safe_k0_part94 (v2703 : IVec S8x128 1) (v2707 : IVec S8x128 1) (v2711 : IVec S8x128 32) (v3460 : IVec S8x128 32) (v3462 : IVec S8x128 32) :
    Safe (F := F) c (mems arg2 arg3 arg4 arg5 arg6 arg7 arg8 arg9 arg10 arg11 arg12 arg13) (k0_part94 (F := F) i arg2 harg2 arg3 harg3 arg4 harg4 arg5 harg5 arg6 harg6 arg7 harg7 arg8 harg8 arg9 harg9 arg10 harg10 arg11 harg11 arg12 harg12 arg13 harg13 v2703 v2707 v2711 v3460 v3462) := by
  rw [k0_part94_eq_skeleton]; unfold k0_part94_skel
  exact L9 fun _ => L9 fun _ => L10 fun _ => S10 fun _ => L10 fun _ => S10 fun _ => .pure

theorem safe_k0_part95 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v3501 : IVec S8x128 32) (v3503 : IVec S8x128 32) (v3505 : IVec S8x128 32) :
    Safe (F := F) c (mems arg2 arg3 arg4 arg5 arg6 arg7 arg8 arg9 arg10 arg11 arg12 arg13) (k0_part95 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2611 v2613 v2615 v2617 v2619 v2621 v3501 v3503 v3505) := by
  rw [k0_part95_eq_skeleton]; unfold k0_part95_skel
  exact L10 fun _ => S10 fun _ => L10 fun _ => L10 fun _ => L10 fun _ => L10 fun _ => L10 fun _ => L10 fun _ => L10 fun _ =>
    L10 fun _ => L10 fun _ => L10 fun _ => .pure

theorem safe_k0_part96 (v2605 : FVec F S8x128 .f32) (v2609 : FVec F S8x128 .f32) (v2623 : FVec F S8x128 .f32) (v2625 : FVec F S8x128 .f32) (v2627 : FVec F S8x128 .f32) (v2652 : FVec F S8x128 .f32) (v2687 : FVec F S8x128 .f32) (v3362 : FVec F S8x128 .f32) (v3365 : FVec F S8x128 .f32) (v3368 : FVec F S8x128 .f32) (v3371 : FVec F S8x128 .f32) (v3374 : FVec F S8x128 .f32) (v3458 : FVec F S8x128 .f32) (v3521 : Vec F S8x128 .f32) (v3522 : Vec F S8x128 .f32) (v3523 : Vec F S8x128 .f32) (v3526 : FVec F S8x128 .f32) (v3529 : FVec F S8x128 .f32) (v3532 : FVec F S8x128 .f32) (v3535 : FVec F S8x128 .f32) (v3538 : FVec F S8x128 .f32) (v3542 : FVec F S8x128 .f32) :
    Safe (F := F) c (mems arg2 arg3 arg4 arg5 arg6 arg7 arg8 arg9 arg10 arg11 arg12 arg13) (k0_part96 (F := F) i arg2 harg2 arg3 harg3 arg4 harg4 arg5 harg5 arg6 harg6 arg7 harg7 arg8 harg8 arg9 harg9 arg10 harg10 arg11 harg11 arg12 harg12 arg13 harg13 v2605 v2609 v2623 v2625 v2627 v2652 v2687 v3362 v3365 v3368 v3371 v3374 v3458 v3521 v3522 v3523 v3526 v3529 v3532 v3535 v3538 v3542) := by
  rw [k0_part96_eq_skeleton]; unfold k0_part96_skel
  exact L11 fun _ => S11 fun _ => L11 fun _ => S11 fun _ => L11 fun _ => S11 fun _ => L11 fun _ => S11 fun _ => L11 fun _ => .pure

theorem safe_k0_part97 (v2652 : FVec F S8x128 .f32) (v2687 : FVec F S8x128 .f32) (v3377 : FVec F S8x128 .f32) (v3380 : FVec F S8x128 .f32) (v3383 : FVec F S8x128 .f32) (v3386 : FVec F S8x128 .f32) (v3541 : FVec F S8x128 .f32) (v3544 : FVec F S8x128 .f32) (v3547 : FVec F S8x128 .f32) (v3550 : FVec F S8x128 .f32) (v3582 : FVec F S8x128 .f32) (v3585 : FVec F S8x128 .f32) (v3588 : FVec F S8x128 .f32) :
    Safe (F := F) c (mems arg2 arg3 arg4 arg5 arg6 arg7 arg8 arg9 arg10 arg11 arg12 arg13) (k0_part97 (F := F) i arg2 harg2 arg3 harg3 arg4 harg4 arg5 harg5 arg6 harg6 arg7 harg7 arg8 harg8 arg9 harg9 arg10 harg10 arg11 harg11 arg12 harg12 arg13 harg13 v2652 v2687 v3377 v3380 v3383 v3386 v3541 v3544 v3547 v3550 v3582 v3585 v3588) := by
  rw [k0_part97_eq_skeleton]; unfold k0_part97_skel
  exact S11 fun _ => L11 fun _ => S11 fun _ => L11 fun _ => S11 fun _ => L11 fun _ => S11 fun _ => L11 fun _ => S11 fun _ =>
    L9 fun _ => L9 fun _ => .pure

theorem safe_k0_part98 (v2703 : IVec S8x128 1) (v2707 : IVec S8x128 1) (v2711 : IVec S8x128 32) (v3624 : IVec S8x128 32) (v3626 : IVec S8x128 32) :
    Safe (F := F) c (mems arg2 arg3 arg4 arg5 arg6 arg7 arg8 arg9 arg10 arg11 arg12 arg13) (k0_part98 (F := F) i arg2 harg2 arg3 harg3 arg4 harg4 arg5 harg5 arg6 harg6 arg7 harg7 arg8 harg8 arg9 harg9 arg10 harg10 arg11 harg11 arg12 harg12 arg13 harg13 v2703 v2707 v2711 v3624 v3626) := by
  rw [k0_part98_eq_skeleton]; unfold k0_part98_skel
  exact L9 fun _ => L9 fun _ => L10 fun _ => S10 fun _ => L10 fun _ => S10 fun _ => .pure

theorem safe_k0_part99 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v3671 : IVec S8x128 32) :
    Safe (F := F) c (mems arg2 arg3 arg4 arg5 arg6 arg7 arg8 arg9 arg10 arg11 arg12 arg13) (k0_part99 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2611 v2613 v2615 v2617 v2619 v2621 v2623 v3671) := by
  rw [k0_part99_eq_skeleton]; unfold k0_part99_skel
  exact L10 fun _ => S10 fun _ => L10 fun _ => L10 fun _ => L10 fun _ => L10 fun _ => L10 fun _ => L10 fun _ => L10 fun _ =>
    L10 fun _ => L10 fun _ => L10 fun _ => .pure

theorem safe_k0_part100 (v2605 : FVec F S8x128 .f32) (v2609 : FVec F S8x128 .f32) (v2625 : FVec F S8x128 .f32) (v2627 : FVec F S8x128 .f32) (v2657 : FVec F S8x128 .f32) (v2690 : FVec F S8x128 .f32) (v3526 : FVec F S8x128 .f32) (v3529 : FVec F S8x128 .f32) (v3532 : FVec F S8x128 .f32) (v3535 : FVec F S8x128 .f32) (v3538 : FVec F S8x128 .f32) (v3622 : FVec F S8x128 .f32) (v3685 : Vec F S8x128 .f32) (v3686 : Vec F S8x128 .f32) (v3687 : Vec F S8x128 .f32) (v3690 : FVec F S8x128 .f32) (v3693 : FVec F S8x128 .f32) (v3696 : FVec F S8x128 .f32) (v3699 : FVec F S8x128 .f32) (v3702 : FVec F S8x128 .f32) :
    Safe (F := F) c (mems arg2 arg3 arg4 arg5 arg6 arg7 arg8 arg9 arg10 arg11 arg12 arg13) (k0_part100 (F := F) i arg2 harg2 arg3 harg3 arg4 harg4 arg5 harg5 arg6 harg6 arg7 harg7 arg8 harg8 arg9 harg9 arg10 harg10 arg11 harg11 arg12 harg12 arg13 harg13 v2605 v2609 v2625 v2627 v2657 v2690 v3526 v3529 v3532 v3535 v3538 v3622 v3685 v3686 v3687 v3690 v3693 v3696 v3699 v3702) := by
  rw [k0_part100_eq_skeleton]; unfold k0_part100_skel
  exact L11 fun _ => S11 fun _ => L11 fun _ => S11 fun _ => L11 fun _ => S11 fun _ => L11 fun _ => S11 fun _ => L11 fun _ =>
    S11 fun _ => .pure

theorem safe_k0_part101 (v2657 : FVec F S8x128 .f32) (v2690 : FVec F S8x128 .f32) (v3541 : FVec F S8x128 .f32) (v3544 : FVec F S8x128 .f32) (v3547 : FVec F S8x128 .f32) (v3550 : FVec F S8x128 .f32) (v3705 : FVec F S8x128 .f32) (v3708 : FVec F S8x128 .f32) (v3711 : FVec F S8x128 .f32) (v3714 : FVec F S8x128 .f32) (v3746 : FVec F S8x128 .f32) (v3753 : FVec F S8x128 .f32) :
    Safe (F := F) c (mems arg2 arg3 arg4 arg5 arg6 arg7 arg8 arg9 arg10 arg11 arg12 arg13) (k0_part101 (F := F) i arg2 harg2 arg3 harg3 arg4 harg4 arg5 harg5 arg6 harg6 arg7 harg7 arg8 harg8 arg9 harg9 arg10 harg10 arg11 harg11 arg12 harg12 arg13 harg13 v2657 v2690 v3541 v3544 v3547 v3550 v3705 v3708 v3711 v3714 v3746 v3753) := by
  rw [k0_part101_eq_skeleton]; unfold k0_part101_skel
  exact L11 fun _ => S11 fun _ => L11 fun _ => S11 fun _ => L11 fun _ => S11 fun _ => L11 fun _ => S11 fun _ => L9 fun _ =>
    L9 fun _ => L9 fun _ => .pure

theorem safe_k0_part102 (v2703 : IVec S8x128 1) (v2707 : IVec S8x128 1) (v2711 : IVec S8x128 32) (v3788 : IVec S8x128 32) (v3790 : IVec S8x128 32) (v3792 : IVec S8x128 32) :
    Safe (F := F) c (mems arg2 arg3 arg4 arg5 arg6 arg7 arg8 arg9 arg10 arg11 arg12 arg13) (k0_part102 (F := F) i arg2 harg2 arg3 harg3 arg4 harg4 arg5 harg5 arg6 harg6 arg7 harg7 arg8 harg8 arg9 harg9 arg10 harg10 arg11 harg11 arg12 harg12 arg13 harg13 v2703 v2707 v2711 v3788 v3790 v3792) := by
  rw [k0_part102_eq_skeleton]; unfold k0_part102_skel
  exact L9 fun _ => L10 fun _ => S10 fun _ => L10 fun _ => S10 fun _ => .pure

theorem safe_k0_part103 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2605 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v2625 : FVec F S8x128 .f32) (v3837 : FVec F S32x128 .bf16) :
    Safe (F := F) c (mems arg2 arg3 arg4 arg5 arg6 arg7 arg8 arg9 arg10 arg11 arg12 arg13) (k0_part103 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2605 v2611 v2613 v2615 v2617 v2619 v2621 v2623 v2625 v3837) := by
  rw [k0_part103_eq_skeleton]; unfold k0_part103_skel
  exact L10 fun _ => S10 fun _ => L10 fun _ => L10 fun _ => L10 fun _ => L10 fun _ => L10 fun _ => L10 fun _ => L10 fun _ =>
    L10 fun _ => L10 fun _ => L10 fun _ => .pure

theorem safe_k0_part104 (v2609 : FVec F S8x128 .f32) (v2627 : FVec F S8x128 .f32) (v2662 : FVec F S8x128 .f32) (v2693 : FVec F S8x128 .f32) (v3690 : FVec F S8x128 .f32) (v3693 : FVec F S8x128 .f32) (v3696 : FVec F S8x128 .f32) (v3699 : FVec F S8x128 .f32) (v3702 : FVec F S8x128 .f32) (v3705 : FVec F S8x128 .f32) (v3786 : FVec F S8x128 .f32) (v3850 : Vec F S8x128 .f32) (v3851 : Vec F S8x128 .f32) (v3854 : FVec F S8x128 .f32) (v3857 : FVec F S8x128 .f32) (v3860 : FVec F S8x128 .f32) (v3863 : FVec F S8x128 .f32) (v3866 : FVec F S8x128 .f32) (v3873 : FVec F S8x128 .f32) (v3874 : FVec F S8x128 .f32) :
    Safe (F := F) c (mems arg2 arg3 arg4 arg5 arg6 arg7 arg8 arg9 arg10 arg11 arg12 arg13) (k0_part104 (F := F) i arg2 harg2 arg3 harg3 arg4 harg4 arg5 harg5 arg6 harg6 arg7 harg7 arg8 harg8 arg9 harg9 arg10 harg10 arg11 harg11 arg12 harg12 arg13 harg13 v2609 v2627 v2662 v2693 v3690 v3693 v3696 v3699 v3702 v3705 v3786 v3850 v3851 v3854 v3857 v3860 v3863 v3866 v3873 v3874) := by
  rw [k0_part104_eq_skeleton]; unfold k0_part104_skel
  exact L11 fun _ => S11 fun _ => L11 fun _ => S11 fun _ => L11 fun _ => S11 fun _ => L11 fun _ => S11 fun _ => L11 fun _ =>
    S11 fun _ => .pure

theorem safe_k0_part105 (v2662 : FVec F S8x128 .f32) (v2693 : FVec F S8x128 .f32) (v3708 : FVec F S8x128 .f32) (v3711 : FVec F S8x128 .f32) (v3714 : FVec F S8x128 .f32) (v3869 : FVec F S8x128 .f32) (v3872 : FVec F S8x128 .f32) (v3875 : FVec F S8x128 .f32) (v3878 : FVec F S8x128 .f32) (v3918 : FVec F S8x128 .f32) (v3919 : FVec F S8x128 .f32) :
    Safe (F := F) c (mems arg2 arg3 arg4 arg5 arg6 arg7 arg8 arg9 arg10 arg11 arg12 arg13) (k0_part105 (F := F) i arg2 harg2 arg3 harg3 arg4 harg4 arg5 harg5 arg6 harg6 arg7 harg7 arg8 harg8 arg9 harg9 arg10 harg10 arg11 harg11 arg12 harg12 arg13 harg13 v2662 v2693 v3708 v3711 v3714 v3869 v3872 v3875 v3878 v3918 v3919) := by
  rw [k0_part105_eq_skeleton]; unfold k0_part105_skel
  exact L11 fun _ => S11 fun _ => L11 fun _ => S11 fun _ => L11 fun _ => S11 fun _ => L11 fun _ => S11 fun _ => L9 fun _ =>
    L9 fun _ => L9 fun _ => .pure

theorem safe_k0_part106 (v2703 : IVec S8x128 1) (v2707 : IVec S8x128 1) (v2711 : IVec S8x128 32) (v3952 : IVec S8x128 32) (v3954 : IVec S8x128 32) (v3956 : IVec S8x128 32) :
    Safe (F := F) c (mems arg2 arg3 arg4 arg5 arg6 arg7 arg8 arg9 arg10 arg11 arg12 arg13) (k0_part106 (F := F) i arg2 harg2 arg3 harg3 arg4 harg4 arg5 harg5 arg6 harg6 arg7 harg7 arg8 harg8 arg9 harg9 arg10 harg10 arg11 harg11 arg12 harg12 arg13 harg13 v2703 v2707 v2711 v3952 v3954 v3956) := by
  rw [k0_part106_eq_skeleton]; unfold k0_part106_skel
  exact L9 fun _ => L10 fun _ => S10 fun _ => L10 fun _ => S10 fun _ => .pure

theorem safe_k0_part107 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2605 : FVec F S8x128 .f32) (v2609 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v2625 : FVec F S8x128 .f32) (v4002 : FVec F S32x128 .f32) :
    Safe (F := F) c (mems arg2 arg3 arg4 arg5 arg6 arg7 arg8 arg9 arg10 arg11 arg12 arg13) (k0_part107 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2605 v2609 v2611 v2613 v2615 v2617 v2619 v2621 v2623 v2625 v4002) := by
  rw [k0_part107_eq_skeleton]; unfold k0_part107_skel
  exact L10 fun _ => S10 fun _ => L10 fun _ => L10 fun _ => L10 fun _ => L10 fun _ => L10 fun _ => L10 fun _ => L10 fun _ =>
    L10 fun _ => L10 fun _ => L10 fun _ => .pure

theorem safe_k0_part108 (v2627 : FVec F S8x128 .f32) (v2667 : FVec F S8x128 .f32) (v2696 : FVec F S8x128 .f32) (v3854 : FVec F S8x128 .f32) (v3857 : FVec F S8x128 .f32) (v3860 : FVec F S8x128 .f32) (v3863 : FVec F S8x128 .f32) (v3866 : FVec F S8x128 .f32) (v3869 : FVec F S8x128 .f32) (v3950 : FVec F S8x128 .f32) (v4015 : Vec F S8x128 .f32) (v4018 : FVec F S8x128 .f32) (v4021 : FVec F S8x128 .f32) (v4024 : FVec F S8x128 .f32) (v4027 : FVec F S8x128 .f32) (v4030 : FVec F S8x128 .f32) (v4033 : FVec F S8x128 .f32) (v4040 : FVec F S8x128 .f32) :
    Safe (F := F) c (mems arg2 arg3 arg4 arg5 arg6 arg7 arg8 arg9 arg10 arg11 arg12 arg13) (k0_part108 (F := F) i arg2 harg2 arg3 harg3 arg4 harg4 arg5 harg5 arg6 harg6 arg7 harg7 arg8 harg8 arg9 harg9 arg10 harg10 arg11 harg11 arg12 harg12 arg13 harg13 v2627 v2667 v2696 v3854 v3857 v3860 v3863 v3866 v3869 v3950 v4015 v4018 v4021 v4024 v4027 v4030 v4033 v4040) := by
  rw [k0_part108_eq_skeleton]; unfold k0_part108_skel
  exact L11 fun _ => S11 fun _ => L11 fun _ => S11 fun _ => L11 fun _ => S11 fun _ => L11 fun _ => S11 fun _ => L11 fun _ =>
    S11 fun _ => .pure

theorem safe_k0_part109 (v2667 : FVec F S8x128 .f32) (v2696 : FVec F S8x128 .f32) (v3872 : FVec F S8x128 .f32) (v3875 : FVec F S8x128 .f32) (v3878 : FVec F S8x128 .f32) (v4036 : FVec F S8x128 .f32) (v4039 : FVec F S8x128 .f32) (v4042 : FVec F S8x128 .f32) (v4082 : FVec F S8x128 .f32) (v4085 : FVec F S8x128 .f32) :
    Safe (F := F) c (mems arg2 arg3 arg4 arg5 arg6 arg7 arg8 arg9 arg10 arg11 arg12 arg13) (k0_part109 (F := F) i arg2 harg2 arg3 harg3 arg4 harg4 arg5 harg5 arg6 harg6 arg7 harg7 arg8 harg8 arg9 harg9 arg10 harg10 arg11 harg11 arg12 harg12 arg13 harg13 v2667 v2696 v3872 v3875 v3878 v4036 v4039 v4042 v4082 v4085) := by
  rw [k0_part109_eq_skeleton]; unfold k0_part109_skel
  exact L11 fun _ => S11 fun _ => L11 fun _ => S11 fun _ => L11 fun _ => S11 fun _ => L11 fun _ => S11 fun _ => L9 fun _ =>
    L9 fun _ => L9 fun _ => L9 fun _ => .pure

theorem safe_k0_part110 (v2703 : IVec S8x128 1) (v2707 : IVec S8x128 1) (v2711 : IVec S8x128 32) (v4116 : IVec S8x128 32) (v4118 : IVec S8x128 32) (v4120 : IVec S8x128 32) (v4121 : Vec F S1x8x128 .i32) :
    Safe (F := F) c (mems arg2 arg3 arg4 arg5 arg6 arg7 arg8 arg9 arg10 arg11 arg12 arg13) (k0_part110 (F := F) i arg2 harg2 arg3 harg3 arg4 harg4 arg5 harg5 arg6 harg6 arg7 harg7 arg8 harg8 arg9 harg9 arg10 harg10 arg11 harg11 arg12 harg12 arg13 harg13 v2703 v2707 v2711 v4116 v4118 v4120 v4121) := by
  rw [k0_part110_eq_skeleton]; unfold k0_part110_skel
  exact L10 fun _ => S10 fun _ => L10 fun _ => S10 fun _ => L10 fun _ => .pure

theorem safe_k0_part111 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2605 : FVec F S8x128 .f32) (v2609 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v2625 : FVec F S8x128 .f32) (v2627 : FVec F S8x128 .f32) (v4166 : FVec F S32x128 .f32) (v4167 : Vec F S32x128 .f32) :
    Safe (F := F) c (mems arg2 arg3 arg4 arg5 arg6 arg7 arg8 arg9 arg10 arg11 arg12 arg13) (k0_part111 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2605 v2609 v2611 v2613 v2615 v2617 v2619 v2621 v2623 v2625 v2627 v4166 v4167) := by
  rw [k0_part111_eq_skeleton]; unfold k0_part111_skel
  exact S10 fun _ => L10 fun _ => L10 fun _ => L10 fun _ => L10 fun _ => L10 fun _ => L10 fun _ => L10 fun _ => L10 fun _ =>
    L10 fun _ => L10 fun _ => .pure

theorem safe_k0_part112 (v2672 : FVec F S8x128 .f32) (v2699 : FVec F S8x128 .f32) (v4018 : FVec F S8x128 .f32) (v4021 : FVec F S8x128 .f32) (v4024 : FVec F S8x128 .f32) (v4027 : FVec F S8x128 .f32) (v4030 : FVec F S8x128 .f32) (v4033 : FVec F S8x128 .f32) (v4114 : FVec F S8x128 .f32) (v4182 : FVec F S8x128 .f32) (v4185 : FVec F S8x128 .f32) (v4188 : FVec F S8x128 .f32) (v4191 : FVec F S8x128 .f32) (v4194 : FVec F S8x128 .f32) (v4197 : FVec F S8x128 .f32) :
    Safe (F := F) c (mems arg2 arg3 arg4 arg5 arg6 arg7 arg8 arg9 arg10 arg11 arg12 arg13) (k0_part112 (F := F) i arg2 harg2 arg3 harg3 arg4 harg4 arg5 harg5 arg6 harg6 arg7 harg7 arg8 harg8 arg9 harg9 arg10 harg10 arg11 harg11 arg12 harg12 arg13 harg13 v2672 v2699 v4018 v4021 v4024 v4027 v4030 v4033 v4114 v4182 v4185 v4188 v4191 v4194 v4197) := by
  rw [k0_part112_eq_skeleton]; unfold k0_part112_skel
  exact L11 fun _ => S11 fun _ => L11 fun _ => S11 fun _ => L11 fun _ => S11 fun _ => L11 fun _ => S11 fun _ => L11 fun _ =>
    S11 fun _ => .pure

theorem safe_k0_part113 (arg0 : BitVec 32) (arg1 : BitVec 32) (v28 : BitVec 32) (v2672 : FVec F S8x128 .f32) (v2699 : FVec F S8x128 .f32) (v4036 : FVec F S8x128 .f32) (v4039 : FVec F S8x128 .f32) (v4042 : FVec F S8x128 .f32) (v4200 : FVec F S8x128 .f32) (v4203 : FVec F S8x128 .f32) (v4206 : FVec F S8x128 .f32) (v4246 : FVec F S8x128 .f32) (v4249 : FVec F S8x128 .f32) :
    Safe (F := F) c (mems arg2 arg3 arg4 arg5 arg6 arg7 arg8 arg9 arg10 arg11 arg12 arg13) (k0_part113 (F := F) i arg2 harg2 arg3 harg3 arg4 harg4 arg5 harg5 arg6 harg6 arg7 harg7 arg8 harg8 arg9 harg9 arg10 harg10 arg11 harg11 arg12 harg12 arg13 harg13 arg0 arg1 v28 v2672 v2699 v4036 v4039 v4042 v4200 v4203 v4206 v4246 v4249) := by
  rw [k0_part113_eq_skeleton]; unfold k0_part113_skel
  exact L11 fun _ => S11 fun _ => L11 fun _ => S11 fun _ => L11 fun _ => S11 fun _ => L11 fun _ => S11 fun _ => .pure

theorem safe_k0_part114 (v0 : IVec S8x128 32) (k0_t1 : Fin k0_t1_loop.trips) (v29 : BitVec 32) (v4287 : FVec F S1x128 .f32) (v4291 : BitVec 32) (v4292 : BitVec 32) :
    Safe (F := F) c (mems arg2 arg3 arg4 arg5 arg6 arg7 arg8 arg9 arg10 arg11 arg12 arg13) (k0_part114 (F := F) i arg2 harg2 arg3 harg3 arg4 harg4 arg5 harg5 arg6 harg6 arg7 harg7 arg8 harg8 arg9 harg9 arg10 harg10 arg11 harg11 arg12 harg12 arg13 harg13 v0 k0_t1 v29 v4287 v4291 v4292) := by
  rw [k0_part114_eq_skeleton]; unfold k0_part114_skel
  exact L7 fun _ => L7 fun _ => S7 fun _ => L11 fun _ => L6 fun _ => S6 fun _ => L11 fun _ => L6 fun _ => S6 fun _ => .pure

theorem safe_k0_part115 (k0_t1 : Fin k0_t1_loop.trips) (v29 : BitVec 32) (v4306 : FVec F S8x128 .f32) :
    Safe (F := F) c (mems arg2 arg3 arg4 arg5 arg6 arg7 arg8 arg9 arg10 arg11 arg12 arg13) (k0_part115 (F := F) i arg2 harg2 arg3 harg3 arg4 harg4 arg5 harg5 arg6 harg6 arg7 harg7 arg8 harg8 arg9 harg9 arg10 harg10 arg11 harg11 arg12 harg12 arg13 harg13 k0_t1 v29 v4306) := by
  rw [k0_part115_eq_skeleton]; unfold k0_part115_skel
  exact L11 fun _ => L6 fun _ => S6 fun _ => L11 fun _ => L6 fun _ => S6 fun _ => L11 fun _ => L6 fun _ => .pure

theorem safe_k0_part116 (k0_t1 : Fin k0_t1_loop.trips) (v29 : BitVec 32) (v4306 : FVec F S8x128 .f32) (v4372 : IVec S32x128 8) (v4374 : Vec F S1x32x128 .i8) :
    Safe (F := F) c (mems arg2 arg3 arg4 arg5 arg6 arg7 arg8 arg9 arg10 arg11 arg12 arg13) (k0_part116 (F := F) i arg2 harg2 arg3 harg3 arg4 harg4 arg5 harg5 arg6 harg6 arg7 harg7 arg8 harg8 arg9 harg9 arg10 harg10 arg11 harg11 arg12 harg12 arg13 harg13 k0_t1 v29 v4306 v4372 v4374) := by
  rw [k0_part116_eq_skeleton]; unfold k0_part116_skel
  exact S6 fun _ => L11 fun _ => L6 fun _ => S6 fun _ => L11 fun _ => L6 fun _ => S6 fun _ => L11 fun _ => .pure

theorem safe_k0_part117 (k0_t1 : Fin k0_t1_loop.trips) (v29 : BitVec 32) (v4306 : FVec F S8x128 .f32) (v4414 : IVec S32x128 8) :
    Safe (F := F) c (mems arg2 arg3 arg4 arg5 arg6 arg7 arg8 arg9 arg10 arg11 arg12 arg13) (k0_part117 (F := F) i arg2 harg2 arg3 harg3 arg4 harg4 arg5 harg5 arg6 harg6 arg7 harg7 arg8 harg8 arg9 harg9 arg10 harg10 arg11 harg11 arg12 harg12 arg13 harg13 k0_t1 v29 v4306 v4414) := by
  rw [k0_part117_eq_skeleton]; unfold k0_part117_skel
  exact L6 fun _ => S6 fun _ => L11 fun _ => L6 fun _ => S6 fun _ => L11 fun _ => L6 fun _ => S6 fun _ => L11 fun _ => .pure

theorem safe_k0_part118 (arg0 : BitVec 32) (arg1 : BitVec 32) (v0 : IVec S8x128 32) (k0_t1 : Fin k0_t1_loop.trips) (v28 : BitVec 32) (v29 : BitVec 32) (v4278 : FVec F S8x128 .f32) (v4453 : FVec F S4x128 .f32) (v4454 : FVec F S4x128 .f32) :
    Safe (F := F) c (mems arg2 arg3 arg4 arg5 arg6 arg7 arg8 arg9 arg10 arg11 arg12 arg13) (k0_part118 (F := F) i arg2 harg2 arg3 harg3 arg4 harg4 arg5 harg5 arg6 harg6 arg7 harg7 arg8 harg8 arg9 harg9 arg10 harg10 arg11 harg11 arg12 harg12 arg13 harg13 arg0 arg1 v0 k0_t1 v28 v29 v4278 v4453 v4454) := by
  rw [k0_part118_eq_skeleton]; unfold k0_part118_skel
  exact L6 fun _ => S6 fun _ => L7 fun _ => L7 fun _ => S7 fun _ => L11 fun _ => .pure

theorem safe_k0_part119 (k0_t1 : Fin k0_t1_loop.trips) (v30 : BitVec 32) (v4488 : FVec F S8x128 .f32) (v4495 : FVec F S32x128 .f32) (v4496 : FVec F S32x128 .f32) :
    Safe (F := F) c (mems arg2 arg3 arg4 arg5 arg6 arg7 arg8 arg9 arg10 arg11 arg12 arg13) (k0_part119 (F := F) i arg2 harg2 arg3 harg3 arg4 harg4 arg5 harg5 arg6 harg6 arg7 harg7 arg8 harg8 arg9 harg9 arg10 harg10 arg11 harg11 arg12 harg12 arg13 harg13 k0_t1 v30 v4488 v4495 v4496) := by
  rw [k0_part119_eq_skeleton]; unfold k0_part119_skel
  exact L6 fun _ => S6 fun _ => L11 fun _ => L6 fun _ => S6 fun _ => L11 fun _ => L6 fun _ => S6 fun _ => L11 fun _ => .pure

theorem safe_k0_part120 (k0_t1 : Fin k0_t1_loop.trips) (v30 : BitVec 32) (v4488 : FVec F S8x128 .f32) (v4535 : FVec F S32x128 .f32) (cst_1983 : F .f32) (cst_1984 : F .f32) :
    Safe (F := F) c (mems arg2 arg3 arg4 arg5 arg6 arg7 arg8 arg9 arg10 arg11 arg12 arg13) (k0_part120 (F := F) i arg2 harg2 arg3 harg3 arg4 harg4 arg5 harg5 arg6 harg6 arg7 harg7 arg8 harg8 arg9 harg9 arg10 harg10 arg11 harg11 arg12 harg12 arg13 harg13 k0_t1 v30 v4488 v4535 cst_1983 cst_1984) := by
  rw [k0_part120_eq_skeleton]; unfold k0_part120_skel
  exact L6 fun _ => S6 fun _ => L11 fun _ => L6 fun _ => S6 fun _ => L11 fun _ => L6 fun _ => S6 fun _ => L11 fun _ => .pure

theorem safe_k0_part121 (k0_t1 : Fin k0_t1_loop.trips) (v30 : BitVec 32) (v4488 : FVec F S8x128 .f32) (v4576 : FVec F S32x128 .f32) :
    Safe (F := F) c (mems arg2 arg3 arg4 arg5 arg6 arg7 arg8 arg9 arg10 arg11 arg12 arg13) (k0_part121 (F := F) i arg2 harg2 arg3 harg3 arg4 harg4 arg5 harg5 arg6 harg6 arg7 harg7 arg8 harg8 arg9 harg9 arg10 harg10 arg11 harg11 arg12 harg12 arg13 harg13 k0_t1 v30 v4488 v4576) := by
  rw [k0_part121_eq_skeleton]; unfold k0_part121_skel
  exact L6 fun _ => S6 fun _ => L11 fun _ => L6 fun _ => S6 fun _ => L11 fun _ => L6 fun _ => S6 fun _ => L11 fun _ => .pure

theorem safe_k0_part122 (arg1 : BitVec 32) (v0 : IVec S8x128 32) (v1 : IVec S8x128 32) (v5 : IVec S8x128 1) (v14 : FVec F S8x128 .f32) (c0_i32_5 : BitVec 32) (c1_i32 : BitVec 32) (k0_t1 : Fin k0_t1_loop.trips) :
    Safe (F := F) c (mems arg2 arg3 arg4 arg5 arg6 arg7 arg8 arg9 arg10 arg11 arg12 arg13) (k0_part122 (F := F) i arg2 harg2 arg3 harg3 arg4 harg4 arg5 harg5 arg6 harg6 arg7 harg7 arg8 harg8 arg9 harg9 arg10 harg10 arg11 harg11 arg12 harg12 arg13 harg13 arg1 v0 v1 v5 v14 c0_i32_5 c1_i32 k0_t1) := by
  rw [k0_part122_eq_skeleton]; unfold k0_part122_skel
  exact .bind (safe_k0_part1 c _ _ _ _ _ _ _ _ _ _ _ _ _ _ _ _ _ _ _ _ _ _ _ _ _ _ _ _ _ _ _) fun _ =>
    .bind (safe_k0_part2 c _ _ _ _ _ _ _ _ _ _ _ _ _ _ _ _ _ _ _ _ _ _ _ _ _ _ _ _ _ _ _ _) fun _ =>
    .bind (safe_k0_part3 c _ _ _ _ _ _ _ _ _ _ _ _ _ _ _ _ _ _ _ _ _ _ _ _ _ _ _ _ _ _) fun _ =>
    .bind (safe_k0_part4 c _ _ _ _ _ _ _ _ _ _ _ _ _ _ _ _ _ _ _ _ _ _ _ _ _ _ _ _ _ _ _) fun _ =>
    .bind (safe_k0_part5 c _ _ _ _ _ _ _ _ _ _ _ _ _ _ _ _ _ _ _ _ _ _ _ _ _ _ _ _ _ _ _) fun _ =>
    .bind (safe_k0_part6 c _ _ _ _ _ _ _ _ _ _ _ _ _ _ _ _ _ _ _ _ _ _ _ _ _ _ _ _ _ _ _) fun _ =>
    .bind (safe_k0_part7 c _ _ _ _ _ _ _ _ _ _ _ _ _ _ _ _ _ _ _ _ _ _ _ _ _ _ _ _ _ _) fun _ =>
    .bind (safe_k0_part8 c _ _ _ _ _ _ _ _ _ _ _ _ _ _ _ _ _ _ _ _ _ _ _ _ _ _ _ _ _ _) fun _ =>
    .bind (safe_k0_part9 c _ _ _ _ _ _ _ _ _ _ _ _ _ _ _ _ _ _ _ _ _ _ _ _ _ _ _ _ _ _) fun _ =>
    .bind (safe_k0_part10 c _ _ _ _ _ _ _ _ _ _ _ _ _ _ _ _ _ _ _ _ _ _ _ _ _ _ _ _ _ _) fun _ =>
    .bind (safe_k0_part11 c _ _ _ _ _ _ _ _ _ _ _ _ _ _ _ _ _ _ _ _ _ _ _ _ _ _ _ _ _ _) fun _ =>
    .bind (safe_k0_part12 c _ _ _ _ _ _ _ _ _ _ _ _ _ _ _ _ _ _ _ _ _ _ _ _ _ _ _ _ _ _ _) fun _ =>
    .bind (safe_k0_part13 c _ _ _ _ _ _ _ _ _ _ _ _ _ _ _ _ _ _ _ _ _ _ _ _ _ _ _ _ _ _ _) fun _ =>
    .bind (safe_k0_part14 c _ _ _ _ _ _ _ _ _ _ _ _ _ _ _ _ _ _ _ _ _ _ _ _ _ _ _ _ _ _ _) fun _ =>
    .bind (safe_k0_part15 c _ _ _ _ _ _ _ _ _ _ _ _ _ _ _ _ _ _ _ _ _ _ _ _ _ _ _ _ _ _ _) fun _ =>
    .bind (safe_k0_part16 c _ _ _ _ _ _ _ _ _ _ _ _ _ _ _ _ _ _ _ _ _ _ _ _ _ _ _ _ _ _ _) fun _ =>
    .bind (safe_k0_part17 c _ _ _ _ _ _ _ _ _ _ _ _ _ _ _ _ _ _ _ _ _ _ _ _ _ _ _ _ _ _ _) fun _ =>
    .bind (safe_k0_part18 c _ _ _ _ _ _ _ _ _ _ _ _ _ _ _ _ _ _ _ _ _ _ _ _ _ _ _ _ _ _ _ _) fun _ =>
    .bind (safe_k0_part19 c _ _ _ _ _ _ _ _ _ _ _ _ _ _ _ _ _ _ _ _ _ _ _ _ _ _ _ _) fun _ =>
    .bind (safe_k0_part20 c _ _ _ _ _ _ _ _ _ _ _ _ _ _ _ _ _ _ _ _ _ _ _ _ _ _ _ _ _ _) fun _ =>
    .bind (safe_k0_part21 c _ _ _ _ _ _ _ _ _ _ _ _ _ _ _ _ _ _ _ _ _ _ _ _ _ _ _ _) fun _ =>
    .bind (safe_k0_part22 c _ _ _ _ _ _ _ _ _ _ _ _ _ _ _ _ _ _ _ _ _ _ _ _ _ _ _ _) fun _ =>
    .bind (safe_k0_part23 c _ _ _ _ _ _ _ _ _ _ _ _ _ _ _ _ _ _ _ _ _ _ _ _ _ _ _ _) fun _ =>
    .bind (safe_k0_part24 c _ _ _ _ _ _ _ _ _ _ _ _ _ _ _ _ _ _ _ _ _ _ _ _ _ _ _) fun _ =>
    .bind (safe_k0_part25 c _ _ _ _ _ _ _ _ _ _ _ _ _ _ _ _ _ _ _ _ _ _ _ _ _ _ _ _ _) fun _ =>
    .bind (safe_k0_part26 c _ _ _ _ _ _ _ _ _ _ _ _ _ _ _ _ _ _ _ _ _ _ _ _ _ _ _ _) fun _ =>
    .bind (safe_k0_part27 c _ _ _ _ _ _ _ _ _ _ _ _ _ _ _ _ _ _ _ _ _ _ _ _ _ _ _ _ _ _ _) fun _ =>
    .bind (safe_k0_part28 c _ _ _ _ _ _ _ _ _ _ _ _ _ _ _ _ _ _ _ _ _ _ _ _ _ _ _ _ _ _ _) fun _ =>
    .bind (safe_k0_part29 c _ _ _ _ _ _ _ _ _ _ _ _ _ _ _ _ _ _ _ _ _ _ _ _ _ _ _ _ _ _ _) fun _ =>
    .bind (safe_k0_part30 c _ _ _ _ _ _ _ _ _ _ _ _ _ _ _ _ _ _ _ _ _ _ _ _ _ _ _ _ _ _ _) fun _ =>
    .bind (safe_k0_part31 c _ _ _ _ _ _ _ _ _ _ _ _ _ _ _ _ _ _ _ _ _ _ _ _ _ _ _ _ _ _ _ _) fun _ =>
    .bind (safe_k0_part32 c _ _ _ _ _ _ _ _ _ _ _ _ _ _ _ _ _ _ _ _ _ _ _ _ _ _ _ _ _ _ _ _) fun _ =>
    .bind (safe_k0_part33 c _ _ _ _ _ _ _ _ _ _ _ _ _ _ _ _ _ _ _ _ _ _ _ _ _ _ _ _ _ _ _ _) fun _ =>
    .bind (safe_k0_part34 c _ _ _ _ _ _ _ _ _ _ _ _ _ _ _ _ _ _ _ _ _ _ _ _ _ _ _ _ _ _ _) fun _ =>
    .bind (safe_k0_part35 c _ _ _ _ _ _ _ _ _ _ _ _ _ _ _ _ _ _ _ _ _ _ _ _ _ _ _ _ _ _ _ _) fun _ =>
    .bind (safe_k0_part36 c _ _ _ _ _ _ _ _ _ _ _ _ _ _ _ _ _ _ _ _ _ _ _ _ _ _ _ _ _ _ _ _) fun _ =>
    .bind (safe_k0_part37 c _ _ _ _ _ _ _ _ _ _ _ _ _ _ _ _ _ _ _ _ _ _ _ _ _ _ _ _ _ _ _ _) fun _ =>
    .bind (safe_k0_part38 c _ _ _ _ _ _ _ _ _ _ _ _ _ _ _ _ _ _ _ _ _ _ _ _ _ _ _ _ _ _) fun _ =>
    .bind (safe_k0_part39 c _ _ _ _ _ _ _ _ _ _ _ _ _ _ _ _ _ _ _ _ _ _ _ _ _ _ _ _ _ _) fun _ =>
    .bind (safe_k0_part40 c _ _ _ _ _ _ _ _ _ _ _ _ _ _ _ _ _ _ _ _ _ _ _ _ _ _ _ _ _ _) fun _ =>
    .bind (safe_k0_part41 c _ _ _ _ _ _ _ _ _ _ _ _ _ _ _ _ _ _ _ _ _ _ _ _ _ _ _ _ _ _) fun _ =>
    .bind (safe_k0_part42 c _ _ _ _ _ _ _ _ _ _ _ _ _ _ _ _ _ _ _ _ _ _ _ _ _ _ _ _ _ _) fun _ =>
    .bind (safe_k0_part43 c _ _ _ _ _ _ _ _ _ _ _ _ _ _ _ _ _ _ _ _ _ _ _ _ _ _ _ _ _ _ _ _) fun _ =>
    .bind (safe_k0_part44 c _ _ _ _ _ _ _ _ _ _ _ _ _ _ _ _ _ _ _ _ _ _ _ _ _ _ _ _ _ _) fun _ =>
    .bind (safe_k0_part45 c _ _ _ _ _ _ _ _ _ _ _ _ _ _ _ _ _ _ _ _ _ _ _ _ _ _ _ _) fun _ =>
    .bind (safe_k0_part46 c _ _ _ _ _ _ _ _ _ _ _ _ _ _ _ _ _ _ _ _ _ _ _ _ _ _ _ _ _ _) fun _ =>
    .bind (safe_k0_part47 c _ _ _ _ _ _ _ _ _ _ _ _ _ _ _ _ _ _ _ _ _ _ _ _ _ _ _ _) fun _ =>
    .bind (safe_k0_part48 c _ _ _ _ _ _ _ _ _ _ _ _ _ _ _ _ _ _ _ _ _ _ _ _ _ _ _ _) fun _ =>
    .bind (safe_k0_part49 c _ _ _ _ _ _ _ _ _ _ _ _ _ _ _ _ _ _ _ _ _ _ _ _ _ _ _) fun _ =>
    .bind (safe_k0_part50 c _ _ _ _ _ _ _ _ _ _ _ _ _ _ _ _ _ _ _ _ _ _ _ _ _ _ _ _ _) fun _ =>
    .bind (safe_k0_part51 c _ _ _ _ _ _ _ _ _ _ _ _ _ _ _ _ _ _ _ _ _ _ _ _ _ _ _ _) fun _ =>
    .bind (safe_k0_part52 c _ _ _ _ _ _ _ _ _ _ _ _ _ _ _ _ _ _ _ _ _ _ _ _ _ _ _ _ _) fun _ =>
    .bind (safe_k0_part53 c _ _ _ _ _ _ _ _ _ _ _ _ _ _ _ _ _ _ _ _ _ _ _ _ _ _) fun _ =>
    .bind (safe_k0_part54 c _ _ _ _ _ _ _ _ _ _ _ _ _ _ _ _ _ _ _ _ _ _ _ _ _ _ _ _ _ _ _ _ _ _ _ _ _ _ _) fun _ =>
    .bind (safe_k0_part55 c _ _ _ _ _ _ _ _ _ _ _ _ _ _ _ _ _ _ _ _ _ _ _ _ _ _ _ _ _ _ _ _ _ _ _ _ _ _ _ _ _ _ _ _ _) fun _ =>
    .bind (safe_k0_part56 c _ _ _ _ _ _ _ _ _ _ _ _ _ _ _ _ _ _ _ _ _ _ _ _ _ _ _ _ _ _ _ _ _) fun _ =>
    .bind (safe_k0_part57 c _ _ _ _ _ _ _ _ _ _ _ _ _ _ _ _ _ _ _ _ _ _ _ _ _ _ _ _) fun _ =>
    .bind (safe_k0_part58 c _ _ _ _ _ _ _ _ _ _ _ _ _ _ _ _ _ _ _ _ _ _ _ _ _ _ _ _ _ _ _ _ _ _ _ _ _ _ _) fun _ =>
    .bind (safe_k0_part59 c _ _ _ _ _ _ _ _ _ _ _ _ _ _ _ _ _ _ _ _ _ _ _ _ _ _ _ _ _ _ _ _ _ _ _ _ _ _ _ _ _ _ _ _ _) fun _ =>
    .bind (safe_k0_part60 c _ _ _ _ _ _ _ _ _ _ _ _ _ _ _ _ _ _ _ _ _ _ _ _ _ _ _ _ _ _ _ _) fun _ => .pure

theorem safe_k0_part123 (arg0 : BitVec 32) (arg1 : BitVec 32) (v0 : IVec S8x128 32) (v7 : IVec S8x128 32) (v9 : IVec S8x128 32) (k0_t1 : Fin k0_t1_loop.trips) (v28 : BitVec 32) (v29 : BitVec 32) (v30 : BitVec 32) (v75 : FVec F S8x128 .f32) (v80 : FVec F S8x128 .f32) (v81 : FVec F S8x128 .f32) (v88 : IVec S8x128 32) (v95 : IVec S8x128 32) (v97 : IVec S8x128 32) (v1865 : IVec S8x128 1) (v1869 : IVec S8x128 1) (v1873 : IVec S8x128 1) (v1877 : IVec S8x128 1) (v2151 : IVec S8x128 1) (v2154 : Vec F S8x128 .i32) (v2155 : Vec F S8x128 .i32) :
    Safe (F := F) c (mems arg2 arg3 arg4 arg5 arg6 arg7 arg8 arg9 arg10 arg11 arg12 arg13) (k0_part123 (F := F) i arg2 harg2 arg3 harg3 arg4 harg4 arg5 harg5 arg6 harg6 arg7 harg7 arg8 harg8 arg9 harg9 arg10 harg10 arg11 harg11 arg12 harg12 arg13 harg13 arg0 arg1 v0 v7 v9 k0_t1 v28 v29 v30 v75 v80 v81 v88 v95 v97 v1865 v1869 v1873 v1877 v2151 v2154 v2155) := by
  rw [k0_part123_eq_skeleton]; unfold k0_part123_skel
  exact .bind (safe_k0_part61 c _ _ _ _ _ _ _ _ _ _ _ _ _ _ _ _ _ _ _ _ _ _ _ _ _ _ _) fun _ =>
    .bind (safe_k0_part62 c _ _ _ _ _ _ _ _ _ _ _ _ _ _ _ _ _ _ _ _ _ _ _ _ _ _ _ _ _ _ _ _ _ _ _ _ _ _) fun _ =>
    .bind (safe_k0_part63 c _ _ _ _ _ _ _ _ _ _ _ _ _ _ _ _ _ _ _ _ _ _ _ _ _ _ _ _ _ _ _ _ _ _ _ _ _ _ _ _ _ _ _ _ _) fun _ =>
    .bind (safe_k0_part64 c _ _ _ _ _ _ _ _ _ _ _ _ _ _ _ _ _ _ _ _ _ _ _ _ _ _ _ _ _ _ _ _) fun _ =>
    .bind (safe_k0_part65 c _ _ _ _ _ _ _ _ _ _ _ _ _ _ _ _ _ _ _ _ _ _ _ _ _ _ _) fun _ =>
    .bind (safe_k0_part66 c _ _ _ _ _ _ _ _ _ _ _ _ _ _ _ _ _ _ _ _ _ _ _ _ _ _ _ _ _ _ _ _ _ _ _ _ _ _) fun _ =>
    .bind (safe_k0_part67 c _ _ _ _ _ _ _ _ _ _ _ _ _ _ _ _ _ _ _ _ _ _ _ _ _ _ _ _ _ _ _ _ _ _ _ _ _ _ _ _ _ _ _ _ _) fun _ =>
    .bind (safe_k0_part68 c _ _ _ _ _ _ _ _ _ _ _ _ _ _ _ _ _ _ _ _ _ _ _ _ _ _ _ _ _ _ _ _ _) fun _ =>
    .bind (safe_k0_part69 c _ _ _ _ _ _ _ _ _ _ _ _ _ _ _ _ _ _ _ _ _ _ _ _ _ _ _ _ _) fun _ =>
    .bind (safe_k0_part70 c _ _ _ _ _ _ _ _ _ _ _ _ _ _ _ _ _ _ _ _ _ _ _ _ _ _ _ _ _ _) fun _ =>
    .bind (safe_k0_part71 c _ _ _ _ _ _ _ _ _ _ _ _ _ _ _ _ _ _ _ _ _ _ _ _ _ _ _ _ _) fun _ =>
    .bind (safe_k0_part72 c _ _ _ _ _ _ _ _ _ _ _ _ _ _ _ _ _ _ _ _ _ _ _ _ _ _ _ _ _ _ _ _ _ _ _) fun _ =>
    .bind (safe_k0_part73 c _ _ _ _ _ _ _ _ _ _ _ _ _ _ _ _ _ _ _ _ _ _ _ _ _ _ _ _ _ _ _ _ _ _ _ _ _ _ _ _) fun _ =>
    .bind (safe_k0_part74 c _ _ _ _ _ _ _ _ _ _ _ _ _ _ _ _ _ _ _ _ _ _ _ _ _ _ _ _ _ _ _ _ _ _ _ _) fun _ =>
    .bind (safe_k0_part75 c _ _ _ _ _ _ _ _ _ _ _ _ _ _ _ _ _ _ _ _ _ _ _ _ _ _ _ _ _ _ _ _ _ _ _ _ _) fun _ =>
    .bind (safe_k0_part76 c _ _ _ _ _ _ _ _ _ _ _ _ _ _ _ _ _ _ _ _ _ _ _ _ _ _ _ _ _ _ _ _ _) fun _ =>
    .bind (safe_k0_part77 c _ _ _ _ _ _ _ _ _ _ _ _ _ _ _ _ _ _ _ _ _ _ _ _ _ _ _ _ _ _ _ _ _ _ _ _ _ _ _ _ _ _ _ _) fun _ =>
    .bind (safe_k0_part78 c _ _ _ _ _ _ _ _ _ _ _ _ _ _ _ _ _ _ _ _ _ _ _ _ _ _ _ _) fun _ =>
    .bind (safe_k0_part79 c _ _ _ _ _ _ _ _ _ _ _ _ _ _ _ _ _ _ _ _ _ _ _ _ _ _ _ _ _ _ _ _ _ _ _ _) fun _ =>
    .bind (safe_k0_part80 c _ _ _ _ _ _ _ _ _ _ _ _ _ _ _ _ _ _ _ _ _ _ _ _ _ _ _ _ _ _ _ _ _ _ _ _ _ _ _ _ _ _ _ _ _ _ _ _ _ _ _ _) fun _ =>
    .bind (safe_k0_part81 c _ _ _ _ _ _ _ _ _ _ _ _ _ _ _ _ _ _ _ _ _ _ _ _ _ _ _ _ _ _ _ _ _ _ _ _ _ _) fun _ =>
    .bind (safe_k0_part82 c _ _ _ _ _ _ _ _ _ _ _ _ _ _ _ _ _ _ _ _ _ _ _ _ _ _ _ _ _) fun _ =>
    .bind (safe_k0_part83 c _ _ _ _ _ _ _ _ _ _ _ _ _ _ _ _ _ _ _ _ _ _ _ _ _ _ _ _ _ _ _ _ _ _ _ _ _) fun _ =>
    .bind (safe_k0_part84 c _ _ _ _ _ _ _ _ _ _ _ _ _ _ _ _ _ _ _ _ _ _ _ _ _ _ _ _ _ _ _ _ _ _ _ _ _ _ _ _ _ _ _ _ _ _ _ _ _ _ _ _) fun _ =>
    .bind (safe_k0_part85 c _ _ _ _ _ _ _ _ _ _ _ _ _ _ _ _ _ _ _ _ _ _ _ _ _ _ _ _ _ _ _ _ _ _ _ _ _ _) fun _ =>
    .bind (safe_k0_part86 c _ _ _ _ _ _ _ _ _ _ _ _ _ _ _ _ _ _ _ _ _ _ _ _ _ _ _ _ _) fun _ =>
    .bind (safe_k0_part87 c _ _ _ _ _ _ _ _ _ _ _ _ _ _ _ _ _ _ _ _ _ _ _ _ _ _ _ _ _ _ _ _ _ _ _ _ _ _ _) fun _ =>
    .bind (safe_k0_part88 c _ _ _ _ _ _ _ _ _ _ _ _ _ _ _ _ _ _ _ _ _ _ _ _ _ _ _ _ _ _ _ _ _ _ _ _ _ _ _ _ _ _ _ _ _ _ _ _ _ _ _) fun _ =>
    .bind (safe_k0_part89 c _ _ _ _ _ _ _ _ _ _ _ _ _ _ _ _ _ _ _ _ _ _ _ _ _ _ _ _ _ _ _ _ _ _ _ _ _) fun _ =>
    .bind (safe_k0_part90 c _ _ _ _ _ _ _ _ _ _ _ _ _ _ _ _ _ _ _ _ _ _ _ _ _ _ _ _ _ _) fun _ =>
    .bind (safe_k0_part91 c _ _ _ _ _ _ _ _ _ _ _ _ _ _ _ _ _ _ _ _ _ _ _ _ _ _ _ _ _ _ _ _ _ _ _ _ _ _ _ _ _) fun _ =>
    .bind (safe_k0_part92 c _ _ _ _ _ _ _ _ _ _ _ _ _ _ _ _ _ _ _ _ _ _ _ _ _ _ _ _ _ _ _ _ _ _ _ _ _ _ _ _ _ _ _ _ _ _ _ _ _ _) fun _ =>
    .bind (safe_k0_part93 c _ _ _ _ _ _ _ _ _ _ _ _ _ _ _ _ _ _ _ _ _ _ _ _ _ _ _ _ _ _ _ _ _ _ _ _ _ _) fun _ =>
    .bind (safe_k0_part94 c _ _ _ _ _ _ _ _ _ _ _ _ _ _ _ _ _ _ _ _ _ _ _ _ _ _ _ _ _ _) fun _ =>
    .bind (safe_k0_part95 c _ _ _ _ _ _ _ _ _ _ _ _ _ _ _ _ _ _ _ _ _ _ _ _ _ _ _ _ _ _ _ _ _ _ _ _ _ _ _ _ _) fun _ =>
    .bind (safe_k0_part96 c _ _ _ _ _ _ _ _ _ _ _ _ _ _ _ _ _ _ _ _ _ _ _ _ _ _ _ _ _ _ _ _ _ _ _ _ _ _ _ _ _ _ _ _ _ _ _) fun _ =>
    .bind (safe_k0_part97 c _ _ _ _ _ _ _ _ _ _ _ _ _ _ _ _ _ _ _ _ _ _ _ _ _ _ _ _ _ _ _ _ _ _ _ _ _ _) fun _ =>
    .bind (safe_k0_part98 c _ _ _ _ _ _ _ _ _ _ _ _ _ _ _ _ _ _ _ _ _ _ _ _ _ _ _ _ _ _) fun _ =>
    .bind (safe_k0_part99 c _ _ _ _ _ _ _ _ _ _ _ _ _ _ _ _ _ _ _ _ _ _ _ _ _ _ _ _ _ _ _ _ _ _ _ _ _ _ _ _) fun _ =>
    .bind (safe_k0_part100 c _ _ _ _ _ _ _ _ _ _ _ _ _ _ _ _ _ _ _ _ _ _ _ _ _ _ _ _ _ _ _ _ _ _ _ _ _ _ _ _ _ _ _ _ _) fun _ =>
    .bind (safe_k0_part101 c _ _ _ _ _ _ _ _ _ _ _ _ _ _ _ _ _ _ _ _ _ _ _ _ _ _ _ _ _ _ _ _ _ _ _ _ _) fun _ =>
    .bind (safe_k0_part102 c _ _ _ _ _ _ _ _ _ _ _ _ _ _ _ _ _ _ _ _ _ _ _ _ _ _ _ _ _ _ _) fun _ =>
    .bind (safe_k0_part103 c _ _ _ _ _ _ _ _ _ _ _ _ _ _ _ _ _ _ _ _ _ _ _ _ _ _ _ _ _ _ _ _ _ _ _ _ _ _ _ _ _ _) fun _ =>
    .bind (safe_k0_part104 c _ _ _ _ _ _ _ _ _ _ _ _ _ _ _ _ _ _ _ _ _ _ _ _ _ _ _ _ _ _ _ _ _ _ _ _ _ _ _ _ _ _ _ _ _) fun _ =>
    .bind (safe_k0_part105 c _ _ _ _ _ _ _ _ _ _ _ _ _ _ _ _ _ _ _ _ _ _ _ _ _ _ _ _ _ _ _ _ _ _ _ _) fun _ =>
    .bind (safe_k0_part106 c _ _ _ _ _ _ _ _ _ _ _ _ _ _ _ _ _ _ _ _ _ _ _ _ _ _ _ _ _ _ _) fun _ =>
    .bind (safe_k0_part107 c _ _ _ _ _ _ _ _ _ _ _ _ _ _ _ _ _ _ _ _ _ _ _ _ _ _ _ _ _ _ _ _ _ _ _ _ _ _ _ _ _ _ _) fun _ =>
    .bind (safe_k0_part108 c _ _ _ _ _ _ _ _ _ _ _ _ _ _ _ _ _ _ _ _ _ _ _ _ _ _ _ _ _ _ _ _ _ _ _ _ _ _ _ _ _ _ _) fun _ =>
    .bind (safe_k0_part109 c _ _ _ _ _ _ _ _ _ _ _ _ _ _ _ _ _ _ _ _ _ _ _ _ _ _ _ _ _ _ _ _ _ _ _) fun _ =>
    .bind (safe_k0_part110 c _ _ _ _ _ _ _ _ _ _ _ _ _ _ _ _ _ _ _ _ _ _ _ _ _ _ _ _ _ _ _ _) fun _ =>
    .bind (safe_k0_part111 c _ _ _ _ _ _ _ _ _ _ _ _ _ _ _ _ _ _ _ _ _ _ _ _ _ _ _ _ _ _ _ _ _ _ _ _ _ _ _ _ _ _ _ _ _) fun _ =>
    .bind (safe_k0_part112 c _ _ _ _ _ _ _ _ _ _ _ _ _ _ _ _ _ _ _ _ _ _ _ _ _ _ _ _ _ _ _ _ _ _ _ _ _ _ _ _) fun _ =>
    .bind (safe_k0_part113 c _ _ _ _ _ _ _ _ _ _ _ _ _ _ _ _ _ _ _ _ _ _ _ _ _ _ _ _ _ _ _ _ _ _ _ _ _ _) fun _ =>
    .bind (safe_k0_part114 c _ _ _ _ _ _ _ _ _ _ _ _ _ _ _ _ _ _ _ _ _ _ _ _ _ _ _ _ _ _ _) fun _ =>
    .bind (safe_k0_part115 c _ _ _ _ _ _ _ _ _ _ _ _ _ _ _ _ _ _ _ _ _ _ _ _ _ _ _ _) fun _ =>
    .bind (safe_k0_part116 c _ _ _ _ _ _ _ _ _ _ _ _ _ _ _ _ _ _ _ _ _ _ _ _ _ _ _ _ _ _) fun _ =>
    .bind (safe_k0_part117 c _ _ _ _ _ _ _ _ _ _ _ _ _ _ _ _ _ _ _ _ _ _ _ _ _ _ _ _ _) fun _ =>
    .bind (safe_k0_part118 c _ _ _ _ _ _ _ _ _ _ _ _ _ _ _ _ _ _ _ _ _ _ _ _ _ _ _ _ _ _ _ _ _ _) fun _ =>
    .bind (safe_k0_part119 c _ _ _ _ _ _ _ _ _ _ _ _ _ _ _ _ _ _ _ _ _ _ _ _ _ _ _ _ _ _) fun _ =>
    .bind (safe_k0_part120 c _ _ _ _ _ _ _ _ _ _ _ _ _ _ _ _ _ _ _ _ _ _ _ _ _ _ _ _ _ _ _) fun _ => .pure

end Cert.Kernel.Hand

end
-- ==== Proof.BFrame.lean ====
/-
  `Kernel`'s frame: its body from any contents of its buffers to some contents, at every point; the launch around it; what
  is left is that the arguments keep what they held and every semaphore counter is zero.
-/
module

public import proofs.«01_k».proof.Proof.BSafe

@[expose] public section

set_option maxRecDepth 16384

noncomputable section

namespace Cert.Kernel.Hand

open Cert.Kernel Cert.Kernel.Gen Cert.Triple
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-! ## The body -/

section Body

variable (c : Dev nD) (i : grid0.Coords) (arg2 : Memref sig .tc .vmem S1x48x64x1024 .i8) (harg2 : arg2.IsWhole) (arg3 : Memref sig .tc .vmem S1x24x32x1024 .i8) (harg3 : arg3.IsWhole) (arg4 : Memref sig .tc .vmem S1x12x16x1024 .i8) (harg4 : arg4.IsWhole) (arg5 : Memref sig .tc .vmem S1x6x8x1024 .i8) (harg5 : arg5.IsWhole) (arg6 : Memref sig .tc .vmem S1x4x1024 .f32) (harg6 : arg6.IsWhole) (arg7 : Memref sig .tc .vmem S1x2x1024 .f32) (harg7 : arg7.IsWhole) (arg8 : Memref sig .tc .vmem S1x324x1024 .i8) (harg8 : arg8.IsWhole) (arg9 : Memref sig .tc .vmem S8x3072 .f32) (harg9 : arg9.IsWhole) (arg10 : Memref sig .tc .vmem S1152x128 .i32) (harg10 : arg10.IsWhole) (arg11 : Memref sig .tc .vmem S40x8x128 .i32) (harg11 : arg11.IsWhole) (arg12 : Memref sig .tc .vmem S960x128 .f32) (harg12 : arg12.IsWhole) (arg13 : Memref sig .tc .vmem S648x128 .f32) (harg13 : arg13.IsWhole)

theorem safe_body (arg0 arg1 : BitVec 32) (v0 v1 : IVec S8x128 32) (k : Fin k0_t1_loop.trips) (u : Unit) :
    Safe (F := F) c (mems arg2 arg3 arg4 arg5 arg6 arg7 arg8 arg9 arg10 arg11 arg12 arg13) (k0_t1_body (F := F) i arg2 harg2 arg3 harg3 arg4 harg4 arg5 harg5 arg6 harg6 arg7 harg7 arg8 harg8 arg9 harg9 arg10 harg10 arg11 harg11 arg12 harg12 arg13 harg13 arg0 arg1 v0 v1 k u) := by
  unfold k0_t1_body
  exact Safe.bind (F := F) (by apply safe_k0_part122) fun _ => .bind (by apply safe_k0_part123) fun _ => .bind (by apply safe_k0_part121) fun _ =>
    L6 (F := F) fun _ => S6 fun _ => L11 fun _ => L6 fun _ => S6 fun _ => .pure

theorem Safe.dite {c : Dev nD} {M : Mems sig fam} {α : Type} {b : Prop} [Decidable b] {f : b → Prog (TpuEff nD τ sig (Elt F) Λ₀ .tc) α}
    {g : ¬b → Prog (TpuEff nD τ sig (Elt F) Λ₀ .tc) α} (hf : ∀ h, Safe c M (f h)) (hg : ∀ h, Safe c M (g h)) : Safe c M (dite b f g) := by
  split
  · exact hf _
  · exact hg _

theorem safe_lookup : Safe (F := F) c (mems arg2 arg3 arg4 arg5 arg6 arg7 arg8 arg9 arg10 arg11 arg12 arg13) (cc0_lookup (F := F) i arg2 harg2 arg3 harg3 arg4 harg4 arg5 harg5 arg6 harg6 arg7 harg7 arg8 harg8 arg9 harg9 arg10 harg10 arg11 harg11 arg12 harg12 arg13 harg13) := by
  rw [cc0_lookup_eq_skeleton]; unfold cc0_lookup_skel
  have tail : ∀ arg0 arg1 v0 v1, Safe (F := F) c (mems arg2 arg3 arg4 arg5 arg6 arg7 arg8 arg9 arg10 arg11 arg12 arg13) (do
      Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg0 arg1 v0 v1)
      Pure.pure PUnit.unit) := fun arg0 arg1 v0 v1 => Safe.bind (F := F) (fun s =>
    (Tr.loop (B := fam) _ _ _ _ (fun _ _ => True) trivial fun k acc s' _ => safe_body (F := F) c i arg2 harg2 arg3 harg3 arg4 harg4 arg5 harg5 arg6 harg6 arg7 harg7 arg8 harg8 arg9 harg9 arg10 harg10 arg11 harg11 arg12 harg12 arg13 harg13 _ _ _ _ k acc s').mono
      fun _ _ _ => trivial) fun _ => Safe.pure
  exact Safe.dite (F := F) (fun _ => L8 (F := F) fun _ => S8 fun _ => Safe.dite (F := F) (fun _ => L7 (F := F) fun _ => S7 fun _ =>
      tail _ _ _ _) fun _ => tail _ _ _ _)
    fun _ => Safe.dite (F := F) (fun _ => L7 (F := F) fun _ => S7 fun _ => tail _ _ _ _) fun _ => tail _ _ _ _

end Body

/-! ## The proof data and the body obligation -/

variable (m : (ℓ : Loc nD τ sig) → Buf (Elt F) ℓ) (ρ : Dev nD → PrngReg)

theorem bigSep12 {M : Type} [URA M] (Φ : Fin 12 → sProp M) : bigSep Finset.univ Φ = iprop(Φ 0 ∗ Φ 1 ∗ Φ 2 ∗ Φ 3 ∗ Φ 4 ∗ Φ 5
    ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- A run of the family's program, from the twelve buffers apart and back, for any continuation. -/
theorem out12 {c : Dev nD} {M : Mems sig fam} {s : St (Elt F) fam} {p : Prog (TpuEff nD τ sig (Elt F) Λ₀ .tc) PUnit}
    {Q : PUnit → St (Elt F) fam → Prop} (h : Tr (defs₀ (F := F)) c M s p Q) (K : PUnit → sProp 𝕄) :
    iprop((owns (c : Thread nD τ) (M 0) fullShare (s 0) ∗ owns (c : Thread nD τ) (M 1) fullShare (s 1) ∗ owns (c : Thread nD τ) (M 2) fullShare (s 2) ∗ owns (c : Thread nD τ) (M 3) fullShare (s 3) ∗ owns (c : Thread nD τ) (M 4) fullShare (s 4) ∗ owns (c : Thread nD τ) (M 5) fullShare (s 5) ∗ owns (c : Thread nD τ) (M 6) fullShare (s 6) ∗ owns (c : Thread nD τ) (M 7) fullShare (s 7) ∗ owns (c : Thread nD τ) (M 8) fullShare (s 8) ∗ owns (c : Thread nD τ) (M 9) fullShare (s 9) ∗ owns (c : Thread nD τ) (M 10) fullShare (s 10) ∗ owns (c : Thread nD τ) (M 11) fullShare (s 11)) ∗ (∀ s' : St (Elt F) fam, ⌜Q ⟨⟩ s'⌝ -∗ (owns (c : Thread nD τ) (M 0) fullShare (s' 0) ∗ owns (c : Thread nD τ) (M 1) fullShare (s' 1) ∗ owns (c : Thread nD τ) (M 2) fullShare (s' 2) ∗ owns (c : Thread nD τ) (M 3) fullShare (s' 3) ∗ owns (c : Thread nD τ) (M 4) fullShare (s' 4) ∗ owns (c : Thread nD τ) (M 5) fullShare (s' 5) ∗ owns (c : Thread nD τ) (M 6) fullShare (s' 6) ∗ owns (c : Thread nD τ) (M 7) fullShare (s' 7) ∗ owns (c : Thread nD τ) (M 8) fullShare (s' 8) ∗ owns (c : Thread nD τ) (M 9) fullShare (s' 9) ∗ owns (c : Thread nD τ) (M 10) fullShare (s' 10) ∗ owns (c : Thread nD τ) (M 11) fullShare (s' 11)) -∗ K ⟨⟩))
      ⊢ wp frame (wpE (defs₀ (F := F)) Variants.none c none) Set.univ p K := by
  have h := h.out
  unfold Own at h
  simp only [bigSep12] at h
  refine (sep_mono h .rfl).trans ((sep_mono .rfl ?_).trans (wp_wand_r frame _ _))
  iintro H %a ⟨%s', %hQ, HO⟩
  iapply H
  · ipureintro; exact hQ
  · iexact HO

/-- Nothing is said of what the body leaves in any window. -/
def forgets0 : Fin 8 → Bool := fun _ => true

/-- The proof data on core `c`: the arrays as the region finds them, what the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The memrefs of point `t`, as the family. -/
abbrev memsAt (t : Fin cfg0.N) : Mems sig fam :=
  mems (st0_0 t) (st0_1 t) (st0_2 t) (st0_3 t) (st0_4 t) (st0_5 t) (st0_6 t) (st0_7 t) (Memref.whole cc0_scratch0) (Memref.whole cc0_scratch1) (Memref.whole cc0_scratch2) (Memref.whole cc0_scratch3)

/-- The eight windows of point `t`, each at some contents. -/
def wins (c : Dev nD) (t : Fin cfg0.N) : sProp 𝕄 :=
  iprop((∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d))

def bodyPre (c : Dev nD) (t : Fin cfg0.N) : sProp 𝕄 :=
  iprop((dats m 0 c).Φ t.castSucc ∗ (dats m 0 c).owesAt () t.castSucc ∗ wins (F := F) c t)
def bodyPost (c : Dev nD) (t : Fin cfg0.N) : sProp 𝕄 :=
  iprop((dats m 0 c).Φ t.succ ∗ (dats m 0 c).owesAt () t.succ ∗ wins (F := F) c t)

/-- The body at a point, from and to some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA wins
  rw [scopedRest0_eq]
  iintro ⟨⟨⟨⟨%e8, H8⟩, ⟨%e9, H9⟩, ⟨%e10, H10⟩, ⟨%e11, H11⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (out12 (safe_lookup (F := F) c (grid0.coords t) (st0_0 t) _ (st0_1 t) _ (st0_2 t) _ (st0_3 t) _ (st0_4 t) _ (st0_5 t) _
    (st0_6 t) _ (st0_7 t) _ (Memref.whole cc0_scratch0) _ (Memref.whole cc0_scratch1) _ (Memref.whole cc0_scratch2) _
    (Memref.whole cc0_scratch3) _
    (fun | 0 => d0 | 1 => d1 | 2 => d2 | 3 => d3 | 4 => d4 | 5 => d5 | 6 => d6 | 7 => d7 | 8 => e8 | 9 => e9 | 10 => e10 | 11 => e11)) _)
  isplitl [H0 H1 H2 H3 H4 H5 H6 H7 H8 H9 H10 H11]
  · simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %s' - ⟨H0, H1, H2, H3, H4, H5, H6, H7, H8, H9, H10, H11⟩
  simp only [owns_whole]
  isplitl [H8 H9 H10 H11 Hg]
  · isplitl [H8 H9 H10 H11]
    · isplitl [H8]; · iexists _; iexact H8
      isplitl [H9]; · iexists _; iexact H9
      isplitl [H10]; · iexists _; iexact H10
      iexists _; iexact H11
    · iexact Hg
  isplitl [HO]; · iexact HO
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the lines after the call write. -/
def T0 : Finset (Ref sig .tc) := {main_v7}

set_option backward.isDefEq.respectTransparency.types false in
/-- Every execution of @main terminates with the arrays' bystanders as launched and every counter at zero. -/
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      rcases hop with rfl
      all_goals
        simp only [StableHlo.nullary_writes, StableHlo.unary_writes, StableHlo.binary_writes, StableHlo.ternary_writes,
          StableHlo.reshape_writes, Finset.mem_singleton] at hb
        rw [Proc.devRef_injective _ hb]; decide)
    (hmain := hmain m Variants.none) (hA := A_eq m) (hΦ := fun _ _ => rfl)

/-- The frame: the arguments keep what they held, every counter is zero. -/
theorem quiescent : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5)) ∧ r.2.sem = fun _ => 0) :=
  (θ_run defs _ _).mono (fun r h => ⟨fun c => ⟨
    ((h.1 c).2 main_arg0 (by decide)).trans (V_main_arg0 m c),
    ((h.1 c).2 main_arg1 (by decide)).trans (V_main_arg1 m c),
    ((h.1 c).2 main_arg2 (by decide)).trans (V_main_arg2 m c),
    ((h.1 c).2 main_arg3 (by decide)).trans (V_main_arg3 m c),
    ((h.1 c).2 main_arg4 (by decide)).trans (V_main_arg4 m c),
    ((h.1 c).2 main_arg5 (by decide)).trans (V_main_arg5 m c)⟩, h.2⟩) (run_main m ρ)

end Cert.Kernel.Hand

end
-- ==== Proof.ISafe.lean ====
/-
  The frame of `KernelIdeal`: every load and store of the kernel's body goes through one of the twelve buffers it is called
  with, so the body runs from any contents to some contents (`Safe`), part by part as the program is printed.
-/
module

public import proofs.«01_k».proof.Proof.Gen.KernelIdeal.Skeleton
public import proofs.«01_k».proof.Proof.Gen.KernelIdeal.Frame
public import proofs.«01_k».proof.Proof.Triple

@[expose] public section

set_option maxRecDepth 16384

noncomputable section

namespace Cert.KernelIdeal.Hand

open Cert.KernelIdeal Cert.KernelIdeal.Gen Cert.Triple
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

/-- The twelve buffers the body is called with: six input windows, two output windows, four scratch buffers. -/
abbrev fam : Fam 12 where
  sh := fun
      | 0 => S1x48x64x1024 | 1 => S1x24x32x1024 | 2 => S1x12x16x1024 | 3 => S1x6x8x1024 | 4 => S1x4x1024 | 5 => S1x2x1024
      | 6 => S1x324x1024 | 7 => S8x3072 | 8 => S1152x128 | 9 => S40x8x128 | 10 => S960x128 | 11 => S648x128
  el := fun
      | 0 => .i8 | 1 => .i8 | 2 => .i8 | 3 => .i8 | 4 => .f32 | 5 => .f32 | 6 => .i8 | 7 => .f32 | 8 => .i32 | 9 => .i32
      | 10 => .f32 | 11 => .f32

/-- They, as a family. -/
abbrev mems (arg2 : Memref sig .tc .vmem S1x48x64x1024 .i8) (arg3 : Memref sig .tc .vmem S1x24x32x1024 .i8) (arg4 : Memref sig .tc .vmem S1x12x16x1024 .i8) (arg5 : Memref sig .tc .vmem S1x6x8x1024 .i8) (arg6 : Memref sig .tc .vmem S1x4x1024 .f32) (arg7 : Memref sig .tc .vmem S1x2x1024 .f32) (arg8 : Memref sig .tc .vmem S1x324x1024 .i8) (arg9 : Memref sig .tc .vmem S8x3072 .f32) (arg10 : Memref sig .tc .vmem S1152x128 .i32) (arg11 : Memref sig .tc .vmem S40x8x128 .i32) (arg12 : Memref sig .tc .vmem S960x128 .f32) (arg13 : Memref sig .tc .vmem S648x128 .f32) : Mems sig fam :=
  fun
    | 0 => arg2 | 1 => arg3 | 2 => arg4 | 3 => arg5 | 4 => arg6 | 5 => arg7 | 6 => arg8 | 7 => arg9 | 8 => arg10 | 9 => arg11
    | 10 => arg12 | 11 => arg13

/-- The program runs from any contents of the buffers. -/
def Safe (c : Dev nD) (M : Mems sig fam) {α : Type} (p : Prog (TpuEff nD τ sig (Elt F) Λ₀ .tc) α) : Prop :=
  ∀ s, Tr (defs₀ (F := F)) c M s p fun _ _ => True

section Rules

variable {c : Dev nD} {M : Mems sig fam} {α β γ : Type}

theorem Safe.pure {a : α} : Safe (F := F) c M (Pure.pure a) := fun _ => Tr.ret trivial

theorem Safe.bind {p : Prog (TpuEff nD τ sig (Elt F) Λ₀ .tc) α} {k : α → Prog (TpuEff nD τ sig (Elt F) Λ₀ .tc) β}
    (hp : Safe c M p) (hk : ∀ a, Safe c M (k a)) : Safe c M (p >>= k) :=
  fun s => Tr.bind (hp s) fun a s' _ => hk a s'

theorem Safe.load (i : Fin 12) {r : LoadRect (fam.sh i)} {hl : (M i).view.LoadsAt r} :
    Safe (F := F) c M (Prog.lift (.load (M i) r hl)) := fun _ => Tr.load i (Tr.ret trivial)

theorem Safe.store (i : Fin 12) {r : Rect (fam.sh i)} {w : r.shape.Idx → Elt F (fam.el i)} {hx : ((M i).access r).Stores Finset.univ}
    {hm : (Finset.univ : Finset r.shape.Idx) = Finset.univ ∨ ∀ a, r.stride a = 1} :
    Safe (F := F) c M (Prog.lift (.store (M i) r w Finset.univ hx hm)) := fun _ => Tr.store i (Tr.ret trivial)

theorem L0 {r : LoadRect (fam.sh 0)} {k : (r.shape.Idx → Elt F (fam.el 0)) → Prog (TpuEff nD τ sig (Elt F) Λ₀ .tc) β} {hl : (M 0).view.LoadsAt r}
    (h : ∀ a, Safe c M (k a)) : Safe c M (Prog.lift (.load (M 0) r hl) >>= k) := .bind (.load 0) h

theorem L1 {r : LoadRect (fam.sh 1)} {k : (r.shape.Idx → Elt F (fam.el 1)) → Prog (TpuEff nD τ sig (Elt F) Λ₀ .tc) β} {hl : (M 1).view.LoadsAt r}
    (h : ∀ a, Safe c M (k a)) : Safe c M (Prog.lift (.load (M 1) r hl) >>= k) := .bind (.load 1) h

theorem L2 {r : LoadRect (fam.sh 2)} {k : (r.shape.Idx → Elt F (fam.el 2)) → Prog (TpuEff nD τ sig (Elt F) Λ₀ .tc) β} {hl : (M 2).view.LoadsAt r}
    (h : ∀ a, Safe c M (k a)) : Safe c M (Prog.lift (.load (M 2) r hl) >>= k) := .bind (.load 2) h

theorem L3 {r : LoadRect (fam.sh 3)} {k : (r.shape.Idx → Elt F (fam.el 3)) → Prog (TpuEff nD τ sig (Elt F) Λ₀ .tc) β} {hl : (M 3).view.LoadsAt r}
    (h : ∀ a, Safe c M (k a)) : Safe c M (Prog.lift (.load (M 3) r hl) >>= k) := .bind (.load 3) h

theorem L4 {r : LoadRect (fam.sh 4)} {k : (r.shape.Idx → Elt F (fam.el 4)) → Prog (TpuEff nD τ sig (Elt F) Λ₀ .tc) β} {hl : (M 4).view.LoadsAt r}
    (h : ∀ a, Safe c M (k a)) : Safe c M (Prog.lift (.load (M 4) r hl) >>= k) := .bind (.load 4) h

theorem L5 {r : LoadRect (fam.sh 5)} {k : (r.shape.Idx → Elt F (fam.el 5)) → Prog (TpuEff nD τ sig (Elt F) Λ₀ .tc) β} {hl : (M 5).view.LoadsAt r}
    (h : ∀ a, Safe c M (k a)) : Safe c M (Prog.lift (.load (M 5) r hl) >>= k) := .bind (.load 5) h

theorem L6 {r : LoadRect (fam.sh 6)} {k : (r.shape.Idx → Elt F (fam.el 6)) → Prog (TpuEff nD τ sig (Elt F) Λ₀ .tc) β} {hl : (M 6).view.LoadsAt r}
    (h : ∀ a, Safe c M (k a)) : Safe c M (Prog.lift (.load (M 6) r hl) >>= k) := .bind (.load 6) h

theorem S6 {k : PUnit → Prog (TpuEff nD τ sig (Elt F) Λ₀ .tc) β} {r : Rect (fam.sh 6)} {w : r.shape.Idx → Elt F (fam.el 6)}
    {hx : ((M 6).access r).Stores Finset.univ} {hm : (Finset.univ : Finset r.shape.Idx) = Finset.univ ∨ ∀ a, r.stride a = 1}
    (h : ∀ a, Safe c M (k a)) : Safe c M (Prog.lift (.store (M 6) r w Finset.univ hx hm) >>= k) := .bind (.store 6) h

theorem L7 {r : LoadRect (fam.sh 7)} {k : (r.shape.Idx → Elt F (fam.el 7)) → Prog (TpuEff nD τ sig (Elt F) Λ₀ .tc) β} {hl : (M 7).view.LoadsAt r}
    (h : ∀ a, Safe c M (k a)) : Safe c M (Prog.lift (.load (M 7) r hl) >>= k) := .bind (.load 7) h

theorem S7 {k : PUnit → Prog (TpuEff nD τ sig (Elt F) Λ₀ .tc) β} {r : Rect (fam.sh 7)} {w : r.shape.Idx → Elt F (fam.el 7)}
    {hx : ((M 7).access r).Stores Finset.univ} {hm : (Finset.univ : Finset r.shape.Idx) = Finset.univ ∨ ∀ a, r.stride a = 1}
    (h : ∀ a, Safe c M (k a)) : Safe c M (Prog.lift (.store (M 7) r w Finset.univ hx hm) >>= k) := .bind (.store 7) h

theorem L8 {r : LoadRect (fam.sh 8)} {k : (r.shape.Idx → Elt F (fam.el 8)) → Prog (TpuEff nD τ sig (Elt F) Λ₀ .tc) β} {hl : (M 8).view.LoadsAt r}
    (h : ∀ a, Safe c M (k a)) : Safe c M (Prog.lift (.load (M 8) r hl) >>= k) := .bind (.load 8) h

theorem S8 {k : PUnit → Prog (TpuEff nD τ sig (Elt F) Λ₀ .tc) β} {r : Rect (fam.sh 8)} {w : r.shape.Idx → Elt F (fam.el 8)}
    {hx : ((M 8).access r).Stores Finset.univ} {hm : (Finset.univ : Finset r.shape.Idx) = Finset.univ ∨ ∀ a, r.stride a = 1}
    (h : ∀ a, Safe c M (k a)) : Safe c M (Prog.lift (.store (M 8) r w Finset.univ hx hm) >>= k) := .bind (.store 8) h

theorem L9 {r : LoadRect (fam.sh 9)} {k : (r.shape.Idx → Elt F (fam.el 9)) → Prog (TpuEff nD τ sig (Elt F) Λ₀ .tc) β} {hl : (M 9).view.LoadsAt r}
    (h : ∀ a, Safe c M (k a)) : Safe c M (Prog.lift (.load (M 9) r hl) >>= k) := .bind (.load 9) h

theorem S9 {k : PUnit → Prog (TpuEff nD τ sig (Elt F) Λ₀ .tc) β} {r : Rect (fam.sh 9)} {w : r.shape.Idx → Elt F (fam.el 9)}
    {hx : ((M 9).access r).Stores Finset.univ} {hm : (Finset.univ : Finset r.shape.Idx) = Finset.univ ∨ ∀ a, r.stride a = 1}
    (h : ∀ a, Safe c M (k a)) : Safe c M (Prog.lift (.store (M 9) r w Finset.univ hx hm) >>= k) := .bind (.store 9) h

theorem L10 {r : LoadRect (fam.sh 10)} {k : (r.shape.Idx → Elt F (fam.el 10)) → Prog (TpuEff nD τ sig (Elt F) Λ₀ .tc) β} {hl : (M 10).view.LoadsAt r}
    (h : ∀ a, Safe c M (k a)) : Safe c M (Prog.lift (.load (M 10) r hl) >>= k) := .bind (.load 10) h

theorem S10 {k : PUnit → Prog (TpuEff nD τ sig (Elt F) Λ₀ .tc) β} {r : Rect (fam.sh 10)} {w : r.shape.Idx → Elt F (fam.el 10)}
    {hx : ((M 10).access r).Stores Finset.univ} {hm : (Finset.univ : Finset r.shape.Idx) = Finset.univ ∨ ∀ a, r.stride a = 1}
    (h : ∀ a, Safe c M (k a)) : Safe c M (Prog.lift (.store (M 10) r w Finset.univ hx hm) >>= k) := .bind (.store 10) h

theorem L11 {r : LoadRect (fam.sh 11)} {k : (r.shape.Idx → Elt F (fam.el 11)) → Prog (TpuEff nD τ sig (Elt F) Λ₀ .tc) β} {hl : (M 11).view.LoadsAt r}
    (h : ∀ a, Safe c M (k a)) : Safe c M (Prog.lift (.load (M 11) r hl) >>= k) := .bind (.load 11) h

theorem S11 {k : PUnit → Prog (TpuEff nD τ sig (Elt F) Λ₀ .tc) β} {r : Rect (fam.sh 11)} {w : r.shape.Idx → Elt F (fam.el 11)}
    {hx : ((M 11).access r).Stores Finset.univ} {hm : (Finset.univ : Finset r.shape.Idx) = Finset.univ ∨ ∀ a, r.stride a = 1}
    (h : ∀ a, Safe c M (k a)) : Safe c M (Prog.lift (.store (M 11) r w Finset.univ hx hm) >>= k) := .bind (.store 11) h

end Rules

variable (c : Dev nD) (i : grid0.Coords) (arg2 : Memref sig .tc .vmem S1x48x64x1024 .i8) (harg2 : arg2.IsWhole) (arg3 : Memref sig .tc .vmem S1x24x32x1024 .i8) (harg3 : arg3.IsWhole) (arg4 : Memref sig .tc .vmem S1x12x16x1024 .i8) (harg4 : arg4.IsWhole) (arg5 : Memref sig .tc .vmem S1x6x8x1024 .i8) (harg5 : arg5.IsWhole) (arg6 : Memref sig .tc .vmem S1x4x1024 .f32) (harg6 : arg6.IsWhole) (arg7 : Memref sig .tc .vmem S1x2x1024 .f32) (harg7 : arg7.IsWhole) (arg8 : Memref sig .tc .vmem S1x324x1024 .i8) (harg8 : arg8.IsWhole) (arg9 : Memref sig .tc .vmem S8x3072 .f32) (harg9 : arg9.IsWhole) (arg10 : Memref sig .tc .vmem S1152x128 .i32) (harg10 : arg10.IsWhole) (arg11 : Memref sig .tc .vmem S40x8x128 .i32) (harg11 : arg11.IsWhole) (arg12 : Memref sig .tc .vmem S960x128 .f32) (harg12 : arg12.IsWhole) (arg13 : Memref sig .tc .vmem S648x128 .f32) (harg13 : arg13.IsWhole)

theorem safe_k0_part1 (arg1 : BitVec 32) (v1 : IVec S8x128 32) (v5 : IVec S8x128 1) (c0_i32_5 : BitVec 32) (c1_i32 : BitVec 32) (k0_t1 : Fin k0_t1_loop.trips) :
    Safe (F := F) c (mems arg2 arg3 arg4 arg5 arg6 arg7 arg8 arg9 arg10 arg11 arg12 arg13) (k0_part1 (F := F) i arg2 harg2 arg3 harg3 arg4 harg4 arg5 harg5 arg6 harg6 arg7 harg7 arg8 harg8 arg9 harg9 arg10 harg10 arg11 harg11 arg12 harg12 arg13 harg13 arg1 v1 v5 c0_i32_5 c1_i32 k0_t1) := by
  rw [k0_part1_eq_skeleton]; unfold k0_part1_skel
  exact L5 fun _ => L5 fun _ => L5 fun _ => L5 fun _ => .pure

theorem safe_k0_part2 (v0 : IVec S8x128 32) (v14 : FVec F S8x128 .f32) (k0_t1 : Fin k0_t1_loop.trips) (v29 : BitVec 32) (v30 : BitVec 32) (v53 : FVec F S8x128 .f32) (v68 : FVec F S8x128 .f32) :
    Safe (F := F) c (mems arg2 arg3 arg4 arg5 arg6 arg7 arg8 arg9 arg10 arg11 arg12 arg13) (k0_part2 (F := F) i arg2 harg2 arg3 harg3 arg4 harg4 arg5 harg5 arg6 harg6 arg7 harg7 arg8 harg8 arg9 harg9 arg10 harg10 arg11 harg11 arg12 harg12 arg13 harg13 v0 v14 k0_t1 v29 v30 v53 v68) := by
  rw [k0_part2_eq_skeleton]; unfold k0_part2_skel
  exact L4 fun _ => L4 fun _ => L0 fun _ => .pure

theorem safe_k0_part3 (k0_t1 : Fin k0_t1_loop.trips) (v29 : BitVec 32) (v100 : IVec S8x128 32) (v106 : IVec S8x128 1) (v110 : IVec S8x128 32) :
    Safe (F := F) c (mems arg2 arg3 arg4 arg5 arg6 arg7 arg8 arg9 arg10 arg11 arg12 arg13) (k0_part3 (F := F) i arg2 harg2 arg3 harg3 arg4 harg4 arg5 harg5 arg6 harg6 arg7 harg7 arg8 harg8 arg9 harg9 arg10 harg10 arg11 harg11 arg12 harg12 arg13 harg13 k0_t1 v29 v100 v106 v110) := by
  rw [k0_part3_eq_skeleton]; unfold k0_part3_skel
  exact L0 fun _ => L0 fun _ => L0 fun _ => L0 fun _ => L0 fun _ => L8 fun _ => S8 fun _ => L0 fun _ => L0 fun _ => .pure

theorem safe_k0_part4 (k0_t1 : Fin k0_t1_loop.trips) (v29 : BitVec 32) (v100 : IVec S8x128 32) (v106 : IVec S8x128 1) (v146 : IVec S8x128 32) (v148 : Vec F S1x1x32x128 .i8) :
    Safe (F := F) c (mems arg2 arg3 arg4 arg5 arg6 arg7 arg8 arg9 arg10 arg11 arg12 arg13) (k0_part4 (F := F) i arg2 harg2 arg3 harg3 arg4 harg4 arg5 harg5 arg6 harg6 arg7 harg7 arg8 harg8 arg9 harg9 arg10 harg10 arg11 harg11 arg12 harg12 arg13 harg13 k0_t1 v29 v100 v106 v146 v148) := by
  rw [k0_part4_eq_skeleton]; unfold k0_part4_skel
  exact L0 fun _ => L0 fun _ => L0 fun _ => L0 fun _ => L8 fun _ => S8 fun _ => L0 fun _ => L0 fun _ => .pure

theorem safe_k0_part5 (k0_t1 : Fin k0_t1_loop.trips) (v29 : BitVec 32) (v100 : IVec S8x128 32) (v106 : IVec S8x128 1) (v182 : IVec S8x128 32) (v185 : IVec S32x128 8) :
    Safe (F := F) c (mems arg2 arg3 arg4 arg5 arg6 arg7 arg8 arg9 arg10 arg11 arg12 arg13) (k0_part5 (F := F) i arg2 harg2 arg3 harg3 arg4 harg4 arg5 harg5 arg6 harg6 arg7 harg7 arg8 harg8 arg9 harg9 arg10 harg10 arg11 harg11 arg12 harg12 arg13 harg13 k0_t1 v29 v100 v106 v182 v185) := by
  rw [k0_part5_eq_skeleton]; unfold k0_part5_skel
  exact L0 fun _ => L0 fun _ => L0 fun _ => L0 fun _ => L8 fun _ => S8 fun _ => L0 fun _ => L0 fun _ => .pure

theorem safe_k0_part6 (k0_t1 : Fin k0_t1_loop.trips) (v29 : BitVec 32) (v100 : IVec S8x128 32) (v106 : IVec S8x128 1) (v218 : IVec S8x128 32) (v222 : IVec S8x128 32) :
    Safe (F := F) c (mems arg2 arg3 arg4 arg5 arg6 arg7 arg8 arg9 arg10 arg11 arg12 arg13) (k0_part6 (F := F) i arg2 harg2 arg3 harg3 arg4 harg4 arg5 harg5 arg6 harg6 arg7 harg7 arg8 harg8 arg9 harg9 arg10 harg10 arg11 harg11 arg12 harg12 arg13 harg13 k0_t1 v29 v100 v106 v218 v222) := by
  rw [k0_part6_eq_skeleton]; unfold k0_part6_skel
  exact L0 fun _ => L0 fun _ => L0 fun _ => L0 fun _ => L8 fun _ => S8 fun _ => L0 fun _ => L0 fun _ => .pure

theorem safe_k0_part7 (k0_t1 : Fin k0_t1_loop.trips) (v29 : BitVec 32) (v100 : IVec S8x128 32) (v106 : IVec S8x128 1) (v259 : IVec S8x128 32) :
    Safe (F := F) c (mems arg2 arg3 arg4 arg5 arg6 arg7 arg8 arg9 arg10 arg11 arg12 arg13) (k0_part7 (F := F) i arg2 harg2 arg3 harg3 arg4 harg4 arg5 harg5 arg6 harg6 arg7 harg7 arg8 harg8 arg9 harg9 arg10 harg10 arg11 harg11 arg12 harg12 arg13 harg13 k0_t1 v29 v100 v106 v259) := by
  rw [k0_part7_eq_skeleton]; unfold k0_part7_skel
  exact L0 fun _ => L0 fun _ => L0 fun _ => L0 fun _ => L8 fun _ => S8 fun _ => L0 fun _ => L0 fun _ => .pure

theorem safe_k0_part8 (k0_t1 : Fin k0_t1_loop.trips) (v29 : BitVec 32) (v100 : IVec S8x128 32) (v106 : IVec S8x128 1) (v295 : IVec S8x128 32) :
    Safe (F := F) c (mems arg2 arg3 arg4 arg5 arg6 arg7 arg8 arg9 arg10 arg11 arg12 arg13) (k0_part8 (F := F) i arg2 harg2 arg3 harg3 arg4 harg4 arg5 harg5 arg6 harg6 arg7 harg7 arg8 harg8 arg9 harg9 arg10 harg10 arg11 harg11 arg12 harg12 arg13 harg13 k0_t1 v29 v100 v106 v295) := by
  rw [k0_part8_eq_skeleton]; unfold k0_part8_skel
  exact L0 fun _ => L0 fun _ => L0 fun _ => L0 fun _ => L8 fun _ => S8 fun _ => L0 fun _ => L0 fun _ => .pure

theorem safe_k0_part9 (k0_t1 : Fin k0_t1_loop.trips) (v29 : BitVec 32) (v100 : IVec S8x128 32) (v106 : IVec S8x128 1) (v331 : IVec S8x128 32) :
    Safe (F := F) c (mems arg2 arg3 arg4 arg5 arg6 arg7 arg8 arg9 arg10 arg11 arg12 arg13) (k0_part9 (F := F) i arg2 harg2 arg3 harg3 arg4 harg4 arg5 harg5 arg6 harg6 arg7 harg7 arg8 harg8 arg9 harg9 arg10 harg10 arg11 harg11 arg12 harg12 arg13 harg13 k0_t1 v29 v100 v106 v331) := by
  rw [k0_part9_eq_skeleton]; unfold k0_part9_skel
  exact L0 fun _ => L0 fun _ => L0 fun _ => L0 fun _ => L8 fun _ => S8 fun _ => L0 fun _ => L0 fun _ => .pure

theorem safe_k0_part10 (k0_t1 : Fin k0_t1_loop.trips) (v29 : BitVec 32) (v100 : IVec S8x128 32) (v106 : IVec S8x128 1) (v367 : IVec S8x128 32) :
    Safe (F := F) c (mems arg2 arg3 arg4 arg5 arg6 arg7 arg8 arg9 arg10 arg11 arg12 arg13) (k0_part10 (F := F) i arg2 harg2 arg3 harg3 arg4 harg4 arg5 harg5 arg6 harg6 arg7 harg7 arg8 harg8 arg9 harg9 arg10 harg10 arg11 harg11 arg12 harg12 arg13 harg13 k0_t1 v29 v100 v106 v367) := by
  rw [k0_part10_eq_skeleton]; unfold k0_part10_skel
  exact L0 fun _ => L0 fun _ => L0 fun _ => L0 fun _ => L8 fun _ => S8 fun _ => L0 fun _ => L0 fun _ => .pure

theorem safe_k0_part11 (k0_t1 : Fin k0_t1_loop.trips) (v29 : BitVec 32) (v100 : IVec S8x128 32) (v106 : IVec S8x128 1) (v403 : IVec S8x128 32) :
    Safe (F := F) c (mems arg2 arg3 arg4 arg5 arg6 arg7 arg8 arg9 arg10 arg11 arg12 arg13) (k0_part11 (F := F) i arg2 harg2 arg3 harg3 arg4 harg4 arg5 harg5 arg6 harg6 arg7 harg7 arg8 harg8 arg9 harg9 arg10 harg10 arg11 harg11 arg12 harg12 arg13 harg13 k0_t1 v29 v100 v106 v403) := by
  rw [k0_part11_eq_skeleton]; unfold k0_part11_skel
  exact L0 fun _ => L0 fun _ => L0 fun _ => L0 fun _ => L8 fun _ => S8 fun _ => L0 fun _ => L0 fun _ => L0 fun _ => .pure

theorem safe_k0_part12 (k0_t1 : Fin k0_t1_loop.trips) (v29 : BitVec 32) (v100 : IVec S8x128 32) (v106 : IVec S8x128 1) (v439 : IVec S8x128 32) (v441 : Vec F S1x1x32x128 .i8) :
    Safe (F := F) c (mems arg2 arg3 arg4 arg5 arg6 arg7 arg8 arg9 arg10 arg11 arg12 arg13) (k0_part12 (F := F) i arg2 harg2 arg3 harg3 arg4 harg4 arg5 harg5 arg6 harg6 arg7 harg7 arg8 harg8 arg9 harg9 arg10 harg10 arg11 harg11 arg12 harg12 arg13 harg13 k0_t1 v29 v100 v106 v439 v441) := by
  rw [k0_part12_eq_skeleton]; unfold k0_part12_skel
  exact L0 fun _ => L0 fun _ => L0 fun _ => L8 fun _ => S8 fun _ => L0 fun _ => L0 fun _ => L0 fun _ => .pure

theorem safe_k0_part13 (k0_t1 : Fin k0_t1_loop.trips) (v29 : BitVec 32) (v100 : IVec S8x128 32) (v106 : IVec S8x128 1) (v475 : IVec S8x128 32) (v478 : IVec S32x128 8) :
    Safe (F := F) c (mems arg2 arg3 arg4 arg5 arg6 arg7 arg8 arg9 arg10 arg11 arg12 arg13) (k0_part13 (F := F) i arg2 harg2 arg3 harg3 arg4 harg4 arg5 harg5 arg6 harg6 arg7 harg7 arg8 harg8 arg9 harg9 arg10 harg10 arg11 harg11 arg12 harg12 arg13 harg13 k0_t1 v29 v100 v106 v475 v478) := by
  rw [k0_part13_eq_skeleton]; unfold k0_part13_skel
  exact L0 fun _ => L0 fun _ => L0 fun _ => L8 fun _ => S8 fun _ => L0 fun _ => L0 fun _ => L0 fun _ => .pure

theorem safe_k0_part14 (k0_t1 : Fin k0_t1_loop.trips) (v29 : BitVec 32) (v100 : IVec S8x128 32) (v106 : IVec S8x128 1) (v511 : IVec S8x128 32) (v515 : IVec S8x128 32) :
    Safe (F := F) c (mems arg2 arg3 arg4 arg5 arg6 arg7 arg8 arg9 arg10 arg11 arg12 arg13) (k0_part14 (F := F) i arg2 harg2 arg3 harg3 arg4 harg4 arg5 harg5 arg6 harg6 arg7 harg7 arg8 harg8 arg9 harg9 arg10 harg10 arg11 harg11 arg12 harg12 arg13 harg13 k0_t1 v29 v100 v106 v511 v515) := by
  rw [k0_part14_eq_skeleton]; unfold k0_part14_skel
  exact L0 fun _ => L0 fun _ => L0 fun _ => L8 fun _ => S8 fun _ => L0 fun _ => L0 fun _ => L0 fun _ => .pure

theorem safe_k0_part15 (k0_t1 : Fin k0_t1_loop.trips) (v29 : BitVec 32) (v100 : IVec S8x128 32) (v106 : IVec S8x128 1) (v547 : IVec S8x128 32) (v551 : IVec S8x128 32) :
    Safe (F := F) c (mems arg2 arg3 arg4 arg5 arg6 arg7 arg8 arg9 arg10 arg11 arg12 arg13) (k0_part15 (F := F) i arg2 harg2 arg3 harg3 arg4 harg4 arg5 harg5 arg6 harg6 arg7 harg7 arg8 harg8 arg9 harg9 arg10 harg10 arg11 harg11 arg12 harg12 arg13 harg13 k0_t1 v29 v100 v106 v547 v551) := by
  rw [k0_part15_eq_skeleton]; unfold k0_part15_skel
  exact L0 fun _ => L0 fun _ => L0 fun _ => L8 fun _ => S8 fun _ => L0 fun _ => L0 fun _ => L0 fun _ => .pure

theorem safe_k0_part16 (k0_t1 : Fin k0_t1_loop.trips) (v29 : BitVec 32) (v100 : IVec S8x128 32) (v106 : IVec S8x128 1) (v583 : IVec S8x128 32) (v587 : IVec S8x128 32) :
    Safe (F := F) c (mems arg2 arg3 arg4 arg5 arg6 arg7 arg8 arg9 arg10 arg11 arg12 arg13) (k0_part16 (F := F) i arg2 harg2 arg3 harg3 arg4 harg4 arg5 harg5 arg6 harg6 arg7 harg7 arg8 harg8 arg9 harg9 arg10 harg10 arg11 harg11 arg12 harg12 arg13 harg13 k0_t1 v29 v100 v106 v583 v587) := by
  rw [k0_part16_eq_skeleton]; unfold k0_part16_skel
  exact L0 fun _ => L0 fun _ => L0 fun _ => L8 fun _ => S8 fun _ => L0 fun _ => L0 fun _ => L0 fun _ => .pure

theorem safe_k0_part17 (k0_t1 : Fin k0_t1_loop.trips) (v29 : BitVec 32) (v100 : IVec S8x128 32) (v106 : IVec S8x128 1) (v619 : IVec S8x128 32) (v623 : IVec S8x128 32) :
    Safe (F := F) c (mems arg2 arg3 arg4 arg5 arg6 arg7 arg8 arg9 arg10 arg11 arg12 arg13) (k0_part17 (F := F) i arg2 harg2 arg3 harg3 arg4 harg4 arg5 harg5 arg6 harg6 arg7 harg7 arg8 harg8 arg9 harg9 arg10 harg10 arg11 harg11 arg12 harg12 arg13 harg13 k0_t1 v29 v100 v106 v619 v623) := by
  rw [k0_part17_eq_skeleton]; unfold k0_part17_skel
  exact L0 fun _ => L0 fun _ => L0 fun _ => L8 fun _ => S8 fun _ => L0 fun _ => L0 fun _ => L0 fun _ => .pure

theorem safe_k0_part18 (k0_t1 : Fin k0_t1_loop.trips) (v29 : BitVec 32) (v95 : IVec S8x128 32) (v100 : IVec S8x128 32) (v106 : IVec S8x128 1) (v655 : IVec S8x128 32) (v659 : IVec S8x128 32) :
    Safe (F := F) c (mems arg2 arg3 arg4 arg5 arg6 arg7 arg8 arg9 arg10 arg11 arg12 arg13) (k0_part18 (F := F) i arg2 harg2 arg3 harg3 arg4 harg4 arg5 harg5 arg6 harg6 arg7 harg7 arg8 harg8 arg9 harg9 arg10 harg10 arg11 harg11 arg12 harg12 arg13 harg13 k0_t1 v29 v95 v100 v106 v655 v659) := by
  rw [k0_part18_eq_skeleton]; unfold k0_part18_skel
  exact L0 fun _ => L0 fun _ => L0 fun _ => L8 fun _ => S8 fun _ => L1 fun _ => L1 fun _ => L8 fun _ => S8 fun _ => .pure

theorem safe_k0_part19 (k0_t1 : Fin k0_t1_loop.trips) (v29 : BitVec 32) (v685 : IVec S8x128 32) :
    Safe (F := F) c (mems arg2 arg3 arg4 arg5 arg6 arg7 arg8 arg9 arg10 arg11 arg12 arg13) (k0_part19 (F := F) i arg2 harg2 arg3 harg3 arg4 harg4 arg5 harg5 arg6 harg6 arg7 harg7 arg8 harg8 arg9 harg9 arg10 harg10 arg11 harg11 arg12 harg12 arg13 harg13 k0_t1 v29 v685) := by
  rw [k0_part19_eq_skeleton]; unfold k0_part19_skel
  exact L1 fun _ => L1 fun _ => L8 fun _ => S8 fun _ => L1 fun _ => L1 fun _ => L8 fun _ => S8 fun _ => L1 fun _ => .pure

theorem safe_k0_part20 (k0_t1 : Fin k0_t1_loop.trips) (v29 : BitVec 32) (v685 : IVec S8x128 32) (v731 : IVec S8x128 32) (v733 : IVec S8x128 1) :
    Safe (F := F) c (mems arg2 arg3 arg4 arg5 arg6 arg7 arg8 arg9 arg10 arg11 arg12 arg13) (k0_part20 (F := F) i arg2 harg2 arg3 harg3 arg4 harg4 arg5 harg5 arg6 harg6 arg7 harg7 arg8 harg8 arg9 harg9 arg10 harg10 arg11 harg11 arg12 harg12 arg13 harg13 k0_t1 v29 v685 v731 v733) := by
  rw [k0_part20_eq_skeleton]; unfold k0_part20_skel
  exact L1 fun _ => L8 fun _ => S8 fun _ => L1 fun _ => L1 fun _ => L8 fun _ => S8 fun _ => L1 fun _ => L1 fun _ => L8 fun _ =>
    S8 fun _ => .pure

theorem safe_k0_part21 (k0_t1 : Fin k0_t1_loop.trips) (v29 : BitVec 32) (v685 : IVec S8x128 32) :
    Safe (F := F) c (mems arg2 arg3 arg4 arg5 arg6 arg7 arg8 arg9 arg10 arg11 arg12 arg13) (k0_part21 (F := F) i arg2 harg2 arg3 harg3 arg4 harg4 arg5 harg5 arg6 harg6 arg7 harg7 arg8 harg8 arg9 harg9 arg10 harg10 arg11 harg11 arg12 harg12 arg13 harg13 k0_t1 v29 v685) := by
  rw [k0_part21_eq_skeleton]; unfold k0_part21_skel
  exact L1 fun _ => L1 fun _ => L8 fun _ => S8 fun _ => L1 fun _ => L1 fun _ => L8 fun _ => S8 fun _ => L1 fun _ => L8 fun _ =>
    .pure

theorem safe_k0_part22 (k0_t1 : Fin k0_t1_loop.trips) (v29 : BitVec 32) (v804 : IVec S8x128 32) :
    Safe (F := F) c (mems arg2 arg3 arg4 arg5 arg6 arg7 arg8 arg9 arg10 arg11 arg12 arg13) (k0_part22 (F := F) i arg2 harg2 arg3 harg3 arg4 harg4 arg5 harg5 arg6 harg6 arg7 harg7 arg8 harg8 arg9 harg9 arg10 harg10 arg11 harg11 arg12 harg12 arg13 harg13 k0_t1 v29 v804) := by
  rw [k0_part22_eq_skeleton]; unfold k0_part22_skel
  exact S8 fun _ => L1 fun _ => L8 fun _ => S8 fun _ => L1 fun _ => L8 fun _ => S8 fun _ => L1 fun _ => L8 fun _ => S8 fun _ =>
    L1 fun _ => L8 fun _ => S8 fun _ => L1 fun _ => .pure

theorem safe_k0_part23 (k0_t1 : Fin k0_t1_loop.trips) (v29 : BitVec 32) (v836 : IVec S8x128 32) :
    Safe (F := F) c (mems arg2 arg3 arg4 arg5 arg6 arg7 arg8 arg9 arg10 arg11 arg12 arg13) (k0_part23 (F := F) i arg2 harg2 arg3 harg3 arg4 harg4 arg5 harg5 arg6 harg6 arg7 harg7 arg8 harg8 arg9 harg9 arg10 harg10 arg11 harg11 arg12 harg12 arg13 harg13 k0_t1 v29 v836) := by
  rw [k0_part23_eq_skeleton]; unfold k0_part23_skel
  exact L8 fun _ => S8 fun _ => L1 fun _ => L8 fun _ => S8 fun _ => L1 fun _ => L8 fun _ => S8 fun _ => L2 fun _ => L8 fun _ =>
    S8 fun _ => L2 fun _ => L8 fun _ => S8 fun _ => .pure

theorem safe_k0_part24 (k0_t1 : Fin k0_t1_loop.trips) (v29 : BitVec 32) :
    Safe (F := F) c (mems arg2 arg3 arg4 arg5 arg6 arg7 arg8 arg9 arg10 arg11 arg12 arg13) (k0_part24 (F := F) i arg2 harg2 arg3 harg3 arg4 harg4 arg5 harg5 arg6 harg6 arg7 harg7 arg8 harg8 arg9 harg9 arg10 harg10 arg11 harg11 arg12 harg12 arg13 harg13 k0_t1 v29) := by
  rw [k0_part24_eq_skeleton]; unfold k0_part24_skel
  exact L2 fun _ => L8 fun _ => S8 fun _ => L2 fun _ => L8 fun _ => S8 fun _ => L2 fun _ => L8 fun _ => S8 fun _ => L2 fun _ =>
    L8 fun _ => S8 fun _ => L2 fun _ => L8 fun _ => .pure

theorem safe_k0_part25 (k0_t1 : Fin k0_t1_loop.trips) (v29 : BitVec 32) (v899 : IVec S4x128 32) (v900 : Vec F S4x128 .i32) :
    Safe (F := F) c (mems arg2 arg3 arg4 arg5 arg6 arg7 arg8 arg9 arg10 arg11 arg12 arg13) (k0_part25 (F := F) i arg2 harg2 arg3 harg3 arg4 harg4 arg5 harg5 arg6 harg6 arg7 harg7 arg8 harg8 arg9 harg9 arg10 harg10 arg11 harg11 arg12 harg12 arg13 harg13 k0_t1 v29 v899 v900) := by
  rw [k0_part25_eq_skeleton]; unfold k0_part25_skel
  exact S8 fun _ => L2 fun _ => L8 fun _ => S8 fun _ => L2 fun _ => L8 fun _ => S8 fun _ => L2 fun _ => L8 fun _ => S8 fun _ =>
    L2 fun _ => L8 fun _ => S8 fun _ => L2 fun _ => .pure

theorem safe_k0_part26 (k0_t1 : Fin k0_t1_loop.trips) (v29 : BitVec 32) (v932 : Vec F S1x1x16x128 .i8) :
    Safe (F := F) c (mems arg2 arg3 arg4 arg5 arg6 arg7 arg8 arg9 arg10 arg11 arg12 arg13) (k0_part26 (F := F) i arg2 harg2 arg3 harg3 arg4 harg4 arg5 harg5 arg6 harg6 arg7 harg7 arg8 harg8 arg9 harg9 arg10 harg10 arg11 harg11 arg12 harg12 arg13 harg13 k0_t1 v29 v932) := by
  rw [k0_part26_eq_skeleton]; unfold k0_part26_skel
  exact L8 fun _ => S8 fun _ => L3 fun _ => L8 fun _ => S8 fun _ => L3 fun _ => L8 fun _ => S8 fun _ => L3 fun _ => L8 fun _ =>
    S8 fun _ => L3 fun _ => L8 fun _ => S8 fun _ => .pure

theorem safe_k0_part27 (v0 : IVec S8x128 32) (k0_t1 : Fin k0_t1_loop.trips) (v29 : BitVec 32) (v30 : BitVec 32) (v95 : IVec S8x128 32) (v97 : IVec S8x128 32) :
    Safe (F := F) c (mems arg2 arg3 arg4 arg5 arg6 arg7 arg8 arg9 arg10 arg11 arg12 arg13) (k0_part27 (F := F) i arg2 harg2 arg3 harg3 arg4 harg4 arg5 harg5 arg6 harg6 arg7 harg7 arg8 harg8 arg9 harg9 arg10 harg10 arg11 harg11 arg12 harg12 arg13 harg13 v0 k0_t1 v29 v30 v95 v97) := by
  rw [k0_part27_eq_skeleton]; unfold k0_part27_skel
  exact L3 fun _ => L8 fun _ => S8 fun _ => L3 fun _ => L8 fun _ => S8 fun _ => L0 fun _ => L0 fun _ => L0 fun _ => .pure

theorem safe_k0_part28 (k0_t1 : Fin k0_t1_loop.trips) (v30 : BitVec 32) (v982 : IVec S8x128 32) (v988 : IVec S8x128 1) (v997 : IVec S8x128 32) (v1001 : IVec S8x128 32) :
    Safe (F := F) c (mems arg2 arg3 arg4 arg5 arg6 arg7 arg8 arg9 arg10 arg11 arg12 arg13) (k0_part28 (F := F) i arg2 harg2 arg3 harg3 arg4 harg4 arg5 harg5 arg6 harg6 arg7 harg7 arg8 harg8 arg9 harg9 arg10 harg10 arg11 harg11 arg12 harg12 arg13 harg13 k0_t1 v30 v982 v988 v997 v1001) := by
  rw [k0_part28_eq_skeleton]; unfold k0_part28_skel
  exact L0 fun _ => L0 fun _ => L0 fun _ => L8 fun _ => S8 fun _ => L0 fun _ => L0 fun _ => L0 fun _ => .pure

theorem safe_k0_part29 (k0_t1 : Fin k0_t1_loop.trips) (v30 : BitVec 32) (v982 : IVec S8x128 32) (v988 : IVec S8x128 1) (v1033 : IVec S8x128 32) (v1037 : IVec S8x128 32) :
    Safe (F := F) c (mems arg2 arg3 arg4 arg5 arg6 arg7 arg8 arg9 arg10 arg11 arg12 arg13) (k0_part29 (F := F) i arg2 harg2 arg3 harg3 arg4 harg4 arg5 harg5 arg6 harg6 arg7 harg7 arg8 harg8 arg9 harg9 arg10 harg10 arg11 harg11 arg12 harg12 arg13 harg13 k0_t1 v30 v982 v988 v1033 v1037) := by
  rw [k0_part29_eq_skeleton]; unfold k0_part29_skel
  exact L0 fun _ => L0 fun _ => L0 fun _ => L8 fun _ => S8 fun _ => L0 fun _ => L0 fun _ => L0 fun _ => .pure

theorem safe_k0_part30 (k0_t1 : Fin k0_t1_loop.trips) (v30 : BitVec 32) (v982 : IVec S8x128 32) (v988 : IVec S8x128 1) (v1069 : IVec S8x128 32) (v1073 : IVec S8x128 32) :
    Safe (F := F) c (mems arg2 arg3 arg4 arg5 arg6 arg7 arg8 arg9 arg10 arg11 arg12 arg13) (k0_part30 (F := F) i arg2 harg2 arg3 harg3 arg4 harg4 arg5 harg5 arg6 harg6 arg7 harg7 arg8 harg8 arg9 harg9 arg10 harg10 arg11 harg11 arg12 harg12 arg13 harg13 k0_t1 v30 v982 v988 v1069 v1073) := by
  rw [k0_part30_eq_skeleton]; unfold k0_part30_skel
  exact L0 fun _ => L0 fun _ => L0 fun _ => L8 fun _ => S8 fun _ => L0 fun _ => L0 fun _ => L0 fun _ => L0 fun _ => .pure

theorem safe_k0_part31 (k0_t1 : Fin k0_t1_loop.trips) (v30 : BitVec 32) (v982 : IVec S8x128 32) (v988 : IVec S8x128 1) (v1105 : IVec S8x128 32) (v1109 : IVec S8x128 32) (v1111 : Vec F S1x1x32x128 .i8) :
    Safe (F := F) c (mems arg2 arg3 arg4 arg5 arg6 arg7 arg8 arg9 arg10 arg11 arg12 arg13) (k0_part31 (F := F) i arg2 harg2 arg3 harg3 arg4 harg4 arg5 harg5 arg6 harg6 arg7 harg7 arg8 harg8 arg9 harg9 arg10 harg10 arg11 harg11 arg12 harg12 arg13 harg13 k0_t1 v30 v982 v988 v1105 v1109 v1111) := by
  rw [k0_part31_eq_skeleton]; unfold k0_part31_skel
  exact L0 fun _ => L0 fun _ => L8 fun _ => S8 fun _ => L0 fun _ => L0 fun _ => L0 fun _ => L0 fun _ => .pure

theorem safe_k0_part32 (k0_t1 : Fin k0_t1_loop.trips) (v30 : BitVec 32) (v982 : IVec S8x128 32) (v988 : IVec S8x128 1) (v1141 : IVec S8x128 32) (v1145 : IVec S8x128 32) (v1148 : IVec S32x128 8) :
    Safe (F := F) c (mems arg2 arg3 arg4 arg5 arg6 arg7 arg8 arg9 arg10 arg11 arg12 arg13) (k0_part32 (F := F) i arg2 harg2 arg3 harg3 arg4 harg4 arg5 harg5 arg6 harg6 arg7 harg7 arg8 harg8 arg9 harg9 arg10 harg10 arg11 harg11 arg12 harg12 arg13 harg13 k0_t1 v30 v982 v988 v1141 v1145 v1148) := by
  rw [k0_part32_eq_skeleton]; unfold k0_part32_skel
  exact L0 fun _ => L0 fun _ => L8 fun _ => S8 fun _ => L0 fun _ => L0 fun _ => L0 fun _ => L0 fun _ => .pure

theorem safe_k0_part33 (k0_t1 : Fin k0_t1_loop.trips) (v30 : BitVec 32) (v982 : IVec S8x128 32) (v988 : IVec S8x128 1) (v1177 : IVec S8x128 32) (v1181 : IVec S8x128 32) (v1185 : IVec S8x128 32) :
    Safe (F := F) c (mems arg2 arg3 arg4 arg5 arg6 arg7 arg8 arg9 arg10 arg11 arg12 arg13) (k0_part33 (F := F) i arg2 harg2 arg3 harg3 arg4 harg4 arg5 harg5 arg6 harg6 arg7 harg7 arg8 harg8 arg9 harg9 arg10 harg10 arg11 harg11 arg12 harg12 arg13 harg13 k0_t1 v30 v982 v988 v1177 v1181 v1185) := by
  rw [k0_part33_eq_skeleton]; unfold k0_part33_skel
  exact L0 fun _ => L0 fun _ => L8 fun _ => S8 fun _ => L0 fun _ => L0 fun _ => L0 fun _ => L0 fun _ => .pure

theorem safe_k0_part34 (k0_t1 : Fin k0_t1_loop.trips) (v30 : BitVec 32) (v982 : IVec S8x128 32) (v988 : IVec S8x128 1) (v1213 : IVec S8x128 32) (v1222 : IVec S8x128 32) :
    Safe (F := F) c (mems arg2 arg3 arg4 arg5 arg6 arg7 arg8 arg9 arg10 arg11 arg12 arg13) (k0_part34 (F := F) i arg2 harg2 arg3 harg3 arg4 harg4 arg5 harg5 arg6 harg6 arg7 harg7 arg8 harg8 arg9 harg9 arg10 harg10 arg11 harg11 arg12 harg12 arg13 harg13 k0_t1 v30 v982 v988 v1213 v1222) := by
  rw [k0_part34_eq_skeleton]; unfold k0_part34_skel
  exact L0 fun _ => L0 fun _ => L8 fun _ => S8 fun _ => L0 fun _ => L0 fun _ => L0 fun _ => L0 fun _ => .pure

theorem safe_k0_part35 (k0_t1 : Fin k0_t1_loop.trips) (v30 : BitVec 32) (v982 : IVec S8x128 32) (v988 : IVec S8x128 1) (v1249 : IVec S8x128 32) (v1258 : IVec S8x128 32) (c14_i32_619 : BitVec 32) :
    Safe (F := F) c (mems arg2 arg3 arg4 arg5 arg6 arg7 arg8 arg9 arg10 arg11 arg12 arg13) (k0_part35 (F := F) i arg2 harg2 arg3 harg3 arg4 harg4 arg5 harg5 arg6 harg6 arg7 harg7 arg8 harg8 arg9 harg9 arg10 harg10 arg11 harg11 arg12 harg12 arg13 harg13 k0_t1 v30 v982 v988 v1249 v1258 c14_i32_619) := by
  rw [k0_part35_eq_skeleton]; unfold k0_part35_skel
  exact L0 fun _ => L0 fun _ => L8 fun _ => S8 fun _ => L0 fun _ => L0 fun _ => L0 fun _ => L0 fun _ => .pure

theorem safe_k0_part36 (k0_t1 : Fin k0_t1_loop.trips) (v30 : BitVec 32) (v982 : IVec S8x128 32) (v988 : IVec S8x128 1) (v1285 : IVec S8x128 32) (v1294 : IVec S8x128 32) (v1295 : IVec S8x128 32) :
    Safe (F := F) c (mems arg2 arg3 arg4 arg5 arg6 arg7 arg8 arg9 arg10 arg11 arg12 arg13) (k0_part36 (F := F) i arg2 harg2 arg3 harg3 arg4 harg4 arg5 harg5 arg6 harg6 arg7 harg7 arg8 harg8 arg9 harg9 arg10 harg10 arg11 harg11 arg12 harg12 arg13 harg13 k0_t1 v30 v982 v988 v1285 v1294 v1295) := by
  rw [k0_part36_eq_skeleton]; unfold k0_part36_skel
  exact L0 fun _ => L0 fun _ => L8 fun _ => S8 fun _ => L0 fun _ => L0 fun _ => L0 fun _ => L0 fun _ => .pure

theorem safe_k0_part37 (k0_t1 : Fin k0_t1_loop.trips) (v30 : BitVec 32) (v982 : IVec S8x128 32) (v988 : IVec S8x128 1) (v1321 : IVec S8x128 32) (v1330 : IVec S8x128 32) (v1332 : IVec S8x128 1) :
    Safe (F := F) c (mems arg2 arg3 arg4 arg5 arg6 arg7 arg8 arg9 arg10 arg11 arg12 arg13) (k0_part37 (F := F) i arg2 harg2 arg3 harg3 arg4 harg4 arg5 harg5 arg6 harg6 arg7 harg7 arg8 harg8 arg9 harg9 arg10 harg10 arg11 harg11 arg12 harg12 arg13 harg13 k0_t1 v30 v982 v988 v1321 v1330 v1332) := by
  rw [k0_part37_eq_skeleton]; unfold k0_part37_skel
  exact L0 fun _ => L0 fun _ => L8 fun _ => S8 fun _ => L0 fun _ => L0 fun _ => L0 fun _ => L0 fun _ => .pure

theorem safe_k0_part38 (k0_t1 : Fin k0_t1_loop.trips) (v30 : BitVec 32) (v982 : IVec S8x128 32) (v988 : IVec S8x128 1) (v1369 : IVec S8x128 32) :
    Safe (F := F) c (mems arg2 arg3 arg4 arg5 arg6 arg7 arg8 arg9 arg10 arg11 arg12 arg13) (k0_part38 (F := F) i arg2 harg2 arg3 harg3 arg4 harg4 arg5 harg5 arg6 harg6 arg7 harg7 arg8 harg8 arg9 harg9 arg10 harg10 arg11 harg11 arg12 harg12 arg13 harg13 k0_t1 v30 v982 v988 v1369) := by
  rw [k0_part38_eq_skeleton]; unfold k0_part38_skel
  exact L0 fun _ => L0 fun _ => L8 fun _ => S8 fun _ => L0 fun _ => L0 fun _ => L0 fun _ => L0 fun _ => .pure

theorem safe_k0_part39 (k0_t1 : Fin k0_t1_loop.trips) (v30 : BitVec 32) (v982 : IVec S8x128 32) (v988 : IVec S8x128 1) (v1405 : IVec S8x128 32) :
    Safe (F := F) c (mems arg2 arg3 arg4 arg5 arg6 arg7 arg8 arg9 arg10 arg11 arg12 arg13) (k0_part39 (F := F) i arg2 harg2 arg3 harg3 arg4 harg4 arg5 harg5 arg6 harg6 arg7 harg7 arg8 harg8 arg9 harg9 arg10 harg10 arg11 harg11 arg12 harg12 arg13 harg13 k0_t1 v30 v982 v988 v1405) := by
  rw [k0_part39_eq_skeleton]; unfold k0_part39_skel
  exact L0 fun _ => L0 fun _ => L8 fun _ => S8 fun _ => L0 fun _ => L0 fun _ => L0 fun _ => L0 fun _ => .pure

theorem safe_k0_part40 (k0_t1 : Fin k0_t1_loop.trips) (v30 : BitVec 32) (v982 : IVec S8x128 32) (v988 : IVec S8x128 1) (v1441 : IVec S8x128 32) :
    Safe (F := F) c (mems arg2 arg3 arg4 arg5 arg6 arg7 arg8 arg9 arg10 arg11 arg12 arg13) (k0_part40 (F := F) i arg2 harg2 arg3 harg3 arg4 harg4 arg5 harg5 arg6 harg6 arg7 harg7 arg8 harg8 arg9 harg9 arg10 harg10 arg11 harg11 arg12 harg12 arg13 harg13 k0_t1 v30 v982 v988 v1441) := by
  rw [k0_part40_eq_skeleton]; unfold k0_part40_skel
  exact L0 fun _ => L0 fun _ => L8 fun _ => S8 fun _ => L0 fun _ => L0 fun _ => L0 fun _ => L0 fun _ => .pure

theorem safe_k0_part41 (k0_t1 : Fin k0_t1_loop.trips) (v30 : BitVec 32) (v982 : IVec S8x128 32) (v988 : IVec S8x128 1) (v1477 : IVec S8x128 32) :
    Safe (F := F) c (mems arg2 arg3 arg4 arg5 arg6 arg7 arg8 arg9 arg10 arg11 arg12 arg13) (k0_part41 (F := F) i arg2 harg2 arg3 harg3 arg4 harg4 arg5 harg5 arg6 harg6 arg7 harg7 arg8 harg8 arg9 harg9 arg10 harg10 arg11 harg11 arg12 harg12 arg13 harg13 k0_t1 v30 v982 v988 v1477) := by
  rw [k0_part41_eq_skeleton]; unfold k0_part41_skel
  exact L0 fun _ => L0 fun _ => L8 fun _ => S8 fun _ => L0 fun _ => L0 fun _ => L0 fun _ => L0 fun _ => .pure

theorem safe_k0_part42 (k0_t1 : Fin k0_t1_loop.trips) (v30 : BitVec 32) (v982 : IVec S8x128 32) (v988 : IVec S8x128 1) (v1513 : IVec S8x128 32) :
    Safe (F := F) c (mems arg2 arg3 arg4 arg5 arg6 arg7 arg8 arg9 arg10 arg11 arg12 arg13) (k0_part42 (F := F) i arg2 harg2 arg3 harg3 arg4 harg4 arg5 harg5 arg6 harg6 arg7 harg7 arg8 harg8 arg9 harg9 arg10 harg10 arg11 harg11 arg12 harg12 arg13 harg13 k0_t1 v30 v982 v988 v1513) := by
  rw [k0_part42_eq_skeleton]; unfold k0_part42_skel
  exact L0 fun _ => L0 fun _ => L8 fun _ => S8 fun _ => L0 fun _ => L0 fun _ => L0 fun _ => L0 fun _ => L0 fun _ => .pure

theorem safe_k0_part43 (k0_t1 : Fin k0_t1_loop.trips) (v30 : BitVec 32) (v95 : IVec S8x128 32) (v982 : IVec S8x128 32) (v988 : IVec S8x128 1) (v1549 : IVec S8x128 32) (v1551 : Vec F S1x1x32x128 .i8) :
    Safe (F := F) c (mems arg2 arg3 arg4 arg5 arg6 arg7 arg8 arg9 arg10 arg11 arg12 arg13) (k0_part43 (F := F) i arg2 harg2 arg3 harg3 arg4 harg4 arg5 harg5 arg6 harg6 arg7 harg7 arg8 harg8 arg9 harg9 arg10 harg10 arg11 harg11 arg12 harg12 arg13 harg13 k0_t1 v30 v95 v982 v988 v1549 v1551) := by
  rw [k0_part43_eq_skeleton]; unfold k0_part43_skel
  exact L0 fun _ => L8 fun _ => S8 fun _ => L1 fun _ => L1 fun _ => L8 fun _ => S8 fun _ => L1 fun _ => .pure

theorem safe_k0_part44 (k0_t1 : Fin k0_t1_loop.trips) (v30 : BitVec 32) (v1567 : IVec S8x128 32) (v1585 : IVec S8x128 32) (v1587 : IVec S8x128 1) :
    Safe (F := F) c (mems arg2 arg3 arg4 arg5 arg6 arg7 arg8 arg9 arg10 arg11 arg12 arg13) (k0_part44 (F := F) i arg2 harg2 arg3 harg3 arg4 harg4 arg5 harg5 arg6 harg6 arg7 harg7 arg8 harg8 arg9 harg9 arg10 harg10 arg11 harg11 arg12 harg12 arg13 harg13 k0_t1 v30 v1567 v1585 v1587) := by
  rw [k0_part44_eq_skeleton]; unfold k0_part44_skel
  exact L1 fun _ => L8 fun _ => S8 fun _ => L1 fun _ => L1 fun _ => L8 fun _ => S8 fun _ => L1 fun _ => L1 fun _ => L8 fun _ =>
    S8 fun _ => .pure

theorem safe_k0_part45 (k0_t1 : Fin k0_t1_loop.trips) (v30 : BitVec 32) (v1567 : IVec S8x128 32) :
    Safe (F := F) c (mems arg2 arg3 arg4 arg5 arg6 arg7 arg8 arg9 arg10 arg11 arg12 arg13) (k0_part45 (F := F) i arg2 harg2 arg3 harg3 arg4 harg4 arg5 harg5 arg6 harg6 arg7 harg7 arg8 harg8 arg9 harg9 arg10 harg10 arg11 harg11 arg12 harg12 arg13 harg13 k0_t1 v30 v1567) := by
  rw [k0_part45_eq_skeleton]; unfold k0_part45_skel
  exact L1 fun _ => L1 fun _ => L8 fun _ => S8 fun _ => L1 fun _ => L1 fun _ => L8 fun _ => S8 fun _ => L1 fun _ => .pure

theorem safe_k0_part46 (k0_t1 : Fin k0_t1_loop.trips) (v30 : BitVec 32) (v1567 : IVec S8x128 32) (v1655 : IVec S8x128 32) (v1657 : IVec S8x128 1) :
    Safe (F := F) c (mems arg2 arg3 arg4 arg5 arg6 arg7 arg8 arg9 arg10 arg11 arg12 arg13) (k0_part46 (F := F) i arg2 harg2 arg3 harg3 arg4 harg4 arg5 harg5 arg6 harg6 arg7 harg7 arg8 harg8 arg9 harg9 arg10 harg10 arg11 harg11 arg12 harg12 arg13 harg13 k0_t1 v30 v1567 v1655 v1657) := by
  rw [k0_part46_eq_skeleton]; unfold k0_part46_skel
  exact L1 fun _ => L8 fun _ => S8 fun _ => L1 fun _ => L1 fun _ => L8 fun _ => S8 fun _ => L1 fun _ => L8 fun _ => S8 fun _ =>
    L1 fun _ => L8 fun _ => .pure

theorem safe_k0_part47 (k0_t1 : Fin k0_t1_loop.trips) (v30 : BitVec 32) (v1693 : IVec S8x128 32) :
    Safe (F := F) c (mems arg2 arg3 arg4 arg5 arg6 arg7 arg8 arg9 arg10 arg11 arg12 arg13) (k0_part47 (F := F) i arg2 harg2 arg3 harg3 arg4 harg4 arg5 harg5 arg6 harg6 arg7 harg7 arg8 harg8 arg9 harg9 arg10 harg10 arg11 harg11 arg12 harg12 arg13 harg13 k0_t1 v30 v1693) := by
  rw [k0_part47_eq_skeleton]; unfold k0_part47_skel
  exact S8 fun _ => L1 fun _ => L8 fun _ => S8 fun _ => L1 fun _ => L8 fun _ => S8 fun _ => L1 fun _ => L8 fun _ => S8 fun _ =>
    L1 fun _ => L8 fun _ => S8 fun _ => L1 fun _ => .pure

theorem safe_k0_part48 (k0_t1 : Fin k0_t1_loop.trips) (v30 : BitVec 32) (v1725 : IVec S8x128 32) :
    Safe (F := F) c (mems arg2 arg3 arg4 arg5 arg6 arg7 arg8 arg9 arg10 arg11 arg12 arg13) (k0_part48 (F := F) i arg2 harg2 arg3 harg3 arg4 harg4 arg5 harg5 arg6 harg6 arg7 harg7 arg8 harg8 arg9 harg9 arg10 harg10 arg11 harg11 arg12 harg12 arg13 harg13 k0_t1 v30 v1725) := by
  rw [k0_part48_eq_skeleton]; unfold k0_part48_skel
  exact L8 fun _ => S8 fun _ => L1 fun _ => L8 fun _ => S8 fun _ => L2 fun _ => L8 fun _ => S8 fun _ => L2 fun _ => L8 fun _ =>
    S8 fun _ => L2 fun _ => L8 fun _ => S8 fun _ => .pure

theorem safe_k0_part49 (k0_t1 : Fin k0_t1_loop.trips) (v30 : BitVec 32) :
    Safe (F := F) c (mems arg2 arg3 arg4 arg5 arg6 arg7 arg8 arg9 arg10 arg11 arg12 arg13) (k0_part49 (F := F) i arg2 harg2 arg3 harg3 arg4 harg4 arg5 harg5 arg6 harg6 arg7 harg7 arg8 harg8 arg9 harg9 arg10 harg10 arg11 harg11 arg12 harg12 arg13 harg13 k0_t1 v30) := by
  rw [k0_part49_eq_skeleton]; unfold k0_part49_skel
  exact L2 fun _ => L8 fun _ => S8 fun _ => L2 fun _ => L8 fun _ => S8 fun _ => L2 fun _ => L8 fun _ => S8 fun _ => L2 fun _ =>
    L8 fun _ => S8 fun _ => L2 fun _ => L8 fun _ => .pure

theorem safe_k0_part50 (k0_t1 : Fin k0_t1_loop.trips) (v30 : BitVec 32) (v1788 : IVec S4x128 32) (v1789 : Vec F S4x128 .i32) :
    Safe (F := F) c (mems arg2 arg3 arg4 arg5 arg6 arg7 arg8 arg9 arg10 arg11 arg12 arg13) (k0_part50 (F := F) i arg2 harg2 arg3 harg3 arg4 harg4 arg5 harg5 arg6 harg6 arg7 harg7 arg8 harg8 arg9 harg9 arg10 harg10 arg11 harg11 arg12 harg12 arg13 harg13 k0_t1 v30 v1788 v1789) := by
  rw [k0_part50_eq_skeleton]; unfold k0_part50_skel
  exact S8 fun _ => L2 fun _ => L8 fun _ => S8 fun _ => L2 fun _ => L8 fun _ => S8 fun _ => L2 fun _ => L8 fun _ => S8 fun _ =>
    L2 fun _ => L8 fun _ => S8 fun _ => L3 fun _ => .pure

theorem safe_k0_part51 (k0_t1 : Fin k0_t1_loop.trips) (v30 : BitVec 32) (v1821 : Vec F S1x1x8x128 .i8) :
    Safe (F := F) c (mems arg2 arg3 arg4 arg5 arg6 arg7 arg8 arg9 arg10 arg11 arg12 arg13) (k0_part51 (F := F) i arg2 harg2 arg3 harg3 arg4 harg4 arg5 harg5 arg6 harg6 arg7 harg7 arg8 harg8 arg9 harg9 arg10 harg10 arg11 harg11 arg12 harg12 arg13 harg13 k0_t1 v30 v1821) := by
  rw [k0_part51_eq_skeleton]; unfold k0_part51_skel
  exact L8 fun _ => S8 fun _ => L3 fun _ => L8 fun _ => S8 fun _ => L3 fun _ => L8 fun _ => S8 fun _ => L3 fun _ => L8 fun _ =>
    S8 fun _ => L3 fun _ => L8 fun _ => S8 fun _ => .pure

theorem safe_k0_part52 (k0_t1 : Fin k0_t1_loop.trips) (v30 : BitVec 32) (v95 : IVec S8x128 32) (v97 : IVec S8x128 32) :
    Safe (F := F) c (mems arg2 arg3 arg4 arg5 arg6 arg7 arg8 arg9 arg10 arg11 arg12 arg13) (k0_part52 (F := F) i arg2 harg2 arg3 harg3 arg4 harg4 arg5 harg5 arg6 harg6 arg7 harg7 arg8 harg8 arg9 harg9 arg10 harg10 arg11 harg11 arg12 harg12 arg13 harg13 k0_t1 v30 v95 v97) := by
  rw [k0_part52_eq_skeleton]; unfold k0_part52_skel
  exact L3 fun _ => L8 fun _ => S8 fun _ => L8 fun _ => L8 fun _ => L8 fun _ => L8 fun _ => .pure

theorem safe_k0_part53 (v1883 : IVec S8x128 1) :
    Safe (F := F) c (mems arg2 arg3 arg4 arg5 arg6 arg7 arg8 arg9 arg10 arg11 arg12 arg13) (k0_part53 (F := F) i arg2 harg2 arg3 harg3 arg4 harg4 arg5 harg5 arg6 harg6 arg7 harg7 arg8 harg8 arg9 harg9 arg10 harg10 arg11 harg11 arg12 harg12 arg13 harg13 v1883) := by
  rw [k0_part53_eq_skeleton]; unfold k0_part53_skel
  exact L8 fun _ => L8 fun _ => L8 fun _ => L8 fun _ => L8 fun _ => L8 fun _ => L8 fun _ => L8 fun _ => L8 fun _ => L8 fun _ =>
    L8 fun _ => L8 fun _ => L8 fun _ => L8 fun _ => L8 fun _ => L8 fun _ => L8 fun _ => .pure

theorem safe_k0_part54 (v1865 : IVec S8x128 1) (v1869 : IVec S8x128 1) (v1883 : IVec S8x128 1) (v1886 : Vec F S8x128 .i32) (v1889 : Vec F S8x128 .i32) (v1892 : Vec F S8x128 .i32) (v1895 : Vec F S8x128 .i32) (v1898 : Vec F S8x128 .i32) (v1901 : Vec F S8x128 .i32) (v1904 : Vec F S8x128 .i32) (v1907 : Vec F S8x128 .i32) (v1910 : Vec F S8x128 .i32) (v1913 : Vec F S8x128 .i32) (v1914 : Vec F S8x128 .i32) :
    Safe (F := F) c (mems arg2 arg3 arg4 arg5 arg6 arg7 arg8 arg9 arg10 arg11 arg12 arg13) (k0_part54 (F := F) i arg2 harg2 arg3 harg3 arg4 harg4 arg5 harg5 arg6 harg6 arg7 harg7 arg8 harg8 arg9 harg9 arg10 harg10 arg11 harg11 arg12 harg12 arg13 harg13 v1865 v1869 v1883 v1886 v1889 v1892 v1895 v1898 v1901 v1904 v1907 v1910 v1913 v1914) := by
  rw [k0_part54_eq_skeleton]; unfold k0_part54_skel
  exact L8 fun _ => L8 fun _ => L8 fun _ => L8 fun _ => L8 fun _ => L8 fun _ => L8 fun _ => L8 fun _ => L8 fun _ => L8 fun _ =>
    L8 fun _ => .pure

theorem safe_k0_part55 (v1869 : IVec S8x128 1) (v1873 : IVec S8x128 1) (v1877 : IVec S8x128 1) (v1932 : Vec F S8x128 .i32) (v1938 : Vec F S8x128 .i32) (v1939 : Vec F S8x128 .i32) (v1940 : Vec F S8x128 .i32) (v1941 : Vec F S8x128 .i32) (v1942 : Vec F S8x128 .i32) (v1943 : Vec F S8x128 .i32) (v1944 : Vec F S8x128 .i32) (v1945 : Vec F S8x128 .i32) (v1946 : Vec F S8x128 .i32) (v1947 : Vec F S8x128 .i32) (v1948 : Vec F S8x128 .i32) (v1949 : Vec F S8x128 .i32) (v1950 : Vec F S8x128 .i32) (v1951 : Vec F S8x128 .i32) (v1952 : Vec F S8x128 .i32) (v1953 : Vec F S8x128 .i32) :
    Safe (F := F) c (mems arg2 arg3 arg4 arg5 arg6 arg7 arg8 arg9 arg10 arg11 arg12 arg13) (k0_part55 (F := F) i arg2 harg2 arg3 harg3 arg4 harg4 arg5 harg5 arg6 harg6 arg7 harg7 arg8 harg8 arg9 harg9 arg10 harg10 arg11 harg11 arg12 harg12 arg13 harg13 v1869 v1873 v1877 v1932 v1938 v1939 v1940 v1941 v1942 v1943 v1944 v1945 v1946 v1947 v1948 v1949 v1950 v1951 v1952 v1953) := by
  rw [k0_part55_eq_skeleton]; unfold k0_part55_skel
  exact L9 fun _ => S9 fun _ => L9 fun _ => S9 fun _ => L9 fun _ => S9 fun _ => L9 fun _ => S9 fun _ => L9 fun _ => .pure

theorem safe_k0_part56 (v97 : IVec S8x128 32) (v1976 : Vec F S8x128 .i32) (v1977 : Vec F S8x128 .i32) (v1978 : Vec F S8x128 .i32) (v1979 : Vec F S8x128 .i32) (v1980 : Vec F S8x128 .i32) (v1981 : Vec F S8x128 .i32) (v1994 : Vec F S1x8x128 .i32) :
    Safe (F := F) c (mems arg2 arg3 arg4 arg5 arg6 arg7 arg8 arg9 arg10 arg11 arg12 arg13) (k0_part56 (F := F) i arg2 harg2 arg3 harg3 arg4 harg4 arg5 harg5 arg6 harg6 arg7 harg7 arg8 harg8 arg9 harg9 arg10 harg10 arg11 harg11 arg12 harg12 arg13 harg13 v97 v1976 v1977 v1978 v1979 v1980 v1981 v1994) := by
  rw [k0_part56_eq_skeleton]; unfold k0_part56_skel
  exact S9 fun _ => L9 fun _ => S9 fun _ => L9 fun _ => S9 fun _ => L9 fun _ => S9 fun _ => L9 fun _ => S9 fun _ => L9 fun _ =>
    S9 fun _ => L8 fun _ => L8 fun _ => L8 fun _ => L8 fun _ => .pure

theorem safe_k0_part57 (v2017 : IVec S8x128 1) (v2021 : Vec F S8x128 .i32) (v2022 : Vec F S8x128 .i32) :
    Safe (F := F) c (mems arg2 arg3 arg4 arg5 arg6 arg7 arg8 arg9 arg10 arg11 arg12 arg13) (k0_part57 (F := F) i arg2 harg2 arg3 harg3 arg4 harg4 arg5 harg5 arg6 harg6 arg7 harg7 arg8 harg8 arg9 harg9 arg10 harg10 arg11 harg11 arg12 harg12 arg13 harg13 v2017 v2021 v2022) := by
  rw [k0_part57_eq_skeleton]; unfold k0_part57_skel
  exact L8 fun _ => L8 fun _ => L8 fun _ => L8 fun _ => L8 fun _ => L8 fun _ => L8 fun _ => L8 fun _ => L8 fun _ => L8 fun _ =>
    L8 fun _ => L8 fun _ => L8 fun _ => L8 fun _ => L8 fun _ => L8 fun _ => L8 fun _ => .pure

theorem safe_k0_part58 (v1865 : IVec S8x128 1) (v1869 : IVec S8x128 1) (v2017 : IVec S8x128 1) (v2020 : Vec F S8x128 .i32) (v2023 : Vec F S8x128 .i32) (v2026 : Vec F S8x128 .i32) (v2029 : Vec F S8x128 .i32) (v2032 : Vec F S8x128 .i32) (v2035 : Vec F S8x128 .i32) (v2038 : Vec F S8x128 .i32) (v2041 : Vec F S8x128 .i32) (v2044 : Vec F S8x128 .i32) (v2047 : Vec F S8x128 .i32) (v2048 : Vec F S8x128 .i32) :
    Safe (F := F) c (mems arg2 arg3 arg4 arg5 arg6 arg7 arg8 arg9 arg10 arg11 arg12 arg13) (k0_part58 (F := F) i arg2 harg2 arg3 harg3 arg4 harg4 arg5 harg5 arg6 harg6 arg7 harg7 arg8 harg8 arg9 harg9 arg10 harg10 arg11 harg11 arg12 harg12 arg13 harg13 v1865 v1869 v2017 v2020 v2023 v2026 v2029 v2032 v2035 v2038 v2041 v2044 v2047 v2048) := by
  rw [k0_part58_eq_skeleton]; unfold k0_part58_skel
  exact L8 fun _ => L8 fun _ => L8 fun _ => L8 fun _ => L8 fun _ => L8 fun _ => L8 fun _ => L8 fun _ => L8 fun _ => L8 fun _ =>
    L8 fun _ => .pure

theorem safe_k0_part59 (v1869 : IVec S8x128 1) (v1873 : IVec S8x128 1) (v1877 : IVec S8x128 1) (v2066 : Vec F S8x128 .i32) (v2071 : Vec F S8x128 .i32) (v2072 : Vec F S8x128 .i32) (v2073 : Vec F S8x128 .i32) (v2074 : Vec F S8x128 .i32) (v2075 : Vec F S8x128 .i32) (v2076 : Vec F S8x128 .i32) (v2077 : Vec F S8x128 .i32) (v2078 : Vec F S8x128 .i32) (v2079 : Vec F S8x128 .i32) (v2080 : Vec F S8x128 .i32) (v2081 : Vec F S8x128 .i32) (v2082 : Vec F S8x128 .i32) (v2083 : Vec F S8x128 .i32) (v2084 : Vec F S8x128 .i32) (v2085 : Vec F S8x128 .i32) (v2086 : Vec F S8x128 .i32) :
    Safe (F := F) c (mems arg2 arg3 arg4 arg5 arg6 arg7 arg8 arg9 arg10 arg11 arg12 arg13) (k0_part59 (F := F) i arg2 harg2 arg3 harg3 arg4 harg4 arg5 harg5 arg6 harg6 arg7 harg7 arg8 harg8 arg9 harg9 arg10 harg10 arg11 harg11 arg12 harg12 arg13 harg13 v1869 v1873 v1877 v2066 v2071 v2072 v2073 v2074 v2075 v2076 v2077 v2078 v2079 v2080 v2081 v2082 v2083 v2084 v2085 v2086) := by
  rw [k0_part59_eq_skeleton]; unfold k0_part59_skel
  exact L9 fun _ => S9 fun _ => L9 fun _ => S9 fun _ => L9 fun _ => S9 fun _ => L9 fun _ => S9 fun _ => .pure

theorem safe_k0_part60 (v97 : IVec S8x128 32) (v2110 : Vec F S8x128 .i32) (v2111 : Vec F S8x128 .i32) (v2112 : Vec F S8x128 .i32) (v2113 : Vec F S8x128 .i32) (v2114 : Vec F S8x128 .i32) (v2115 : Vec F S8x128 .i32) :
    Safe (F := F) c (mems arg2 arg3 arg4 arg5 arg6 arg7 arg8 arg9 arg10 arg11 arg12 arg13) (k0_part60 (F := F) i arg2 harg2 arg3 harg3 arg4 harg4 arg5 harg5 arg6 harg6 arg7 harg7 arg8 harg8 arg9 harg9 arg10 harg10 arg11 harg11 arg12 harg12 arg13 harg13 v97 v2110 v2111 v2112 v2113 v2114 v2115) := by
  rw [k0_part60_eq_skeleton]; unfold k0_part60_skel
  exact L9 fun _ => S9 fun _ => L9 fun _ => S9 fun _ => L9 fun _ => S9 fun _ => L9 fun _ => S9 fun _ => L9 fun _ => S9 fun _ =>
    L9 fun _ => S9 fun _ => L8 fun _ => L8 fun _ => L8 fun _ => .pure

theorem safe_k0_part61 (v2151 : IVec S8x128 1) (v2155 : Vec F S8x128 .i32) :
    Safe (F := F) c (mems arg2 arg3 arg4 arg5 arg6 arg7 arg8 arg9 arg10 arg11 arg12 arg13) (k0_part61 (F := F) i arg2 harg2 arg3 harg3 arg4 harg4 arg5 harg5 arg6 harg6 arg7 harg7 arg8 harg8 arg9 harg9 arg10 harg10 arg11 harg11 arg12 harg12 arg13 harg13 v2151 v2155) := by
  rw [k0_part61_eq_skeleton]; unfold k0_part61_skel
  exact L8 fun _ => L8 fun _ => L8 fun _ => L8 fun _ => L8 fun _ => L8 fun _ => L8 fun _ => L8 fun _ => L8 fun _ => L8 fun _ =>
    L8 fun _ => L8 fun _ => L8 fun _ => L8 fun _ => L8 fun _ => L8 fun _ => L8 fun _ => .pure

theorem safe_k0_part62 (v1865 : IVec S8x128 1) (v1869 : IVec S8x128 1) (v2151 : IVec S8x128 1) (v2154 : Vec F S8x128 .i32) (v2157 : Vec F S8x128 .i32) (v2160 : Vec F S8x128 .i32) (v2163 : Vec F S8x128 .i32) (v2166 : Vec F S8x128 .i32) (v2169 : Vec F S8x128 .i32) (v2172 : Vec F S8x128 .i32) (v2175 : Vec F S8x128 .i32) (v2178 : Vec F S8x128 .i32) (v2181 : Vec F S8x128 .i32) :
    Safe (F := F) c (mems arg2 arg3 arg4 arg5 arg6 arg7 arg8 arg9 arg10 arg11 arg12 arg13) (k0_part62 (F := F) i arg2 harg2 arg3 harg3 arg4 harg4 arg5 harg5 arg6 harg6 arg7 harg7 arg8 harg8 arg9 harg9 arg10 harg10 arg11 harg11 arg12 harg12 arg13 harg13 v1865 v1869 v2151 v2154 v2157 v2160 v2163 v2166 v2169 v2172 v2175 v2178 v2181) := by
  rw [k0_part62_eq_skeleton]; unfold k0_part62_skel
  exact L8 fun _ => L8 fun _ => L8 fun _ => L8 fun _ => L8 fun _ => L8 fun _ => L8 fun _ => L8 fun _ => L8 fun _ => L8 fun _ =>
    L8 fun _ => L8 fun _ => .pure

theorem safe_k0_part63 (v1869 : IVec S8x128 1) (v1873 : IVec S8x128 1) (v1877 : IVec S8x128 1) (v2200 : Vec F S8x128 .i32) (v2204 : Vec F S8x128 .i32) (v2205 : Vec F S8x128 .i32) (v2206 : Vec F S8x128 .i32) (v2207 : Vec F S8x128 .i32) (v2208 : Vec F S8x128 .i32) (v2209 : Vec F S8x128 .i32) (v2210 : Vec F S8x128 .i32) (v2211 : Vec F S8x128 .i32) (v2212 : Vec F S8x128 .i32) (v2213 : Vec F S8x128 .i32) (v2214 : Vec F S8x128 .i32) (v2215 : Vec F S8x128 .i32) (v2216 : Vec F S8x128 .i32) (v2217 : Vec F S8x128 .i32) (v2218 : Vec F S8x128 .i32) (v2219 : Vec F S8x128 .i32) :
    Safe (F := F) c (mems arg2 arg3 arg4 arg5 arg6 arg7 arg8 arg9 arg10 arg11 arg12 arg13) (k0_part63 (F := F) i arg2 harg2 arg3 harg3 arg4 harg4 arg5 harg5 arg6 harg6 arg7 harg7 arg8 harg8 arg9 harg9 arg10 harg10 arg11 harg11 arg12 harg12 arg13 harg13 v1869 v1873 v1877 v2200 v2204 v2205 v2206 v2207 v2208 v2209 v2210 v2211 v2212 v2213 v2214 v2215 v2216 v2217 v2218 v2219) := by
  rw [k0_part63_eq_skeleton]; unfold k0_part63_skel
  exact L9 fun _ => S9 fun _ => L9 fun _ => S9 fun _ => L9 fun _ => S9 fun _ => L9 fun _ => S9 fun _ => .pure

theorem safe_k0_part64 (v97 : IVec S8x128 32) (v2244 : Vec F S8x128 .i32) (v2245 : Vec F S8x128 .i32) (v2246 : Vec F S8x128 .i32) (v2247 : Vec F S8x128 .i32) (v2248 : Vec F S8x128 .i32) (v2249 : Vec F S8x128 .i32) :
    Safe (F := F) c (mems arg2 arg3 arg4 arg5 arg6 arg7 arg8 arg9 arg10 arg11 arg12 arg13) (k0_part64 (F := F) i arg2 harg2 arg3 harg3 arg4 harg4 arg5 harg5 arg6 harg6 arg7 harg7 arg8 harg8 arg9 harg9 arg10 harg10 arg11 harg11 arg12 harg12 arg13 harg13 v97 v2244 v2245 v2246 v2247 v2248 v2249) := by
  rw [k0_part64_eq_skeleton]; unfold k0_part64_skel
  exact L9 fun _ => S9 fun _ => L9 fun _ => S9 fun _ => L9 fun _ => S9 fun _ => L9 fun _ => S9 fun _ => L9 fun _ => S9 fun _ =>
    L9 fun _ => S9 fun _ => L8 fun _ => L8 fun _ => L8 fun _ => .pure

theorem safe_k0_part65 (v2285 : IVec S8x128 1) (v2289 : Vec F S8x128 .i32) :
    Safe (F := F) c (mems arg2 arg3 arg4 arg5 arg6 arg7 arg8 arg9 arg10 arg11 arg12 arg13) (k0_part65 (F := F) i arg2 harg2 arg3 harg3 arg4 harg4 arg5 harg5 arg6 harg6 arg7 harg7 arg8 harg8 arg9 harg9 arg10 harg10 arg11 harg11 arg12 harg12 arg13 harg13 v2285 v2289) := by
  rw [k0_part65_eq_skeleton]; unfold k0_part65_skel
  exact L8 fun _ => L8 fun _ => L8 fun _ => L8 fun _ => L8 fun _ => L8 fun _ => L8 fun _ => L8 fun _ => L8 fun _ => L8 fun _ =>
    L8 fun _ => L8 fun _ => L8 fun _ => L8 fun _ => L8 fun _ => L8 fun _ => L8 fun _ => .pure

theorem safe_k0_part66 (v1865 : IVec S8x128 1) (v1869 : IVec S8x128 1) (v2285 : IVec S8x128 1) (v2288 : Vec F S8x128 .i32) (v2291 : Vec F S8x128 .i32) (v2294 : Vec F S8x128 .i32) (v2297 : Vec F S8x128 .i32) (v2300 : Vec F S8x128 .i32) (v2303 : Vec F S8x128 .i32) (v2306 : Vec F S8x128 .i32) (v2309 : Vec F S8x128 .i32) (v2312 : Vec F S8x128 .i32) (v2315 : Vec F S8x128 .i32) :
    Safe (F := F) c (mems arg2 arg3 arg4 arg5 arg6 arg7 arg8 arg9 arg10 arg11 arg12 arg13) (k0_part66 (F := F) i arg2 harg2 arg3 harg3 arg4 harg4 arg5 harg5 arg6 harg6 arg7 harg7 arg8 harg8 arg9 harg9 arg10 harg10 arg11 harg11 arg12 harg12 arg13 harg13 v1865 v1869 v2285 v2288 v2291 v2294 v2297 v2300 v2303 v2306 v2309 v2312 v2315) := by
  rw [k0_part66_eq_skeleton]; unfold k0_part66_skel
  exact L8 fun _ => L8 fun _ => L8 fun _ => L8 fun _ => L8 fun _ => L8 fun _ => L8 fun _ => L8 fun _ => L8 fun _ => L8 fun _ =>
    L8 fun _ => L8 fun _ => .pure

theorem safe_k0_part67 (v1869 : IVec S8x128 1) (v1873 : IVec S8x128 1) (v1877 : IVec S8x128 1) (v2334 : Vec F S8x128 .i32) (v2337 : Vec F S8x128 .i32) (v2338 : Vec F S8x128 .i32) (v2339 : Vec F S8x128 .i32) (v2340 : Vec F S8x128 .i32) (v2341 : Vec F S8x128 .i32) (v2342 : Vec F S8x128 .i32) (v2343 : Vec F S8x128 .i32) (v2344 : Vec F S8x128 .i32) (v2345 : Vec F S8x128 .i32) (v2346 : Vec F S8x128 .i32) (v2347 : Vec F S8x128 .i32) (v2348 : Vec F S8x128 .i32) (v2349 : Vec F S8x128 .i32) (v2350 : Vec F S8x128 .i32) (v2351 : Vec F S8x128 .i32) (v2352 : Vec F S8x128 .i32) :
    Safe (F := F) c (mems arg2 arg3 arg4 arg5 arg6 arg7 arg8 arg9 arg10 arg11 arg12 arg13) (k0_part67 (F := F) i arg2 harg2 arg3 harg3 arg4 harg4 arg5 harg5 arg6 harg6 arg7 harg7 arg8 harg8 arg9 harg9 arg10 harg10 arg11 harg11 arg12 harg12 arg13 harg13 v1869 v1873 v1877 v2334 v2337 v2338 v2339 v2340 v2341 v2342 v2343 v2344 v2345 v2346 v2347 v2348 v2349 v2350 v2351 v2352) := by
  rw [k0_part67_eq_skeleton]; unfold k0_part67_skel
  exact L9 fun _ => S9 fun _ => L9 fun _ => S9 fun _ => L9 fun _ => S9 fun _ => L9 fun _ => S9 fun _ => .pure

theorem safe_k0_part68 (v7 : IVec S8x128 32) (v88 : IVec S8x128 32) (v2378 : Vec F S8x128 .i32) (v2379 : Vec F S8x128 .i32) (v2380 : Vec F S8x128 .i32) (v2381 : Vec F S8x128 .i32) (v2382 : Vec F S8x128 .i32) (v2383 : Vec F S8x128 .i32) :
    Safe (F := F) c (mems arg2 arg3 arg4 arg5 arg6 arg7 arg8 arg9 arg10 arg11 arg12 arg13) (k0_part68 (F := F) i arg2 harg2 arg3 harg3 arg4 harg4 arg5 harg5 arg6 harg6 arg7 harg7 arg8 harg8 arg9 harg9 arg10 harg10 arg11 harg11 arg12 harg12 arg13 harg13 v7 v88 v2378 v2379 v2380 v2381 v2382 v2383) := by
  rw [k0_part68_eq_skeleton]; unfold k0_part68_skel
  exact L9 fun _ => S9 fun _ => L9 fun _ => S9 fun _ => L9 fun _ => S9 fun _ => L9 fun _ => S9 fun _ => L9 fun _ => S9 fun _ =>
    L9 fun _ => S9 fun _ => .pure

theorem safe_k0_part69 (v7 : IVec S8x128 32) (v88 : IVec S8x128 32) (v2425 : IVec S8x128 1) (v2426 : IVec S8x128 32) :
    Safe (F := F) c (mems arg2 arg3 arg4 arg5 arg6 arg7 arg8 arg9 arg10 arg11 arg12 arg13) (k0_part69 (F := F) i arg2 harg2 arg3 harg3 arg4 harg4 arg5 harg5 arg6 harg6 arg7 harg7 arg8 harg8 arg9 harg9 arg10 harg10 arg11 harg11 arg12 harg12 arg13 harg13 v7 v88 v2425 v2426) := by
  rw [k0_part69_eq_skeleton]; unfold k0_part69_skel
  exact .pure

theorem safe_k0_part70 (v7 : IVec S8x128 32) (v9 : IVec S8x128 32) (v88 : IVec S8x128 32) (v95 : IVec S8x128 32) (v2470 : IVec S8x128 32) :
    Safe (F := F) c (mems arg2 arg3 arg4 arg5 arg6 arg7 arg8 arg9 arg10 arg11 arg12 arg13) (k0_part70 (F := F) i arg2 harg2 arg3 harg3 arg4 harg4 arg5 harg5 arg6 harg6 arg7 harg7 arg8 harg8 arg9 harg9 arg10 harg10 arg11 harg11 arg12 harg12 arg13 harg13 v7 v9 v88 v95 v2470) := by
  rw [k0_part70_eq_skeleton]; unfold k0_part70_skel
  exact .pure

theorem safe_k0_part71 (v9 : IVec S8x128 32) (v95 : IVec S8x128 32) (v2513 : IVec S8x128 1) (c2_i32_1294 : BitVec 32) :
    Safe (F := F) c (mems arg2 arg3 arg4 arg5 arg6 arg7 arg8 arg9 arg10 arg11 arg12 arg13) (k0_part71 (F := F) i arg2 harg2 arg3 harg3 arg4 harg4 arg5 harg5 arg6 harg6 arg7 harg7 arg8 harg8 arg9 harg9 arg10 harg10 arg11 harg11 arg12 harg12 arg13 harg13 v9 v95 v2513 c2_i32_1294) := by
  rw [k0_part71_eq_skeleton]; unfold k0_part71_skel
  exact .pure

theorem safe_k0_part72 (v9 : IVec S8x128 32) (v80 : FVec F S8x128 .f32) (v95 : IVec S8x128 32) (v2421 : IVec S8x128 1) (v2429 : IVec S8x128 1) (v2437 : IVec S8x128 1) (v2445 : IVec S8x128 1) (v2453 : IVec S8x128 1) (v2461 : IVec S8x128 1) (c8_i32_1310 : BitVec 32) :
    Safe (F := F) c (mems arg2 arg3 arg4 arg5 arg6 arg7 arg8 arg9 arg10 arg11 arg12 arg13) (k0_part72 (F := F) i arg2 harg2 arg3 harg3 arg4 harg4 arg5 harg5 arg6 harg6 arg7 harg7 arg8 harg8 arg9 harg9 arg10 harg10 arg11 harg11 arg12 harg12 arg13 harg13 v9 v80 v95 v2421 v2429 v2437 v2445 v2453 v2461 c8_i32_1310) := by
  rw [k0_part72_eq_skeleton]; unfold k0_part72_skel
  exact .pure

theorem safe_k0_part73 (v75 : FVec F S8x128 .f32) (v80 : FVec F S8x128 .f32) (v81 : FVec F S8x128 .f32) (v2429 : IVec S8x128 1) (v2437 : IVec S8x128 1) (v2445 : IVec S8x128 1) (v2453 : IVec S8x128 1) (v2461 : IVec S8x128 1) (v2469 : IVec S8x128 1) (v2477 : IVec S8x128 1) (v2485 : IVec S8x128 1) (v2493 : IVec S8x128 1) (v2501 : IVec S8x128 1) (v2509 : IVec S8x128 1) (v2599 : FVec F S8x128 .f32) :
    Safe (F := F) c (mems arg2 arg3 arg4 arg5 arg6 arg7 arg8 arg9 arg10 arg11 arg12 arg13) (k0_part73 (F := F) i arg2 harg2 arg3 harg3 arg4 harg4 arg5 harg5 arg6 harg6 arg7 harg7 arg8 harg8 arg9 harg9 arg10 harg10 arg11 harg11 arg12 harg12 arg13 harg13 v75 v80 v81 v2429 v2437 v2445 v2453 v2461 v2469 v2477 v2485 v2493 v2501 v2509 v2599) := by
  rw [k0_part73_eq_skeleton]; unfold k0_part73_skel
  exact .pure

theorem safe_k0_part74 (v75 : FVec F S8x128 .f32) (v81 : FVec F S8x128 .f32) (v2509 : IVec S8x128 1) (v2517 : IVec S8x128 1) (v2525 : IVec S8x128 1) (v2533 : IVec S8x128 1) (v2541 : IVec S8x128 1) (v2549 : IVec S8x128 1) (v2557 : IVec S8x128 1) (v2565 : IVec S8x128 1) (v2640 : FVec F S8x128 .f32) :
    Safe (F := F) c (mems arg2 arg3 arg4 arg5 arg6 arg7 arg8 arg9 arg10 arg11 arg12 arg13) (k0_part74 (F := F) i arg2 harg2 arg3 harg3 arg4 harg4 arg5 harg5 arg6 harg6 arg7 harg7 arg8 harg8 arg9 harg9 arg10 harg10 arg11 harg11 arg12 harg12 arg13 harg13 v75 v81 v2509 v2517 v2525 v2533 v2541 v2549 v2557 v2565 v2640) := by
  rw [k0_part74_eq_skeleton]; unfold k0_part74_skel
  exact .pure

theorem safe_k0_part75 (v75 : FVec F S8x128 .f32) (v81 : FVec F S8x128 .f32) (v88 : IVec S8x128 32) (v97 : IVec S8x128 32) (v2533 : IVec S8x128 1) (v2541 : IVec S8x128 1) (v2549 : IVec S8x128 1) (v2557 : IVec S8x128 1) (v2565 : IVec S8x128 1) (v2573 : IVec S8x128 1) (v2682 : FVec F S8x128 .f32) (v2683 : FVec F S8x128 .f32) :
    Safe (F := F) c (mems arg2 arg3 arg4 arg5 arg6 arg7 arg8 arg9 arg10 arg11 arg12 arg13) (k0_part75 (F := F) i arg2 harg2 arg3 harg3 arg4 harg4 arg5 harg5 arg6 harg6 arg7 harg7 arg8 harg8 arg9 harg9 arg10 harg10 arg11 harg11 arg12 harg12 arg13 harg13 v75 v81 v88 v97 v2533 v2541 v2549 v2557 v2565 v2573 v2682 v2683) := by
  rw [k0_part75_eq_skeleton]; unfold k0_part75_skel
  exact L9 fun _ => L9 fun _ => L9 fun _ => L9 fun _ => .pure

theorem safe_k0_part76 (v2703 : IVec S8x128 1) (v2707 : IVec S8x128 1) (v2711 : IVec S8x128 32) (v2713 : IVec S8x128 32) (v2715 : IVec S8x128 32) (v2717 : IVec S8x128 32) (v2719 : IVec S8x128 32) (v2720 : IVec S8x128 32) :
    Safe (F := F) c (mems arg2 arg3 arg4 arg5 arg6 arg7 arg8 arg9 arg10 arg11 arg12 arg13) (k0_part76 (F := F) i arg2 harg2 arg3 harg3 arg4 harg4 arg5 harg5 arg6 harg6 arg7 harg7 arg8 harg8 arg9 harg9 arg10 harg10 arg11 harg11 arg12 harg12 arg13 harg13 v2703 v2707 v2711 v2713 v2715 v2717 v2719 v2720) := by
  rw [k0_part76_eq_skeleton]; unfold k0_part76_skel
  exact L10 fun _ => S10 fun _ => L10 fun _ => S10 fun _ => L10 fun _ => .pure

theorem safe_k0_part77 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2605 : FVec F S8x128 .f32) (v2609 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v2625 : FVec F S8x128 .f32) (v2627 : FVec F S8x128 .f32) (v2766 : FVec F S32x128 .f32) :
    Safe (F := F) c (mems arg2 arg3 arg4 arg5 arg6 arg7 arg8 arg9 arg10 arg11 arg12 arg13) (k0_part77 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2605 v2609 v2611 v2613 v2615 v2617 v2619 v2621 v2623 v2625 v2627 v2766) := by
  rw [k0_part77_eq_skeleton]; unfold k0_part77_skel
  exact S10 fun _ => L10 fun _ => L10 fun _ => L10 fun _ => L10 fun _ => L10 fun _ => L10 fun _ => L10 fun _ => L10 fun _ =>
    L10 fun _ => L10 fun _ => .pure

theorem safe_k0_part78 (v2703 : IVec S8x128 1) (v2707 : IVec S8x128 1) (v2711 : IVec S8x128 32) :
    Safe (F := F) c (mems arg2 arg3 arg4 arg5 arg6 arg7 arg8 arg9 arg10 arg11 arg12 arg13) (k0_part78 (F := F) i arg2 harg2 arg3 harg3 arg4 harg4 arg5 harg5 arg6 harg6 arg7 harg7 arg8 harg8 arg9 harg9 arg10 harg10 arg11 harg11 arg12 harg12 arg13 harg13 v2703 v2707 v2711) := by
  rw [k0_part78_eq_skeleton]; unfold k0_part78_skel
  exact L9 fun _ => L9 fun _ => L9 fun _ => L9 fun _ => L10 fun _ => S10 fun _ => L10 fun _ => .pure

theorem safe_k0_part79 (v2577 : FVec F S8x128 .f32) (v2581 : FVec F S8x128 .f32) (v2585 : FVec F S8x128 .f32) (v2589 : FVec F S8x128 .f32) (v2611 : FVec F S8x128 .f32) (v2613 : FVec F S8x128 .f32) (v2615 : FVec F S8x128 .f32) (v2711 : IVec S8x128 32) (v2818 : IVec S8x128 32) (v2819 : IVec S8x128 32) (v2842 : FVec F S32x128 .f32) :
    Safe (F := F) c (mems arg2 arg3 arg4 arg5 arg6 arg7 arg8 arg9 arg10 arg11 arg12 arg13) (k0_part79 (F := F) i arg2 harg2 arg3 harg3 arg4 harg4 arg5 harg5 arg6 harg6 arg7 harg7 arg8 harg8 arg9 harg9 arg10 harg10 arg11 harg11 arg12 harg12 arg13 harg13 v2577 v2581 v2585 v2589 v2611 v2613 v2615 v2711 v2818 v2819 v2842) := by
  rw [k0_part79_eq_skeleton]; unfold k0_part79_skel
  exact S10 fun _ => L10 fun _ => S10 fun _ => L10 fun _ => L10 fun _ => L10 fun _ => L10 fun _ => L10 fun _ => L10 fun _ =>
    L10 fun _ => L10 fun _ => L10 fun _ => L10 fun _ => .pure

theorem safe_k0_part80 (v2593 : FVec F S8x128 .f32) (v2597 : FVec F S8x128 .f32) (v2601 : FVec F S8x128 .f32) (v2605 : FVec F S8x128 .f32) (v2609 : FVec F S8x128 .f32) (v2617 : FVec F S8x128 .f32) (v2619 : FVec F S8x128 .f32) (v2621 : FVec F S8x128 .f32) (v2623 : FVec F S8x128 .f32) (v2625 : FVec F S8x128 .f32) (v2627 : FVec F S8x128 .f32) (v2632 : FVec F S8x128 .f32) (v2675 : FVec F S8x128 .f32) (v2779 : FVec F S8x128 .f32) (v2782 : FVec F S8x128 .f32) (v2785 : FVec F S8x128 .f32) (v2788 : FVec F S8x128 .f32) (v2863 : Vec F S8x128 .f32) (v2864 : Vec F S8x128 .f32) (v2865 : Vec F S8x128 .f32) (v2866 : Vec F S8x128 .f32) (v2867 : Vec F S8x128 .f32) (v2868 : Vec F S8x128 .f32) (v2871 : FVec F S8x128 .f32) (v2874 : FVec F S8x128 .f32) (v2877 : FVec F S8x128 .f32) (v2878 : FVec F S8x128 .f32) :
    Safe (F := F) c (mems arg2 arg3 arg4 arg5 arg6 arg7 arg8 arg9 arg10 arg11 arg12 arg13) (k0_part80 (F := F) i arg2 harg2 arg3 harg3 arg4 harg4 arg5 harg5 arg6 harg6 arg7 harg7 arg8 harg8 arg9 harg9 arg10 harg10 arg11 harg11 arg12 harg12 arg13 harg13 v2593 v2597 v2601 v2605 v2609 v2617 v2619 v2621 v2623 v2625 v2627 v2632 v2675 v2779 v2782 v2785 v2788 v2863 v2864 v2865 v2866 v2867 v2868 v2871 v2874 v2877 v2878) := by
  rw [k0_part80_eq_skeleton]; unfold k0_part80_skel
  exact L11 fun _ => S11 fun _ => L11 fun _ => S11 fun _ => L11 fun _ => S11 fun _ => L11 fun _ => S11 fun _ => .pure

theorem safe_k0_part81 (v2632 : FVec F S8x128 .f32) (v2675 : FVec F S8x128 .f32) (v2791 : FVec F S8x128 .f32) (v2794 : FVec F S8x128 .f32) (v2797 : FVec F S8x128 .f32) (v2800 : FVec F S8x128 .f32) (v2803 : FVec F S8x128 .f32) (v2883 : FVec F S8x128 .f32) (v2886 : FVec F S8x128 .f32) (v2889 : FVec F S8x128 .f32) (v2892 : FVec F S8x128 .f32) (v2895 : FVec F S8x128 .f32) (v2926 : FVec F S8x128 .f32) :
    Safe (F := F) c (mems arg2 arg3 arg4 arg5 arg6 arg7 arg8 arg9 arg10 arg11 arg12 arg13) (k0_part81 (F := F) i arg2 harg2 arg3 harg3 arg4 harg4 arg5 harg5 arg6 harg6 arg7 harg7 arg8 harg8 arg9 harg9 arg10 harg10 arg11 harg11 arg12 harg12 arg13 harg13 v2632 v2675 v2791 v2794 v2797 v2800 v2803 v2883 v2886 v2889 v2892 v2895 v2926) := by
  rw [k0_part81_eq_skeleton]; unfold k0_part81_skel
  exact L11 fun _ => S11 fun _ => L11 fun _ => S11 fun _ => L11 fun _ => S11 fun _ => L11 fun _ => S11 fun _ => L11 fun _ =>
    S11 fun _ => L9 fun _ => .pure

theorem safe_k0_part82 (v2703 : IVec S8x128 1) (v2707 : IVec S8x128 1) (v2711 : IVec S8x128 32) (v2968 : IVec S8x128 32) :
    Safe (F := F) c (mems arg2 arg3 arg4 arg5 arg6 arg7 arg8 arg9 arg10 arg11 arg12 arg13) (k0_part82 (F := F) i arg2 harg2 arg3 harg3 arg4 harg4 arg5 harg5 arg6 harg6 arg7 harg7 arg8 harg8 arg9 harg9 arg10 harg10 arg11 harg11 arg12 harg12 arg13 harg13 v2703 v2707 v2711 v2968) := by
  rw [k0_part82_eq_skeleton]; unfold k0_part82_skel
  exact L9 fun _ => L9 fun _ => L9 fun _ => L10 fun _ => S10 fun _ => L10 fun _ => S10 fun _ => .pure

theorem safe_k0_part83 (v2577 : FVec F S8x128 .f32) (v2581 : FVec F S8x128 .f32) (v2585 : FVec F S8x128 .f32) (v2589 : FVec F S8x128 .f32) (v2593 : FVec F S8x128 .f32) (v2611 : FVec F S8x128 .f32) (v2613 : FVec F S8x128 .f32) (v2615 : FVec F S8x128 .f32) (v2617 : FVec F S8x128 .f32) (v2711 : IVec S8x128 32) (v2982 : IVec S8x128 32) (v3009 : IVec S8x128 32) :
    Safe (F := F) c (mems arg2 arg3 arg4 arg5 arg6 arg7 arg8 arg9 arg10 arg11 arg12 arg13) (k0_part83 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2611 v2613 v2615 v2617 v2711 v2982 v3009) := by
  rw [k0_part83_eq_skeleton]; unfold k0_part83_skel
  exact L10 fun _ => S10 fun _ => L10 fun _ => L10 fun _ => L10 fun _ => L10 fun _ => L10 fun _ => L10 fun _ => L10 fun _ =>
    L10 fun _ => L10 fun _ => L10 fun _ => .pure

theorem safe_k0_part84 (v2597 : FVec F S8x128 .f32) (v2601 : FVec F S8x128 .f32) (v2605 : FVec F S8x128 .f32) (v2609 : FVec F S8x128 .f32) (v2619 : FVec F S8x128 .f32) (v2621 : FVec F S8x128 .f32) (v2623 : FVec F S8x128 .f32) (v2625 : FVec F S8x128 .f32) (v2627 : FVec F S8x128 .f32) (v2637 : FVec F S8x128 .f32) (v2678 : FVec F S8x128 .f32) (v2871 : FVec F S8x128 .f32) (v2874 : FVec F S8x128 .f32) (v2877 : FVec F S8x128 .f32) (v2880 : FVec F S8x128 .f32) (v2883 : FVec F S8x128 .f32) (v2966 : FVec F S8x128 .f32) (v3027 : Vec F S8x128 .f32) (v3028 : Vec F S8x128 .f32) (v3029 : Vec F S8x128 .f32) (v3030 : Vec F S8x128 .f32) (v3031 : Vec F S8x128 .f32) (v3034 : FVec F S8x128 .f32) (v3037 : FVec F S8x128 .f32) (v3040 : FVec F S8x128 .f32) (v3043 : FVec F S8x128 .f32) (v3044 : FVec F S8x128 .f32) :
    Safe (F := F) c (mems arg2 arg3 arg4 arg5 arg6 arg7 arg8 arg9 arg10 arg11 arg12 arg13) (k0_part84 (F := F) i arg2 harg2 arg3 harg3 arg4 harg4 arg5 harg5 arg6 harg6 arg7 harg7 arg8 harg8 arg9 harg9 arg10 harg10 arg11 harg11 arg12 harg12 arg13 harg13 v2597 v2601 v2605 v2609 v2619 v2621 v2623 v2625 v2627 v2637 v2678 v2871 v2874 v2877 v2880 v2883 v2966 v3027 v3028 v3029 v3030 v3031 v3034 v3037 v3040 v3043 v3044) := by
  rw [k0_part84_eq_skeleton]; unfold k0_part84_skel
  exact L11 fun _ => S11 fun _ => L11 fun _ => S11 fun _ => L11 fun _ => S11 fun _ => L11 fun _ => S11 fun _ => .pure

theorem safe_k0_part85 (v2637 : FVec F S8x128 .f32) (v2678 : FVec F S8x128 .f32) (v2886 : FVec F S8x128 .f32) (v2889 : FVec F S8x128 .f32) (v2892 : FVec F S8x128 .f32) (v2895 : FVec F S8x128 .f32) (v3049 : FVec F S8x128 .f32) (v3052 : FVec F S8x128 .f32) (v3055 : FVec F S8x128 .f32) (v3058 : FVec F S8x128 .f32) (v3090 : FVec F S8x128 .f32) (v3091 : FVec F S8x128 .f32) (v3092 : FVec F S8x128 .f32) :
    Safe (F := F) c (mems arg2 arg3 arg4 arg5 arg6 arg7 arg8 arg9 arg10 arg11 arg12 arg13) (k0_part85 (F := F) i arg2 harg2 arg3 harg3 arg4 harg4 arg5 harg5 arg6 harg6 arg7 harg7 arg8 harg8 arg9 harg9 arg10 harg10 arg11 harg11 arg12 harg12 arg13 harg13 v2637 v2678 v2886 v2889 v2892 v2895 v3049 v3052 v3055 v3058 v3090 v3091 v3092) := by
  rw [k0_part85_eq_skeleton]; unfold k0_part85_skel
  exact L11 fun _ => S11 fun _ => L11 fun _ => S11 fun _ => L11 fun _ => S11 fun _ => L11 fun _ => S11 fun _ => L11 fun _ =>
    S11 fun _ => L9 fun _ => .pure

theorem safe_k0_part86 (v2703 : IVec S8x128 1) (v2707 : IVec S8x128 1) (v2711 : IVec S8x128 32) (v3132 : IVec S8x128 32) :
    Safe (F := F) c (mems arg2 arg3 arg4 arg5 arg6 arg7 arg8 arg9 arg10 arg11 arg12 arg13) (k0_part86 (F := F) i arg2 harg2 arg3 harg3 arg4 harg4 arg5 harg5 arg6 harg6 arg7 harg7 arg8 harg8 arg9 harg9 arg10 harg10 arg11 harg11 arg12 harg12 arg13 harg13 v2703 v2707 v2711 v3132) := by
  rw [k0_part86_eq_skeleton]; unfold k0_part86_skel
  exact L9 fun _ => L9 fun _ => L9 fun _ => L10 fun _ => S10 fun _ => L10 fun _ => S10 fun _ => .pure

theorem safe_k0_part87 (v2577 : FVec F S8x128 .f32) (v2581 : FVec F S8x128 .f32) (v2585 : FVec F S8x128 .f32) (v2589 : FVec F S8x128 .f32) (v2593 : FVec F S8x128 .f32) (v2611 : FVec F S8x128 .f32) (v2613 : FVec F S8x128 .f32) (v2615 : FVec F S8x128 .f32) (v2617 : FVec F S8x128 .f32) (v2619 : FVec F S8x128 .f32) (v2711 : IVec S8x128 32) (v3146 : IVec S8x128 32) (v3173 : IVec S8x128 32) (v3174 : IVec S8x128 32) :
    Safe (F := F) c (mems arg2 arg3 arg4 arg5 arg6 arg7 arg8 arg9 arg10 arg11 arg12 arg13) (k0_part87 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2611 v2613 v2615 v2617 v2619 v2711 v3146 v3173 v3174) := by
  rw [k0_part87_eq_skeleton]; unfold k0_part87_skel
  exact L10 fun _ => S10 fun _ => L10 fun _ => L10 fun _ => L10 fun _ => L10 fun _ => L10 fun _ => L10 fun _ => L10 fun _ =>
    L10 fun _ => L10 fun _ => L10 fun _ => .pure

theorem safe_k0_part88 (v2597 : FVec F S8x128 .f32) (v2601 : FVec F S8x128 .f32) (v2605 : FVec F S8x128 .f32) (v2609 : FVec F S8x128 .f32) (v2621 : FVec F S8x128 .f32) (v2623 : FVec F S8x128 .f32) (v2625 : FVec F S8x128 .f32) (v2627 : FVec F S8x128 .f32) (v2642 : FVec F S8x128 .f32) (v2681 : FVec F S8x128 .f32) (v3034 : FVec F S8x128 .f32) (v3037 : FVec F S8x128 .f32) (v3040 : FVec F S8x128 .f32) (v3043 : FVec F S8x128 .f32) (v3046 : FVec F S8x128 .f32) (v3130 : FVec F S8x128 .f32) (v3191 : Vec F S8x128 .f32) (v3192 : Vec F S8x128 .f32) (v3193 : Vec F S8x128 .f32) (v3194 : Vec F S8x128 .f32) (v3195 : Vec F S8x128 .f32) (v3198 : FVec F S8x128 .f32) (v3201 : FVec F S8x128 .f32) (v3204 : FVec F S8x128 .f32) (v3207 : FVec F S8x128 .f32) (v3210 : FVec F S8x128 .f32) :
    Safe (F := F) c (mems arg2 arg3 arg4 arg5 arg6 arg7 arg8 arg9 arg10 arg11 arg12 arg13) (k0_part88 (F := F) i arg2 harg2 arg3 harg3 arg4 harg4 arg5 harg5 arg6 harg6 arg7 harg7 arg8 harg8 arg9 harg9 arg10 harg10 arg11 harg11 arg12 harg12 arg13 harg13 v2597 v2601 v2605 v2609 v2621 v2623 v2625 v2627 v2642 v2681 v3034 v3037 v3040 v3043 v3046 v3130 v3191 v3192 v3193 v3194 v3195 v3198 v3201 v3204 v3207 v3210) := by
  rw [k0_part88_eq_skeleton]; unfold k0_part88_skel
  exact L11 fun _ => S11 fun _ => L11 fun _ => S11 fun _ => L11 fun _ => S11 fun _ => L11 fun _ => S11 fun _ => .pure

theorem safe_k0_part89 (v2642 : FVec F S8x128 .f32) (v2681 : FVec F S8x128 .f32) (v3049 : FVec F S8x128 .f32) (v3052 : FVec F S8x128 .f32) (v3055 : FVec F S8x128 .f32) (v3058 : FVec F S8x128 .f32) (v3213 : FVec F S8x128 .f32) (v3216 : FVec F S8x128 .f32) (v3219 : FVec F S8x128 .f32) (v3222 : FVec F S8x128 .f32) (v3254 : FVec F S8x128 .f32) (v3257 : FVec F S8x128 .f32) :
    Safe (F := F) c (mems arg2 arg3 arg4 arg5 arg6 arg7 arg8 arg9 arg10 arg11 arg12 arg13) (k0_part89 (F := F) i arg2 harg2 arg3 harg3 arg4 harg4 arg5 harg5 arg6 harg6 arg7 harg7 arg8 harg8 arg9 harg9 arg10 harg10 arg11 harg11 arg12 harg12 arg13 harg13 v2642 v2681 v3049 v3052 v3055 v3058 v3213 v3216 v3219 v3222 v3254 v3257) := by
  rw [k0_part89_eq_skeleton]; unfold k0_part89_skel
  exact L11 fun _ => S11 fun _ => L11 fun _ => S11 fun _ => L11 fun _ => S11 fun _ => L11 fun _ => S11 fun _ => L11 fun _ =>
    S11 fun _ => L9 fun _ => L9 fun _ => .pure

theorem safe_k0_part90 (v2703 : IVec S8x128 1) (v2707 : IVec S8x128 1) (v2711 : IVec S8x128 32) (v3296 : IVec S8x128 32) (v3297 : Vec F S1x8x128 .i32) :
    Safe (F := F) c (mems arg2 arg3 arg4 arg5 arg6 arg7 arg8 arg9 arg10 arg11 arg12 arg13) (k0_part90 (F := F) i arg2 harg2 arg3 harg3 arg4 harg4 arg5 harg5 arg6 harg6 arg7 harg7 arg8 harg8 arg9 harg9 arg10 harg10 arg11 harg11 arg12 harg12 arg13 harg13 v2703 v2707 v2711 v3296 v3297) := by
  rw [k0_part90_eq_skeleton]; unfold k0_part90_skel
  exact L9 fun _ => L9 fun _ => L10 fun _ => S10 fun _ => L10 fun _ => S10 fun _ => .pure

theorem safe_k0_part91 (v2577 : FVec F S8x128 .f32) (v2581 : FVec F S8x128 .f32) (v2585 : FVec F S8x128 .f32) (v2589 : FVec F S8x128 .f32) (v2593 : FVec F S8x128 .f32) (v2597 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2711 : IVec S8x128 32) (v3337 : IVec S8x128 32) (v3339 : IVec S8x128 32) (c24_i32_1597 : BitVec 32) :
    Safe (F := F) c (mems arg2 arg3 arg4 arg5 arg6 arg7 arg8 arg9 arg10 arg11 arg12 arg13) (k0_part91 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2611 v2613 v2615 v2617 v2619 v2621 v2711 v3337 v3339 c24_i32_1597) := by
  rw [k0_part91_eq_skeleton]; unfold k0_part91_skel
  exact L10 fun _ => S10 fun _ => L10 fun _ => L10 fun _ => L10 fun _ => L10 fun _ => L10 fun _ => L10 fun _ => L10 fun _ =>
    L10 fun _ => L10 fun _ => L10 fun _ => .pure

theorem safe_k0_part92 (v2601 : FVec F S8x128 .f32) (v2605 : FVec F S8x128 .f32) (v2609 : FVec F S8x128 .f32) (v2623 : FVec F S8x128 .f32) (v2625 : FVec F S8x128 .f32) (v2627 : FVec F S8x128 .f32) (v2647 : FVec F S8x128 .f32) (v2684 : FVec F S8x128 .f32) (v3198 : FVec F S8x128 .f32) (v3201 : FVec F S8x128 .f32) (v3204 : FVec F S8x128 .f32) (v3207 : FVec F S8x128 .f32) (v3210 : FVec F S8x128 .f32) (v3294 : FVec F S8x128 .f32) (v3356 : Vec F S8x128 .f32) (v3357 : Vec F S8x128 .f32) (v3358 : Vec F S8x128 .f32) (v3359 : Vec F S8x128 .f32) (v3362 : FVec F S8x128 .f32) (v3365 : FVec F S8x128 .f32) (v3368 : FVec F S8x128 .f32) (v3371 : FVec F S8x128 .f32) (v3374 : FVec F S8x128 .f32) (v3375 : FVec F S8x128 .f32) (v3376 : FVec F S8x128 .f32) :
    Safe (F := F) c (mems arg2 arg3 arg4 arg5 arg6 arg7 arg8 arg9 arg10 arg11 arg12 arg13) (k0_part92 (F := F) i arg2 harg2 arg3 harg3 arg4 harg4 arg5 harg5 arg6 harg6 arg7 harg7 arg8 harg8 arg9 harg9 arg10 harg10 arg11 harg11 arg12 harg12 arg13 harg13 v2601 v2605 v2609 v2623 v2625 v2627 v2647 v2684 v3198 v3201 v3204 v3207 v3210 v3294 v3356 v3357 v3358 v3359 v3362 v3365 v3368 v3371 v3374 v3375 v3376) := by
  rw [k0_part92_eq_skeleton]; unfold k0_part92_skel
  exact L11 fun _ => S11 fun _ => L11 fun _ => S11 fun _ => L11 fun _ => S11 fun _ => L11 fun _ => S11 fun _ => L11 fun _ => .pure

theorem safe_k0_part93 (v2647 : FVec F S8x128 .f32) (v2684 : FVec F S8x128 .f32) (v3213 : FVec F S8x128 .f32) (v3216 : FVec F S8x128 .f32) (v3219 : FVec F S8x128 .f32) (v3222 : FVec F S8x128 .f32) (v3377 : FVec F S8x128 .f32) (v3380 : FVec F S8x128 .f32) (v3383 : FVec F S8x128 .f32) (v3386 : FVec F S8x128 .f32) (v3418 : FVec F S8x128 .f32) (v3421 : FVec F S8x128 .f32) (v3422 : Vec F S8x128 .f32) :
    Safe (F := F) c (mems arg2 arg3 arg4 arg5 arg6 arg7 arg8 arg9 arg10 arg11 arg12 arg13) (k0_part93 (F := F) i arg2 harg2 arg3 harg3 arg4 harg4 arg5 harg5 arg6 harg6 arg7 harg7 arg8 harg8 arg9 harg9 arg10 harg10 arg11 harg11 arg12 harg12 arg13 harg13 v2647 v2684 v3213 v3216 v3219 v3222 v3377 v3380 v3383 v3386 v3418 v3421 v3422) := by
  rw [k0_part93_eq_skeleton]; unfold k0_part93_skel
  exact S11 fun _ => L11 fun _ => S11 fun _ => L11 fun _ => S11 fun _ => L11 fun _ => S11 fun _ => L11 fun _ => S11 fun _ =>
    L9 fun _ => L9 fun _ => .pure

theorem safe_k0_part94 (v2703 : IVec S8x128 1) (v2707 : IVec S8x128 1) (v2711 : IVec S8x128 32) (v3460 : IVec S8x128 32) (v3462 : IVec S8x128 32) :
    Safe (F := F) c (mems arg2 arg3 arg4 arg5 arg6 arg7 arg8 arg9 arg10 arg11 arg12 arg13) (k0_part94 (F := F) i arg2 harg2 arg3 harg3 arg4 harg4 arg5 harg5 arg6 harg6 arg7 harg7 arg8 harg8 arg9 harg9 arg10 harg10 arg11 harg11 arg12 harg12 arg13 harg13 v2703 v2707 v2711 v3460 v3462) := by
  rw [k0_part94_eq_skeleton]; unfold k0_part94_skel
  exact L9 fun _ => L9 fun _ => L10 fun _ => S10 fun _ => L10 fun _ => S10 fun _ => .pure

theorem safe_k0_part95 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v3501 : IVec S8x128 32) (v3503 : IVec S8x128 32) (v3505 : IVec S8x128 32) :
    Safe (F := F) c (mems arg2 arg3 arg4 arg5 arg6 arg7 arg8 arg9 arg10 arg11 arg12 arg13) (k0_part95 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2611 v2613 v2615 v2617 v2619 v2621 v3501 v3503 v3505) := by
  rw [k0_part95_eq_skeleton]; unfold k0_part95_skel
  exact L10 fun _ => S10 fun _ => L10 fun _ => L10 fun _ => L10 fun _ => L10 fun _ => L10 fun _ => L10 fun _ => L10 fun _ =>
    L10 fun _ => L10 fun _ => L10 fun _ => .pure

theorem safe_k0_part96 (v2605 : FVec F S8x128 .f32) (v2609 : FVec F S8x128 .f32) (v2623 : FVec F S8x128 .f32) (v2625 : FVec F S8x128 .f32) (v2627 : FVec F S8x128 .f32) (v2652 : FVec F S8x128 .f32) (v2687 : FVec F S8x128 .f32) (v3362 : FVec F S8x128 .f32) (v3365 : FVec F S8x128 .f32) (v3368 : FVec F S8x128 .f32) (v3371 : FVec F S8x128 .f32) (v3374 : FVec F S8x128 .f32) (v3458 : FVec F S8x128 .f32) (v3521 : Vec F S8x128 .f32) (v3522 : Vec F S8x128 .f32) (v3523 : Vec F S8x128 .f32) (v3526 : FVec F S8x128 .f32) (v3529 : FVec F S8x128 .f32) (v3532 : FVec F S8x128 .f32) (v3535 : FVec F S8x128 .f32) (v3538 : FVec F S8x128 .f32) (v3542 : FVec F S8x128 .f32) :
    Safe (F := F) c (mems arg2 arg3 arg4 arg5 arg6 arg7 arg8 arg9 arg10 arg11 arg12 arg13) (k0_part96 (F := F) i arg2 harg2 arg3 harg3 arg4 harg4 arg5 harg5 arg6 harg6 arg7 harg7 arg8 harg8 arg9 harg9 arg10 harg10 arg11 harg11 arg12 harg12 arg13 harg13 v2605 v2609 v2623 v2625 v2627 v2652 v2687 v3362 v3365 v3368 v3371 v3374 v3458 v3521 v3522 v3523 v3526 v3529 v3532 v3535 v3538 v3542) := by
  rw [k0_part96_eq_skeleton]; unfold k0_part96_skel
  exact L11 fun _ => S11 fun _ => L11 fun _ => S11 fun _ => L11 fun _ => S11 fun _ => L11 fun _ => S11 fun _ => L11 fun _ => .pure

theorem safe_k0_part97 (v2652 : FVec F S8x128 .f32) (v2687 : FVec F S8x128 .f32) (v3377 : FVec F S8x128 .f32) (v3380 : FVec F S8x128 .f32) (v3383 : FVec F S8x128 .f32) (v3386 : FVec F S8x128 .f32) (v3541 : FVec F S8x128 .f32) (v3544 : FVec F S8x128 .f32) (v3547 : FVec F S8x128 .f32) (v3550 : FVec F S8x128 .f32) (v3582 : FVec F S8x128 .f32) (v3585 : FVec F S8x128 .f32) (v3588 : FVec F S8x128 .f32) :
    Safe (F := F) c (mems arg2 arg3 arg4 arg5 arg6 arg7 arg8 arg9 arg10 arg11 arg12 arg13) (k0_part97 (F := F) i arg2 harg2 arg3 harg3 arg4 harg4 arg5 harg5 arg6 harg6 arg7 harg7 arg8 harg8 arg9 harg9 arg10 harg10 arg11 harg11 arg12 harg12 arg13 harg13 v2652 v2687 v3377 v3380 v3383 v3386 v3541 v3544 v3547 v3550 v3582 v3585 v3588) := by
  rw [k0_part97_eq_skeleton]; unfold k0_part97_skel
  exact S11 fun _ => L11 fun _ => S11 fun _ => L11 fun _ => S11 fun _ => L11 fun _ => S11 fun _ => L11 fun _ => S11 fun _ =>
    L9 fun _ => L9 fun _ => .pure

theorem safe_k0_part98 (v2703 : IVec S8x128 1) (v2707 : IVec S8x128 1) (v2711 : IVec S8x128 32) (v3624 : IVec S8x128 32) (v3626 : IVec S8x128 32) :
    Safe (F := F) c (mems arg2 arg3 arg4 arg5 arg6 arg7 arg8 arg9 arg10 arg11 arg12 arg13) (k0_part98 (F := F) i arg2 harg2 arg3 harg3 arg4 harg4 arg5 harg5 arg6 harg6 arg7 harg7 arg8 harg8 arg9 harg9 arg10 harg10 arg11 harg11 arg12 harg12 arg13 harg13 v2703 v2707 v2711 v3624 v3626) := by
  rw [k0_part98_eq_skeleton]; unfold k0_part98_skel
  exact L9 fun _ => L9 fun _ => L10 fun _ => S10 fun _ => L10 fun _ => S10 fun _ => .pure

theorem safe_k0_part99 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v3671 : IVec S8x128 32) :
    Safe (F := F) c (mems arg2 arg3 arg4 arg5 arg6 arg7 arg8 arg9 arg10 arg11 arg12 arg13) (k0_part99 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2611 v2613 v2615 v2617 v2619 v2621 v2623 v3671) := by
  rw [k0_part99_eq_skeleton]; unfold k0_part99_skel
  exact L10 fun _ => S10 fun _ => L10 fun _ => L10 fun _ => L10 fun _ => L10 fun _ => L10 fun _ => L10 fun _ => L10 fun _ =>
    L10 fun _ => L10 fun _ => L10 fun _ => .pure

theorem safe_k0_part100 (v2605 : FVec F S8x128 .f32) (v2609 : FVec F S8x128 .f32) (v2625 : FVec F S8x128 .f32) (v2627 : FVec F S8x128 .f32) (v2657 : FVec F S8x128 .f32) (v2690 : FVec F S8x128 .f32) (v3526 : FVec F S8x128 .f32) (v3529 : FVec F S8x128 .f32) (v3532 : FVec F S8x128 .f32) (v3535 : FVec F S8x128 .f32) (v3538 : FVec F S8x128 .f32) (v3622 : FVec F S8x128 .f32) (v3685 : Vec F S8x128 .f32) (v3686 : Vec F S8x128 .f32) (v3687 : Vec F S8x128 .f32) (v3690 : FVec F S8x128 .f32) (v3693 : FVec F S8x128 .f32) (v3696 : FVec F S8x128 .f32) (v3699 : FVec F S8x128 .f32) (v3702 : FVec F S8x128 .f32) :
    Safe (F := F) c (mems arg2 arg3 arg4 arg5 arg6 arg7 arg8 arg9 arg10 arg11 arg12 arg13) (k0_part100 (F := F) i arg2 harg2 arg3 harg3 arg4 harg4 arg5 harg5 arg6 harg6 arg7 harg7 arg8 harg8 arg9 harg9 arg10 harg10 arg11 harg11 arg12 harg12 arg13 harg13 v2605 v2609 v2625 v2627 v2657 v2690 v3526 v3529 v3532 v3535 v3538 v3622 v3685 v3686 v3687 v3690 v3693 v3696 v3699 v3702) := by
  rw [k0_part100_eq_skeleton]; unfold k0_part100_skel
  exact L11 fun _ => S11 fun _ => L11 fun _ => S11 fun _ => L11 fun _ => S11 fun _ => L11 fun _ => S11 fun _ => L11 fun _ =>
    S11 fun _ => .pure

theorem safe_k0_part101 (v2657 : FVec F S8x128 .f32) (v2690 : FVec F S8x128 .f32) (v3541 : FVec F S8x128 .f32) (v3544 : FVec F S8x128 .f32) (v3547 : FVec F S8x128 .f32) (v3550 : FVec F S8x128 .f32) (v3705 : FVec F S8x128 .f32) (v3708 : FVec F S8x128 .f32) (v3711 : FVec F S8x128 .f32) (v3714 : FVec F S8x128 .f32) (v3746 : FVec F S8x128 .f32) (v3753 : FVec F S8x128 .f32) :
    Safe (F := F) c (mems arg2 arg3 arg4 arg5 arg6 arg7 arg8 arg9 arg10 arg11 arg12 arg13) (k0_part101 (F := F) i arg2 harg2 arg3 harg3 arg4 harg4 arg5 harg5 arg6 harg6 arg7 harg7 arg8 harg8 arg9 harg9 arg10 harg10 arg11 harg11 arg12 harg12 arg13 harg13 v2657 v2690 v3541 v3544 v3547 v3550 v3705 v3708 v3711 v3714 v3746 v3753) := by
  rw [k0_part101_eq_skeleton]; unfold k0_part101_skel
  exact L11 fun _ => S11 fun _ => L11 fun _ => S11 fun _ => L11 fun _ => S11 fun _ => L11 fun _ => S11 fun _ => L9 fun _ =>
    L9 fun _ => L9 fun _ => .pure

theorem safe_k0_part102 (v2703 : IVec S8x128 1) (v2707 : IVec S8x128 1) (v2711 : IVec S8x128 32) (v3788 : IVec S8x128 32) (v3790 : IVec S8x128 32) (v3792 : IVec S8x128 32) :
    Safe (F := F) c (mems arg2 arg3 arg4 arg5 arg6 arg7 arg8 arg9 arg10 arg11 arg12 arg13) (k0_part102 (F := F) i arg2 harg2 arg3 harg3 arg4 harg4 arg5 harg5 arg6 harg6 arg7 harg7 arg8 harg8 arg9 harg9 arg10 harg10 arg11 harg11 arg12 harg12 arg13 harg13 v2703 v2707 v2711 v3788 v3790 v3792) := by
  rw [k0_part102_eq_skeleton]; unfold k0_part102_skel
  exact L9 fun _ => L10 fun _ => S10 fun _ => L10 fun _ => S10 fun _ => .pure

theorem safe_k0_part103 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2605 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v2625 : FVec F S8x128 .f32) (v3837 : FVec F S32x128 .bf16) :
    Safe (F := F) c (mems arg2 arg3 arg4 arg5 arg6 arg7 arg8 arg9 arg10 arg11 arg12 arg13) (k0_part103 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2605 v2611 v2613 v2615 v2617 v2619 v2621 v2623 v2625 v3837) := by
  rw [k0_part103_eq_skeleton]; unfold k0_part103_skel
  exact L10 fun _ => S10 fun _ => L10 fun _ => L10 fun _ => L10 fun _ => L10 fun _ => L10 fun _ => L10 fun _ => L10 fun _ =>
    L10 fun _ => L10 fun _ => L10 fun _ => .pure

theorem safe_k0_part104 (v2609 : FVec F S8x128 .f32) (v2627 : FVec F S8x128 .f32) (v2662 : FVec F S8x128 .f32) (v2693 : FVec F S8x128 .f32) (v3690 : FVec F S8x128 .f32) (v3693 : FVec F S8x128 .f32) (v3696 : FVec F S8x128 .f32) (v3699 : FVec F S8x128 .f32) (v3702 : FVec F S8x128 .f32) (v3705 : FVec F S8x128 .f32) (v3786 : FVec F S8x128 .f32) (v3850 : Vec F S8x128 .f32) (v3851 : Vec F S8x128 .f32) (v3854 : FVec F S8x128 .f32) (v3857 : FVec F S8x128 .f32) (v3860 : FVec F S8x128 .f32) (v3863 : FVec F S8x128 .f32) (v3866 : FVec F S8x128 .f32) (v3873 : FVec F S8x128 .f32) (v3874 : FVec F S8x128 .f32) :
    Safe (F := F) c (mems arg2 arg3 arg4 arg5 arg6 arg7 arg8 arg9 arg10 arg11 arg12 arg13) (k0_part104 (F := F) i arg2 harg2 arg3 harg3 arg4 harg4 arg5 harg5 arg6 harg6 arg7 harg7 arg8 harg8 arg9 harg9 arg10 harg10 arg11 harg11 arg12 harg12 arg13 harg13 v2609 v2627 v2662 v2693 v3690 v3693 v3696 v3699 v3702 v3705 v3786 v3850 v3851 v3854 v3857 v3860 v3863 v3866 v3873 v3874) := by
  rw [k0_part104_eq_skeleton]; unfold k0_part104_skel
  exact L11 fun _ => S11 fun _ => L11 fun _ => S11 fun _ => L11 fun _ => S11 fun _ => L11 fun _ => S11 fun _ => L11 fun _ =>
    S11 fun _ => .pure

theorem safe_k0_part105 (v2662 : FVec F S8x128 .f32) (v2693 : FVec F S8x128 .f32) (v3708 : FVec F S8x128 .f32) (v3711 : FVec F S8x128 .f32) (v3714 : FVec F S8x128 .f32) (v3869 : FVec F S8x128 .f32) (v3872 : FVec F S8x128 .f32) (v3875 : FVec F S8x128 .f32) (v3878 : FVec F S8x128 .f32) (v3918 : FVec F S8x128 .f32) (v3919 : FVec F S8x128 .f32) :
    Safe (F := F) c (mems arg2 arg3 arg4 arg5 arg6 arg7 arg8 arg9 arg10 arg11 arg12 arg13) (k0_part105 (F := F) i arg2 harg2 arg3 harg3 arg4 harg4 arg5 harg5 arg6 harg6 arg7 harg7 arg8 harg8 arg9 harg9 arg10 harg10 arg11 harg11 arg12 harg12 arg13 harg13 v2662 v2693 v3708 v3711 v3714 v3869 v3872 v3875 v3878 v3918 v3919) := by
  rw [k0_part105_eq_skeleton]; unfold k0_part105_skel
  exact L11 fun _ => S11 fun _ => L11 fun _ => S11 fun _ => L11 fun _ => S11 fun _ => L11 fun _ => S11 fun _ => L9 fun _ =>
    L9 fun _ => L9 fun _ => .pure

theorem safe_k0_part106 (v2703 : IVec S8x128 1) (v2707 : IVec S8x128 1) (v2711 : IVec S8x128 32) (v3952 : IVec S8x128 32) (v3954 : IVec S8x128 32) (v3956 : IVec S8x128 32) :
    Safe (F := F) c (mems arg2 arg3 arg4 arg5 arg6 arg7 arg8 arg9 arg10 arg11 arg12 arg13) (k0_part106 (F := F) i arg2 harg2 arg3 harg3 arg4 harg4 arg5 harg5 arg6 harg6 arg7 harg7 arg8 harg8 arg9 harg9 arg10 harg10 arg11 harg11 arg12 harg12 arg13 harg13 v2703 v2707 v2711 v3952 v3954 v3956) := by
  rw [k0_part106_eq_skeleton]; unfold k0_part106_skel
  exact L9 fun _ => L10 fun _ => S10 fun _ => L10 fun _ => S10 fun _ => .pure

theorem safe_k0_part107 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2605 : FVec F S8x128 .f32) (v2609 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v2625 : FVec F S8x128 .f32) (v4002 : FVec F S32x128 .f32) :
    Safe (F := F) c (mems arg2 arg3 arg4 arg5 arg6 arg7 arg8 arg9 arg10 arg11 arg12 arg13) (k0_part107 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2605 v2609 v2611 v2613 v2615 v2617 v2619 v2621 v2623 v2625 v4002) := by
  rw [k0_part107_eq_skeleton]; unfold k0_part107_skel
  exact L10 fun _ => S10 fun _ => L10 fun _ => L10 fun _ => L10 fun _ => L10 fun _ => L10 fun _ => L10 fun _ => L10 fun _ =>
    L10 fun _ => L10 fun _ => L10 fun _ => .pure

theorem safe_k0_part108 (v2627 : FVec F S8x128 .f32) (v2667 : FVec F S8x128 .f32) (v2696 : FVec F S8x128 .f32) (v3854 : FVec F S8x128 .f32) (v3857 : FVec F S8x128 .f32) (v3860 : FVec F S8x128 .f32) (v3863 : FVec F S8x128 .f32) (v3866 : FVec F S8x128 .f32) (v3869 : FVec F S8x128 .f32) (v3950 : FVec F S8x128 .f32) (v4015 : Vec F S8x128 .f32) (v4018 : FVec F S8x128 .f32) (v4021 : FVec F S8x128 .f32) (v4024 : FVec F S8x128 .f32) (v4027 : FVec F S8x128 .f32) (v4030 : FVec F S8x128 .f32) (v4033 : FVec F S8x128 .f32) (v4040 : FVec F S8x128 .f32) :
    Safe (F := F) c (mems arg2 arg3 arg4 arg5 arg6 arg7 arg8 arg9 arg10 arg11 arg12 arg13) (k0_part108 (F := F) i arg2 harg2 arg3 harg3 arg4 harg4 arg5 harg5 arg6 harg6 arg7 harg7 arg8 harg8 arg9 harg9 arg10 harg10 arg11 harg11 arg12 harg12 arg13 harg13 v2627 v2667 v2696 v3854 v3857 v3860 v3863 v3866 v3869 v3950 v4015 v4018 v4021 v4024 v4027 v4030 v4033 v4040) := by
  rw [k0_part108_eq_skeleton]; unfold k0_part108_skel
  exact L11 fun _ => S11 fun _ => L11 fun _ => S11 fun _ => L11 fun _ => S11 fun _ => L11 fun _ => S11 fun _ => L11 fun _ =>
    S11 fun _ => .pure

theorem safe_k0_part109 (v2667 : FVec F S8x128 .f32) (v2696 : FVec F S8x128 .f32) (v3872 : FVec F S8x128 .f32) (v3875 : FVec F S8x128 .f32) (v3878 : FVec F S8x128 .f32) (v4036 : FVec F S8x128 .f32) (v4039 : FVec F S8x128 .f32) (v4042 : FVec F S8x128 .f32) (v4082 : FVec F S8x128 .f32) (v4085 : FVec F S8x128 .f32) :
    Safe (F := F) c (mems arg2 arg3 arg4 arg5 arg6 arg7 arg8 arg9 arg10 arg11 arg12 arg13) (k0_part109 (F := F) i arg2 harg2 arg3 harg3 arg4 harg4 arg5 harg5 arg6 harg6 arg7 harg7 arg8 harg8 arg9 harg9 arg10 harg10 arg11 harg11 arg12 harg12 arg13 harg13 v2667 v2696 v3872 v3875 v3878 v4036 v4039 v4042 v4082 v4085) := by
  rw [k0_part109_eq_skeleton]; unfold k0_part109_skel
  exact L11 fun _ => S11 fun _ => L11 fun _ => S11 fun _ => L11 fun _ => S11 fun _ => L11 fun _ => S11 fun _ => L9 fun _ =>
    L9 fun _ => L9 fun _ => L9 fun _ => .pure

theorem safe_k0_part110 (v2703 : IVec S8x128 1) (v2707 : IVec S8x128 1) (v2711 : IVec S8x128 32) (v4116 : IVec S8x128 32) (v4118 : IVec S8x128 32) (v4120 : IVec S8x128 32) (v4121 : Vec F S1x8x128 .i32) :
    Safe (F := F) c (mems arg2 arg3 arg4 arg5 arg6 arg7 arg8 arg9 arg10 arg11 arg12 arg13) (k0_part110 (F := F) i arg2 harg2 arg3 harg3 arg4 harg4 arg5 harg5 arg6 harg6 arg7 harg7 arg8 harg8 arg9 harg9 arg10 harg10 arg11 harg11 arg12 harg12 arg13 harg13 v2703 v2707 v2711 v4116 v4118 v4120 v4121) := by
  rw [k0_part110_eq_skeleton]; unfold k0_part110_skel
  exact L10 fun _ => S10 fun _ => L10 fun _ => S10 fun _ => L10 fun _ => .pure

theorem safe_k0_part111 (v2577 : FVec F S8x128 .f32) (v2581 : FVec F S8x128 .f32) (v2585 : FVec F S8x128 .f32) (v2589 : FVec F S8x128 .f32) (v2593 : FVec F S8x128 .f32) (v2597 : FVec F S8x128 .f32) (v2601 : FVec F S8x128 .f32) (v2605 : FVec F S8x128 .f32) (v2609 : FVec F S8x128 .f32) (v2611 : FVec F S8x128 .f32) (v2613 : FVec F S8x128 .f32) (v2615 : FVec F S8x128 .f32) (v2617 : FVec F S8x128 .f32) (v2619 : FVec F S8x128 .f32) (v2621 : FVec F S8x128 .f32) (v2623 : FVec F S8x128 .f32) (v2625 : FVec F S8x128 .f32) (v2627 : FVec F S8x128 .f32) (v4166 : FVec F S32x128 .f32) (v4167 : Vec F S32x128 .f32) :
    Safe (F := F) c (mems arg2 arg3 arg4 arg5 arg6 arg7 arg8 arg9 arg10 arg11 arg12 arg13) (k0_part111 (F := F) i arg2 harg2 arg3 harg3 arg4 harg4 arg5 harg5 arg6 harg6 arg7 harg7 arg8 harg8 arg9 harg9 arg10 harg10 arg11 harg11 arg12 harg12 arg13 harg13 v2577 v2581 v2585 v2589 v2593 v2597 v2601 v2605 v2609 v2611 v2613 v2615 v2617 v2619 v2621 v2623 v2625 v2627 v4166 v4167) := by
  rw [k0_part111_eq_skeleton]; unfold k0_part111_skel
  exact S10 fun _ => L10 fun _ => L10 fun _ => L10 fun _ => L10 fun _ => L10 fun _ => L10 fun _ => L10 fun _ => L10 fun _ =>
    L10 fun _ => L10 fun _ => .pure

theorem safe_k0_part112 (v2672 : FVec F S8x128 .f32) (v2699 : FVec F S8x128 .f32) (v4018 : FVec F S8x128 .f32) (v4021 : FVec F S8x128 .f32) (v4024 : FVec F S8x128 .f32) (v4027 : FVec F S8x128 .f32) (v4030 : FVec F S8x128 .f32) (v4033 : FVec F S8x128 .f32) (v4114 : FVec F S8x128 .f32) (v4182 : FVec F S8x128 .f32) (v4185 : FVec F S8x128 .f32) (v4188 : FVec F S8x128 .f32) (v4191 : FVec F S8x128 .f32) (v4194 : FVec F S8x128 .f32) (v4197 : FVec F S8x128 .f32) :
    Safe (F := F) c (mems arg2 arg3 arg4 arg5 arg6 arg7 arg8 arg9 arg10 arg11 arg12 arg13) (k0_part112 (F := F) i arg2 harg2 arg3 harg3 arg4 harg4 arg5 harg5 arg6 harg6 arg7 harg7 arg8 harg8 arg9 harg9 arg10 harg10 arg11 harg11 arg12 harg12 arg13 harg13 v2672 v2699 v4018 v4021 v4024 v4027 v4030 v4033 v4114 v4182 v4185 v4188 v4191 v4194 v4197) := by
  rw [k0_part112_eq_skeleton]; unfold k0_part112_skel
  exact L11 fun _ => S11 fun _ => L11 fun _ => S11 fun _ => L11 fun _ => S11 fun _ => L11 fun _ => S11 fun _ => L11 fun _ =>
    S11 fun _ => .pure

theorem safe_k0_part113 (arg0 : BitVec 32) (arg1 : BitVec 32) (v28 : BitVec 32) (v2672 : FVec F S8x128 .f32) (v2699 : FVec F S8x128 .f32) (v4036 : FVec F S8x128 .f32) (v4039 : FVec F S8x128 .f32) (v4042 : FVec F S8x128 .f32) (v4200 : FVec F S8x128 .f32) (v4203 : FVec F S8x128 .f32) (v4206 : FVec F S8x128 .f32) (v4246 : FVec F S8x128 .f32) (v4249 : FVec F S8x128 .f32) :
    Safe (F := F) c (mems arg2 arg3 arg4 arg5 arg6 arg7 arg8 arg9 arg10 arg11 arg12 arg13) (k0_part113 (F := F) i arg2 harg2 arg3 harg3 arg4 harg4 arg5 harg5 arg6 harg6 arg7 harg7 arg8 harg8 arg9 harg9 arg10 harg10 arg11 harg11 arg12 harg12 arg13 harg13 arg0 arg1 v28 v2672 v2699 v4036 v4039 v4042 v4200 v4203 v4206 v4246 v4249) := by
  rw [k0_part113_eq_skeleton]; unfold k0_part113_skel
  exact L11 fun _ => S11 fun _ => L11 fun _ => S11 fun _ => L11 fun _ => S11 fun _ => L11 fun _ => S11 fun _ => .pure

theorem safe_k0_part114 (v0 : IVec S8x128 32) (k0_t1 : Fin k0_t1_loop.trips) (v29 : BitVec 32) (v4287 : FVec F S1x128 .f32) (v4291 : BitVec 32) (v4292 : BitVec 32) :
    Safe (F := F) c (mems arg2 arg3 arg4 arg5 arg6 arg7 arg8 arg9 arg10 arg11 arg12 arg13) (k0_part114 (F := F) i arg2 harg2 arg3 harg3 arg4 harg4 arg5 harg5 arg6 harg6 arg7 harg7 arg8 harg8 arg9 harg9 arg10 harg10 arg11 harg11 arg12 harg12 arg13 harg13 v0 k0_t1 v29 v4287 v4291 v4292) := by
  rw [k0_part114_eq_skeleton]; unfold k0_part114_skel
  exact L7 fun _ => L7 fun _ => S7 fun _ => L11 fun _ => L6 fun _ => S6 fun _ => L11 fun _ => L6 fun _ => S6 fun _ => .pure

theorem safe_k0_part115 (k0_t1 : Fin k0_t1_loop.trips) (v29 : BitVec 32) (v4306 : FVec F S8x128 .f32) :
    Safe (F := F) c (mems arg2 arg3 arg4 arg5 arg6 arg7 arg8 arg9 arg10 arg11 arg12 arg13) (k0_part115 (F := F) i arg2 harg2 arg3 harg3 arg4 harg4 arg5 harg5 arg6 harg6 arg7 harg7 arg8 harg8 arg9 harg9 arg10 harg10 arg11 harg11 arg12 harg12 arg13 harg13 k0_t1 v29 v4306) := by
  rw [k0_part115_eq_skeleton]; unfold k0_part115_skel
  exact L11 fun _ => L6 fun _ => S6 fun _ => L11 fun _ => L6 fun _ => S6 fun _ => L11 fun _ => L6 fun _ => .pure

theorem safe_k0_part116 (k0_t1 : Fin k0_t1_loop.trips) (v29 : BitVec 32) (v4306 : FVec F S8x128 .f32) (v4372 : IVec S32x128 8) (v4374 : Vec F S1x32x128 .i8) :
    Safe (F := F) c (mems arg2 arg3 arg4 arg5 arg6 arg7 arg8 arg9 arg10 arg11 arg12 arg13) (k0_part116 (F := F) i arg2 harg2 arg3 harg3 arg4 harg4 arg5 harg5 arg6 harg6 arg7 harg7 arg8 harg8 arg9 harg9 arg10 harg10 arg11 harg11 arg12 harg12 arg13 harg13 k0_t1 v29 v4306 v4372 v4374) := by
  rw [k0_part116_eq_skeleton]; unfold k0_part116_skel
  exact S6 fun _ => L11 fun _ => L6 fun _ => S6 fun _ => L11 fun _ => L6 fun _ => S6 fun _ => L11 fun _ => .pure

theorem safe_k0_part117 (k0_t1 : Fin k0_t1_loop.trips) (v29 : BitVec 32) (v4306 : FVec F S8x128 .f32) (v4414 : IVec S32x128 8) :
    Safe (F := F) c (mems arg2 arg3 arg4 arg5 arg6 arg7 arg8 arg9 arg10 arg11 arg12 arg13) (k0_part117 (F := F) i arg2 harg2 arg3 harg3 arg4 harg4 arg5 harg5 arg6 harg6 arg7 harg7 arg8 harg8 arg9 harg9 arg10 harg10 arg11 harg11 arg12 harg12 arg13 harg13 k0_t1 v29 v4306 v4414) := by
  rw [k0_part117_eq_skeleton]; unfold k0_part117_skel
  exact L6 fun _ => S6 fun _ => L11 fun _ => L6 fun _ => S6 fun _ => L11 fun _ => L6 fun _ => S6 fun _ => L11 fun _ => .pure

theorem safe_k0_part118 (arg0 : BitVec 32) (arg1 : BitVec 32) (v0 : IVec S8x128 32) (k0_t1 : Fin k0_t1_loop.trips) (v28 : BitVec 32) (v29 : BitVec 32) (v4278 : FVec F S8x128 .f32) (v4453 : FVec F S4x128 .f32) (v4454 : FVec F S4x128 .f32) :
    Safe (F := F) c (mems arg2 arg3 arg4 arg5 arg6 arg7 arg8 arg9 arg10 arg11 arg12 arg13) (k0_part118 (F := F) i arg2 harg2 arg3 harg3 arg4 harg4 arg5 harg5 arg6 harg6 arg7 harg7 arg8 harg8 arg9 harg9 arg10 harg10 arg11 harg11 arg12 harg12 arg13 harg13 arg0 arg1 v0 k0_t1 v28 v29 v4278 v4453 v4454) := by
  rw [k0_part118_eq_skeleton]; unfold k0_part118_skel
  exact L6 fun _ => S6 fun _ => L7 fun _ => L7 fun _ => S7 fun _ => L11 fun _ => .pure

theorem safe_k0_part119 (k0_t1 : Fin k0_t1_loop.trips) (v30 : BitVec 32) (v4488 : FVec F S8x128 .f32) (v4495 : FVec F S32x128 .f32) (v4496 : FVec F S32x128 .f32) :
    Safe (F := F) c (mems arg2 arg3 arg4 arg5 arg6 arg7 arg8 arg9 arg10 arg11 arg12 arg13) (k0_part119 (F := F) i arg2 harg2 arg3 harg3 arg4 harg4 arg5 harg5 arg6 harg6 arg7 harg7 arg8 harg8 arg9 harg9 arg10 harg10 arg11 harg11 arg12 harg12 arg13 harg13 k0_t1 v30 v4488 v4495 v4496) := by
  rw [k0_part119_eq_skeleton]; unfold k0_part119_skel
  exact L6 fun _ => S6 fun _ => L11 fun _ => L6 fun _ => S6 fun _ => L11 fun _ => L6 fun _ => S6 fun _ => L11 fun _ => .pure

theorem safe_k0_part120 (k0_t1 : Fin k0_t1_loop.trips) (v30 : BitVec 32) (v4488 : FVec F S8x128 .f32) (v4535 : FVec F S32x128 .f32) (cst_1983 : F .f32) (cst_1984 : F .f32) :
    Safe (F := F) c (mems arg2 arg3 arg4 arg5 arg6 arg7 arg8 arg9 arg10 arg11 arg12 arg13) (k0_part120 (F := F) i arg2 harg2 arg3 harg3 arg4 harg4 arg5 harg5 arg6 harg6 arg7 harg7 arg8 harg8 arg9 harg9 arg10 harg10 arg11 harg11 arg12 harg12 arg13 harg13 k0_t1 v30 v4488 v4535 cst_1983 cst_1984) := by
  rw [k0_part120_eq_skeleton]; unfold k0_part120_skel
  exact L6 fun _ => S6 fun _ => L11 fun _ => L6 fun _ => S6 fun _ => L11 fun _ => L6 fun _ => S6 fun _ => L11 fun _ => .pure

theorem safe_k0_part121 (k0_t1 : Fin k0_t1_loop.trips) (v30 : BitVec 32) (v4488 : FVec F S8x128 .f32) (v4576 : FVec F S32x128 .f32) :
    Safe (F := F) c (mems arg2 arg3 arg4 arg5 arg6 arg7 arg8 arg9 arg10 arg11 arg12 arg13) (k0_part121 (F := F) i arg2 harg2 arg3 harg3 arg4 harg4 arg5 harg5 arg6 harg6 arg7 harg7 arg8 harg8 arg9 harg9 arg10 harg10 arg11 harg11 arg12 harg12 arg13 harg13 k0_t1 v30 v4488 v4576) := by
  rw [k0_part121_eq_skeleton]; unfold k0_part121_skel
  exact L6 fun _ => S6 fun _ => L11 fun _ => L6 fun _ => S6 fun _ => L11 fun _ => L6 fun _ => S6 fun _ => L11 fun _ => .pure

theorem safe_k0_part122 (arg1 : BitVec 32) (v0 : IVec S8x128 32) (v1 : IVec S8x128 32) (v5 : IVec S8x128 1) (v14 : FVec F S8x128 .f32) (c0_i32_5 : BitVec 32) (c1_i32 : BitVec 32) (k0_t1 : Fin k0_t1_loop.trips) :
    Safe (F := F) c (mems arg2 arg3 arg4 arg5 arg6 arg7 arg8 arg9 arg10 arg11 arg12 arg13) (k0_part122 (F := F) i arg2 harg2 arg3 harg3 arg4 harg4 arg5 harg5 arg6 harg6 arg7 harg7 arg8 harg8 arg9 harg9 arg10 harg10 arg11 harg11 arg12 harg12 arg13 harg13 arg1 v0 v1 v5 v14 c0_i32_5 c1_i32 k0_t1) := by
  rw [k0_part122_eq_skeleton]; unfold k0_part122_skel
  exact .bind (safe_k0_part1 c _ _ _ _ _ _ _ _ _ _ _ _ _ _ _ _ _ _ _ _ _ _ _ _ _ _ _ _ _ _ _) fun _ =>
    .bind (safe_k0_part2 c _ _ _ _ _ _ _ _ _ _ _ _ _ _ _ _ _ _ _ _ _ _ _ _ _ _ _ _ _ _ _ _) fun _ =>
    .bind (safe_k0_part3 c _ _ _ _ _ _ _ _ _ _ _ _ _ _ _ _ _ _ _ _ _ _ _ _ _ _ _ _ _ _) fun _ =>
    .bind (safe_k0_part4 c _ _ _ _ _ _ _ _ _ _ _ _ _ _ _ _ _ _ _ _ _ _ _ _ _ _ _ _ _ _ _) fun _ =>
    .bind (safe_k0_part5 c _ _ _ _ _ _ _ _ _ _ _ _ _ _ _ _ _ _ _ _ _ _ _ _ _ _ _ _ _ _ _) fun _ =>
    .bind (safe_k0_part6 c _ _ _ _ _ _ _ _ _ _ _ _ _ _ _ _ _ _ _ _ _ _ _ _ _ _ _ _ _ _ _) fun _ =>
    .bind (safe_k0_part7 c _ _ _ _ _ _ _ _ _ _ _ _ _ _ _ _ _ _ _ _ _ _ _ _ _ _ _ _ _ _) fun _ =>
    .bind (safe_k0_part8 c _ _ _ _ _ _ _ _ _ _ _ _ _ _ _ _ _ _ _ _ _ _ _ _ _ _ _ _ _ _) fun _ =>
    .bind (safe_k0_part9 c _ _ _ _ _ _ _ _ _ _ _ _ _ _ _ _ _ _ _ _ _ _ _ _ _ _ _ _ _ _) fun _ =>
    .bind (safe_k0_part10 c _ _ _ _ _ _ _ _ _ _ _ _ _ _ _ _ _ _ _ _ _ _ _ _ _ _ _ _ _ _) fun _ =>
    .bind (safe_k0_part11 c _ _ _ _ _ _ _ _ _ _ _ _ _ _ _ _ _ _ _ _ _ _ _ _ _ _ _ _ _ _) fun _ =>
    .bind (safe_k0_part12 c _ _ _ _ _ _ _ _ _ _ _ _ _ _ _ _ _ _ _ _ _ _ _ _ _ _ _ _ _ _ _) fun _ =>
    .bind (safe_k0_part13 c _ _ _ _ _ _ _ _ _ _ _ _ _ _ _ _ _ _ _ _ _ _ _ _ _ _ _ _ _ _ _) fun _ =>
    .bind (safe_k0_part14 c _ _ _ _ _ _ _ _ _ _ _ _ _ _ _ _ _ _ _ _ _ _ _ _ _ _ _ _ _ _ _) fun _ =>
    .bind (safe_k0_part15 c _ _ _ _ _ _ _ _ _ _ _ _ _ _ _ _ _ _ _ _ _ _ _ _ _ _ _ _ _ _ _) fun _ =>
    .bind (safe_k0_part16 c _ _ _ _ _ _ _ _ _ _ _ _ _ _ _ _ _ _ _ _ _ _ _ _ _ _ _ _ _ _ _) fun _ =>
    .bind (safe_k0_part17 c _ _ _ _ _ _ _ _ _ _ _ _ _ _ _ _ _ _ _ _ _ _ _ _ _ _ _ _ _ _ _) fun _ =>
    .bind (safe_k0_part18 c _ _ _ _ _ _ _ _ _ _ _ _ _ _ _ _ _ _ _ _ _ _ _ _ _ _ _ _ _ _ _ _) fun _ =>
    .bind (safe_k0_part19 c _ _ _ _ _ _ _ _ _ _ _ _ _ _ _ _ _ _ _ _ _ _ _ _ _ _ _ _) fun _ =>
    .bind (safe_k0_part20 c _ _ _ _ _ _ _ _ _ _ _ _ _ _ _ _ _ _ _ _ _ _ _ _ _ _ _ _ _ _) fun _ =>
    .bind (safe_k0_part21 c _ _ _ _ _ _ _ _ _ _ _ _ _ _ _ _ _ _ _ _ _ _ _ _ _ _ _ _) fun _ =>
    .bind (safe_k0_part22 c _ _ _ _ _ _ _ _ _ _ _ _ _ _ _ _ _ _ _ _ _ _ _ _ _ _ _ _) fun _ =>
    .bind (safe_k0_part23 c _ _ _ _ _ _ _ _ _ _ _ _ _ _ _ _ _ _ _ _ _ _ _ _ _ _ _ _) fun _ =>
    .bind (safe_k0_part24 c _ _ _ _ _ _ _ _ _ _ _ _ _ _ _ _ _ _ _ _ _ _ _ _ _ _ _) fun _ =>
    .bind (safe_k0_part25 c _ _ _ _ _ _ _ _ _ _ _ _ _ _ _ _ _ _ _ _ _ _ _ _ _ _ _ _ _) fun _ =>
    .bind (safe_k0_part26 c _ _ _ _ _ _ _ _ _ _ _ _ _ _ _ _ _ _ _ _ _ _ _ _ _ _ _ _) fun _ =>
    .bind (safe_k0_part27 c _ _ _ _ _ _ _ _ _ _ _ _ _ _ _ _ _ _ _ _ _ _ _ _ _ _ _ _ _ _ _) fun _ =>
    .bind (safe_k0_part28 c _ _ _ _ _ _ _ _ _ _ _ _ _ _ _ _ _ _ _ _ _ _ _ _ _ _ _ _ _ _ _) fun _ =>
    .bind (safe_k0_part29 c _ _ _ _ _ _ _ _ _ _ _ _ _ _ _ _ _ _ _ _ _ _ _ _ _ _ _ _ _ _ _) fun _ =>
    .bind (safe_k0_part30 c _ _ _ _ _ _ _ _ _ _ _ _ _ _ _ _ _ _ _ _ _ _ _ _ _ _ _ _ _ _ _) fun _ =>
    .bind (safe_k0_part31 c _ _ _ _ _ _ _ _ _ _ _ _ _ _ _ _ _ _ _ _ _ _ _ _ _ _ _ _ _ _ _ _) fun _ =>
    .bind (safe_k0_part32 c _ _ _ _ _ _ _ _ _ _ _ _ _ _ _ _ _ _ _ _ _ _ _ _ _ _ _ _ _ _ _ _) fun _ =>
    .bind (safe_k0_part33 c _ _ _ _ _ _ _ _ _ _ _ _ _ _ _ _ _ _ _ _ _ _ _ _ _ _ _ _ _ _ _ _) fun _ =>
    .bind (safe_k0_part34 c _ _ _ _ _ _ _ _ _ _ _ _ _ _ _ _ _ _ _ _ _ _ _ _ _ _ _ _ _ _ _) fun _ =>
    .bind (safe_k0_part35 c _ _ _ _ _ _ _ _ _ _ _ _ _ _ _ _ _ _ _ _ _ _ _ _ _ _ _ _ _ _ _ _) fun _ =>
    .bind (safe_k0_part36 c _ _ _ _ _ _ _ _ _ _ _ _ _ _ _ _ _ _ _ _ _ _ _ _ _ _ _ _ _ _ _ _) fun _ =>
    .bind (safe_k0_part37 c _ _ _ _ _ _ _ _ _ _ _ _ _ _ _ _ _ _ _ _ _ _ _ _ _ _ _ _ _ _ _ _) fun _ =>
    .bind (safe_k0_part38 c _ _ _ _ _ _ _ _ _ _ _ _ _ _ _ _ _ _ _ _ _ _ _ _ _ _ _ _ _ _) fun _ =>
    .bind (safe_k0_part39 c _ _ _ _ _ _ _ _ _ _ _ _ _ _ _ _ _ _ _ _ _ _ _ _ _ _ _ _ _ _) fun _ =>
    .bind (safe_k0_part40 c _ _ _ _ _ _ _ _ _ _ _ _ _ _ _ _ _ _ _ _ _ _ _ _ _ _ _ _ _ _) fun _ =>
    .bind (safe_k0_part41 c _ _ _ _ _ _ _ _ _ _ _ _ _ _ _ _ _ _ _ _ _ _ _ _ _ _ _ _ _ _) fun _ =>
    .bind (safe_k0_part42 c _ _ _ _ _ _ _ _ _ _ _ _ _ _ _ _ _ _ _ _ _ _ _ _ _ _ _ _ _ _) fun _ =>
    .bind (safe_k0_part43 c _ _ _ _ _ _ _ _ _ _ _ _ _ _ _ _ _ _ _ _ _ _ _ _ _ _ _ _ _ _ _ _) fun _ =>
    .bind (safe_k0_part44 c _ _ _ _ _ _ _ _ _ _ _ _ _ _ _ _ _ _ _ _ _ _ _ _ _ _ _ _ _ _) fun _ =>
    .bind (safe_k0_part45 c _ _ _ _ _ _ _ _ _ _ _ _ _ _ _ _ _ _ _ _ _ _ _ _ _ _ _ _) fun _ =>
    .bind (safe_k0_part46 c _ _ _ _ _ _ _ _ _ _ _ _ _ _ _ _ _ _ _ _ _ _ _ _ _ _ _ _ _ _) fun _ =>
    .bind (safe_k0_part47 c _ _ _ _ _ _ _ _ _ _ _ _ _ _ _ _ _ _ _ _ _ _ _ _ _ _ _ _) fun _ =>
    .bind (safe_k0_part48 c _ _ _ _ _ _ _ _ _ _ _ _ _ _ _ _ _ _ _ _ _ _ _ _ _ _ _ _) fun _ =>
    .bind (safe_k0_part49 c _ _ _ _ _ _ _ _ _ _ _ _ _ _ _ _ _ _ _ _ _ _ _ _ _ _ _) fun _ =>
    .bind (safe_k0_part50 c _ _ _ _ _ _ _ _ _ _ _ _ _ _ _ _ _ _ _ _ _ _ _ _ _ _ _ _ _) fun _ =>
    .bind (safe_k0_part51 c _ _ _ _ _ _ _ _ _ _ _ _ _ _ _ _ _ _ _ _ _ _ _ _ _ _ _ _) fun _ =>
    .bind (safe_k0_part52 c _ _ _ _ _ _ _ _ _ _ _ _ _ _ _ _ _ _ _ _ _ _ _ _ _ _ _ _ _) fun _ =>
    .bind (safe_k0_part53 c _ _ _ _ _ _ _ _ _ _ _ _ _ _ _ _ _ _ _ _ _ _ _ _ _ _) fun _ =>
    .bind (safe_k0_part54 c _ _ _ _ _ _ _ _ _ _ _ _ _ _ _ _ _ _ _ _ _ _ _ _ _ _ _ _ _ _ _ _ _ _ _ _ _ _ _) fun _ =>
    .bind (safe_k0_part55 c _ _ _ _ _ _ _ _ _ _ _ _ _ _ _ _ _ _ _ _ _ _ _ _ _ _ _ _ _ _ _ _ _ _ _ _ _ _ _ _ _ _ _ _ _) fun _ =>
    .bind (safe_k0_part56 c _ _ _ _ _ _ _ _ _ _ _ _ _ _ _ _ _ _ _ _ _ _ _ _ _ _ _ _ _ _ _ _ _) fun _ =>
    .bind (safe_k0_part57 c _ _ _ _ _ _ _ _ _ _ _ _ _ _ _ _ _ _ _ _ _ _ _ _ _ _ _ _) fun _ =>
    .bind (safe_k0_part58 c _ _ _ _ _ _ _ _ _ _ _ _ _ _ _ _ _ _ _ _ _ _ _ _ _ _ _ _ _ _ _ _ _ _ _ _ _ _ _) fun _ =>
    .bind (safe_k0_part59 c _ _ _ _ _ _ _ _ _ _ _ _ _ _ _ _ _ _ _ _ _ _ _ _ _ _ _ _ _ _ _ _ _ _ _ _ _ _ _ _ _ _ _ _ _) fun _ =>
    .bind (safe_k0_part60 c _ _ _ _ _ _ _ _ _ _ _ _ _ _ _ _ _ _ _ _ _ _ _ _ _ _ _ _ _ _ _ _) fun _ => .pure

theorem safe_k0_part123 (arg0 : BitVec 32) (arg1 : BitVec 32) (v0 : IVec S8x128 32) (v7 : IVec S8x128 32) (v9 : IVec S8x128 32) (k0_t1 : Fin k0_t1_loop.trips) (v28 : BitVec 32) (v29 : BitVec 32) (v30 : BitVec 32) (v75 : FVec F S8x128 .f32) (v80 : FVec F S8x128 .f32) (v81 : FVec F S8x128 .f32) (v88 : IVec S8x128 32) (v95 : IVec S8x128 32) (v97 : IVec S8x128 32) (v1865 : IVec S8x128 1) (v1869 : IVec S8x128 1) (v1873 : IVec S8x128 1) (v1877 : IVec S8x128 1) (v2151 : IVec S8x128 1) (v2154 : Vec F S8x128 .i32) (v2155 : Vec F S8x128 .i32) :
    Safe (F := F) c (mems arg2 arg3 arg4 arg5 arg6 arg7 arg8 arg9 arg10 arg11 arg12 arg13) (k0_part123 (F := F) i arg2 harg2 arg3 harg3 arg4 harg4 arg5 harg5 arg6 harg6 arg7 harg7 arg8 harg8 arg9 harg9 arg10 harg10 arg11 harg11 arg12 harg12 arg13 harg13 arg0 arg1 v0 v7 v9 k0_t1 v28 v29 v30 v75 v80 v81 v88 v95 v97 v1865 v1869 v1873 v1877 v2151 v2154 v2155) := by
  rw [k0_part123_eq_skeleton]; unfold k0_part123_skel
  exact .bind (safe_k0_part61 c _ _ _ _ _ _ _ _ _ _ _ _ _ _ _ _ _ _ _ _ _ _ _ _ _ _ _) fun _ =>
    .bind (safe_k0_part62 c _ _ _ _ _ _ _ _ _ _ _ _ _ _ _ _ _ _ _ _ _ _ _ _ _ _ _ _ _ _ _ _ _ _ _ _ _ _) fun _ =>
    .bind (safe_k0_part63 c _ _ _ _ _ _ _ _ _ _ _ _ _ _ _ _ _ _ _ _ _ _ _ _ _ _ _ _ _ _ _ _ _ _ _ _ _ _ _ _ _ _ _ _ _) fun _ =>
    .bind (safe_k0_part64 c _ _ _ _ _ _ _ _ _ _ _ _ _ _ _ _ _ _ _ _ _ _ _ _ _ _ _ _ _ _ _ _) fun _ =>
    .bind (safe_k0_part65 c _ _ _ _ _ _ _ _ _ _ _ _ _ _ _ _ _ _ _ _ _ _ _ _ _ _ _) fun _ =>
    .bind (safe_k0_part66 c _ _ _ _ _ _ _ _ _ _ _ _ _ _ _ _ _ _ _ _ _ _ _ _ _ _ _ _ _ _ _ _ _ _ _ _ _ _) fun _ =>
    .bind (safe_k0_part67 c _ _ _ _ _ _ _ _ _ _ _ _ _ _ _ _ _ _ _ _ _ _ _ _ _ _ _ _ _ _ _ _ _ _ _ _ _ _ _ _ _ _ _ _ _) fun _ =>
    .bind (safe_k0_part68 c _ _ _ _ _ _ _ _ _ _ _ _ _ _ _ _ _ _ _ _ _ _ _ _ _ _ _ _ _ _ _ _ _) fun _ =>
    .bind (safe_k0_part69 c _ _ _ _ _ _ _ _ _ _ _ _ _ _ _ _ _ _ _ _ _ _ _ _ _ _ _ _ _) fun _ =>
    .bind (safe_k0_part70 c _ _ _ _ _ _ _ _ _ _ _ _ _ _ _ _ _ _ _ _ _ _ _ _ _ _ _ _ _ _) fun _ =>
    .bind (safe_k0_part71 c _ _ _ _ _ _ _ _ _ _ _ _ _ _ _ _ _ _ _ _ _ _ _ _ _ _ _ _ _) fun _ =>
    .bind (safe_k0_part72 c _ _ _ _ _ _ _ _ _ _ _ _ _ _ _ _ _ _ _ _ _ _ _ _ _ _ _ _ _ _ _ _ _ _ _) fun _ =>
    .bind (safe_k0_part73 c _ _ _ _ _ _ _ _ _ _ _ _ _ _ _ _ _ _ _ _ _ _ _ _ _ _ _ _ _ _ _ _ _ _ _ _ _ _ _ _) fun _ =>
    .bind (safe_k0_part74 c _ _ _ _ _ _ _ _ _ _ _ _ _ _ _ _ _ _ _ _ _ _ _ _ _ _ _ _ _ _ _ _ _ _ _ _) fun _ =>
    .bind (safe_k0_part75 c _ _ _ _ _ _ _ _ _ _ _ _ _ _ _ _ _ _ _ _ _ _ _ _ _ _ _ _ _ _ _ _ _ _ _ _ _) fun _ =>
    .bind (safe_k0_part76 c _ _ _ _ _ _ _ _ _ _ _ _ _ _ _ _ _ _ _ _ _ _ _ _ _ _ _ _ _ _ _ _ _) fun _ =>
    .bind (safe_k0_part77 c _ _ _ _ _ _ _ _ _ _ _ _ _ _ _ _ _ _ _ _ _ _ _ _ _ _ _ _ _ _ _ _ _ _ _ _ _ _ _ _ _ _ _ _) fun _ =>
    .bind (safe_k0_part78 c _ _ _ _ _ _ _ _ _ _ _ _ _ _ _ _ _ _ _ _ _ _ _ _ _ _ _ _) fun _ =>
    .bind (safe_k0_part79 c _ _ _ _ _ _ _ _ _ _ _ _ _ _ _ _ _ _ _ _ _ _ _ _ _ _ _ _ _ _ _ _ _ _ _ _) fun _ =>
    .bind (safe_k0_part80 c _ _ _ _ _ _ _ _ _ _ _ _ _ _ _ _ _ _ _ _ _ _ _ _ _ _ _ _ _ _ _ _ _ _ _ _ _ _ _ _ _ _ _ _ _ _ _ _ _ _ _ _) fun _ =>
    .bind (safe_k0_part81 c _ _ _ _ _ _ _ _ _ _ _ _ _ _ _ _ _ _ _ _ _ _ _ _ _ _ _ _ _ _ _ _ _ _ _ _ _ _) fun _ =>
    .bind (safe_k0_part82 c _ _ _ _ _ _ _ _ _ _ _ _ _ _ _ _ _ _ _ _ _ _ _ _ _ _ _ _ _) fun _ =>
    .bind (safe_k0_part83 c _ _ _ _ _ _ _ _ _ _ _ _ _ _ _ _ _ _ _ _ _ _ _ _ _ _ _ _ _ _ _ _ _ _ _ _ _) fun _ =>
    .bind (safe_k0_part84 c _ _ _ _ _ _ _ _ _ _ _ _ _ _ _ _ _ _ _ _ _ _ _ _ _ _ _ _ _ _ _ _ _ _ _ _ _ _ _ _ _ _ _ _ _ _ _ _ _ _ _ _) fun _ =>
    .bind (safe_k0_part85 c _ _ _ _ _ _ _ _ _ _ _ _ _ _ _ _ _ _ _ _ _ _ _ _ _ _ _ _ _ _ _ _ _ _ _ _ _ _) fun _ =>
    .bind (safe_k0_part86 c _ _ _ _ _ _ _ _ _ _ _ _ _ _ _ _ _ _ _ _ _ _ _ _ _ _ _ _ _) fun _ =>
    .bind (safe_k0_part87 c _ _ _ _ _ _ _ _ _ _ _ _ _ _ _ _ _ _ _ _ _ _ _ _ _ _ _ _ _ _ _ _ _ _ _ _ _ _ _) fun _ =>
    .bind (safe_k0_part88 c _ _ _ _ _ _ _ _ _ _ _ _ _ _ _ _ _ _ _ _ _ _ _ _ _ _ _ _ _ _ _ _ _ _ _ _ _ _ _ _ _ _ _ _ _ _ _ _ _ _ _) fun _ =>
    .bind (safe_k0_part89 c _ _ _ _ _ _ _ _ _ _ _ _ _ _ _ _ _ _ _ _ _ _ _ _ _ _ _ _ _ _ _ _ _ _ _ _ _) fun _ =>
    .bind (safe_k0_part90 c _ _ _ _ _ _ _ _ _ _ _ _ _ _ _ _ _ _ _ _ _ _ _ _ _ _ _ _ _ _) fun _ =>
    .bind (safe_k0_part91 c _ _ _ _ _ _ _ _ _ _ _ _ _ _ _ _ _ _ _ _ _ _ _ _ _ _ _ _ _ _ _ _ _ _ _ _ _ _ _ _ _) fun _ =>
    .bind (safe_k0_part92 c _ _ _ _ _ _ _ _ _ _ _ _ _ _ _ _ _ _ _ _ _ _ _ _ _ _ _ _ _ _ _ _ _ _ _ _ _ _ _ _ _ _ _ _ _ _ _ _ _ _) fun _ =>
    .bind (safe_k0_part93 c _ _ _ _ _ _ _ _ _ _ _ _ _ _ _ _ _ _ _ _ _ _ _ _ _ _ _ _ _ _ _ _ _ _ _ _ _ _) fun _ =>
    .bind (safe_k0_part94 c _ _ _ _ _ _ _ _ _ _ _ _ _ _ _ _ _ _ _ _ _ _ _ _ _ _ _ _ _ _) fun _ =>
    .bind (safe_k0_part95 c _ _ _ _ _ _ _ _ _ _ _ _ _ _ _ _ _ _ _ _ _ _ _ _ _ _ _ _ _ _ _ _ _ _ _ _ _ _ _ _ _) fun _ =>
    .bind (safe_k0_part96 c _ _ _ _ _ _ _ _ _ _ _ _ _ _ _ _ _ _ _ _ _ _ _ _ _ _ _ _ _ _ _ _ _ _ _ _ _ _ _ _ _ _ _ _ _ _ _) fun _ =>
    .bind (safe_k0_part97 c _ _ _ _ _ _ _ _ _ _ _ _ _ _ _ _ _ _ _ _ _ _ _ _ _ _ _ _ _ _ _ _ _ _ _ _ _ _) fun _ =>
    .bind (safe_k0_part98 c _ _ _ _ _ _ _ _ _ _ _ _ _ _ _ _ _ _ _ _ _ _ _ _ _ _ _ _ _ _) fun _ =>
    .bind (safe_k0_part99 c _ _ _ _ _ _ _ _ _ _ _ _ _ _ _ _ _ _ _ _ _ _ _ _ _ _ _ _ _ _ _ _ _ _ _ _ _ _ _ _) fun _ =>
    .bind (safe_k0_part100 c _ _ _ _ _ _ _ _ _ _ _ _ _ _ _ _ _ _ _ _ _ _ _ _ _ _ _ _ _ _ _ _ _ _ _ _ _ _ _ _ _ _ _ _ _) fun _ =>
    .bind (safe_k0_part101 c _ _ _ _ _ _ _ _ _ _ _ _ _ _ _ _ _ _ _ _ _ _ _ _ _ _ _ _ _ _ _ _ _ _ _ _ _) fun _ =>
    .bind (safe_k0_part102 c _ _ _ _ _ _ _ _ _ _ _ _ _ _ _ _ _ _ _ _ _ _ _ _ _ _ _ _ _ _ _) fun _ =>
    .bind (safe_k0_part103 c _ _ _ _ _ _ _ _ _ _ _ _ _ _ _ _ _ _ _ _ _ _ _ _ _ _ _ _ _ _ _ _ _ _ _ _ _ _ _ _ _ _) fun _ =>
    .bind (safe_k0_part104 c _ _ _ _ _ _ _ _ _ _ _ _ _ _ _ _ _ _ _ _ _ _ _ _ _ _ _ _ _ _ _ _ _ _ _ _ _ _ _ _ _ _ _ _ _) fun _ =>
    .bind (safe_k0_part105 c _ _ _ _ _ _ _ _ _ _ _ _ _ _ _ _ _ _ _ _ _ _ _ _ _ _ _ _ _ _ _ _ _ _ _ _) fun _ =>
    .bind (safe_k0_part106 c _ _ _ _ _ _ _ _ _ _ _ _ _ _ _ _ _ _ _ _ _ _ _ _ _ _ _ _ _ _ _) fun _ =>
    .bind (safe_k0_part107 c _ _ _ _ _ _ _ _ _ _ _ _ _ _ _ _ _ _ _ _ _ _ _ _ _ _ _ _ _ _ _ _ _ _ _ _ _ _ _ _ _ _ _) fun _ =>
    .bind (safe_k0_part108 c _ _ _ _ _ _ _ _ _ _ _ _ _ _ _ _ _ _ _ _ _ _ _ _ _ _ _ _ _ _ _ _ _ _ _ _ _ _ _ _ _ _ _) fun _ =>
    .bind (safe_k0_part109 c _ _ _ _ _ _ _ _ _ _ _ _ _ _ _ _ _ _ _ _ _ _ _ _ _ _ _ _ _ _ _ _ _ _ _) fun _ =>
    .bind (safe_k0_part110 c _ _ _ _ _ _ _ _ _ _ _ _ _ _ _ _ _ _ _ _ _ _ _ _ _ _ _ _ _ _ _ _) fun _ =>
    .bind (safe_k0_part111 c _ _ _ _ _ _ _ _ _ _ _ _ _ _ _ _ _ _ _ _ _ _ _ _ _ _ _ _ _ _ _ _ _ _ _ _ _ _ _ _ _ _ _ _ _) fun _ =>
    .bind (safe_k0_part112 c _ _ _ _ _ _ _ _ _ _ _ _ _ _ _ _ _ _ _ _ _ _ _ _ _ _ _ _ _ _ _ _ _ _ _ _ _ _ _ _) fun _ =>
    .bind (safe_k0_part113 c _ _ _ _ _ _ _ _ _ _ _ _ _ _ _ _ _ _ _ _ _ _ _ _ _ _ _ _ _ _ _ _ _ _ _ _ _ _) fun _ =>
    .bind (safe_k0_part114 c _ _ _ _ _ _ _ _ _ _ _ _ _ _ _ _ _ _ _ _ _ _ _ _ _ _ _ _ _ _ _) fun _ =>
    .bind (safe_k0_part115 c _ _ _ _ _ _ _ _ _ _ _ _ _ _ _ _ _ _ _ _ _ _ _ _ _ _ _ _) fun _ =>
    .bind (safe_k0_part116 c _ _ _ _ _ _ _ _ _ _ _ _ _ _ _ _ _ _ _ _ _ _ _ _ _ _ _ _ _ _) fun _ =>
    .bind (safe_k0_part117 c _ _ _ _ _ _ _ _ _ _ _ _ _ _ _ _ _ _ _ _ _ _ _ _ _ _ _ _ _) fun _ =>
    .bind (safe_k0_part118 c _ _ _ _ _ _ _ _ _ _ _ _ _ _ _ _ _ _ _ _ _ _ _ _ _ _ _ _ _ _ _ _ _ _) fun _ =>
    .bind (safe_k0_part119 c _ _ _ _ _ _ _ _ _ _ _ _ _ _ _ _ _ _ _ _ _ _ _ _ _ _ _ _ _ _) fun _ =>
    .bind (safe_k0_part120 c _ _ _ _ _ _ _ _ _ _ _ _ _ _ _ _ _ _ _ _ _ _ _ _ _ _ _ _ _ _ _) fun _ => .pure

end Cert.KernelIdeal.Hand

end
-- ==== Proof.IFrame.lean ====
/-
  `KernelIdeal`'s frame: its body from any contents of its buffers to some contents, at every point; the launch around it; what
  is left is that the arguments keep what they held and every semaphore counter is zero.
-/
module

public import proofs.«01_k».proof.Proof.ISafe

@[expose] public section

set_option maxRecDepth 16384

noncomputable section

namespace Cert.KernelIdeal.Hand

open Cert.KernelIdeal Cert.KernelIdeal.Gen Cert.Triple
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-! ## The body -/

section Body

variable (c : Dev nD) (i : grid0.Coords) (arg2 : Memref sig .tc .vmem S1x48x64x1024 .i8) (harg2 : arg2.IsWhole) (arg3 : Memref sig .tc .vmem S1x24x32x1024 .i8) (harg3 : arg3.IsWhole) (arg4 : Memref sig .tc .vmem S1x12x16x1024 .i8) (harg4 : arg4.IsWhole) (arg5 : Memref sig .tc .vmem S1x6x8x1024 .i8) (harg5 : arg5.IsWhole) (arg6 : Memref sig .tc .vmem S1x4x1024 .f32) (harg6 : arg6.IsWhole) (arg7 : Memref sig .tc .vmem S1x2x1024 .f32) (harg7 : arg7.IsWhole) (arg8 : Memref sig .tc .vmem S1x324x1024 .i8) (harg8 : arg8.IsWhole) (arg9 : Memref sig .tc .vmem S8x3072 .f32) (harg9 : arg9.IsWhole) (arg10 : Memref sig .tc .vmem S1152x128 .i32) (harg10 : arg10.IsWhole) (arg11 : Memref sig .tc .vmem S40x8x128 .i32) (harg11 : arg11.IsWhole) (arg12 : Memref sig .tc .vmem S960x128 .f32) (harg12 : arg12.IsWhole) (arg13 : Memref sig .tc .vmem S648x128 .f32) (harg13 : arg13.IsWhole)

theorem safe_body (arg0 arg1 : BitVec 32) (v0 v1 : IVec S8x128 32) (k : Fin k0_t1_loop.trips) (u : Unit) :
    Safe (F := F) c (mems arg2 arg3 arg4 arg5 arg6 arg7 arg8 arg9 arg10 arg11 arg12 arg13) (k0_t1_body (F := F) i arg2 harg2 arg3 harg3 arg4 harg4 arg5 harg5 arg6 harg6 arg7 harg7 arg8 harg8 arg9 harg9 arg10 harg10 arg11 harg11 arg12 harg12 arg13 harg13 arg0 arg1 v0 v1 k u) := by
  unfold k0_t1_body
  exact Safe.bind (F := F) (by apply safe_k0_part122) fun _ => .bind (by apply safe_k0_part123) fun _ => .bind (by apply safe_k0_part121) fun _ =>
    L6 (F := F) fun _ => S6 fun _ => L11 fun _ => L6 fun _ => S6 fun _ => .pure

theorem Safe.dite {c : Dev nD} {M : Mems sig fam} {α : Type} {b : Prop} [Decidable b] {f : b → Prog (TpuEff nD τ sig (Elt F) Λ₀ .tc) α}
    {g : ¬b → Prog (TpuEff nD τ sig (Elt F) Λ₀ .tc) α} (hf : ∀ h, Safe c M (f h)) (hg : ∀ h, Safe c M (g h)) : Safe c M (dite b f g) := by
  split
  · exact hf _
  · exact hg _

theorem safe_lookup : Safe (F := F) c (mems arg2 arg3 arg4 arg5 arg6 arg7 arg8 arg9 arg10 arg11 arg12 arg13) (cc0_lookup (F := F) i arg2 harg2 arg3 harg3 arg4 harg4 arg5 harg5 arg6 harg6 arg7 harg7 arg8 harg8 arg9 harg9 arg10 harg10 arg11 harg11 arg12 harg12 arg13 harg13) := by
  rw [cc0_lookup_eq_skeleton]; unfold cc0_lookup_skel
  have tail : ∀ arg0 arg1 v0 v1, Safe (F := F) c (mems arg2 arg3 arg4 arg5 arg6 arg7 arg8 arg9 arg10 arg11 arg12 arg13) (do
      Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg0 arg1 v0 v1)
      Pure.pure PUnit.unit) := fun arg0 arg1 v0 v1 => Safe.bind (F := F) (fun s =>
    (Tr.loop (B := fam) _ _ _ _ (fun _ _ => True) trivial fun k acc s' _ => safe_body (F := F) c i arg2 harg2 arg3 harg3 arg4 harg4 arg5 harg5 arg6 harg6 arg7 harg7 arg8 harg8 arg9 harg9 arg10 harg10 arg11 harg11 arg12 harg12 arg13 harg13 _ _ _ _ k acc s').mono
      fun _ _ _ => trivial) fun _ => Safe.pure
  exact Safe.dite (F := F) (fun _ => L8 (F := F) fun _ => S8 fun _ => Safe.dite (F := F) (fun _ => L7 (F := F) fun _ => S7 fun _ =>
      tail _ _ _ _) fun _ => tail _ _ _ _)
    fun _ => Safe.dite (F := F) (fun _ => L7 (F := F) fun _ => S7 fun _ => tail _ _ _ _) fun _ => tail _ _ _ _

end Body

/-! ## The proof data and the body obligation -/

variable (m : (ℓ : Loc nD τ sig) → Buf (Elt F) ℓ) (ρ : Dev nD → PrngReg)

theorem bigSep12 {M : Type} [URA M] (Φ : Fin 12 → sProp M) : bigSep Finset.univ Φ = iprop(Φ 0 ∗ Φ 1 ∗ Φ 2 ∗ Φ 3 ∗ Φ 4 ∗ Φ 5
    ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- A run of the family's program, from the twelve buffers apart and back, for any continuation. -/
theorem out12 {c : Dev nD} {M : Mems sig fam} {s : St (Elt F) fam} {p : Prog (TpuEff nD τ sig (Elt F) Λ₀ .tc) PUnit}
    {Q : PUnit → St (Elt F) fam → Prop} (h : Tr (defs₀ (F := F)) c M s p Q) (K : PUnit → sProp 𝕄) :
    iprop((owns (c : Thread nD τ) (M 0) fullShare (s 0) ∗ owns (c : Thread nD τ) (M 1) fullShare (s 1) ∗ owns (c : Thread nD τ) (M 2) fullShare (s 2) ∗ owns (c : Thread nD τ) (M 3) fullShare (s 3) ∗ owns (c : Thread nD τ) (M 4) fullShare (s 4) ∗ owns (c : Thread nD τ) (M 5) fullShare (s 5) ∗ owns (c : Thread nD τ) (M 6) fullShare (s 6) ∗ owns (c : Thread nD τ) (M 7) fullShare (s 7) ∗ owns (c : Thread nD τ) (M 8) fullShare (s 8) ∗ owns (c : Thread nD τ) (M 9) fullShare (s 9) ∗ owns (c : Thread nD τ) (M 10) fullShare (s 10) ∗ owns (c : Thread nD τ) (M 11) fullShare (s 11)) ∗ (∀ s' : St (Elt F) fam, ⌜Q ⟨⟩ s'⌝ -∗ (owns (c : Thread nD τ) (M 0) fullShare (s' 0) ∗ owns (c : Thread nD τ) (M 1) fullShare (s' 1) ∗ owns (c : Thread nD τ) (M 2) fullShare (s' 2) ∗ owns (c : Thread nD τ) (M 3) fullShare (s' 3) ∗ owns (c : Thread nD τ) (M 4) fullShare (s' 4) ∗ owns (c : Thread nD τ) (M 5) fullShare (s' 5) ∗ owns (c : Thread nD τ) (M 6) fullShare (s' 6) ∗ owns (c : Thread nD τ) (M 7) fullShare (s' 7) ∗ owns (c : Thread nD τ) (M 8) fullShare (s' 8) ∗ owns (c : Thread nD τ) (M 9) fullShare (s' 9) ∗ owns (c : Thread nD τ) (M 10) fullShare (s' 10) ∗ owns (c : Thread nD τ) (M 11) fullShare (s' 11)) -∗ K ⟨⟩))
      ⊢ wp frame (wpE (defs₀ (F := F)) Variants.none c none) Set.univ p K := by
  have h := h.out
  unfold Own at h
  simp only [bigSep12] at h
  refine (sep_mono h .rfl).trans ((sep_mono .rfl ?_).trans (wp_wand_r frame _ _))
  iintro H %a ⟨%s', %hQ, HO⟩
  iapply H
  · ipureintro; exact hQ
  · iexact HO

/-- Nothing is said of what the body leaves in any window. -/
def forgets0 : Fin 8 → Bool := fun _ => true

/-- The proof data on core `c`: the arrays as the region finds them, what the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The memrefs of point `t`, as the family. -/
abbrev memsAt (t : Fin cfg0.N) : Mems sig fam :=
  mems (st0_0 t) (st0_1 t) (st0_2 t) (st0_3 t) (st0_4 t) (st0_5 t) (st0_6 t) (st0_7 t) (Memref.whole cc0_scratch0) (Memref.whole cc0_scratch1) (Memref.whole cc0_scratch2) (Memref.whole cc0_scratch3)

/-- The eight windows of point `t`, each at some contents. -/
def wins (c : Dev nD) (t : Fin cfg0.N) : sProp 𝕄 :=
  iprop((∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d))

def bodyPre (c : Dev nD) (t : Fin cfg0.N) : sProp 𝕄 :=
  iprop((dats m 0 c).Φ t.castSucc ∗ (dats m 0 c).owesAt () t.castSucc ∗ wins (F := F) c t)
def bodyPost (c : Dev nD) (t : Fin cfg0.N) : sProp 𝕄 :=
  iprop((dats m 0 c).Φ t.succ ∗ (dats m 0 c).owesAt () t.succ ∗ wins (F := F) c t)

/-- The body at a point, from and to some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA wins
  rw [scopedRest0_eq]
  iintro ⟨⟨⟨⟨%e8, H8⟩, ⟨%e9, H9⟩, ⟨%e10, H10⟩, ⟨%e11, H11⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (out12 (safe_lookup (F := F) c (grid0.coords t) (st0_0 t) _ (st0_1 t) _ (st0_2 t) _ (st0_3 t) _ (st0_4 t) _ (st0_5 t) _
    (st0_6 t) _ (st0_7 t) _ (Memref.whole cc0_scratch0) _ (Memref.whole cc0_scratch1) _ (Memref.whole cc0_scratch2) _
    (Memref.whole cc0_scratch3) _
    (fun | 0 => d0 | 1 => d1 | 2 => d2 | 3 => d3 | 4 => d4 | 5 => d5 | 6 => d6 | 7 => d7 | 8 => e8 | 9 => e9 | 10 => e10 | 11 => e11)) _)
  isplitl [H0 H1 H2 H3 H4 H5 H6 H7 H8 H9 H10 H11]
  · simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %s' - ⟨H0, H1, H2, H3, H4, H5, H6, H7, H8, H9, H10, H11⟩
  simp only [owns_whole]
  isplitl [H8 H9 H10 H11 Hg]
  · isplitl [H8 H9 H10 H11]
    · isplitl [H8]; · iexists _; iexact H8
      isplitl [H9]; · iexists _; iexact H9
      isplitl [H10]; · iexists _; iexact H10
      iexists _; iexact H11
    · iexact Hg
  isplitl [HO]; · iexact HO
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the lines after the call write. -/
def T0 : Finset (Ref sig .tc) := {main_v7}

set_option backward.isDefEq.respectTransparency.types false in
/-- Every execution of @main terminates with the arrays' bystanders as launched and every counter at zero. -/
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      rcases hop with rfl
      all_goals
        simp only [StableHlo.nullary_writes, StableHlo.unary_writes, StableHlo.binary_writes, StableHlo.ternary_writes,
          StableHlo.reshape_writes, Finset.mem_singleton] at hb
        rw [Proc.devRef_injective _ hb]; decide)
    (hmain := hmain m Variants.none) (hA := A_eq m) (hΦ := fun _ _ => rfl)

/-- The frame: the arguments keep what they held, every counter is zero. -/
theorem quiescent : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5)) ∧ r.2.sem = fun _ => 0) :=
  (θ_run defs _ _).mono (fun r h => ⟨fun c => ⟨
    ((h.1 c).2 main_arg0 (by decide)).trans (V_main_arg0 m c),
    ((h.1 c).2 main_arg1 (by decide)).trans (V_main_arg1 m c),
    ((h.1 c).2 main_arg2 (by decide)).trans (V_main_arg2 m c),
    ((h.1 c).2 main_arg3 (by decide)).trans (V_main_arg3 m c),
    ((h.1 c).2 main_arg4 (by decide)).trans (V_main_arg4 m c),
    ((h.1 c).2 main_arg5 (by decide)).trans (V_main_arg5 m c)⟩, h.2⟩) (run_main m ρ)

end Cert.KernelIdeal.Hand

end
-- ==== Proof.Trip.lean ====
/-
  One trip of the idealized kernel's loop, written with counted repetitions: the fill of the word table, the selection of
  the ten patch rows, the taps row by row, the quantiser. `trip` is the printed body, by definitional unfolding.
-/
module

public import proofs.«01_k».proof.Proof.ISafe

@[expose] public section

set_option maxRecDepth 16384

noncomputable section

namespace Cert.KernelIdeal.Hand

open Cert.KernelIdeal Cert.KernelIdeal.Gen Cert.Triple
open Idealize.ShloMosaic Idealize.ShloMosaic.TcCoe Idealize.ShloMosaic.Tactic
open Idealize.SL Idealize.SL.Sem

variable {F : FTy → Type} [FloatOps F] [∀ e, Nonempty (Elt F e)]

/-- The programs of the body. -/
abbrev TP (F : FTy → Type) [FloatOps F] (α : Type) := Prog (TpuEff nD τ sig (Elt F) Λ₀ .tc) α

/-! ## Repetition -/

/-- The steps `f 0`, …, `f (n - 1)`, one after another. -/
def forN {E : Type → Type} : (n : Nat) → (Fin n → Prog E PUnit) → Prog E PUnit
  | 0, _ => pure ⟨⟩
  | n + 1, f => f 0 >>= fun _ => forN n fun i => f i.succ

/-- The results of `f 0`, …, `f (n - 1)`, run one after another. -/
def getN {E : Type → Type} {V : Type} : (n : Nat) → (Fin n → Prog E V) → Prog E (Fin n → V)
  | 0, _ => pure Fin.elim0
  | n + 1, f => f 0 >>= fun v => getN n (fun i => f i.succ) >>= fun r => pure (Fin.cons v r)

/-! ## Rectangles -/

/-- The first column of group `g` in trip `t`. -/
abbrev cOff (t : Fin k0_t1_loop.trips) (g : Fin 2) : Nat :=
  (Scalar.indexCast (Scalar.addi (Scalar.muli (Scf.iv 0#32 1#32 t) 256#32) (BitVec.ofNat 32 (128 * g.val)))).toNat

theorem cOff_eq : ∀ (t : Fin k0_t1_loop.trips) (g : Fin 2), cOff t g = 256 * t.val + 128 * g.val := by decide +kernel

theorem cOff_le (t : Fin k0_t1_loop.trips) (g : Fin 2) : cOff t g + 128 ≤ 1024 := by
  rw [cOff_eq]; have : t.val < 4 := t.isLt; omega

section
variable (t : Fin k0_t1_loop.trips) (g : Fin 2)

theorem inb4 {A B S : Nat} {y w : Nat} (hy : y < A) (hw : w + S ≤ B) : ∀ a : Fin 4,
    (![0, y, w, cOff t g] : Fin 4 → Nat) a + (![1, 1, S, 128] : Fin 4 → Nat) a ≤ (![1, A, B, 1024] : Fin 4 → Nat) a := by
  have := cOff_le t g
  intro a; fin_cases a <;> simp <;> omega

theorem inb3 {A S : Nat} {y : Nat} (hy : y + S ≤ A) : ∀ a : Fin 3,
    (![0, y, cOff t g] : Fin 3 → Nat) a + (![1, S, 128] : Fin 3 → Nat) a ≤ (![1, A, 1024] : Fin 3 → Nat) a := by
  have := cOff_le t g
  intro a; fin_cases a <;> simp <;> omega

/-- Thirty-two rows of a level-0 row. -/
abbrev rc0 (y : Fin 48) (w : Fin 33) : Rect S1x48x64x1024 :=
  Rect.unit (s := S1x48x64x1024) ![0, y.val, w.val, cOff t g] S1x1x32x128.size (inb4 t g y.isLt (by have := w.isLt; omega))
abbrev rc1 (y : Fin 24) : Rect S1x24x32x1024 :=
  Rect.unit (s := S1x24x32x1024) ![0, y.val, 0, cOff t g] S1x1x32x128.size (inb4 t g y.isLt (by omega))
abbrev rc2 (y : Fin 12) : Rect S1x12x16x1024 :=
  Rect.unit (s := S1x12x16x1024) ![0, y.val, 0, cOff t g] S1x1x16x128.size (inb4 t g y.isLt (by omega))
abbrev rc3 (y : Fin 6) : Rect S1x6x8x1024 :=
  Rect.unit (s := S1x6x8x1024) ![0, y.val, 0, cOff t g] S1x1x8x128.size (inb4 t g y.isLt (by omega))
abbrev rfl' (y : Fin 2) : Rect S1x2x1024 :=
  Rect.unit (s := S1x2x1024) ![0, y.val, cOff t g] S1x1x128.size (inb3 t g (by have := y.isLt; omega))
abbrev rsc : Rect S1x4x1024 :=
  Rect.unit (s := S1x4x1024) ![0, 0, cOff t g] S1x4x128.size (inb3 t g (by omega))
abbrev rcode (n : Fin 10) : Rect S1x324x1024 :=
  Rect.unit (s := S1x324x1024) ![0, 32 * n.val, cOff t g] S1x32x128.size (inb3 t g (by have := n.isLt; omega))
abbrev rcodeL : Rect S1x324x1024 :=
  Rect.unit (s := S1x324x1024) ![0, 320, cOff t g] S1x4x128.size (inb3 t g (by omega))

end

theorem inbZ {b S : Nat} (hb : b + 9 * (S - 1) < 1152) : ∀ a : Fin 2,
    (![S, 128] : Fin 2 → Nat) a = 0 ∨ (![b, 0] : Fin 2 → Nat) a + (![9, 1] : Fin 2 → Nat) a * ((![S, 128] : Fin 2 → Nat) a - 1) < (![1152, 128] : Fin 2 → Nat) a := by
  intro a; right; fin_cases a <;> simp <;> omega

/-- The rows `b`, `b + 9`, … of the word table. -/
abbrev rz8 (b : Nat) (hb : b + 63 < 1152) : Rect S1152x128 :=
  ⟨(⟨![b, 0], S8x128.size, ![9, 1], inbZ (by omega)⟩ : LoadRect S1152x128), spos_9_1⟩
abbrev rz4 (b : Nat) (hb : b + 27 < 1152) : Rect S1152x128 :=
  ⟨(⟨![b, 0], S4x128.size, ![9, 1], inbZ (by omega)⟩ : LoadRect S1152x128), spos_9_1⟩
abbrev rz2 (b : Nat) (hb : b + 9 < 1152) : Rect S1152x128 :=
  ⟨(⟨![b, 0], S2x128.size, ![9, 1], inbZ (by omega)⟩ : LoadRect S1152x128), spos_9_1⟩

theorem inbU2 {b S A : Nat} (hb : b + S ≤ A) : ∀ a : Fin 2,
    (![b, 0] : Fin 2 → Nat) a + (![S, 128] : Fin 2 → Nat) a ≤ (![A, 128] : Fin 2 → Nat) a := by
  intro a; fin_cases a <;> simp <;> omega

/-- Eight consecutive rows of the word table. -/
abbrev rzU (b : Nat) (hb : b + 8 ≤ 1152) : Rect S1152x128 :=
  Rect.unit (s := S1152x128) ![b, 0] S8x128.size (inbU2 hb)

theorem inbY (n : Fin 40) : ∀ a : Fin 3,
    (![n.val, 0, 0] : Fin 3 → Nat) a + (![1, 8, 128] : Fin 3 → Nat) a ≤ (![40, 8, 128] : Fin 3 → Nat) a := by
  have := n.isLt
  intro a; fin_cases a <;> simp <;> omega

abbrev rY (n : Fin 40) : Rect S40x8x128 := Rect.unit (s := S40x8x128) ![n.val, 0, 0] S1x8x128.size (inbY n)

abbrev rqU (n : Fin 30) : Rect S960x128 :=
  Rect.unit (s := S960x128) ![32 * n.val, 0] S32x128.size (inbU2 (by have := n.isLt; omega))

theorem inbQ {b : Nat} (hb : b + 28 < 960) : ∀ a : Fin 2,
    (![8, 128] : Fin 2 → Nat) a = 0 ∨ (![b, 0] : Fin 2 → Nat) a + (![4, 1] : Fin 2 → Nat) a * ((![8, 128] : Fin 2 → Nat) a - 1) < (![960, 128] : Fin 2 → Nat) a := by
  intro a; right; fin_cases a <;> simp <;> omega

abbrev rq (b : Nat) (hb : b + 28 < 960) : LoadRect S960x128 := ⟨![b, 0], S8x128.size, ![4, 1], inbQ hb⟩

theorem inbF {b : Nat} (hb : b + 567 < 648) : ∀ a : Fin 2,
    (![8, 128] : Fin 2 → Nat) a = 0 ∨ (![b, 0] : Fin 2 → Nat) a + (![81, 1] : Fin 2 → Nat) a * ((![8, 128] : Fin 2 → Nat) a - 1) < (![648, 128] : Fin 2 → Nat) a := by
  intro a; right; fin_cases a <;> simp <;> omega

abbrev rf (b : Nat) (hb : b + 567 < 648) : Rect S648x128 :=
  ⟨(⟨![b, 0], S8x128.size, ![81, 1], inbF hb⟩ : LoadRect S648x128), spos_81_1⟩

abbrev rfU (b : Nat) (hb : b + 32 ≤ 648) : Rect S648x128 := Rect.unit (s := S648x128) ![b, 0] S32x128.size (inbU2 hb)
abbrev rfL (b : Nat) (hb : b + 4 ≤ 648) : Rect S648x128 := Rect.unit (s := S648x128) ![b, 0] S4x128.size (inbU2 hb)

theorem packed_code (t : Fin k0_t1_loop.trips) (g : Fin 2) (n : Fin 10) : (rcode t g n).PackedRows (EltTy.packing .i8) := by
  revert t g n; decide +kernel

theorem packed_codeL (t : Fin k0_t1_loop.trips) (g : Fin 2) : (rcodeL t g).PackedRows (EltTy.packing .i8) := by
  revert t g; decide +kernel

/-! ## The steps -/

section Steps

variable (M : Mems sig fam) (t : Fin k0_t1_loop.trips)

/-- A load of buffer `i`. -/
abbrev ld (i : Fin 12) (r : LoadRect (fam.sh i)) (h : (M i).view.LoadsAt r) : TP F (r.shape.Idx → Elt F (fam.el i)) :=
  Prog.lift (.load (M i) r h)

/-- A row of eight lanes spread over the eight rows. -/
abbrev rowB {α : Type} (v : S8x128.Idx → α) (o : Fin 2 → Nat) (h : S8x128.Slices o S1x128) : S8x128.Idx → α :=
  broadcastTo S8x128 (shapeCast S1x128 (extractStridedSlice S1x128 o v h) shapeCasts_S1x128_S1x128) broadcasts_S1x128_S8x128

abbrev words32 (v : S1x1x32x128.Idx → BitVec 8) : S8x128.Idx → BitVec 32 :=
  bitcast S8x128 32 (shapeCast S32x128 v shapeCasts_S1x1x32x128_S32x128) bitcasts_S32x128_w8_S8x128_w32
abbrev words16 (v : S1x1x16x128.Idx → BitVec 8) : S4x128.Idx → BitVec 32 :=
  bitcast S4x128 32 (shapeCast S16x128 v shapeCasts_S1x1x16x128_S16x128) bitcasts_S16x128_w8_S4x128_w32
abbrev words8 (v : S1x1x8x128.Idx → BitVec 8) : S2x128.Idx → BitVec 32 :=
  bitcast S2x128 32 (shapeCast S8x128 v shapeCasts_S1x1x8x128_S8x128) bitcasts_S8x128_w8_S2x128_w32

/-- The words of level-0 row `y`, from the upper half where the patch reaches it. -/
def half0 (g : Fin 2) (upper : IVec S8x128 1) (y : Fin 48) : TP F (S8x128.Idx → BitVec 32) := do
  let a ← ld M 0 (rc0 t g y 32).toLoadRect (View.loadsAt_vmem h_S1x1x32x128)
  let b ← ld M 0 (rc0 t g y 0).toLoadRect (View.loadsAt_vmem h_S1x1x32x128)
  pure (select upper (words32 a) (words32 b))

def stZ8 (b : Nat) (hb : b + 63 < 1152) (w : S8x128.Idx → BitVec 32) : TP F PUnit := do
  let _ ← ld M 8 (rz8 b hb).toLoadRect (View.loadsAt_vmem h_S8x128)
  Prog.lift (.store (M 8) (rz8 b hb) (shapeCast S8x128 w shapeCasts_S8x128_S8x128) Finset.univ (View.stores_vmem_bits_univ h_S8x128 rfl) (.inl rfl))

def stZ4 (b : Nat) (hb : b + 27 < 1152) (w : S4x128.Idx → BitVec 32) : TP F PUnit := do
  let _ ← ld M 8 (rz4 b hb).toLoadRect (View.loadsAt_vmem h_S4x128)
  Prog.lift (.store (M 8) (rz4 b hb) (shapeCast S4x128 w shapeCasts_S4x128_S4x128) Finset.univ (View.stores_vmem_bits_univ h_S4x128 rfl) (.inl rfl))

def stZ2 (b : Nat) (hb : b + 9 < 1152) (w : S2x128.Idx → BitVec 32) : TP F PUnit := do
  let _ ← ld M 8 (rz2 b hb).toLoadRect (View.loadsAt_vmem h_S2x128)
  Prog.lift (.store (M 8) (rz2 b hb) (shapeCast S2x128 w shapeCasts_S2x128_S2x128) Finset.univ (View.stores_vmem_bits_univ h_S2x128 rfl) (.inl rfl))

/-- Slot `k` of level 0: the row among `k`, `k + 16`, `k + 32` that the patch wants. -/
def fill0 (g : Fin 2) (ys : IVec S8x128 32) (upper : IVec S8x128 1) (k : Fin 16) : TP F PUnit := do
  let v0 ← half0 M t g upper ⟨k.val, by omega⟩
  let v1 ← half0 M t g upper ⟨k.val + 16, by omega⟩
  let r1 := select (cmpi .sge ys (broadcast S8x128 (BitVec.ofNat 32 (k.val + 7)))) v1 v0
  let v2 ← half0 M t g upper ⟨k.val + 32, by omega⟩
  let r2 := select (cmpi .sge ys (broadcast S8x128 (BitVec.ofNat 32 (k.val + 23)))) v2 r1
  stZ8 M (72 * k.val + 4 * g.val) (by omega) r2

def fill1a (g : Fin 2) (ys : IVec S8x128 32) (k : Fin 8) : TP F PUnit := do
  let a ← ld M 1 (rc1 t g ⟨k.val, by omega⟩).toLoadRect (View.loadsAt_vmem h_S1x1x32x128)
  let b ← ld M 1 (rc1 t g ⟨k.val + 16, by omega⟩).toLoadRect (View.loadsAt_vmem h_S1x1x32x128)
  stZ8 M (72 * k.val + 4 * g.val + 1) (by omega)
    (select (cmpi .sge ys (broadcast S8x128 (BitVec.ofNat 32 (k.val + 7)))) (words32 b) (words32 a))

def fill1b (g : Fin 2) (k : Fin 8) : TP F PUnit := do
  let a ← ld M 1 (rc1 t g ⟨k.val + 8, by omega⟩).toLoadRect (View.loadsAt_vmem h_S1x1x32x128)
  stZ8 M (72 * (k.val + 8) + 4 * g.val + 1) (by omega) (words32 a)

def fill2 (g : Fin 2) (k : Fin 12) : TP F PUnit := do
  let a ← ld M 2 (rc2 t g k).toLoadRect (View.loadsAt_vmem h_S1x1x16x128)
  stZ4 M (72 * k.val + 4 * g.val + 2) (by omega) (words16 a)

def fill3 (g : Fin 2) (k : Fin 6) : TP F PUnit := do
  let a ← ld M 3 (rc3 t g k).toLoadRect (View.loadsAt_vmem h_S1x1x8x128)
  stZ2 M (72 * k.val + 4 * g.val + 3) (by omega) (words8 a)

/-- The row number. -/
abbrev subI : IVec S8x128 32 := iota .tc S8x128 32 [0] iota_S8x128_d0_w32
abbrev laneI : IVec S8x128 32 := iota .tc S8x128 32 [1] iota_S8x128_d1_w32

/-- The word table of group `g`. -/
def fill (g : Fin 2) (y0 y1 xw : IVec S8x128 32) : TP F PUnit := do
  forN 16 (fill0 M t g y0 (cmpi .sle subI (subi xw (broadcast S8x128 5#32))))
  forN 8 (fill1a M t g y1)
  forN 8 (fill1b M t g)
  forN 12 (fill2 M t g)
  forN 6 (fill3 M t g)

/-- One stage of the row rotation: slots moved by `m` where the bit is set. -/
abbrev stage {V : Type} (bit : IVec S8x128 1) (m : Fin 16) (r : Fin 16 → S8x128.Idx → V) : Fin 16 → S8x128.Idx → V :=
  fun k => select bit (r (k + m)) (r k)

def ldPair (hi : IVec S8x128 1) (s : Fin 4) (k : Fin 16) : TP F (S8x128.Idx → BitVec 32) := do
  let a ← ld M 8 (rzU (72 * k.val + 9 * s.val) (by omega)).toLoadRect (View.loadsAt_vmem h_S8x128)
  let b ← ld M 8 (rzU (72 * k.val + 9 * s.val + 36) (by omega)).toLoadRect (View.loadsAt_vmem h_S8x128)
  pure (select hi b a)

def stY (n : Fin 40) (w : S8x128.Idx → BitVec 32) : TP F PUnit := do
  let _ ← ld M 9 (rY n).toLoadRect (View.loadsAt_vmem h_S1x8x128)
  Prog.lift (.store (M 9) (rY n) (shapeCast S1x8x128 w shapeCasts_S8x128_S1x8x128) Finset.univ (View.stores_vmem_bits_univ h_S1x8x128 rfl) (.inl rfl))

/-- A bit of the numbers, as a mask. -/
abbrev bitM (v : IVec S8x128 32) (m : BitVec 32) : IVec S8x128 1 :=
  cmpi .ne (andi v (broadcast S8x128 m)) (broadcast S8x128 0#32)

/-- The ten rows of the patch, of the words in residue class `s`. -/
def rows (y0 xw : IVec S8x128 32) (s : Fin 4) : TP F PUnit := do
  let r ← getN 16 (ldPair M (bitM (subi (broadcast S8x128 (BitVec.ofNat 32 s.val)) xw) 4#32) s)
  let r' := stage (bitM y0 1#32) 1 (stage (bitM y0 2#32) 2 (stage (bitM y0 4#32) 4 (stage (bitM y0 8#32) 8 r)))
  forN 10 fun j => stY M ⟨4 * j.val + s.val, by omega⟩ (r' ⟨j.val, by omega⟩)

def ldY (n : Fin 40) : TP F (S8x128.Idx → BitVec 32) := do
  let v ← ld M 9 (rY n).toLoadRect (View.loadsAt_vmem h_S1x8x128)
  pure (shapeCast S8x128 v shapeCasts_S1x8x128_S8x128)

/-- Four bytes of two neighbouring words from a byte offset. -/
abbrev funnel (lo hi sh : IVec S8x128 32) : IVec S8x128 32 :=
  ori (shrui lo sh) (shli (shli hi (broadcast S8x128 8#32)) (subi (broadcast S8x128 24#32) sh))

def stQ (n : Fin 30) (w : IVec S8x128 32) : TP F PUnit := do
  let _ ← ld M 10 (rqU n).toLoadRect (View.loadsAt_vmem h_S32x128)
  Prog.lift (.store (M 10) (rqU n) (shapeCast S32x128 (extf (F := F) .f32 (sitofp .bf16 (bitcast S32x128 8 w bitcasts_S8x128_w32_S32x128_w8)) bitsLt_bf16_f32) shapeCasts_S32x128_S32x128)
    Finset.univ (View.stores_vmem_bits_univ h_S32x128 rfl) (.inl rfl))

def ldQ (j i : Fin 10) : TP F (S8x128.Idx → F .f32) :=
  ld M 10 (rq ((j.val * 3 + i.val / 4) * 32 + i.val % 4) (by omega)) (View.loadsAt_vmem h_S8x128)

/-- The ten bytes of patch row `j`, as numbers. -/
def patchRow (x0 xw : IVec S8x128 32) (j : Fin 10) : TP F (Fin 10 → S8x128.Idx → F .f32) := do
  let w ← getN 4 fun s : Fin 4 => ldY M ⟨4 * j.val + s.val, by omega⟩
  let w1 : Fin 4 → IVec S8x128 32 := fun s => select (bitM xw 2#32) (w (s + 2)) (w s)
  let w2 : Fin 4 → IVec S8x128 32 := fun s => select (bitM xw 1#32) (w1 (s + 1)) (w1 s)
  let sh := shli (andi x0 (broadcast S8x128 3#32)) (broadcast S8x128 3#32)
  forN 3 fun s : Fin 3 => stQ M ⟨3 * j.val + s.val, by omega⟩ (funnel (w2 ⟨s.val, by omega⟩) (w2 ⟨s.val + 1, by omega⟩) sh)
  getN 10 (ldQ M j)

/-- One row of nine interpolations along x. -/
abbrev curOf (ax bx : Fin 10 → FVec F S8x128 .f32) (q : Fin 10 → S8x128.Idx → F .f32) (i : Fin 9) : FVec F S8x128 .f32 :=
  addf (mulf (ax ⟨i.val, by omega⟩) (q ⟨i.val, by omega⟩)) (mulf (bx ⟨i.val + 1, by omega⟩) (q ⟨i.val + 1, by omega⟩))

def stF (b : Nat) (hb : b + 567 < 648) (w : FVec F S8x128 .f32) : TP F PUnit := do
  let _ ← ld M 11 (rf b hb).toLoadRect (View.loadsAt_vmem h_S8x128)
  Prog.lift (.store (M 11) (rf b hb) (shapeCast S8x128 w shapeCasts_S8x128_S8x128) Finset.univ (View.stores_vmem_bits_univ h_S8x128 rfl) (.inl rfl))

/-- The running maximum of absolute values. -/
abbrev maxO : Option (FVec F S8x128 .f32) → FVec F S8x128 .f32 → Option (FVec F S8x128 .f32)
  | none, f => some (absf f)
  | some a, f => some (maximumf a (absf f))

/-- The maximum over the first `n` of the taps. -/
def maxN (o : Option (FVec F S8x128 .f32)) : (n : Nat) → (Fin n → FVec F S8x128 .f32) → Option (FVec F S8x128 .f32)
  | 0, _ => o
  | n + 1, f => maxN (maxO o (f 0)) n fun i => f i.succ

/-- Rows `j0 + 1`, …, `j0 + n` of taps, given row `j0`'s interpolations. -/
def tapRows (x0 xw : IVec S8x128 32) (ax bx ay by' : Fin 10 → FVec F S8x128 .f32) : (n j0 : Nat) → (h : j0 + n < 10) →
    (prev : Fin 9 → FVec F S8x128 .f32) → (amax : Option (FVec F S8x128 .f32)) → TP F (Option (FVec F S8x128 .f32))
  | 0, _, _, _, amax => pure amax
  | n + 1, j0, h, prev, amax => do
    let q ← patchRow M x0 xw ⟨j0 + 1, by omega⟩
    let cur := curOf ax bx q
    let f : Fin 9 → FVec F S8x128 .f32 := fun i =>
      addf (mulf (ay ⟨j0, by omega⟩) (prev i)) (mulf (by' ⟨j0 + 1, by omega⟩) (cur i))
    forN 9 fun i => stF M (9 * i.val + j0) (by omega) (f i)
    tapRows x0 xw ax bx ay by' n (j0 + 1) (by omega) cur (maxN amax 9 f)

/-- The maxima of the four levels of a group. -/
abbrev amaxOf (v : FVec F S8x128 .f32) (o : Fin 2 → Nat) (h : S8x128.Slices o S4x128) : FVec F S1x128 .f32 :=
  shapeCast S1x128 (multiReduction .maximumf [0] S128 (extractStridedSlice S4x128 o v h) 0xFF800000#32 reduces_S4x128_S128 (.inl rfl) rfl) shapeCasts_S128_S1x128

/-- The scale of a row of maxima. -/
abbrev scaleOf (a : FVec F S1x128 .f32) : FVec F S1x128 .f32 :=
  select (cmpf .oeq a (broadcast S1x128 (Scalar.ofBits .f32 0x00000000#32))) (broadcast S1x128 (Scalar.ofBits .f32 0x3F800000#32))
    (divf a (broadcast S1x128 (Scalar.ofBits .f32 0x42FE0000#32)))

abbrev clipOf {s : Shape} (v : FVec F s .f32) : IVec s 8 :=
  fptosi 8 (minimumf (broadcast s (Scalar.ofBits .f32 0x42FE0000#32)) (maximumf (broadcast s (Scalar.ofBits .f32 0xC2FE0000#32)) (roundeven v)))

def stCode (harg8 : (M 6).IsWhole) (g : Fin 2) (r : FVec F S8x128 .f32) (n : Fin 10) : TP F PUnit := do
  let v ← ld M 11 (rfU (324 * g.val + 32 * n.val) (by omega)).toLoadRect (View.loadsAt_vmem h_S32x128)
  let w := mulf v (broadcastTo S32x128 (extractStridedSlice S1x128 ![0, 0] r slices_S8x128_o0_0_S1x128) broadcasts_S1x128_S32x128)
  let _ ← ld M 6 (rcode t g n).toLoadRect (View.loadsAt_vmem h_S1x32x128)
  Prog.lift (.store (M 6) (rcode t g n) (shapeCast S1x32x128 (clipOf w) shapeCasts_S32x128_S1x32x128) Finset.univ
    (View.stores_vmem h_S1x32x128 (harg8.storeExact_slice rfl _ (packed_code t g n)) (fun _ => rfl)) (.inl rfl))

def stCodeL (harg8 : (M 6).IsWhole) (g : Fin 2) (r : FVec F S8x128 .f32) : TP F PUnit := do
  let v ← ld M 11 (rfL (324 * g.val + 320) (by omega)).toLoadRect (View.loadsAt_vmem h_S4x128)
  let w := mulf v (broadcastTo S4x128 (extractStridedSlice S1x128 ![0, 0] r slices_S8x128_o0_0_S1x128) broadcasts_S1x128_S4x128)
  let _ ← ld M 6 (rcodeL t g).toLoadRect (View.loadsAt_vmem h_S1x4x128)
  Prog.lift (.store (M 6) (rcodeL t g) (shapeCast S1x4x128 (clipOf w) shapeCasts_S4x128_S1x4x128) Finset.univ
    (View.stores_vmem h_S1x4x128 (harg8.storeExact_slice rfl _ (packed_codeL t g)) (fun _ => rfl)) (.inl rfl))

/-- The scales and codes of group `g`. -/
def quant (harg8 : (M 6).IsWhole) (i : grid0.Coords) (g : Fin 2) (s : FVec F S1x128 .f32) : TP F PUnit := do
  let v ← ld M 7 (Rect.unit (s := S8x3072) (k0_off142 i t (BitVec.ofNat 32 (128 * g.val))) S8x128.size (k0_off142_inb i t g)).toLoadRect (View.loadsAt_vmem h_S8x128)
  let _ ← ld M 7 (Rect.unit (s := S8x3072) (k0_off142 i t (BitVec.ofNat 32 (128 * g.val))) S8x128.size (k0_off142_inb i t g)).toLoadRect (View.loadsAt_vmem h_S8x128)
  Prog.lift (.store (M 7) (Rect.unit (s := S8x3072) (k0_off142 i t (BitVec.ofNat 32 (128 * g.val))) S8x128.size (k0_off142_inb i t g))
    (select (cmpi .eq subI (broadcast S8x128 (Scalar.andi (BitVec.ofNat 32 (i 0).val) 7#32)))
      (broadcastTo S8x128 (shapeCast S1x128 s shapeCasts_S1x128_S1x128) broadcasts_S1x128_S8x128)
      (shapeCast S8x128 v shapeCasts_S8x128_S8x128)) Finset.univ (View.stores_vmem_bits_univ h_S8x128 rfl) (.inl rfl))
  let r := broadcastTo S8x128 (shapeCast S1x128 (divf (broadcast S1x128 (Scalar.ofBits .f32 0x3F800000#32)) s) shapeCasts_S1x128_S1x128) broadcasts_S1x128_S8x128
  forN 10 (stCode M t harg8 g r)
  stCodeL M t harg8 g r

/-! ## The trip -/

/-- The level of a row. -/
abbrev levI : IVec S8x128 32 := andi subI (broadcast S8x128 3#32)
abbrev grpM : IVec S8x128 1 := cmpi .slt subI (broadcast S8x128 4#32)
abbrev invV : FVec F S8x128 .f32 :=
  bitcastToFloat .f32 (shli (subi (broadcast S8x128 127#32) levI) (broadcast S8x128 23#32))
abbrev wlI : IVec S8x128 32 := shrsi (broadcast S8x128 64#32) levI
abbrev hlI : IVec S8x128 32 := shrsi (broadcast S8x128 48#32) levI

/-- The pixel number. -/
abbrev pixI (i : grid0.Coords) : IVec S8x128 32 :=
  addi (addi (broadcast S8x128 (Scalar.addi (Scalar.muli (BitVec.ofNat 32 (i 1).val) 1024#32) (Scalar.muli (Scf.iv 0#32 1#32 t) 256#32))) laneI)
    (select grpM (broadcast S8x128 0#32) (broadcast S8x128 128#32))

abbrev flowV (a b : S1x1x128.Idx → F .f32) : FVec F S8x128 .f32 :=
  select grpM (broadcastTo S8x128 (shapeCast S1x128 (shapeCast S1x128 a shapeCasts_S1x1x128_S1x128) shapeCasts_S1x128_S1x128) broadcasts_S1x128_S8x128)
    (broadcastTo S8x128 (shapeCast S1x128 (shapeCast S1x128 b shapeCasts_S1x1x128_S1x128) shapeCasts_S1x128_S1x128) broadcasts_S1x128_S8x128)

/-- The clipped first coordinate of the patch. -/
abbrev clip0 (hi : BitVec 32) (f : FVec F S8x128 .f32) : IVec S8x128 32 :=
  subi (fptosi 32 (minimumf (broadcast S8x128 (Scalar.ofBits .f32 hi)) (maximumf (broadcast S8x128 (Scalar.ofBits .f32 0xC1800000#32)) f))) (broadcast S8x128 4#32)

/-- Whether the coordinate of number `n` lies in the level. -/
abbrev inM (x0 lim : IVec S8x128 32) (n : Fin 10) : IVec S8x128 1 :=
  andi (cmpi .sge (addi x0 (broadcast S8x128 (BitVec.ofNat 32 n.val))) (broadcast S8x128 0#32))
    (cmpi .slt (addi x0 (broadcast S8x128 (BitVec.ofNat 32 n.val))) lim)

abbrev zeroV : FVec F S8x128 .f32 := broadcast S8x128 (Scalar.ofBits .f32 0x00000000#32)
abbrev oneV : FVec F S8x128 .f32 := broadcast S8x128 (Scalar.ofBits .f32 0x3F800000#32)

/-- From the coordinates on. -/
def tripOf (harg8 : (M 6).IsWhole) (i : grid0.Coords) (cx cy scale : FVec F S8x128 .f32) : TP F Unit := do
  let fx := subf cx (floor cx)
  let fy := subf cy (floor cy)
  let x0 := clip0 0x42A00000#32 (floor cx)
  let y0 := clip0 0x42800000#32 (floor cy)
  let xw := shrsi x0 (broadcast S8x128 2#32)
  fill M t 0 (rowB y0 ![0, 0] slices_S8x128_o0_0_S1x128) (rowB y0 ![1, 0] slices_S8x128_o1_0_S1x128) (rowB xw ![0, 0] slices_S8x128_o0_0_S1x128)
  fill M t 1 (rowB y0 ![4, 0] slices_S8x128_o4_0_S1x128) (rowB y0 ![5, 0] slices_S8x128_o5_0_S1x128) (rowB xw ![4, 0] slices_S8x128_o4_0_S1x128)
  forN 4 (rows M y0 xw)
  let ax : Fin 10 → FVec F S8x128 .f32 := fun n => select (inM x0 wlI n) (subf oneV fx) zeroV
  let bx : Fin 10 → FVec F S8x128 .f32 := fun n => select (inM x0 wlI n) fx zeroV
  let ay : Fin 10 → FVec F S8x128 .f32 := fun n => select (inM y0 hlI n) (mulf scale (subf oneV fy)) zeroV
  let by' : Fin 10 → FVec F S8x128 .f32 := fun n => select (inM y0 hlI n) (mulf scale fy) zeroV
  let q ← patchRow M x0 xw 0
  let amax ← tapRows M x0 xw ax bx ay by' 9 0 (by omega) (curOf ax bx q) none
  quant M t harg8 i 0 (scaleOf (amaxOf (amax.getD zeroV) ![0, 0] slices_S8x128_o0_0_S4x128))
  quant M t harg8 i 1 (scaleOf (amaxOf (amax.getD zeroV) ![4, 0] slices_S8x128_o4_0_S4x128))
  pure ⟨⟩

/-- One trip. -/
def trip (harg8 : (M 6).IsWhole) (i : grid0.Coords) : TP F Unit := do
  let a ← ld M 5 (rfl' t 0 0).toLoadRect (View.loadsAt_vmem h_S1x1x128)
  let b ← ld M 5 (rfl' t 1 0).toLoadRect (View.loadsAt_vmem h_S1x1x128)
  let a' ← ld M 5 (rfl' t 0 1).toLoadRect (View.loadsAt_vmem h_S1x1x128)
  let b' ← ld M 5 (rfl' t 1 1).toLoadRect (View.loadsAt_vmem h_S1x1x128)
  let s0 ← ld M 4 (rsc t 0).toLoadRect (View.loadsAt_vmem h_S1x4x128)
  let s1 ← ld M 4 (rsc t 1).toLoadRect (View.loadsAt_vmem h_S1x4x128)
  tripOf M t harg8 i
    (mulf (addf (sitofp .f32 (andi (pixI t i) (broadcast S8x128 63#32))) (flowV a b)) invV)
    (mulf (addf (sitofp .f32 (shrsi (pixI t i) (broadcast S8x128 6#32))) (flowV a' b')) invV)
    (concatenate S8x128 0 [⟨S4x128, shapeCast S4x128 s0 shapeCasts_S1x4x128_S4x128⟩, ⟨S4x128, shapeCast S4x128 s1 shapeCasts_S1x4x128_S4x128⟩] concatenates_S4x128_S4x128_S8x128_d0)

end Steps

end Cert.KernelIdeal.Hand

end
-- ==== Proof.Wr.lean ====
/-
  Triples of the repeated steps. `Wr b T A` says: only buffer `b` changed, on `A` it reads the target `T`, and elsewhere it
  reads the target or what it read before. Such statements compose without any condition on where the writes lie.
-/
module

public import proofs.«01_k».proof.Proof.Trip
public import Idealize.ShloMosaic.Lib.BitcastFour
public import Idealize.ShloMosaic.Lib.ValueLayout

@[expose] public section

noncomputable section

namespace Cert.KernelIdeal.Hand

open Cert.KernelIdeal Cert.KernelIdeal.Gen Cert.Triple
open Idealize.ShloMosaic Idealize.ShloMosaic.TcCoe Idealize.ShloMosaic.Tactic
open Idealize.SL Idealize.SL.Sem

variable {F : FTy → Type} [FloatOps F] [∀ e, Nonempty (Elt F e)]

/-- What the buffers read. -/
abbrev Stt (F : FTy → Type) := St (Elt F) fam

def Wr (b : Fin 12) (T : (fam.sh b).Idx → Elt F (fam.el b)) (A : (fam.sh b).Idx → Prop) (s s' : Stt F) : Prop :=
  (∀ i, i ≠ b → s' i = s i) ∧ (∀ x, A x → s' b x = T x) ∧ ∀ x, s' b x = s b x ∨ s' b x = T x

theorem Wr.nil {b : Fin 12} {T : (fam.sh b).Idx → Elt F (fam.el b)} {s : Stt F} : Wr b T (fun _ => False) s s :=
  ⟨fun _ _ => rfl, fun _ h => h.elim, fun _ => .inl rfl⟩

theorem Wr.trans {b : Fin 12} {T : (fam.sh b).Idx → Elt F (fam.el b)} {A A' : (fam.sh b).Idx → Prop} {s s' s'' : Stt F}
    (h : Wr b T A s s') (h' : Wr b T A' s' s'') : Wr b T (fun x => A x ∨ A' x) s s'' := by
  refine ⟨fun i hi => (h'.1 i hi).trans (h.1 i hi), ?_, ?_⟩
  · rintro x (hx | hx)
    · rcases h'.2.2 x with e | e
      · rw [e, h.2.1 x hx]
      · exact e
    · exact h'.2.1 x hx
  · intro x
    rcases h'.2.2 x with e | e
    · rw [e]; exact h.2.2 x
    · exact .inr e

theorem Wr.mono {b : Fin 12} {T : (fam.sh b).Idx → Elt F (fam.el b)} {A A' : (fam.sh b).Idx → Prop} {s s' : Stt F}
    (h : Wr b T A s s') (hA : ∀ x, A' x → A x) : Wr b T A' s s' :=
  ⟨h.1, fun x hx => h.2.1 x (hA x hx), h.2.2⟩

section
variable {defs₀ : Defs nD τ sig (Elt F) Λ₀} {c : Dev nD} {M : Mems sig fam} {α β : Type}

/-- The elements of a rectangle. -/
def rng {sh : Shape} (r : Rect sh) (y : sh.Idx) : Prop := ∃ x : r.shape.Idx, r.emb x = y

theorem trLd {s : Stt F} (i : Fin 12) {r : LoadRect (fam.sh i)} {h : (M i).view.LoadsAt r}
    {Q : (r.shape.Idx → Elt F (fam.el i)) → Stt F → Prop} (hQ : Q (fun x => s i (r.idx x)) s) : Tr defs₀ c M s (ld M i r h) Q :=
  Tr.load (B := fam) i (Tr.ret hQ)

theorem trSt {s : Stt F} (b : Fin 12) {r : Rect (fam.sh b)} {w : r.shape.Idx → Elt F (fam.el b)}
    {hx : ((M b).access r).Stores Finset.univ} {hm} (T : (fam.sh b).Idx → Elt F (fam.el b)) (hT : ∀ x, w x = T (r.emb x)) :
    Tr defs₀ c M s (Prog.lift (.store (M b) r w Finset.univ hx hm)) fun _ s' => Wr b T (rng r) s s' := by
  refine Tr.store (B := fam) b (Tr.ret ⟨fun i hi => upd_of_ne _ hi, ?_, fun y => ?_⟩)
  · rintro _ ⟨x, rfl⟩
    rw [upd_self, Rect.overlay_emb, hT]
  · rw [upd_self]
    by_cases hy : y ∈ r.set
    · obtain ⟨x, rfl⟩ := r.exists_idx_of_mem hy
      exact .inr ((Rect.overlay_emb r _ _ x).trans (hT x))
    · exact .inl (Rect.overlay_of_not_mem r _ _ hy)

/-- A dead load, then a store. -/
theorem trLdst {s : Stt F} (b : Fin 12) {r : Rect (fam.sh b)} {r' : LoadRect (fam.sh b)} {hl : (M b).view.LoadsAt r'}
    {w : r.shape.Idx → Elt F (fam.el b)}
    {hx : ((M b).access r).Stores Finset.univ} {hm} (T : (fam.sh b).Idx → Elt F (fam.el b)) (hT : ∀ x, w x = T (r.emb x)) :
    Tr defs₀ c M s (ld M b r' hl >>= fun _ => Prog.lift (.store (M b) r w Finset.univ hx hm))
      fun _ s' => Wr b T (rng r) s s' :=
  Tr.bind (R := fun _ s' => s' = s) (trLd b rfl) fun _ s' h => by subst h; exact trSt b T hT

theorem trForN (b : Fin 12) (T : (fam.sh b).Idx → Elt F (fam.el b)) (s0 : Stt F) :
    (n : Nat) → (f : Fin n → TP F PUnit) → (A : Fin n → (fam.sh b).Idx → Prop) → (s : Stt F) → (∀ i, i ≠ b → s i = s0 i) →
    (∀ k s', (∀ i, i ≠ b → s' i = s0 i) → Tr defs₀ c M s' (f k) fun _ s'' => Wr b T (A k) s' s'') →
    Tr defs₀ c M s (forN n f) fun _ s' => Wr b T (fun x => ∃ k, A k x) s s'
  | 0, f, A, s, hs, h => Tr.ret (Wr.nil.mono fun x ⟨k, _⟩ => k.elim0)
  | n + 1, f, A, s, hs, h => by
    refine Tr.bind (h 0 s hs) fun _ s' h0 => ?_
    refine (trForN b T s0 n (fun i => f i.succ) (fun i => A i.succ) s' (fun i hi => (h0.1 i hi).trans (hs i hi))
      fun k s'' h'' => h k.succ s'' h'').mono fun _ s'' h1 => (h0.trans h1).mono ?_
    rintro x ⟨k, hk⟩
    rcases Fin.eq_zero_or_eq_succ k with rfl | ⟨j, rfl⟩
    · exact .inl hk
    · exact .inr ⟨j, hk⟩

theorem trGetN {V : Type} : (n : Nat) → (f : Fin n → TP F V) → (v : Fin n → V) → (s : Stt F) →
    (∀ k, Tr defs₀ c M s (f k) fun a s' => a = v k ∧ s' = s) →
    Tr defs₀ c M s (getN n f) fun a s' => a = v ∧ s' = s
  | 0, f, v, s, h => Tr.ret ⟨funext fun k => k.elim0, rfl⟩
  | n + 1, f, v, s, h => by
    refine Tr.bind (h 0) fun a s' h0 => ?_
    obtain ⟨rfl, rfl⟩ := h0
    refine Tr.bind (trGetN n (fun i => f i.succ) (fun i => v i.succ) s' fun k => h k.succ) fun r s'' h1 => ?_
    obtain ⟨rfl, rfl⟩ := h1
    refine Tr.ret ⟨funext fun k => ?_, rfl⟩
    rcases Fin.eq_zero_or_eq_succ k with rfl | ⟨j, rfl⟩ <;> rfl

end

/-! ## Bytes and words -/

/-- Four bytes, the first lowest. -/
def pack (b : Fin 4 → BitVec 8) : BitVec 32 :=
  (b 0).setWidth 32 ||| ((b 1).setWidth 32 <<< 8) ||| ((b 2).setWidth 32 <<< 16) ||| ((b 3).setWidth 32 <<< 24)

theorem pack_bit (b : Fin 4 → BitVec 8) (q : Nat) (hq : q < 32) : (pack b).getLsbD q = (b ⟨q / 8, by omega⟩).getLsbD (q % 8) :=
  four_bytes_getLsbD b q hq

/-- Byte `n` of a word. -/
def byteOf (w : BitVec 32) (n : Nat) : BitVec 8 := (w >>> (8 * n)).setWidth 8

theorem byteOf_pack (b : Fin 4 → BitVec 8) (n : Fin 4) : byteOf (pack b) n.val = b n := by
  apply BitVec.eq_of_getLsbD_eq
  intro i hi
  rw [byteOf, BitVec.getLsbD_setWidth, BitVec.getLsbD_ushiftRight, pack_bit b _ (by omega)]
  have e : (⟨(8 * n.val + i) / 8, by omega⟩ : Fin 4) = n := Fin.ext (by simp; omega)
  rw [e, show (8 * n.val + i) % 8 = i by omega]
  simp [hi]

open ValueIdx

theorem bitcast_up {R r : Nat} (v : (⟨4, ![1, 1, R, 128]⟩ : Shape).Idx → BitVec 8) (h : (⟨2, ![R, 128]⟩ : Shape).Bitcasts 8 ⟨2, ![r, 128]⟩ 32)
    (hc : (⟨4, ![1, 1, R, 128]⟩ : Shape).ShapeCasts ⟨2, ![R, 128]⟩) (hR : R = 4 * r) (j : (⟨2, ![r, 128]⟩ : Shape).Idx) (f : Nat → BitVec 8)
    (hv : ∀ n (hn : n < R), v (ix4 0 0 ⟨n, hn⟩ (j 1)) = f n) :
    bitcast ⟨2, ![r, 128]⟩ 32 (shapeCast ⟨2, ![R, 128]⟩ v hc) h j = pack fun k => f (4 * (j 0).val + k.val) := by
  have h0 : (j 0).val < r := (j 0).isLt
  apply BitVec.eq_of_getLsbD_eq
  intro q hq
  have hn : 4 * (j 0).val + q / 8 < R := by omega
  rw [pack_bit _ q hq, show j = ix2 (j 0) (j 1) from eq_ix2 j]
  refine (bitcast_8_32_getLsbD_ix2 _ h (j 0) (j 1) q hq ⟨4 * (j 0).val + q / 8, hn⟩ rfl).trans ?_
  congr 1
  refine (congrArg v (reshapeEquiv_ix2_11ab _ _ _)).trans (hv _ hn)

theorem bitcast_down {R r : Nat} (x : (⟨2, ![r, 128]⟩ : Shape).Idx → BitVec 32) (h : (⟨2, ![r, 128]⟩ : Shape).Bitcasts 32 ⟨2, ![R, 128]⟩ 8)
    (hR : R = 4 * r) (j : (⟨2, ![R, 128]⟩ : Shape).Idx) (hj : (j 0).val / 4 < r) :
    bitcast ⟨2, ![R, 128]⟩ 8 x h j = byteOf (x (ix2 ⟨(j 0).val / 4, hj⟩ (j 1))) ((j 0).val % 4) := by
  apply BitVec.eq_of_getLsbD_eq
  intro q hq
  have hrow : (⟨2, ![R, 128]⟩ : Shape).row j = (j 0).val := rfl
  rw [bitcast_getLsbD x h _ q hq (by decide), byteOf, BitVec.getLsbD_setWidth, BitVec.getLsbD_ushiftRight]
  simp only [hq, decide_true, Bool.true_and]
  have e2 : ((⟨2, ![R, 128]⟩ : Shape).row j * 8 + q) % 32 = 8 * ((j 0).val % 4) + q := by rw [hrow]; omega
  rw [e2]
  congr 2
  funext d
  match d with
  | ⟨0, _⟩ => exact Fin.ext ((h.srcIdx_row _ _ _ ⟨0, Nat.zero_lt_two⟩ rfl).trans (by rw [hrow]; show _ = (j 0).val / 4; omega))
  | ⟨1, _⟩ => exact Fin.ext (h.srcIdx_other _ _ _ ⟨1, Nat.one_lt_two⟩ (by show ¬ 1 + 2 = 2; omega))

end Cert.KernelIdeal.Hand

end
-- ==== Proof.Fill.lean ====
/-
  The fill of the word table: at row `72 k + 9 w + 4 g + l` it holds the word of level `l` that slot `k`, word slot `w` calls for.
-/
module

public import proofs.«01_k».proof.Proof.Wr

@[expose] public section

noncomputable section

namespace Cert.KernelIdeal.Hand

open Cert.KernelIdeal Cert.KernelIdeal.Gen Cert.Triple
open Idealize.ShloMosaic Idealize.ShloMosaic.TcCoe Idealize.ShloMosaic.Tactic Idealize.ShloMosaic.ValueIdx
open Idealize.SL Idealize.SL.Sem

variable {F : FTy → Type} [FloatOps F] [∀ e, Nonempty (Elt F e)]

/-- Byte `(y, x)` of level `l` for column `c` of the window; nought outside. -/
def rd (s : Stt F) (l y x c : Nat) : BitVec 8 :=
  match l with
  | 0 => if h : y < 48 ∧ x < 64 ∧ c < 1024 then s 0 (ix4 (n0 := 1) 0 ⟨y, h.1⟩ ⟨x, h.2.1⟩ ⟨c, h.2.2⟩) else 0
  | 1 => if h : y < 24 ∧ x < 32 ∧ c < 1024 then s 1 (ix4 (n0 := 1) 0 ⟨y, h.1⟩ ⟨x, h.2.1⟩ ⟨c, h.2.2⟩) else 0
  | 2 => if h : y < 12 ∧ x < 16 ∧ c < 1024 then s 2 (ix4 (n0 := 1) 0 ⟨y, h.1⟩ ⟨x, h.2.1⟩ ⟨c, h.2.2⟩) else 0
  | _ => if h : y < 6 ∧ x < 8 ∧ c < 1024 then s 3 (ix4 (n0 := 1) 0 ⟨y, h.1⟩ ⟨x, h.2.1⟩ ⟨c, h.2.2⟩) else 0

/-- Word `W` of row `y` of level `l`. -/
def word (s : Stt F) (l y W c : Nat) : BitVec 32 := pack fun k => rd s l y (4 * W + k.val) c

section
variable (t : Fin k0_t1_loop.trips) (g : Fin 2)

theorem words0 (s : Stt F) (y : Fin 48) (w : Fin 33) (hw : w.val % 4 = 0) (x : S8x128.Idx) :
    words32 (fun z => s 0 ((rc0 t g y w).toLoadRect.idx z)) x = word s 0 y.val (w.val / 4 + (x 0).val) (256 * t.val + 128 * g.val + (x 1).val) := by
  have ht : t.val < 4 := t.isLt
  have hg := g.isLt
  have h1 : (x 1).val < 128 := (x 1).isLt
  refine (bitcast_up (R := 32) (r := 8) _ _ _ rfl x (fun n => rd s 0 y.val (w.val + n) (256 * t.val + 128 * g.val + (x 1).val)) fun n hn => ?_).trans
    (congrArg pack (funext fun k => congrArg (fun n => rd s 0 y.val n (256 * t.val + 128 * g.val + (x 1).val)) (by omega)))
  have hc : y.val < 48 ∧ w.val + n < 64 ∧ 256 * t.val + 128 * g.val + (x 1).val < 1024 := ⟨y.isLt, by omega, by omega⟩
  refine Eq.trans ?_ (dif_pos hc).symm
  refine congrArg (s 0) (funext fun d => ?_)
  match d with
  | ⟨0, _⟩ => rfl
  | ⟨1, _⟩ => exact Fin.ext (by show y.val + 1 * 0 = y.val; omega)
  | ⟨2, _⟩ => exact Fin.ext (by show w.val + 1 * n = w.val + n; omega)
  | ⟨3, _⟩ => exact Fin.ext (by show cOff t g + 1 * (x 1).val = 256 * t.val + 128 * g.val + (x 1).val; rw [cOff_eq]; omega)

theorem words1 (s : Stt F) (y : Fin 24) (x : S8x128.Idx) :
    words32 (fun z => s 1 ((rc1 t g y).toLoadRect.idx z)) x = word s 1 y.val ((x 0).val) (256 * t.val + 128 * g.val + (x 1).val) := by
  have ht : t.val < 4 := t.isLt
  have hg := g.isLt
  have h1 : (x 1).val < 128 := (x 1).isLt
  refine (bitcast_up (R := 32) (r := 8) _ _ _ rfl x (fun n => rd s 1 y.val (n) (256 * t.val + 128 * g.val + (x 1).val)) fun n hn => ?_).trans
    (congrArg pack (funext fun k => congrArg (fun n => rd s 1 y.val n (256 * t.val + 128 * g.val + (x 1).val)) (by omega)))
  have hc : y.val < 24 ∧ n < 32 ∧ 256 * t.val + 128 * g.val + (x 1).val < 1024 := ⟨y.isLt, by omega, by omega⟩
  refine Eq.trans ?_ (dif_pos hc).symm
  refine congrArg (s 1) (funext fun d => ?_)
  match d with
  | ⟨0, _⟩ => rfl
  | ⟨1, _⟩ => exact Fin.ext (by show y.val + 1 * 0 = y.val; omega)
  | ⟨2, _⟩ => exact Fin.ext (by show 0 + 1 * n = n; omega)
  | ⟨3, _⟩ => exact Fin.ext (by show cOff t g + 1 * (x 1).val = 256 * t.val + 128 * g.val + (x 1).val; rw [cOff_eq]; omega)

theorem words2 (s : Stt F) (y : Fin 12) (x : S4x128.Idx) :
    words16 (fun z => s 2 ((rc2 t g y).toLoadRect.idx z)) x = word s 2 y.val ((x 0).val) (256 * t.val + 128 * g.val + (x 1).val) := by
  have ht : t.val < 4 := t.isLt
  have hg := g.isLt
  have h1 : (x 1).val < 128 := (x 1).isLt
  refine (bitcast_up (R := 16) (r := 4) _ _ _ rfl x (fun n => rd s 2 y.val (n) (256 * t.val + 128 * g.val + (x 1).val)) fun n hn => ?_).trans
    (congrArg pack (funext fun k => congrArg (fun n => rd s 2 y.val n (256 * t.val + 128 * g.val + (x 1).val)) (by omega)))
  have hc : y.val < 12 ∧ n < 16 ∧ 256 * t.val + 128 * g.val + (x 1).val < 1024 := ⟨y.isLt, by omega, by omega⟩
  refine Eq.trans ?_ (dif_pos hc).symm
  refine congrArg (s 2) (funext fun d => ?_)
  match d with
  | ⟨0, _⟩ => rfl
  | ⟨1, _⟩ => exact Fin.ext (by show y.val + 1 * 0 = y.val; omega)
  | ⟨2, _⟩ => exact Fin.ext (by show 0 + 1 * n = n; omega)
  | ⟨3, _⟩ => exact Fin.ext (by show cOff t g + 1 * (x 1).val = 256 * t.val + 128 * g.val + (x 1).val; rw [cOff_eq]; omega)

theorem words3 (s : Stt F) (y : Fin 6) (x : S2x128.Idx) :
    words8 (fun z => s 3 ((rc3 t g y).toLoadRect.idx z)) x = word s 3 y.val ((x 0).val) (256 * t.val + 128 * g.val + (x 1).val) := by
  have ht : t.val < 4 := t.isLt
  have hg := g.isLt
  have h1 : (x 1).val < 128 := (x 1).isLt
  refine (bitcast_up (R := 8) (r := 2) _ _ _ rfl x (fun n => rd s 3 y.val (n) (256 * t.val + 128 * g.val + (x 1).val)) fun n hn => ?_).trans
    (congrArg pack (funext fun k => congrArg (fun n => rd s 3 y.val n (256 * t.val + 128 * g.val + (x 1).val)) (by omega)))
  have hc : y.val < 6 ∧ n < 8 ∧ 256 * t.val + 128 * g.val + (x 1).val < 1024 := ⟨y.isLt, by omega, by omega⟩
  refine Eq.trans ?_ (dif_pos hc).symm
  refine congrArg (s 3) (funext fun d => ?_)
  match d with
  | ⟨0, _⟩ => rfl
  | ⟨1, _⟩ => exact Fin.ext (by show y.val + 1 * 0 = y.val; omega)
  | ⟨2, _⟩ => exact Fin.ext (by show 0 + 1 * n = n; omega)
  | ⟨3, _⟩ => exact Fin.ext (by show cOff t g + 1 * (x 1).val = 256 * t.val + 128 * g.val + (x 1).val; rw [cOff_eq]; omega)

end

/-- The row that slot `k` of level 0 holds. -/
def pickY (Y : BitVec 32) (k : Nat) : Nat :=
  if (BitVec.ofNat 32 (k + 23)).sle Y then k + 32 else if (BitVec.ofNat 32 (k + 7)).sle Y then k + 16 else k
/-- The row that slot `k` of level 1 holds. -/
def pickY1 (Y : BitVec 32) (k : Nat) : Nat :=
  if k < 8 ∧ (BitVec.ofNat 32 (k + 7)).sle Y then k + 16 else k
/-- The word that word slot `w` of level 0 holds. -/
def pickW (X : BitVec 32) (w : Nat) : Nat := if (BitVec.ofNat 32 w).sle (X - 5#32) then w + 8 else w

/-- What slot `k`, word slot `w` of group `g`, level `l` is to hold, of the first coordinates `Y`, `X` by row and lane. -/
def ztB (s : Stt F) (t : Nat) (Y X : Nat → Nat → BitVec 32) (k w g l c : Nat) : BitVec 32 :=
  word s l (if l = 0 then pickY (Y (4 * g) c) k else if l = 1 then pickY1 (Y (4 * g + 1) c) k else k)
    (if l = 0 then pickW (X (4 * g) c) w else w) (256 * t + 128 * g + c)

/-- The word table. -/
def zt (s : Stt F) (t : Nat) (Y X : Nat → Nat → BitVec 32) (R c : Nat) : BitVec 32 :=
  ztB s t Y X (R / 72) (R % 72 / 9) (R % 9 / 4) (R % 9 % 4) c

theorem zt_at (s : Stt F) (t : Nat) (Y X : Nat → Nat → BitVec 32) {R k w g l c : Nat} (hR : R = 72 * k + 9 * w + 4 * g + l) (hw : w < 8)
    (hg : g < 2) (hl : l < 4) : zt s t Y X R c = ztB s t Y X k w g l c := by
  unfold zt
  have h1 : R / 72 = k := by omega
  have h2 : R % 72 / 9 = w := by omega
  have h3 : R % 9 / 4 = g := by omega
  have h4 : R % 9 % 4 = l := by omega
  rw [h1, h2, h3, h4]

theorem sel_ofBool {α : Type} (b : Bool) (x y : α) : (if BitVec.ofBool b = 1 then x else y) = if b then x else y := by
  cases b <;> rfl

section Fill
variable {defs₀ : Defs nD τ sig (Elt F) Λ₀} {c : Dev nD} {M : Mems sig fam} (t : Fin k0_t1_loop.trips) (g : Fin 2)
variable (s0 : Stt F) (Y X : Nat → Nat → BitVec 32)

/-- The word table as contents. -/
abbrev ZT : (fam.sh 8).Idx → Elt F (fam.el 8) := fun y => zt s0 t.val Y X (y 0).val (y 1).val

theorem rd_congr {s s' : Stt F} (h : ∀ i, i ≠ 8 → s i = s' i) : rd s = rd s' := by
  funext l y x c
  unfold rd
  rw [h 0 (by decide), h 1 (by decide), h 2 (by decide), h 3 (by decide)]

theorem word_congr {s s' : Stt F} (h : ∀ i, i ≠ 8 → s i = s' i) : word s = word s' := by
  funext l y W c; unfold word; rw [rd_congr h]

theorem trWords1 {s : Stt F} (y : Fin 24) {h} : Tr defs₀ c M s (ld (F := F) M 1 (rc1 t g y).toLoadRect h) fun a s' =>
    (∀ x : S8x128.Idx, words32 a x = word s 1 y.val (x 0).val (256 * t.val + 128 * g.val + (x 1).val)) ∧ s' = s :=
  trLd 1 ⟨words1 t g s y, rfl⟩

theorem trWords2 {s : Stt F} (y : Fin 12) {h} : Tr defs₀ c M s (ld (F := F) M 2 (rc2 t g y).toLoadRect h) fun a s' =>
    (∀ x : S4x128.Idx, words16 a x = word s 2 y.val (x 0).val (256 * t.val + 128 * g.val + (x 1).val)) ∧ s' = s :=
  trLd 2 ⟨words2 t g s y, rfl⟩

theorem trWords3 {s : Stt F} (y : Fin 6) {h} : Tr defs₀ c M s (ld (F := F) M 3 (rc3 t g y).toLoadRect h) fun a s' =>
    (∀ x : S2x128.Idx, words8 a x = word s 3 y.val (x 0).val (256 * t.val + 128 * g.val + (x 1).val)) ∧ s' = s :=
  trLd 3 ⟨words3 t g s y, rfl⟩

theorem trHalf0 {s : Stt F} (upper : IVec S8x128 1) (y : Fin 48) :
    Tr defs₀ c M s (half0 (F := F) M t g upper y) fun a s' =>
      (∀ x, a x = word s 0 y.val (if upper x = 1 then (x 0).val + 8 else (x 0).val) (256 * t.val + 128 * g.val + (x 1).val)) ∧ s' = s := by
  refine Tr.bind (trLd 0 (Q := fun a s' => a = (fun x => s 0 ((rc0 t g y 32).toLoadRect.idx x)) ∧ s' = s) ⟨rfl, rfl⟩) ?_
  rintro a s' ⟨rfl, rfl⟩
  refine Tr.bind (trLd 0 (Q := fun a s'' => a = (fun x => s' 0 ((rc0 t g y 0).toLoadRect.idx x)) ∧ s'' = s') ⟨rfl, rfl⟩) ?_
  rintro b s'' ⟨rfl, rfl⟩
  refine Tr.ret ⟨fun x => ?_, rfl⟩
  show (if upper x = 1 then _ else _) = _
  split
  · exact (words0 t g s'' y 32 rfl x).trans (by congr 1; show 8 + _ = _; omega)
  · exact (words0 t g s'' y 0 rfl x).trans (by congr 1; show 0 + _ = _; omega)

variable {s : Stt F}

theorem trFill0 (hs : ∀ i, i ≠ 8 → s i = s0 i) (ys : IVec S8x128 32) (upper : IVec S8x128 1)
    (hy : ∀ x, ys x = Y (4 * g.val) (x 1).val) (hu : ∀ x, upper x = BitVec.ofBool ((BitVec.ofNat 32 (x 0).val).sle (X (4 * g.val) (x 1).val - 5#32)))
    (k : Fin 16) :
    Tr defs₀ c M s (fill0 (F := F) M t g ys upper k) fun _ s' =>
      Wr 8 (ZT t s0 Y X) (rng (rz8 (72 * k.val + 4 * g.val) (by omega))) s s' := by
  refine Tr.bind (trHalf0 t g upper _) ?_
  rintro v0 s' ⟨h0, rfl⟩
  refine Tr.bind (trHalf0 t g upper _) ?_
  rintro v1 s' ⟨h1, rfl⟩
  refine Tr.bind (trHalf0 t g upper _) ?_
  rintro v2 s' ⟨h2, rfl⟩
  refine trLdst 8 (ZT t s0 Y X) fun x => ?_
  rw [shapeCast_self]
  have hk := k.isLt
  have hg := g.isLt
  have hx : (x 0).val < 8 := (x 0).isLt
  show (if IntOp.cmpi .sge (ys x) _ = 1 then v2 x else if IntOp.cmpi .sge (ys x) _ = 1 then v1 x else v0 x) = zt s0 t.val Y X (72 * k.val + 4 * g.val + 9 * (x 0).val) (0 + 1 * (x 1).val)
  rw [zt_at s0 t.val Y X (k := k.val) (w := (x 0).val) (g := g.val) (l := 0) (by omega) hx hg (by decide), ztB, if_pos rfl, if_pos rfl, h0, h1, h2, hu, hy,
    word_congr hs]
  simp only [IntOp.cmpi, sel_ofBool, Nat.zero_add, Nat.one_mul, broadcast, pickY, pickW]
  split
  · rfl
  · split <;> rfl

theorem trFill1a (hs : ∀ i, i ≠ 8 → s i = s0 i) (ys : IVec S8x128 32) (hy : ∀ x, ys x = Y (4 * g.val + 1) (x 1).val) (k : Fin 8) :
    Tr defs₀ c M s (fill1a (F := F) M t g ys k) fun _ s' =>
      Wr 8 (ZT t s0 Y X) (rng (rz8 (72 * k.val + 4 * g.val + 1) (by omega))) s s' := by
  refine Tr.bind (trWords1 t g _) ?_
  rintro a s' ⟨ha, rfl⟩
  refine Tr.bind (trWords1 t g _) ?_
  rintro b s'' ⟨hb, rfl⟩
  refine trLdst 8 (ZT t s0 Y X) fun x => ?_
  rw [shapeCast_self]
  have hk := k.isLt
  have hg := g.isLt
  have hx : (x 0).val < 8 := (x 0).isLt
  show (if IntOp.cmpi .sge (ys x) (BitVec.ofNat 32 (k.val + 7)) = 1 then words32 b x else words32 a x) = zt s0 t.val Y X (72 * k.val + 4 * g.val + 1 + 9 * (x 0).val) (0 + 1 * (x 1).val)
  rw [zt_at s0 t.val Y X (k := k.val) (w := (x 0).val) (g := g.val) (l := 1) (by omega) hx hg (by decide), ztB, if_neg (show ¬(1 : Nat) = 0 by decide), if_pos rfl, if_neg (show ¬(1 : Nat) = 0 by decide), hb, ha, hy,
    word_congr hs]
  simp only [IntOp.cmpi, sel_ofBool, Nat.zero_add, Nat.one_mul, broadcast, pickY1, hk, true_and]
  refine (sel_ofBool _ _ _).trans ?_
  by_cases hq : (BitVec.ofNat 32 (k.val + 7)).sle (Y (4 * g.val + 1) (x 1).val) = true
  · rw [if_pos hq, if_pos hq]
  · rw [if_neg hq, if_neg hq]

theorem trFill1b (hs : ∀ i, i ≠ 8 → s i = s0 i) (k : Fin 8) :
    Tr defs₀ c M s (fill1b (F := F) M t g k) fun _ s' =>
      Wr 8 (ZT t s0 Y X) (rng (rz8 (72 * (k.val + 8) + 4 * g.val + 1) (by omega))) s s' := by
  refine Tr.bind (trWords1 t g _) ?_
  rintro a s' ⟨ha, rfl⟩
  refine trLdst 8 (ZT t s0 Y X) fun x => ?_
  rw [shapeCast_self]
  have hk := k.isLt
  have hg := g.isLt
  have hx : (x 0).val < 8 := (x 0).isLt
  show words32 a x = zt s0 t.val Y X (72 * (k.val + 8) + 4 * g.val + 1 + 9 * (x 0).val) (0 + 1 * (x 1).val)
  rw [zt_at s0 t.val Y X (k := k.val + 8) (w := (x 0).val) (g := g.val) (l := 1) (by omega) hx hg (by decide), ztB, if_neg (by decide), if_pos rfl, if_neg (by decide), ha,
    word_congr hs, pickY1, if_neg (by omega)]
  simp only [Nat.zero_add, Nat.one_mul]

theorem trFill2 (hs : ∀ i, i ≠ 8 → s i = s0 i) (k : Fin 12) :
    Tr defs₀ c M s (fill2 (F := F) M t g k) fun _ s' =>
      Wr 8 (ZT t s0 Y X) (rng (rz4 (72 * k.val + 4 * g.val + 2) (by omega))) s s' := by
  refine Tr.bind (trWords2 t g _) ?_
  rintro a s' ⟨ha, rfl⟩
  refine trLdst 8 (ZT t s0 Y X) fun x => ?_
  rw [shapeCast_self]
  have hk := k.isLt
  have hg := g.isLt
  have hx : (x 0).val < 4 := (x 0).isLt
  show words16 a x = zt s0 t.val Y X (72 * k.val + 4 * g.val + 2 + 9 * (x 0).val) (0 + 1 * (x 1).val)
  rw [zt_at s0 t.val Y X (k := k.val) (w := (x 0).val) (g := g.val) (l := 2) (by omega) (by omega) hg (by decide), ztB, if_neg (by decide), if_neg (by decide), if_neg (by decide), ha,
    word_congr hs]
  simp only [Nat.zero_add, Nat.one_mul]

theorem trFill3 (hs : ∀ i, i ≠ 8 → s i = s0 i) (k : Fin 6) :
    Tr defs₀ c M s (fill3 (F := F) M t g k) fun _ s' =>
      Wr 8 (ZT t s0 Y X) (rng (rz2 (72 * k.val + 4 * g.val + 3) (by omega))) s s' := by
  refine Tr.bind (trWords3 t g _) ?_
  rintro a s' ⟨ha, rfl⟩
  refine trLdst 8 (ZT t s0 Y X) fun x => ?_
  rw [shapeCast_self]
  have hk := k.isLt
  have hg := g.isLt
  have hx : (x 0).val < 2 := (x 0).isLt
  show words8 a x = zt s0 t.val Y X (72 * k.val + 4 * g.val + 3 + 9 * (x 0).val) (0 + 1 * (x 1).val)
  rw [zt_at s0 t.val Y X (k := k.val) (w := (x 0).val) (g := g.val) (l := 3) (by omega) (by omega) hg (by decide), ztB, if_neg (by decide), if_neg (by decide), if_neg (by decide), ha,
    word_congr hs]
  simp only [Nat.zero_add, Nat.one_mul]

/-- The rows that the fill of group `g` writes. -/
def filled (g R : Nat) : Prop := ∃ k w l, R = 72 * k + 9 * w + 4 * g + l ∧
  (l = 0 ∧ k < 16 ∧ w < 8 ∨ l = 1 ∧ k < 16 ∧ w < 8 ∨ l = 2 ∧ k < 12 ∧ w < 4 ∨ l = 3 ∧ k < 6 ∧ w < 2)

theorem trFill (hs : ∀ i, i ≠ 8 → s i = s0 i) (y0 y1 xw : IVec S8x128 32) (hy0 : ∀ x, y0 x = Y (4 * g.val) (x 1).val)
    (hy1 : ∀ x, y1 x = Y (4 * g.val + 1) (x 1).val) (hxw : ∀ x, xw x = X (4 * g.val) (x 1).val) :
    Tr defs₀ c M s (fill (F := F) M t g y0 y1 xw) fun _ s' => Wr 8 (ZT t s0 Y X) (fun y => filled g.val (y 0).val) s s' := by
  refine Tr.bind (trForN 8 (ZT t s0 Y X) s0 16 _ _ s hs fun k s' h => trFill0 t g s0 Y X h y0 _ hy0 (fun x => ?_) k) fun _ s1 w1 => ?_
  · show BitVec.ofBool ((subI x).sle (xw x - 5#32)) = _
    rw [hxw]
    congr 2
    show BitVec.ofNat 32 (0 * 8 + (x 0).val) = _
    rw [Nat.zero_mul, Nat.zero_add]
  have hs1 : ∀ i, i ≠ 8 → s1 i = s0 i := fun i hi => (w1.1 i hi).trans (hs i hi)
  refine Tr.bind (trForN 8 (ZT t s0 Y X) s0 8 _ _ s1 hs1 fun k s' h => trFill1a t g s0 Y X h y1 hy1 k) fun _ s2 w2 => ?_
  have hs2 : ∀ i, i ≠ 8 → s2 i = s0 i := fun i hi => (w2.1 i hi).trans (hs1 i hi)
  refine Tr.bind (trForN 8 (ZT t s0 Y X) s0 8 _ _ s2 hs2 fun k s' h => trFill1b t g s0 Y X h k) fun _ s3 w3 => ?_
  have hs3 : ∀ i, i ≠ 8 → s3 i = s0 i := fun i hi => (w3.1 i hi).trans (hs2 i hi)
  refine Tr.bind (trForN 8 (ZT t s0 Y X) s0 12 _ _ s3 hs3 fun k s' h => trFill2 t g s0 Y X h k) fun _ s4 w4 => ?_
  have hs4 : ∀ i, i ≠ 8 → s4 i = s0 i := fun i hi => (w4.1 i hi).trans (hs3 i hi)
  refine (trForN 8 (ZT t s0 Y X) s0 6 _ _ s4 hs4 fun k s' h => trFill3 t g s0 Y X h k).mono fun _ s5 w5 => ?_
  refine ((((w1.trans w2).trans w3).trans w4).trans w5).mono ?_
  rintro y ⟨k, w, l, hR, h⟩
  have hc : (y 1).val < 128 := (y 1).isLt
  have ext : ∀ z : S1152x128.Idx, (z 0).val = (y 0).val → (z 1).val = (y 1).val → z = y := fun z h0 h1 => by
    funext d
    match d with
    | ⟨0, _⟩ => exact Fin.ext h0
    | ⟨1, _⟩ => exact Fin.ext h1
  rcases h with ⟨rfl, hk, hw⟩ | ⟨rfl, hk, hw⟩ | ⟨rfl, hk, hw⟩ | ⟨rfl, hk, hw⟩
  · exact .inl (.inl (.inl (.inl ⟨⟨k, hk⟩, ix2 ⟨w, hw⟩ (y 1), ext _ (by show 72 * k + 4 * g.val + 9 * w = _; omega) (by show 0 + 1 * (y 1).val = _; omega)⟩)))
  · by_cases h8 : k < 8
    · exact .inl (.inl (.inl (.inr ⟨⟨k, h8⟩, ix2 ⟨w, hw⟩ (y 1), ext _ (by show 72 * k + 4 * g.val + 1 + 9 * w = _; omega) (by show 0 + 1 * (y 1).val = _; omega)⟩)))
    · exact .inl (.inl (.inr ⟨⟨k - 8, by omega⟩, ix2 ⟨w, hw⟩ (y 1), ext _ (by show 72 * (k - 8 + 8) + 4 * g.val + 1 + 9 * w = _; omega) (by show 0 + 1 * (y 1).val = _; omega)⟩))
  · exact .inl (.inr ⟨⟨k, hk⟩, ix2 ⟨w, hw⟩ (y 1), ext _ (by show 72 * k + 4 * g.val + 2 + 9 * w = _; omega) (by show 0 + 1 * (y 1).val = _; omega)⟩)
  · exact .inr ⟨⟨k, hk⟩, ix2 ⟨w, hw⟩ (y 1), ext _ (by show 72 * k + 4 * g.val + 3 + 9 * w = _; omega) (by show 0 + 1 * (y 1).val = _; omega)⟩

end Fill

end Cert.KernelIdeal.Hand

end
-- ==== Proof.Rows.lean ====
/-
  The ten rows of the patch picked out of the word table, and the ten bytes of each row.
-/
module

public import proofs.«01_k».proof.Proof.Fill

@[expose] public section

noncomputable section

namespace Cert.KernelIdeal.Hand

open Cert.KernelIdeal Cert.KernelIdeal.Gen Cert.Triple
open Idealize.ShloMosaic Idealize.ShloMosaic.TcCoe Idealize.ShloMosaic.Tactic Idealize.ShloMosaic.ValueIdx
open Idealize.SL Idealize.SL.Sem

variable {F : FTy → Type} [FloatOps F] [∀ e, Nonempty (Elt F e)]

theorem bitM_iff (v : IVec S8x128 32) (i : Nat) (hi : i < 32) (x : S8x128.Idx) :
    (bitM v (BitVec.twoPow 32 i) x = 1) ↔ (v x).toNat / 2 ^ i % 2 = 1 := by
  show BitVec.ofBool (v x &&& BitVec.twoPow 32 i != 0#32) = 1 ↔ _
  rw [BitVec.and_twoPow, BitVec.getLsbD, Nat.testBit_eq_decide_div_mod_eq]
  by_cases h : (v x).toNat / 2 ^ i % 2 = 1
  · have h2 : BitVec.twoPow 32 i ≠ 0#32 := fun e => by
      have := congrArg BitVec.toNat e
      rw [BitVec.toNat_twoPow, Nat.mod_eq_of_lt (Nat.pow_lt_pow_right (by decide) hi)] at this
      exact absurd this (by simp)
    rw [decide_eq_true h, if_pos rfl, show (BitVec.twoPow 32 i != 0#32) = true from bne_iff_ne.mpr h2]
    simp [h]
  · simp [h]

theorem bitM1 (v : IVec S8x128 32) (x : S8x128.Idx) : (bitM v 1#32 x = 1) ↔ (v x).toNat % 2 = 1 := by
  exact (bitM_iff v 0 (by decide) x).trans (by norm_num)
theorem bitM2 (v : IVec S8x128 32) (x : S8x128.Idx) : (bitM v 2#32 x = 1) ↔ (v x).toNat / 2 % 2 = 1 := by
  exact (bitM_iff v 1 (by decide) x).trans (by norm_num)
theorem bitM4 (v : IVec S8x128 32) (x : S8x128.Idx) : (bitM v 4#32 x = 1) ↔ (v x).toNat / 4 % 2 = 1 := by
  exact (bitM_iff v 2 (by decide) x).trans (by norm_num)
theorem bitM8 (v : IVec S8x128 32) (x : S8x128.Idx) : (bitM v 8#32 x = 1) ↔ (v x).toNat / 8 % 2 = 1 := by
  exact (bitM_iff v 3 (by decide) x).trans (by norm_num)

theorem stages {V : Type} (y0 : IVec S8x128 32) (r : Fin 16 → S8x128.Idx → V) (k : Fin 16) (x : S8x128.Idx) :
    stage (bitM y0 1#32) 1 (stage (bitM y0 2#32) 2 (stage (bitM y0 4#32) 4 (stage (bitM y0 8#32) 8 r))) k x
      = r ⟨(k.val + (y0 x).toNat % 16) % 16, Nat.mod_lt _ (by decide)⟩ x := by
  simp only [stage, select, Scalar.select, bitM1, bitM2, bitM4, bitM8]
  have h1 : ((1 : Fin 16) : Nat) = 1 := rfl
  have h2 : ((2 : Fin 16) : Nat) = 2 := rfl
  have h4 : ((4 : Fin 16) : Nat) = 4 := rfl
  have h8 : ((8 : Fin 16) : Nat) = 8 := rfl
  split <;> split <;> split <;> split <;>
    exact congrFun (congrArg r (Fin.ext (by simp only [Fin.val_add, h1, h2, h4, h8]; omega))) x

theorem stages4 {V : Type} (xw : IVec S8x128 32) (w : Fin 4 → S8x128.Idx → V) (k : Fin 4) (x : S8x128.Idx) :
    select (bitM xw 1#32) (select (bitM xw 2#32) (w (k + 1 + 2)) (w (k + 1))) (select (bitM xw 2#32) (w (k + 2)) (w k)) x
      = w ⟨(k.val + (xw x).toNat % 4) % 4, Nat.mod_lt _ (by decide)⟩ x := by
  simp only [select, Scalar.select, bitM1, bitM2]
  have h1 : ((1 : Fin 4) : Nat) = 1 := rfl
  have h2 : ((2 : Fin 4) : Nat) = 2 := rfl
  split <;> split <;>
    exact congrFun (congrArg w (Fin.ext (by simp only [Fin.val_add, h1, h2]; omega))) x

/-- Row `R` of the word table. -/
def zv (s : Stt F) (R c : Nat) : BitVec 32 := if h : R < 1152 ∧ c < 128 then s 8 (ix2 ⟨R, h.1⟩ ⟨c, h.2⟩) else 0
/-- Row `r` of plane `n` of the selected words. -/
def yv (s : Stt F) (n r c : Nat) : BitVec 32 := if h : n < 40 ∧ r < 8 ∧ c < 128 then s 9 (ix3 ⟨n, h.1⟩ ⟨r, h.2.1⟩ ⟨c, h.2.2⟩) else 0

theorem yv_at (s : Stt F) (y : S40x8x128.Idx) : yv s (y 0).val (y 1).val (y 2).val = s 9 y := by
  refine (dif_pos (⟨(y 0).isLt, (y 1).isLt, (y 2).isLt⟩ : (y 0).val < 40 ∧ (y 1).val < 8 ∧ (y 2).val < 128)).trans (congrArg (s 9) (funext fun d => ?_))
  match d with
  | ⟨0, _⟩ => rfl
  | ⟨1, _⟩ => rfl
  | ⟨2, _⟩ => rfl

/-- The word of class `m` for patch row `j`. -/
def yw (s : Stt F) (Y X : BitVec 32) (j m r c : Nat) : BitVec 32 :=
  zv s (72 * ((j + Y.toNat % 16) % 16) + 9 * (m + if (BitVec.ofNat 32 m - X).toNat / 4 % 2 = 1 then 4 else 0) + r) c

section Rows
variable {defs₀ : Defs nD τ sig (Elt F) Λ₀} {c : Dev nD} {M : Mems sig fam}
variable (s0 : Stt F) (y0 xw : IVec S8x128 32)

/-- The selected words as contents. -/
abbrev YT : (fam.sh 9).Idx → Elt F (fam.el 9) := fun y =>
  yw s0 (y0 (ix2 (y 1) (y 2))) (xw (ix2 (y 1) (y 2))) ((y 0).val / 4) ((y 0).val % 4) (y 1).val (y 2).val

theorem YT_at {j m : Nat} (hm : m < 4) (p : Fin 8) (q : Fin 128) (y : S40x8x128.Idx) (hy : (y 0).val = 4 * j + m)
    (hp : (y 1).val = p.val) (hq : (y 2).val = q.val) :
    YT s0 y0 xw y = yw s0 (y0 (ix2 p q)) (xw (ix2 p q)) j m p.val q.val := by
  have b1 : y 1 = p := Fin.ext hp
  have b2 : y 2 = q := Fin.ext hq
  have a1 : (y 0).val / 4 = j := by omega
  have a2 : (y 0).val % 4 = m := by omega
  simp only [YT, a1, a2, b1, b2]

variable {s : Stt F}

theorem trLdPair (hi : IVec S8x128 1) (m : Fin 4) (k : Fin 16) :
    Tr defs₀ c M s (ldPair (F := F) M hi m k) fun a s' => a = (fun x => zv s (72 * k.val + 9 * (m.val + if hi x = 1 then 4 else 0) + (x 0).val) (x 1).val) ∧ s' = s := by
  have key : ∀ b (hb : b + 8 ≤ 1152) (x : S8x128.Idx), s 8 ((rzU b hb).toLoadRect.idx x) = zv s (b + (x 0).val) (x 1).val := by
    intro b hb x
    have h0 : (x 0).val < 8 := (x 0).isLt
    have h1 : (x 1).val < 128 := (x 1).isLt
    refine Eq.trans ?_ (dif_pos (⟨by omega, h1⟩ : b + (x 0).val < 1152 ∧ (x 1).val < 128)).symm
    refine congrArg (s 8) (funext fun d => ?_)
    match d with
    | ⟨0, _⟩ => exact Fin.ext (by show b + 1 * (x 0).val = _; rw [Nat.one_mul])
    | ⟨1, _⟩ => exact Fin.ext (by show 0 + 1 * (x 1).val = _; rw [Nat.one_mul, Nat.zero_add])
  refine Tr.bind (trLd 8 (Q := fun a s' => (∀ x : S8x128.Idx, a x = zv s (72 * k.val + 9 * m.val + (x 0).val) (x 1).val) ∧ s' = s) ⟨key _ _, rfl⟩) ?_
  rintro a s' ⟨ha, rfl⟩
  refine Tr.bind (trLd 8 (Q := fun a s'' => (∀ x : S8x128.Idx, a x = zv s' (72 * k.val + 9 * m.val + 36 + (x 0).val) (x 1).val) ∧ s'' = s') ⟨key _ _, rfl⟩) ?_
  rintro b s'' ⟨hb, rfl⟩
  refine Tr.ret ⟨funext fun x => ?_, rfl⟩
  show (if hi x = 1 then b x else a x) = _
  by_cases h : hi x = 1
  · rw [if_pos h, if_pos h, hb]; exact congrArg (fun n => zv s'' n (x 1).val) (by omega)
  · rw [if_neg h, if_neg h, ha]; exact congrArg (fun n => zv s'' n (x 1).val) (by omega)

theorem trRows (hs : ∀ i, i ≠ 9 → s i = s0 i) (m : Fin 4) :
    Tr defs₀ c M s (rows (F := F) M y0 xw m) fun _ s' => Wr 9 (YT s0 y0 xw) (fun y => (y 0).val % 4 = m.val) s s' := by
  refine Tr.bind (trGetN 16 _ _ s fun k => trLdPair _ m k) ?_
  rintro r s' ⟨rfl, rfl⟩
  refine (trForN 9 (YT s0 y0 xw) s0 10 _ (fun j => rng (rY ⟨4 * j.val + m.val, by omega⟩)) _ hs fun j s'' h => trLdst 9 _ fun x => ?_).mono fun _ s'' w => w.mono fun y hy => ?_
  · have hm := m.isLt
    refine (congrArg (fun f : S8x128.Idx → BitVec 32 => shapeCast S1x8x128 f shapeCasts_S8x128_S1x8x128 x) (funext fun z => stages y0 _ _ z)).trans ?_
    rw [show x = ix3 (x 0) (x 1) (x 2) from eq_ix3 x]
    refine (shapeCast_ab_1ab_apply _ _ _ _ _).trans ?_
    have e0 : (x 0).val = 0 := by have : (x 0).val < 1 := (x 0).isLt; omega
    have hz : zv s' = zv s0 := by funext R c; unfold zv; rw [hs 8 (by decide)]
    refine Eq.trans ?_ (YT_at s0 y0 xw (j := j.val) hm (x 1) (x 2) _ (by show 4 * j.val + m.val + 1 * (x 0).val = _; omega)
      (by show 0 + 1 * (x 1).val = (x 1).val; omega) (by show 0 + 1 * (x 2).val = (x 2).val; omega)).symm
    rw [hz, yw]
    simp only [bitM4]
    rfl
  · have h0 : (y 0).val < 40 := (y 0).isLt
    have hm := m.isLt
    refine ⟨⟨(y 0).val / 4, by omega⟩, ix3 0 (y 1) (y 2), ?_⟩
    funext d
    match d with
    | ⟨0, _⟩ => exact Fin.ext (by show 4 * ((y 0).val / 4) + m.val + 1 * 0 = (y 0).val; omega)
    | ⟨1, _⟩ => exact Fin.ext (by show 0 + 1 * (y 1).val = (y 1).val; omega)
    | ⟨2, _⟩ => exact Fin.ext (by show 0 + 1 * (y 2).val = (y 2).val; omega)

/-- All four residue classes. -/
theorem trRowsAll : Tr defs₀ c M s0 (forN 4 (rows (F := F) M y0 xw)) fun _ s' => (∀ i, i ≠ 9 → s' i = s0 i) ∧ ∀ y, s' 9 y = YT s0 y0 xw y := by
  refine (trForN 9 (YT s0 y0 xw) s0 4 _ _ s0 (fun _ _ => rfl) fun m s' h => trRows s0 y0 xw h m).mono fun _ s' w => ⟨w.1, fun y => w.2.1 y ⟨⟨(y 0).val % 4, Nat.mod_lt _ (by decide)⟩, rfl⟩⟩

/-! ## The bytes of a row -/

/-- Word `m` of the ten bytes of patch row `j`. -/
def fw (s : Stt F) (x0 xw : IVec S8x128 32) (j m : Nat) (x : S8x128.Idx) : BitVec 32 :=
  let lo := yv s (4 * j + (m + (xw x).toNat % 4) % 4) (x 0).val (x 1).val
  let hi := yv s (4 * j + (m + 1 + (xw x).toNat % 4) % 4) (x 0).val (x 1).val
  let sh := IntOp.shli .vector (x0 x &&& 3#32) 3#32
  IntOp.shrui .vector lo sh ||| IntOp.shli .vector (IntOp.shli .vector hi 8#32) (24#32 - sh)

/-- A byte as a number. -/
abbrev num (b : BitVec 8) : F .f32 := FloatOps.extf .f32 bitsLt_bf16_f32 (FloatOps.sitofp .bf16 b)

/-- Number `i` of patch row `j`. -/
def pq (s : Stt F) (x0 xw : IVec S8x128 32) (j i : Nat) (x : S8x128.Idx) : F .f32 := num (byteOf (fw s x0 xw j (i / 4) x) (i % 4))

/-- The numbers as contents. -/
abbrev QT (x0 : IVec S8x128 32) : (fam.sh 10).Idx → Elt F (fam.el 10) := fun y =>
  num (byteOf (fw s0 x0 xw ((y 0).val / 32 / 3) ((y 0).val / 32 % 3) (ix2 ⟨(y 0).val % 32 / 4, by omega⟩ (y 1))) ((y 0).val % 4))

theorem QT_at (x0 : IVec S8x128 32) {j m r b : Nat} (hr : r < 8) (hm : m < 3) (hb : b < 4) (y : S960x128.Idx) (hy : (y 0).val = 32 * (3 * j + m) + 4 * r + b) :
    QT s0 xw x0 y = num (F := F) (byteOf (fw s0 x0 xw j m (ix2 ⟨r, hr⟩ (y 1))) b) := by
  have a1 : (y 0).val / 32 / 3 = j := by omega
  have a2 : (y 0).val / 32 % 3 = m := by omega
  have a3 : (y 0).val % 4 = b := by omega
  have a4 : (y 0).val % 32 / 4 = r := by omega
  simp only [QT, a1, a2, a3, a4]

theorem trLdY (n : Fin 40) : Tr defs₀ c M s (ldY (F := F) M n) fun a s' => a = (fun x => yv s n.val (x 0).val (x 1).val) ∧ s' = s := by
  refine Tr.bind (trLd 9 (Q := fun a s' => a = (fun x => s 9 ((rY n).toLoadRect.idx x)) ∧ s' = s) ⟨rfl, rfl⟩) ?_
  rintro a s' ⟨rfl, rfl⟩
  refine Tr.ret ⟨funext fun x => ?_, rfl⟩
  rw [show x = ix2 (x 0) (x 1) from eq_ix2 x]
  refine (shapeCast_1ab_ab_apply _ _ _ _).trans ?_
  have e : (rY n).toLoadRect.idx (ix3 0 (x 0) (x 1)) = (ix3 n (x 0) (x 1) : S40x8x128.Idx) := by
    funext d
    match d with
    | ⟨0, _⟩ => exact Fin.ext (by show n.val + 1 * 0 = _; rfl)
    | ⟨1, _⟩ => exact Fin.ext (by show 0 + 1 * (x 0).val = _; rw [Nat.zero_add, Nat.one_mul])
    | ⟨2, _⟩ => exact Fin.ext (by show 0 + 1 * (x 1).val = _; rw [Nat.zero_add, Nat.one_mul])
  exact (congrArg (s' 9) e).trans (yv_at s' _).symm

theorem trPatchRow (hs : ∀ i, i ≠ 10 → s i = s0 i) (x0 : IVec S8x128 32) (j : Fin 10) :
    Tr defs₀ c M s (patchRow (F := F) M x0 xw j) fun q s' => q = (fun i : Fin 10 => pq s0 x0 xw j.val i.val) ∧ ∀ i, i ≠ 10 → s' i = s i := by
  refine Tr.bind (trGetN 4 _ _ s fun k => trLdY _) ?_
  rintro w s' ⟨rfl, rfl⟩
  have hj := j.isLt
  refine Tr.bind (trForN 10 (QT s0 xw x0) s0 3 _ (fun m => rng (rqU ⟨3 * j.val + m.val, by omega⟩)) _ hs fun m s'' h => trLdst 10 _ fun x => ?_) fun _ s'' w => ?_
  · rw [shapeCast_self]
    have hm := m.isLt
    have hx0 : (x 0).val < 32 := (x 0).isLt
    refine (congrArg num (bitcast_down (R := 32) (r := 8) _ _ rfl x (by omega))).trans ?_
    have hy : yv s' = yv s0 := by funext n r c; unfold yv; rw [hs 9 (by decide)]
    refine Eq.trans ?_ (QT_at s0 xw x0 (j := j.val) (m := m.val) (r := (x 0).val / 4) (b := (x 0).val % 4) (by omega) hm (Nat.mod_lt _ (by decide)) _
      (by show 32 * (3 * j.val + m.val) + 1 * (x 0).val = _; omega)).symm
    have e1 : ((rqU ⟨3 * j.val + m.val, by omega⟩).emb x) 1 = x 1 := Fin.ext (by show 0 + 1 * (x 1).val = (x 1).val; omega)
    rw [e1]
    congr 2
    unfold fw
    rw [← hy]
    have st := fun k : Fin 4 => stages4 xw (fun (k : Fin 4) x => yv s' (4 * j.val + k.val) (x 0).val (x 1).val) k (ix2 (⟨(x 0).val / 4, by omega⟩ : Fin 8) (x 1))
    have s1 := st ⟨m.val, by omega⟩
    have s2 := st ⟨m.val + 1, by omega⟩
    show IntOp.ori (IntOp.shrui .vector _ _) (IntOp.shli .vector (IntOp.shli .vector _ _) _) = _
    refine congr (congrArg _ (congrArg (fun a => IntOp.shrui .vector a _) s1)) (congrArg (fun a => IntOp.shli .vector (IntOp.shli .vector a _) _) s2)
  · refine (trGetN 10 _ (fun i : Fin 10 => pq s0 x0 xw j.val i.val) s'' fun i => trLd 10 ⟨funext fun x => ?_, rfl⟩).mono fun q s3 h => ⟨h.1, fun i hi => by rw [h.2]; exact w.1 i hi⟩
    have hi := i.isLt
    have hx0 : (x 0).val < 8 := (x 0).isLt
    have e : (rq ((j.val * 3 + i.val / 4) * 32 + i.val % 4) (by omega)).idx x = (ix2 ⟨(j.val * 3 + i.val / 4) * 32 + i.val % 4 + 4 * (x 0).val, by omega⟩ (x 1) : S960x128.Idx) := by
      funext d
      match d with
      | ⟨0, _⟩ => rfl
      | ⟨1, _⟩ => exact Fin.ext (by show 0 + 1 * (x 1).val = (x 1).val; omega)
    refine (congrArg (s'' 10) e).trans ((w.2.1 _ ⟨⟨i.val / 4, by omega⟩, ix2 ⟨i.val % 4 + 4 * (x 0).val, by omega⟩ (x 1), ?_⟩).trans ?_)
    · funext d
      match d with
      | ⟨0, _⟩ => exact Fin.ext (by show 32 * (3 * j.val + i.val / 4) + 1 * (i.val % 4 + 4 * (x 0).val) = (j.val * 3 + i.val / 4) * 32 + i.val % 4 + 4 * (x 0).val; omega)
      | ⟨1, _⟩ => exact Fin.ext (by show 0 + 1 * (x 1).val = (x 1).val; omega)
    · refine (QT_at s0 xw x0 (j := j.val) (m := i.val / 4) (r := (x 0).val) (b := i.val % 4) hx0 (by omega) (Nat.mod_lt _ (by decide)) _
        (by show (j.val * 3 + i.val / 4) * 32 + i.val % 4 + 4 * (x 0).val = _; omega)).trans ?_
      exact congrArg (fun z => num (byteOf (fw s0 x0 xw j.val (i.val / 4) z) (i.val % 4))) (eq_ix2 (n0 := 8) (n1 := 128) x).symm

end Rows

end Cert.KernelIdeal.Hand

end
-- ==== Proof.Taps.lean ====
/-
  The taps of one trip, row by row, their greatest absolute value, and the scales and codes made of them.
-/
module

public import proofs.«01_k».proof.Proof.Rows

@[expose] public section

noncomputable section

namespace Cert.KernelIdeal.Hand

open Cert.KernelIdeal Cert.KernelIdeal.Gen Cert.Triple
open Idealize.ShloMosaic Idealize.ShloMosaic.TcCoe Idealize.ShloMosaic.Tactic Idealize.ShloMosaic.ValueIdx
open Idealize.SL Idealize.SL.Sem

variable {F : FTy → Type} [FloatOps F] [∀ e, Nonempty (Elt F e)]

/-- A row cut out of eight. -/
theorem slice_row {α : Type} (v : S8x128.Idx → α) (k : Nat) (hk : k < 8) (h : S8x128.Slices ![k, 0] S1x128) (q : Fin 128) :
    extractStridedSlice S1x128 ![k, 0] v h (ix2 0 q) = v (ix2 ⟨k, hk⟩ q) := by
  refine congrArg v (funext fun d => ?_)
  match d with
  | ⟨0, _⟩ => rfl
  | ⟨1, _⟩ => exact Fin.ext (by show 0 + q.val = q.val; omega)

/-- A row spread over eight. -/
theorem rowB_at {α : Type} (v : S8x128.Idx → α) (k : Nat) (hk : k < 8) (h : S8x128.Slices ![k, 0] S1x128) (x : S8x128.Idx) :
    rowB v ![k, 0] h x = v (ix2 ⟨k, hk⟩ (x 1)) := by
  refine (congrArg (rowB v ![k, 0] h) (eq_ix2 (n0 := 8) (n1 := 128) x)).trans ?_
  refine (broadcastTo_1b_ab_apply _ _ (x 0) (x 1)).trans ?_
  rw [shapeCast_self]
  exact slice_row v k hk h (x 1)

section Taps
variable {defs₀ : Defs nD τ sig (Elt F) Λ₀} {c : Dev nD} {M : Mems sig fam}

theorem pq_congr {s s' : Stt F} (h : s 9 = s' 9) : pq s = pq s' := by
  have hy : yv s = yv s' := by funext n r c; unfold yv; rw [h]
  funext x0 xw j i x
  unfold pq fw
  rw [hy]

variable (QQ : Nat → Nat → S8x128.Idx → F .f32) (ax bx ay by' : Fin 10 → FVec F S8x128 .f32)

/-- Tap `(i, j)`. -/
def tapF (j i : Fin 9) : FVec F S8x128 .f32 :=
  addf (mulf (ay ⟨j.val, by omega⟩) (curOf ax bx (fun i => QQ j.val i.val) i))
    (mulf (by' ⟨j.val + 1, by omega⟩) (curOf ax bx (fun i => QQ (j.val + 1) i.val) i))

/-- The taps as contents. -/
abbrev FT : (fam.sh 11).Idx → Elt F (fam.el 11) := fun y =>
  tapF QQ ax bx ay by' ⟨(y 0).val % 9, by omega⟩ ⟨(y 0).val % 81 / 9, by omega⟩
    (ix2 ⟨(y 0).val / 81, by have : (y 0).val < 648 := (y 0).isLt; omega⟩ (y 1))

theorem FT_at {r : Nat} (hr : r < 8) (i j : Fin 9) (y : S648x128.Idx) (hy : (y 0).val = 81 * r + 9 * i.val + j.val) :
    FT QQ ax bx ay by' y = tapF QQ ax bx ay by' j i (ix2 ⟨r, hr⟩ (y 1)) := by
  have := i.isLt
  have := j.isLt
  have a1 : (y 0).val % 9 = j.val := by omega
  have a2 : (y 0).val % 81 / 9 = i.val := by omega
  have a3 : (y 0).val / 81 = r := by omega
  simp only [FT, a1, a2, a3]

/-- The running maximum over rows `j0`, …, `j0 + n - 1`. -/
def mxRows : (n j0 : Nat) → (h : j0 + n < 10) → Option (FVec F S8x128 .f32) → Option (FVec F S8x128 .f32)
  | 0, _, _, o => o
  | n + 1, j0, h, o => mxRows n (j0 + 1) (by omega) (maxN o 9 (tapF QQ ax bx ay by' ⟨j0, by omega⟩))

theorem trStF {s : Stt F} (i j : Fin 9) (h : 9 * i.val + j.val + 567 < 648) (w : FVec F S8x128 .f32) (hw : w = tapF QQ ax bx ay by' j i) :
    Tr defs₀ c M s (stF (F := F) M (9 * i.val + j.val) h w) fun _ s' => Wr 11 (FT QQ ax bx ay by') (rng (rf (9 * i.val + j.val) h)) s s' := by
  refine trLdst 11 (FT QQ ax bx ay by') fun x => ?_
  rw [shapeCast_self, hw]
  refine Eq.trans ?_ (FT_at QQ ax bx ay by' (r := (x 0).val) (x 0).isLt i j _ (by show 9 * i.val + j.val + 81 * (x 0).val = _; omega)).symm
  refine congrArg (tapF QQ ax bx ay by' j i) ((eq_ix2 (n0 := 8) (n1 := 128) x).trans ?_)
  exact congrArg (ix2 (n0 := 8) (n1 := 128) (x 0)) (Fin.ext (by show (x 1).val = 0 + 1 * (x 1).val; omega))

theorem trTapRows (s0 : Stt F) (x0 xw : IVec S8x128 32) (hQ : QQ = fun j i => pq s0 x0 xw j i) :
    (n j0 : Nat) → (h : j0 + n < 10) → (s : Stt F) → (∀ i, i ≠ 10 → i ≠ 11 → s i = s0 i) → (o : Option (FVec F S8x128 .f32)) →
    Tr defs₀ c M s (tapRows (F := F) M x0 xw ax bx ay by' n j0 h (curOf ax bx fun i => QQ j0 i.val) o) fun o' s' =>
      o' = mxRows QQ ax bx ay by' n j0 h o ∧ (∀ i, i ≠ 10 → i ≠ 11 → s' i = s0 i) ∧
      (∀ y : S648x128.Idx, j0 ≤ (y 0).val % 9 → (y 0).val % 9 < j0 + n → s' 11 y = FT QQ ax bx ay by' y) ∧
      (∀ y : S648x128.Idx, s' 11 y = s 11 y ∨ s' 11 y = FT QQ ax bx ay by' y)
  | 0, j0, h, s, hs, o => Tr.ret ⟨rfl, hs, fun y h1 h2 => by omega, fun y => .inl rfl⟩
  | n + 1, j0, h, s, hs, o => by
    refine Tr.bind (trPatchRow s xw (fun _ _ => rfl) x0 ⟨j0 + 1, by omega⟩) ?_
    rintro q s1 ⟨hq, h1⟩
    have e : q = fun i : Fin 10 => QQ (j0 + 1) i.val := by
      rw [hq, hQ, pq_congr (hs 9 (by decide) (by decide))]
    subst e
    refine Tr.bind (trForN 11 (FT QQ ax bx ay by') s1 9 _ (fun i => rng (rf (9 * i.val + j0) (by omega))) s1 (fun _ _ => rfl)
      fun i s' _ => trStF QQ ax bx ay by' i ⟨j0, by omega⟩ _ _ rfl) fun _ s2 w => ?_
    have hs2 : ∀ i, i ≠ 10 → i ≠ 11 → s2 i = s0 i := fun i h10 h11 => (w.1 i h11).trans ((h1 i h10).trans (hs i h10 h11))
    refine (trTapRows s0 x0 xw hQ n (j0 + 1) (by omega) s2 hs2 _).mono fun o' s3 hh => ⟨hh.1, hh.2.1, fun y ha hb => ?_, fun y => ?_⟩
    · by_cases hj : (y 0).val % 9 = j0
      · rcases hh.2.2.2 y with e | e
        · rw [e]
          have hy : (y 0).val < 648 := (y 0).isLt
          refine w.2.1 y ⟨⟨(y 0).val % 81 / 9, by omega⟩, ix2 ⟨(y 0).val / 81, by omega⟩ (y 1), ?_⟩
          funext d
          match d with
          | ⟨0, _⟩ => exact Fin.ext (by show 9 * ((y 0).val % 81 / 9) + j0 + 81 * ((y 0).val / 81) = (y 0).val; omega)
          | ⟨1, _⟩ => exact Fin.ext (by show 0 + 1 * (y 1).val = (y 1).val; omega)
        · exact e
      · exact hh.2.2.1 y (by omega) (by omega)
    · rcases hh.2.2.2 y with e | e
      · rw [e, ← h1 11 (by decide)]
        exact w.2.2 y
      · exact .inr e

end Taps

/-! ## The quantiser -/

theorem off142 (n : Fin 3) (t : Fin k0_t1_loop.trips) (g : Fin 2) : (Scalar.indexCast (Scalar.addi (Scalar.addi (Scalar.muli (BitVec.ofNat 32 n.val) 1024#32) (Scalar.muli (Scf.iv 0#32 1#32 t) 256#32)) (BitVec.ofNat 32 (128 * g.val)))).toNat
    = 1024 * n.val + 256 * t.val + 128 * g.val := by
  revert n t g; decide +kernel

section Quant
variable {defs₀ : Defs nD τ sig (Elt F) Λ₀} {c : Dev nD} {M : Mems sig fam} (t : Fin k0_t1_loop.trips) (harg8 : (M 6).IsWhole)
  (i : grid0.Coords) (g : Fin 2) (sc : FVec F S1x128 .f32)

/-- The scales after the quantiser of group `g`. -/
def sT (s : Stt F) (y : S8x3072.Idx) : F .f32 :=
  if h : (y 0).val = (i 0).val % 8 ∧ 1024 * (i 1).val + 256 * t.val + 128 * g.val ≤ (y 1).val ∧ (y 1).val < 1024 * (i 1).val + 256 * t.val + 128 * g.val + 128
  then sc (ix2 0 ⟨(y 1).val - (1024 * (i 1).val + 256 * t.val + 128 * g.val), by omega⟩) else s 7 y

/-- A code. -/
abbrev code1 (v r : F .f32) : BitVec 8 :=
  FloatOps.fptosi 8 (FloatOps.minimumf (Scalar.ofBits .f32 0x42FE0000#32) (FloatOps.maximumf (Scalar.ofBits .f32 0xC2FE0000#32) (FloatOps.roundeven (FloatOps.mulf v r))))

/-- The codes after the quantiser of group `g`. -/
def cT (s : Stt F) (y : S1x324x1024.Idx) : BitVec 8 :=
  if h : 256 * t.val + 128 * g.val ≤ (y 2).val ∧ (y 2).val < 256 * t.val + 128 * g.val + 128
  then code1 (s 11 (ix2 ⟨324 * g.val + (y 1).val, by have := g.isLt; have : (y 1).val < 324 := (y 1).isLt; show _ < 648; omega⟩ ⟨(y 2).val - (256 * t.val + 128 * g.val), by show _ < 128; omega⟩))
    (FloatOps.divf (Scalar.ofBits .f32 0x3F800000#32) (sc (ix2 0 ⟨(y 2).val - (256 * t.val + 128 * g.val), by omega⟩)))
  else s 6 y

theorem off142_1 : k0_off142 i t (BitVec.ofNat 32 (128 * g.val)) 1 = 1024 * (i 1).val + 256 * t.val + 128 * g.val := off142 (i 1) t g
theorem off142_0 : k0_off142 i t (BitVec.ofNat 32 (128 * g.val)) 0 = 0 := rfl

/-- The reciprocal, spread over eight rows. -/
abbrev recipV : FVec F S8x128 .f32 :=
  broadcastTo S8x128 (shapeCast S1x128 (divf (broadcast S1x128 (Scalar.ofBits .f32 0x3F800000#32)) sc) shapeCasts_S1x128_S1x128) broadcasts_S1x128_S8x128

theorem recip_row {n : Nat} (h : (⟨2, ![1, 128]⟩ : Shape).Broadcasts ⟨2, ![n, 128]⟩) (p : Fin n) (q : Fin 128) :
    broadcastTo ⟨2, ![n, 128]⟩ (extractStridedSlice S1x128 ![0, 0] (recipV (F := F) sc) slices_S8x128_o0_0_S1x128) h (ix2 p q)
      = FloatOps.divf (Scalar.ofBits .f32 0x3F800000#32) (sc (ix2 0 q)) := by
  refine (broadcastTo_1b_ab_apply _ h p q).trans ?_
  refine (slice_row _ 0 (by decide) _ q).trans ?_
  refine (broadcastTo_1b_ab_apply _ _ (0 : Fin 8) q).trans ?_
  exact congrFun (shapeCast_self _ _) (ix2 0 q)

variable {s : Stt F} (s0 : Stt F)

theorem cT_at {ch l : Nat} (hc : ch < 324) (hl : l < 128) (y : S1x324x1024.Idx) (h1 : (y 1).val = ch) (h2 : (y 2).val = 256 * t.val + 128 * g.val + l) :
    cT t g sc s0 y = code1 (s0 11 (ix2 (n0 := 648) (n1 := 128) ⟨324 * g.val + ch, by have := g.isLt; omega⟩ ⟨l, hl⟩)) (FloatOps.divf (Scalar.ofBits .f32 0x3F800000#32) (sc (ix2 0 ⟨l, hl⟩))) := by
  unfold cT
  rw [dif_pos (by omega)]
  have a : (y 2).val - (256 * t.val + 128 * g.val) = l := by omega
  simp only [a, h1]

theorem trStCode (hs : ∀ i, i ≠ 6 → s i = s0 i) (n : Fin 10) :
    Tr defs₀ c M s (stCode (F := F) M t harg8 g (recipV sc) n) fun _ s' => Wr 6 (cT t g sc s0) (rng (rcode t g n)) s s' := by
  refine Tr.bind (trLd 11 (Q := fun a s' => a = (fun x => s 11 ((rfU (324 * g.val + 32 * n.val) (by omega)).toLoadRect.idx x)) ∧ s' = s) ⟨rfl, rfl⟩) ?_
  rintro a s' ⟨rfl, rfl⟩
  refine trLdst 6 (cT t g sc s0) fun x => ?_
  have hn := n.isLt
  have hg := g.isLt
  have hx1 : (x 1).val < 32 := (x 1).isLt
  have hx2 : (x 2).val < 128 := (x 2).isLt
  rw [show x = ix3 (x 0) (x 1) (x 2) from eq_ix3 x]
  refine (shapeCast_ab_1ab_apply _ _ _ _ _).trans ?_
  refine Eq.trans ?_ (cT_at t g sc s0 (ch := 32 * n.val + (x 1).val) (l := (x 2).val) (by omega) hx2 _
    (by show 32 * n.val + 1 * (x 1).val = _; omega) (by show cOff t g + 1 * (x 2).val = _; rw [cOff_eq]; omega)).symm
  show code1 (F := F) _ _ = _
  rw [hs 11 (by decide)]
  refine congr (congrArg code1 (congrArg (s0 11) ?_)) (recip_row sc _ (x 1) (x 2))
  funext d
  match d with
  | ⟨0, _⟩ => exact Fin.ext (by show 324 * g.val + 32 * n.val + 1 * (x 1).val = 324 * g.val + (32 * n.val + (x 1).val); omega)
  | ⟨1, _⟩ => exact Fin.ext (by show 0 + 1 * (x 2).val = (x 2).val; omega)

theorem trStCodeL (hs : ∀ i, i ≠ 6 → s i = s0 i) :
    Tr defs₀ c M s (stCodeL (F := F) M t harg8 g (recipV sc)) fun _ s' => Wr 6 (cT t g sc s0) (rng (rcodeL t g)) s s' := by
  refine Tr.bind (trLd 11 (Q := fun a s' => a = (fun x => s 11 ((rfL (324 * g.val + 320) (by omega)).toLoadRect.idx x)) ∧ s' = s) ⟨rfl, rfl⟩) ?_
  rintro a s' ⟨rfl, rfl⟩
  refine trLdst 6 (cT t g sc s0) fun x => ?_
  have hg := g.isLt
  have hx1 : (x 1).val < 4 := (x 1).isLt
  have hx2 : (x 2).val < 128 := (x 2).isLt
  rw [show x = ix3 (x 0) (x 1) (x 2) from eq_ix3 x]
  refine (shapeCast_ab_1ab_apply _ _ _ _ _).trans ?_
  refine Eq.trans ?_ (cT_at t g sc s0 (ch := 320 + (x 1).val) (l := (x 2).val) (by omega) hx2 _
    (by show 320 + 1 * (x 1).val = _; omega) (by show cOff t g + 1 * (x 2).val = _; rw [cOff_eq]; omega)).symm
  show code1 (F := F) _ _ = _
  rw [hs 11 (by decide)]
  refine congr (congrArg code1 (congrArg (s0 11) ?_)) (recip_row sc _ (x 1) (x 2))
  funext d
  match d with
  | ⟨0, _⟩ => exact Fin.ext (by show 324 * g.val + 320 + 1 * (x 1).val = 324 * g.val + (320 + (x 1).val); omega)
  | ⟨1, _⟩ => exact Fin.ext (by show 0 + 1 * (x 2).val = (x 2).val; omega)

theorem eqRow (x : S8x128.Idx) (b : Nat) (hb : b < 20) :
    cmpi .eq subI (broadcast S8x128 (Scalar.andi (BitVec.ofNat 32 b) 7#32)) x = BitVec.ofBool (decide ((x 0).val = b % 8)) := by
  have hx : (x 0).val < 8 := (x 0).isLt
  show BitVec.ofBool (BitVec.ofNat 32 (0 * 8 + (x 0).val) == BitVec.ofNat 32 b &&& 7#32) = _
  generalize (x 0).val = a at hx
  revert a b
  decide +kernel

theorem trQuant : Tr defs₀ c M s (quant (F := F) M t harg8 i g sc) fun _ s' =>
    (∀ k, k ≠ 6 → k ≠ 7 → s' k = s k) ∧ (∀ y, s' 7 y = sT t i g sc s y) ∧ ∀ y, s' 6 y = cT t g sc s y := by
  have ht : t.val < 4 := t.isLt
  have hg := g.isLt
  have hi0 : (i 0).val < 20 := (i 0).isLt
  have hi1 : (i 1).val < 3 := (i 1).isLt
  refine Tr.bind (trLd 7 (Q := fun a s' => a = (fun x => s 7 ((Rect.unit (s := S8x3072) (k0_off142 i t (BitVec.ofNat 32 (128 * g.val))) S8x128.size (k0_off142_inb i t g)).toLoadRect.idx x)) ∧ s' = s) ⟨rfl, rfl⟩) ?_
  rintro v s' ⟨rfl, rfl⟩
  refine Tr.bind (trLd 7 (Q := fun a s'' => s'' = s') rfl) ?_
  rintro _ s'' rfl
  refine Tr.bind (trSt 7 (sT t i g sc s'') fun x => ?_) fun _ s1 w1 => ?_
  · have hx0 : (x 0).val < 8 := (x 0).isLt
    have hx1 : (x 1).val < 128 := (x 1).isLt
    have e0 : (((Rect.unit (s := S8x3072) (k0_off142 i t (BitVec.ofNat 32 (128 * g.val))) S8x128.size (k0_off142_inb i t g)).emb x) 0).val = (x 0).val := by
      show k0_off142 i t (BitVec.ofNat 32 (128 * g.val)) 0 + 1 * (x 0).val = _; rw [off142_0]; omega
    have e1 : (((Rect.unit (s := S8x3072) (k0_off142 i t (BitVec.ofNat 32 (128 * g.val))) S8x128.size (k0_off142_inb i t g)).emb x) 1).val = 1024 * (i 1).val + 256 * t.val + 128 * g.val + (x 1).val := by
      show k0_off142 i t (BitVec.ofNat 32 (128 * g.val)) 1 + 1 * (x 1).val = _; rw [off142_1]; omega
    refine (congrArg (fun m => Scalar.select m _ _) (eqRow x (i 0).val hi0)).trans ?_
    refine (sel_ofBool _ _ _).trans ?_
    unfold sT
    by_cases h : (x 0).val = (i 0).val % 8
    · rw [dif_pos (by omega), if_pos (decide_eq_true h)]
      refine (congrArg (broadcastTo S8x128 _ broadcasts_S1x128_S8x128) (eq_ix2 (n0 := 8) (n1 := 128) x)).trans ?_
      refine (broadcastTo_1b_ab_apply _ _ (x 0) (x 1)).trans ?_
      rw [shapeCast_self]
      exact congrArg (fun q => sc (ix2 0 q)) (Fin.ext (by show (x 1).val = _ - _; omega))
    · rw [dif_neg (by omega), if_neg (by simpa using h)]
      exact congrFun (shapeCast_self _ _) x
  · refine Tr.bind (trForN 6 (cT t g sc s1) s1 10 _ (fun n => rng (rcode t g n)) s1 (fun _ _ => rfl) fun n s' h => trStCode t harg8 g sc s1 h n) fun _ s2 w2 => ?_
    refine (trStCodeL t harg8 g sc s1 fun k hk => w2.1 k hk).mono fun _ s3 w3 => ?_
    have w := w2.trans w3
    refine ⟨fun k h6 h7 => (w.1 k h6).trans (w1.1 k h7), fun y => ?_, fun y => ?_⟩
    · rw [w.1 7 (by decide)]
      by_cases hy : 1024 * (i 1).val + 256 * t.val + 128 * g.val ≤ (y 1).val ∧ (y 1).val < 1024 * (i 1).val + 256 * t.val + 128 * g.val + 128
      · refine w1.2.1 y ⟨ix2 (y 0) ⟨(y 1).val - (1024 * (i 1).val + 256 * t.val + 128 * g.val), by omega⟩, ?_⟩
        funext d
        match d with
        | ⟨0, _⟩ => exact Fin.ext (by show k0_off142 i t (BitVec.ofNat 32 (128 * g.val)) 0 + 1 * (y 0).val = (y 0).val; rw [off142_0]; omega)
        | ⟨1, _⟩ => exact Fin.ext (by show k0_off142 i t (BitVec.ofNat 32 (128 * g.val)) 1 + 1 * ((y 1).val - _) = (y 1).val; rw [off142_1]; omega)
      · have e : sT t i g sc s'' y = s'' 7 y := by unfold sT; rw [dif_neg (by omega)]
        rcases w1.2.2 y with h | h
        · rw [h, e]
        · exact h
    · have ec : cT t g sc s1 y = cT t g sc s'' y := by
        unfold cT; rw [w1.1 11 (by decide), w1.1 6 (by decide)]
      rw [← ec]
      by_cases hy : 256 * t.val + 128 * g.val ≤ (y 2).val ∧ (y 2).val < 256 * t.val + 128 * g.val + 128
      · have hy1 : (y 1).val < 324 := (y 1).isLt
        have hy0 : (y 0).val < 1 := (y 0).isLt
        refine w.2.1 y ?_
        by_cases h32 : (y 1).val < 320
        · refine .inl ⟨⟨(y 1).val / 32, by omega⟩, ix3 0 ⟨(y 1).val % 32, by omega⟩ ⟨(y 2).val - (256 * t.val + 128 * g.val), by omega⟩, ?_⟩
          funext d
          match d with
          | ⟨0, _⟩ => exact Fin.ext (by show 0 + 1 * 0 = (y 0).val; omega)
          | ⟨1, _⟩ => exact Fin.ext (by show 32 * ((y 1).val / 32) + 1 * ((y 1).val % 32) = (y 1).val; omega)
          | ⟨2, _⟩ => exact Fin.ext (by show cOff t g + 1 * ((y 2).val - _) = (y 2).val; rw [cOff_eq]; omega)
        · refine .inr ⟨ix3 0 ⟨(y 1).val - 320, by omega⟩ ⟨(y 2).val - (256 * t.val + 128 * g.val), by omega⟩, ?_⟩
          funext d
          match d with
          | ⟨0, _⟩ => exact Fin.ext (by show 0 + 1 * 0 = (y 0).val; omega)
          | ⟨1, _⟩ => exact Fin.ext (by show 320 + 1 * ((y 1).val - 320) = (y 1).val; omega)
          | ⟨2, _⟩ => exact Fin.ext (by show cOff t g + 1 * ((y 2).val - _) = (y 2).val; rw [cOff_eq]; omega)
      · have e : cT t g sc s1 y = s1 6 y := by unfold cT; rw [dif_neg hy]
        rcases w.2.2 y with h | h
        · rw [h, e]
        · exact h

end Quant

end Cert.KernelIdeal.Hand

end
-- ==== Proof.TripTr.lean ====
/-
  One trip as a whole: what it leaves in the scales and the codes, in terms of the taps.
-/
module

public import proofs.«01_k».proof.Proof.Taps

@[expose] public section

noncomputable section

namespace Cert.KernelIdeal.Hand

open Cert.KernelIdeal Cert.KernelIdeal.Gen Cert.Triple
open Idealize.ShloMosaic Idealize.ShloMosaic.TcCoe Idealize.ShloMosaic.Tactic Idealize.ShloMosaic.ValueIdx
open Idealize.SL Idealize.SL.Sem

variable {F : FTy → Type} [FloatOps F] [∀ e, Nonempty (Elt F e)]

/-- A vector of eight rows read at numbers. -/
def atN (v : IVec S8x128 32) (r c : Nat) : BitVec 32 := if h : r < 8 ∧ c < 128 then v (ix2 ⟨r, h.1⟩ ⟨c, h.2⟩) else 0

theorem atN_row (v : IVec S8x128 32) (r : Nat) (hr : r < 8) (q : Fin 128) : atN v r q.val = v (ix2 ⟨r, hr⟩ q) := dif_pos ⟨hr, q.isLt⟩

section
variable (t : Fin k0_t1_loop.trips) (cx cy scale : FVec F S8x128 .f32)

abbrev fxV : FVec F S8x128 .f32 := subf cx (floor cx)
abbrev x0V : IVec S8x128 32 := clip0 0x42A00000#32 (floor cx)
abbrev y0V : IVec S8x128 32 := clip0 0x42800000#32 (floor cy)
abbrev xwV : IVec S8x128 32 := shrsi (x0V cx) (broadcast S8x128 2#32)
abbrev axV (n : Fin 10) : FVec F S8x128 .f32 := select (inM (x0V cx) wlI n) (subf oneV (fxV cx)) zeroV
abbrev bxV (n : Fin 10) : FVec F S8x128 .f32 := select (inM (x0V cx) wlI n) (fxV cx) zeroV
abbrev ayV (n : Fin 10) : FVec F S8x128 .f32 := select (inM (y0V cy) hlI n) (mulf scale (subf oneV (fxV cy))) zeroV
abbrev byV (n : Fin 10) : FVec F S8x128 .f32 := select (inM (y0V cy) hlI n) (mulf scale (fxV cy)) zeroV

/-- Whether the numbers `QQ` are bytes picked from a word table that agrees with the one called for where it is filled. -/
def Good (s : Stt F) (QQ : Nat → Nat → S8x128.Idx → F .f32) : Prop := ∃ z s2 : Stt F, (∀ y : S1152x128.Idx, filled 0 (y 0).val ∨ filled 1 (y 0).val →
    z 8 y = ZT t s (atN (y0V cy)) (atN (xwV cx)) y) ∧ (∀ y, s2 9 y = YT z (y0V cy) (xwV cx) y) ∧ QQ = fun j i => pq s2 (x0V cx) (xwV cx) j i

abbrev tapV (QQ : Nat → Nat → S8x128.Idx → F .f32) (j i : Fin 9) : FVec F S8x128 .f32 := tapF QQ (axV cx) (bxV cx) (ayV cy scale) (byV cy scale) j i

abbrev maxV (QQ : Nat → Nat → S8x128.Idx → F .f32) : FVec F S8x128 .f32 :=
  (mxRows QQ (axV cx) (bxV cx) (ayV cy scale) (byV cy scale) 9 0 (by omega) none).getD zeroV

/-- The scale of a group. -/
abbrev scV (QQ : Nat → Nat → S8x128.Idx → F .f32) : Fin 2 → FVec F S1x128 .f32
  | 0 => scaleOf (amaxOf (maxV cx cy scale QQ) ![0, 0] slices_S8x128_o0_0_S4x128)
  | 1 => scaleOf (amaxOf (maxV cx cy scale QQ) ![4, 0] slices_S8x128_o4_0_S4x128)

/-- What a trip does to scales and codes. -/
def TripPost (i : grid0.Coords) (QQ : Nat → Nat → S8x128.Idx → F .f32) (s s' : Stt F) : Prop :=
  (∀ k : Fin 12, k.val < 6 → s' k = s k) ∧
  (∀ (g : Fin 2) (l : Fin 128) (y : S8x3072.Idx), (y 0).val = (i 0).val % 8 → (y 1).val = 1024 * (i 1).val + 256 * t.val + 128 * g.val + l.val →
    s' 7 y = scV cx cy scale QQ g (ix2 0 l)) ∧
  (∀ y : S8x3072.Idx, ¬ ((y 0).val = (i 0).val % 8 ∧ 1024 * (i 1).val + 256 * t.val ≤ (y 1).val ∧ (y 1).val < 1024 * (i 1).val + 256 * t.val + 256) → s' 7 y = s 7 y) ∧
  (∀ (g : Fin 2) (l : Fin 128) (lev : Fin 4) (a b : Fin 9) (y : S1x324x1024.Idx), (y 1).val = 81 * lev.val + 9 * a.val + b.val → (y 2).val = 256 * t.val + 128 * g.val + l.val →
    s' 6 y = code1 (tapV cx cy scale QQ b a (ix2 ⟨4 * g.val + lev.val, by omega⟩ l)) (FloatOps.divf (Scalar.ofBits .f32 0x3F800000#32) (scV cx cy scale QQ g (ix2 0 l)))) ∧
  (∀ y : S1x324x1024.Idx, ¬ (256 * t.val ≤ (y 2).val ∧ (y 2).val < 256 * t.val + 256) → s' 6 y = s 6 y)

variable {defs₀ : Defs nD τ sig (Elt F) Λ₀} {c : Dev nD} {M : Mems sig fam} (harg8 : (M 6).IsWhole) (i : grid0.Coords)

theorem trTripOf (s : Stt F) : Tr defs₀ c M s (tripOf (F := F) M t harg8 i cx cy scale) fun _ s' =>
    ∃ QQ, Good t cx cy s QQ ∧ TripPost t cx cy scale i QQ s s' := by
  refine Tr.bind (trFill t 0 s (atN (y0V cy)) (atN (xwV cx)) (fun _ _ => rfl) _ _ _
    (fun x => (rowB_at _ 0 (by decide) _ x).trans (atN_row _ 0 _ _).symm) (fun x => (rowB_at _ 1 (by decide) _ x).trans (atN_row _ 1 _ _).symm)
    (fun x => (rowB_at _ 0 (by decide) _ x).trans (atN_row _ 0 _ _).symm)) fun _ s1 w1 => ?_
  refine Tr.bind (trFill t 1 s (atN (y0V cy)) (atN (xwV cx)) w1.1 _ _ _
    (fun x => (rowB_at _ 4 (by decide) _ x).trans (atN_row _ 4 _ _).symm) (fun x => (rowB_at _ 5 (by decide) _ x).trans (atN_row _ 5 _ _).symm)
    (fun x => (rowB_at _ 4 (by decide) _ x).trans (atN_row _ 4 _ _).symm)) fun _ z w2 => ?_
  have w := w1.trans w2
  refine Tr.bind (trRowsAll z (y0V cy) (xwV cx)) fun _ s2 h2 => ?_
  have hg : Good t cx cy s (fun j i => pq s2 (x0V cx) (xwV cx) j i) := ⟨z, s2, w.2.1, h2.2, rfl⟩
  generalize hQ : (fun j i => pq s2 (x0V cx) (xwV cx) j i : Nat → Nat → S8x128.Idx → F .f32) = QQ at hg
  refine Tr.bind (trPatchRow s2 (xwV cx) (fun _ _ => rfl) (x0V cx) 0) ?_
  rintro q s3 ⟨hq, h3⟩
  have e : q = fun i : Fin 10 => QQ 0 i.val := by rw [hq, ← hQ]; rfl
  subst e
  refine Tr.bind (trTapRows QQ (axV cx) (bxV cx) (ayV cy scale) (byV cy scale) s2 (x0V cx) (xwV cx) hQ.symm 9 0 (by omega) s3 (fun k h10 _ => h3 k h10) none) ?_
  rintro o s4 ⟨rfl, h4, hF, -⟩
  refine Tr.bind (trQuant t harg8 i 0 (scV cx cy scale QQ 0)) ?_
  rintro _ s5 ⟨a5, b5, c5⟩
  refine Tr.bind (trQuant t harg8 i 1 (scV cx cy scale QQ 1)) ?_
  rintro _ s6 ⟨a6, b6, c6⟩
  refine Tr.ret ⟨QQ, hg, ?_⟩
  have in4 : ∀ k : Fin 12, k ≠ 8 → k ≠ 9 → k ≠ 10 → k ≠ 11 → s4 k = s k := fun k h8 h9 h10 h11 =>
    (h4 k h10 h11).trans ((h2.1 k h9).trans (w.1 k h8))
  have hF' : ∀ y : S648x128.Idx, s4 11 y = FT QQ (axV cx) (bxV cx) (ayV cy scale) (byV cy scale) y := fun y => hF y (Nat.zero_le _) (by omega)
  have ht : t.val < 4 := t.isLt
  refine ⟨fun k hk => ?_, ?_, ?_, ?_, ?_⟩
  · have ne : ∀ m : Fin 12, 6 ≤ m.val → k ≠ m := fun m hm h => by rw [h] at hk; omega
    rw [a6 k (ne 6 (by decide)) (ne 7 (by decide)), a5 k (ne 6 (by decide)) (ne 7 (by decide))]
    exact in4 k (ne 8 (by decide)) (ne 9 (by decide)) (ne 10 (by decide)) (ne 11 (by decide))
  · intro g l y hy0 hy1
    have hl := l.isLt
    match g with
    | 0 =>
      have hy1 : (y 1).val = 1024 * (i 1).val + 256 * t.val + 128 * (0 : Fin 2).val + l.val := hy1
      have z0 : ((0 : Fin 2) : Nat) = 0 := rfl
      have z1 : ((1 : Fin 2) : Nat) = 1 := rfl
      rw [b6]
      unfold sT
      rw [dif_neg (by omega), b5]
      unfold sT
      rw [dif_pos (by omega)]
      exact congrArg (fun q => scV cx cy scale QQ 0 (ix2 0 q)) (Fin.ext (by show (y 1).val - _ = l.val; omega))
    | 1 =>
      have hy1 : (y 1).val = 1024 * (i 1).val + 256 * t.val + 128 * (1 : Fin 2).val + l.val := hy1
      rw [b6]
      unfold sT
      rw [dif_pos (by omega)]
      exact congrArg (fun q => scV cx cy scale QQ 1 (ix2 0 q)) (Fin.ext (by show (y 1).val - _ = l.val; omega))
  · intro y hy
    have z0 : ((0 : Fin 2) : Nat) = 0 := rfl
    have z1 : ((1 : Fin 2) : Nat) = 1 := rfl
    rw [b6]
    unfold sT
    rw [dif_neg (by omega), b5]
    unfold sT
    rw [dif_neg (by omega), in4 7 (by decide) (by decide) (by decide) (by decide)]
  · intro g l lev a b y hy1 hy2
    have z0 : ((0 : Fin 2) : Nat) = 0 := rfl
    have z1 : ((1 : Fin 2) : Nat) = 1 := rfl
    have hl := l.isLt
    have hlev := lev.isLt
    have ha := a.isLt
    have hb := b.isLt
    have s11 : s5 11 = s4 11 := a5 11 (by decide) (by decide)
    have hfin : ∀ g : Fin 2, (y 2).val = 256 * t.val + 128 * g.val + l.val → cT t g (scV cx cy scale QQ g) s4 y
        = code1 (tapV cx cy scale QQ b a (ix2 ⟨4 * g.val + lev.val, by omega⟩ l)) (FloatOps.divf (Scalar.ofBits .f32 0x3F800000#32) (scV cx cy scale QQ g (ix2 0 l))) := by
      intro g hy2
      refine (cT_at t g (scV cx cy scale QQ g) s4 (ch := 81 * lev.val + 9 * a.val + b.val) (l := l.val) (by omega) hl y hy1 hy2).trans ?_
      rw [hF', FT_at QQ _ _ _ _ (r := 4 * g.val + lev.val) (by omega) a b _ (by show 324 * g.val + (81 * lev.val + 9 * a.val + b.val) = _; omega)]
    obtain rfl | rfl : g = 0 ∨ g = 1 := by omega
    · have hy2 : (y 2).val = 256 * t.val + 128 * (0 : Fin 2).val + l.val := hy2
      rw [c6]
      unfold cT
      rw [dif_neg (by omega), c5]
      exact hfin 0 hy2
    · have hy2 : (y 2).val = 256 * t.val + 128 * (1 : Fin 2).val + l.val := hy2
      rw [← hfin 1 hy2, c6]
      unfold cT
      rw [dif_pos (by omega), dif_pos (by omega), s11]
  · intro y hy
    have z0 : ((0 : Fin 2) : Nat) = 0 := rfl
    have z1 : ((1 : Fin 2) : Nat) = 1 := rfl
    rw [c6]
    unfold cT
    rw [dif_neg (by omega), c5]
    unfold cT
    rw [dif_neg (by omega), in4 6 (by decide) (by decide) (by decide) (by decide)]

end

end Cert.KernelIdeal.Hand

end
-- ==== Proof.Lane.lean ====
/-
  One lane: where its coordinates lie in the level, the bytes the kernel picks are the level's bytes there.
-/
module

public import proofs.«01_k».proof.Proof.TripTr

@[expose] public section

noncomputable section

namespace Cert.KernelIdeal.Hand

open Cert.KernelIdeal Cert.KernelIdeal.Gen Cert.Triple
open Idealize.ShloMosaic Idealize.ShloMosaic.TcCoe Idealize.ShloMosaic.Tactic Idealize.ShloMosaic.ValueIdx
open Idealize.SL Idealize.SL.Sem

variable {F : FTy → Type} [FloatOps F] [∀ e, Nonempty (Elt F e)]

theorem byteOf_or (lo hi : BitVec 32) (b n : Nat) (hb : b < 4) (hn : n < 4) :
    byteOf (lo >>> (8 * b) ||| (hi <<< 8) <<< (24 - 8 * b)) n = if b + n < 4 then byteOf lo (b + n) else byteOf hi (b + n - 4) := by
  split <;> apply BitVec.eq_of_getLsbD_eq <;> intro i hi' <;> unfold byteOf <;>
    simp only [BitVec.getLsbD_setWidth, BitVec.getLsbD_ushiftRight, BitVec.getLsbD_or, BitVec.getLsbD_shiftLeft]
  · have e1 : 8 * b + (8 * n + i) = 8 * (b + n) + i := by omega
    by_cases h : 8 * n + i < 24 - 8 * b
    · simp [h, hi', e1]
    · have h2 : 8 * n + i - (24 - 8 * b) < 8 := by omega
      simp [h2, hi', e1]
  · have h : ¬ 8 * n + i < 24 - 8 * b := by omega
    have h2 : ¬ 8 * n + i - (24 - 8 * b) < 8 := by omega
    have h3 : 8 * n + i < 32 := by omega
    have h4 : 8 * n + i - (24 - 8 * b) < 32 := by omega
    have e2 : 8 * n + i - (24 - 8 * b) - 8 = 8 * (b + n - 4) + i := by omega
    have e3 : lo.getLsbD (8 * b + (8 * n + i)) = false := BitVec.getLsbD_of_ge _ _ (by omega)
    rw [e2, e3]
    simp [h, h2, h3, h4, hi']

/-- A byte of two neighbouring words from a byte offset. -/
theorem byteOf_funnel (lo hi x : BitVec 32) (b n : Nat) (hb : x.toNat % 4 = b) (hn : n < 4) :
    byteOf (IntOp.shrui .vector lo (IntOp.shli .vector (x &&& 3#32) 3#32) ||| IntOp.shli .vector (IntOp.shli .vector hi 8#32) (24#32 - IntOp.shli .vector (x &&& 3#32) 3#32)) n
      = if b + n < 4 then byteOf lo (b + n) else byteOf hi (b + n - 4) := by
  have hb4 : b < 4 := by omega
  have e : x &&& 3#32 = BitVec.ofNat 32 b := by
    apply BitVec.eq_of_toNat_eq
    rw [BitVec.toNat_and, show (3#32 : BitVec 32).toNat = 2 ^ 2 - 1 from rfl, Nat.and_two_pow_sub_one_eq_mod, BitVec.toNat_ofNat]
    omega
  have e1 : IntOp.shli .vector (BitVec.ofNat 32 b) 3#32 = BitVec.ofNat 32 (8 * b) := by
    have : ∀ b : Fin 4, IntOp.shli .vector (BitVec.ofNat 32 b.val) 3#32 = BitVec.ofNat 32 (8 * b.val) := by decide
    exact this ⟨b, hb4⟩
  have e2 : (24#32 - BitVec.ofNat 32 (8 * b)) = BitVec.ofNat 32 (24 - 8 * b) := by
    have : ∀ b : Fin 4, (24#32 - BitVec.ofNat 32 (8 * b.val)) = BitVec.ofNat 32 (24 - 8 * b.val) := by decide
    exact this ⟨b, hb4⟩
  rw [e, e1, e2]
  have t1 : (BitVec.ofNat 32 (8 * b)).toNat = 8 * b := by rw [BitVec.toNat_ofNat]; omega
  have t2 : (BitVec.ofNat 32 (24 - 8 * b)).toNat = 24 - 8 * b := by rw [BitVec.toNat_ofNat]; omega
  have f1 : IntOp.shrui .vector lo (BitVec.ofNat 32 (8 * b)) = lo >>> (8 * b) := by
    unfold IntOp.shrui; rw [if_pos (by omega), BitVec.ushiftRight_eq', t1]
  have f2 : ∀ w : BitVec 32, IntOp.shli .vector w (BitVec.ofNat 32 (24 - 8 * b)) = w <<< (24 - 8 * b) := by
    intro w; unfold IntOp.shli; rw [if_pos (by omega), BitVec.shiftLeft_eq', t2]
  have f3 : IntOp.shli .vector hi 8#32 = hi <<< 8 := by
    unfold IntOp.shli; rw [if_pos (by decide)]; rfl
  rw [f1, f2, f3]
  exact byteOf_or lo hi b n hb4 hn

theorem sle_ofNat (n : Nat) (hn : n < 1000) (z : Int) (hz : -1000 ≤ z ∧ z < 1000) : (BitVec.ofNat 32 n).sle (BitVec.ofInt 32 z) = decide ((n : Int) ≤ z) := by
  have a : (BitVec.ofNat 32 n).toInt = n := by rw [BitVec.toInt_eq_toNat_cond, BitVec.toNat_ofNat]; split <;> omega
  have b : (BitVec.ofInt 32 z).toInt = z := by rw [BitVec.toInt_ofInt, Int.bmod_def]; split <;> omega
  unfold BitVec.sle
  rw [a, b]

theorem shr2 (z : Int) (hz : -1000 ≤ z ∧ z < 1000) : IntOp.shrsi .vector (BitVec.ofInt 32 z) 2#32 = BitVec.ofInt 32 (z / 4) := by
  have b : (BitVec.ofInt 32 z).toInt = z := by rw [BitVec.toInt_ofInt, Int.bmod_def]; split <;> omega
  unfold IntOp.shrsi
  rw [if_pos (by decide)]
  show (BitVec.ofInt 32 z).sshiftRight 2 = _
  apply BitVec.eq_of_toInt_eq
  rw [BitVec.toInt_sshiftRight, b, BitVec.toInt_ofInt, Int.bmod_def, Int.shiftRight_eq_div_pow]
  norm_num
  split <;> omega

theorem ofInt_toNat (z : Int) (hz : -1000 ≤ z ∧ z < 1000) : ((BitVec.ofInt 32 z).toNat : Int) = if z < 0 then z + 4294967296 else z := by
  rw [BitVec.toNat_ofInt]; split <;> omega

section
variable (t : Fin k0_t1_loop.trips) (cx cy : FVec F S8x128 .f32) (s : Stt F)

/-- A word the patch wants is the level's word, where the level has it. -/
theorem word_at (z s2 : Stt F) (hz : ∀ y : S1152x128.Idx, filled 0 (y 0).val ∨ filled 1 (y 0).val → z 8 y = ZT t s (atN (y0V cy)) (atN (xwV cx)) y)
    (h2 : ∀ y, s2 9 y = YT z (y0V cy) (xwV cx) y) (g : Fin 2) (lev : Fin 4) (l : Fin 128) (zx zy : Int)
    (hzx : -20 ≤ zx ∧ zx ≤ 76) (hzy : -20 ≤ zy ∧ zy ≤ 60)
    (ex : x0V cx (ix2 ⟨4 * g.val + lev.val, by omega⟩ l) = BitVec.ofInt 32 zx) (ey : y0V cy (ix2 ⟨4 * g.val + lev.val, by omega⟩ l) = BitVec.ofInt 32 zy)
    (j m yy W : Nat) (hj : j < 10) (hm : m < 4) (hyy : (yy : Int) = zy + j) (hy : yy < 48 / 2 ^ lev.val) (hW : (W : Int) = zx / 4 + m) (hw : W < 16 / 2 ^ lev.val) :
    yv s2 (4 * j + (m + (xwV cx (ix2 ⟨4 * g.val + lev.val, by omega⟩ l)).toNat % 4) % 4) (4 * g.val + lev.val) l.val
      = word s lev.val yy W (256 * t.val + 128 * g.val + l.val) := by
  have hg := g.isLt
  have hlev := lev.isLt
  have hl := l.isLt
  have exw : xwV cx (ix2 ⟨4 * g.val + lev.val, by omega⟩ l) = BitVec.ofInt 32 (zx / 4) := by
    show IntOp.shrsi .vector (x0V cx (ix2 ⟨4 * g.val + lev.val, by omega⟩ l)) 2#32 = _
    rw [ex]; exact shr2 zx (by omega)
  have nx := ofInt_toNat (zx / 4) (by omega)
  have ny := ofInt_toNat zy (by omega)
  rw [exw]
  generalize hA : (BitVec.ofInt 32 (zx / 4)).toNat = A at nx
  have hcl : (m + A % 4) % 4 < 4 := Nat.mod_lt _ (by decide)
  have hcl' : (((m + A % 4) % 4 : Nat) : Int) = W % 4 := by split at nx <;> omega
  generalize hC : (m + A % 4) % 4 = C at hcl hcl'
  have y1 : 4 * j + C < 40 := by omega
  have y2 : 4 * g.val + lev.val < 8 := by omega
  refine (dif_pos (⟨y1, y2, hl⟩ : 4 * j + C < 40 ∧ 4 * g.val + lev.val < 8 ∧ l.val < 128)).trans ?_
  refine (h2 _).trans ?_
  refine (YT_at z (y0V cy) (xwV cx) hcl (⟨4 * g.val + lev.val, by omega⟩ : Fin 8) l _ rfl rfl rfl).trans ?_
  unfold yw
  rw [exw, ey]
  generalize hB : (BitVec.ofInt 32 zy).toNat = B at ny
  have hk : (j + B % 16) % 16 = yy % 16 := by split at ny <;> omega
  have hbit : C + (if (BitVec.ofNat 32 C - BitVec.ofInt 32 (zx / 4)).toNat / 4 % 2 = 1 then 4 else 0) = W % 8 := by
    rw [BitVec.toNat_sub, hA, BitVec.toNat_ofNat]
    split at nx <;> split <;> omega
  rw [hk, hbit]
  have p : lev.val = 0 ∨ lev.val = 1 ∨ lev.val = 2 ∨ lev.val = 3 := by omega
  have hy' : (lev.val = 0 ∧ yy < 48 ∧ W < 16) ∨ (lev.val = 1 ∧ yy < 24 ∧ W < 8) ∨ (lev.val = 2 ∧ yy < 12 ∧ W < 4) ∨ (lev.val = 3 ∧ yy < 6 ∧ W < 2) := by
    rcases p with h | h | h | h <;> rw [h] at hy hw <;> norm_num at hy hw <;> omega
  have hR : 72 * (yy % 16) + 9 * (W % 8) + (4 * g.val + lev.val) < 1152 := by omega
  refine (dif_pos (⟨hR, hl⟩ : 72 * (yy % 16) + 9 * (W % 8) + (4 * g.val + lev.val) < 1152 ∧ l.val < 128)).trans ?_
  have hf : filled g.val (72 * (yy % 16) + 9 * (W % 8) + (4 * g.val + lev.val)) := ⟨yy % 16, W % 8, lev.val, by omega, by omega⟩
  refine (hz _ ?_).trans ?_
  · obtain h | h : g = 0 ∨ g = 1 := by omega
    · left; subst h; exact hf
    · right; subst h; exact hf
  refine (zt_at s t.val (atN (y0V cy)) (atN (xwV cx)) (R := 72 * (yy % 16) + 9 * (W % 8) + (4 * g.val + lev.val)) (k := yy % 16) (w := W % 8) (g := g.val) (l := lev.val) (c := l.val) (by omega) (by omega) hg hlev).trans ?_
  unfold ztB
  have hrow : ∀ (v : IVec S8x128 32) (n : Nat), 4 * g.val + lev.val = n → atN v n l.val = v (ix2 ⟨4 * g.val + lev.val, by omega⟩ l) := by
    rintro v n rfl; exact atN_row v _ _ l
  rcases hy' with ⟨h, a, b⟩ | ⟨h, a, b⟩ | ⟨h, a, b⟩ | ⟨h, a, b⟩
  · rw [if_pos h, if_pos h, hrow _ _ (by omega), hrow _ _ (by omega), exw, ey]
    have r1 : pickY (BitVec.ofInt 32 zy) (yy % 16) = yy := by
      unfold pickY
      rw [sle_ofNat _ (by omega) _ (by omega), sle_ofNat _ (by omega) _ (by omega)]
      simp only [decide_eq_true_eq]
      split
      · omega
      · split <;> omega
    have r2 : pickW (BitVec.ofInt 32 (zx / 4)) (W % 8) = W := by
      unfold pickW
      rw [show BitVec.ofInt 32 (zx / 4) - 5#32 = BitVec.ofInt 32 (zx / 4 - 5) by
        rw [BitVec.sub_eq_add_neg, show -5#32 = BitVec.ofInt 32 (-5) by decide, ← BitVec.ofInt_add]; congr 1, sle_ofNat _ (by omega) _ (by omega)]
      simp only [decide_eq_true_eq]
      split <;> omega
    rw [r1, r2]
  · have h0 : ¬ lev.val = 0 := by omega
    simp only [if_neg h0, if_pos h]
    rw [hrow _ _ (by omega), ey]
    have r1 : pickY1 (BitVec.ofInt 32 zy) (yy % 16) = yy := by
      unfold pickY1
      rw [sle_ofNat _ (by omega) _ (by omega)]
      simp only [decide_eq_true_eq]
      split <;> omega
    rw [r1, show W % 8 = W by omega]
  · have h0 : ¬ lev.val = 0 := by omega
    have h1 : ¬ lev.val = 1 := by omega
    simp only [if_neg h0, if_neg h1]
    rw [show yy % 16 = yy by omega, show W % 8 = W by omega]
  · have h0 : ¬ lev.val = 0 := by omega
    have h1 : ¬ lev.val = 1 := by omega
    simp only [if_neg h0, if_neg h1]
    rw [show yy % 16 = yy by omega, show W % 8 = W by omega]

/-- A number the kernel picks is the level's byte, where the level has it. -/
theorem good_at (QQ : Nat → Nat → S8x128.Idx → F .f32) (hQ : Good t cx cy s QQ) (g : Fin 2) (lev : Fin 4) (l : Fin 128) (zx zy : Int)
    (hzx : -20 ≤ zx ∧ zx ≤ 76) (hzy : -20 ≤ zy ∧ zy ≤ 60)
    (ex : x0V cx (ix2 ⟨4 * g.val + lev.val, by omega⟩ l) = BitVec.ofInt 32 zx) (ey : y0V cy (ix2 ⟨4 * g.val + lev.val, by omega⟩ l) = BitVec.ofInt 32 zy)
    (j i yy xx : Nat) (hj : j < 10) (hi : i < 10) (hyy : (yy : Int) = zy + j) (hy : yy < 48 / 2 ^ lev.val) (hxx : (xx : Int) = zx + i) (hx : xx < 64 / 2 ^ lev.val) :
    QQ j i (ix2 ⟨4 * g.val + lev.val, by omega⟩ l) = num (rd s lev.val yy xx (256 * t.val + 128 * g.val + l.val)) := by
  obtain ⟨z, s2, hz, h2, rfl⟩ := hQ
  have hW : xx / 4 < 16 / 2 ^ lev.val := by
    have p : lev.val = 0 ∨ lev.val = 1 ∨ lev.val = 2 ∨ lev.val = 3 := by omega
    rcases p with h | h | h | h <;> rw [h] at hx ⊢ <;> norm_num at hx ⊢ <;> omega
  have nx := ofInt_toNat zx (by omega)
  have hb : (BitVec.ofInt 32 zx).toNat % 4 = (zx % 4).toNat := by split at nx <;> omega
  refine congrArg num ?_
  unfold fw
  simp only [ex]
  refine (byteOf_funnel _ _ _ (zx % 4).toNat (i % 4) hb (Nat.mod_lt _ (by decide))).trans ?_
  have pk : ∀ n : Fin 4, byteOf (word s lev.val yy (xx / 4) (256 * t.val + 128 * g.val + l.val)) n.val = rd s lev.val yy (4 * (xx / 4) + n.val) (256 * t.val + 128 * g.val + l.val) := fun n => by
    unfold word; exact byteOf_pack _ n
  split
  · refine (congrArg (fun w => byteOf w ((zx % 4).toNat + i % 4)) (word_at t cx cy s z s2 hz h2 g lev l zx zy hzx hzy ex ey j (i / 4) yy (xx / 4) hj (by omega) hyy hy (by omega) hW)).trans ?_
    rw [show (zx % 4).toNat + i % 4 = xx % 4 by omega]
    refine (pk ⟨xx % 4, Nat.mod_lt _ (by decide)⟩).trans ?_
    congr 1; show 4 * (xx / 4) + xx % 4 = xx; omega
  · refine (congrArg (fun w => byteOf w ((zx % 4).toNat + i % 4 - 4)) (word_at t cx cy s z s2 hz h2 g lev l zx zy hzx hzy ex ey j (i / 4 + 1) yy (xx / 4) hj (by omega) hyy hy (by omega) hW)).trans ?_
    rw [show (zx % 4).toNat + i % 4 - 4 = xx % 4 by omega]
    refine (pk ⟨xx % 4, Nat.mod_lt _ (by decide)⟩).trans ?_
    congr 1; show 4 * (xx / 4) + xx % 4 = xx; omega

end

end Cert.KernelIdeal.Hand

end
-- ==== Proof.Pixel.lean ====
/-
  What one pixel's features are, over the extended reals: the coordinates of the patch, the masks, one tap, the scale and the
  code; and the kernel's way of computing each beside the reference's.
-/
module

public import Idealize.ShloMosaic.Lib.IdealHost
public import Idealize.ShloMosaic.Lib.ValueIdx

@[expose] public section

noncomputable section

namespace Cert.Pixel

open Idealize.ShloMosaic

/-- The largest integer not above. -/
abbrev fl (v : EReal) : EReal := Ideal.liftRound Int.floor v

/-- The coordinate number `n` of the patch. -/
def X (v : EReal) (n : Nat) : BitVec 32 := Ideal.fptosi 32 (fl v) + (BitVec.ofNat 32 n - 4#32)

/-- Whether a word lies in `[0, w)`. -/
def Ins (x : BitVec 32) (w : Nat) : Prop := 0 ≤ x.toInt ∧ x.toInt < w

instance (x : BitVec 32) (w : Nat) : Decidable (Ins x w) := by unfold Ins; infer_instance

/-- The kernel's first coordinate: clipped, then moved. -/
def kx (hi : EReal) (v : EReal) : BitVec 32 := Ideal.fptosi 32 (min hi (max ((-16 : ℝ) : EReal) (fl v))) - 4#32

/-- The conversion of an integer. -/
theorem clamp_int (lo hi z : Int) : Ideal.toIntClamped lo hi (((z : ℤ) : ℝ) : EReal) = max lo (min hi z) := by
  show max lo (min hi (if 0 ≤ ((z : ℤ) : ℝ) then ⌊((z : ℤ) : ℝ)⌋ else ⌈((z : ℤ) : ℝ)⌉)) = _
  rw [Int.floor_intCast, Int.ceil_intCast, ite_self]

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

theorem min_max_int (h : Int) (z : Int) : min (((h : ℤ) : ℝ) : EReal) (max ((-16 : ℝ) : EReal) (((z : ℤ) : ℝ) : EReal)) = (((min h (max (-16) z) : ℤ) : ℝ) : EReal) := by
  rw [← coe_max', ← coe_min']
  push_cast
  rfl

theorem sub4 (q : Int) : BitVec.ofInt 32 q - 4#32 = BitVec.ofInt 32 (q - 4) := by
  rw [BitVec.sub_eq_add_neg, show -4#32 = BitVec.ofInt 32 (-4) by decide, ← BitVec.ofInt_add]
  congr 1

/-- The kernel's first coordinate as a clipped integer. -/
theorem kx_coe (h : Int) (hh : 0 ≤ h ∧ h ≤ 100) (r : ℝ) : kx ((h : ℤ) : ℝ) (r : EReal) = BitVec.ofInt 32 (min h (max (-16) ⌊r⌋) - 4) := by
  unfold kx fl
  rw [show Ideal.liftRound Int.floor (r : EReal) = (((⌊r⌋ : ℤ) : ℝ) : EReal) from rfl, min_max_int]
  unfold Ideal.fptosi
  rw [clamp_int]
  rw [show (-(2 ^ (32 - 1) : Nat) : Int) = -2147483648 from by norm_num, show (((2 ^ (32 - 1) : Nat) : Int) - 1) = 2147483647 from by norm_num]
  rw [show max (-2147483648) (min 2147483647 (min h (max (-16) ⌊r⌋))) = min h (max (-16) ⌊r⌋) by omega]
  generalize min h (max (-16) ⌊r⌋) = q
  exact sub4 q

theorem kx_top (h : Int) (hh : 0 ≤ h ∧ h ≤ 100) : kx ((h : ℤ) : ℝ) ⊤ = BitVec.ofInt 32 (h - 4) := by
  have e : min (((h : ℤ) : ℝ) : EReal) (max ((-16 : ℝ) : EReal) ⊤) = ((h : ℤ) : ℝ) := by simp
  unfold kx fl
  rw [show Ideal.liftRound Int.floor (⊤ : EReal) = ⊤ from rfl, e]
  unfold Ideal.fptosi
  rw [clamp_int, show (-(2 ^ (32 - 1) : Nat) : Int) = -2147483648 from by norm_num, show (((2 ^ (32 - 1) : Nat) : Int) - 1) = 2147483647 from by norm_num,
    show max (-2147483648) (min 2147483647 h) = h by omega]
  exact sub4 h

theorem kx_bot (h : Int) (hh : 0 ≤ h ∧ h ≤ 100) : kx ((h : ℤ) : ℝ) ⊥ = BitVec.ofInt 32 (-20) := by
  have hr : (-16 : ℝ) ≤ ((h : ℤ) : ℝ) := by have : (0 : ℝ) ≤ (h : ℝ) := by exact_mod_cast hh.1
                                            linarith
  have e : min (((h : ℤ) : ℝ) : EReal) (max ((-16 : ℝ) : EReal) ⊥) = (((-16 : ℤ) : ℝ) : EReal) := by
    rw [max_eq_left bot_le, min_eq_right (EReal.coe_le_coe_iff.mpr hr)]; norm_num
  unfold kx fl
  rw [show Ideal.liftRound Int.floor (⊥ : EReal) = ⊥ from rfl, e]
  unfold Ideal.fptosi
  rw [clamp_int]
  decide

theorem X_coe (r : ℝ) (n : Nat) : X (r : EReal) n = BitVec.ofInt 32 (max (-2147483648) (min 2147483647 ⌊r⌋)) + (BitVec.ofNat 32 n - 4#32) := by
  unfold X fl
  rw [show Ideal.liftRound Int.floor (r : EReal) = (((⌊r⌋ : ℤ) : ℝ) : EReal) from rfl]
  unfold Ideal.fptosi
  rw [clamp_int]
  norm_num

theorem X_top (n : Nat) : X ⊤ n = BitVec.ofInt 32 2147483647 + (BitVec.ofNat 32 n - 4#32) := rfl
theorem X_bot (n : Nat) : X ⊥ n = BitVec.ofInt 32 (-2147483648) + (BitVec.ofNat 32 n - 4#32) := rfl

theorem toInt_small {z : Int} (h : -2147483648 ≤ z ∧ z < 2147483648) : (BitVec.ofInt 32 z).toInt = z := by
  rw [BitVec.toInt_ofInt, Int.bmod_def]; split <;> omega

theorem toInt_X (z : Int) (hz : -2147483648 ≤ z ∧ z < 2147483648) (n : Nat) (hn : n < 10) :
    (BitVec.ofInt 32 z + (BitVec.ofNat 32 n - 4#32)).toInt = if 2147483648 ≤ z + n - 4 then z + n - 4 - 4294967296 else if z + n - 4 < -2147483648 then z + n - 4 + 4294967296 else z + n - 4 := by
  have e : (BitVec.ofNat 32 n - 4#32) = BitVec.ofInt 32 ((n : Int) - 4) := by
    have : ∀ m : Fin 10, (BitVec.ofNat 32 m.val - 4#32) = BitVec.ofInt 32 ((m.val : Int) - 4) := by decide
    exact this ⟨n, hn⟩
  rw [e, ← BitVec.ofInt_add, BitVec.toInt_ofInt, Int.bmod_def]
  split <;> split <;> (try split) <;> omega

theorem toInt_k (z : Int) (hz : -1000 ≤ z ∧ z < 1000) (n : Nat) (hn : n < 10) :
    (BitVec.ofInt 32 z + BitVec.ofNat 32 n).toInt = z + n := by
  rw [show BitVec.ofNat 32 n = BitVec.ofInt 32 (n : Int) from rfl, ← BitVec.ofInt_add]
  exact toInt_small (by omega)

/-- The kernel's coordinates beside the reference's: the same are inside, and there they are the same; the first one is bounded;
    one inside means a real. -/
theorem kx_spec (h : Int) (w : Nat) (hh : 0 ≤ h ∧ h ≤ 100) (hw : (w : Int) ≤ h - 4) (v : EReal) :
    ∃ z : Int, -20 ≤ z ∧ z ≤ h - 4 ∧ kx ((h : ℤ) : ℝ) v = BitVec.ofInt 32 z ∧ (∀ n : Nat, n < 10 → (0 ≤ z + n ∧ z + n < w ↔ Ins (X v n) w)) ∧
      (∀ n : Nat, n < 10 → Ins (X v n) w → (X v n).toInt = z + n) ∧ (∀ n : Nat, n < 10 → Ins (X v n) w → ∃ r : ℝ, v = r) := by
  induction v with
  | bot =>
    have no : ∀ n : Nat, n < 10 → ¬ Ins (X ⊥ n) w := by
      intro n hn hI
      unfold Ins at hI
      rw [X_bot, toInt_X _ (by omega) n hn] at hI
      split at hI <;> (try split at hI) <;> omega
    exact ⟨-20, by omega, by omega, kx_bot h hh, fun n hn => ⟨fun hz => by omega, fun hI => absurd hI (no n hn)⟩, fun n hn hI => absurd hI (no n hn), fun n hn hI => absurd hI (no n hn)⟩
  | top =>
    have no : ∀ n : Nat, n < 10 → ¬ Ins (X ⊤ n) w := by
      intro n hn hI
      unfold Ins at hI
      rw [X_top, toInt_X _ (by omega) n hn] at hI
      split at hI <;> (try split at hI) <;> omega
    exact ⟨h - 4, by omega, by omega, kx_top h hh, fun n hn => ⟨fun hz => by omega, fun hI => absurd hI (no n hn)⟩, fun n hn hI => absurd hI (no n hn), fun n hn hI => absurd hI (no n hn)⟩
  | coe r =>
    refine ⟨min h (max (-16) ⌊r⌋) - 4, by omega, by omega, kx_coe h hh r, fun n hn => ?_, fun n hn hI => ?_, fun n hn hI => ⟨r, rfl⟩⟩
    · unfold Ins
      rw [X_coe, toInt_X _ (by omega) n hn]
      split <;> (try split) <;> omega
    · unfold Ins at hI
      rw [X_coe, toInt_X _ (by omega) n hn] at hI ⊢
      split at hI <;> (try split at hI) <;> (try split) <;> (try split) <;> omega

/-! ## One tap -/

/-- A tap of the reference: the four corners, weighted. -/
def tapR (s cx cy : EReal) (q00 q01 q10 q11 : EReal) : EReal :=
  s * ((((1 - (cy - fl cy)) * (1 - (cx - fl cx)) * q00 + (1 - (cy - fl cy)) * (cx - fl cx) * q01) + (cy - fl cy) * (1 - (cx - fl cx)) * q10) + (cy - fl cy) * (cx - fl cx) * q11)

/-- A tap of the kernel: the weights masked one by one. -/
def tapK (s cx cy : EReal) (x0 x1 y0 y1 : Prop) [Decidable x0] [Decidable x1] [Decidable y0] [Decidable y1] (q00 q01 q10 q11 : EReal) : EReal :=
  (if y0 then s * (1 - (cy - fl cy)) else 0) * ((if x0 then 1 - (cx - fl cx) else 0) * q00 + (if x1 then cx - fl cx else 0) * q01)
    + (if y1 then s * (cy - fl cy) else 0) * ((if x0 then 1 - (cx - fl cx) else 0) * q10 + (if x1 then cx - fl cx else 0) * q11)

theorem tap_eq (s : ℝ) (cx cy : EReal) (x0 x1 y0 y1 : Prop) [Decidable x0] [Decidable x1] [Decidable y0] [Decidable y1]
    (hx : x0 ∨ x1 → ∃ r : ℝ, cx = r) (hy : y0 ∨ y1 → ∃ r : ℝ, cy = r) (k00 k01 k10 k11 g00 g01 g10 g11 : ℝ)
    (h00 : y0 → x0 → k00 = g00) (h01 : y0 → x1 → k01 = g01) (h10 : y1 → x0 → k10 = g10) (h11 : y1 → x1 → k11 = g11) :
    tapK s cx cy x0 x1 y0 y1 k00 k01 k10 k11
      = tapR s cx cy (if y0 ∧ x0 then (g00 : EReal) else 0) (if y0 ∧ x1 then (g01 : EReal) else 0) (if y1 ∧ x0 then (g10 : EReal) else 0) (if y1 ∧ x1 then (g11 : EReal) else 0) := by
  unfold tapK tapR
  by_cases hX : x0 ∨ x1
  · by_cases hY : y0 ∨ y1
    · obtain ⟨x, rfl⟩ := hx hX
      obtain ⟨y, rfl⟩ := hy hY
      have e : ∀ r : ℝ, fl (r : EReal) = ((⌊r⌋ : ℝ) : EReal) := fun _ => rfl
      rw [e, e]
      have one : (1 : EReal) = ((1 : ℝ) : EReal) := rfl
      have zero : (0 : EReal) = ((0 : ℝ) : EReal) := rfl
      rw [one, zero]
      by_cases a : x0 <;> by_cases b : x1 <;> by_cases c : y0 <;> by_cases d : y1 <;> simp only [a, b, c, d, if_true, if_false, and_true, and_false, true_and, false_and] <;>
        (simp only [← EReal.coe_sub, ← EReal.coe_mul, ← EReal.coe_add]; refine congrArg _ ?_; (try rw [h00 c a]); (try rw [h01 c b]); (try rw [h10 d a]); (try rw [h11 d b]); ring)
    · have c : ¬ y0 := fun h => hY (.inl h)
      have d : ¬ y1 := fun h => hY (.inr h)
      simp only [c, d, if_false, false_and, mul_zero, zero_mul, add_zero]
  · have a : ¬ x0 := fun h => hX (.inl h)
    have b : ¬ x1 := fun h => hX (.inr h)
    simp only [a, b, if_false, and_false, mul_zero, zero_mul, add_zero]

/-! ## Scale and code -/

/-- The scale of a row whose largest magnitude is `a`. -/
def scaleR (a : EReal) : EReal := if a = 0 then 1 else Ideal.div a ((127 : ℝ) : EReal)

theorem scaleR_ne (a : EReal) : scaleR a ≠ 0 := by
  unfold scaleR
  split
  · exact one_ne_zero
  · rename_i h
    unfold Ideal.div
    rw [if_neg (by simp), ← EReal.coe_inv]
    exact mul_ne_zero h (by simp)

/-- The reference's code. -/
def codeR (f s : EReal) : BitVec 8 :=
  (Ideal.fptosi 32 (min ((127 : ℝ) : EReal) (max ((-127 : ℝ) : EReal) (Ideal.liftRound Ideal.roundHalfEven (Ideal.div f s))))).setWidth 8

/-- The kernel's code. -/
def codeK (f s : EReal) : BitVec 8 :=
  Ideal.fptosi 8 (min ((127 : ℝ) : EReal) (max ((-127 : ℝ) : EReal) (Ideal.liftRound Ideal.roundHalfEven (f * Ideal.div 1 s))))

theorem fptosi_narrow (x : EReal) : Ideal.fptosi 8 (min ((127 : ℝ) : EReal) (max ((-127 : ℝ) : EReal) (Ideal.liftRound Ideal.roundHalfEven x)))
    = (Ideal.fptosi 32 (min ((127 : ℝ) : EReal) (max ((-127 : ℝ) : EReal) (Ideal.liftRound Ideal.roundHalfEven x)))).setWidth 8 := by
  obtain ⟨z, hz, e⟩ : ∃ z : Int, (-127 ≤ z ∧ z ≤ 127) ∧ min ((127 : ℝ) : EReal) (max ((-127 : ℝ) : EReal) (Ideal.liftRound Ideal.roundHalfEven x)) = (((z : ℤ) : ℝ) : EReal) := by
    induction x with
    | bot => exact ⟨-127, by omega, by
        rw [show Ideal.liftRound Ideal.roundHalfEven ⊥ = ⊥ from rfl, max_eq_left bot_le, min_eq_right (EReal.coe_le_coe_iff.mpr (by norm_num))]; norm_num⟩
    | top => exact ⟨127, by omega, by
        rw [show Ideal.liftRound Ideal.roundHalfEven ⊤ = ⊤ from rfl, max_eq_right le_top, min_eq_left le_top]; norm_num⟩
    | coe r => exact ⟨min 127 (max (-127) (Ideal.roundHalfEven r)), by omega, by
        rw [show Ideal.liftRound Ideal.roundHalfEven (r : EReal) = (((Ideal.roundHalfEven r : ℤ) : ℝ) : EReal) from rfl, ← coe_max', ← coe_min']
        push_cast; rfl⟩
  rw [e]
  unfold Ideal.fptosi
  rw [clamp_int, clamp_int]
  have a : max (-(2 ^ (8 - 1) : Nat) : Int) (min (((2 ^ (8 - 1) : Nat) : Int) - 1) z) = z := by norm_num; omega
  have b : max (-(2 ^ (32 - 1) : Nat) : Int) (min (((2 ^ (32 - 1) : Nat) : Int) - 1) z) = z := by norm_num; omega
  rw [a, b]
  apply BitVec.eq_of_toNat_eq
  rw [BitVec.toNat_setWidth, BitVec.toNat_ofInt, BitVec.toNat_ofInt]
  omega

theorem code_eq (f a : EReal) : codeK f (scaleR a) = codeR f (scaleR a) := by
  unfold codeK codeR
  rw [fptosi_narrow, Ideal.mul_one_div (scaleR_ne a)]

end Cert.Pixel

end
-- ==== Proof.Spec.lean ====
/-
  What one pixel's 324 features, its scale and its codes are, from its coordinates, its four scales and its four images.
-/
module

public import proofs.«01_k».proof.Proof.Pixel

@[expose] public section

noncomputable section

namespace Cert.Pixel

open Idealize.ShloMosaic

/-- A number of the patch: the image's byte, or zero outside. -/
def qS (img : Nat → Nat → BitVec 8) (w h : Nat) (cx cy : EReal) (j i : Nat) : EReal :=
  if Ins (X cy j) h ∧ Ins (X cx i) w then (((img (X cy j).toInt.toNat (X cx i).toInt.toNat).toInt : ℝ) : EReal) else 0

/-- The shrinking of level `lev`. -/
def inv (lev : Nat) : EReal := FloatOps.ofBits (F := Ideal) .f32 (match lev with | 0 => 0x3F800000#32 | 1 => 0x3F000000#32 | 2 => 0x3E800000#32 | _ => 0x3E000000#32)

/-- Tap `(a, b)` of level `lev`. -/
def tapS (px py : EReal) (sc : Nat → EReal) (img : Nat → Nat → Nat → BitVec 8) (lev a b : Nat) : EReal :=
  let q := qS (img lev) (64 / 2 ^ lev) (48 / 2 ^ lev) (px * inv lev) (py * inv lev)
  tapR (sc lev) (px * inv lev) (py * inv lev) (q b a) (q b (a + 1)) (q (b + 1) a) (q (b + 1) (a + 1))

/-- Feature `ch`. -/
def feat (px py : EReal) (sc : Nat → EReal) (img : Nat → Nat → Nat → BitVec 8) (ch : Nat) : EReal :=
  tapS px py sc img (ch / 81) (ch % 81 / 9) (ch % 9)

/-- The largest absolute value of the features. -/
def amx (px py : EReal) (sc : Nat → EReal) (img : Nat → Nat → Nat → BitVec 8) : EReal :=
  Finset.univ.sup fun ch : Fin 324 => max (feat px py sc img ch.val) (-feat px py sc img ch.val)

def scaleS (px py : EReal) (sc : Nat → EReal) (img : Nat → Nat → Nat → BitVec 8) : EReal := scaleR (amx px py sc img)
def codeS (px py : EReal) (sc : Nat → EReal) (img : Nat → Nat → Nat → BitVec 8) (ch : Nat) : BitVec 8 :=
  codeR (feat px py sc img ch) (scaleS px py sc img)

theorem amx_le {px py : EReal} {sc : Nat → EReal} {img : Nat → Nat → Nat → BitVec 8} {c : EReal} :
    amx px py sc img ≤ c ↔ ∀ (lev : Fin 4) (a b : Fin 9), max (tapS px py sc img lev.val a.val b.val) (-tapS px py sc img lev.val a.val b.val) ≤ c := by
  unfold amx
  rw [Finset.sup_le_iff]
  constructor
  · intro h lev a b
    have := h ⟨81 * lev.val + 9 * a.val + b.val, by omega⟩ (Finset.mem_univ _)
    have e : feat px py sc img (81 * lev.val + 9 * a.val + b.val) = tapS px py sc img lev.val a.val b.val := by
      unfold feat
      rw [show (81 * lev.val + 9 * a.val + b.val) / 81 = lev.val by omega, show (81 * lev.val + 9 * a.val + b.val) % 81 / 9 = a.val by omega,
        show (81 * lev.val + 9 * a.val + b.val) % 9 = b.val by omega]
    simpa only [e] using this
  · intro h ch _
    exact h ⟨ch.val / 81, by omega⟩ ⟨ch.val % 81 / 9, by omega⟩ ⟨ch.val % 9, by omega⟩

theorem feat_at (px py : EReal) (sc : Nat → EReal) (img : Nat → Nat → Nat → BitVec 8) (lev : Fin 4) (a b : Fin 9) :
    feat px py sc img (81 * lev.val + 9 * a.val + b.val) = tapS px py sc img lev.val a.val b.val := by
  unfold feat
  rw [show (81 * lev.val + 9 * a.val + b.val) / 81 = lev.val by omega, show (81 * lev.val + 9 * a.val + b.val) % 81 / 9 = a.val by omega,
    show (81 * lev.val + 9 * a.val + b.val) % 9 = b.val by omega]

end Cert.Pixel

end
-- ==== Proof.Val.lean ====
/-
  What one trip leaves, over the extended reals: the scale and the codes of its pixels.
-/
module

public import proofs.«01_k».proof.Proof.Lane
public import proofs.«01_k».proof.Proof.Spec

@[expose] public section

noncomputable section

namespace Cert.KernelIdeal.Hand

open Cert.KernelIdeal Cert.KernelIdeal.Gen Cert.Triple Cert.Pixel
open Idealize.ShloMosaic Idealize.ShloMosaic.TcCoe Idealize.ShloMosaic.Tactic Idealize.ShloMosaic.ValueIdx
open Idealize.SL Idealize.SL.Sem

theorem c127 : (FloatOps.ofBits (F := Ideal) .f32 0x42FE0000#32 : EReal) = ((127 : ℝ) : EReal) := by
  show Ideal.ofBits .f32 _ = _
  simp [Ideal.ofBits, Ideal.ieee, -EReal.coe_mul]; norm_num
theorem cm127 : (FloatOps.ofBits (F := Ideal) .f32 0xC2FE0000#32 : EReal) = ((-127 : ℝ) : EReal) := by
  show Ideal.ofBits .f32 _ = _
  simp [Ideal.ofBits, Ideal.ieee, -EReal.coe_mul]; norm_num
theorem cm16 : (FloatOps.ofBits (F := Ideal) .f32 0xC1800000#32 : EReal) = ((-16 : ℝ) : EReal) := by
  show Ideal.ofBits .f32 _ = _
  simp [Ideal.ofBits, Ideal.ieee, -EReal.coe_mul]; norm_num
theorem c80 : (FloatOps.ofBits (F := Ideal) .f32 0x42A00000#32 : EReal) = (((80 : ℤ) : ℝ) : EReal) := by
  show Ideal.ofBits .f32 _ = _
  simp [Ideal.ofBits, Ideal.ieee, -EReal.coe_mul]; norm_num
theorem c64 : (FloatOps.ofBits (F := Ideal) .f32 0x42800000#32 : EReal) = (((64 : ℤ) : ℝ) : EReal) := by
  show Ideal.ofBits .f32 _ = _
  simp [Ideal.ofBits, Ideal.ieee, -EReal.coe_mul]; norm_num
theorem c1 : (FloatOps.ofBits (F := Ideal) .f32 0x3F800000#32 : EReal) = 1 := Ideal.ofBits_one_f32
theorem c0 : (FloatOps.ofBits (F := Ideal) .f32 0x00000000#32 : EReal) = 0 := Ideal.ofBits_zero_f32
theorem cbot : (FloatOps.ofBits (F := Ideal) .f32 0xFF800000#32 : EReal) = ⊥ := by
  show Ideal.ofBits .f32 _ = _
  simp [Ideal.ofBits, Ideal.ieee]

abbrev ln (g : Fin 2) (lev : Fin 4) (l : Fin 128) : S8x128.Idx := ix2 ⟨4 * g.val + lev.val, by omega⟩ l

/-! ## The coordinates of a lane -/

theorem invV_at (g : Fin 2) (lev : Fin 4) (l : Fin 128) : invV (F := Ideal) (ln g lev l) = Cert.Pixel.inv lev.val := by
  unfold Cert.Pixel.inv
  refine congrArg (FloatOps.ofBits (F := Ideal) .f32) ?_
  show IntOp.shli .vector (127#32 - (subI (ln g lev l) &&& 3#32)) 23#32 = _
  have e : subI (ln g lev l) = BitVec.ofNat 32 (4 * g.val + lev.val) := iota_single_apply _ _ _ _ _ _
  rw [e]
  clear e
  revert g lev; decide

theorem subI_at (g : Fin 2) (lev : Fin 4) (l : Fin 128) : subI (ln g lev l) = BitVec.ofNat 32 (4 * g.val + lev.val) := iota_single_apply _ _ _ _ _ _
theorem laneI_at (g : Fin 2) (lev : Fin 4) (l : Fin 128) : laneI (ln g lev l) = BitVec.ofNat 32 l.val := iota_single_apply _ _ _ _ _ _

theorem wlI_at (g : Fin 2) (lev : Fin 4) (l : Fin 128) : wlI (ln g lev l) = BitVec.ofNat 32 (64 / 2 ^ lev.val) := by
  show IntOp.shrsi .vector 64#32 (subI (ln g lev l) &&& 3#32) = _
  rw [subI_at]
  revert g lev; decide
theorem hlI_at (g : Fin 2) (lev : Fin 4) (l : Fin 128) : hlI (ln g lev l) = BitVec.ofNat 32 (48 / 2 ^ lev.val) := by
  show IntOp.shrsi .vector 48#32 (subI (ln g lev l) &&& 3#32) = _
  rw [subI_at]
  revert g lev; decide
theorem grpM_at (g : Fin 2) (lev : Fin 4) (l : Fin 128) : grpM (ln g lev l) = if g = 0 then 1#1 else 0#1 := by
  show BitVec.ofBool ((subI (ln g lev l)).slt 4#32) = _
  rw [subI_at]
  revert g lev; decide

theorem trip_off : ∀ (n : Fin 3) (t : Fin k0_t1_loop.trips), Scalar.addi (Scalar.muli (BitVec.ofNat 32 n.val) 1024#32) (Scalar.muli (Scf.iv 0#32 1#32 t) 256#32) = BitVec.ofNat 32 (1024 * n.val + 256 * t.val) := by
  decide +kernel

theorem pixI_at (t : Fin k0_t1_loop.trips) (i : grid0.Coords) (g : Fin 2) (lev : Fin 4) (l : Fin 128) :
    pixI t i (ln g lev l) = BitVec.ofNat 32 (1024 * (i 1).val + (256 * t.val + 128 * g.val + l.val)) := by
  have sel : Scalar.select (grpM (ln g lev l)) 0#32 128#32 = BitVec.ofNat 32 (128 * g.val) := by
    rw [grpM_at]; revert g; decide
  refine (congrArg₂ (· + ·) (congrArg₂ (· + ·) (trip_off (i 1) t) (laneI_at g lev l)) sel).trans ?_
  show BitVec.ofNat 32 _ + BitVec.ofNat 32 _ + BitVec.ofNat 32 _ = _
  rw [← BitVec.ofNat_add, ← BitVec.ofNat_add]
  congr 1; omega

theorem px_int (p : Nat) (hp : p < 3072) : (BitVec.ofNat 32 p &&& 63#32).toInt = ((p % 64 : Nat) : Int) := by
  have e : BitVec.ofNat 32 p &&& 63#32 = BitVec.ofNat 32 (p % 64) := by
    apply BitVec.eq_of_toNat_eq
    rw [BitVec.toNat_and, show (63#32 : BitVec 32).toNat = 2 ^ 6 - 1 from rfl, Nat.and_two_pow_sub_one_eq_mod, BitVec.toNat_ofNat, BitVec.toNat_ofNat]
    omega
  rw [e, BitVec.toInt_eq_toNat_cond, BitVec.toNat_ofNat]; split <;> omega

theorem py_int (p : Nat) (hp : p < 3072) : (IntOp.shrsi .vector (BitVec.ofNat 32 p) 6#32).toInt = ((p / 64 : Nat) : Int) := by
  have b : (BitVec.ofNat 32 p).toInt = p := by rw [BitVec.toInt_eq_toNat_cond, BitVec.toNat_ofNat]; split <;> omega
  unfold IntOp.shrsi
  rw [if_pos (by decide)]
  show ((BitVec.ofNat 32 p).sshiftRight 6).toInt = _
  rw [BitVec.toInt_sshiftRight, b, Int.shiftRight_eq_div_pow]
  norm_num

/-! ## One tap -/

/-- The pixel's data as the buffers hold them. -/
def pxK (s : Stt Ideal) (tt c : Nat) : EReal := ((((1024 * tt + c) % 64 : Nat) : ℤ) : ℝ) + (if h : c < 1024 then s 5 (ix3 (n0 := 1) 0 ⟨0, by decide⟩ ⟨c, h⟩) else 0 : EReal)
def pyK (s : Stt Ideal) (tt c : Nat) : EReal := ((((1024 * tt + c) / 64 : Nat) : ℤ) : ℝ) + (if h : c < 1024 then s 5 (ix3 (n0 := 1) 0 ⟨1, by decide⟩ ⟨c, h⟩) else 0 : EReal)
def scK (s : Stt Ideal) (c lev : Nat) : EReal := if h : c < 1024 ∧ lev < 4 then s 4 (ix3 (n0 := 1) 0 ⟨lev, h.2⟩ ⟨c, h.1⟩) else 0
def imK (s : Stt Ideal) (c lev y x : Nat) : BitVec 8 := rd s lev y x c

section
variable (t : Fin k0_t1_loop.trips) (cx cy scale : FVec Ideal S8x128 .f32) (s : Stt Ideal)

theorem good_real (QQ : Nat → Nat → S8x128.Idx → Ideal .f32) (hQ : Good t cx cy s QQ) (j i : Nat) (x : S8x128.Idx) : ∃ r : ℝ, (QQ j i x : EReal) = r := by
  obtain ⟨z, s2, -, -, rfl⟩ := hQ
  exact ⟨_, rfl⟩

theorem inM_iff (v lim : IVec S8x128 32) (n : Fin 10) (x : S8x128.Idx) (z : Int) (w : Nat) (hz : -1000 ≤ z ∧ z < 1000) (hw : w < 1000)
    (hv : v x = BitVec.ofInt 32 z) (hl : lim x = BitVec.ofNat 32 w) : inM v lim n x = 1 ↔ 0 ≤ z + n.val ∧ z + n.val < w := by
  show BitVec.ofBool ((0#32).sle (v x + BitVec.ofNat 32 n.val)) &&& BitVec.ofBool ((v x + BitVec.ofNat 32 n.val).slt (lim x)) = 1 ↔ _
  have b : (BitVec.ofNat 32 w).toInt = w := by rw [BitVec.toInt_eq_toNat_cond, BitVec.toNat_ofNat]; split <;> omega
  rw [hv, hl]
  unfold BitVec.sle BitVec.slt
  rw [toInt_k z hz n.val n.isLt, b, show (0#32 : BitVec 32).toInt = 0 from rfl]
  by_cases h1 : 0 ≤ z + (n.val : Int) <;> by_cases h2 : z + (n.val : Int) < w <;> simp [h1, h2]

theorem x0V_at (x : S8x128.Idx) : x0V cx x = kx (((80 : ℤ) : ℝ) : EReal) (cx x) := by
  show Ideal.fptosi 32 (min (FloatOps.ofBits (F := Ideal) .f32 0x42A00000#32) (max (FloatOps.ofBits (F := Ideal) .f32 0xC1800000#32) (fl (cx x)))) - 4#32 = _
  rw [c80, cm16]; rfl
theorem y0V_at (x : S8x128.Idx) : y0V cy x = kx (((64 : ℤ) : ℝ) : EReal) (cy x) := by
  show Ideal.fptosi 32 (min (FloatOps.ofBits (F := Ideal) .f32 0x42800000#32) (max (FloatOps.ofBits (F := Ideal) .f32 0xC1800000#32) (fl (cy x)))) - 4#32 = _
  rw [c64, cm16]; rfl

theorem sel_ite {α : Type} (m : BitVec 1) (p : Prop) [Decidable p] (h : m = 1 ↔ p) (a b : α) : Scalar.select m a b = if p then a else b := by
  unfold Scalar.select
  exact if_congr h rfl rfl

/-- A tap of a lane. -/
theorem tap_at (QQ : Nat → Nat → S8x128.Idx → Ideal .f32) (hQ : Good t cx cy s QQ) (g : Fin 2) (lev : Fin 4) (l : Fin 128) (a b : Fin 9)
    (px py : EReal) (hx : cx (ln g lev l) = px * Cert.Pixel.inv lev.val) (hy : cy (ln g lev l) = py * Cert.Pixel.inv lev.val)
    (sc : Nat → EReal) (hs : scale (ln g lev l) = sc lev.val) (hr : ∃ r : ℝ, sc lev.val = r) :
    tapV cx cy scale QQ b a (ln g lev l) = tapS px py sc (imK s (256 * t.val + 128 * g.val + l.val)) lev.val a.val b.val := by
  obtain ⟨r, hr⟩ := hr
  unfold tapS
  rw [← hx, ← hy]
  have p : lev.val = 0 ∨ lev.val = 1 ∨ lev.val = 2 ∨ lev.val = 3 := by omega
  have hw : 64 / 2 ^ lev.val ≤ 64 := Nat.div_le_self _ _
  have hh : 48 / 2 ^ lev.val ≤ 48 := Nat.div_le_self _ _
  generalize hW : 64 / 2 ^ lev.val = w at hw
  generalize hH : 48 / 2 ^ lev.val = h at hh
  obtain ⟨zx, zx1, zx2, ex, ix, jx, kxr⟩ := kx_spec 80 w (by omega) (by omega) (cx (ln g lev l))
  obtain ⟨zy, zy1, zy2, ey, iy, jy, kyr⟩ := kx_spec 64 h (by omega) (by omega) (cy (ln g lev l))
  have ex' := (x0V_at cx (ln g lev l)).trans ex
  have ey' := (y0V_at cy (ln g lev l)).trans ey
  have mx : ∀ n : Fin 10, inM (x0V cx) wlI n (ln g lev l) = 1 ↔ Ins (X (cx (ln g lev l)) n.val) w := fun n =>
    (inM_iff _ _ n _ zx w (by omega) (by omega) ex' ((wlI_at g lev l).trans (by rw [hW]))).trans (ix n.val n.isLt)
  have my : ∀ n : Fin 10, inM (y0V cy) hlI n (ln g lev l) = 1 ↔ Ins (X (cy (ln g lev l)) n.val) h := fun n =>
    (inM_iff _ _ n _ zy h (by omega) (by omega) ey' ((hlI_at g lev l).trans (by rw [hH]))).trans (iy n.val n.isLt)
  choose R hR using fun j i => good_real t cx cy s QQ hQ j i (ln g lev l)
  have val : ∀ j i : Nat, j < 10 → i < 10 → Ins (X (cy (ln g lev l)) j) h → Ins (X (cx (ln g lev l)) i) w →
      R j i = (((imK s (256 * t.val + 128 * g.val + l.val) lev.val (X (cy (ln g lev l)) j).toInt.toNat (X (cx (ln g lev l)) i).toInt.toNat).toInt : ℤ) : ℝ) := by
    intro j i hj hi hjI hiI
    have e1 := jy j hj hjI
    have e2 := jx i hi hiI
    have := hjI.1; have := hjI.2; have := hiI.1; have := hiI.2
    apply EReal.coe_injective
    rw [← hR j i]
    exact good_at t cx cy s QQ hQ g lev l zx zy (by omega) (by omega) ex' ey' j i _ _ hj hi (by omega) (by rw [hH]; omega) (by omega) (by rw [hW]; omega)
  have key := tap_eq r (cx (ln g lev l)) (cy (ln g lev l)) (Ins (X (cx (ln g lev l)) a.val) w) (Ins (X (cx (ln g lev l)) (a.val + 1)) w)
    (Ins (X (cy (ln g lev l)) b.val) h) (Ins (X (cy (ln g lev l)) (b.val + 1)) h)
    (fun h => h.elim (kxr _ (by omega)) (kxr _ (by omega))) (fun h => h.elim (kyr _ (by omega)) (kyr _ (by omega)))
    (R b.val a.val) (R b.val (a.val + 1)) (R (b.val + 1) a.val) (R (b.val + 1) (a.val + 1)) _ _ _ _
    (val _ _ (by omega) (by omega)) (val _ _ (by omega) (by omega)) (val _ _ (by omega) (by omega)) (val _ _ (by omega) (by omega))
  simp only [← hR] at key
  simp only [qS]
  rw [hr]
  refine Eq.trans ?_ key
  unfold tapK
  show (Scalar.select (inM (y0V cy) hlI ⟨b.val, _⟩ (ln g lev l)) ((scale (ln g lev l) : EReal) * (FloatOps.ofBits (F := Ideal) .f32 0x3F800000#32 - (cy (ln g lev l) - fl (cy (ln g lev l))))) (FloatOps.ofBits (F := Ideal) .f32 0x00000000#32) : EReal)
      * ((Scalar.select (inM (x0V cx) wlI ⟨a.val, _⟩ (ln g lev l)) (FloatOps.ofBits (F := Ideal) .f32 0x3F800000#32 - (cx (ln g lev l) - fl (cx (ln g lev l)))) (FloatOps.ofBits (F := Ideal) .f32 0x00000000#32) : EReal) * QQ b.val a.val (ln g lev l)
        + (Scalar.select (inM (x0V cx) wlI ⟨a.val + 1, _⟩ (ln g lev l)) (cx (ln g lev l) - fl (cx (ln g lev l))) (FloatOps.ofBits (F := Ideal) .f32 0x00000000#32) : EReal) * QQ b.val (a.val + 1) (ln g lev l))
      + (Scalar.select (inM (y0V cy) hlI ⟨b.val + 1, _⟩ (ln g lev l)) ((scale (ln g lev l) : EReal) * (cy (ln g lev l) - fl (cy (ln g lev l)))) (FloatOps.ofBits (F := Ideal) .f32 0x00000000#32) : EReal)
      * ((Scalar.select (inM (x0V cx) wlI ⟨a.val, _⟩ (ln g lev l)) (FloatOps.ofBits (F := Ideal) .f32 0x3F800000#32 - (cx (ln g lev l) - fl (cx (ln g lev l)))) (FloatOps.ofBits (F := Ideal) .f32 0x00000000#32) : EReal) * QQ (b.val + 1) a.val (ln g lev l)
        + (Scalar.select (inM (x0V cx) wlI ⟨a.val + 1, _⟩ (ln g lev l)) (cx (ln g lev l) - fl (cx (ln g lev l))) (FloatOps.ofBits (F := Ideal) .f32 0x00000000#32) : EReal) * QQ (b.val + 1) (a.val + 1) (ln g lev l)) = _
  rw [sel_ite _ _ (mx ⟨a.val, by omega⟩), sel_ite _ _ (mx ⟨a.val + 1, by omega⟩), sel_ite _ _ (my ⟨b.val, by omega⟩), sel_ite _ _ (my ⟨b.val + 1, by omega⟩), c1, c0, hs, hr]

end

end Cert.KernelIdeal.Hand

end
-- ==== Proof.TripEq.lean ====
/-
  The printed body of the loop is `trip`: by definitional unfolding.
-/
module

public import proofs.«01_k».proof.Proof.Trip

@[expose] public section

set_option maxRecDepth 65536

noncomputable section

namespace Cert.KernelIdeal.Hand

open Cert.KernelIdeal Cert.KernelIdeal.Gen Cert.Triple
open Idealize.ShloMosaic Idealize.ShloMosaic.TcCoe Idealize.ShloMosaic.Tactic
open Idealize.SL Idealize.SL.Sem

variable {F : FTy → Type} [FloatOps F] [∀ e, Nonempty (Elt F e)]

theorem body_eq (i : grid0.Coords) (arg2 : Memref sig .tc .vmem S1x48x64x1024 .i8) (harg2 : arg2.IsWhole) (arg3 : Memref sig .tc .vmem S1x24x32x1024 .i8) (harg3 : arg3.IsWhole) (arg4 : Memref sig .tc .vmem S1x12x16x1024 .i8) (harg4 : arg4.IsWhole) (arg5 : Memref sig .tc .vmem S1x6x8x1024 .i8) (harg5 : arg5.IsWhole) (arg6 : Memref sig .tc .vmem S1x4x1024 .f32) (harg6 : arg6.IsWhole) (arg7 : Memref sig .tc .vmem S1x2x1024 .f32) (harg7 : arg7.IsWhole) (arg8 : Memref sig .tc .vmem S1x324x1024 .i8) (harg8 : arg8.IsWhole) (arg9 : Memref sig .tc .vmem S8x3072 .f32) (harg9 : arg9.IsWhole) (arg10 : Memref sig .tc .vmem S1152x128 .i32) (harg10 : arg10.IsWhole) (arg11 : Memref sig .tc .vmem S40x8x128 .i32) (harg11 : arg11.IsWhole) (arg12 : Memref sig .tc .vmem S960x128 .f32) (harg12 : arg12.IsWhole) (arg13 : Memref sig .tc .vmem S648x128 .f32) (harg13 : arg13.IsWhole)
    (t : Fin k0_t1_loop.trips) (u : Unit) :
    k0_t1_body (F := F) i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) subI laneI t u
      = trip (F := F) (mems arg2 arg3 arg4 arg5 arg6 arg7 arg8 arg9 arg10 arg11 arg12 arg13) t harg8 i := by
  chain_rfl

end Cert.KernelIdeal.Hand

end
-- ==== Proof.TripVal.lean ====
/-
  What one trip, and then the whole body, leaves in the scales and the codes, over the extended reals.
-/
module

public import proofs.«01_k».proof.Proof.Val
public import proofs.«01_k».proof.Proof.TripEq

@[expose] public section

set_option maxRecDepth 16384

noncomputable section

namespace Cert.KernelIdeal.Hand

open Cert.KernelIdeal Cert.KernelIdeal.Gen Cert.Triple Cert.Pixel
open Idealize.ShloMosaic Idealize.ShloMosaic.TcCoe Idealize.ShloMosaic.Tactic Idealize.ShloMosaic.ValueIdx
open Idealize.SL Idealize.SL.Sem

/-! ## The maximum -/

/-- A value below `c` where there is one. -/
def Le (x : S8x128.Idx) (c : EReal) (o : Option (FVec Ideal S8x128 .f32)) : Prop := ∀ v, o = some v → (v x : EReal) ≤ c

theorem le_maxO (x : S8x128.Idx) (c : EReal) (o : Option (FVec Ideal S8x128 .f32)) (f : FVec Ideal S8x128 .f32) :
    Le x c (maxO o f) ↔ Le x c o ∧ max (f x : EReal) (-(f x : EReal)) ≤ c := by
  cases o with
  | none => exact ⟨fun h => ⟨fun v e => by simp at e, h _ rfl⟩, fun h v e => by cases e; exact h.2⟩
  | some a =>
    constructor
    · intro h
      have h' : max (a x : EReal) (max (f x : EReal) (-(f x : EReal))) ≤ c := h _ rfl
      exact ⟨fun v e => by cases e; exact (le_max_left _ _).trans h', (le_max_right _ _).trans h'⟩
    · intro h v e
      cases e
      show max (a x : EReal) (max (f x : EReal) (-(f x : EReal))) ≤ c
      exact max_le (h.1 _ rfl) h.2

theorem le_maxN (x : S8x128.Idx) (c : EReal) : (n : Nat) → (o : Option (FVec Ideal S8x128 .f32)) → (f : Fin n → FVec Ideal S8x128 .f32) →
    (Le x c (maxN o n f) ↔ Le x c o ∧ ∀ i, max (f i x : EReal) (-(f i x : EReal)) ≤ c)
  | 0, o, f => ⟨fun h => ⟨h, fun i => i.elim0⟩, fun h => h.1⟩
  | n + 1, o, f => by
    show Le x c (maxN (maxO o (f 0)) n fun i => f i.succ) ↔ _
    rw [le_maxN x c n, le_maxO, Fin.forall_fin_succ, and_assoc]

theorem some_maxN : (n : Nat) → (a : FVec Ideal S8x128 .f32) → (f : Fin n → FVec Ideal S8x128 .f32) → ∃ v, maxN (some a) n f = some v
  | 0, a, f => ⟨a, rfl⟩
  | n + 1, a, f => some_maxN n _ _

section
variable (QQ : Nat → Nat → S8x128.Idx → Ideal .f32) (ax bx ay by' : Fin 10 → FVec Ideal S8x128 .f32)

theorem le_mxRows (x : S8x128.Idx) (c : EReal) : (n j0 : Nat) → (h : j0 + n < 10) → (o : Option (FVec Ideal S8x128 .f32)) →
    (Le x c (mxRows QQ ax bx ay by' n j0 h o) ↔ Le x c o ∧ ∀ j : Fin 9, j0 ≤ j.val → j.val < j0 + n → ∀ i, max (tapF QQ ax bx ay by' j i x : EReal) (-(tapF QQ ax bx ay by' j i x : EReal)) ≤ c)
  | 0, j0, h, o => ⟨fun hh => ⟨hh, fun j h1 h2 => by omega⟩, fun hh => hh.1⟩
  | n + 1, j0, h, o => by
    show Le x c (mxRows QQ ax bx ay by' n (j0 + 1) _ (maxN o 9 (tapF QQ ax bx ay by' ⟨j0, _⟩))) ↔ _
    rw [le_mxRows x c n, le_maxN, and_assoc]
    refine and_congr_right fun _ => ⟨fun hh j h1 h2 => ?_, fun hh => ⟨hh ⟨j0, by omega⟩ (le_refl _) (by show j0 < j0 + (n + 1); omega), fun j h1 h2 => hh j (by omega) (by omega)⟩⟩
    by_cases e : j.val = j0
    · rw [show j = ⟨j0, by omega⟩ from Fin.ext e]; exact hh.1
    · exact hh.2 j (by omega) (by omega)

theorem some_mxRows : (n j0 : Nat) → (h : j0 + n < 10) → (a : FVec Ideal S8x128 .f32) → ∃ v, mxRows QQ ax bx ay by' n j0 h (some a) = some v
  | 0, j0, h, a => ⟨a, rfl⟩
  | n + 1, j0, h, a => by
    obtain ⟨v, hv⟩ := some_maxN 9 a (tapF QQ ax bx ay by' ⟨j0, by omega⟩)
    show ∃ w, mxRows QQ ax bx ay by' n (j0 + 1) _ (maxN (some a) 9 (tapF QQ ax bx ay by' ⟨j0, _⟩)) = some w
    rw [hv]
    exact some_mxRows n _ _ v
end

theorem maxV_le (cx cy scale : FVec Ideal S8x128 .f32) (QQ : Nat → Nat → S8x128.Idx → Ideal .f32) (x : S8x128.Idx) (c : EReal) :
    (maxV cx cy scale QQ x : EReal) ≤ c ↔ ∀ j i : Fin 9, max (tapV cx cy scale QQ j i x : EReal) (-(tapV cx cy scale QQ j i x : EReal)) ≤ c := by
  have hs : ∃ v, mxRows QQ (axV cx) (bxV cx) (ayV cy scale) (byV cy scale) 9 0 (by omega) none = some v := by
    obtain ⟨v, hv⟩ := some_maxN 8 (absf (tapF QQ (axV cx) (bxV cx) (ayV cy scale) (byV cy scale) 0 0)) (fun i => tapF QQ (axV cx) (bxV cx) (ayV cy scale) (byV cy scale) 0 i.succ)
    show ∃ w, mxRows QQ (axV cx) (bxV cx) (ayV cy scale) (byV cy scale) 8 1 (by omega) (maxN (some (absf (tapF QQ (axV cx) (bxV cx) (ayV cy scale) (byV cy scale) 0 0))) 8 (fun i => tapF QQ (axV cx) (bxV cx) (ayV cy scale) (byV cy scale) 0 i.succ)) = some w
    rw [hv]
    exact some_mxRows _ _ _ _ _ 8 1 _ v
  obtain ⟨v, hv⟩ := hs
  have e : maxV cx cy scale QQ = v := by
    show (mxRows QQ (axV cx) (bxV cx) (ayV cy scale) (byV cy scale) 9 0 _ none).getD zeroV = v
    rw [hv]; rfl
  have key := le_mxRows QQ (axV cx) (bxV cx) (ayV cy scale) (byV cy scale) x c 9 0 (by omega) none
  rw [hv] at key
  rw [e]
  constructor
  · intro h j i
    exact (key.mp fun w hw => by cases hw; exact h).2 j (Nat.zero_le _) (by omega) i
  · intro h
    exact key.mpr ⟨fun w hw => by simp at hw, fun j _ _ i => h j i⟩ v rfl

/-- The maximum of the four levels of a group. -/
theorem amaxOf_le (v : FVec Ideal S8x128 .f32) (g : Fin 2) (h : S8x128.Slices ![4 * g.val, 0] S4x128) (l : Fin 128) (c : EReal) :
    (amaxOf v ![4 * g.val, 0] h (ix2 0 l) : EReal) ≤ c ↔ ∀ lev : Fin 4, (v (ln g lev l) : EReal) ≤ c := by
  have e : (amaxOf v ![4 * g.val, 0] h (ix2 0 l) : EReal) = Finset.univ.fold max (FloatOps.ofBits (F := Ideal) .f32 0xFF800000#32 : EReal) (extractStridedSlice S4x128 ![4 * g.val, 0] v h ∘ reduces_S4x128_S128.lift (ix1 l)) :=
    (shapeCast_a_1a_apply _ _ _ _).trans (Ideal.multiReduction_maximumf_single (s := S4x128) (t := S128) (a := 0) _ _ reduces_S4x128_S128 _ _ (ix1 l))
  rw [e, cbot]
  refine (Finset.fold_max_le _).trans ⟨fun hh lev => ?_, fun hh => ⟨bot_le, fun lev _ => ?_⟩⟩
  · refine le_trans (le_of_eq ?_) (hh.2 lev (Finset.mem_univ _))
    refine congrArg v (funext fun d => ?_)
    match d with
    | ⟨0, _⟩ => rfl
    | ⟨1, _⟩ => exact Fin.ext (by show l.val = 0 + l.val; omega)
  · refine le_trans (le_of_eq ?_) (hh lev)
    refine congrArg v (funext fun d => ?_)
    match d with
    | ⟨0, _⟩ => rfl
    | ⟨1, _⟩ => exact Fin.ext (by show 0 + l.val = l.val; omega)

theorem scaleOf_at (a : FVec Ideal S1x128 .f32) (x : S1x128.Idx) : (scaleOf a x : EReal) = scaleR (a x) := by
  show Scalar.select (BitVec.ofBool (decide ((a x : EReal) = FloatOps.ofBits (F := Ideal) .f32 0x00000000#32))) (FloatOps.ofBits (F := Ideal) .f32 0x3F800000#32 : EReal)
    (Ideal.div (a x) (FloatOps.ofBits (F := Ideal) .f32 0x42FE0000#32)) = _
  rw [c0, c1, c127]
  unfold scaleR Scalar.select
  by_cases h : (a x : EReal) = 0 <;> simp [h]

theorem code1_eq (f sc : EReal) : code1 (F := Ideal) f (FloatOps.divf (Scalar.ofBits .f32 0x3F800000#32) sc) = codeK f sc := by
  show Ideal.fptosi 8 (min (FloatOps.ofBits (F := Ideal) .f32 0x42FE0000#32) (max (FloatOps.ofBits (F := Ideal) .f32 0xC2FE0000#32) (Ideal.liftRound Ideal.roundHalfEven (f * Ideal.div (FloatOps.ofBits (F := Ideal) .f32 0x3F800000#32) sc)))) = _
  rw [c127, cm127, c1]
  rfl

/-! ## The inputs of a lane -/

theorem flowV_at (a b : S1x1x128.Idx → Ideal .f32) (g : Fin 2) (lev : Fin 4) (l : Fin 128) :
    flowV a b (ln g lev l) = if g = 0 then a (ix3 0 0 l) else b (ix3 0 0 l) := by
  show Scalar.select (grpM (ln g lev l)) (broadcastTo S8x128 _ broadcasts_S1x128_S8x128 (ln g lev l)) (broadcastTo S8x128 _ broadcasts_S1x128_S8x128 (ln g lev l)) = _
  rw [shapeCast_self, shapeCast_self, broadcastTo_1b_ab_apply, broadcastTo_1b_ab_apply, shapeCast_1ab_ab_apply, shapeCast_1ab_ab_apply, grpM_at]
  revert g
  intro g
  obtain rfl | rfl : g = 0 ∨ g = 1 := by omega
  · rfl
  · rfl

section
variable (t : Fin k0_t1_loop.trips) (s : Stt Ideal)

theorem flow_at (r : Fin 2) (g : Fin 2) (lev : Fin 4) (l : Fin 128) :
    flowV (F := Ideal) (fun x => s 5 ((rfl' t 0 r).toLoadRect.idx x)) (fun x => s 5 ((rfl' t 1 r).toLoadRect.idx x)) (ln g lev l)
      = s 5 (ix3 (n0 := 1) 0 r ⟨256 * t.val + 128 * g.val + l.val, by have : t.val < 4 := t.isLt; omega⟩) := by
  rw [flowV_at]
  have key : ∀ g : Fin 2, s 5 ((rfl' t g r).toLoadRect.idx (ix3 0 0 l)) = s 5 (ix3 (n0 := 1) 0 r ⟨256 * t.val + 128 * g.val + l.val, by have : t.val < 4 := t.isLt; omega⟩) := by
    intro g
    refine congrArg (s 5) (funext fun d => ?_)
    match d with
    | ⟨0, _⟩ => rfl
    | ⟨1, _⟩ => exact Fin.ext (by show r.val + 1 * 0 = r.val; omega)
    | ⟨2, _⟩ => exact Fin.ext (by show cOff t g + 1 * l.val = 256 * t.val + 128 * g.val + l.val; rw [cOff_eq]; omega)
  obtain rfl | rfl : g = 0 ∨ g = 1 := by omega
  · rw [if_pos rfl]; exact key 0
  · rw [if_neg (by decide)]; exact key 1

/-- The eight rows of scales. -/
abbrev scaleV : FVec Ideal S8x128 .f32 :=
  concatenate S8x128 0 [⟨S4x128, shapeCast S4x128 (fun x => s 4 ((rsc t 0).toLoadRect.idx x)) shapeCasts_S1x4x128_S4x128⟩, ⟨S4x128, shapeCast S4x128 (fun x => s 4 ((rsc t 1).toLoadRect.idx x)) shapeCasts_S1x4x128_S4x128⟩] concatenates_S4x128_S4x128_S8x128_d0

theorem scaleV_at (g : Fin 2) (lev : Fin 4) (l : Fin 128) : scaleV t s (ln g lev l) = scK s (256 * t.val + 128 * g.val + l.val) lev.val := by
  have ht : t.val < 4 := t.isLt
  have key : ∀ g : Fin 2, shapeCast S4x128 (fun x => s 4 ((rsc t g).toLoadRect.idx x)) shapeCasts_S1x4x128_S4x128 (ix2 lev l) = scK s (256 * t.val + 128 * g.val + l.val) lev.val := by
    intro g
    rw [shapeCast_1ab_ab_apply]
    refine Eq.trans ?_ (dif_pos (⟨by omega, lev.isLt⟩ : 256 * t.val + 128 * g.val + l.val < 1024 ∧ lev.val < 4)).symm
    refine congrArg (s 4) (funext fun d => ?_)
    match d with
    | ⟨0, _⟩ => rfl
    | ⟨1, _⟩ => exact Fin.ext (by show 0 + 1 * lev.val = lev.val; omega)
    | ⟨2, _⟩ => exact Fin.ext (by show cOff t g + 1 * l.val = 256 * t.val + 128 * g.val + l.val; rw [cOff_eq]; omega)
  obtain rfl | rfl : g = 0 ∨ g = 1 := by omega
  · refine (concatenate_pair_apply_left (t := S8x128) (s₁ := S4x128) (s₂ := S4x128) (0 : Fin 2) _ _ concatenates_S4x128_S4x128_S8x128_d0 (ln 0 lev l) rfl (ix2 lev l) fun b => ?_).trans (key 0)
    match b with
    | ⟨0, _⟩ => show lev.val = 4 * 0 + lev.val; omega
    | ⟨1, _⟩ => rfl
  · refine (concatenate_pair_apply_right (t := S8x128) (s₁ := S4x128) (s₂ := S4x128) (0 : Fin 2) _ _ concatenates_S4x128_S4x128_S8x128_d0 (ln 1 lev l) rfl rfl (ix2 lev l) (fun b hb => ?_) ?_).trans (key 1)
    · match b with
      | ⟨0, _⟩ => exact absurd rfl hb
      | ⟨1, _⟩ => rfl
    · show lev.val + 4 = 4 * 1 + lev.val; omega

end

/-! ## One trip -/

/-- The scale of column `q` of time tile `tt`. -/
def SCK (s : Stt Ideal) (tt q : Nat) : EReal := scaleS (pxK s tt q) (pyK s tt q) (scK s q) (imK s q)
/-- Its code `ch`. -/
def CDK (s : Stt Ideal) (tt q ch : Nat) : BitVec 8 := codeS (pxK s tt q) (pyK s tt q) (scK s q) (imK s q) ch

theorem K_congr {s s' : Stt Ideal} (h : ∀ k : Fin 12, k.val < 6 → s' k = s k) : SCK s' = SCK s ∧ CDK s' = CDK s := by
  have e : rd s' = rd s := by
    funext l y x c
    unfold rd
    rw [h 0 (by decide), h 1 (by decide), h 2 (by decide), h 3 (by decide)]
  constructor
  · funext tt q; unfold SCK pxK pyK scK imK; rw [e, h 4 (by decide), h 5 (by decide)]
  · funext tt q ch; unfold CDK pxK pyK scK imK; rw [e, h 4 (by decide), h 5 (by decide)]

section
variable {defs₀ : Defs nD τ sig (Elt Ideal) Λ₀} {c : Dev nD} {M : Mems sig fam} (harg8 : (M 6).IsWhole) (i : grid0.Coords)
  (t : Fin k0_t1_loop.trips) (s : Stt Ideal)

/-- What a trip leaves. -/
def TripV (i : grid0.Coords) (t : Nat) (s s' : Stt Ideal) : Prop :=
  (∀ k : Fin 12, k.val < 6 → s' k = s k) ∧
  (∀ y : S8x3072.Idx, s' 7 y = if (y 0).val = (i 0).val % 8 ∧ 1024 * (i 1).val + 256 * t ≤ (y 1).val ∧ (y 1).val < 1024 * (i 1).val + 256 * t + 256
    then SCK s (i 1).val ((y 1).val - 1024 * (i 1).val) else s 7 y) ∧
  (∀ y : S1x324x1024.Idx, s' 6 y = if 256 * t ≤ (y 2).val ∧ (y 2).val < 256 * t + 256 then CDK s (i 1).val (y 2).val (y 1).val else s 6 y)

/-- The coordinates of the eight rows. -/
abbrev cxK : FVec Ideal S8x128 .f32 := mulf (addf (sitofp .f32 (andi (pixI t i) (broadcast S8x128 63#32))) (flowV (fun x => s 5 ((rfl' t 0 0).toLoadRect.idx x)) (fun x => s 5 ((rfl' t 1 0).toLoadRect.idx x)))) invV
abbrev cyK : FVec Ideal S8x128 .f32 := mulf (addf (sitofp .f32 (shrsi (pixI t i) (broadcast S8x128 6#32))) (flowV (fun x => s 5 ((rfl' t 0 1).toLoadRect.idx x)) (fun x => s 5 ((rfl' t 1 1).toLoadRect.idx x)))) invV

theorem cxK_at (g : Fin 2) (lev : Fin 4) (l : Fin 128) : cxK i t s (ln g lev l) = pxK s (i 1).val (256 * t.val + 128 * g.val + l.val) * Cert.Pixel.inv lev.val := by
  have ht : t.val < 4 := t.isLt
  have hi1 : (i 1).val < 3 := (i 1).isLt
  show ((((pixI t i (ln g lev l) &&& 63#32).toInt : ℝ) : EReal) + flowV (F := Ideal) (fun x => s 5 ((rfl' t 0 0).toLoadRect.idx x)) (fun x => s 5 ((rfl' t 1 0).toLoadRect.idx x)) (ln g lev l)) * invV (F := Ideal) (ln g lev l) = _
  rw [flow_at, invV_at, pixI_at, px_int _ (by omega)]
  unfold pxK
  rw [dif_pos (by omega)]
  rfl

theorem cyK_at (g : Fin 2) (lev : Fin 4) (l : Fin 128) : cyK i t s (ln g lev l) = pyK s (i 1).val (256 * t.val + 128 * g.val + l.val) * Cert.Pixel.inv lev.val := by
  have ht : t.val < 4 := t.isLt
  have hi1 : (i 1).val < 3 := (i 1).isLt
  show ((((IntOp.shrsi .vector (pixI t i (ln g lev l)) 6#32).toInt : ℝ) : EReal) + flowV (F := Ideal) (fun x => s 5 ((rfl' t 0 1).toLoadRect.idx x)) (fun x => s 5 ((rfl' t 1 1).toLoadRect.idx x)) (ln g lev l)) * invV (F := Ideal) (ln g lev l) = _
  rw [flow_at, invV_at, pixI_at, py_int _ (by omega)]
  unfold pyK
  rw [dif_pos (by omega)]
  rfl

theorem tripPost_val (cx cy scale : FVec Ideal S8x128 .f32)
    (hX : ∀ (g : Fin 2) (lev : Fin 4) (l : Fin 128), cx (ln g lev l) = pxK s (i 1).val (256 * t.val + 128 * g.val + l.val) * Cert.Pixel.inv lev.val)
    (hY : ∀ (g : Fin 2) (lev : Fin 4) (l : Fin 128), cy (ln g lev l) = pyK s (i 1).val (256 * t.val + 128 * g.val + l.val) * Cert.Pixel.inv lev.val)
    (hS : ∀ (g : Fin 2) (lev : Fin 4) (l : Fin 128), scale (ln g lev l) = scK s (256 * t.val + 128 * g.val + l.val) lev.val)
    (hr : ∀ y, ∃ r : ℝ, (s 4 y : EReal) = r) (s' : Stt Ideal) (h : ∃ QQ, Good t cx cy s QQ ∧ TripPost t cx cy scale i QQ s s') : TripV i t.val s s' := by
  have ht : t.val < 4 := t.isLt
  have hi1 : (i 1).val < 3 := (i 1).isLt
  obtain ⟨QQ, hQ, h1, h2, h3, h4, h5⟩ := h
  have real : ∀ (g : Fin 2) (lev : Fin 4) (l : Fin 128), ∃ r : ℝ, scK s (256 * t.val + 128 * g.val + l.val) lev.val = r := by
    intro g lev l
    unfold scK
    rw [dif_pos ⟨by omega, lev.isLt⟩]
    exact hr _
  have tap : ∀ (g : Fin 2) (lev : Fin 4) (l : Fin 128) (a b : Fin 9), tapV cx cy scale QQ b a (ln g lev l)
      = tapS (pxK s (i 1).val (256 * t.val + 128 * g.val + l.val)) (pyK s (i 1).val (256 * t.val + 128 * g.val + l.val)) (scK s (256 * t.val + 128 * g.val + l.val)) (imK s (256 * t.val + 128 * g.val + l.val)) lev.val a.val b.val :=
    fun g lev l a b => tap_at t cx cy scale s QQ hQ g lev l a b _ _ (hX g lev l) (hY g lev l) _ (hS g lev l) (real g lev l)
  have sc : ∀ (g : Fin 2) (l : Fin 128), (scV cx cy scale QQ g (ix2 0 l) : EReal) = SCK s (i 1).val (256 * t.val + 128 * g.val + l.val) := by
    intro g l
    have am : ∀ h, (amaxOf (maxV cx cy scale QQ) ![4 * g.val, 0] h (ix2 0 l) : EReal) = amx (pxK s (i 1).val (256 * t.val + 128 * g.val + l.val)) (pyK s (i 1).val (256 * t.val + 128 * g.val + l.val)) (scK s (256 * t.val + 128 * g.val + l.val)) (imK s (256 * t.val + 128 * g.val + l.val)) := by
      intro h
      refine eq_of_forall_ge_iff fun c => ?_
      rw [amaxOf_le, amx_le]
      refine forall_congr' fun lev => ?_
      rw [maxV_le]
      constructor
      · intro hh a b; rw [← tap]; exact hh b a
      · intro hh j i; rw [tap]; exact hh i j
    unfold SCK scaleS
    obtain rfl | rfl : g = 0 ∨ g = 1 := by omega
    · exact (scaleOf_at _ _).trans (congrArg scaleR (am slices_S8x128_o0_0_S4x128))
    · exact (scaleOf_at _ _).trans (congrArg scaleR (am slices_S8x128_o4_0_S4x128))
  refine ⟨h1, fun y => ?_, fun y => ?_⟩
  · split
    · rename_i hy
      obtain ⟨g, l, e⟩ : ∃ (g : Fin 2) (l : Fin 128), (y 1).val = 1024 * (i 1).val + 256 * t.val + 128 * g.val + l.val :=
        ⟨⟨((y 1).val - (1024 * (i 1).val + 256 * t.val)) / 128, by omega⟩, ⟨((y 1).val - (1024 * (i 1).val + 256 * t.val)) % 128, by omega⟩, by
          show _ = _ + 128 * (((y 1).val - (1024 * (i 1).val + 256 * t.val)) / 128) + ((y 1).val - (1024 * (i 1).val + 256 * t.val)) % 128; omega⟩
      refine (h2 g l y hy.1 e).trans ((sc g l).trans (congrArg (SCK s (i 1).val) (by omega)))
    · rename_i hy
      exact h3 y hy
  · split
    · rename_i hy
      have hy1 : (y 1).val < 324 := (y 1).isLt
      obtain ⟨g, l, e⟩ : ∃ (g : Fin 2) (l : Fin 128), (y 2).val = 256 * t.val + 128 * g.val + l.val :=
        ⟨⟨((y 2).val - (256 * t.val)) / 128, by omega⟩, ⟨((y 2).val - (256 * t.val)) % 128, by omega⟩, by
          show _ = _ + 128 * (((y 2).val - (256 * t.val)) / 128) + ((y 2).val - (256 * t.val)) % 128; omega⟩
      obtain ⟨lev, a, b, e1⟩ : ∃ (lev : Fin 4) (a b : Fin 9), (y 1).val = 81 * lev.val + 9 * a.val + b.val :=
        ⟨⟨(y 1).val / 81, by omega⟩, ⟨(y 1).val % 81 / 9, by omega⟩, ⟨(y 1).val % 9, by omega⟩, by
          show (y 1).val = 81 * ((y 1).val / 81) + 9 * ((y 1).val % 81 / 9) + (y 1).val % 9; omega⟩
      refine (h4 g l lev a b y e1 e).trans ?_
      rw [code1_eq, sc, tap, e, e1]
      unfold CDK codeS
      rw [feat_at]
      exact code_eq _ _
    · rename_i hy
      exact h5 y hy

theorem trTrip (hr : ∀ y, ∃ r : ℝ, (s 4 y : EReal) = r) : Tr defs₀ c M s (trip (F := Ideal) M t harg8 i) fun _ s' => TripV i t.val s s' := by
  refine Tr.load (B := fam) 5 ?_
  refine Tr.load (B := fam) 5 ?_
  refine Tr.load (B := fam) 5 ?_
  refine Tr.load (B := fam) 5 ?_
  refine Tr.load (B := fam) 4 ?_
  refine Tr.load (B := fam) 4 ?_
  show Tr defs₀ c M s (tripOf (F := Ideal) M t harg8 i (cxK i t s) (cyK i t s) (scaleV t s)) _
  exact (trTripOf t (cxK i t s) (cyK i t s) (scaleV t s) harg8 i s).mono fun _ s' h =>
    tripPost_val i t s _ _ _ (cxK_at i t s) (cyK_at i t s) (scaleV_at t s) hr s' h

end

end Cert.KernelIdeal.Hand

end
-- ==== Proof.BodyVal.lean ====
/-
  The whole body at a grid point, over the extended reals.
-/
module

public import proofs.«01_k».proof.Proof.TripVal

@[expose] public section

set_option maxRecDepth 16384

noncomputable section

namespace Cert.KernelIdeal.Hand

open Cert.KernelIdeal Cert.KernelIdeal.Gen Cert.Triple Cert.Pixel
open Idealize.ShloMosaic Idealize.ShloMosaic.TcCoe Idealize.ShloMosaic.Tactic Idealize.ShloMosaic.ValueIdx
open Idealize.SL Idealize.SL.Sem

/-- What the four trips leave, from `s`. -/
def LoopV (i : grid0.Coords) (n : Nat) (s s' : Stt Ideal) : Prop :=
  (∀ k : Fin 12, k.val < 6 → s' k = s k) ∧
  (∀ y : S8x3072.Idx, s' 7 y = if (y 0).val = (i 0).val % 8 ∧ 1024 * (i 1).val ≤ (y 1).val ∧ (y 1).val < 1024 * (i 1).val + 256 * n
    then SCK s (i 1).val ((y 1).val - 1024 * (i 1).val) else s 7 y) ∧
  (∀ y : S1x324x1024.Idx, (y 2).val < 256 * n → s' 6 y = CDK s (i 1).val (y 2).val (y 1).val)

theorem LoopV.step {i : grid0.Coords} {n : Nat} {s s' s'' : Stt Ideal} (h : LoopV i n s s') (h' : TripV i n s' s'') : LoopV i (n + 1) s s'' := by
  obtain ⟨e1, e2⟩ := K_congr h.1
  refine ⟨fun k hk => (h'.1 k hk).trans (h.1 k hk), fun y => ?_, fun y hy => ?_⟩
  · rw [h'.2.1 y, h.2.1 y, e1]
    split
    · rename_i a; rw [if_pos (by omega)]
    · rename_i a
      by_cases b : (y 0).val = (i 0).val % 8 ∧ 1024 * (i 1).val ≤ (y 1).val ∧ (y 1).val < 1024 * (i 1).val + 256 * n
      · rw [if_pos b, if_pos (by omega)]
      · rw [if_neg b, if_neg (by omega)]
  · rw [h'.2.2 y, e2]
    split
    · rfl
    · exact h.2.2 y (by omega)

/-- What the body leaves, from `s`. -/
def BodyV (i : grid0.Coords) (s s' : Stt Ideal) : Prop :=
  (∀ k : Fin 12, k.val < 6 → s' k = s k) ∧
  (∀ y : S8x3072.Idx, s' 7 y = if (y 0).val = (i 0).val % 8 ∧ 1024 * (i 1).val ≤ (y 1).val ∧ (y 1).val < 1024 * (i 1).val + 1024
    then SCK s (i 1).val ((y 1).val - 1024 * (i 1).val) else if (i 0).val % 8 = 0 ∧ (i 1).val = 0 then (0 : EReal) else s 7 y) ∧
  (∀ y : S1x324x1024.Idx, s' 6 y = CDK s (i 1).val (y 2).val (y 1).val)

theorem BodyV.of {i : grid0.Coords} {s s1 s' : Stt Ideal} (h1 : ∀ k : Fin 12, k.val < 6 → s1 k = s k)
    (h7 : ∀ y : S8x3072.Idx, s1 7 y = if (i 0).val % 8 = 0 ∧ (i 1).val = 0 then (0 : EReal) else s 7 y) (h : LoopV i 4 s1 s') : BodyV i s s' := by
  obtain ⟨e1, e2⟩ := K_congr h1
  refine ⟨fun k hk => (h.1 k hk).trans (h1 k hk), fun y => ?_, fun y => ?_⟩
  · rw [h.2.1 y, e1, h7]
  · rw [h.2.2 y (by have : (y 2).val < 1024 := (y 2).isLt; omega), e2]

theorem zero_cond : ∀ (a : Fin 20) (b : Fin 3), (Scalar.cmpi .ne (Scalar.extui (Scalar.andi (Scalar.cmpi .eq (Scalar.andi (BitVec.ofNat 32 a.val) 7#32) 0#32) (Scalar.cmpi .eq (BitVec.ofNat 32 b.val) 0#32))) 0#32 = 1#1) ↔ (a.val % 8 = 0 ∧ b.val = 0) := by
  decide +kernel

section Body
variable {defs₀ : Defs nD τ sig (Elt Ideal) Λ₀} {c : Dev nD}
variable (i : grid0.Coords) (arg2 : Memref sig .tc .vmem S1x48x64x1024 .i8) (harg2 : arg2.IsWhole) (arg3 : Memref sig .tc .vmem S1x24x32x1024 .i8) (harg3 : arg3.IsWhole) (arg4 : Memref sig .tc .vmem S1x12x16x1024 .i8) (harg4 : arg4.IsWhole) (arg5 : Memref sig .tc .vmem S1x6x8x1024 .i8) (harg5 : arg5.IsWhole) (arg6 : Memref sig .tc .vmem S1x4x1024 .f32) (harg6 : arg6.IsWhole) (arg7 : Memref sig .tc .vmem S1x2x1024 .f32) (harg7 : arg7.IsWhole) (arg8 : Memref sig .tc .vmem S1x324x1024 .i8) (harg8 : arg8.IsWhole) (arg9 : Memref sig .tc .vmem S8x3072 .f32) (harg9 : arg9.IsWhole) (arg10 : Memref sig .tc .vmem S1152x128 .i32) (harg10 : arg10.IsWhole) (arg11 : Memref sig .tc .vmem S40x8x128 .i32) (harg11 : arg11.IsWhole) (arg12 : Memref sig .tc .vmem S960x128 .f32) (harg12 : arg12.IsWhole) (arg13 : Memref sig .tc .vmem S648x128 .f32) (harg13 : arg13.IsWhole)

theorem trLoop (s : Stt Ideal) (hr : ∀ y, ∃ r : ℝ, (s 4 y : EReal) = r) : Tr defs₀ c (mems arg2 arg3 arg4 arg5 arg6 arg7 arg8 arg9 arg10 arg11 arg12 arg13) s (do
      Scf.Loop.for k0_t1_loop k0_t1_ok ⟨⟩ (k0_t1_body (F := Ideal) i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) subI laneI)
      Pure.pure PUnit.unit) fun _ s' => LoopV i 4 s s' := by
  refine Tr.bind ?_ fun _ _ h => Tr.ret h
  refine Tr.loop (B := fam) _ _ _ _ (fun n s' => LoopV i n s s') ⟨fun _ _ => rfl, fun y => ?_, fun y hy => by omega⟩ fun k acc s' h => ?_
  · rw [if_neg (by omega)]
  · rw [body_eq]
    exact (trTrip harg8 i k s' (by rw [h.1 4 (by decide)]; exact hr)).mono fun _ s'' h' => h.step h'

theorem trDite {M : Mems sig fam} {α : Type} {b : Prop} [Decidable b] {f : b → Prog (TpuEff nD τ sig (Elt Ideal) Λ₀ .tc) α}
    {g : ¬b → Prog (TpuEff nD τ sig (Elt Ideal) Λ₀ .tc) α} {s : Stt Ideal} {Q : α → Stt Ideal → Prop} (hf : ∀ h, Tr defs₀ c M s (f h) Q) (hg : ∀ h, Tr defs₀ c M s (g h) Q) : Tr defs₀ c M s (dite b f g) Q := by
  split
  · exact hf _
  · exact hg _

/-- The loop, after the scales' block was set to zero. -/
theorem trZeroed (s s1 : Stt Ideal) (hr : ∀ y, ∃ r : ℝ, (s 4 y : EReal) = r) (h1 : ∀ k : Fin 12, k.val < 6 → s1 k = s k)
    (hb : (i 0).val % 8 = 0 ∧ (i 1).val = 0) : Tr defs₀ c (mems arg2 arg3 arg4 arg5 arg6 arg7 arg8 arg9 arg10 arg11 arg12 arg13)
    (upd (B := fam) s1 7 ((Rect.unit (s := S8x3072) ![0, 0] S8x3072.size inb_S8x3072_S8x3072_0_0).overlay (s1 7) (k0_pay7 (F := Ideal)))) (do
      Scf.Loop.for k0_t1_loop k0_t1_ok ⟨⟩ (k0_t1_body (F := Ideal) i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) subI laneI)
      Pure.pure PUnit.unit) fun _ s' => BodyV i s s' := by
  have hk : ∀ k : Fin 12, k.val < 6 → upd (B := fam) s1 7 ((Rect.unit (s := S8x3072) ![0, 0] S8x3072.size inb_S8x3072_S8x3072_0_0).overlay (s1 7) (k0_pay7 (F := Ideal))) k = s k := fun k hk =>
    (upd_of_ne _ (by rintro rfl; exact absurd hk (by decide))).trans (h1 k hk)
  refine (trLoop i arg2 harg2 arg3 harg3 arg4 harg4 arg5 harg5 arg6 harg6 arg7 harg7 arg8 harg8 arg9 harg9 arg10 harg10 arg11 harg11 arg12 harg12 arg13 harg13 _ (by rw [hk 4 (by decide)]; exact hr)).mono fun _ s' h => BodyV.of hk (fun y => ?_) h
  rw [if_pos hb, upd_self]
  have hy : (Rect.unit (s := S8x3072) ![0, 0] S8x3072.size inb_S8x3072_S8x3072_0_0).emb y = y := funext fun d => by
    match d with
    | ⟨0, _⟩ => exact Fin.ext (by show 0 + 1 * (y 0).val = (y 0).val; omega)
    | ⟨1, _⟩ => exact Fin.ext (by show 0 + 1 * (y 1).val = (y 1).val; omega)
  have e := Rect.overlay_emb (Rect.unit (s := S8x3072) ![0, 0] S8x3072.size inb_S8x3072_S8x3072_0_0) (s1 7) (k0_pay7 (F := Ideal)) y
  rw [hy] at e
  exact e.trans c0

/-- The loop, the scales' block being as found. -/
theorem trKept (s s1 : Stt Ideal) (hr : ∀ y, ∃ r : ℝ, (s 4 y : EReal) = r) (h1 : ∀ k : Fin 12, k.val < 6 → s1 k = s k)
    (h7 : s1 7 = s 7) (hb : ¬((i 0).val % 8 = 0 ∧ (i 1).val = 0)) : Tr defs₀ c (mems arg2 arg3 arg4 arg5 arg6 arg7 arg8 arg9 arg10 arg11 arg12 arg13) s1 (do
      Scf.Loop.for k0_t1_loop k0_t1_ok ⟨⟩ (k0_t1_body (F := Ideal) i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) subI laneI)
      Pure.pure PUnit.unit) fun _ s' => BodyV i s s' := by
  refine (trLoop i arg2 harg2 arg3 harg3 arg4 harg4 arg5 harg5 arg6 harg6 arg7 harg7 arg8 harg8 arg9 harg9 arg10 harg10 arg11 harg11 arg12 harg12 arg13 harg13 s1 (by rw [h1 4 (by decide)]; exact hr)).mono fun _ s' h => BodyV.of h1 (fun y => ?_) h
  rw [if_neg hb, h7]

theorem trLookup (s : Stt Ideal) (hr : ∀ y, ∃ r : ℝ, (s 4 y : EReal) = r) : Tr defs₀ c (mems arg2 arg3 arg4 arg5 arg6 arg7 arg8 arg9 arg10 arg11 arg12 arg13) s (cc0_lookup (F := Ideal) i arg2 harg2 arg3 harg3 arg4 harg4 arg5 harg5 arg6 harg6 arg7 harg7 arg8 harg8 arg9 harg9 arg10 harg10 arg11 harg11 arg12 harg12 arg13 harg13) fun _ s' => BodyV i s s' := by
  rw [cc0_lookup_eq_skeleton]; unfold cc0_lookup_skel
  have hz := zero_cond (i 0) (i 1)
  have h8 : ∀ X : S1152x128.Idx → Elt Ideal .i32, ∀ k : Fin 12, k.val < 6 → upd (B := fam) s 8 X k = s k := fun X k hk =>
    upd_of_ne _ (by rintro rfl; exact absurd hk (by decide))
  have h87 : ∀ X : S1152x128.Idx → Elt Ideal .i32, upd (B := fam) s 8 X 7 = s 7 := fun X => upd_of_ne _ (by decide)
  exact trDite (fun _ => Tr.load (B := fam) 8 (Tr.store (B := fam) 8 (trDite
      (fun hb => Tr.load (B := fam) 7 (Tr.store (B := fam) 7 (trZeroed i arg2 harg2 arg3 harg3 arg4 harg4 arg5 harg5 arg6 harg6 arg7 harg7 arg8 harg8 arg9 harg9 arg10 harg10 arg11 harg11 arg12 harg12 arg13 harg13 s _ hr (h8 _) (hz.mp hb))))
      fun hb => trKept i arg2 harg2 arg3 harg3 arg4 harg4 arg5 harg5 arg6 harg6 arg7 harg7 arg8 harg8 arg9 harg9 arg10 harg10 arg11 harg11 arg12 harg12 arg13 harg13 s _ hr (h8 _) (h87 _) fun h => hb (hz.mpr h))))
    fun _ => trDite (fun hb => Tr.load (B := fam) 7 (Tr.store (B := fam) 7 (trZeroed i arg2 harg2 arg3 harg3 arg4 harg4 arg5 harg5 arg6 harg6 arg7 harg7 arg8 harg8 arg9 harg9 arg10 harg10 arg11 harg11 arg12 harg12 arg13 harg13 s s hr (fun _ _ => rfl) (hz.mp hb))))
      fun hb => trKept i arg2 harg2 arg3 harg3 arg4 harg4 arg5 harg5 arg6 harg6 arg7 harg7 arg8 harg8 arg9 harg9 arg10 harg10 arg11 harg11 arg12 harg12 arg13 harg13 s s hr (fun _ _ => rfl) rfl fun h => hb (hz.mpr h)

end Body

end Cert.KernelIdeal.Hand

end
-- ==== Proof.Args.lean ====
/-
  The two results as functions of the six arguments.
-/
module

public import proofs.«01_k».proof.Proof.Spec
public import Idealize.ShloMosaic.Lib.ValueIdxCore

@[expose] public section

noncomputable section

namespace Cert.Pixel

open Idealize.ShloMosaic Idealize.ShloMosaic.ValueIdx

/-- The six arguments. -/
structure Args where
  a0 : (⟨4, ![20, 3072, 48, 64]⟩ : Shape).Idx → BitVec 8
  a1 : (⟨4, ![20, 3072, 24, 32]⟩ : Shape).Idx → BitVec 8
  a2 : (⟨4, ![20, 3072, 12, 16]⟩ : Shape).Idx → BitVec 8
  a3 : (⟨4, ![20, 3072, 6, 8]⟩ : Shape).Idx → BitVec 8
  a4 : (⟨3, ![20, 3072, 4]⟩ : Shape).Idx → EReal
  a5 : (⟨3, ![20, 3072, 2]⟩ : Shape).Idx → EReal

namespace Args
variable (A : Args) (b : Fin 20) (p : Fin 3072)

/-- Pixel `(b, p)`'s map of level `lev`. -/
def im (lev y x : Nat) : BitVec 8 :=
  match lev with
  | 0 => if h : y < 48 ∧ x < 64 then A.a0 (ix4 b p ⟨y, h.1⟩ ⟨x, h.2⟩) else 0
  | 1 => if h : y < 24 ∧ x < 32 then A.a1 (ix4 b p ⟨y, h.1⟩ ⟨x, h.2⟩) else 0
  | 2 => if h : y < 12 ∧ x < 16 then A.a2 (ix4 b p ⟨y, h.1⟩ ⟨x, h.2⟩) else 0
  | _ => if h : y < 6 ∧ x < 8 then A.a3 (ix4 b p ⟨y, h.1⟩ ⟨x, h.2⟩) else 0

theorem im0 (y x : Nat) : A.im b p 0 y x = if h : y < 48 ∧ x < 64 then A.a0 (ix4 b p ⟨y, h.1⟩ ⟨x, h.2⟩) else 0 := rfl
theorem im1 (y x : Nat) : A.im b p 1 y x = if h : y < 24 ∧ x < 32 then A.a1 (ix4 b p ⟨y, h.1⟩ ⟨x, h.2⟩) else 0 := rfl
theorem im2 (y x : Nat) : A.im b p 2 y x = if h : y < 12 ∧ x < 16 then A.a2 (ix4 b p ⟨y, h.1⟩ ⟨x, h.2⟩) else 0 := rfl
theorem im3 (n y x : Nat) : A.im b p (n + 3) y x = if h : y < 6 ∧ x < 8 then A.a3 (ix4 b p ⟨y, h.1⟩ ⟨x, h.2⟩) else 0 := rfl

/-- Its scale of level `lev`. -/
def sc (lev : Nat) : EReal := if h : lev < 4 then A.a4 (ix3 b p ⟨lev, h⟩) else 0

/-- Its coordinates. -/
def px : EReal := ((((p.val % 64 : Nat) : ℤ) : ℝ) : EReal) + A.a5 (ix3 b p 0)
def py : EReal := ((((p.val / 64 : Nat) : ℤ) : ℝ) : EReal) + A.a5 (ix3 b p 1)

/-- Its scale and its codes. -/
def scale : EReal := scaleS (A.px b p) (A.py b p) (A.sc b p) (A.im b p)
def code (ch : Nat) : BitVec 8 := codeS (A.px b p) (A.py b p) (A.sc b p) (A.im b p) ch

end Args

end Cert.Pixel

end
-- ==== Proof.Blocks.lean ====
/-
  What the windows' blocks hold, read off the arguments.
-/
module

public import proofs.«01_k».proof.Proof.BodyVal
public import proofs.«01_k».proof.Proof.Args
public import proofs.«01_k».proof.Proof.IFrame

@[expose] public section

set_option maxRecDepth 16384

noncomputable section

namespace Cert.KernelIdeal.Hand

open Cert.KernelIdeal Cert.KernelIdeal.Gen Cert.Triple Cert.Pixel
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (c : Dev nD)

/-- The arguments as launched. -/
def argsOf : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)

theorem V_v0 : V m c main_v0 = transpose S20x48x64x3072 [0, 2, 3, 1] (argsOf m c).a0 transposes_S20x3072x48x64_S20x48x64x3072_0_2_3_1 := rfl
theorem V_v1 : V m c main_v1 = transpose S20x24x32x3072 [0, 2, 3, 1] (argsOf m c).a1 transposes_S20x3072x24x32_S20x24x32x3072_0_2_3_1 := rfl
theorem V_v2 : V m c main_v2 = transpose S20x12x16x3072 [0, 2, 3, 1] (argsOf m c).a2 transposes_S20x3072x12x16_S20x12x16x3072_0_2_3_1 := rfl
theorem V_v3 : V m c main_v3 = transpose S20x6x8x3072 [0, 2, 3, 1] (argsOf m c).a3 transposes_S20x3072x6x8_S20x6x8x3072_0_2_3_1 := rfl
theorem V_v4 : V m c main_v4 = transpose S20x4x3072 [0, 2, 1] (argsOf m c).a4 transposes_S20x3072x4_S20x4x3072_0_2_1 := rfl
theorem V_v5 : V m c main_v5 = transpose S20x2x3072 [0, 2, 1] (argsOf m c).a5 transposes_S20x3072x2_S20x2x3072_0_2_1 := rfl

theorem coords_t : ∀ t : Fin 60, (grid0.coords t 0).val = t.val / 3 ∧ (grid0.coords t 1).val = t.val % 3 := by decide +kernel

theorem c_ofNat {a n : Nat} (h : a < n) (hn : n ≤ 20) : (BitVec.ofNat 32 a).toNat = a := by
  rw [BitVec.toNat_ofNat]; exact Nat.mod_eq_of_lt (by omega)

theorem i0_lt (i : grid0.Coords) : (i 0).val < 20 := (i 0).isLt
theorem i1_lt (i : grid0.Coords) : (i 1).val < 3 := (i 1).isLt

/-- Where an element of a window's block sits in the window's array. -/
theorem emb_val (w : Pipeline.Window sig grid0) (t : Fin grid0.N) (y : (w.xblock (grid0.coords t)).Idx) (a : Fin w.shape.rank) (k : Nat)
    (hk : w.kind = .blocked) (h : w.index t a * w.size a + (y a).val = k) : ((w.rect t).emb y a).val = k :=
  (w.rect_emb_val t y a hk).trans h

section Blk
variable (t : Fin cfg0.N) (q : Fin 1024) (p : Fin 3072) (hp : p.val = 1024 * (grid0.coords t 1).val + q.val)
include hp

theorem iblk0_at (y : Fin 48) (x : Fin 64) : iblk m c 0 t (ix4 (n0 := 1) 0 y x q) = (argsOf m c).a0 (ix4 (grid0.coords t 0) p y x) := by
  show V m c main_v0 ((win0_0.rect t).emb (ix4 (n0 := 1) 0 y x q)) = _
  rw [V_v0]
  refine transpose_apply _ _ _ _ _ fun b => Eq.symm ?_
  match b with
  | ⟨0, _⟩ => exact emb_val win0_0 t _ _ _ rfl (by show (BitVec.ofNat 32 _).toNat * 1 + 0 = _; rw [c_ofNat (i0_lt _) (by decide)]; show _ = (grid0.coords t 0).val; omega)
  | ⟨1, _⟩ => exact emb_val win0_0 t _ _ _ rfl (by show 0 * 48 + y.val = y.val; omega)
  | ⟨2, _⟩ => exact emb_val win0_0 t _ _ _ rfl (by show 0 * 64 + x.val = x.val; omega)
  | ⟨3, _⟩ => exact emb_val win0_0 t _ _ _ rfl (by show (BitVec.ofNat 32 _).toNat * 1024 + q.val = p.val; rw [c_ofNat (i1_lt _) (by decide), hp]; omega)

theorem iblk1_at (y : Fin 24) (x : Fin 32) : iblk m c 1 t (ix4 (n0 := 1) 0 y x q) = (argsOf m c).a1 (ix4 (grid0.coords t 0) p y x) := by
  show V m c main_v1 ((win0_1.rect t).emb (ix4 (n0 := 1) 0 y x q)) = _
  rw [V_v1]
  refine transpose_apply _ _ _ _ _ fun b => Eq.symm ?_
  match b with
  | ⟨0, _⟩ => exact emb_val win0_1 t _ _ _ rfl (by show (BitVec.ofNat 32 _).toNat * 1 + 0 = _; rw [c_ofNat (i0_lt _) (by decide)]; show _ = (grid0.coords t 0).val; omega)
  | ⟨1, _⟩ => exact emb_val win0_1 t _ _ _ rfl (by show 0 * 24 + y.val = y.val; omega)
  | ⟨2, _⟩ => exact emb_val win0_1 t _ _ _ rfl (by show 0 * 32 + x.val = x.val; omega)
  | ⟨3, _⟩ => exact emb_val win0_1 t _ _ _ rfl (by show (BitVec.ofNat 32 _).toNat * 1024 + q.val = p.val; rw [c_ofNat (i1_lt _) (by decide), hp]; omega)

theorem iblk2_at (y : Fin 12) (x : Fin 16) : iblk m c 2 t (ix4 (n0 := 1) 0 y x q) = (argsOf m c).a2 (ix4 (grid0.coords t 0) p y x) := by
  show V m c main_v2 ((win0_2.rect t).emb (ix4 (n0 := 1) 0 y x q)) = _
  rw [V_v2]
  refine transpose_apply _ _ _ _ _ fun b => Eq.symm ?_
  match b with
  | ⟨0, _⟩ => exact emb_val win0_2 t _ _ _ rfl (by show (BitVec.ofNat 32 _).toNat * 1 + 0 = _; rw [c_ofNat (i0_lt _) (by decide)]; show _ = (grid0.coords t 0).val; omega)
  | ⟨1, _⟩ => exact emb_val win0_2 t _ _ _ rfl (by show 0 * 12 + y.val = y.val; omega)
  | ⟨2, _⟩ => exact emb_val win0_2 t _ _ _ rfl (by show 0 * 16 + x.val = x.val; omega)
  | ⟨3, _⟩ => exact emb_val win0_2 t _ _ _ rfl (by show (BitVec.ofNat 32 _).toNat * 1024 + q.val = p.val; rw [c_ofNat (i1_lt _) (by decide), hp]; omega)

theorem iblk3_at (y : Fin 6) (x : Fin 8) : iblk m c 3 t (ix4 (n0 := 1) 0 y x q) = (argsOf m c).a3 (ix4 (grid0.coords t 0) p y x) := by
  show V m c main_v3 ((win0_3.rect t).emb (ix4 (n0 := 1) 0 y x q)) = _
  rw [V_v3]
  refine transpose_apply _ _ _ _ _ fun b => Eq.symm ?_
  match b with
  | ⟨0, _⟩ => exact emb_val win0_3 t _ _ _ rfl (by show (BitVec.ofNat 32 _).toNat * 1 + 0 = _; rw [c_ofNat (i0_lt _) (by decide)]; show _ = (grid0.coords t 0).val; omega)
  | ⟨1, _⟩ => exact emb_val win0_3 t _ _ _ rfl (by show 0 * 6 + y.val = y.val; omega)
  | ⟨2, _⟩ => exact emb_val win0_3 t _ _ _ rfl (by show 0 * 8 + x.val = x.val; omega)
  | ⟨3, _⟩ => exact emb_val win0_3 t _ _ _ rfl (by show (BitVec.ofNat 32 _).toNat * 1024 + q.val = p.val; rw [c_ofNat (i1_lt _) (by decide), hp]; omega)

theorem iblk4_at (y : Fin 4) : iblk m c 4 t (ix3 (n0 := 1) 0 y q) = (argsOf m c).a4 (ix3 (grid0.coords t 0) p y) := by
  show V m c main_v4 ((win0_4.rect t).emb (ix3 (n0 := 1) 0 y q)) = _
  rw [V_v4]
  refine transpose_apply _ _ _ _ _ fun b => Eq.symm ?_
  match b with
  | ⟨0, _⟩ => exact emb_val win0_4 t _ _ _ rfl (by show (BitVec.ofNat 32 _).toNat * 1 + 0 = _; rw [c_ofNat (i0_lt _) (by decide)]; show _ = (grid0.coords t 0).val; omega)
  | ⟨1, _⟩ => exact emb_val win0_4 t _ _ _ rfl (by show 0 * 4 + y.val = y.val; omega)
  | ⟨2, _⟩ => exact emb_val win0_4 t _ _ _ rfl (by show (BitVec.ofNat 32 _).toNat * 1024 + q.val = p.val; rw [c_ofNat (i1_lt _) (by decide), hp]; omega)

theorem iblk5_at (y : Fin 2) : iblk m c 5 t (ix3 (n0 := 1) 0 y q) = (argsOf m c).a5 (ix3 (grid0.coords t 0) p y) := by
  show V m c main_v5 ((win0_5.rect t).emb (ix3 (n0 := 1) 0 y q)) = _
  rw [V_v5]
  refine transpose_apply _ _ _ _ _ fun b => Eq.symm ?_
  match b with
  | ⟨0, _⟩ => exact emb_val win0_5 t _ _ _ rfl (by show (BitVec.ofNat 32 _).toNat * 1 + 0 = _; rw [c_ofNat (i0_lt _) (by decide)]; show _ = (grid0.coords t 0).val; omega)
  | ⟨1, _⟩ => exact emb_val win0_5 t _ _ _ rfl (by show 0 * 2 + y.val = y.val; omega)
  | ⟨2, _⟩ => exact emb_val win0_5 t _ _ _ rfl (by show (BitVec.ofNat 32 _).toNat * 1024 + q.val = p.val; rw [c_ofNat (i1_lt _) (by decide), hp]; omega)

variable (s : Stt Ideal) (h0 : s 0 = iblk m c 0 t) (h1 : s 1 = iblk m c 1 t) (h2 : s 2 = iblk m c 2 t) (h3 : s 3 = iblk m c 3 t)
  (h4 : s 4 = iblk m c 4 t) (h5 : s 5 = iblk m c 5 t)

section
include h0 h1 h2 h3
theorem imK_eq : imK s q.val = (argsOf m c).im (grid0.coords t 0) p := by
  funext lev y x
  unfold imK rd
  match lev with
  | 0 =>
    by_cases h : y < 48 ∧ x < 64
    · refine (dif_pos (⟨h.1, h.2, q.isLt⟩ : y < 48 ∧ x < 64 ∧ q.val < 1024)).trans (Eq.trans ?_ ((Args.im0 _ _ _ y x).trans (dif_pos h)).symm)
      rw [h0]; exact iblk0_at m c t q p hp ⟨y, h.1⟩ ⟨x, h.2⟩
    · exact (dif_neg fun h' => h ⟨h'.1, h'.2.1⟩).trans ((Args.im0 _ _ _ y x).trans (dif_neg h)).symm
  | 1 =>
    by_cases h : y < 24 ∧ x < 32
    · refine (dif_pos (⟨h.1, h.2, q.isLt⟩ : y < 24 ∧ x < 32 ∧ q.val < 1024)).trans (Eq.trans ?_ ((Args.im1 _ _ _ y x).trans (dif_pos h)).symm)
      rw [h1]; exact iblk1_at m c t q p hp ⟨y, h.1⟩ ⟨x, h.2⟩
    · exact (dif_neg fun h' => h ⟨h'.1, h'.2.1⟩).trans ((Args.im1 _ _ _ y x).trans (dif_neg h)).symm
  | 2 =>
    by_cases h : y < 12 ∧ x < 16
    · refine (dif_pos (⟨h.1, h.2, q.isLt⟩ : y < 12 ∧ x < 16 ∧ q.val < 1024)).trans (Eq.trans ?_ ((Args.im2 _ _ _ y x).trans (dif_pos h)).symm)
      rw [h2]; exact iblk2_at m c t q p hp ⟨y, h.1⟩ ⟨x, h.2⟩
    · exact (dif_neg fun h' => h ⟨h'.1, h'.2.1⟩).trans ((Args.im2 _ _ _ y x).trans (dif_neg h)).symm
  | n + 3 =>
    by_cases h : y < 6 ∧ x < 8
    · refine (dif_pos (⟨h.1, h.2, q.isLt⟩ : y < 6 ∧ x < 8 ∧ q.val < 1024)).trans (Eq.trans ?_ ((Args.im3 _ _ _ n y x).trans (dif_pos h)).symm)
      rw [h3]; exact iblk3_at m c t q p hp ⟨y, h.1⟩ ⟨x, h.2⟩
    · exact (dif_neg fun h' => h ⟨h'.1, h'.2.1⟩).trans ((Args.im3 _ _ _ n y x).trans (dif_neg h)).symm
end

include h4 in
theorem scK_eq : scK s q.val = (argsOf m c).sc (grid0.coords t 0) p := by
  funext lev
  unfold scK Args.sc
  by_cases h : lev < 4
  · rw [dif_pos h, dif_pos ⟨q.isLt, h⟩, h4]; exact iblk4_at m c t q p hp ⟨lev, h⟩
  · rw [dif_neg h, dif_neg fun h' => h h'.2]

include h5 in
theorem pK_eq : pxK s (grid0.coords t 1).val q.val = (argsOf m c).px (grid0.coords t 0) p ∧ pyK s (grid0.coords t 1).val q.val = (argsOf m c).py (grid0.coords t 0) p := by
  unfold pxK pyK Args.px Args.py
  rw [dif_pos q.isLt, dif_pos q.isLt, h5, ← hp]
  exact ⟨congrArg _ (iblk5_at m c t q p hp 0), congrArg _ (iblk5_at m c t q p hp 1)⟩

include h0 h1 h2 h3 h4 h5
theorem SCK_eq : SCK s (grid0.coords t 1).val q.val = (argsOf m c).scale (grid0.coords t 0) p := by
  obtain ⟨e, e'⟩ := pK_eq m c t q p hp s h5
  unfold SCK Args.scale
  rw [e, e', scK_eq m c t q p hp s h4, imK_eq m c t q p hp s h0 h1 h2 h3]
theorem CDK_eq (ch : Nat) : CDK s (grid0.coords t 1).val q.val ch = (argsOf m c).code (grid0.coords t 0) p ch := by
  obtain ⟨e, e'⟩ := pK_eq m c t q p hp s h5
  unfold CDK Args.code
  rw [e, e', scK_eq m c t q p hp s h4, imK_eq m c t q p hp s h0 h1 h2 h3]
end Blk

end Cert.KernelIdeal.Hand

end
-- ==== Proof.IVal.lean ====
/-
  `KernelIdeal`'s run with what it leaves: exact proof data of the launch, and the two results as functions of the arguments.
-/
module

public import proofs.«01_k».proof.Proof.Blocks
public import Idealize.ShloMosaic.Lib.Pipeline.ValueKit.Geometry

@[expose] public section

set_option maxRecDepth 16384

noncomputable section

namespace Cert.KernelIdeal.Hand

open Cert.KernelIdeal Cert.KernelIdeal.Gen Cert.Triple Cert.Pixel
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The scale of pixel `(b, p)`, and its codes. -/
def sclN (c : Dev nD) (b p : Nat) : EReal := if h : b < 20 ∧ p < 3072 then (argsOf m c).scale ⟨b, h.1⟩ ⟨p, h.2⟩ else 0
def codN (c : Dev nD) (b p ch : Nat) : BitVec 8 := if h : b < 20 ∧ p < 3072 then (argsOf m c).code ⟨b, h.1⟩ ⟨p, h.2⟩ ch else 0

/-- What the body leaves of the codes at point `t`. -/
def aft6 (c : Dev nD) (t : Fin cfg0.N) (y : S1x324x1024.Idx) : BitVec 8 := codN m c (t.val / 3) (1024 * (t.val % 3) + (y 2).val) (y 1).val
/-- What it leaves of the scales: those of the points up to `t`. -/
def aft7 (c : Dev nD) (t : Fin cfg0.N) (y : S8x3072.Idx) : EReal :=
  if 3 * (8 * (t.val / 24) + (y 0).val) + (y 1).val / 1024 ≤ t.val then sclN m c (8 * (t.val / 24) + (y 0).val) (y 1).val else 0

/-- The proof data on core `c`. -/
def datV (_ : Fin 1) (c : Dev nD) : Dat τ (Elt Ideal) Unit ℕ (UR sig nD τ) ℕ cfg0 c where
  A w := V m c (Pipeline.arrRef spec0 w)
  after
    | 0 => iblk m c 0
    | 1 => iblk m c 1
    | 2 => iblk m c 2
    | 3 => iblk m c 3
    | 4 => iblk m c 4
    | 5 => iblk m c 5
    | 6 => aft6 m c
    | 7 => aft7 m c
    | ⟨_ + 8, h⟩ => absurd h (Nat.not_lt.2 (Nat.le_add_left _ _))
  Φ _ := Pipeline.ΦA spec0 c
  q _ := fullShare
  owed _ := 0

theorem datV_A (c : Dev nD) (w : Fin cfg0.W) : (datV m 0 c).A w = V m c (Pipeline.arrRef spec0 w) := by dsimp only [datV]

theorem xsize7 : ∀ t : Fin 60, win0_7.xsize (grid0.coords t) 0 = min 8 (20 - 8 * (t.val / 24)) ∧ win0_7.xsize (grid0.coords t) 1 = 3072 := by
  decide +kernel
theorem index7 : ∀ t : Fin 60, win0_7.index t 0 = t.val / 24 ∧ win0_7.index t 1 = 0 := by
  decide +kernel
theorem flush7_beq : ∀ t : Fin 60, (win0_7.flush t == decide (t.val = 23 ∨ t.val = 47 ∨ t.val = 59)) = true := by
  decide +kernel
theorem flush7 (t : Fin 60) : win0_7.flush t = decide (t.val = 23 ∨ t.val = 47 ∨ t.val = 59) := eq_of_beq (flush7_beq t)

theorem moved7 (t : Fin cfg0.N) (y : S8x3072.Idx) : win0_7.moved (grid0.coords t) y = true ↔ 8 * (t.val / 24) + (y 0).val < 20 := by
  have h := xsize7 t
  have h0 : (y 0).val < 8 := (y 0).isLt
  have h1 : (y 1).val < 3072 := (y 1).isLt
  have ht : t.val < 60 := t.isLt
  refine (win0_7.moved_iff _ _).trans ⟨fun hh => ?_, fun hh a => ?_⟩
  · have := hh 0
    rw [h.1] at this
    omega
  · match a with
    | ⟨0, _⟩ => exact lt_of_lt_of_eq (by omega : (y 0).val < min 8 (20 - 8 * (t.val / 24))) h.1.symm
    | ⟨1, _⟩ => exact lt_of_lt_of_eq h1 h.2.symm

/-- What the body finds of the scales, past the first point of a block. -/
theorem before7 (c : Dev nD) (t : Fin cfg0.N) (d) (y : S8x3072.Idx) (ht : t.val % 24 ≠ 0) (hy : 8 * (t.val / 24) + (y 0).val < 20) :
    (datV m 0 c).before 7 t d y = aft7 m c ⟨t.val - 1, Nat.lt_of_le_of_lt (Nat.sub_le _ _) t.isLt⟩ y := by
  have hlt : t.val < 60 := t.isLt
  rw [Dat.before_of_pos _ 7 t (by omega) rfl d, if_neg (by
    intro h
    have h' := (flush7 ⟨t.val - 1, by omega⟩).symm.trans h
    have := of_decide_eq_true h'
    dsimp only at this
    omega)]
  show win0_7.fill _ d (win0_7.cut _ _) y = _
  unfold Pipeline.Window.fill
  rw [dif_pos ((moved7 ⟨t.val - 1, by omega⟩ y).mpr (by dsimp only; omega))]
  rfl

theorem sclN_of (c : Dev nD) (b : Fin 20) (p : Fin 3072) {b' p' : Nat} (hb : b' = b.val) (hp : p' = p.val) :
    sclN m c b' p' = (argsOf m c).scale b p := by
  subst hb hp
  exact dif_pos (⟨b.isLt, p.isLt⟩ : b.val < 20 ∧ p.val < 3072)
theorem codN_of (c : Dev nD) (b : Fin 20) (p : Fin 3072) (ch : Nat) {b' p' : Nat} (hb : b' = b.val) (hp : p' = p.val) :
    codN m c b' p' ch = (argsOf m c).code b p ch := by
  subst hb hp
  exact dif_pos (⟨b.isLt, p.isLt⟩ : b.val < 20 ∧ p.val < 3072)

/-- What the body leaves of the codes. -/
theorem step6 (c : Dev nD) (t : Fin cfg0.N) (s s' : Stt Ideal) (h : BodyV (grid0.coords t) s s')
    (h0 : s 0 = iblk m c 0 t) (h1 : s 1 = iblk m c 1 t) (h2 : s 2 = iblk m c 2 t) (h3 : s 3 = iblk m c 3 t) (h4 : s 4 = iblk m c 4 t)
    (h5 : s 5 = iblk m c 5 t) : s' 6 = aft6 m c t := by
  funext y
  have hc := coords_t t
  have hy : (y 2).val < 1024 := (y 2).isLt
  have ht : t.val < 60 := t.isLt
  have hp : 1024 * (t.val % 3) + (y 2).val < 3072 := by omega
  refine (h.2.2 y).trans ((CDK_eq m c t (y 2) ⟨_, hp⟩ (by rw [hc.2]) s h0 h1 h2 h3 h4 h5 (y 1).val).trans ?_)
  exact (codN_of m c (grid0.coords t 0) ⟨_, hp⟩ (y 1).val hc.1.symm rfl).symm

/-- What the body leaves of the scales. -/
theorem step7 (c : Dev nD) (t : Fin cfg0.N) (d) (s s' : Stt Ideal) (h : BodyV (grid0.coords t) s s')
    (h0 : s 0 = iblk m c 0 t) (h1 : s 1 = iblk m c 1 t) (h2 : s 2 = iblk m c 2 t) (h3 : s 3 = iblk m c 3 t) (h4 : s 4 = iblk m c 4 t)
    (h5 : s 5 = iblk m c 5 t) (h7 : s 7 = (datV m 0 c).before 7 t d) (y : S8x3072.Idx) (hy : 8 * (t.val / 24) + (y 0).val < 20) :
    s' 7 y = aft7 m c t y := by
  have hc := coords_t t
  have hy0 : (y 0).val < 8 := (y 0).isLt
  have hy1 : (y 1).val < 3072 := (y 1).isLt
  have ht : t.val < 60 := t.isLt
  refine (h.2.1 y).trans ?_
  rw [hc.1, hc.2]
  unfold aft7
  by_cases hA : (y 0).val = t.val / 3 % 8 ∧ 1024 * (t.val % 3) ≤ (y 1).val ∧ (y 1).val < 1024 * (t.val % 3) + 1024
  · rw [if_pos hA, if_pos (by omega)]
    have hq : (y 1).val - 1024 * (t.val % 3) < 1024 := by omega
    refine ((congrArg (fun n => SCK s n ((y 1).val - 1024 * (t.val % 3))) hc.2.symm).trans
      (SCK_eq m c t ⟨_, hq⟩ (y 1) (by rw [hc.2]; dsimp only; omega) s h0 h1 h2 h3 h4 h5)).trans ?_
    exact (sclN_of m c (grid0.coords t 0) (y 1) (hc.1.symm ▸ (by omega)) rfl).symm
  · rw [if_neg hA]
    by_cases hB : t.val / 3 % 8 = 0 ∧ t.val % 3 = 0
    · rw [if_pos hB, if_neg (by omega)]
    · rw [if_neg hB, h7, before7 m c t d y (by omega) hy]
      unfold aft7
      dsimp only
      have hd : (t.val - 1) / 24 = t.val / 24 := by omega
      rw [hd]
      by_cases hC : 3 * (8 * (t.val / 24) + (y 0).val) + (y 1).val / 1024 ≤ t.val - 1
      · rw [if_pos hC, if_pos (by omega)]
      · rw [if_neg hC, if_neg (by omega)]

theorem fill7 (c : Dev nD) (t : Fin cfg0.N) (x : S8x3072.Idx → EReal)
    (hx : ∀ y : S8x3072.Idx, 8 * (t.val / 24) + (y 0).val < 20 → x y = aft7 m c t y) :
    win0_7.fill (grid0.coords t) x (win0_7.cut (grid0.coords t) (aft7 m c t)) = x := by
  funext y
  unfold Pipeline.Window.fill
  by_cases hm : win0_7.moved (grid0.coords t) y = true
  · rw [dif_pos hm]
    exact (hx y ((moved7 t y).mp hm)).symm
  · rw [dif_neg hm]

theorem ix3_self {n0 n1 n2 : Nat} (y : (⟨3, ![n0, n1, n2]⟩ : Shape).Idx) : ix3 (y 0) (y 1) (y 2) = y := by
  funext a
  match a with
  | ⟨0, _⟩ => rfl
  | ⟨1, _⟩ => rfl
  | ⟨2, _⟩ => rfl

theorem real4 (hfin : ∀ c y, ∃ r : ℝ, (argsOf m c).a4 y = r) (c : Dev nD) (t : Fin cfg0.N) (y : S1x4x1024.Idx) :
    ∃ r : ℝ, ((show S1x4x1024.Idx → EReal from iblk m c 4 t) y : EReal) = r := by
  have hc := coords_t t
  have hy : (y 2).val < 1024 := (y 2).isLt
  have ht : t.val < 60 := t.isLt
  obtain ⟨r, hr⟩ := hfin c (ix3 (grid0.coords t 0) ⟨1024 * (t.val % 3) + (y 2).val, by omega⟩ (y 1))
  refine ⟨r, Eq.trans ?_ hr⟩
  refine Eq.trans (congrArg (show S1x4x1024.Idx → EReal from iblk m c 4 t) ?_) (iblk4_at m c t (y 2) ⟨1024 * (t.val % 3) + (y 2).val, by omega⟩ (by rw [hc.2]) (y 1))
  refine (ix3_self y).symm.trans ?_
  have h0 : y 0 = (0 : Fin 1) := Subsingleton.elim (α := Fin 1) _ _
  rw [h0]
  rfl

/-! ## The body at a point -/

def bodyPreV (c : Dev nD) (t : Fin cfg0.N) : sProp 𝕄 :=
  iprop((datV m 0 c).Φ t.castSucc ∗ (datV m 0 c).owesAt () t.castSucc ∗ (∃ d, owns (c : Thread nD τ) (st0_0 t) fullShare ((datV m 0 c).before 0 t d)) ∗ (∃ d, owns (c : Thread nD τ) (st0_1 t) fullShare ((datV m 0 c).before 1 t d)) ∗ (∃ d, owns (c : Thread nD τ) (st0_2 t) fullShare ((datV m 0 c).before 2 t d)) ∗ (∃ d, owns (c : Thread nD τ) (st0_3 t) fullShare ((datV m 0 c).before 3 t d)) ∗ (∃ d, owns (c : Thread nD τ) (st0_4 t) fullShare ((datV m 0 c).before 4 t d)) ∗ (∃ d, owns (c : Thread nD τ) (st0_5 t) fullShare ((datV m 0 c).before 5 t d)) ∗ (∃ d, owns (c : Thread nD τ) (st0_6 t) fullShare ((datV m 0 c).before 6 t d)) ∗ (∃ d, owns (c : Thread nD τ) (st0_7 t) fullShare ((datV m 0 c).before 7 t d)))
def bodyPostV (c : Dev nD) (t : Fin cfg0.N) : sProp 𝕄 :=
  iprop((datV m 0 c).Φ t.succ ∗ (datV m 0 c).owesAt () t.succ ∗ owns (c : Thread nD τ) (st0_0 t) fullShare ((datV m 0 c).after 0 t) ∗ owns (c : Thread nD τ) (st0_1 t) fullShare ((datV m 0 c).after 1 t) ∗ owns (c : Thread nD τ) (st0_2 t) fullShare ((datV m 0 c).after 2 t) ∗ owns (c : Thread nD τ) (st0_3 t) fullShare ((datV m 0 c).after 3 t) ∗ owns (c : Thread nD τ) (st0_4 t) fullShare ((datV m 0 c).after 4 t) ∗ owns (c : Thread nD τ) (st0_5 t) fullShare ((datV m 0 c).after 5 t) ∗ owns (c : Thread nD τ) (st0_6 t) fullShare ((datV m 0 c).after 6 t) ∗ (∃ d, owns (c : Thread nD τ) (st0_7 t) fullShare (win0_7.fill (grid0.coords t) d (win0_7.cut (grid0.coords t) (aft7 m c t)))))

/-- The twelve buffers as the body finds them. -/
def startV (c : Dev nD) (t : Fin cfg0.N) (e8 : S1152x128.Idx → Elt Ideal .i32) (e9 : S40x8x128.Idx → Elt Ideal .i32) (e10 : S960x128.Idx → Elt Ideal .f32)
    (e11 : S648x128.Idx → Elt Ideal .f32) (d6 : S1x324x1024.Idx → Elt Ideal .i8) (d7 : S8x3072.Idx → Elt Ideal .f32) : Stt Ideal :=
  fun | 0 => iblk m c 0 t | 1 => iblk m c 1 t | 2 => iblk m c 2 t | 3 => iblk m c 3 t | 4 => iblk m c 4 t | 5 => iblk m c 5 t
      | 6 => (datV m 0 c).before 6 t d6 | 7 => (datV m 0 c).before 7 t d7 | 8 => e8 | 9 => e9 | 10 => e10 | 11 => e11

theorem sound_bodyV (hfin : ∀ c y, ∃ r : ℝ, (argsOf m c).a4 y = r) (c : Dev nD) (t : Fin cfg0.N) :
    bodyPreV m c t ⊢ wp frame (wpE (defs₀ (F := Ideal)) Variants.none c none) Set.univ (bodyAt0 t) (fun _ => bodyPostV m c t) := by
  unfold bodyPreV bodyPostV
  rw [show (datV m 0 c).Φ t.succ = (datV m 0 c).Φ t.castSucc from rfl,
    show (datV m 0 c).owesAt () t.succ = (datV m 0 c).owesAt () t.castSucc from rfl,
    show (datV m 0 c).Φ t.castSucc = Pipeline.ΦA spec0 c from rfl]
  unfold Pipeline.ΦA
  rw [scopedRest0_eq]
  have hT := fun e8 e9 e10 e11 d6 d7 => trLookup (defs₀ := defs₀ (F := Ideal)) (c := c) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _)
    (Memref.whole cc0_scratch3) (Memref.isWhole_whole _) (startV m c t e8 e9 e10 e11 d6 d7) (real4 m hfin c t)
  iintro ⟨⟨⟨⟨%e8, H8⟩, ⟨%e9, H9⟩, ⟨%e10, H10⟩, ⟨%e11, H11⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (datV m 0 c) (datV_A m c 0) (fun _ => rfl) t d0]
  rw [before0_1_of m (datV m 0 c) (datV_A m c 1) (fun _ => rfl) t d1]
  rw [before0_2_of m (datV m 0 c) (datV_A m c 2) (fun _ => rfl) t d2]
  rw [before0_3_of m (datV m 0 c) (datV_A m c 3) (fun _ => rfl) t d3]
  rw [before0_4_of m (datV m 0 c) (datV_A m c 4) (fun _ => rfl) t d4]
  rw [before0_5_of m (datV m 0 c) (datV_A m c 5) (fun _ => rfl) t d5]
  iapply (out12 (hT e8 e9 e10 e11 d6 d7) _)
  isplitl [H0 H1 H2 H3 H4 H5 H6 H7 H8 H9 H10 H11]
  · simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %s' %hB ⟨H0, H1, H2, H3, H4, H5, H6, H7, H8, H9, H10, H11⟩
  rw [hB.1 0 (by decide), hB.1 1 (by decide), hB.1 2 (by decide), hB.1 3 (by decide), hB.1 4 (by decide), hB.1 5 (by decide),
    step6 m c t _ s' hB rfl rfl rfl rfl rfl rfl]
  have h7 := fill7 m c t (s' 7) (step7 m c t d7 _ s' hB rfl rfl rfl rfl rfl rfl rfl)
  simp only [owns_whole]
  isplitl [H8 H9 H10 H11 Hg]
  · isplitl [H8 H9 H10 H11]
    · isplitl [H8]; · iexists _; iexact H8
      isplitl [H9]; · iexists _; iexact H9
      isplitl [H10]; · iexists _; iexact H10
      iexists _; iexact H11
    · iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists (s' 7)
  rw [h7]
  iexact H7

theorem body_obligationV (hfin : ∀ c y, ∃ r : ℝ, (argsOf m c).a4 y = r) (c : Dev nD) :
    BodyObligationLoose (datV m 0 c) (defs₀ (F := Ideal)) Variants.none () Set.univ := fun t => by
  rw [bigSep_W0, bigSep_W0, defs₀_row]
  exact triple_restated (sound_bodyV m hfin c t) rfl .rfl fun _ => .rfl

/-! ## The launch -/

set_option backward.isDefEq.respectTransparency.types false in
theorem run_mainV (hfin : ∀ c y, ∃ r : ℝ, (argsOf m c).a4 y = r) :
    θ_run defs (onTc (τ := τ) (main (F := Ideal))) (s₀ m ρ)
      (Pipeline.FramePost cfgs (datV m) 0 (Pipeline.afterTail₀ cfgs (datV m) 0 (V0 m) [hostOps1])) :=
  Pipeline.θ_run_frame_around cfgs (datV m) (0 : Fin 1) launch0 defs₀ Variants.none m ρ main
    (hbody := fun c => body_obligationV m hfin c) (hshare := fun c => (datV m 0 c).share_full fun _ => rfl)
    (howed := fun _ _ => rfl) (V₀ := V0 m) (opss := [hostOps1]) (hsub := sfx_sub) (hfresh := sfx_fresh) (hkeep := sfx_keeps)
    (hmain := hmain m Variants.none) (hA := datV_A m) (hΦ := fun _ _ => rfl)

/-! ## The two arrays after the launch -/

theorem index6 : ∀ t : Fin 60, win0_6.index t 0 = t.val / 3 ∧ win0_6.index t 1 = 0 ∧ win0_6.index t 2 = t.val % 3 := by
  decide +kernel

def G6 (c : Dev nD) (i : S20x324x3072.Idx) : BitVec 8 := codN m c (i 0).val (i 2).val (i 1).val
def G7 (c : Dev nD) (i : S20x3072.Idx) : EReal := sclN m c (i 0).val (i 1).val

theorem arr6 (c : Dev nD) : (datV m 0 c).arrAt 6 cfg0.N = G6 m c := by
  refine (datV m 0 c).arrAt_eq_of_covers 6 _ (by decide +kernel) fun t hf y => ?_
  have hi := index6 t
  show codN m c (t.val / 3) (1024 * (t.val % 3) + (y 2).val) (y 1).val
    = codN m c ((win0_6.rect t).emb y 0).val ((win0_6.rect t).emb y 2).val ((win0_6.rect t).emb y 1).val
  have hy : (y 0).val < 1 := (y 0).isLt
  rw [emb_val win0_6 t y 0 (t.val / 3) rfl (by rw [hi.1]; show t.val / 3 * 1 + (y 0).val = _; omega),
    emb_val win0_6 t y 2 (1024 * (t.val % 3) + (y 2).val) rfl (by rw [hi.2.2]; show t.val % 3 * 1024 + (y 2).val = _; omega),
    emb_val win0_6 t y 1 (y 1).val rfl (by rw [hi.2.1]; show 0 * 324 + (y 1).val = _; omega)]

/-- Where the scales' window is written back, every pixel of its rows has passed. -/
theorem last7 (t y0 y1 : Nat) (ht : t = 23 ∨ t = 47 ∨ t = 59) (h0 : y0 < min 8 (20 - 8 * (t / 24))) (h1 : y1 < 3072) :
    3 * (8 * (t / 24) + y0) + y1 / 1024 ≤ t := by
  omega

theorem emb7_0 (t : Fin 60) (y : (win0_7.rect t).shape.Idx) : ((win0_7.rect t).emb y 0).val = 8 * (t.val / 24) + (y 0).val :=
  emb_val win0_7 t y 0 _ rfl (by rw [(index7 t).1]; exact congrArg (· + (y 0).val) (Nat.mul_comm _ _))
theorem emb7_1 (t : Fin 60) (y : (win0_7.rect t).shape.Idx) : ((win0_7.rect t).emb y 1).val = (y 1).val :=
  emb_val win0_7 t y 1 _ rfl (by rw [(index7 t).2]; exact (congrArg (· + (y 1).val) (Nat.zero_mul _)).trans (Nat.zero_add _))
theorem in7 (t : Fin 60) (y : (win0_7.rect t).shape.Idx) (hf : win0_7.flush t = true) :
    3 * (8 * (t.val / 24) + (y 0).val) + (y 1).val / 1024 ≤ t.val :=
  last7 t.val (y 0).val (y 1).val (of_decide_eq_true ((flush7 t).symm.trans hf)) (lt_of_lt_of_eq (y 0).isLt (xsize7 t).1) (lt_of_lt_of_eq (y 1).isLt (xsize7 t).2)

theorem G7_at (c : Dev nD) (i : S20x3072.Idx) {u v : Nat} (hu : (i 0).val = u) (hv : (i 1).val = v) : G7 m c i = sclN m c u v :=
  congrArg₂ (sclN m c) hu hv

set_option maxHeartbeats 1000000 in
theorem arr7 (c : Dev nD) : (datV m 0 c).arrAt 7 cfg0.N = G7 m c := by
  refine (datV m 0 c).arrAt_eq_of_covers 7 _ (by decide +kernel) fun t hf y => ?_
  exact (if_pos (in7 t y hf)).trans (G7_at m c _ (emb7_0 t y) (emb7_1 t y)).symm

/-- The codes as the last line leaves them. -/
theorem tail7 (c : Dev nD) : Pipeline.afterTail₀ cfgs (datV m) 0 (V0 m) [hostOps1] c main_v7
    = transpose S20x3072x324 [0, 2, 1] (G6 m c) transposes_S20x324x3072_S20x3072x324_0_2_1 := by
  refine Eq.trans ?_ (congrArg (fun x => transpose S20x3072x324 [0, 2, 1] x transposes_S20x324x3072_S20x3072x324_0_2_1)
    ((Pipeline.withArrays_arr spec0 (by decide) c (V0 m c) (fun w => (datV m 0 c).arrAt w cfg0.N) 6).trans (arr6 m c)))
  rfl

/-- The two results. -/
def res0 (c : Dev nD) (i : S20x3072x324.Idx) : BitVec 8 := (argsOf m c).code (i 0) (i 1) (i 2).val
def res1 (c : Dev nD) (i : S20x3072.Idx) : EReal := (argsOf m c).scale (i 0) (i 1)

theorem tail_eq (c : Dev nD) : transpose S20x3072x324 [0, 2, 1] (G6 m c) transposes_S20x324x3072_S20x3072x324_0_2_1 = res0 m c := by
  funext i
  refine (transpose_apply _ _ _ _ (ix3 (i 0) (i 2) (i 1)) fun b => ?_).trans (codN_of m c (i 0) (i 1) _ rfl rfl)
  match b with
  | ⟨0, _⟩ => rfl
  | ⟨1, _⟩ => rfl
  | ⟨2, _⟩ => rfl

theorem G7_eq (c : Dev nD) : G7 m c = res1 m c := funext fun i => sclN_of m c (i 0) (i 1) rfl rfl

/-- Every execution of @main terminates with the two results and the arguments as launched. -/
theorem run_value (hfin : ∀ c y, ∃ r : ℝ, (argsOf m c).a4 y = r) :
    θ_run defs (onTc (τ := τ) (main (F := Ideal))) (s₀ m ρ) (fun r => ∀ c : Dev nD,
      r.2.mem ((c : Thread nD τ).loc main_v7) = res0 m c ∧ r.2.mem ((c : Thread nD τ).loc main_v6_1) = res1 m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5)) :=
  (θ_run defs _ _).mono (fun r h c => ⟨
    ((h c).2 main_v7 (by decide)).trans ((tail7 m c).trans (tail_eq m c)),
    ((h c).1 7).trans ((arr7 m c).trans (G7_eq m c)),
    ((h c).2 main_arg0 (by decide)).trans (W_main_arg0 m (datV m) c),
    ((h c).2 main_arg1 (by decide)).trans (W_main_arg1 m (datV m) c),
    ((h c).2 main_arg2 (by decide)).trans (W_main_arg2 m (datV m) c),
    ((h c).2 main_arg3 (by decide)).trans (W_main_arg3 m (datV m) c),
    ((h c).2 main_arg4 (by decide)).trans (W_main_arg4 m (datV m) c),
    ((h c).2 main_arg5 (by decide)).trans (W_main_arg5 m (datV m) c)⟩) (run_mainV m ρ hfin)

end Cert.KernelIdeal.Hand

end
-- ==== Proof.RefLevel.lean ====
/-
  One level of the reference, read at one number: the sampled rows and columns, the patch, the taps.
-/
module

public import proofs.«01_k».proof.Proof.Gen.ReferenceIdeal.Run
public import proofs.«01_k».proof.Proof.Args
public import Idealize.ShloMosaic.Lib.Routing.Words
public import Idealize.ShloMosaic.Lib.WordCmp
public import Idealize.ShloMosaic.Lib.WordArith
public import Idealize.ShloMosaic.PureOps.Ideal.Laws

@[expose] public section

set_option maxRecDepth 16384

noncomputable section

namespace Cert.ReferenceIdeal.Val

open Cert.ReferenceIdeal Cert.ReferenceIdeal.Gen Cert.ReferenceIdeal.Value Cert.Pixel
open Idealize.ShloMosaic Idealize.ShloMosaic.TcCoe Idealize.ShloMosaic.ValueIdx

/-! ## The gather: one byte of each pixel's row of bytes -/

section Gather
variable {N : Nat} {α : Type}

/-- The gather's dimension numbers. -/
def gdims (N : Nat) (wf : GatherDims.WF ⟨3, ![20, 3072, N]⟩ S20x3072x100x1 S20x3072x100 [] [2] [0, 1] [2] [0, 1] 3 ![1, 1, 1]) :
    GatherDims ⟨3, ![20, 3072, N]⟩ S20x3072x100x1 S20x3072x100 where
  offsetDims := []
  collapsedSliceDims := [2]
  operandBatchingDims := [0, 1]
  startIndicesBatchingDims := [0, 1]
  startIndexMap := [2]
  indexVectorDim := 3
  sliceSizes := ![1, 1, 1]
  wf := wf

theorem gather_at (hN : 0 < N) (wf : GatherDims.WF ⟨3, ![20, 3072, N]⟩ S20x3072x100x1 S20x3072x100 [] [2] [0, 1] [2] [0, 1] 3 ![1, 1, 1])
    (x : (⟨3, ![20, 3072, N]⟩ : Shape).Idx → α) (idx : IVec S20x3072x100x1 32) (b : Fin 20) (p : Fin 3072) (k : Fin 100) :
    Host.gather (gdims N wf) x idx (ix3 b p k) = x (ix3 b p ⟨min (idx (ix4 b p k 0)).toInt.toNat (N - 1), by omega⟩) := by
  unfold Host.gather
  congr 1
  funext a
  refine Fin.ext ?_
  show (gdims N wf).start (ix3 b p k) idx a + (gdims N wf).batchCoord (ix3 b p k) a + (gdims N wf).offCoord (ix3 b p k) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · have hm : (0 : Fin 3) ∈ ([0, 1] : List (Fin 3)) := by decide
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos (show (0 : Fin 3) ∈ (gdims N wf).operandBatchingDims from hm)]
    rfl
  · have hm : (1 : Fin 3) ∈ ([0, 1] : List (Fin 3)) := by decide
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos (show (1 : Fin 3) ∈ (gdims N wf).operandBatchingDims from hm)]
    rfl
  · have hm : (2 : Fin 3) ∈ ([2] : List (Fin 3)) := List.mem_singleton.mpr rfl
    have hn : ¬ (2 : Fin 3) ∈ ([0, 1] : List (Fin 3)) := by decide
    rw [GatherDims.batchCoord_eq_zero _ _ _ hn,
      GatherDims.offCoord_eq_zero _ _ _ (fun h => ((GatherDims.mem_sKept _ _).mp h).1 hm)]
    simp only [Nat.add_zero]
    unfold GatherDims.start
    rw [dif_pos (show (2 : Fin 3) ∈ (gdims N wf).startIndexMap from hm)]
    have hsi : (gdims N wf).siIdx (ix3 b p k) ⟨List.idxOf (2 : Fin 3) (gdims N wf).startIndexMap, List.idxOf_lt_length_iff.2 hm⟩ = ix4 b p k 0 := by
      funext d; refine Fin.ext ?_
      match d with
      | ⟨0, _⟩ => rfl
      | ⟨1, _⟩ => rfl
      | ⟨2, _⟩ => rfl
      | ⟨3, _⟩ => rfl
    rw [hsi]
    rfl

end Gather

/-! ## Words -/

theorem toInt_small (n : Nat) (h : n < 2 ^ 31) : (BitVec.ofNat 32 n).toInt = n := WordCmp.toInt_ofNat_of_lt (w := 32) h

theorem of_ins {x : BitVec 32} {w : Nat} (hw : w < 2 ^ 31) (h : Ins x w) : ∃ n, n < w ∧ x = BitVec.ofNat 32 n ∧ x.toInt.toNat = n := by
  refine ⟨x.toInt.toNat, ?_, ?_, rfl⟩
  · have := h.1; have := h.2; omega
  · apply BitVec.eq_of_toInt_eq
    rw [toInt_small _ (by have := h.1; have := h.2; omega)]
    have := h.1; omega

/-- The test of a coordinate. -/
theorem test_word (x : BitVec 32) (w : Nat) (hw : w < 2 ^ 31) :
    IntOp.andi (IntOp.cmpi .sge x 0#32) (IntOp.cmpi .slt x (BitVec.ofNat 32 w)) = if Ins x w then 1#1 else 0#1 := by
  have e0 : IntOp.cmpi .sge x 0#32 = if 0 ≤ x.toInt then 1#1 else 0#1 := by
    show BitVec.ofBool (BitVec.sle 0#32 x) = _
    rw [BitVec.sle_eq_decide, show (0#32).toInt = 0 from rfl]
    by_cases h : 0 ≤ x.toInt
    · rw [if_pos h, decide_eq_true h]; rfl
    · rw [if_neg h, decide_eq_false h]; rfl
  have e1 : IntOp.cmpi .slt x (BitVec.ofNat 32 w) = if x.toInt < w then 1#1 else 0#1 := by
    show BitVec.ofBool (BitVec.slt x (BitVec.ofNat 32 w)) = _
    rw [BitVec.slt_eq_decide, toInt_small w hw]
    by_cases h : x.toInt < w
    · rw [if_pos h, decide_eq_true h]; rfl
    · rw [if_neg h, decide_eq_false h]; rfl
  rw [e0, e1]
  by_cases h : 0 ≤ x.toInt
  · by_cases h' : x.toInt < w
    · rw [if_pos h, if_pos h', if_pos (show Ins x w from ⟨h, h'⟩)]; rfl
    · rw [if_pos h, if_neg h', if_neg (show ¬ Ins x w from fun q => h' q.2)]; rfl
  · rw [if_neg h, if_neg (show ¬ Ins x w from fun q => h q.1)]
    by_cases h' : x.toInt < w
    · rw [if_pos h']; rfl
    · rw [if_neg h']; rfl

/-- Clipping a word in range. -/
theorem clip_word (n w : Nat) (hw : w < 2 ^ 31) (h : n ≤ w) :
    IntOp.minsi (BitVec.ofNat 32 w) (IntOp.maxsi 0#32 (BitVec.ofNat 32 n)) = BitVec.ofNat 32 n := by
  have e : IntOp.maxsi 0#32 (BitVec.ofNat 32 n) = BitVec.ofNat 32 n := by
    unfold IntOp.maxsi
    rw [BitVec.slt_eq_decide, toInt_small n (by omega), show (0#32).toInt = 0 from rfl, if_neg (by simp)]
  rw [e]
  unfold IntOp.minsi
  rw [BitVec.slt_eq_decide, toInt_small n (by omega), toInt_small w hw, if_neg (by simpa using h)]

/-! ## The rows and the columns -/

theorem bc_1x10 (x : S20x3072.Idx → BitVec 32) (b : Fin 20) (p : Fin 3072) (j : Fin 10) :
    broadcastInDim S20x3072x10 ![0, 1, 2] bcast_S20x3072x1_S20x3072x10_0_1_2 (broadcastInDim S20x3072x1 ![0, 1] bcast_S20x3072_S20x3072x1_0_1 x) (ix3 b p j) = x (ix2 b p) := by
  refine (broadcastInDim_apply _ _ _ _ (ix3 b p 0) fun d => ?_).trans (broadcastInDim_apply _ _ _ _ (ix2 b p) fun d => ?_)
  · match d with
    | ⟨0, _⟩ => rfl
    | ⟨1, _⟩ => rfl
    | ⟨2, _⟩ => rfl
  · match d with
    | ⟨0, _⟩ => rfl
    | ⟨1, _⟩ => rfl

theorem bc_off (x : S10.Idx → BitVec 32) (b : Fin 20) (p : Fin 3072) (j : Fin 10) :
    broadcastInDim S20x3072x10 ![0, 1, 2] bcast_S1x1x10_S20x3072x10_0_1_2 (broadcastInDim S1x1x10 ![2] bcast_S10_S1x1x10_2 x) (ix3 b p j) = x (ix1 j) := by
  refine (broadcastInDim_apply _ _ _ _ (ix3 0 0 j) fun d => ?_).trans (broadcastInDim_apply _ _ _ _ (ix1 j) fun d => ?_)
  · match d with
    | ⟨0, _⟩ => rfl
    | ⟨1, _⟩ => rfl
    | ⟨2, _⟩ => rfl
  · match d with
    | ⟨0, _⟩ => rfl

/-- The coordinates sampled along one axis. -/
def axisT (f : FVec Ideal S20x3072 .f32) : IVec S20x3072x10 32 :=
  addi (broadcastInDim S20x3072x10 ![0, 1, 2] bcast_S20x3072x1_S20x3072x10_0_1_2 (broadcastInDim S20x3072x1 ![0, 1] bcast_S20x3072_S20x3072x1_0_1 (fptosi 32 (Host.floor f))))
    (broadcastInDim S20x3072x10 ![0, 1, 2] bcast_S1x1x10_S20x3072x10_0_1_2 (broadcastInDim S1x1x10 ![2] bcast_S10_S1x1x10_2
      (subi (iotaInDim S10 32 0) (broadcastInDim S10 ![] bcast_S_S10 (constantI S_ 32 4#32)))))

theorem axisT_at (f : FVec Ideal S20x3072 .f32) (b : Fin 20) (p : Fin 3072) (j : Fin 10) : axisT f (ix3 b p j) = X (f (ix2 b p)) j.val :=
  congrArg₂ (fun x y : BitVec 32 => x + y) (bc_1x10 _ b p j) (bc_off _ b p j)

/-! ## The index of a byte -/

theorem bc_col4 {w : Nat} (x : S20x3072x10x1.Idx → BitVec w) (b : Fin 20) (p : Fin 3072) (j i : Fin 10) :
    broadcastInDim S20x3072x10x10 ![0, 1, 2, 3] bcast_S20x3072x10x1_S20x3072x10x10_0_1_2_3 x (ix4 b p j i) = x (ix4 b p j 0) := by
  refine broadcastInDim_apply _ _ _ _ (ix4 b p j 0) fun d => ?_
  match d with
  | ⟨0, _⟩ => rfl
  | ⟨1, _⟩ => rfl
  | ⟨2, _⟩ => rfl
  | ⟨3, _⟩ => rfl

theorem bc_col {w : Nat} (x : S20x3072x10.Idx → BitVec w) (b : Fin 20) (p : Fin 3072) (j : Fin 10) :
    broadcastInDim S20x3072x10x1 ![0, 1, 2] bcast_S20x3072x10_S20x3072x10x1_0_1_2 x (ix4 b p j 0) = x (ix3 b p j) := by
  refine broadcastInDim_apply _ _ _ _ (ix3 b p j) fun d => ?_
  match d with
  | ⟨0, _⟩ => rfl
  | ⟨1, _⟩ => rfl
  | ⟨2, _⟩ => rfl

theorem bc_row {w : Nat} (x : S20x3072x10.Idx → BitVec w) (b : Fin 20) (p : Fin 3072) (j i : Fin 10) :
    broadcastInDim S20x3072x10x10 ![0, 1, 2, 3] bcast_S20x3072x1x10_S20x3072x10x10_0_1_2_3 (broadcastInDim S20x3072x1x10 ![0, 1, 3] bcast_S20x3072x10_S20x3072x1x10_0_1_3 x) (ix4 b p j i) = x (ix3 b p i) := by
  refine (broadcastInDim_apply _ _ _ _ (ix4 b p 0 i) fun d => ?_).trans (broadcastInDim_apply _ _ _ _ (ix3 b p i) fun d => ?_)
  · match d with
    | ⟨0, _⟩ => rfl
    | ⟨1, _⟩ => rfl
    | ⟨2, _⟩ => rfl
    | ⟨3, _⟩ => rfl
  · match d with
    | ⟨0, _⟩ => rfl
    | ⟨1, _⟩ => rfl
    | ⟨2, _⟩ => rfl

/-- The number of a patch's entry `(j, i)`. -/
def pk (j i : Fin 10) : Fin 100 := ⟨10 * j.val + i.val, by omega⟩

theorem cast_pk {α : Type} (x : S20x3072x10x10.Idx → α) (b : Fin 20) (p : Fin 3072) (j i : Fin 10) :
    shapeCast S20x3072x100 x shapeCasts_S20x3072x10x10_S20x3072x100 (ix3 b p (pk j i)) = x (ix4 b p j i) := by
  refine shapeCast_apply _ _ _ (ix4 b p j i) ?_
  rw [Shape.rowMajor_val_four, Shape.rowMajor_val_three]
  show ((b.val * 3072 + p.val) * 10 + j.val) * 10 + i.val = (b.val * 3072 + p.val) * 100 + (10 * j.val + i.val)
  omega

theorem cast_pk' {α : Type} (x : S20x3072x100.Idx → α) (b : Fin 20) (p : Fin 3072) (j i : Fin 10) :
    shapeCast S20x3072x10x10 x shapeCasts_S20x3072x100_S20x3072x10x10 (ix4 b p j i) = x (ix3 b p (pk j i)) := by
  refine shapeCast_apply _ _ _ (ix3 b p (pk j i)) ?_
  rw [Shape.rowMajor_val_four, Shape.rowMajor_val_three]
  show (b.val * 3072 + p.val) * 100 + (10 * j.val + i.val) = ((b.val * 3072 + p.val) * 10 + j.val) * 10 + i.val
  omega

theorem cast_1 {α : Type} (x : S20x3072x100.Idx → α) (b : Fin 20) (p : Fin 3072) (k : Fin 100) :
    shapeCast S20x3072x100x1 x shapeCasts_S20x3072x100_S20x3072x100x1 (ix4 b p k 0) = x (ix3 b p k) := by
  refine shapeCast_apply _ _ _ (ix3 b p k) ?_
  rw [Shape.rowMajor_val_four, Shape.rowMajor_val_three]
  show (b.val * 3072 + p.val) * 100 + k.val = ((b.val * 3072 + p.val) * 100 + k.val) * 1 + 0
  omega

/-- The index of each byte, of rows `r` and columns `c`. -/
def idxT (hm wm wd : BitVec 32) (r c : IVec S20x3072x10 32) : IVec S20x3072x100 32 :=
  shapeCast _ (addi (broadcastInDim S20x3072x10x10 ![0, 1, 2, 3] bcast_S20x3072x10x1_S20x3072x10x10_0_1_2_3 (muli (broadcastInDim S20x3072x10x1 ![0, 1, 2] bcast_S20x3072x10_S20x3072x10x1_0_1_2 (minsi (broadcastInDim S20x3072x10 ![] bcast_S_S20x3072x10 (id (constantI S_ 32 hm))) (maxsi (broadcastInDim S20x3072x10 ![] bcast_S_S20x3072x10 (id (constantI S_ 32 0#32))) r))) (broadcastInDim S20x3072x10x1 ![] bcast_S_S20x3072x10x1 (constantI S_ 32 wd)))) (broadcastInDim S20x3072x10x10 ![0, 1, 2, 3] bcast_S20x3072x1x10_S20x3072x10x10_0_1_2_3 (broadcastInDim S20x3072x1x10 ![0, 1, 3] bcast_S20x3072x10_S20x3072x1x10_0_1_3 (minsi (broadcastInDim S20x3072x10 ![] bcast_S_S20x3072x10 (id (constantI S_ 32 wm))) (maxsi (broadcastInDim S20x3072x10 ![] bcast_S_S20x3072x10 (id (constantI S_ 32 0#32))) c))))) shapeCasts_S20x3072x10x10_S20x3072x100

theorem idxT_at (hm wm wd : BitVec 32) (r c : IVec S20x3072x10 32) (b : Fin 20) (p : Fin 3072) (j i : Fin 10) :
    idxT hm wm wd r c (ix3 b p (pk j i)) = IntOp.minsi hm (IntOp.maxsi 0#32 (r (ix3 b p j))) * wd + IntOp.minsi wm (IntOp.maxsi 0#32 (c (ix3 b p i))) := by
  refine (cast_pk _ b p j i).trans (congrArg₂ (fun x y : BitVec 32 => x + y) ?_ (bc_row _ b p j i))
  exact (bc_col4 _ b p j i).trans (congrArg (fun x : BitVec 32 => x * wd) (bc_col _ b p j))

/-- Its wrapping of negative indices. -/
def wrapT (n : BitVec 32) (v : IVec S20x3072x100 32) : IVec S20x3072x100x1 32 :=
  shapeCast _ (select (cmpi .slt v (broadcastInDim S20x3072x100 ![] bcast_S_S20x3072x100 (constantI S_ 32 0#32))) (addi v (broadcastInDim S20x3072x100 ![] bcast_S_S20x3072x100 (constantI S_ 32 n))) v) shapeCasts_S20x3072x100_S20x3072x100x1

theorem wrapT_at (n : BitVec 32) (v : IVec S20x3072x100 32) (b : Fin 20) (p : Fin 3072) (k : Fin 100) :
    wrapT n v (ix4 b p k 0) = Scalar.select (IntOp.cmpi .slt (v (ix3 b p k)) 0#32) (v (ix3 b p k) + n) (v (ix3 b p k)) := cast_1 _ b p k

theorem index_word {H W y x : Nat} (hH : H ≤ 48) (hW : W ≤ 64) (hy : y < H) (hx : x < W) (n : BitVec 32) (r c : IVec S20x3072x10 32)
    (b : Fin 20) (p : Fin 3072) (j i : Fin 10) (hr : r (ix3 b p j) = BitVec.ofNat 32 y) (hc : c (ix3 b p i) = BitVec.ofNat 32 x) :
    wrapT n (idxT (BitVec.ofNat 32 (H - 1)) (BitVec.ofNat 32 (W - 1)) (BitVec.ofNat 32 W) r c) (ix4 b p (pk j i) 0) = BitVec.ofNat 32 (y * W + x) := by
  have hlt : y * W ≤ 47 * 64 := Nat.mul_le_mul (by omega) hW
  have e : idxT (BitVec.ofNat 32 (H - 1)) (BitVec.ofNat 32 (W - 1)) (BitVec.ofNat 32 W) r c (ix3 b p (pk j i)) = BitVec.ofNat 32 (y * W + x) := by
    refine (idxT_at _ _ _ r c b p j i).trans ?_
    rw [hr, hc, clip_word y (H - 1) (by omega) (by omega), clip_word x (W - 1) (by omega) (by omega), BitVec.ofNat_add, BitVec.ofNat_mul]
  refine (wrapT_at n _ b p _).trans ?_
  rw [e, show (0#32 : BitVec 32) = BitVec.ofNat 32 0 from rfl, WordCmp.cmpi_slt_ofNat (w := 32) (by omega) (by decide), decide_eq_false (Nat.not_lt_zero _)]
  rfl

/-! ## The patch -/

theorem fold_ones {ι : Type} [DecidableEq ι] (S : Finset ι) (x : ι → BitVec 1) (h : ∀ k, x k = 1#1) : S.fold IntOp.andi 1#1 x = 1#1 := by
  induction S using Finset.induction_on with
  | empty => rfl
  | insert a S ha ih => rw [Finset.fold_insert ha, ih, h a]; rfl

/-- Whether each index lies in the row of bytes. -/
def inT (nm : BitVec 32) (i : IVec S20x3072x100x1 32) : IVec S20x3072x100 1 :=
  Host.reduce IntOp.andi (andi (cmpi .sge i (broadcastInDim S20x3072x100x1 ![] bcast_S_S20x3072x100x1 (constantI S_ 32 0#32))) (cmpi .sle i (broadcastInDim S20x3072x100x1 ![0, 1, 2, 3] bcast_S1x1x1x1_S20x3072x100x1_0_1_2_3 (broadcastInDim S1x1x1x1 ![3] bcast_S1_S1x1x1x1_3 (constantI S1 32 nm))))) (constantI S_ 1 1#1) reducesTo_S20x3072x100x1_S20x3072x100_d3 h_S_

theorem red3 : S20x3072x100x1.Reduces [3] S20x3072x100 :=
  ⟨(reducesTo_S20x3072x100x1_S20x3072x100_d3 : S20x3072x100x1.ReducesTo [3] S20x3072x100).1, by decide, (reducesTo_S20x3072x100x1_S20x3072x100_d3 : S20x3072x100x1.ReducesTo [3] S20x3072x100).2⟩

theorem inT_at (i : IVec S20x3072x100x1 32) (b : Fin 20) (p : Fin 3072) (k : Fin 100) {v n : Nat} (hn : n < 2 ^ 31) (hv : v ≤ n)
    (hi : i (ix4 b p k 0) = BitVec.ofNat 32 v) : inT (BitVec.ofNat 32 n) i (ix3 b p k) = 1#1 := by
  unfold inT
  rw [Host.reduce_eq_fold_single (a := 3) IntOp.andi _ _ _ red3 _ (ix3 b p k)]
  refine fold_ones _ _ fun d => ?_
  have hd : red3.lift (ix3 b p k) d = ix4 b p k 0 := by
    have d0 : d.val = 0 := by have : d.val < 1 := d.isLt; omega
    funext c
    refine Fin.ext ?_
    match c with
    | ⟨0, _⟩ => rfl
    | ⟨1, _⟩ => rfl
    | ⟨2, _⟩ => rfl
    | ⟨3, _⟩ => exact d0
  show IntOp.andi (IntOp.cmpi .sge (i (red3.lift (ix3 b p k) d)) 0#32) (IntOp.cmpi .sle (i (red3.lift (ix3 b p k) d)) (BitVec.ofNat 32 n)) = 1#1
  rw [hd, hi, show (0#32 : BitVec 32) = BitVec.ofNat 32 0 from rfl, WordCmp.cmpi_sge_ofNat (w := 32) (by omega) (by decide),
    WordCmp.cmpi_sle_ofNat (w := 32) (by omega) (by omega), decide_eq_true (Nat.zero_le _), decide_eq_true hv]
  rfl

/-- The patch of the bytes `g`. -/
def patchT (hd wd nm : BitVec 32) (r c : IVec S20x3072x10 32) (i : IVec S20x3072x100x1 32) (g : IVec S20x3072x100 8) : FVec Ideal S20x3072x10x10 .f32 :=
  select (andi (broadcastInDim S20x3072x10x10 ![0, 1, 2, 3] bcast_S20x3072x10x1_S20x3072x10x10_0_1_2_3 (broadcastInDim S20x3072x10x1 ![0, 1, 2] bcast_S20x3072x10_S20x3072x10x1_0_1_2 (andi (cmpi .sge r (broadcastInDim S20x3072x10 ![] bcast_S_S20x3072x10 (constantI S_ 32 0#32))) (cmpi .slt r (broadcastInDim S20x3072x10 ![] bcast_S_S20x3072x10 (constantI S_ 32 hd)))))) (broadcastInDim S20x3072x10x10 ![0, 1, 2, 3] bcast_S20x3072x1x10_S20x3072x10x10_0_1_2_3 (broadcastInDim S20x3072x1x10 ![0, 1, 3] bcast_S20x3072x10_S20x3072x1x10_0_1_3 (andi (cmpi .sge c (broadcastInDim S20x3072x10 ![] bcast_S_S20x3072x10 (constantI S_ 32 0#32))) (cmpi .slt c (broadcastInDim S20x3072x10 ![] bcast_S_S20x3072x10 (constantI S_ 32 wd))))))) (shapeCast _ (sitofp .f32 (extsi 32 (select (inT nm i) g (broadcastInDim S20x3072x100 ![] bcast_S_S20x3072x100 (constantI S_ 8 128#8))) natLt_8_32)) shapeCasts_S20x3072x100_S20x3072x10x10) (broadcastInDim S20x3072x10x10 ![] bcast_S_S20x3072x10x10 (id (constant S_ .f32 0x00000000#32)))

theorem patchT_at (H W : Nat) (hH : H < 2 ^ 31) (hW : W < 2 ^ 31) (nm : BitVec 32) (r c : IVec S20x3072x10 32) (i : IVec S20x3072x100x1 32) (g : IVec S20x3072x100 8)
    (b : Fin 20) (p : Fin 3072) (y x : Fin 10) :
    patchT (BitVec.ofNat 32 H) (BitVec.ofNat 32 W) nm r c i g (ix4 b p y x)
      = if Ins (r (ix3 b p y)) H ∧ Ins (c (ix3 b p x)) W then
          ((((Scalar.select (inT nm i (ix3 b p (pk y x))) (g (ix3 b p (pk y x))) 128#8).signExtend 32).toInt : ℝ) : EReal) else 0 := by
  have er := (bc_col4 _ b p y x).trans ((bc_col (andi (cmpi .sge r (broadcastInDim S20x3072x10 ![] bcast_S_S20x3072x10 (constantI S_ 32 0#32))) (cmpi .slt r (broadcastInDim S20x3072x10 ![] bcast_S_S20x3072x10 (constantI S_ 32 (BitVec.ofNat 32 H))))) b p y).trans (test_word (r (ix3 b p y)) H hH))
  have ec := (bc_row (andi (cmpi .sge c (broadcastInDim S20x3072x10 ![] bcast_S_S20x3072x10 (constantI S_ 32 0#32))) (cmpi .slt c (broadcastInDim S20x3072x10 ![] bcast_S_S20x3072x10 (constantI S_ 32 (BitVec.ofNat 32 W))))) b p y x).trans (test_word (c (ix3 b p x)) W hW)
  have ev := cast_pk' (sitofp (F := Ideal) .f32 (extsi 32 (select (inT nm i) g (broadcastInDim S20x3072x100 ![] bcast_S_S20x3072x100 (constantI S_ 8 128#8))) natLt_8_32)) b p y x
  refine (congrArg₂ (fun (q : BitVec 1) (v : EReal) => Scalar.select q v (FloatOps.ofBits (F := Ideal) .f32 0x00000000#32 : EReal)) (congrArg₂ IntOp.andi er ec) ev).trans ?_
  rw [show (FloatOps.ofBits (F := Ideal) .f32 0x00000000#32 : EReal) = 0 from Ideal.ofBits_zero_f32]
  by_cases hr : Ins (r (ix3 b p y)) H
  · by_cases hc : Ins (c (ix3 b p x)) W
    · rw [if_pos hr, if_pos hc, if_pos ⟨hr, hc⟩]; rfl
    · rw [if_pos hr, if_neg hc, if_neg (fun q => hc q.2)]; rfl
  · rw [if_neg hr, if_neg (fun q : _ ∧ _ => hr q.1)]
    by_cases hc : Ins (c (ix3 b p x)) W
    · rw [if_pos hc]; rfl
    · rw [if_neg hc]; rfl

/-- The patch of level `H × W`, of the images `a`. -/
def levelT (H W N : Nat) (wf : GatherDims.WF ⟨3, ![20, 3072, N]⟩ S20x3072x100x1 S20x3072x100 [] [2] [0, 1] [2] [0, 1] 3 ![1, 1, 1])
    (hs : (⟨4, ![20, 3072, H, W]⟩ : Shape).ShapeCasts ⟨3, ![20, 3072, N]⟩) (a : (⟨4, ![20, 3072, H, W]⟩ : Shape).Idx → BitVec 8)
    (cx cy : FVec Ideal S20x3072 .f32) : FVec Ideal S20x3072x10x10 .f32 :=
  patchT (BitVec.ofNat 32 H) (BitVec.ofNat 32 W) (BitVec.ofNat 32 (N - 1)) (axisT cy) (axisT cx)
    (wrapT (BitVec.ofNat 32 N) (idxT (BitVec.ofNat 32 (H - 1)) (BitVec.ofNat 32 (W - 1)) (BitVec.ofNat 32 W) (axisT cy) (axisT cx)))
    (Host.gather (gdims N wf) (shapeCast _ a hs) (wrapT (BitVec.ofNat 32 N) (idxT (BitVec.ofNat 32 (H - 1)) (BitVec.ofNat 32 (W - 1)) (BitVec.ofNat 32 W) (axisT cy) (axisT cx))))

theorem levelT_at {H W N : Nat} (hH : H ≤ 48) (hW : W ≤ 64) (hN : N = H * W) (h0 : 0 < N)
    (wf : GatherDims.WF ⟨3, ![20, 3072, N]⟩ S20x3072x100x1 S20x3072x100 [] [2] [0, 1] [2] [0, 1] 3 ![1, 1, 1])
    (hs : (⟨4, ![20, 3072, H, W]⟩ : Shape).ShapeCasts ⟨3, ![20, 3072, N]⟩) (a : (⟨4, ![20, 3072, H, W]⟩ : Shape).Idx → BitVec 8)
    (cx cy : FVec Ideal S20x3072 .f32) (img : Nat → Nat → BitVec 8) (b : Fin 20) (p : Fin 3072)
    (himg : ∀ y x, img y x = if h : y < H ∧ x < W then a (ix4 b p ⟨y, h.1⟩ ⟨x, h.2⟩) else 0) (j i : Fin 10) :
    levelT H W N wf hs a cx cy (ix4 b p j i) = qS img W H (cx (ix2 b p)) (cy (ix2 b p)) j.val i.val := by
  have hr := axisT_at cy b p j
  have hc := axisT_at cx b p i
  refine (patchT_at H W (by omega) (by omega) _ _ _ _ _ b p j i).trans ?_
  rw [hr, hc]
  unfold qS
  by_cases h : Ins (X (cy (ix2 b p)) j.val) H ∧ Ins (X (cx (ix2 b p)) i.val) W
  · rw [if_pos h, if_pos h]
    obtain ⟨y, hy, ey, ty⟩ := of_ins (by omega) h.1
    obtain ⟨x, hx, ex, tx⟩ := of_ins (by omega) h.2
    rw [ty, tx, himg, dif_pos ⟨hy, hx⟩]
    have hlt : y * W + x < H * W := by
      have : (y + 1) * W ≤ H * W := Nat.mul_le_mul_right W hy
      rw [Nat.add_mul] at this; omega
    have hHW : H * W ≤ 48 * 64 := Nat.mul_le_mul hH hW
    have hw := index_word hH hW hy hx (BitVec.ofNat 32 N) (axisT cy) (axisT cx) b p j i (hr.trans ey) (hc.trans ex)
    rw [inT_at _ b p (pk j i) (v := y * W + x) (by omega) (by omega) hw]
    have hg := gather_at h0 wf (shapeCast _ a hs) (wrapT (BitVec.ofNat 32 N) (idxT (BitVec.ofNat 32 (H - 1)) (BitVec.ofNat 32 (W - 1)) (BitVec.ofNat 32 W) (axisT cy) (axisT cx))) b p (pk j i)
    have hv : Host.gather (gdims N wf) (shapeCast _ a hs) (wrapT (BitVec.ofNat 32 N) (idxT (BitVec.ofNat 32 (H - 1)) (BitVec.ofNat 32 (W - 1)) (BitVec.ofNat 32 W) (axisT cy) (axisT cx))) (ix3 b p (pk j i)) = a (ix4 b p ⟨y, hy⟩ ⟨x, hx⟩) := by
      refine hg.trans (shapeCast_apply _ _ _ (ix4 b p ⟨y, hy⟩ ⟨x, hx⟩) ?_)
      rw [Shape.rowMajor_val_four, Shape.rowMajor_val_three]
      show ((b.val * 3072 + p.val) * H + y) * W + x = (b.val * 3072 + p.val) * N + min (wrapT _ _ (ix4 b p (pk j i) 0)).toInt.toNat (N - 1)
      rw [hw, toInt_small _ (by omega), Int.toNat_natCast, Nat.min_eq_left (by omega), hN]
      ring
    rw [hv]
    refine congrArg (fun z : Int => ((z : ℝ) : EReal)) ?_
    show ((a (ix4 b p ⟨y, hy⟩ ⟨x, hx⟩)).signExtend 32).toInt = _
    exact BitVec.toInt_signExtend_of_le (by decide)
  · rw [if_neg h, if_neg h]

/-! ## The taps -/

theorem bc_9 (x : FVec Ideal S20x3072x1x1 .f32) (b : Fin 20) (p : Fin 3072) (j i : Fin 9) :
    broadcastInDim S20x3072x9x9 ![0, 1, 2, 3] bcast_S20x3072x1x1_S20x3072x9x9_0_1_2_3 x (ix4 b p j i) = x (ix4 b p 0 0) := by
  refine broadcastInDim_apply _ _ _ _ (ix4 b p 0 0) fun d => ?_
  match d with
  | ⟨0, _⟩ => rfl
  | ⟨1, _⟩ => rfl
  | ⟨2, _⟩ => rfl
  | ⟨3, _⟩ => rfl

theorem bc_11 (x : FVec Ideal S20x3072 .f32) (b : Fin 20) (p : Fin 3072) :
    broadcastInDim S20x3072x1x1 ![0, 1] bcast_S20x3072_S20x3072x1x1_0_1 x (ix4 b p 0 0) = x (ix2 b p) := by
  refine broadcastInDim_apply _ _ _ _ (ix2 b p) fun d => ?_
  match d with
  | ⟨0, _⟩ => rfl
  | ⟨1, _⟩ => rfl

theorem bc_81 (x : FVec Ideal S20x3072 .f32) (b : Fin 20) (p : Fin 3072) (k : Fin 81) :
    broadcastInDim S20x3072x81 ![0, 1, 2] bcast_S20x3072x1_S20x3072x81_0_1_2 (broadcastInDim S20x3072x1 ![0, 1] bcast_S20x3072_S20x3072x1_0_1 x) (ix3 b p k) = x (ix2 b p) := by
  refine (broadcastInDim_apply _ _ _ _ (ix3 b p 0) fun d => ?_).trans (broadcastInDim_apply _ _ _ _ (ix2 b p) fun d => ?_)
  · match d with
    | ⟨0, _⟩ => rfl
    | ⟨1, _⟩ => rfl
    | ⟨2, _⟩ => rfl
  · match d with
    | ⟨0, _⟩ => rfl
    | ⟨1, _⟩ => rfl

/-- The features of one level: scales `s`, fractions `fx` and `fy`, patch `q`. -/
def tapT (s : FVec Ideal S20x3072 .f32) (fx fy : FVec Ideal S20x3072x1x1 .f32) (q : FVec Ideal S20x3072x10x10 .f32) : FVec Ideal S20x3072x81 .f32 :=
  mulf (broadcastInDim S20x3072x81 ![0, 1, 2] bcast_S20x3072x1_S20x3072x81_0_1_2 (broadcastInDim S20x3072x1 ![0, 1] bcast_S20x3072_S20x3072x1_0_1 s)) (shapeCast _ (transpose S20x3072x9x9 [0, 1, 3, 2] (addf (addf (addf (mulf (broadcastInDim S20x3072x9x9 ![0, 1, 2, 3] bcast_S20x3072x1x1_S20x3072x9x9_0_1_2_3 (mulf (subf (broadcastInDim S20x3072x1x1 ![] bcast_S_S20x3072x1x1 (constant S_ .f32 0x3F800000#32)) fy) (subf (broadcastInDim S20x3072x1x1 ![] bcast_S_S20x3072x1x1 (constant S_ .f32 0x3F800000#32)) fx))) (extractStridedSlice S20x3072x9x9 ![0, 0, 0, 0] q slices_S20x3072x10x10_S20x3072x9x9_0_0_0_0)) (mulf (broadcastInDim S20x3072x9x9 ![0, 1, 2, 3] bcast_S20x3072x1x1_S20x3072x9x9_0_1_2_3 (mulf (subf (broadcastInDim S20x3072x1x1 ![] bcast_S_S20x3072x1x1 (constant S_ .f32 0x3F800000#32)) fy) fx)) (extractStridedSlice S20x3072x9x9 ![0, 0, 0, 1] q slices_S20x3072x10x10_S20x3072x9x9_0_0_0_1))) (mulf (broadcastInDim S20x3072x9x9 ![0, 1, 2, 3] bcast_S20x3072x1x1_S20x3072x9x9_0_1_2_3 (mulf fy (subf (broadcastInDim S20x3072x1x1 ![] bcast_S_S20x3072x1x1 (constant S_ .f32 0x3F800000#32)) fx))) (extractStridedSlice S20x3072x9x9 ![0, 0, 1, 0] q slices_S20x3072x10x10_S20x3072x9x9_0_0_1_0))) (mulf (broadcastInDim S20x3072x9x9 ![0, 1, 2, 3] bcast_S20x3072x1x1_S20x3072x9x9_0_1_2_3 (mulf fy fx)) (extractStridedSlice S20x3072x9x9 ![0, 0, 1, 1] q slices_S20x3072x10x10_S20x3072x9x9_0_0_1_1))) transposes_S20x3072x9x9_S20x3072x9x9_0_1_3_2) shapeCasts_S20x3072x9x9_S20x3072x81)

/-- The number of tap `(a, t)`. -/
def tk (a t : Fin 9) : Fin 81 := ⟨9 * a.val + t.val, by omega⟩

theorem slice_at (q : FVec Ideal S20x3072x10x10 .f32) (oy ox : Nat) (h : S20x3072x10x10.Slices ![0, 0, oy, ox] S20x3072x9x9) (b : Fin 20) (p : Fin 3072) (j i : Fin 9)
    (j' i' : Fin 10) (hj : j'.val = oy + j.val) (hi : i'.val = ox + i.val) :
    extractStridedSlice S20x3072x9x9 ![0, 0, oy, ox] q h (ix4 b p j i) = q (ix4 b p j' i') := by
  refine extractStridedSlice_apply _ _ _ _ (ix4 b p j' i') fun d => ?_
  match d with
  | ⟨0, _⟩ => exact (Nat.zero_add _).symm
  | ⟨1, _⟩ => exact (Nat.zero_add _).symm
  | ⟨2, _⟩ => exact hj
  | ⟨3, _⟩ => exact hi

theorem tapT_at (s : FVec Ideal S20x3072 .f32) (fx fy : FVec Ideal S20x3072x1x1 .f32) (q : FVec Ideal S20x3072x10x10 .f32) (b : Fin 20) (p : Fin 3072) (a t : Fin 9)
    {x y : EReal} (hx : fx (ix4 b p 0 0) = x) (hy : fy (ix4 b p 0 0) = y) {Q : Nat → Nat → EReal} (hq : ∀ j i : Fin 10, q (ix4 b p j i) = Q j.val i.val) :
    tapT s fx fy q (ix3 b p (tk a t)) = s (ix2 b p) * ((((1 - y) * (1 - x) * Q t.val a.val + (1 - y) * x * Q t.val (a.val + 1)) + y * (1 - x) * Q (t.val + 1) a.val) + y * x * Q (t.val + 1) (a.val + 1)) := by
  refine congrArg₂ (fun u v : EReal => u * v) (bc_81 s b p _) ?_
  refine (shapeCast_apply _ _ _ (ix4 b p a t) ?_).trans ?_
  · rw [Shape.rowMajor_val_four, Shape.rowMajor_val_three]
    show ((b.val * 3072 + p.val) * 9 + a.val) * 9 + t.val = (b.val * 3072 + p.val) * 81 + (9 * a.val + t.val)
    omega
  refine (transpose_apply _ _ _ _ (ix4 b p t a) fun d => ?_).trans ?_
  · match d with
    | ⟨0, _⟩ => rfl
    | ⟨1, _⟩ => rfl
    | ⟨2, _⟩ => rfl
    | ⟨3, _⟩ => rfl
  have e1 : (FloatOps.ofBits (F := Ideal) .f32 0x3F800000#32 : EReal) = 1 := Ideal.ofBits_one_f32
  have hS := fun (oy ox : Nat) (h : S20x3072x10x10.Slices ![0, 0, oy, ox] S20x3072x9x9) (hy : oy ≤ 1) (hx : ox ≤ 1) =>
    (slice_at q oy ox h b p t a ⟨oy + t.val, by omega⟩ ⟨ox + a.val, by omega⟩ rfl rfl).trans (hq _ _)
  refine congrArg₂ (fun u v : EReal => u + v) (congrArg₂ (fun u v : EReal => u + v) (congrArg₂ (fun u v : EReal => u + v) ?_ ?_) ?_) ?_
  · refine congrArg₂ (fun u v : EReal => u * v) ((bc_9 _ b p t a).trans ?_) ((hS 0 0 _ (by omega) (by omega)).trans (by simp only [Nat.zero_add]))
    rw [← hx, ← hy, ← e1]; rfl
  · refine congrArg₂ (fun u v : EReal => u * v) ((bc_9 _ b p t a).trans ?_) ((hS 0 1 _ (by omega) (by omega)).trans (by simp only [Nat.zero_add, Nat.add_comm 1]))
    rw [← hx, ← hy, ← e1]; rfl
  · refine congrArg₂ (fun u v : EReal => u * v) ((bc_9 _ b p t a).trans ?_) ((hS 1 0 _ (by omega) (by omega)).trans (by simp only [Nat.zero_add, Nat.add_comm 1]))
    rw [← hx, ← hy, ← e1]; rfl
  · refine congrArg₂ (fun u v : EReal => u * v) ((bc_9 _ b p t a).trans ?_) ((hS 1 1 _ (by omega) (by omega)).trans (by simp only [Nat.add_comm 1]))
    rw [← hx, ← hy]; rfl

end Cert.ReferenceIdeal.Val

end
-- ==== Proof.RefVal.lean ====
/-
  The reference's two results, read at one number: the scale and the codes of the arguments.
-/
module

public import proofs.«01_k».proof.Proof.RefLevel
public import Idealize.ShloMosaic.Lib.KernelVsHost

@[expose] public section

set_option maxRecDepth 16384

noncomputable section

namespace Cert.ReferenceIdeal.Val

open Cert.ReferenceIdeal Cert.ReferenceIdeal.Gen Cert.ReferenceIdeal.Value Cert.Pixel
open Idealize.ShloMosaic Idealize.ShloMosaic.TcCoe Idealize.ShloMosaic.ValueIdx

variable (V0 : Valuation τ sig (Elt Ideal))

/-- The six arguments. -/
def argsR : Args where
  a0 := V0 (Proc.devRef .tc main_arg0)
  a1 := V0 (Proc.devRef .tc main_arg1)
  a2 := V0 (Proc.devRef .tc main_arg2)
  a3 := V0 (Proc.devRef .tc main_arg3)
  a4 := V0 (Proc.devRef .tc main_arg4)
  a5 := V0 (Proc.devRef .tc main_arg5)

/-! ## The coordinates -/

theorem slice1 {n : Nat} (x : (⟨3, ![20, 3072, n]⟩ : Shape).Idx → EReal) (o : Nat) (ho : o < n) (h : (⟨3, ![20, 3072, n]⟩ : Shape).Slices ![0, 0, o] S20x3072x1) (b : Fin 20) (p : Fin 3072) :
    shapeCast S20x3072 (extractStridedSlice S20x3072x1 ![0, 0, o] x h) shapeCasts_S20x3072x1_S20x3072 (ix2 b p) = x (ix3 b p ⟨o, ho⟩) := by
  refine (shapeCast_apply _ _ _ (ix3 b p 0) ?_).trans (extractStridedSlice_apply _ _ _ _ (ix3 b p ⟨o, ho⟩) fun d => ?_)
  · rw [Shape.rowMajor_val_three, Shape.rowMajor_val_two]
    show (b.val * 3072 + p.val) * 1 + 0 = b.val * 3072 + p.val
    omega
  · match d with
    | ⟨0, _⟩ => exact (Nat.zero_add _).symm
    | ⟨1, _⟩ => exact (Nat.zero_add _).symm
    | ⟨2, _⟩ => rfl

theorem bc_pix (x : S3072.Idx → EReal) (b : Fin 20) (p : Fin 3072) :
    broadcastInDim S20x3072 ![0, 1] bcast_S1x3072_S20x3072_0_1 (broadcastInDim S1x3072 ![1] bcast_S3072_S1x3072_1 x) (ix2 b p) = x (ix1 p) := by
  refine (broadcastInDim_apply _ _ _ _ (ix2 0 p) fun d => ?_).trans (broadcastInDim_apply _ _ _ _ (ix1 p) fun d => ?_)
  · match d with
    | ⟨0, _⟩ => rfl
    | ⟨1, _⟩ => rfl
  · match d with
    | ⟨0, _⟩ => rfl

/-- A coordinate: pixel `p`'s own, `w`, plus its flow. -/
def coordT (w : IVec S3072 32) (f : FVec Ideal S20x3072 .f32) : FVec Ideal S20x3072 .f32 :=
  addf (broadcastInDim S20x3072 ![0, 1] bcast_S1x3072_S20x3072_0_1 (broadcastInDim S1x3072 ![1] bcast_S3072_S1x3072_1 (sitofp .f32 w))) f

theorem coordT_at (w : IVec S3072 32) (f : FVec Ideal S20x3072 .f32) (b : Fin 20) (p : Fin 3072) {n : Nat} (hn : n < 2 ^ 31) {v : EReal}
    (hw : w (ix1 p) = BitVec.ofNat 32 n) (hf : f (ix2 b p) = v) : coordT w f (ix2 b p) = ((((n : Nat) : ℤ) : ℝ) : EReal) + v := by
  refine congrArg₂ (fun x y : EReal => x + y) ((bc_pix _ b p).trans ?_) hf
  show (((w (ix1 p)).toInt : ℝ) : EReal) = _
  rw [hw, toInt_small n hn]

theorem v10_at (b : Fin 20) (p : Fin 3072) : res_main_v10 V0 (ix2 b p) = (argsR V0).px b p :=
  coordT_at (Routing.pyRem bcast_S_S3072 (iotaInDim S3072 32 0) (constantI S_ 32 64#32)) _ b p (n := p.val % 64) (by omega)
    (Routing.pyRem_ap bcast_S_S3072 _ _ _ (b := 64) (Routing.iota1_ap p) rfl (by omega) (by decide) (by decide))
    (slice1 (argsR V0).a5 0 (by decide) slices_S20x3072x2_S20x3072x1_0_0_0 b p)

theorem v15_at (b : Fin 20) (p : Fin 3072) : res_main_v15 V0 (ix2 b p) = (argsR V0).py b p :=
  coordT_at (Routing.pyRem bcast_S_S3072 (Routing.pyDiv bcast_S_S3072 (iotaInDim S3072 32 0) (constantI S_ 32 64#32)) (constantI S_ 32 48#32)) _ b p (n := p.val / 64) (by omega)
    ((Routing.pyRem_ap bcast_S_S3072 _ _ _ (b := 48)
        (Routing.pyDiv_ap bcast_S_S3072 _ _ _ (b := 64) (Routing.iota1_ap p) rfl (by omega) (by decide) (by decide)) rfl (by omega) (by decide) (by decide)).trans
      (congrArg (BitVec.ofNat 32) (Nat.mod_eq_of_lt (by omega))))
    (slice1 (argsR V0).a5 1 (by decide) slices_S20x3072x2_S20x3072x1_0_0_1 b p)

/-! ## The features -/

/-- One level's feature. -/
theorem lev_at (A : Args) (b : Fin 20) (p : Fin 3072) (lev : Nat) {H W N : Nat} (hH : H ≤ 48) (hW : W ≤ 64) (hN : N = H * W) (h0 : 0 < N)
    (wf : GatherDims.WF ⟨3, ![20, 3072, N]⟩ S20x3072x100x1 S20x3072x100 [] [2] [0, 1] [2] [0, 1] 3 ![1, 1, 1])
    (hs : (⟨4, ![20, 3072, H, W]⟩ : Shape).ShapeCasts ⟨3, ![20, 3072, N]⟩) (a : (⟨4, ![20, 3072, H, W]⟩ : Shape).Idx → BitVec 8)
    (himg : ∀ y x, A.im b p lev y x = if h : y < H ∧ x < W then a (ix4 b p ⟨y, h.1⟩ ⟨x, h.2⟩) else 0)
    (hHl : 48 / 2 ^ lev = H) (hWl : 64 / 2 ^ lev = W) (s cx cy : FVec Ideal S20x3072 .f32) (hsc : s (ix2 b p) = A.sc b p lev)
    (hcx : cx (ix2 b p) = A.px b p * Pixel.inv lev) (hcy : cy (ix2 b p) = A.py b p * Pixel.inv lev) (x t : Fin 9) :
    tapT s (broadcastInDim S20x3072x1x1 ![0, 1] bcast_S20x3072_S20x3072x1x1_0_1 (subf cx (Host.floor cx)))
        (broadcastInDim S20x3072x1x1 ![0, 1] bcast_S20x3072_S20x3072x1x1_0_1 (subf cy (Host.floor cy))) (levelT H W N wf hs a cx cy) (ix3 b p (tk x t))
      = tapS (A.px b p) (A.py b p) (A.sc b p) (A.im b p) lev x.val t.val := by
  refine (tapT_at s _ _ _ b p x t (bc_11 _ b p) (bc_11 _ b p) (Q := qS (A.im b p lev) W H (cx (ix2 b p)) (cy (ix2 b p)))
    fun j i => levelT_at hH hW hN h0 wf hs a cx cy (A.im b p lev) b p himg j i).trans ?_
  show s (ix2 b p) * ((((1 - (cy (ix2 b p) - fl (cy (ix2 b p)))) * (1 - (cx (ix2 b p) - fl (cx (ix2 b p)))) * _ + (1 - (cy (ix2 b p) - fl (cy (ix2 b p)))) * (cx (ix2 b p) - fl (cx (ix2 b p))) * _) + (cy (ix2 b p) - fl (cy (ix2 b p))) * (1 - (cx (ix2 b p) - fl (cx (ix2 b p)))) * _) + (cy (ix2 b p) - fl (cy (ix2 b p))) * (cx (ix2 b p) - fl (cx (ix2 b p))) * _) = _
  rw [hsc, hcx, hcy]
  subst hHl hWl
  rfl

/-- The number of feature `(x, t)` of level `lev`. -/
def ck (lev : Fin 4) (x t : Fin 9) : Fin 324 := ⟨81 * lev.val + 9 * x.val + t.val, by omega⟩

/-- The four levels' features side by side. -/
theorem cat_at (f : Fin 4 → FVec Ideal S20x3072x81 .f32) (h : Shape.Concatenates [S20x3072x81, S20x3072x81, S20x3072x81, S20x3072x81] S20x3072x324 2)
    (b : Fin 20) (p : Fin 3072) (lev : Fin 4) (x t : Fin 9) :
    concatenate S20x3072x324 2 [⟨S20x3072x81, f 0⟩, ⟨S20x3072x81, f 1⟩, ⟨S20x3072x81, f 2⟩, ⟨S20x3072x81, f 3⟩] h (ix3 b p (ck lev x t)) = f lev (ix3 b p (tk x t)) := by
  have hi : ∀ d : Fin S20x3072x81.rank, d.cast (rfl : S20x3072x81.rank = S20x3072x324.rank) ≠ 2 →
      ((ix3 b p (tk x t) : S20x3072x81.Idx) d).val = ((ix3 b p (ck lev x t) : S20x3072x324.Idx) (d.cast rfl)).val := by
    intro d hd
    match d with
    | ⟨0, _⟩ => rfl
    | ⟨1, _⟩ => rfl
    | ⟨2, _⟩ => exact absurd rfl hd
  match lev with
  | ⟨0, _⟩ =>
    exact concatenate_apply_piece 2 [⟨S20x3072x81, f 0⟩, ⟨S20x3072x81, f 1⟩, ⟨S20x3072x81, f 2⟩, ⟨S20x3072x81, f 3⟩] h _ 0 (show 0 < 4 by decide) S20x3072x81 (f 0) rfl rfl 0 rfl (ix3 b p (tk x t)) hi
      (by show 0 + (9 * x.val + t.val) = 81 * 0 + 9 * x.val + t.val; omega)
  | ⟨1, _⟩ =>
    exact concatenate_apply_piece 2 [⟨S20x3072x81, f 0⟩, ⟨S20x3072x81, f 1⟩, ⟨S20x3072x81, f 2⟩, ⟨S20x3072x81, f 3⟩] h _ 1 (show 1 < 4 by decide) S20x3072x81 (f 1) rfl rfl 81 rfl (ix3 b p (tk x t)) hi
      (by show 81 + (9 * x.val + t.val) = 81 * 1 + 9 * x.val + t.val; omega)
  | ⟨2, _⟩ =>
    exact concatenate_apply_piece 2 [⟨S20x3072x81, f 0⟩, ⟨S20x3072x81, f 1⟩, ⟨S20x3072x81, f 2⟩, ⟨S20x3072x81, f 3⟩] h _ 2 (show 2 < 4 by decide) S20x3072x81 (f 2) rfl rfl 162 rfl (ix3 b p (tk x t)) hi
      (by show 162 + (9 * x.val + t.val) = 81 * 2 + 9 * x.val + t.val; omega)
  | ⟨3, _⟩ =>
    exact concatenate_apply_piece 2 [⟨S20x3072x81, f 0⟩, ⟨S20x3072x81, f 1⟩, ⟨S20x3072x81, f 2⟩, ⟨S20x3072x81, f 3⟩] h _ 3 (show 3 < 4 by decide) S20x3072x81 (f 3) rfl rfl 243 rfl (ix3 b p (tk x t)) hi
      (by show 243 + (9 * x.val + t.val) = 81 * 3 + 9 * x.val + t.val; omega)

theorem lev0_eq : res_main_v71 V0 = levelT 48 64 3072 gather_S20x3072x3072_S20x3072x100x1_S20x3072x100_n_2_01_01_2_3_111_wf
    shapeCasts_S20x3072x48x64_S20x3072x3072 (argsR V0).a0 (res_main_v19 V0) (res_main_v21 V0) := rfl
theorem lev1_eq : res_main_v161 V0 = levelT 24 32 768 gather_S20x3072x768_S20x3072x100x1_S20x3072x100_n_2_01_01_2_3_111_wf
    shapeCasts_S20x3072x24x32_S20x3072x768 (argsR V0).a1 (res_main_v109 V0) (res_main_v111 V0) := rfl
theorem lev2_eq : res_main_v251 V0 = levelT 12 16 192 gather_S20x3072x192_S20x3072x100x1_S20x3072x100_n_2_01_01_2_3_111_wf
    shapeCasts_S20x3072x12x16_S20x3072x192 (argsR V0).a2 (res_main_v199 V0) (res_main_v201 V0) := rfl
theorem lev3_eq : res_main_v341 V0 = levelT 6 8 48 gather_S20x3072x48_S20x3072x100x1_S20x3072x100_n_2_01_01_2_3_111_wf
    shapeCasts_S20x3072x6x8_S20x3072x48 (argsR V0).a3 (res_main_v289 V0) (res_main_v291 V0) := rfl

/-- The scales of each level, and its features. -/
def scT (f : FVec Ideal S20x3072x1 .f32) : FVec Ideal S20x3072 .f32 := shapeCast _ f shapeCasts_S20x3072x1_S20x3072
theorem scT_at (A : Args) (o : Nat) (ho : o < 4) (h : S20x3072x4.Slices ![0, 0, o] S20x3072x1) (b : Fin 20) (p : Fin 3072) :
    scT (extractStridedSlice S20x3072x1 ![0, 0, o] A.a4 h) (ix2 b p) = A.sc b p o := by
  unfold Args.sc
  rw [dif_pos ho]
  exact slice1 A.a4 o ho h b p

def pieces (lev : Fin 4) : FVec Ideal S20x3072x81 .f32 :=
  match lev with
  | ⟨0, _⟩ => tapT (scT (extractStridedSlice S20x3072x1 ![0, 0, 0] (argsR V0).a4 slices_S20x3072x4_S20x3072x1_0_0_0)) (res_main_v72 V0) (res_main_v73 V0) (res_main_v71 V0)
  | ⟨1, _⟩ => tapT (scT (extractStridedSlice S20x3072x1 ![0, 0, 1] (argsR V0).a4 slices_S20x3072x4_S20x3072x1_0_0_1)) (res_main_v162 V0) (res_main_v163 V0) (res_main_v161 V0)
  | ⟨2, _⟩ => tapT (scT (extractStridedSlice S20x3072x1 ![0, 0, 2] (argsR V0).a4 slices_S20x3072x4_S20x3072x1_0_0_2)) (res_main_v252 V0) (res_main_v253 V0) (res_main_v251 V0)
  | ⟨3, _⟩ => tapT (scT (extractStridedSlice S20x3072x1 ![0, 0, 3] (argsR V0).a4 slices_S20x3072x4_S20x3072x1_0_0_3)) (res_main_v342 V0) (res_main_v343 V0) (res_main_v341 V0)

theorem v376_eq (b : Fin 20) (p : Fin 3072) (lev : Fin 4) (x t : Fin 9) : res_main_v376 V0 (ix3 b p (ck lev x t)) = pieces V0 lev (ix3 b p (tk x t)) :=
  cat_at (pieces V0) _ b p lev x t

theorem piece0_at (b : Fin 20) (p : Fin 3072) (x t : Fin 9) : pieces V0 0 (ix3 b p (tk x t))
    = tapS ((argsR V0).px b p) ((argsR V0).py b p) ((argsR V0).sc b p) ((argsR V0).im b p) 0 x.val t.val := by
  have h := lev_at (argsR V0) b p 0 (H := 48) (W := 64) (N := 3072) (by decide) (by decide) rfl (by decide) gather_S20x3072x3072_S20x3072x100x1_S20x3072x100_n_2_01_01_2_3_111_wf
    shapeCasts_S20x3072x48x64_S20x3072x3072 (argsR V0).a0 ((argsR V0).im0 b p) rfl rfl
    (scT (extractStridedSlice S20x3072x1 ![0, 0, 0] (argsR V0).a4 slices_S20x3072x4_S20x3072x1_0_0_0)) (res_main_v19 V0) (res_main_v21 V0)
    (scT_at (argsR V0) 0 (by decide) slices_S20x3072x4_S20x3072x1_0_0_0 b p)
    (congrArg (fun v : EReal => v * Pixel.inv 0) (v10_at V0 b p)) (congrArg (fun v : EReal => v * Pixel.inv 0) (v15_at V0 b p)) x t
  rw [← lev0_eq V0] at h
  exact h

theorem piece1_at (b : Fin 20) (p : Fin 3072) (x t : Fin 9) : pieces V0 1 (ix3 b p (tk x t))
    = tapS ((argsR V0).px b p) ((argsR V0).py b p) ((argsR V0).sc b p) ((argsR V0).im b p) 1 x.val t.val := by
  have h := lev_at (argsR V0) b p 1 (H := 24) (W := 32) (N := 768) (by decide) (by decide) rfl (by decide) gather_S20x3072x768_S20x3072x100x1_S20x3072x100_n_2_01_01_2_3_111_wf
    shapeCasts_S20x3072x24x32_S20x3072x768 (argsR V0).a1 ((argsR V0).im1 b p) rfl rfl
    (scT (extractStridedSlice S20x3072x1 ![0, 0, 1] (argsR V0).a4 slices_S20x3072x4_S20x3072x1_0_0_1)) (res_main_v109 V0) (res_main_v111 V0)
    (scT_at (argsR V0) 1 (by decide) slices_S20x3072x4_S20x3072x1_0_0_1 b p)
    (congrArg (fun v : EReal => v * Pixel.inv 1) (v10_at V0 b p)) (congrArg (fun v : EReal => v * Pixel.inv 1) (v15_at V0 b p)) x t
  rw [← lev1_eq V0] at h
  exact h

theorem piece2_at (b : Fin 20) (p : Fin 3072) (x t : Fin 9) : pieces V0 2 (ix3 b p (tk x t))
    = tapS ((argsR V0).px b p) ((argsR V0).py b p) ((argsR V0).sc b p) ((argsR V0).im b p) 2 x.val t.val := by
  have h := lev_at (argsR V0) b p 2 (H := 12) (W := 16) (N := 192) (by decide) (by decide) rfl (by decide) gather_S20x3072x192_S20x3072x100x1_S20x3072x100_n_2_01_01_2_3_111_wf
    shapeCasts_S20x3072x12x16_S20x3072x192 (argsR V0).a2 ((argsR V0).im2 b p) rfl rfl
    (scT (extractStridedSlice S20x3072x1 ![0, 0, 2] (argsR V0).a4 slices_S20x3072x4_S20x3072x1_0_0_2)) (res_main_v199 V0) (res_main_v201 V0)
    (scT_at (argsR V0) 2 (by decide) slices_S20x3072x4_S20x3072x1_0_0_2 b p)
    (congrArg (fun v : EReal => v * Pixel.inv 2) (v10_at V0 b p)) (congrArg (fun v : EReal => v * Pixel.inv 2) (v15_at V0 b p)) x t
  rw [← lev2_eq V0] at h
  exact h

theorem piece3_at (b : Fin 20) (p : Fin 3072) (x t : Fin 9) : pieces V0 3 (ix3 b p (tk x t))
    = tapS ((argsR V0).px b p) ((argsR V0).py b p) ((argsR V0).sc b p) ((argsR V0).im b p) 3 x.val t.val := by
  have h := lev_at (argsR V0) b p 3 (H := 6) (W := 8) (N := 48) (by decide) (by decide) rfl (by decide) gather_S20x3072x48_S20x3072x100x1_S20x3072x100_n_2_01_01_2_3_111_wf
    shapeCasts_S20x3072x6x8_S20x3072x48 (argsR V0).a3 ((argsR V0).im3 b p 0) rfl rfl
    (scT (extractStridedSlice S20x3072x1 ![0, 0, 3] (argsR V0).a4 slices_S20x3072x4_S20x3072x1_0_0_3)) (res_main_v289 V0) (res_main_v291 V0)
    (scT_at (argsR V0) 3 (by decide) slices_S20x3072x4_S20x3072x1_0_0_3 b p)
    (congrArg (fun v : EReal => v * Pixel.inv 3) (v10_at V0 b p)) (congrArg (fun v : EReal => v * Pixel.inv 3) (v15_at V0 b p)) x t
  rw [← lev3_eq V0] at h
  exact h

theorem v376_at (b : Fin 20) (p : Fin 3072) (lev : Fin 4) (x t : Fin 9) : res_main_v376 V0 (ix3 b p (ck lev x t))
    = tapS ((argsR V0).px b p) ((argsR V0).py b p) ((argsR V0).sc b p) ((argsR V0).im b p) lev.val x.val t.val := by
  refine (v376_eq V0 b p lev x t).trans ?_
  match lev with
  | ⟨0, _⟩ => exact piece0_at V0 b p x t
  | ⟨1, _⟩ => exact piece1_at V0 b p x t
  | ⟨2, _⟩ => exact piece2_at V0 b p x t
  | ⟨3, _⟩ => exact piece3_at V0 b p x t

theorem v376_feat (b : Fin 20) (p : Fin 3072) (ch : Fin 324) : res_main_v376 V0 (ix3 b p ch)
    = feat ((argsR V0).px b p) ((argsR V0).py b p) ((argsR V0).sc b p) ((argsR V0).im b p) ch.val := by
  have e : ch = ck ⟨ch.val / 81, by omega⟩ ⟨ch.val % 81 / 9, by omega⟩ ⟨ch.val % 9, by omega⟩ :=
    Fin.ext (by show ch.val = 81 * (ch.val / 81) + 9 * (ch.val % 81 / 9) + ch.val % 9; omega)
  exact (congrArg (fun c => res_main_v376 V0 (ix3 b p c)) e).trans (v376_at V0 b p _ _ _)

/-! ## The maximum, the scale and the codes -/

theorem red2 : S20x3072x324.Reduces [2] S20x3072 :=
  ⟨(reducesTo_S20x3072x324_S20x3072_d2 : S20x3072x324.ReducesTo [2] S20x3072).1, by decide, (reducesTo_S20x3072x324_S20x3072_d2 : S20x3072x324.ReducesTo [2] S20x3072).2⟩

theorem v378_at (b : Fin 20) (p : Fin 3072) : res_main_v378 V0 (ix2 b p)
    = amx ((argsR V0).px b p) ((argsR V0).py b p) ((argsR V0).sc b p) ((argsR V0).im b p) := by
  refine (congrFun (hostReduce_maximumf_eq_multiReduction (Host.absf (res_main_v376 V0)) 0xFF800000#32 reducesTo_S20x3072x324_S20x3072_d2 h_S_ red2 (.inl rfl) rfl) (ix2 b p)).trans ?_
  refine (Ideal.multiReduction_maximumf_single (s := S20x3072x324) (t := S20x3072) (a := 2) _ _ red2 _ _ (ix2 b p)).trans ?_
  have eb : (FloatOps.ofBits (F := Ideal) .f32 0xFF800000#32 : EReal) = ⊥ := by
    show Ideal.ofBits .f32 _ = _
    simp [Ideal.ofBits, Ideal.ieee]
  rw [eb]
  unfold amx
  refine Finset.fold_congr fun ch _ => ?_
  have hl : red2.lift (ix2 b p) ch = ix3 b p ch := by
    funext c
    refine Fin.ext ?_
    match c with
    | ⟨0, _⟩ => rfl
    | ⟨1, _⟩ => rfl
    | ⟨2, _⟩ => rfl
  have hv := (congrArg (res_main_v376 V0) hl).trans (v376_feat V0 b p ch)
  exact congrArg (fun v : EReal => max v (-v)) hv

/-- The scales of the features' maxima `m`. -/
def scaleT (m : FVec Ideal S20x3072 .f32) : FVec Ideal S20x3072 .f32 :=
  select (cmpf .oeq m (broadcastInDim S20x3072 ![] bcast_S_S20x3072 (constant S_ .f32 0x00000000#32))) (broadcastInDim S20x3072 ![] bcast_S_S20x3072 (id (constant S_ .f32 0x3F800000#32))) (Host.divf m (broadcastInDim S20x3072 ![] bcast_S_S20x3072 (constant S_ .f32 0x42FE0000#32)))

theorem e127 : (FloatOps.ofBits (F := Ideal) .f32 0x42FE0000#32 : EReal) = ((127 : ℝ) : EReal) := by
  show Ideal.ofBits .f32 _ = _
  simp [Ideal.ofBits, Ideal.ieee, -EReal.coe_mul]; norm_num
theorem em127 : (FloatOps.ofBits (F := Ideal) .f32 0xC2FE0000#32 : EReal) = ((-127 : ℝ) : EReal) := by
  show Ideal.ofBits .f32 _ = _
  simp [Ideal.ofBits, Ideal.ieee, -EReal.coe_mul]; norm_num

theorem scaleT_at (m : FVec Ideal S20x3072 .f32) (i : S20x3072.Idx) : scaleT m i = scaleR (m i) := by
  show Scalar.select (BitVec.ofBool (decide ((m i : EReal) = FloatOps.ofBits (F := Ideal) .f32 0x00000000#32))) (FloatOps.ofBits (F := Ideal) .f32 0x3F800000#32 : EReal)
    (Ideal.div (m i) (FloatOps.ofBits (F := Ideal) .f32 0x42FE0000#32)) = _
  rw [e127, show (FloatOps.ofBits (F := Ideal) .f32 0x3F800000#32 : EReal) = 1 from Ideal.ofBits_one_f32,
    show (FloatOps.ofBits (F := Ideal) .f32 0x00000000#32 : EReal) = 0 from Ideal.ofBits_zero_f32]
  unfold scaleR
  by_cases h : (m i : EReal) = 0
  · rw [if_pos h, decide_eq_true h]; rfl
  · rw [if_neg h, decide_eq_false h]; rfl

/-- The codes of the features `f` under the scales `s`. -/
def codeT (f : FVec Ideal S20x3072x324 .f32) (s : FVec Ideal S20x3072 .f32) : IVec S20x3072x324 8 :=
  trunci 8 (fptosi 32 (minimumf (broadcastInDim S20x3072x324 ![] bcast_S_S20x3072x324 (id (constant S_ .f32 0x42FE0000#32))) (maximumf (broadcastInDim S20x3072x324 ![] bcast_S_S20x3072x324 (id (constant S_ .f32 0xC2FE0000#32))) (Host.roundeven (Host.divf f (broadcastInDim S20x3072x324 ![0, 1, 2] bcast_S20x3072x1_S20x3072x324_0_1_2 (broadcastInDim S20x3072x1 ![0, 1] bcast_S20x3072_S20x3072x1_0_1 s))))))) natLt_8_32

theorem bc_324 (x : FVec Ideal S20x3072 .f32) (b : Fin 20) (p : Fin 3072) (k : Fin 324) :
    broadcastInDim S20x3072x324 ![0, 1, 2] bcast_S20x3072x1_S20x3072x324_0_1_2 (broadcastInDim S20x3072x1 ![0, 1] bcast_S20x3072_S20x3072x1_0_1 x) (ix3 b p k) = x (ix2 b p) := by
  refine (broadcastInDim_apply _ _ _ _ (ix3 b p 0) fun d => ?_).trans (broadcastInDim_apply _ _ _ _ (ix2 b p) fun d => ?_)
  · match d with
    | ⟨0, _⟩ => rfl
    | ⟨1, _⟩ => rfl
    | ⟨2, _⟩ => rfl
  · match d with
    | ⟨0, _⟩ => rfl
    | ⟨1, _⟩ => rfl

theorem codeT_at (f : FVec Ideal S20x3072x324 .f32) (s : FVec Ideal S20x3072 .f32) (b : Fin 20) (p : Fin 3072) (k : Fin 324) :
    codeT f s (ix3 b p k) = codeR (f (ix3 b p k)) (s (ix2 b p)) := by
  unfold codeR
  rw [← e127, ← em127, ← bc_324 s b p k]
  rfl

theorem scale_eq (i : S20x3072.Idx) : scaleT (res_main_v378 V0) i = (argsR V0).scale (i 0) (i 1) := by
  have hi : i = ix2 (i 0) (i 1) := by
    funext d
    match d with
    | ⟨0, _⟩ => rfl
    | ⟨1, _⟩ => rfl
  refine (scaleT_at _ i).trans (congrArg scaleR ?_)
  exact (congrArg (res_main_v378 V0) hi).trans (v378_at V0 (i 0) (i 1))

theorem code_eq (i : S20x3072x324.Idx) : codeT (res_main_v376 V0) (scaleT (res_main_v378 V0)) i = (argsR V0).code (i 0) (i 1) (i 2).val := by
  have hi : i = ix3 (i 0) (i 1) (i 2) := by
    funext d
    match d with
    | ⟨0, _⟩ => rfl
    | ⟨1, _⟩ => rfl
    | ⟨2, _⟩ => rfl
  refine (congrArg (codeT (res_main_v376 V0) (scaleT (res_main_v378 V0))) hi).trans ((codeT_at _ _ (i 0) (i 1) (i 2)).trans ?_)
  exact congrArg₂ codeR (v376_feat V0 (i 0) (i 1) (i 2)) (scale_eq V0 (ix2 (i 0) (i 1)))

end Cert.ReferenceIdeal.Val

end
-- ==== Proof.Final.lean ====
/-
  The last steps: what the precondition says of the scales, and the two programs' results compared.
-/
module

public import proofs.«01_k».proof.Defs
public import proofs.«01_k».proof.Proof.IVal
public import proofs.«01_k».proof.Proof.RefVal

@[expose] public section

noncomputable section

namespace Cert.Proof

open Idealize.ShloMosaic Idealize.ShloMosaic.TcCoe Idealize.ShloMosaic.StableHlo Idealize.SL.Sem Cert.Pixel

/-- The side conditions of the precondition. -/
theorem preFacts : Cert.Pre_scales_finite.Facts where
  bcast_S_S20x3072x4 := by decide
  reducesTo_S20x3072x4_S_d0_1_2 := by decide
  h_S_ := by decide

theorem of_fold_ones {ι : Type} [DecidableEq ι] (S : Finset ι) (x : ι → BitVec 1) : S.fold IntOp.andi 1#1 x = 1#1 → ∀ k ∈ S, x k = 1#1 := by
  have hand : ∀ u v : BitVec 1, IntOp.andi u v = 1#1 → u = 1#1 ∧ v = 1#1 := by decide
  induction S using Finset.induction_on with
  | empty => intro _ k hk; exact absurd hk (Finset.notMem_empty k)
  | insert a S ha ih =>
    intro h k hk
    rw [Finset.fold_insert ha] at h
    have h2 := hand _ _ h
    rcases Finset.mem_insert.mp hk with rfl | hk
    · exact h2.1
    · exact ih h2.2 k hk

theorem etop : (FloatOps.ofBits (F := Ideal) .f32 0x7F800000#32 : EReal) = ⊤ := by
  show Ideal.ofBits .f32 _ = _
  simp [Ideal.ofBits, Ideal.ieee]

theorem real_of_abs (x : EReal) (h : max x (-x) < ⊤) : ∃ r : ℝ, x = r := by
  induction x using EReal.rec with
  | bot => exact absurd h (by simp)
  | coe r => exact ⟨r, rfl⟩
  | top => exact absurd h (by simp)

theorem idx0 (i j : Cert.Pre_scales_finite.S_.Idx) : i = j := funext fun a => a.elim0

/-- A conjunction over everything that comes out true has only true terms. -/
theorem all_of_reduce (x : IVec Cert.Pre_scales_finite.S20x3072x4 1) (init : IVec Cert.Pre_scales_finite.S_ 1)
    (h : Cert.Pre_scales_finite.S20x3072x4.ReducesTo [0, 1, 2] Cert.Pre_scales_finite.S_) (hu : 0 < Cert.Pre_scales_finite.S_.numel)
    (j : Cert.Pre_scales_finite.S_.Idx) (hi : ∀ k, init k = 1#1) (h1 : Host.reduce IntOp.andi x init h hu j = 1#1)
    (y : Cert.Pre_scales_finite.S20x3072x4.Idx) : x y = 1#1 := by
  rw [Host.reduce_eq_fold, hi] at h1
  exact of_fold_ones _ _ h1 y (Finset.mem_filter.mpr ⟨Finset.mem_univ y, idx0 _ _⟩)

/-- The precondition makes every scale a real number. -/
theorem finite_scales (m : (ℓ : Loc Cert.KernelIdeal.nD Cert.KernelIdeal.τ Cert.KernelIdeal.sig) → Buf (Elt Ideal) ℓ)
    (h : Cert.Pre_KernelIdeal_scales_finite (hPre_scales_finite := preFacts) m) (c : Dev Cert.KernelIdeal.nD) (y : Cert.Pre_scales_finite.S20x3072x4.Idx) :
    ∃ r : ℝ, (Cert.KernelIdeal.Hand.argsOf m c).a4 y = r := by
  have h1 := congrFun (h c) (fun a => a.elim0)
  unfold Cert.Pre_scales_finite.fn at h1
  have h3 := all_of_reduce _ _ preFacts.reducesTo_S20x3072x4_S_d0_1_2 preFacts.h_S_ _ (fun _ => rfl) h1 y
  have h4 : BitVec.ofBool (decide (max ((Cert.KernelIdeal.Hand.argsOf m c).a4 y) (-(Cert.KernelIdeal.Hand.argsOf m c).a4 y) < FloatOps.ofBits (F := Ideal) .f32 0x7F800000#32)) = 1#1 := h3
  rw [etop] at h4
  refine real_of_abs _ ?_
  by_contra hn
  rw [decide_eq_false hn] at h4
  exact absurd h4 (by decide)

/-- Equal arguments. -/
theorem args_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h0 : (Cert.ReferenceIdeal.Val.argsR V).a0 = (Cert.KernelIdeal.Hand.argsOf m c).a0) (h1 : (Cert.ReferenceIdeal.Val.argsR V).a1 = (Cert.KernelIdeal.Hand.argsOf m c).a1)
    (h2 : (Cert.ReferenceIdeal.Val.argsR V).a2 = (Cert.KernelIdeal.Hand.argsOf m c).a2) (h3 : (Cert.ReferenceIdeal.Val.argsR V).a3 = (Cert.KernelIdeal.Hand.argsOf m c).a3)
    (h4 : (Cert.ReferenceIdeal.Val.argsR V).a4 = (Cert.KernelIdeal.Hand.argsOf m c).a4) (h5 : (Cert.ReferenceIdeal.Val.argsR V).a5 = (Cert.KernelIdeal.Hand.argsOf m c).a5) :
    Cert.ReferenceIdeal.Val.argsR V = Cert.KernelIdeal.Hand.argsOf m c :=
  (congr (congr (congr (congr (congr (congrArg Args.mk h0) h1) h2) h3) h4) h5 : Args.mk _ _ _ _ _ _ = Args.mk _ _ _ _ _ _)

/-- The two programs end with equal results. -/
theorem algebraic : Cert.algebraic_KernelIdeal_ReferenceIdeal_pre_scales_finite (hKernelIdeal := Cert.KernelIdeal.Gen.facts)
    (hReferenceIdeal := Cert.ReferenceIdeal.Gen.facts) (hPre_scales_finite := preFacts) := by
  intro m g m' g' hpre hargs
  refine ⟨Cert.KernelIdeal.Hand.res0 m, Cert.KernelIdeal.Hand.res1 m, Cert.KernelIdeal.Hand.run_value m g (finite_scales m hpre), ?_⟩
  refine (θ_run _ _ _).mono (fun r h c => ?_) (Cert.ReferenceIdeal.Value.run m' g')
  obtain ⟨h0, h1, hk⟩ := h c
  obtain ⟨e0, e1, e2, e3, e4, e5⟩ := hargs c
  have he := args_eq m (launchContents m' c) c e0 e1 e2 e3 e4 e5
  refine ⟨h0.trans (funext fun i => ?_), h1.trans (funext fun i => ?_), hk⟩
  · exact (Cert.ReferenceIdeal.Val.code_eq (launchContents m' c) i).trans (congrArg (fun A : Args => A.code (i 0) (i 1) (i 2).val) he)
  · exact (Cert.ReferenceIdeal.Val.scale_eq (launchContents m' c) i).trans (congrArg (fun A : Args => A.scale (i 0) (i 1)) he)

end Cert.Proof

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.BFrame
public import proofs.«01_k».proof.Proof.IFrame
public import proofs.«01_k».proof.Proof.Final

@[expose] public section

noncomputable section

namespace Cert.Proof

open Idealize.ShloMosaic Idealize.SL.Sem

/-- The reference's frame: its run keeps the arguments, and it has no semaphores. -/
theorem reference_frame : Cert.quiescent_ReferenceIdeal (hReferenceIdeal := Cert.ReferenceIdeal.Gen.facts) := fun m g _ =>
  (θ_run _ _ _).mono (fun r h => ⟨fun c => (h c).2.2, Idealize.ShloMosaic.sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts, preFacts,
  fun m g _ => Cert.Kernel.Hand.quiescent m g, fun m g _ => Cert.KernelIdeal.Hand.quiescent m g,
  fun m g _ => Cert.KernelIdeal.Hand.quiescent m g, reference_frame, fun m g _ => reference_frame m g trivial, trivial, algebraic⟩

end Cert.Proof

end
